-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_no_zero_pole [hPre_finite_and_no_zero_pole : Cert.Pre_finite_and_no_zero_pole.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.1 = (fun _ => 1#1)
    ∧ (Cert.Pre_finite_and_no_zero_pole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_zero_pole [hPre_finite_and_no_zero_pole : Cert.Pre_finite_and_no_zero_pole.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.1 = (fun _ => 1#1)
    ∧ (Cert.Pre_finite_and_no_zero_pole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite [hPre_finite : Cert.Pre_finite.Facts] (m : (ℓ : Loc Cert.MidIdeal.nD Cert.MidIdeal.τ Cert.MidIdeal.sig) → Buf (Elt Ideal) ℓ) : Prop :=
  ∀ c : Dev Cert.MidIdeal.nD,
    (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2))).1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2))).2.1 = (fun _ => 1#1)
    ∧ (Cert.Pre_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2))).2.2 = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_finite [hPre_finite : Cert.Pre_finite.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_finite.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2))).1 = (fun _ => 1#1)
    ∧ (Cert.Pre_finite.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2))).2.1 = (fun _ => 1#1)
    ∧ (Cert.Pre_finite.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2))).2.2 = (fun _ => 1#1)

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdReferenceIdeal (m : (ℓ : Loc Cert.DwdReferenceIdeal.nD Cert.DwdReferenceIdeal.τ Cert.DwdReferenceIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguReferenceIdeal (m : (ℓ : Loc Cert.DwguReferenceIdeal.nD Cert.DwguReferenceIdeal.τ Cert.DwguReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxReferenceIdeal (m : (ℓ : Loc Cert.InDxReferenceIdeal.nD Cert.InDxReferenceIdeal.τ Cert.InDxReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_MixDm (m : (ℓ : Loc Cert.MixDm.nD Cert.MixDm.τ Cert.MixDm.sig) → Buf (Elt Bits) ℓ) : Prop :=
  True

def Pre_MixDmIdeal (m : (ℓ : Loc Cert.MixDmIdeal.nD Cert.MixDmIdeal.τ Cert.MixDmIdeal.sig) → Buf (Elt Ideal) ℓ) : Prop :=
  True

def Pre_MixDmReferenceIdeal (m : (ℓ : Loc Cert.MixDmReferenceIdeal.nD Cert.MixDmReferenceIdeal.τ Cert.MixDmReferenceIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwReferenceIdeal (m : (ℓ : Loc Cert.MixDwReferenceIdeal.nD Cert.MixDwReferenceIdeal.τ Cert.MixDwReferenceIdeal.sig) → Buf (Elt Ideal) ℓ) : Prop :=
  True

def Pre_Br (m : (ℓ : Loc Cert.Br.nD Cert.Br.τ Cert.Br.sig) → Buf (Elt Bits) ℓ) : Prop :=
  True

def Pre_BrIdeal (m : (ℓ : Loc Cert.BrIdeal.nD Cert.BrIdeal.τ Cert.BrIdeal.sig) → Buf (Elt Ideal) ℓ) : Prop :=
  True

def Pre_BrReferenceIdeal (m : (ℓ : Loc Cert.BrReferenceIdeal.nD Cert.BrReferenceIdeal.τ Cert.BrReferenceIdeal.sig) → Buf (Elt Ideal) ℓ) : Prop :=
  True

def Pre_BrDw (m : (ℓ : Loc Cert.BrDw.nD Cert.BrDw.τ Cert.BrDw.sig) → Buf (Elt Bits) ℓ) : Prop :=
  True

def Pre_BrDwIdeal (m : (ℓ : Loc Cert.BrDwIdeal.nD Cert.BrDwIdeal.τ Cert.BrDwIdeal.sig) → Buf (Elt Ideal) ℓ) : Prop :=
  True

def Pre_BrDwReferenceIdeal (m : (ℓ : Loc Cert.BrDwReferenceIdeal.nD Cert.BrDwReferenceIdeal.τ Cert.BrDwReferenceIdeal.sig) → Buf (Elt Ideal) ℓ) : Prop :=
  True

def Pre_BrDx (m : (ℓ : Loc Cert.BrDx.nD Cert.BrDx.τ Cert.BrDx.sig) → Buf (Elt Bits) ℓ) : Prop :=
  True

def Pre_BrDxIdeal (m : (ℓ : Loc Cert.BrDxIdeal.nD Cert.BrDxIdeal.τ Cert.BrDxIdeal.sig) → Buf (Elt Ideal) ℓ) : Prop :=
  True

def Pre_BrDxReferenceIdeal (m : (ℓ : Loc Cert.BrDxReferenceIdeal.nD Cert.BrDxReferenceIdeal.τ Cert.BrDxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_and_no_zero_pole [hKernelIdeal : Cert.KernelIdeal.Facts] [hPre_finite_and_no_zero_pole : Cert.Pre_finite_and_no_zero_pole.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_no_zero_pole m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_and_no_zero_pole [hReferenceIdeal : Cert.ReferenceIdeal.Facts] [hPre_finite_and_no_zero_pole : Cert.Pre_finite_and_no_zero_pole.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_zero_pole m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ r.2.sem = fun _ => 0)

def quiescent_MidIdeal_pre_finite [hMidIdeal : Cert.MidIdeal.Facts] [hPre_finite : Cert.Pre_finite.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2))
      ∧ r.2.sem = fun _ => 0)

def quiescent_MidReferenceIdeal_pre_finite [hMidReferenceIdeal : Cert.MidReferenceIdeal.Facts] [hPre_finite : Cert.Pre_finite.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_finite m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdReferenceIdeal [hDwdReferenceIdeal : Cert.DwdReferenceIdeal.Facts] : Prop :=
  ∀ (m : (ℓ : Loc Cert.DwdReferenceIdeal.nD Cert.DwdReferenceIdeal.τ Cert.DwdReferenceIdeal.sig) → Buf (Elt Ideal) ℓ) (g : Dev Cert.DwdReferenceIdeal.nD → PrngReg), Pre_DwdReferenceIdeal m →
    θ_run (Cert.DwdReferenceIdeal.defs (F := Ideal)) (onTc (τ := Cert.DwdReferenceIdeal.τ) (Cert.DwdReferenceIdeal.main (F := Ideal))) ⟨m, fun _ => 0, g⟩ (fun r => (∀ c : Dev Cert.DwdReferenceIdeal.nD,
      r.2.mem ((c.tc : Thread Cert.DwdReferenceIdeal.nD Cert.DwdReferenceIdeal.τ).loc Cert.DwdReferenceIdeal.main_arg0) = m ((c.tc : Thread Cert.DwdReferenceIdeal.nD Cert.DwdReferenceIdeal.τ).loc Cert.DwdReferenceIdeal.main_arg0)
      ∧ r.2.mem ((c.tc : Thread Cert.DwdReferenceIdeal.nD Cert.DwdReferenceIdeal.τ).loc Cert.DwdReferenceIdeal.main_arg1) = m ((c.tc : Thread Cert.DwdReferenceIdeal.nD Cert.DwdReferenceIdeal.τ).loc Cert.DwdReferenceIdeal.main_arg1))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ r.2.sem = fun _ => 0)

def quiescent_DwguReferenceIdeal [hDwguReferenceIdeal : Cert.DwguReferenceIdeal.Facts] : Prop :=
  ∀ (m : (ℓ : Loc Cert.DwguReferenceIdeal.nD Cert.DwguReferenceIdeal.τ Cert.DwguReferenceIdeal.sig) → Buf (Elt Ideal) ℓ) (g : Dev Cert.DwguReferenceIdeal.nD → PrngReg), Pre_DwguReferenceIdeal m →
    θ_run (Cert.DwguReferenceIdeal.defs (F := Ideal)) (onTc (τ := Cert.DwguReferenceIdeal.τ) (Cert.DwguReferenceIdeal.main (F := Ideal))) ⟨m, fun _ => 0, g⟩ (fun r => (∀ c : Dev Cert.DwguReferenceIdeal.nD,
      r.2.mem ((c.tc : Thread Cert.DwguReferenceIdeal.nD Cert.DwguReferenceIdeal.τ).loc Cert.DwguReferenceIdeal.main_arg0) = m ((c.tc : Thread Cert.DwguReferenceIdeal.nD Cert.DwguReferenceIdeal.τ).loc Cert.DwguReferenceIdeal.main_arg0)
      ∧ r.2.mem ((c.tc : Thread Cert.DwguReferenceIdeal.nD Cert.DwguReferenceIdeal.τ).loc Cert.DwguReferenceIdeal.main_arg1) = m ((c.tc : Thread Cert.DwguReferenceIdeal.nD Cert.DwguReferenceIdeal.τ).loc Cert.DwguReferenceIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxReferenceIdeal [hInDxReferenceIdeal : Cert.InDxReferenceIdeal.Facts] : Prop :=
  ∀ (m : (ℓ : Loc Cert.InDxReferenceIdeal.nD Cert.InDxReferenceIdeal.τ Cert.InDxReferenceIdeal.sig) → Buf (Elt Ideal) ℓ) (g : Dev Cert.InDxReferenceIdeal.nD → PrngReg), Pre_InDxReferenceIdeal m →
    θ_run (Cert.InDxReferenceIdeal.defs (F := Ideal)) (onTc (τ := Cert.InDxReferenceIdeal.τ) (Cert.InDxReferenceIdeal.main (F := Ideal))) ⟨m, fun _ => 0, g⟩ (fun r => (∀ c : Dev Cert.InDxReferenceIdeal.nD,
      r.2.mem ((c.tc : Thread Cert.InDxReferenceIdeal.nD Cert.InDxReferenceIdeal.τ).loc Cert.InDxReferenceIdeal.main_arg0) = m ((c.tc : Thread Cert.InDxReferenceIdeal.nD Cert.InDxReferenceIdeal.τ).loc Cert.InDxReferenceIdeal.main_arg0)
      ∧ r.2.mem ((c.tc : Thread Cert.InDxReferenceIdeal.nD Cert.InDxReferenceIdeal.τ).loc Cert.InDxReferenceIdeal.main_arg1) = m ((c.tc : Thread Cert.InDxReferenceIdeal.nD Cert.InDxReferenceIdeal.τ).loc Cert.InDxReferenceIdeal.main_arg1)
      ∧ r.2.mem ((c.tc : Thread Cert.InDxReferenceIdeal.nD Cert.InDxReferenceIdeal.τ).loc Cert.InDxReferenceIdeal.main_arg2) = m ((c.tc : Thread Cert.InDxReferenceIdeal.nD Cert.InDxReferenceIdeal.τ).loc Cert.InDxReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4))
      ∧ r.2.sem = fun _ => 0)

def quiescent_MixDm [hMixDm : Cert.MixDm.Facts] : Prop :=
  ∀ (m : (ℓ : Loc Cert.MixDm.nD Cert.MixDm.τ Cert.MixDm.sig) → Buf (Elt Bits) ℓ) (g : Dev Cert.MixDm.nD → PrngReg), Pre_MixDm m →
    θ_run (Cert.MixDm.defs (F := Bits)) (onTc (τ := Cert.MixDm.τ) (Cert.MixDm.main (F := Bits))) ⟨m, fun _ => 0, g⟩ (fun r => (∀ c : Dev Cert.MixDm.nD,
      r.2.mem ((c.tc : Thread Cert.MixDm.nD Cert.MixDm.τ).loc Cert.MixDm.main_arg0) = m ((c.tc : Thread Cert.MixDm.nD Cert.MixDm.τ).loc Cert.MixDm.main_arg0)
      ∧ r.2.mem ((c.tc : Thread Cert.MixDm.nD Cert.MixDm.τ).loc Cert.MixDm.main_arg1) = m ((c.tc : Thread Cert.MixDm.nD Cert.MixDm.τ).loc Cert.MixDm.main_arg1))
      ∧ r.2.sem = fun _ => 0)

def quiescent_MixDmIdeal [hMixDmIdeal : Cert.MixDmIdeal.Facts] : Prop :=
  ∀ (m : (ℓ : Loc Cert.MixDmIdeal.nD Cert.MixDmIdeal.τ Cert.MixDmIdeal.sig) → Buf (Elt Ideal) ℓ) (g : Dev Cert.MixDmIdeal.nD → PrngReg), Pre_MixDmIdeal m →
    θ_run (Cert.MixDmIdeal.defs (F := Ideal)) (onTc (τ := Cert.MixDmIdeal.τ) (Cert.MixDmIdeal.main (F := Ideal))) ⟨m, fun _ => 0, g⟩ (fun r => (∀ c : Dev Cert.MixDmIdeal.nD,
      r.2.mem ((c.tc : Thread Cert.MixDmIdeal.nD Cert.MixDmIdeal.τ).loc Cert.MixDmIdeal.main_arg0) = m ((c.tc : Thread Cert.MixDmIdeal.nD Cert.MixDmIdeal.τ).loc Cert.MixDmIdeal.main_arg0)
      ∧ r.2.mem ((c.tc : Thread Cert.MixDmIdeal.nD Cert.MixDmIdeal.τ).loc Cert.MixDmIdeal.main_arg1) = m ((c.tc : Thread Cert.MixDmIdeal.nD Cert.MixDmIdeal.τ).loc Cert.MixDmIdeal.main_arg1))
      ∧ r.2.sem = fun _ => 0)

def quiescent_MixDmReferenceIdeal [hMixDmReferenceIdeal : Cert.MixDmReferenceIdeal.Facts] : Prop :=
  ∀ (m : (ℓ : Loc Cert.MixDmReferenceIdeal.nD Cert.MixDmReferenceIdeal.τ Cert.MixDmReferenceIdeal.sig) → Buf (Elt Ideal) ℓ) (g : Dev Cert.MixDmReferenceIdeal.nD → PrngReg), Pre_MixDmReferenceIdeal m →
    θ_run (Cert.MixDmReferenceIdeal.defs (F := Ideal)) (onTc (τ := Cert.MixDmReferenceIdeal.τ) (Cert.MixDmReferenceIdeal.main (F := Ideal))) ⟨m, fun _ => 0, g⟩ (fun r => (∀ c : Dev Cert.MixDmReferenceIdeal.nD,
      r.2.mem ((c.tc : Thread Cert.MixDmReferenceIdeal.nD Cert.MixDmReferenceIdeal.τ).loc Cert.MixDmReferenceIdeal.main_arg0) = m ((c.tc : Thread Cert.MixDmReferenceIdeal.nD Cert.MixDmReferenceIdeal.τ).loc Cert.MixDmReferenceIdeal.main_arg0)
      ∧ r.2.mem ((c.tc : Thread Cert.MixDmReferenceIdeal.nD Cert.MixDmReferenceIdeal.τ).loc Cert.MixDmReferenceIdeal.main_arg1) = m ((c.tc : Thread Cert.MixDmReferenceIdeal.nD Cert.MixDmReferenceIdeal.τ).loc Cert.MixDmReferenceIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwReferenceIdeal [hMixDwReferenceIdeal : Cert.MixDwReferenceIdeal.Facts] : Prop :=
  ∀ (m : (ℓ : Loc Cert.MixDwReferenceIdeal.nD Cert.MixDwReferenceIdeal.τ Cert.MixDwReferenceIdeal.sig) → Buf (Elt Ideal) ℓ) (g : Dev Cert.MixDwReferenceIdeal.nD → PrngReg), Pre_MixDwReferenceIdeal m →
    θ_run (Cert.MixDwReferenceIdeal.defs (F := Ideal)) (onTc (τ := Cert.MixDwReferenceIdeal.τ) (Cert.MixDwReferenceIdeal.main (F := Ideal))) ⟨m, fun _ => 0, g⟩ (fun r => (∀ c : Dev Cert.MixDwReferenceIdeal.nD,
      r.2.mem ((c.tc : Thread Cert.MixDwReferenceIdeal.nD Cert.MixDwReferenceIdeal.τ).loc Cert.MixDwReferenceIdeal.main_arg0) = m ((c.tc : Thread Cert.MixDwReferenceIdeal.nD Cert.MixDwReferenceIdeal.τ).loc Cert.MixDwReferenceIdeal.main_arg0)
      ∧ r.2.mem ((c.tc : Thread Cert.MixDwReferenceIdeal.nD Cert.MixDwReferenceIdeal.τ).loc Cert.MixDwReferenceIdeal.main_arg1) = m ((c.tc : Thread Cert.MixDwReferenceIdeal.nD Cert.MixDwReferenceIdeal.τ).loc Cert.MixDwReferenceIdeal.main_arg1))
      ∧ r.2.sem = fun _ => 0)

def quiescent_Br [hBr : Cert.Br.Facts] : Prop :=
  ∀ (m : (ℓ : Loc Cert.Br.nD Cert.Br.τ Cert.Br.sig) → Buf (Elt Bits) ℓ) (g : Dev Cert.Br.nD → PrngReg), Pre_Br m →
    θ_run (Cert.Br.defs (F := Bits)) (onTc (τ := Cert.Br.τ) (Cert.Br.main (F := Bits))) ⟨m, fun _ => 0, g⟩ (fun r => (∀ c : Dev Cert.Br.nD,
      r.2.mem ((c.tc : Thread Cert.Br.nD Cert.Br.τ).loc Cert.Br.main_arg0) = m ((c.tc : Thread Cert.Br.nD Cert.Br.τ).loc Cert.Br.main_arg0)
      ∧ r.2.mem ((c.tc : Thread Cert.Br.nD Cert.Br.τ).loc Cert.Br.main_arg1) = m ((c.tc : Thread Cert.Br.nD Cert.Br.τ).loc Cert.Br.main_arg1))
      ∧ r.2.sem = fun _ => 0)

def quiescent_BrIdeal [hBrIdeal : Cert.BrIdeal.Facts] : Prop :=
  ∀ (m : (ℓ : Loc Cert.BrIdeal.nD Cert.BrIdeal.τ Cert.BrIdeal.sig) → Buf (Elt Ideal) ℓ) (g : Dev Cert.BrIdeal.nD → PrngReg), Pre_BrIdeal m →
    θ_run (Cert.BrIdeal.defs (F := Ideal)) (onTc (τ := Cert.BrIdeal.τ) (Cert.BrIdeal.main (F := Ideal))) ⟨m, fun _ => 0, g⟩ (fun r => (∀ c : Dev Cert.BrIdeal.nD,
      r.2.mem ((c.tc : Thread Cert.BrIdeal.nD Cert.BrIdeal.τ).loc Cert.BrIdeal.main_arg0) = m ((c.tc : Thread Cert.BrIdeal.nD Cert.BrIdeal.τ).loc Cert.BrIdeal.main_arg0)
      ∧ r.2.mem ((c.tc : Thread Cert.BrIdeal.nD Cert.BrIdeal.τ).loc Cert.BrIdeal.main_arg1) = m ((c.tc : Thread Cert.BrIdeal.nD Cert.BrIdeal.τ).loc Cert.BrIdeal.main_arg1))
      ∧ r.2.sem = fun _ => 0)

def quiescent_BrReferenceIdeal [hBrReferenceIdeal : Cert.BrReferenceIdeal.Facts] : Prop :=
  ∀ (m : (ℓ : Loc Cert.BrReferenceIdeal.nD Cert.BrReferenceIdeal.τ Cert.BrReferenceIdeal.sig) → Buf (Elt Ideal) ℓ) (g : Dev Cert.BrReferenceIdeal.nD → PrngReg), Pre_BrReferenceIdeal m →
    θ_run (Cert.BrReferenceIdeal.defs (F := Ideal)) (onTc (τ := Cert.BrReferenceIdeal.τ) (Cert.BrReferenceIdeal.main (F := Ideal))) ⟨m, fun _ => 0, g⟩ (fun r => (∀ c : Dev Cert.BrReferenceIdeal.nD,
      r.2.mem ((c.tc : Thread Cert.BrReferenceIdeal.nD Cert.BrReferenceIdeal.τ).loc Cert.BrReferenceIdeal.main_arg0) = m ((c.tc : Thread Cert.BrReferenceIdeal.nD Cert.BrReferenceIdeal.τ).loc Cert.BrReferenceIdeal.main_arg0)
      ∧ r.2.mem ((c.tc : Thread Cert.BrReferenceIdeal.nD Cert.BrReferenceIdeal.τ).loc Cert.BrReferenceIdeal.main_arg1) = m ((c.tc : Thread Cert.BrReferenceIdeal.nD Cert.BrReferenceIdeal.τ).loc Cert.BrReferenceIdeal.main_arg1))
      ∧ r.2.sem = fun _ => 0)

def quiescent_BrDw [hBrDw : Cert.BrDw.Facts] : Prop :=
  ∀ (m : (ℓ : Loc Cert.BrDw.nD Cert.BrDw.τ Cert.BrDw.sig) → Buf (Elt Bits) ℓ) (g : Dev Cert.BrDw.nD → PrngReg), Pre_BrDw m →
    θ_run (Cert.BrDw.defs (F := Bits)) (onTc (τ := Cert.BrDw.τ) (Cert.BrDw.main (F := Bits))) ⟨m, fun _ => 0, g⟩ (fun r => (∀ c : Dev Cert.BrDw.nD,
      r.2.mem ((c.tc : Thread Cert.BrDw.nD Cert.BrDw.τ).loc Cert.BrDw.main_arg0) = m ((c.tc : Thread Cert.BrDw.nD Cert.BrDw.τ).loc Cert.BrDw.main_arg0)
      ∧ r.2.mem ((c.tc : Thread Cert.BrDw.nD Cert.BrDw.τ).loc Cert.BrDw.main_arg1) = m ((c.tc : Thread Cert.BrDw.nD Cert.BrDw.τ).loc Cert.BrDw.main_arg1))
      ∧ r.2.sem = fun _ => 0)

def quiescent_BrDwIdeal [hBrDwIdeal : Cert.BrDwIdeal.Facts] : Prop :=
  ∀ (m : (ℓ : Loc Cert.BrDwIdeal.nD Cert.BrDwIdeal.τ Cert.BrDwIdeal.sig) → Buf (Elt Ideal) ℓ) (g : Dev Cert.BrDwIdeal.nD → PrngReg), Pre_BrDwIdeal m →
    θ_run (Cert.BrDwIdeal.defs (F := Ideal)) (onTc (τ := Cert.BrDwIdeal.τ) (Cert.BrDwIdeal.main (F := Ideal))) ⟨m, fun _ => 0, g⟩ (fun r => (∀ c : Dev Cert.BrDwIdeal.nD,
      r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
      ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ r.2.sem = fun _ => 0)

def quiescent_BrDwReferenceIdeal [hBrDwReferenceIdeal : Cert.BrDwReferenceIdeal.Facts] : Prop :=
  ∀ (m : (ℓ : Loc Cert.BrDwReferenceIdeal.nD Cert.BrDwReferenceIdeal.τ Cert.BrDwReferenceIdeal.sig) → Buf (Elt Ideal) ℓ) (g : Dev Cert.BrDwReferenceIdeal.nD → PrngReg), Pre_BrDwReferenceIdeal m →
    θ_run (Cert.BrDwReferenceIdeal.defs (F := Ideal)) (onTc (τ := Cert.BrDwReferenceIdeal.τ) (Cert.BrDwReferenceIdeal.main (F := Ideal))) ⟨m, fun _ => 0, g⟩ (fun r => (∀ c : Dev Cert.BrDwReferenceIdeal.nD,
      r.2.mem ((c.tc : Thread Cert.BrDwReferenceIdeal.nD Cert.BrDwReferenceIdeal.τ).loc Cert.BrDwReferenceIdeal.main_arg0) = m ((c.tc : Thread Cert.BrDwReferenceIdeal.nD Cert.BrDwReferenceIdeal.τ).loc Cert.BrDwReferenceIdeal.main_arg0)
      ∧ r.2.mem ((c.tc : Thread Cert.BrDwReferenceIdeal.nD Cert.BrDwReferenceIdeal.τ).loc Cert.BrDwReferenceIdeal.main_arg1) = m ((c.tc : Thread Cert.BrDwReferenceIdeal.nD Cert.BrDwReferenceIdeal.τ).loc Cert.BrDwReferenceIdeal.main_arg1))
      ∧ r.2.sem = fun _ => 0)

def quiescent_BrDx [hBrDx : Cert.BrDx.Facts] : Prop :=
  ∀ (m : (ℓ : Loc Cert.BrDx.nD Cert.BrDx.τ Cert.BrDx.sig) → Buf (Elt Bits) ℓ) (g : Dev Cert.BrDx.nD → PrngReg), Pre_BrDx m →
    θ_run (Cert.BrDx.defs (F := Bits)) (onTc (τ := Cert.BrDx.τ) (Cert.BrDx.main (F := Bits))) ⟨m, fun _ => 0, g⟩ (fun r => (∀ c : Dev Cert.BrDx.nD,
      r.2.mem ((c.tc : Thread Cert.BrDx.nD Cert.BrDx.τ).loc Cert.BrDx.main_arg0) = m ((c.tc : Thread Cert.BrDx.nD Cert.BrDx.τ).loc Cert.BrDx.main_arg0)
      ∧ r.2.mem ((c.tc : Thread Cert.BrDx.nD Cert.BrDx.τ).loc Cert.BrDx.main_arg1) = m ((c.tc : Thread Cert.BrDx.nD Cert.BrDx.τ).loc Cert.BrDx.main_arg1))
      ∧ r.2.sem = fun _ => 0)

def quiescent_BrDxIdeal [hBrDxIdeal : Cert.BrDxIdeal.Facts] : Prop :=
  ∀ (m : (ℓ : Loc Cert.BrDxIdeal.nD Cert.BrDxIdeal.τ Cert.BrDxIdeal.sig) → Buf (Elt Ideal) ℓ) (g : Dev Cert.BrDxIdeal.nD → PrngReg), Pre_BrDxIdeal m →
    θ_run (Cert.BrDxIdeal.defs (F := Ideal)) (onTc (τ := Cert.BrDxIdeal.τ) (Cert.BrDxIdeal.main (F := Ideal))) ⟨m, fun _ => 0, g⟩ (fun r => (∀ c : Dev Cert.BrDxIdeal.nD,
      r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
      ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ r.2.sem = fun _ => 0)

def quiescent_BrDxReferenceIdeal [hBrDxReferenceIdeal : Cert.BrDxReferenceIdeal.Facts] : Prop :=
  ∀ (m : (ℓ : Loc Cert.BrDxReferenceIdeal.nD Cert.BrDxReferenceIdeal.τ Cert.BrDxReferenceIdeal.sig) → Buf (Elt Ideal) ℓ) (g : Dev Cert.BrDxReferenceIdeal.nD → PrngReg), Pre_BrDxReferenceIdeal m →
    θ_run (Cert.BrDxReferenceIdeal.defs (F := Ideal)) (onTc (τ := Cert.BrDxReferenceIdeal.τ) (Cert.BrDxReferenceIdeal.main (F := Ideal))) ⟨m, fun _ => 0, g⟩ (fun r => (∀ c : Dev Cert.BrDxReferenceIdeal.nD,
      r.2.mem ((c.tc : Thread Cert.BrDxReferenceIdeal.nD Cert.BrDxReferenceIdeal.τ).loc Cert.BrDxReferenceIdeal.main_arg0) = m ((c.tc : Thread Cert.BrDxReferenceIdeal.nD Cert.BrDxReferenceIdeal.τ).loc Cert.BrDxReferenceIdeal.main_arg0)
      ∧ r.2.mem ((c.tc : Thread Cert.BrDxReferenceIdeal.nD Cert.BrDxReferenceIdeal.τ).loc Cert.BrDxReferenceIdeal.main_arg1) = m ((c.tc : Thread Cert.BrDxReferenceIdeal.nD Cert.BrDxReferenceIdeal.τ).loc Cert.BrDxReferenceIdeal.main_arg1))
      ∧ r.2.sem = fun _ => 0)

def preserves_Kernel_KernelIdeal : Prop :=
  True

def algebraic_KernelIdeal_ReferenceIdeal_pre_finite_and_no_zero_pole [hKernelIdeal : Cert.KernelIdeal.Facts] [hReferenceIdeal : Cert.ReferenceIdeal.Facts] [hPre_finite_and_no_zero_pole : Cert.Pre_finite_and_no_zero_pole.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_no_zero_pole m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v106_1)) (v1 : (c : Dev Cert.KernelIdeal.nD) → Buf (Elt Ideal) ((c.tc : Thread Cert.KernelIdeal.nD Cert.KernelIdeal.τ).loc Cert.KernelIdeal.main_v107_0)) (v2 : (c : Dev Cert.KernelIdeal.nD) → Buf (Elt Ideal) ((c.tc : Thread Cert.KernelIdeal.nD Cert.KernelIdeal.τ).loc Cert.KernelIdeal.main_v224)) (v3 : (c : Dev Cert.KernelIdeal.nD) → Buf (Elt Ideal) ((c.tc : Thread Cert.KernelIdeal.nD Cert.KernelIdeal.τ).loc Cert.KernelIdeal.main_v216)) (v4 : (c : Dev Cert.KernelIdeal.nD) → Buf (Elt Ideal) ((c.tc : Thread Cert.KernelIdeal.nD Cert.KernelIdeal.τ).loc Cert.KernelIdeal.main_v226)) (v5 : (c : Dev Cert.KernelIdeal.nD) → Buf (Elt Ideal) ((c.tc : Thread Cert.KernelIdeal.nD Cert.KernelIdeal.τ).loc Cert.KernelIdeal.main_v156)) (v6 : (c : Dev Cert.KernelIdeal.nD) → Buf (Elt Ideal) ((c.tc : Thread Cert.KernelIdeal.nD Cert.KernelIdeal.τ).loc Cert.KernelIdeal.main_v149)) (v7 : (c : Dev Cert.KernelIdeal.nD) → Buf (Elt Ideal) ((c.tc : Thread Cert.KernelIdeal.nD Cert.KernelIdeal.τ).loc Cert.KernelIdeal.main_v239)) (v8 : (c : Dev Cert.KernelIdeal.nD) → Buf (Elt Ideal) ((c.tc : Thread Cert.KernelIdeal.nD Cert.KernelIdeal.τ).loc Cert.KernelIdeal.main_v252)) (v9 : (c : Dev Cert.KernelIdeal.nD) → Buf (Elt Ideal) ((c.tc : Thread Cert.KernelIdeal.nD Cert.KernelIdeal.τ).loc Cert.KernelIdeal.main_v253)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106_1) = v0 c
          ∧ r.2.mem ((c.tc : Thread Cert.KernelIdeal.nD Cert.KernelIdeal.τ).loc Cert.KernelIdeal.main_v107_0) = v1 c
          ∧ r.2.mem ((c.tc : Thread Cert.KernelIdeal.nD Cert.KernelIdeal.τ).loc Cert.KernelIdeal.main_v224) = v2 c
          ∧ r.2.mem ((c.tc : Thread Cert.KernelIdeal.nD Cert.KernelIdeal.τ).loc Cert.KernelIdeal.main_v216) = v3 c
          ∧ r.2.mem ((c.tc : Thread Cert.KernelIdeal.nD Cert.KernelIdeal.τ).loc Cert.KernelIdeal.main_v226) = v4 c
          ∧ r.2.mem ((c.tc : Thread Cert.KernelIdeal.nD Cert.KernelIdeal.τ).loc Cert.KernelIdeal.main_v156) = v5 c
          ∧ r.2.mem ((c.tc : Thread Cert.KernelIdeal.nD Cert.KernelIdeal.τ).loc Cert.KernelIdeal.main_v149) = v6 c
          ∧ r.2.mem ((c.tc : Thread Cert.KernelIdeal.nD Cert.KernelIdeal.τ).loc Cert.KernelIdeal.main_v239) = v7 c
          ∧ r.2.mem ((c.tc : Thread Cert.KernelIdeal.nD Cert.KernelIdeal.τ).loc Cert.KernelIdeal.main_v252) = v8 c
          ∧ r.2.mem ((c.tc : Thread Cert.KernelIdeal.nD Cert.KernelIdeal.τ).loc Cert.KernelIdeal.main_v253) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_v224) = v2 c
          ∧ r.2.mem ((c.tc : Thread Cert.ReferenceIdeal.nD Cert.ReferenceIdeal.τ).loc Cert.ReferenceIdeal.main_v216) = v3 c
          ∧ r.2.mem ((c.tc : Thread Cert.ReferenceIdeal.nD Cert.ReferenceIdeal.τ).loc Cert.ReferenceIdeal.main_v226) = v4 c
          ∧ r.2.mem ((c.tc : Thread Cert.ReferenceIdeal.nD Cert.ReferenceIdeal.τ).loc Cert.ReferenceIdeal.main_v156) = v5 c
          ∧ r.2.mem ((c.tc : Thread Cert.ReferenceIdeal.nD Cert.ReferenceIdeal.τ).loc Cert.ReferenceIdeal.main_v149) = v6 c
          ∧ r.2.mem ((c.tc : Thread Cert.ReferenceIdeal.nD Cert.ReferenceIdeal.τ).loc Cert.ReferenceIdeal.main_v116) = v7 c
          ∧ r.2.mem ((c.tc : Thread Cert.ReferenceIdeal.nD Cert.ReferenceIdeal.τ).loc Cert.ReferenceIdeal.main_v112) = v8 c
          ∧ r.2.mem ((c.tc : Thread Cert.ReferenceIdeal.nD Cert.ReferenceIdeal.τ).loc Cert.ReferenceIdeal.main_v109) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v7) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Mid_MidIdeal : Prop :=
  True

def algebraic_MidIdeal_MidReferenceIdeal_pre_finite [hMidIdeal : Cert.MidIdeal.Facts] [hMidReferenceIdeal : Cert.MidReferenceIdeal.Facts] [hPre_finite : Cert.Pre_finite.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal_finite m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)) →
    ∃ (v0 : (c : Dev Cert.MidIdeal.nD) → Buf (Elt Ideal) ((c.tc : Thread Cert.MidIdeal.nD Cert.MidIdeal.τ).loc Cert.MidIdeal.main_v1_0)) (v1 : (c : Dev Cert.MidIdeal.nD) → Buf (Elt Ideal) ((c.tc : Thread Cert.MidIdeal.nD Cert.MidIdeal.τ).loc Cert.MidIdeal.main_v1_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v1_0) = v0 c
          ∧ r.2.mem ((c.tc : Thread Cert.MidIdeal.nD Cert.MidIdeal.τ).loc Cert.MidIdeal.main_v1_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v20) = v0 c
          ∧ r.2.mem ((c.tc : Thread Cert.MidReferenceIdeal.nD Cert.MidReferenceIdeal.τ).loc Cert.MidReferenceIdeal.main_v27) = v1 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2))

def preserves_Dwd_DwdIdeal : Prop :=
  True

def algebraic_DwdIdeal_DwdReferenceIdeal [hDwdIdeal : Cert.DwdIdeal.Facts] [hDwdReferenceIdeal : Cert.DwdReferenceIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdReferenceIdeal.nD Cert.DwdReferenceIdeal.τ Cert.DwdReferenceIdeal.sig) → Buf (Elt Ideal) ℓ) (g' : Dev Cert.DwdReferenceIdeal.nD → PrngReg), Pre_DwdIdeal m →
    (∀ c : Dev Cert.DwdIdeal.nD,
      m' ((c.tc : Thread Cert.DwdReferenceIdeal.nD Cert.DwdReferenceIdeal.τ).loc Cert.DwdReferenceIdeal.main_arg0) = m ((c.tc : Thread Cert.DwdIdeal.nD Cert.DwdIdeal.τ).loc Cert.DwdIdeal.main_arg0)
      ∧ m' ((c.tc : Thread Cert.DwdReferenceIdeal.nD Cert.DwdReferenceIdeal.τ).loc Cert.DwdReferenceIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v2)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v2) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdReferenceIdeal.defs (F := Ideal)) (onTc (τ := Cert.DwdReferenceIdeal.τ) (Cert.DwdReferenceIdeal.main (F := Ideal))) ⟨m', fun _ => 0, g'⟩ (fun r => ∀ c : Dev Cert.DwdReferenceIdeal.nD,
          r.2.mem ((c.tc : Thread Cert.DwdReferenceIdeal.nD Cert.DwdReferenceIdeal.τ).loc Cert.DwdReferenceIdeal.main_v8) = v0 c
          ∧ r.2.mem ((c.tc : Thread Cert.DwdReferenceIdeal.nD Cert.DwdReferenceIdeal.τ).loc Cert.DwdReferenceIdeal.main_arg0) = m' ((c.tc : Thread Cert.DwdReferenceIdeal.nD Cert.DwdReferenceIdeal.τ).loc Cert.DwdReferenceIdeal.main_arg0)
          ∧ r.2.mem ((c.tc : Thread Cert.DwdReferenceIdeal.nD Cert.DwdReferenceIdeal.τ).loc Cert.DwdReferenceIdeal.main_arg1) = m' ((c.tc : Thread Cert.DwdReferenceIdeal.nD Cert.DwdReferenceIdeal.τ).loc Cert.DwdReferenceIdeal.main_arg1))

def preserves_Dwgu_DwguIdeal : Prop :=
  True

def algebraic_DwguIdeal_DwguReferenceIdeal [hDwguIdeal : Cert.DwguIdeal.Facts] [hDwguReferenceIdeal : Cert.DwguReferenceIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguReferenceIdeal.nD Cert.DwguReferenceIdeal.τ Cert.DwguReferenceIdeal.sig) → Buf (Elt Ideal) ℓ) (g' : Dev Cert.DwguReferenceIdeal.nD → PrngReg), Pre_DwguIdeal m →
    (∀ c : Dev Cert.DwguIdeal.nD,
      m' ((c.tc : Thread Cert.DwguReferenceIdeal.nD Cert.DwguReferenceIdeal.τ).loc Cert.DwguReferenceIdeal.main_arg0) = m ((c.tc : Thread Cert.DwguIdeal.nD Cert.DwguIdeal.τ).loc Cert.DwguIdeal.main_arg0)
      ∧ m' ((c.tc : Thread Cert.DwguReferenceIdeal.nD Cert.DwguReferenceIdeal.τ).loc Cert.DwguReferenceIdeal.main_arg1) = m ((c.tc : Thread Cert.DwguIdeal.nD Cert.DwguIdeal.τ).loc Cert.DwguIdeal.main_arg1)) →
    ∃ (v0 : (c : Dev Cert.DwguIdeal.nD) → Buf (Elt Ideal) ((c.tc : Thread Cert.DwguIdeal.nD Cert.DwguIdeal.τ).loc Cert.DwguIdeal.main_v2)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v2) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ θ_run (Cert.DwguReferenceIdeal.defs (F := Ideal)) (onTc (τ := Cert.DwguReferenceIdeal.τ) (Cert.DwguReferenceIdeal.main (F := Ideal))) ⟨m', fun _ => 0, g'⟩ (fun r => ∀ c : Dev Cert.DwguReferenceIdeal.nD,
          r.2.mem ((c.tc : Thread Cert.DwguReferenceIdeal.nD Cert.DwguReferenceIdeal.τ).loc Cert.DwguReferenceIdeal.main_v18) = v0 c
          ∧ r.2.mem ((c.tc : Thread Cert.DwguReferenceIdeal.nD Cert.DwguReferenceIdeal.τ).loc Cert.DwguReferenceIdeal.main_arg0) = m' ((c.tc : Thread Cert.DwguReferenceIdeal.nD Cert.DwguReferenceIdeal.τ).loc Cert.DwguReferenceIdeal.main_arg0)
          ∧ r.2.mem ((c.tc : Thread Cert.DwguReferenceIdeal.nD Cert.DwguReferenceIdeal.τ).loc Cert.DwguReferenceIdeal.main_arg1) = m' ((c.tc : Thread Cert.DwguReferenceIdeal.nD Cert.DwguReferenceIdeal.τ).loc Cert.DwguReferenceIdeal.main_arg1))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)
      ∧ m' ((c.tc : Thread Cert.DxReferenceIdeal.nD Cert.DxReferenceIdeal.τ).loc Cert.DxReferenceIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v2) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v19) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)) (v2 : (c : Dev Cert.DownIdeal.nD) → Buf (Elt Ideal) ((c.tc : Thread Cert.DownIdeal.nD Cert.DownIdeal.τ).loc Cert.DownIdeal.main_v3_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_v3_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v11) = v0 c
          ∧ r.2.mem ((c.tc : Thread Cert.DownReferenceIdeal.nD Cert.DownReferenceIdeal.τ).loc Cert.DownReferenceIdeal.main_v35) = v1 c
          ∧ r.2.mem ((c.tc : Thread Cert.DownReferenceIdeal.nD Cert.DownReferenceIdeal.τ).loc Cert.DownReferenceIdeal.main_v36) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v0) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v4) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_InDx_InDxIdeal : Prop :=
  True

def algebraic_InDxIdeal_InDxReferenceIdeal [hInDxIdeal : Cert.InDxIdeal.Facts] [hInDxReferenceIdeal : Cert.InDxReferenceIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxReferenceIdeal.nD Cert.InDxReferenceIdeal.τ Cert.InDxReferenceIdeal.sig) → Buf (Elt Ideal) ℓ) (g' : Dev Cert.InDxReferenceIdeal.nD → PrngReg), Pre_InDxIdeal m →
    (∀ c : Dev Cert.InDxIdeal.nD,
      m' ((c.tc : Thread Cert.InDxReferenceIdeal.nD Cert.InDxReferenceIdeal.τ).loc Cert.InDxReferenceIdeal.main_arg0) = m ((c.tc : Thread Cert.InDxIdeal.nD Cert.InDxIdeal.τ).loc Cert.InDxIdeal.main_arg0)
      ∧ m' ((c.tc : Thread Cert.InDxReferenceIdeal.nD Cert.InDxReferenceIdeal.τ).loc Cert.InDxReferenceIdeal.main_arg1) = m ((c.tc : Thread Cert.InDxIdeal.nD Cert.InDxIdeal.τ).loc Cert.InDxIdeal.main_arg1)
      ∧ m' ((c.tc : Thread Cert.InDxReferenceIdeal.nD Cert.InDxReferenceIdeal.τ).loc Cert.InDxReferenceIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxReferenceIdeal.defs (F := Ideal)) (onTc (τ := Cert.InDxReferenceIdeal.τ) (Cert.InDxReferenceIdeal.main (F := Ideal))) ⟨m', fun _ => 0, g'⟩ (fun r => ∀ c : Dev Cert.InDxReferenceIdeal.nD,
          r.2.mem ((c.tc : Thread Cert.InDxReferenceIdeal.nD Cert.InDxReferenceIdeal.τ).loc Cert.InDxReferenceIdeal.main_v7) = v0 c
          ∧ r.2.mem ((c.tc : Thread Cert.InDxReferenceIdeal.nD Cert.InDxReferenceIdeal.τ).loc Cert.InDxReferenceIdeal.main_arg0) = m' ((c.tc : Thread Cert.InDxReferenceIdeal.nD Cert.InDxReferenceIdeal.τ).loc Cert.InDxReferenceIdeal.main_arg0)
          ∧ r.2.mem ((c.tc : Thread Cert.InDxReferenceIdeal.nD Cert.InDxReferenceIdeal.τ).loc Cert.InDxReferenceIdeal.main_arg1) = m' ((c.tc : Thread Cert.InDxReferenceIdeal.nD Cert.InDxReferenceIdeal.τ).loc Cert.InDxReferenceIdeal.main_arg1)
          ∧ r.2.mem ((c.tc : Thread Cert.InDxReferenceIdeal.nD Cert.InDxReferenceIdeal.τ).loc Cert.InDxReferenceIdeal.main_arg2) = m' ((c.tc : Thread Cert.InDxReferenceIdeal.nD Cert.InDxReferenceIdeal.τ).loc Cert.InDxReferenceIdeal.main_arg2))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)) (v2 : (c : Dev Cert.MixOutIdeal.nD) → Buf (Elt Ideal) ((c.tc : Thread Cert.MixOutIdeal.nD Cert.MixOutIdeal.τ).loc Cert.MixOutIdeal.main_v3_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_v3_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v3) = v0 c
          ∧ r.2.mem ((c.tc : Thread Cert.MixOutReferenceIdeal.nD Cert.MixOutReferenceIdeal.τ).loc Cert.MixOutReferenceIdeal.main_v27) = v1 c
          ∧ r.2.mem ((c.tc : Thread Cert.MixOutReferenceIdeal.nD Cert.MixOutReferenceIdeal.τ).loc Cert.MixOutReferenceIdeal.main_v28) = v2 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4))

def preserves_MixDm_MixDmIdeal : Prop :=
  True

def algebraic_MixDmIdeal_MixDmReferenceIdeal [hMixDmIdeal : Cert.MixDmIdeal.Facts] [hMixDmReferenceIdeal : Cert.MixDmReferenceIdeal.Facts] : Prop :=
  ∀ (m : (ℓ : Loc Cert.MixDmIdeal.nD Cert.MixDmIdeal.τ Cert.MixDmIdeal.sig) → Buf (Elt Ideal) ℓ) (g : Dev Cert.MixDmIdeal.nD → PrngReg)
    (m' : (ℓ : Loc Cert.MixDmReferenceIdeal.nD Cert.MixDmReferenceIdeal.τ Cert.MixDmReferenceIdeal.sig) → Buf (Elt Ideal) ℓ) (g' : Dev Cert.MixDmReferenceIdeal.nD → PrngReg), Pre_MixDmIdeal m →
    (∀ c : Dev Cert.MixDmIdeal.nD,
      m' ((c.tc : Thread Cert.MixDmReferenceIdeal.nD Cert.MixDmReferenceIdeal.τ).loc Cert.MixDmReferenceIdeal.main_arg0) = m ((c.tc : Thread Cert.MixDmIdeal.nD Cert.MixDmIdeal.τ).loc Cert.MixDmIdeal.main_arg0)
      ∧ m' ((c.tc : Thread Cert.MixDmReferenceIdeal.nD Cert.MixDmReferenceIdeal.τ).loc Cert.MixDmReferenceIdeal.main_arg1) = m ((c.tc : Thread Cert.MixDmIdeal.nD Cert.MixDmIdeal.τ).loc Cert.MixDmIdeal.main_arg1)) →
    ∃ (v0 : (c : Dev Cert.MixDmIdeal.nD) → Buf (Elt Ideal) ((c.tc : Thread Cert.MixDmIdeal.nD Cert.MixDmIdeal.τ).loc Cert.MixDmIdeal.main_v2)),
      θ_run (Cert.MixDmIdeal.defs (F := Ideal)) (onTc (τ := Cert.MixDmIdeal.τ) (Cert.MixDmIdeal.main (F := Ideal))) ⟨m, fun _ => 0, g⟩ (fun r => ∀ c : Dev Cert.MixDmIdeal.nD,
          r.2.mem ((c.tc : Thread Cert.MixDmIdeal.nD Cert.MixDmIdeal.τ).loc Cert.MixDmIdeal.main_v2) = v0 c
          ∧ r.2.mem ((c.tc : Thread Cert.MixDmIdeal.nD Cert.MixDmIdeal.τ).loc Cert.MixDmIdeal.main_arg0) = m ((c.tc : Thread Cert.MixDmIdeal.nD Cert.MixDmIdeal.τ).loc Cert.MixDmIdeal.main_arg0)
          ∧ r.2.mem ((c.tc : Thread Cert.MixDmIdeal.nD Cert.MixDmIdeal.τ).loc Cert.MixDmIdeal.main_arg1) = m ((c.tc : Thread Cert.MixDmIdeal.nD Cert.MixDmIdeal.τ).loc Cert.MixDmIdeal.main_arg1))
      ∧ θ_run (Cert.MixDmReferenceIdeal.defs (F := Ideal)) (onTc (τ := Cert.MixDmReferenceIdeal.τ) (Cert.MixDmReferenceIdeal.main (F := Ideal))) ⟨m', fun _ => 0, g'⟩ (fun r => ∀ c : Dev Cert.MixDmReferenceIdeal.nD,
          r.2.mem ((c.tc : Thread Cert.MixDmReferenceIdeal.nD Cert.MixDmReferenceIdeal.τ).loc Cert.MixDmReferenceIdeal.main_v2) = v0 c
          ∧ r.2.mem ((c.tc : Thread Cert.MixDmReferenceIdeal.nD Cert.MixDmReferenceIdeal.τ).loc Cert.MixDmReferenceIdeal.main_arg0) = m' ((c.tc : Thread Cert.MixDmReferenceIdeal.nD Cert.MixDmReferenceIdeal.τ).loc Cert.MixDmReferenceIdeal.main_arg0)
          ∧ r.2.mem ((c.tc : Thread Cert.MixDmReferenceIdeal.nD Cert.MixDmReferenceIdeal.τ).loc Cert.MixDmReferenceIdeal.main_arg1) = m' ((c.tc : Thread Cert.MixDmReferenceIdeal.nD Cert.MixDmReferenceIdeal.τ).loc Cert.MixDmReferenceIdeal.main_arg1))

def preserves_MixDw_MixDwIdeal : Prop :=
  True

def algebraic_MixDwIdeal_MixDwReferenceIdeal [hMixDwIdeal : Cert.MixDwIdeal.Facts] [hMixDwReferenceIdeal : Cert.MixDwReferenceIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwReferenceIdeal.nD Cert.MixDwReferenceIdeal.τ Cert.MixDwReferenceIdeal.sig) → Buf (Elt Ideal) ℓ) (g' : Dev Cert.MixDwReferenceIdeal.nD → PrngReg), Pre_MixDwIdeal m →
    (∀ c : Dev Cert.MixDwIdeal.nD,
      m' ((c.tc : Thread Cert.MixDwReferenceIdeal.nD Cert.MixDwReferenceIdeal.τ).loc Cert.MixDwReferenceIdeal.main_arg0) = m ((c.tc : Thread Cert.MixDwIdeal.nD Cert.MixDwIdeal.τ).loc Cert.MixDwIdeal.main_arg0)
      ∧ m' ((c.tc : Thread Cert.MixDwReferenceIdeal.nD Cert.MixDwReferenceIdeal.τ).loc Cert.MixDwReferenceIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v2)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v2) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwReferenceIdeal.defs (F := Ideal)) (onTc (τ := Cert.MixDwReferenceIdeal.τ) (Cert.MixDwReferenceIdeal.main (F := Ideal))) ⟨m', fun _ => 0, g'⟩ (fun r => ∀ c : Dev Cert.MixDwReferenceIdeal.nD,
          r.2.mem ((c.tc : Thread Cert.MixDwReferenceIdeal.nD Cert.MixDwReferenceIdeal.τ).loc Cert.MixDwReferenceIdeal.main_v4) = v0 c
          ∧ r.2.mem ((c.tc : Thread Cert.MixDwReferenceIdeal.nD Cert.MixDwReferenceIdeal.τ).loc Cert.MixDwReferenceIdeal.main_arg0) = m' ((c.tc : Thread Cert.MixDwReferenceIdeal.nD Cert.MixDwReferenceIdeal.τ).loc Cert.MixDwReferenceIdeal.main_arg0)
          ∧ r.2.mem ((c.tc : Thread Cert.MixDwReferenceIdeal.nD Cert.MixDwReferenceIdeal.τ).loc Cert.MixDwReferenceIdeal.main_arg1) = m' ((c.tc : Thread Cert.MixDwReferenceIdeal.nD Cert.MixDwReferenceIdeal.τ).loc Cert.MixDwReferenceIdeal.main_arg1))

def preserves_Br_BrIdeal : Prop :=
  True

def algebraic_BrIdeal_BrReferenceIdeal [hBrIdeal : Cert.BrIdeal.Facts] [hBrReferenceIdeal : Cert.BrReferenceIdeal.Facts] : Prop :=
  ∀ (m : (ℓ : Loc Cert.BrIdeal.nD Cert.BrIdeal.τ Cert.BrIdeal.sig) → Buf (Elt Ideal) ℓ) (g : Dev Cert.BrIdeal.nD → PrngReg)
    (m' : (ℓ : Loc Cert.BrReferenceIdeal.nD Cert.BrReferenceIdeal.τ Cert.BrReferenceIdeal.sig) → Buf (Elt Ideal) ℓ) (g' : Dev Cert.BrReferenceIdeal.nD → PrngReg), Pre_BrIdeal m →
    (∀ c : Dev Cert.BrIdeal.nD,
      m' ((c.tc : Thread Cert.BrReferenceIdeal.nD Cert.BrReferenceIdeal.τ).loc Cert.BrReferenceIdeal.main_arg0) = m ((c.tc : Thread Cert.BrIdeal.nD Cert.BrIdeal.τ).loc Cert.BrIdeal.main_arg0)
      ∧ m' ((c.tc : Thread Cert.BrReferenceIdeal.nD Cert.BrReferenceIdeal.τ).loc Cert.BrReferenceIdeal.main_arg1) = m ((c.tc : Thread Cert.BrIdeal.nD Cert.BrIdeal.τ).loc Cert.BrIdeal.main_arg1)) →
    ∃ (v0 : (c : Dev Cert.BrIdeal.nD) → Buf (Elt Ideal) ((c.tc : Thread Cert.BrIdeal.nD Cert.BrIdeal.τ).loc Cert.BrIdeal.main_v2)),
      θ_run (Cert.BrIdeal.defs (F := Ideal)) (onTc (τ := Cert.BrIdeal.τ) (Cert.BrIdeal.main (F := Ideal))) ⟨m, fun _ => 0, g⟩ (fun r => ∀ c : Dev Cert.BrIdeal.nD,
          r.2.mem ((c.tc : Thread Cert.BrIdeal.nD Cert.BrIdeal.τ).loc Cert.BrIdeal.main_v2) = v0 c
          ∧ r.2.mem ((c.tc : Thread Cert.BrIdeal.nD Cert.BrIdeal.τ).loc Cert.BrIdeal.main_arg0) = m ((c.tc : Thread Cert.BrIdeal.nD Cert.BrIdeal.τ).loc Cert.BrIdeal.main_arg0)
          ∧ r.2.mem ((c.tc : Thread Cert.BrIdeal.nD Cert.BrIdeal.τ).loc Cert.BrIdeal.main_arg1) = m ((c.tc : Thread Cert.BrIdeal.nD Cert.BrIdeal.τ).loc Cert.BrIdeal.main_arg1))
      ∧ θ_run (Cert.BrReferenceIdeal.defs (F := Ideal)) (onTc (τ := Cert.BrReferenceIdeal.τ) (Cert.BrReferenceIdeal.main (F := Ideal))) ⟨m', fun _ => 0, g'⟩ (fun r => ∀ c : Dev Cert.BrReferenceIdeal.nD,
          r.2.mem ((c.tc : Thread Cert.BrReferenceIdeal.nD Cert.BrReferenceIdeal.τ).loc Cert.BrReferenceIdeal.main_v2) = v0 c
          ∧ r.2.mem ((c.tc : Thread Cert.BrReferenceIdeal.nD Cert.BrReferenceIdeal.τ).loc Cert.BrReferenceIdeal.main_arg0) = m' ((c.tc : Thread Cert.BrReferenceIdeal.nD Cert.BrReferenceIdeal.τ).loc Cert.BrReferenceIdeal.main_arg0)
          ∧ r.2.mem ((c.tc : Thread Cert.BrReferenceIdeal.nD Cert.BrReferenceIdeal.τ).loc Cert.BrReferenceIdeal.main_arg1) = m' ((c.tc : Thread Cert.BrReferenceIdeal.nD Cert.BrReferenceIdeal.τ).loc Cert.BrReferenceIdeal.main_arg1))

def preserves_BrDw_BrDwIdeal : Prop :=
  True

def algebraic_BrDwIdeal_BrDwReferenceIdeal [hBrDwIdeal : Cert.BrDwIdeal.Facts] [hBrDwReferenceIdeal : Cert.BrDwReferenceIdeal.Facts] : Prop :=
  ∀ (m : (ℓ : Loc Cert.BrDwIdeal.nD Cert.BrDwIdeal.τ Cert.BrDwIdeal.sig) → Buf (Elt Ideal) ℓ) (g : Dev Cert.BrDwIdeal.nD → PrngReg)
    (m' : (ℓ : Loc Cert.BrDwReferenceIdeal.nD Cert.BrDwReferenceIdeal.τ Cert.BrDwReferenceIdeal.sig) → Buf (Elt Ideal) ℓ) (g' : Dev Cert.BrDwReferenceIdeal.nD → PrngReg), Pre_BrDwIdeal m →
    (∀ c : Dev Cert.BrDwIdeal.nD,
      m' ((c.tc : Thread Cert.BrDwReferenceIdeal.nD Cert.BrDwReferenceIdeal.τ).loc Cert.BrDwReferenceIdeal.main_arg0) = m ((c.tc : Thread Cert.BrDwIdeal.nD Cert.BrDwIdeal.τ).loc Cert.BrDwIdeal.main_arg0)
      ∧ m' ((c.tc : Thread Cert.BrDwReferenceIdeal.nD Cert.BrDwReferenceIdeal.τ).loc Cert.BrDwReferenceIdeal.main_arg1) = m ((c.tc : Thread Cert.BrDwIdeal.nD Cert.BrDwIdeal.τ).loc Cert.BrDwIdeal.main_arg1)) →
    ∃ (v0 : (c : Dev Cert.BrDwIdeal.nD) → Buf (Elt Ideal) ((c.tc : Thread Cert.BrDwIdeal.nD Cert.BrDwIdeal.τ).loc Cert.BrDwIdeal.main_v2)),
      θ_run (Cert.BrDwIdeal.defs (F := Ideal)) (onTc (τ := Cert.BrDwIdeal.τ) (Cert.BrDwIdeal.main (F := Ideal))) ⟨m, fun _ => 0, g⟩ (fun r => ∀ c : Dev Cert.BrDwIdeal.nD,
          r.2.mem ((c.tc : Thread Cert.BrDwIdeal.nD Cert.BrDwIdeal.τ).loc Cert.BrDwIdeal.main_v2) = v0 c
          ∧ r.2.mem ((c.tc : Thread Cert.BrDwIdeal.nD Cert.BrDwIdeal.τ).loc Cert.BrDwIdeal.main_arg0) = m ((c.tc : Thread Cert.BrDwIdeal.nD Cert.BrDwIdeal.τ).loc Cert.BrDwIdeal.main_arg0)
          ∧ r.2.mem ((c.tc : Thread Cert.BrDwIdeal.nD Cert.BrDwIdeal.τ).loc Cert.BrDwIdeal.main_arg1) = m ((c.tc : Thread Cert.BrDwIdeal.nD Cert.BrDwIdeal.τ).loc Cert.BrDwIdeal.main_arg1))
      ∧ θ_run (Cert.BrDwReferenceIdeal.defs (F := Ideal)) (onTc (τ := Cert.BrDwReferenceIdeal.τ) (Cert.BrDwReferenceIdeal.main (F := Ideal))) ⟨m', fun _ => 0, g'⟩ (fun r => ∀ c : Dev Cert.BrDwReferenceIdeal.nD,
          r.2.mem ((c.tc : Thread Cert.BrDwReferenceIdeal.nD Cert.BrDwReferenceIdeal.τ).loc Cert.BrDwReferenceIdeal.main_v8) = v0 c
          ∧ r.2.mem ((c.tc : Thread Cert.BrDwReferenceIdeal.nD Cert.BrDwReferenceIdeal.τ).loc Cert.BrDwReferenceIdeal.main_arg0) = m' ((c.tc : Thread Cert.BrDwReferenceIdeal.nD Cert.BrDwReferenceIdeal.τ).loc Cert.BrDwReferenceIdeal.main_arg0)
          ∧ r.2.mem ((c.tc : Thread Cert.BrDwReferenceIdeal.nD Cert.BrDwReferenceIdeal.τ).loc Cert.BrDwReferenceIdeal.main_arg1) = m' ((c.tc : Thread Cert.BrDwReferenceIdeal.nD Cert.BrDwReferenceIdeal.τ).loc Cert.BrDwReferenceIdeal.main_arg1))

def preserves_BrDx_BrDxIdeal : Prop :=
  True

def algebraic_BrDxIdeal_BrDxReferenceIdeal [hBrDxIdeal : Cert.BrDxIdeal.Facts] [hBrDxReferenceIdeal : Cert.BrDxReferenceIdeal.Facts] : Prop :=
  ∀ (m : (ℓ : Loc Cert.BrDxIdeal.nD Cert.BrDxIdeal.τ Cert.BrDxIdeal.sig) → Buf (Elt Ideal) ℓ) (g : Dev Cert.BrDxIdeal.nD → PrngReg)
    (m' : (ℓ : Loc Cert.BrDxReferenceIdeal.nD Cert.BrDxReferenceIdeal.τ Cert.BrDxReferenceIdeal.sig) → Buf (Elt Ideal) ℓ) (g' : Dev Cert.BrDxReferenceIdeal.nD → PrngReg), Pre_BrDxIdeal m →
    (∀ c : Dev Cert.BrDxIdeal.nD,
      m' ((c.tc : Thread Cert.BrDxReferenceIdeal.nD Cert.BrDxReferenceIdeal.τ).loc Cert.BrDxReferenceIdeal.main_arg0) = m ((c.tc : Thread Cert.BrDxIdeal.nD Cert.BrDxIdeal.τ).loc Cert.BrDxIdeal.main_arg0)
      ∧ m' ((c.tc : Thread Cert.BrDxReferenceIdeal.nD Cert.BrDxReferenceIdeal.τ).loc Cert.BrDxReferenceIdeal.main_arg1) = m ((c.tc : Thread Cert.BrDxIdeal.nD Cert.BrDxIdeal.τ).loc Cert.BrDxIdeal.main_arg1)) →
    ∃ (v0 : (c : Dev Cert.BrDxIdeal.nD) → Buf (Elt Ideal) ((c.tc : Thread Cert.BrDxIdeal.nD Cert.BrDxIdeal.τ).loc Cert.BrDxIdeal.main_v2)),
      θ_run (Cert.BrDxIdeal.defs (F := Ideal)) (onTc (τ := Cert.BrDxIdeal.τ) (Cert.BrDxIdeal.main (F := Ideal))) ⟨m, fun _ => 0, g⟩ (fun r => ∀ c : Dev Cert.BrDxIdeal.nD,
          r.2.mem ((c.tc : Thread Cert.BrDxIdeal.nD Cert.BrDxIdeal.τ).loc Cert.BrDxIdeal.main_v2) = v0 c
          ∧ r.2.mem ((c.tc : Thread Cert.BrDxIdeal.nD Cert.BrDxIdeal.τ).loc Cert.BrDxIdeal.main_arg0) = m ((c.tc : Thread Cert.BrDxIdeal.nD Cert.BrDxIdeal.τ).loc Cert.BrDxIdeal.main_arg0)
          ∧ r.2.mem ((c.tc : Thread Cert.BrDxIdeal.nD Cert.BrDxIdeal.τ).loc Cert.BrDxIdeal.main_arg1) = m ((c.tc : Thread Cert.BrDxIdeal.nD Cert.BrDxIdeal.τ).loc Cert.BrDxIdeal.main_arg1))
      ∧ θ_run (Cert.BrDxReferenceIdeal.defs (F := Ideal)) (onTc (τ := Cert.BrDxReferenceIdeal.τ) (Cert.BrDxReferenceIdeal.main (F := Ideal))) ⟨m', fun _ => 0, g'⟩ (fun r => ∀ c : Dev Cert.BrDxReferenceIdeal.nD,
          r.2.mem ((c.tc : Thread Cert.BrDxReferenceIdeal.nD Cert.BrDxReferenceIdeal.τ).loc Cert.BrDxReferenceIdeal.main_v4) = v0 c
          ∧ r.2.mem ((c.tc : Thread Cert.BrDxReferenceIdeal.nD Cert.BrDxReferenceIdeal.τ).loc Cert.BrDxReferenceIdeal.main_arg0) = m' ((c.tc : Thread Cert.BrDxReferenceIdeal.nD Cert.BrDxReferenceIdeal.τ).loc Cert.BrDxReferenceIdeal.main_arg0)
          ∧ r.2.mem ((c.tc : Thread Cert.BrDxReferenceIdeal.nD Cert.BrDxReferenceIdeal.τ).loc Cert.BrDxReferenceIdeal.main_arg1) = m' ((c.tc : Thread Cert.BrDxReferenceIdeal.nD Cert.BrDxReferenceIdeal.τ).loc Cert.BrDxReferenceIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hMid : Cert.Mid.Facts) (hMidIdeal : Cert.MidIdeal.Facts) (hMidReferenceIdeal : Cert.MidReferenceIdeal.Facts) (hDwd : Cert.Dwd.Facts) (hDwdIdeal : Cert.DwdIdeal.Facts) (hDwdReferenceIdeal : Cert.DwdReferenceIdeal.Facts) (hDwgu : Cert.Dwgu.Facts) (hDwguIdeal : Cert.DwguIdeal.Facts) (hDwguReferenceIdeal : Cert.DwguReferenceIdeal.Facts) (hDx : Cert.Dx.Facts) (hDxIdeal : Cert.DxIdeal.Facts) (hDxReferenceIdeal : Cert.DxReferenceIdeal.Facts) (hDown : Cert.Down.Facts) (hDownIdeal : Cert.DownIdeal.Facts) (hDownReferenceIdeal : Cert.DownReferenceIdeal.Facts) (hInProj : Cert.InProj.Facts) (hInProjIdeal : Cert.InProjIdeal.Facts) (hInProjReferenceIdeal : Cert.InProjReferenceIdeal.Facts) (hInDw : Cert.InDw.Facts) (hInDwIdeal : Cert.InDwIdeal.Facts) (hInDwReferenceIdeal : Cert.InDwReferenceIdeal.Facts) (hInDx : Cert.InDx.Facts) (hInDxIdeal : Cert.InDxIdeal.Facts) (hInDxReferenceIdeal : Cert.InDxReferenceIdeal.Facts) (hMixOut : Cert.MixOut.Facts) (hMixOutIdeal : Cert.MixOutIdeal.Facts) (hMixOutReferenceIdeal : Cert.MixOutReferenceIdeal.Facts) (hMixDm : Cert.MixDm.Facts) (hMixDmIdeal : Cert.MixDmIdeal.Facts) (hMixDmReferenceIdeal : Cert.MixDmReferenceIdeal.Facts) (hMixDw : Cert.MixDw.Facts) (hMixDwIdeal : Cert.MixDwIdeal.Facts) (hMixDwReferenceIdeal : Cert.MixDwReferenceIdeal.Facts) (hBr : Cert.Br.Facts) (hBrIdeal : Cert.BrIdeal.Facts) (hBrReferenceIdeal : Cert.BrReferenceIdeal.Facts) (hBrDw : Cert.BrDw.Facts) (hBrDwIdeal : Cert.BrDwIdeal.Facts) (hBrDwReferenceIdeal : Cert.BrDwReferenceIdeal.Facts) (hBrDx : Cert.BrDx.Facts) (hBrDxIdeal : Cert.BrDxIdeal.Facts) (hBrDxReferenceIdeal : Cert.BrDxReferenceIdeal.Facts) (hPre_finite_and_no_zero_pole : Cert.Pre_finite_and_no_zero_pole.Facts) (hPre_finite : Cert.Pre_finite.Facts),
    quiescent_Kernel (hKernel := hKernel)
    ∧ quiescent_KernelIdeal (hKernelIdeal := hKernelIdeal)
    ∧ quiescent_KernelIdeal_pre_finite_and_no_zero_pole (hKernelIdeal := hKernelIdeal) (hPre_finite_and_no_zero_pole := hPre_finite_and_no_zero_pole)
    ∧ quiescent_ReferenceIdeal (hReferenceIdeal := hReferenceIdeal)
    ∧ quiescent_ReferenceIdeal_pre_finite_and_no_zero_pole (hReferenceIdeal := hReferenceIdeal) (hPre_finite_and_no_zero_pole := hPre_finite_and_no_zero_pole)
    ∧ quiescent_Up (hUp := hUp)
    ∧ quiescent_UpIdeal (hUpIdeal := hUpIdeal)
    ∧ quiescent_UpReferenceIdeal (hUpReferenceIdeal := hUpReferenceIdeal)
    ∧ quiescent_Mid (hMid := hMid)
    ∧ quiescent_MidIdeal (hMidIdeal := hMidIdeal)
    ∧ quiescent_MidIdeal_pre_finite (hMidIdeal := hMidIdeal) (hPre_finite := hPre_finite)
    ∧ quiescent_MidReferenceIdeal (hMidReferenceIdeal := hMidReferenceIdeal)
    ∧ quiescent_MidReferenceIdeal_pre_finite (hMidReferenceIdeal := hMidReferenceIdeal) (hPre_finite := hPre_finite)
    ∧ quiescent_Dwd (hDwd := hDwd)
    ∧ quiescent_DwdIdeal (hDwdIdeal := hDwdIdeal)
    ∧ quiescent_DwdReferenceIdeal (hDwdReferenceIdeal := hDwdReferenceIdeal)
    ∧ quiescent_Dwgu (hDwgu := hDwgu)
    ∧ quiescent_DwguIdeal (hDwguIdeal := hDwguIdeal)
    ∧ quiescent_DwguReferenceIdeal (hDwguReferenceIdeal := hDwguReferenceIdeal)
    ∧ quiescent_Dx (hDx := hDx)
    ∧ quiescent_DxIdeal (hDxIdeal := hDxIdeal)
    ∧ quiescent_DxReferenceIdeal (hDxReferenceIdeal := hDxReferenceIdeal)
    ∧ quiescent_Down (hDown := hDown)
    ∧ quiescent_DownIdeal (hDownIdeal := hDownIdeal)
    ∧ quiescent_DownReferenceIdeal (hDownReferenceIdeal := hDownReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_InDx (hInDx := hInDx)
    ∧ quiescent_InDxIdeal (hInDxIdeal := hInDxIdeal)
    ∧ quiescent_InDxReferenceIdeal (hInDxReferenceIdeal := hInDxReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_MixDm (hMixDm := hMixDm)
    ∧ quiescent_MixDmIdeal (hMixDmIdeal := hMixDmIdeal)
    ∧ quiescent_MixDmReferenceIdeal (hMixDmReferenceIdeal := hMixDmReferenceIdeal)
    ∧ quiescent_MixDw (hMixDw := hMixDw)
    ∧ quiescent_MixDwIdeal (hMixDwIdeal := hMixDwIdeal)
    ∧ quiescent_MixDwReferenceIdeal (hMixDwReferenceIdeal := hMixDwReferenceIdeal)
    ∧ quiescent_Br (hBr := hBr)
    ∧ quiescent_BrIdeal (hBrIdeal := hBrIdeal)
    ∧ quiescent_BrReferenceIdeal (hBrReferenceIdeal := hBrReferenceIdeal)
    ∧ quiescent_BrDw (hBrDw := hBrDw)
    ∧ quiescent_BrDwIdeal (hBrDwIdeal := hBrDwIdeal)
    ∧ quiescent_BrDwReferenceIdeal (hBrDwReferenceIdeal := hBrDwReferenceIdeal)
    ∧ quiescent_BrDx (hBrDx := hBrDx)
    ∧ quiescent_BrDxIdeal (hBrDxIdeal := hBrDxIdeal)
    ∧ quiescent_BrDxReferenceIdeal (hBrDxReferenceIdeal := hBrDxReferenceIdeal)
    ∧ preserves_Kernel_KernelIdeal
    ∧ algebraic_KernelIdeal_ReferenceIdeal_pre_finite_and_no_zero_pole (hKernelIdeal := hKernelIdeal) (hReferenceIdeal := hReferenceIdeal) (hPre_finite_and_no_zero_pole := hPre_finite_and_no_zero_pole)
    ∧ preserves_Up_UpIdeal
    ∧ algebraic_UpIdeal_UpReferenceIdeal (hUpIdeal := hUpIdeal) (hUpReferenceIdeal := hUpReferenceIdeal)
    ∧ preserves_Mid_MidIdeal
    ∧ algebraic_MidIdeal_MidReferenceIdeal_pre_finite (hMidIdeal := hMidIdeal) (hMidReferenceIdeal := hMidReferenceIdeal) (hPre_finite := hPre_finite)
    ∧ preserves_Dwd_DwdIdeal
    ∧ algebraic_DwdIdeal_DwdReferenceIdeal (hDwdIdeal := hDwdIdeal) (hDwdReferenceIdeal := hDwdReferenceIdeal)
    ∧ preserves_Dwgu_DwguIdeal
    ∧ algebraic_DwguIdeal_DwguReferenceIdeal (hDwguIdeal := hDwguIdeal) (hDwguReferenceIdeal := hDwguReferenceIdeal)
    ∧ preserves_Dx_DxIdeal
    ∧ algebraic_DxIdeal_DxReferenceIdeal (hDxIdeal := hDxIdeal) (hDxReferenceIdeal := hDxReferenceIdeal)
    ∧ preserves_Down_DownIdeal
    ∧ algebraic_DownIdeal_DownReferenceIdeal (hDownIdeal := hDownIdeal) (hDownReferenceIdeal := hDownReferenceIdeal)
    ∧ preserves_InProj_InProjIdeal
    ∧ algebraic_InProjIdeal_InProjReferenceIdeal (hInProjIdeal := hInProjIdeal) (hInProjReferenceIdeal := hInProjReferenceIdeal)
    ∧ preserves_InDw_InDwIdeal
    ∧ algebraic_InDwIdeal_InDwReferenceIdeal (hInDwIdeal := hInDwIdeal) (hInDwReferenceIdeal := hInDwReferenceIdeal)
    ∧ preserves_InDx_InDxIdeal
    ∧ algebraic_InDxIdeal_InDxReferenceIdeal (hInDxIdeal := hInDxIdeal) (hInDxReferenceIdeal := hInDxReferenceIdeal)
    ∧ preserves_MixOut_MixOutIdeal
    ∧ algebraic_MixOutIdeal_MixOutReferenceIdeal (hMixOutIdeal := hMixOutIdeal) (hMixOutReferenceIdeal := hMixOutReferenceIdeal)
    ∧ preserves_MixDm_MixDmIdeal
    ∧ algebraic_MixDmIdeal_MixDmReferenceIdeal (hMixDmIdeal := hMixDmIdeal) (hMixDmReferenceIdeal := hMixDmReferenceIdeal)
    ∧ preserves_MixDw_MixDwIdeal
    ∧ algebraic_MixDwIdeal_MixDwReferenceIdeal (hMixDwIdeal := hMixDwIdeal) (hMixDwReferenceIdeal := hMixDwReferenceIdeal)
    ∧ preserves_Br_BrIdeal
    ∧ algebraic_BrIdeal_BrReferenceIdeal (hBrIdeal := hBrIdeal) (hBrReferenceIdeal := hBrReferenceIdeal)
    ∧ preserves_BrDw_BrDwIdeal
    ∧ algebraic_BrDwIdeal_BrDwReferenceIdeal (hBrDwIdeal := hBrDwIdeal) (hBrDwReferenceIdeal := hBrDwReferenceIdeal)
    ∧ preserves_BrDx_BrDxIdeal
    ∧ algebraic_BrDxIdeal_BrDxReferenceIdeal (hBrDxIdeal := hBrDxIdeal) (hBrDxReferenceIdeal := hBrDxReferenceIdeal)
-- ==== Pre_finite.lean ====
abbrev S2048x2048 : Shape := ⟨2, ![2048, 2048]⟩
abbrev S5632x2048 : Shape := ⟨2, ![5632, 2048]⟩
abbrev S2x2048x5632 : Shape := ⟨3, ![2, 2048, 5632]⟩
abbrev S_ : Shape := ⟨0, ![]⟩

class Facts : Prop where
  bcast_S_S2048x2048 : S_.BroadcastsInDim S2048x2048 (![] : Fin 0 → Fin S2048x2048.rank)
  bcast_S_S5632x2048 : S_.BroadcastsInDim S5632x2048 (![] : Fin 0 → Fin S5632x2048.rank)
  bcast_S_S2x2048x5632 : S_.BroadcastsInDim S2x2048x5632 (![] : Fin 0 → Fin S2x2048x5632.rank)

variable [Facts]

def fn {F : FTy → Type} [FloatOps F] (main_arg0 : FVec F S2048x2048 .f32) (main_arg1 : FVec F S5632x2048 .f32) (main_arg2 : FVec F S2x2048x5632 .f32) : IVec S2048x2048 1 × IVec S5632x2048 1 × IVec S2x2048x5632 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S5632x2048 .f32 := Host.absf main_arg1
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S2x2048x5632 .f32 := Host.absf main_arg2
  let main_cst_1 : FVec F S_ .f32 := constant S_ .f32 0x7F800000#32
  let main_v7 : FVec F S2x2048x5632 .f32 := broadcastInDim S2x2048x5632 ![] bcast_S_S2x2048x5632 main_cst_1
  let main_v8 : IVec S2x2048x5632 1 := cmpf .olt main_v6 main_v7
  (main_v2, main_v5, main_v8)
-- ==== Pre_finite_and_no_zero_pole.lean ====
abbrev S2048x1024 : Shape := ⟨2, ![2048, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16 : Shape := ⟨2, ![64, 16]⟩
abbrev S_ : Shape := ⟨0, ![]⟩

class Facts : Prop where
  bcast_S_S2048x1024 : S_.BroadcastsInDim S2048x1024 (![] : Fin 0 → Fin S2048x1024.rank)
  bcast_S_S64x64 : S_.BroadcastsInDim S64x64 (![] : Fin 0 → Fin S64x64.rank)
  bcast_S_S64 : S_.BroadcastsInDim S64 (![] : Fin 0 → Fin S64.rank)
  bcast_S_S64x64x16 : S_.BroadcastsInDim S64x64x16 (![] : Fin 0 → Fin S64x64x16.rank)
  bcast_S_S64x16x64 : S_.BroadcastsInDim S64x16x64 (![] : Fin 0 → Fin S64x16x64.rank)
  bcast_S_S64x16 : S_.BroadcastsInDim S64x16 (![] : Fin 0 → Fin S64x16.rank)

variable [Facts]

def fn_part1 {F : FTy → Type} [FloatOps F] (main_arg2 : FVec F S64x64 .f32) (main_arg3 : FVec F S64x64 .f32) (main_arg6 : FVec F S64x64x16 .f32) (main_arg7 : FVec F S64x16x64 .f32) (main_arg8 : FVec F S64x16x64 .f32) (main_arg9 : FVec F S64x16 .f32) (main_v2 : IVec S2048x1024 1) (main_v5 : IVec S2048x1024 1) (main_v8 : IVec S64x64 1) (main_v11 : IVec S64x64 1) (main_v14 : IVec S64 1) (main_v17 : IVec S64x64x16 1) : IVec S2048x1024 1 × IVec S2048x1024 1 × IVec S64x64 1 × IVec S64x64 1 × IVec S64 1 × IVec S64x64x16 1 × IVec S64x64x16 1 × IVec S64x16x64 1 × IVec S64x16x64 1 × IVec S64x16 1 × IVec S64x64 1 :=
  let main_v18 : FVec F S64x64x16 .f32 := Host.absf main_arg6
  let main_cst_5 : FVec F S_ .f32 := constant S_ .f32 0x7F800000#32
  let main_v19 : FVec F S64x64x16 .f32 := broadcastInDim S64x64x16 ![] bcast_S_S64x64x16 main_cst_5
  let main_v20 : IVec S64x64x16 1 := cmpf .olt main_v18 main_v19
  let main_v21 : FVec F S64x16x64 .f32 := Host.absf main_arg7
  let main_cst_6 : FVec F S_ .f32 := constant S_ .f32 0x7F800000#32
  let main_v22 : FVec F S64x16x64 .f32 := broadcastInDim S64x16x64 ![] bcast_S_S64x16x64 main_cst_6
  let main_v23 : IVec S64x16x64 1 := cmpf .olt main_v21 main_v22
  let main_v24 : FVec F S64x16x64 .f32 := Host.absf main_arg8
  let main_cst_7 : FVec F S_ .f32 := constant S_ .f32 0x7F800000#32
  let main_v25 : FVec F S64x16x64 .f32 := broadcastInDim S64x16x64 ![] bcast_S_S64x16x64 main_cst_7
  let main_v26 : IVec S64x16x64 1 := cmpf .olt main_v24 main_v25
  let main_v27 : FVec F S64x16 .f32 := Host.absf main_arg9
  let main_cst_8 : FVec F S_ .f32 := constant S_ .f32 0x7F800000#32
  let main_v28 : FVec F S64x16 .f32 := broadcastInDim S64x16 ![] bcast_S_S64x16 main_cst_8
  let main_v29 : IVec S64x16 1 := cmpf .olt main_v27 main_v28
  let main_v30 : FVec F S64x64 .f32 := mulf main_arg2 main_arg2
  let main_v31 : FVec F S64x64 .f32 := mulf main_arg3 main_arg3
  let main_v32 : FVec F S64x64 .f32 := addf main_v30 main_v31
  let main_cst_9 : FVec F S_ .f32 := constant S_ .f32 0x00000000#32
  let main_v33 : FVec F S64x64 .f32 := broadcastInDim S64x64 ![] bcast_S_S64x64 main_cst_9
  let main_v34 : IVec S64x64 1 := cmpf .une main_v32 main_v33
  (main_v2, main_v5, main_v8, main_v11, main_v14, main_v17, main_v20, main_v23, main_v26, main_v29, main_v34)

def fn {F : FTy → Type} [FloatOps F] (main_arg0 : FVec F S2048x1024 .f32) (main_arg1 : FVec F S2048x1024 .f32) (main_arg2 : FVec F S64x64 .f32) (main_arg3 : FVec F S64x64 .f32) (main_arg4 : FVec F S64 .f32) (main_arg5 : FVec F S64x64x16 .f32) (main_arg6 : FVec F S64x64x16 .f32) (main_arg7 : FVec F S64x16x64 .f32) (main_arg8 : FVec F S64x16x64 .f32) (main_arg9 : FVec F S64x16 .f32) : IVec S2048x1024 1 × IVec S2048x1024 1 × IVec S64x64 1 × IVec S64x64 1 × IVec S64 1 × IVec S64x64x16 1 × IVec S64x64x16 1 × IVec S64x16x64 1 × IVec S64x16x64 1 × IVec S64x16 1 × IVec S64x64 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S64x64 .f32 := Host.absf main_arg2
  let main_cst_1 : FVec F S_ .f32 := constant S_ .f32 0x7F800000#32
  let main_v7 : FVec F S64x64 .f32 := broadcastInDim S64x64 ![] bcast_S_S64x64 main_cst_1
  let main_v8 : IVec S64x64 1 := cmpf .olt main_v6 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64x64x16 .f32 := Host.absf main_arg5
  let main_cst_4 : FVec F S_ .f32 := constant S_ .f32 0x7F800000#32
  let main_v16 : FVec F S64x64x16 .f32 := broadcastInDim S64x64x16 ![] bcast_S_S64x64x16 main_cst_4
  let main_v17 : IVec S64x64x16 1 := cmpf .olt main_v15 main_v16
  fn_part1 (F := F) main_arg2 main_arg3 main_arg6 main_arg7 main_arg8 main_arg9 main_v2 main_v5 main_v8 main_v11 main_v14 main_v17
-- ==== Kernel.lean ====
abbrev S2048x1024 : Shape := ⟨2, ![2048, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16 : Shape := ⟨2, ![64, 16]⟩
abbrev S64x1 : Shape := ⟨2, ![64, 1]⟩
abbrev S_ : Shape := ⟨0, ![]⟩
abbrev S64x64x1 : Shape := ⟨3, ![64, 64, 1]⟩
abbrev S8x8x64x16 : Shape := ⟨4, ![8, 8, 64, 16]⟩
abbrev S8x8x16x64 : Shape := ⟨4, ![8, 8, 16, 64]⟩
abbrev S8x8 : Shape := ⟨2, ![8, 8]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S1x4096 : Shape := ⟨2, ![1, 4096]⟩
abbrev S1x1024 : Shape := ⟨2, ![1, 1024]⟩
abbrev S2048x128 : Shape := ⟨2, ![2048, 128]⟩
abbrev S1x128x512 : Shape := ⟨3, ![1, 128, 512]⟩
abbrev S1x512x128 : Shape := ⟨3, ![1, 512, 128]⟩
abbrev S1x512 : Shape := ⟨2, ![1, 512]⟩
abbrev S1x128 : Shape := ⟨2, ![1, 128]⟩
abbrev S2048x512 : Shape := ⟨2, ![2048, 512]⟩
abbrev S128x512 : Shape := ⟨2, ![128, 512]⟩
abbrev S8x512 : Shape := ⟨2, ![8, 512]⟩
abbrev S512x128 : Shape := ⟨2, ![512, 128]⟩
abbrev S128 : Shape := ⟨1, ![128]⟩
abbrev S512x512 : Shape := ⟨2, ![512, 512]⟩
abbrev S512 : Shape := ⟨1, ![512]⟩

abbrev nBuf : Space → Nat
  | .hbm => 298
  | .vmem => 64
  | .smem => 0
  | _ => 0

abbrev hbmTy0_0 (i : Nat) : BufTy := match i % 128 with
  | 0 => ⟨S2048x1024, .f32⟩
  | 1 => ⟨S2048x1024, .f32⟩
  | 2 => ⟨S64x64, .f32⟩
  | 3 => ⟨S64x64, .f32⟩
  | 4 => ⟨S64, .f32⟩
  | 5 => ⟨S64x64x16, .f32⟩
  | 6 => ⟨S64x64x16, .f32⟩
  | 7 => ⟨S64x16x64, .f32⟩
  | 8 => ⟨S64x16x64, .f32⟩
  | 9 => ⟨S64x16, .f32⟩
  | 10 => ⟨S64, .f32⟩
  | 11 => ⟨S64x1, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S_, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64x1, .f32⟩
  | 49 => ⟨S64x64x1, .f32⟩
  | 50 => ⟨S64x64x16, .f32⟩
  | 51 => ⟨S64x64x16, .f32⟩
  | 52 => ⟨S64x64x16, .f32⟩
  | 53 => ⟨S64x64x16, .f32⟩
  | 54 => ⟨S64x64x16, .f32⟩
  | 55 => ⟨S64x64x16, .f32⟩
  | 56 => ⟨S64x64x16, .f32⟩
  | 57 => ⟨S64x64x16, .f32⟩
  | 58 => ⟨S64x64x16, .f32⟩
  | 59 => ⟨S64x64x16, .f32⟩
  | 60 => ⟨S8x8x64x16, .f32⟩
  | 61 => ⟨S8x8x16x64, .f32⟩
  | 62 => ⟨S8x8, .i32⟩
  | 63 => ⟨S8x8, .i32⟩
  | 64 => ⟨S_, .i32⟩
  | 65 => ⟨S8x8, .i32⟩
  | 66 => ⟨S8x8, .i32⟩
  | 67 => ⟨S8x8, .i1⟩
  | 68 => ⟨S8x8, .f32⟩
  | 69 => ⟨S8x8x16x1x64, .f32⟩
  | 70 => ⟨S1x8x1x8x1, .f32⟩
  | 71 => ⟨S8x8x16x8x64, .f32⟩
  | 72 => ⟨S8x8x16x8x64, .f32⟩
  | 73 => ⟨S8x8x16x8x64, .f32⟩
  | 74 => ⟨S8x128x512, .f32⟩
  | 75 => ⟨S8x8x64x16, .f32⟩
  | 76 => ⟨S8x8x16x64, .f32⟩
  | 77 => ⟨S8x8, .i32⟩
  | 78 => ⟨S8x8, .i32⟩
  | 79 => ⟨S_, .i32⟩
  | 80 => ⟨S8x8, .i32⟩
  | 81 => ⟨S8x8, .i32⟩
  | 82 => ⟨S8x8, .i1⟩
  | 83 => ⟨S8x8, .f32⟩
  | 84 => ⟨S8x8x16x1x64, .f32⟩
  | 85 => ⟨S1x8x1x8x1, .f32⟩
  | 86 => ⟨S8x8x16x8x64, .f32⟩
  | 87 => ⟨S8x8x16x8x64, .f32⟩
  | 88 => ⟨S8x8x16x8x64, .f32⟩
  | 89 => ⟨S8x128x512, .f32⟩
  | 90 => ⟨S8x8x16x64, .f32⟩
  | 91 => ⟨S8x8x64x16, .f32⟩
  | 92 => ⟨S8x8, .i32⟩
  | 93 => ⟨S8x8, .i32⟩
  | 94 => ⟨S_, .i32⟩
  | 95 => ⟨S8x8, .i32⟩
  | 96 => ⟨S8x8, .i32⟩
  | 97 => ⟨S8x8, .i1⟩
  | 98 => ⟨S8x8, .f32⟩
  | 99 => ⟨S8x8x64x1x16, .f32⟩
  | 100 => ⟨S1x8x1x8x1, .f32⟩
  | 101 => ⟨S8x8x64x8x16, .f32⟩
  | 102 => ⟨S8x8x64x8x16, .f32⟩
  | 103 => ⟨S8x8x64x8x16, .f32⟩
  | 104 => ⟨S8x512x128, .f32⟩
  | 105 => ⟨S8x8x16x64, .f32⟩
  | 106 => ⟨S8x8x64x16, .f32⟩
  | 107 => ⟨S8x8, .i32⟩
  | 108 => ⟨S8x8, .i32⟩
  | 109 => ⟨S_, .i32⟩
  | 110 => ⟨S8x8, .i32⟩
  | 111 => ⟨S8x8, .i32⟩
  | 112 => ⟨S8x8, .i1⟩
  | 113 => ⟨S8x8, .f32⟩
  | 114 => ⟨S8x8x64x1x16, .f32⟩
  | 115 => ⟨S1x8x1x8x1, .f32⟩
  | 116 => ⟨S8x8x64x8x16, .f32⟩
  | 117 => ⟨S8x8x64x8x16, .f32⟩
  | 118 => ⟨S8x8x64x8x16, .f32⟩
  | 119 => ⟨S8x512x128, .f32⟩
  | 120 => ⟨S1x4096, .f32⟩
  | 121 => ⟨S1x4096, .f32⟩
  | 122 => ⟨S1x1024, .f32⟩
  | 123 => ⟨S2048x1024, .f32⟩
  | 124 => ⟨S2048x1024, .f32⟩
  | 125 => ⟨S2048x1024, .bf16⟩
  | 126 => ⟨S2048x1024, .bf16⟩
  | 127 => ⟨S8x128x512, .f32⟩
  | _ => ⟨S2048x1024, .f32⟩

abbrev hbmTy0_1 (i : Nat) : BufTy := match i % 128 with
  | 0 => ⟨S8x128x512, .f32⟩
  | 1 => ⟨S8x512x128, .f32⟩
  | 2 => ⟨S8x512x128, .f32⟩
  | 3 => ⟨S1x4096, .f32⟩
  | 4 => ⟨S1x4096, .f32⟩
  | 5 => ⟨S1x1024, .f32⟩
  | 6 => ⟨S64x64, .f32⟩
  | 7 => ⟨S64x64, .f32⟩
  | 8 => ⟨S8x8x16x8x64, .f32⟩
  | 9 => ⟨S8x8, .i32⟩
  | 10 => ⟨S8x8, .i32⟩
  | 11 => ⟨S_, .i32⟩
  | 12 => ⟨S8x8, .i32⟩
  | 13 => ⟨S8x8, .i32⟩
  | 14 => ⟨S8x8, .i1⟩
  | 15 => ⟨S8x8, .f32⟩
  | 16 => ⟨S1x8x1x8x1, .f32⟩
  | 17 => ⟨S8x8x16x8x64, .f32⟩
  | 18 => ⟨S8x8x16x8x64, .f32⟩
  | 19 => ⟨S_, .f32⟩
  | 20 => ⟨S8x8x16x64, .f32⟩
  | 21 => ⟨S8x8x64x16, .f32⟩
  | 22 => ⟨S64x64x16, .f32⟩
  | 23 => ⟨S8x8x16x8x64, .f32⟩
  | 24 => ⟨S8x8, .i32⟩
  | 25 => ⟨S8x8, .i32⟩
  | 26 => ⟨S_, .i32⟩
  | 27 => ⟨S8x8, .i32⟩
  | 28 => ⟨S8x8, .i32⟩
  | 29 => ⟨S8x8, .i1⟩
  | 30 => ⟨S8x8, .f32⟩
  | 31 => ⟨S1x8x1x8x1, .f32⟩
  | 32 => ⟨S8x8x16x8x64, .f32⟩
  | 33 => ⟨S8x8x16x8x64, .f32⟩
  | 34 => ⟨S_, .f32⟩
  | 35 => ⟨S8x8x16x64, .f32⟩
  | 36 => ⟨S8x8x64x16, .f32⟩
  | 37 => ⟨S64x64x16, .f32⟩
  | 38 => ⟨S64x64x16, .f32⟩
  | 39 => ⟨S64x64x16, .f32⟩
  | 40 => ⟨S64x64x16, .f32⟩
  | 41 => ⟨S_, .f32⟩
  | 42 => ⟨S64x64, .f32⟩
  | 43 => ⟨S64x64x1, .f32⟩
  | 44 => ⟨S64x64x16, .f32⟩
  | 45 => ⟨S64x64x16, .f32⟩
  | 46 => ⟨S64x64x16, .f32⟩
  | 47 => ⟨S_, .f32⟩
  | 48 => ⟨S64x64, .f32⟩
  | 49 => ⟨S64x64x1, .f32⟩
  | 50 => ⟨S64x64x16, .f32⟩
  | 51 => ⟨S64x64x16, .f32⟩
  | 52 => ⟨S64x64x16, .f32⟩
  | 53 => ⟨S64x64x16, .f32⟩
  | 54 => ⟨S64x64x16, .f32⟩
  | 55 => ⟨S_, .f32⟩
  | 56 => ⟨S64x64, .f32⟩
  | 57 => ⟨S64x64x1, .f32⟩
  | 58 => ⟨S64x64x1, .f32⟩
  | 59 => ⟨S64x64x16, .f32⟩
  | 60 => ⟨S64x64x16, .f32⟩
  | 61 => ⟨S64x64x16, .f32⟩
  | 62 => ⟨S64x64x16, .f32⟩
  | 63 => ⟨S_, .f32⟩
  | 64 => ⟨S64x64, .f32⟩
  | 65 => ⟨S64x64x1, .f32⟩
  | 66 => ⟨S64x64x1, .f32⟩
  | 67 => ⟨S_, .f32⟩
  | 68 => ⟨S64x64, .f32⟩
  | 69 => ⟨S_, .f32⟩
  | 70 => ⟨S64x64, .f32⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S64x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S_, .f32⟩
  | 109 => ⟨S64, .f32⟩
  | 110 => ⟨S64x1, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S_, .f32⟩
  | 121 => ⟨S64, .f32⟩
  | 122 => ⟨S64x1, .f32⟩
  | 123 => ⟨S64x1, .f32⟩
  | 124 => ⟨S64x64, .f32⟩
  | 125 => ⟨S64x64, .f32⟩
  | 126 => ⟨S64x64, .f32⟩
  | 127 => ⟨S64x64, .f32⟩
  | _ => ⟨S2048x1024, .f32⟩

abbrev hbmTy0_2 (i : Nat) : BufTy := match i % 128 with
  | 0 => ⟨S64x64, .f32⟩
  | 1 => ⟨S_, .f32⟩
  | 2 => ⟨S64, .f32⟩
  | 3 => ⟨S64x1, .f32⟩
  | 4 => ⟨S64x1, .f32⟩
  | 5 => ⟨S64x64, .f32⟩
  | 6 => ⟨S64x64, .f32⟩
  | 7 => ⟨S64x64, .f32⟩
  | 8 => ⟨S_, .f32⟩
  | 9 => ⟨S64, .f32⟩
  | 10 => ⟨S64, .f32⟩
  | 11 => ⟨S8x8x64x8x16, .f32⟩
  | 12 => ⟨S8x8, .i32⟩
  | 13 => ⟨S8x8, .i32⟩
  | 14 => ⟨S_, .i32⟩
  | 15 => ⟨S8x8, .i32⟩
  | 16 => ⟨S8x8, .i32⟩
  | 17 => ⟨S8x8, .i1⟩
  | 18 => ⟨S8x8, .f32⟩
  | 19 => ⟨S1x8x1x8x1, .f32⟩
  | 20 => ⟨S8x8x64x8x16, .f32⟩
  | 21 => ⟨S8x8x64x8x16, .f32⟩
  | 22 => ⟨S_, .f32⟩
  | 23 => ⟨S8x8x64x16, .f32⟩
  | 24 => ⟨S8x8x16x64, .f32⟩
  | 25 => ⟨S64x16x64, .f32⟩
  | 26 => ⟨S8x8x64x8x16, .f32⟩
  | 27 => ⟨S8x8, .i32⟩
  | 28 => ⟨S8x8, .i32⟩
  | 29 => ⟨S_, .i32⟩
  | 30 => ⟨S8x8, .i32⟩
  | 31 => ⟨S8x8, .i32⟩
  | 32 => ⟨S8x8, .i1⟩
  | 33 => ⟨S8x8, .f32⟩
  | 34 => ⟨S1x8x1x8x1, .f32⟩
  | 35 => ⟨S8x8x64x8x16, .f32⟩
  | 36 => ⟨S8x8x64x8x16, .f32⟩
  | 37 => ⟨S_, .f32⟩
  | 38 => ⟨S8x8x64x16, .f32⟩
  | 39 => ⟨S8x8x16x64, .f32⟩
  | 40 => ⟨S64x16x64, .f32⟩
  | 41 => ⟨S64x16, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x128, .f32⟩
  | .local _ .vmem, ⟨15, _⟩ => ⟨S1x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .bf16⟩
  | .local _ .vmem, ⟨21, _⟩ => ⟨S2048x128, .bf16⟩
  | .local _ .vmem, ⟨22, _⟩ => ⟨S2048x512, .f32⟩
  | .local _ .vmem, ⟨23, _⟩ => ⟨S2048x512, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S1x128x512, .f32⟩
  | .local _ .vmem, ⟨31, _⟩ => ⟨S1x128x512, .f32⟩
  | .local _ .vmem, ⟨32, _⟩ => ⟨S1x128x512, .f32⟩
  | .local _ .vmem, ⟨33, _⟩ => ⟨S1x128x512, .f32⟩
  | .local _ .vmem, ⟨34, _⟩ => ⟨S1x512x128, .f32⟩
  | .local _ .vmem, ⟨35, _⟩ => ⟨S1x512x128, .f32⟩
  | .local _ .vmem, ⟨36, _⟩ => ⟨S1x512x128, .f32⟩
  | .local _ .vmem, ⟨37, _⟩ => ⟨S1x512x128, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S1x128, .f32⟩
  | .local _ .vmem, ⟨43, _⟩ => ⟨S1x128, .f32⟩
  | .local _ .vmem, ⟨44, _⟩ => ⟨S2048x128, .bf16⟩
  | .local _ .vmem, ⟨45, _⟩ => ⟨S2048x128, .bf16⟩
  | .local _ .vmem, ⟨46, _⟩ => ⟨S1x128x512, .f32⟩
  | .local _ .vmem, ⟨47, _⟩ => ⟨S1x128x512, .f32⟩
  | .local _ .vmem, ⟨48, _⟩ => ⟨S1x128x512, .f32⟩
  | .local _ .vmem, ⟨49, _⟩ => ⟨S1x128x512, .f32⟩
  | .local _ .vmem, ⟨50, _⟩ => ⟨S1x512x128, .f32⟩
  | .local _ .vmem, ⟨51, _⟩ => ⟨S1x512x128, .f32⟩
  | .local _ .vmem, ⟨52, _⟩ => ⟨S1x512x128, .f32⟩
  | .local _ .vmem, ⟨53, _⟩ => ⟨S1x512x128, .f32⟩
  | .local _ .vmem, ⟨54, _⟩ => ⟨S1x512, .f32⟩
  | .local _ .vmem, ⟨55, _⟩ => ⟨S1x512, .f32⟩
  | .local _ .vmem, ⟨56, _⟩ => ⟨S1x512, .f32⟩
  | .local _ .vmem, ⟨57, _⟩ => ⟨S1x512, .f32⟩
  | .local _ .vmem, ⟨58, _⟩ => ⟨S1x128, .f32⟩
  | .local _ .vmem, ⟨59, _⟩ => ⟨S1x128, .f32⟩
  | .local _ .vmem, ⟨60, _⟩ => ⟨S2048x512, .f32⟩
  | .local _ .vmem, ⟨61, _⟩ => ⟨S2048x512, .f32⟩
  | .local _ .vmem, ⟨62, _⟩ => ⟨S2048x512, .f32⟩
  | .local _ .vmem, ⟨63, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_2 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_c_3 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_c_4 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106_0 : Ref sig .tc := ⟨.hbm, 123, rfl⟩
abbrev main_v106_1 : Ref sig .tc := ⟨.hbm, 124, rfl⟩
abbrev main_v106_2 : Ref sig .tc := ⟨.hbm, 125, rfl⟩
abbrev main_v107_0 : Ref sig .tc := ⟨.hbm, 126, rfl⟩
abbrev main_v107_1 : Ref sig .tc := ⟨.hbm, 127, rfl⟩
abbrev main_v107_2 : Ref sig .tc := ⟨.hbm, 128, rfl⟩
abbrev main_v107_3 : Ref sig .tc := ⟨.hbm, 129, rfl⟩
abbrev main_v107_4 : Ref sig .tc := ⟨.hbm, 130, rfl⟩
abbrev main_v107_5 : Ref sig .tc := ⟨.hbm, 131, rfl⟩
abbrev main_v107_6 : Ref sig .tc := ⟨.hbm, 132, rfl⟩
abbrev main_v107_7 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_5 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_6 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_c_7 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_8 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_9 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_10 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_11 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_cst_12 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_13 : Ref sig .tc := ⟨.hbm, 195, rfl⟩
abbrev main_v161 : Ref sig .tc := ⟨.hbm, 196, rfl⟩
abbrev main_cst_14 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_cst_15 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_cst_16 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_cst_17 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_cst_18 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_c_19 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_cst_20 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_c_21 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_cst_22 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg6_1 : Ref sig .tc := ⟨.vmem, 37, rfl⟩
abbrev cc1_stg7_0 : Ref sig .tc := ⟨.vmem, 38, rfl⟩
abbrev cc1_stg7_1 : Ref sig .tc := ⟨.vmem, 39, rfl⟩
abbrev cc1_stg8_0 : Ref sig .tc := ⟨.vmem, 40, rfl⟩
abbrev cc1_stg8_1 : Ref sig .tc := ⟨.vmem, 41, rfl⟩
abbrev cc1_stg9_0 : Ref sig .tc := ⟨.vmem, 42, rfl⟩
abbrev cc1_stg9_1 : Ref sig .tc := ⟨.vmem, 43, rfl⟩
abbrev cc1_stg10_0 : Ref sig .tc := ⟨.vmem, 44, rfl⟩
abbrev cc1_stg10_1 : Ref sig .tc := ⟨.vmem, 45, rfl⟩
abbrev cc1_stg11_0 : Ref sig .tc := ⟨.vmem, 46, rfl⟩
abbrev cc1_stg11_1 : Ref sig .tc := ⟨.vmem, 47, rfl⟩
abbrev cc1_stg12_0 : Ref sig .tc := ⟨.vmem, 48, rfl⟩
abbrev cc1_stg12_1 : Ref sig .tc := ⟨.vmem, 49, rfl⟩
abbrev cc1_stg13_0 : Ref sig .tc := ⟨.vmem, 50, rfl⟩
abbrev cc1_stg13_1 : Ref sig .tc := ⟨.vmem, 51, rfl⟩
abbrev cc1_stg14_0 : Ref sig .tc := ⟨.vmem, 52, rfl⟩
abbrev cc1_stg14_1 : Ref sig .tc := ⟨.vmem, 53, rfl⟩
abbrev cc1_stg15_0 : Ref sig .tc := ⟨.vmem, 54, rfl⟩
abbrev cc1_stg15_1 : Ref sig .tc := ⟨.vmem, 55, rfl⟩
abbrev cc1_stg16_0 : Ref sig .tc := ⟨.vmem, 56, rfl⟩
abbrev cc1_stg16_1 : Ref sig .tc := ⟨.vmem, 57, rfl⟩
abbrev cc1_stg17_0 : Ref sig .tc := ⟨.vmem, 58, rfl⟩
abbrev cc1_stg17_1 : Ref sig .tc := ⟨.vmem, 59, rfl⟩
abbrev cc1_scratch0 : Ref sig .tc := ⟨.vmem, 60, rfl⟩
abbrev cc1_scratch1 : Ref sig .tc := ⟨.vmem, 61, rfl⟩
abbrev cc1_scratch2 : Ref sig .tc := ⟨.vmem, 62, rfl⟩
abbrev cc1_scratch3 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem6_1 : DmaSem sig := 35
abbrev cc1_sem7_0 : DmaSem sig := 36
abbrev cc1_sem7_1 : DmaSem sig := 37
abbrev cc1_sem8_0 : DmaSem sig := 38
abbrev cc1_sem8_1 : DmaSem sig := 39
abbrev cc1_sem9_0 : DmaSem sig := 40
abbrev cc1_sem9_1 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47
abbrev cc1_sem13_0 : DmaSem sig := 48
abbrev cc1_sem13_1 : DmaSem sig := 49
abbrev cc1_sem14_0 : DmaSem sig := 50
abbrev cc1_sem14_1 : DmaSem sig := 51
abbrev cc1_sem15_0 : DmaSem sig := 52
abbrev cc1_sem15_1 : DmaSem sig := 53
abbrev cc1_sem16_0 : DmaSem sig := 54
abbrev cc1_sem16_1 : DmaSem sig := 55
abbrev cc1_sem17_0 : DmaSem sig := 56
abbrev cc1_sem17_1 : DmaSem sig := 57

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c256_i32 : BitVec 32 := 256#32
  let v86 : BitVec 32 := Scalar.addi c0_i32 c256_i32
  let c1_i32_32 : BitVec 32 := 1#32
  ⟨c0_i32, v86, c1_i32_32⟩
def k0_mult1 (k0_t1 : Fin k0_t1_loop.trips) : BitVec 32 :=
  let c0_i32 : BitVec 32 := 0#32
  let c1_i32_32 : BitVec 32 := 1#32
  let arg14 : BitVec 32 := Scf.iv c0_i32 c1_i32_32 k0_t1
  let c8_i32 : BitVec 32 := 8#32
  let v123 : BitVec 32 := Scalar.muli arg14 c8_i32
  v123
def k0_off1 (k0_t1 : Fin k0_t1_loop.trips) : Fin 2 → Nat :=
  let c0_i32 : BitVec 32 := 0#32
  let c1_i32_32 : BitVec 32 := 1#32
  let arg14 : BitVec 32 := Scf.iv c0_i32 c1_i32_32 k0_t1
  let c8_i32 : BitVec 32 := 8#32
  let v123 : BitVec 32 := Scalar.muli arg14 c8_i32
  let v124 : BitVec 32 := v123
  let v125 : Index := Scalar.indexCast v124
  let c0_58 : Index := 0#32
  ![v125.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

@[reducible] def k1_t1_loop : Scf.Loop 32 :=
  let c0_i32 : BitVec 32 := 0#32
  let c256_i32 : BitVec 32 := 256#32
  let v128 : BitVec 32 := Scalar.addi c0_i32 c256_i32
  let c1_i32_52 : BitVec 32 := 1#32
  ⟨c0_i32, v128, c1_i32_52⟩
def k1_mult1 (k1_t1 : Fin k1_t1_loop.trips) : BitVec 32 :=
  let c0_i32 : BitVec 32 := 0#32
  let c1_i32_52 : BitVec 32 := 1#32
  let arg23 : BitVec 32 := Scf.iv c0_i32 c1_i32_52 k1_t1
  let c8_i32 : BitVec 32 := 8#32
  let v391 : BitVec 32 := Scalar.muli arg23 c8_i32
  v391
def k1_off1 (k1_t1 : Fin k1_t1_loop.trips) : Fin 2 → Nat :=
  let c0_i32 : BitVec 32 := 0#32
  let c1_i32_52 : BitVec 32 := 1#32
  let arg23 : BitVec 32 := Scf.iv c0_i32 c1_i32_52 k1_t1
  let c8_i32 : BitVec 32 := 8#32
  let v391 : BitVec 32 := Scalar.muli arg23 c8_i32
  let v392 : BitVec 32 := v391
  let v393 : Index := Scalar.indexCast v392
  let c0_178 : Index := 0#32
  ![v393.toNat, 0]
@[reducible] def k1_t2_loop : Scf.Loop 32 :=
  let c0_i32_79 : BitVec 32 := 0#32
  let c256_i32_80 : BitVec 32 := 256#32
  let v208 : BitVec 32 := Scalar.addi c0_i32_79 c256_i32_80
  let c1_i32_81 : BitVec 32 := 1#32
  ⟨c0_i32_79, v208, c1_i32_81⟩
def k1_mult2 (k1_t2 : Fin k1_t2_loop.trips) : BitVec 32 :=
  let c255_i32 : BitVec 32 := 255#32
  let c0_i32_79 : BitVec 32 := 0#32
  let c1_i32_81 : BitVec 32 := 1#32
  let arg23 : BitVec 32 := Scf.iv c0_i32_79 c1_i32_81 k1_t2
  let v391 : BitVec 32 := Scalar.subi c255_i32 arg23
  let c8_i32 : BitVec 32 := 8#32
  let v392 : BitVec 32 := Scalar.muli v391 c8_i32
  v392
def k1_off2 (k1_t2 : Fin k1_t2_loop.trips) : Fin 2 → Nat :=
  let c255_i32 : BitVec 32 := 255#32
  let c0_i32_79 : BitVec 32 := 0#32
  let c1_i32_81 : BitVec 32 := 1#32
  let arg23 : BitVec 32 := Scf.iv c0_i32_79 c1_i32_81 k1_t2
  let v391 : BitVec 32 := Scalar.subi c255_i32 arg23
  let c8_i32 : BitVec 32 := 8#32
  let v392 : BitVec 32 := Scalar.muli v391 c8_i32
  let v393 : BitVec 32 := v392
  let v394 : Index := Scalar.indexCast v393
  let c0_178 : Index := 0#32
  ![v394.toNat, 0]
def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x128x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x128x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x512x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1x512x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S1x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== ReferenceIdeal.lean ====
abbrev S2048x1024 : Shape := ⟨2, ![2048, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x16 : Shape := ⟨2, ![64, 16]⟩
abbrev S2048x64x16 : Shape := ⟨3, ![2048, 64, 16]⟩
abbrev S64x1 : Shape := ⟨2, ![64, 1]⟩
abbrev S_ : Shape := ⟨0, ![]⟩
abbrev S64x64x1 : Shape := ⟨3, ![64, 64, 1]⟩
abbrev S64x64x2048 : Shape := ⟨3, ![64, 64, 2048]⟩
abbrev S2048x64x64 : Shape := ⟨3, ![2048, 64, 64]⟩
abbrev S1x64x64 : Shape := ⟨3, ![1, 64, 64]⟩
abbrev S64x2048x16 : Shape := ⟨3, ![64, 2048, 16]⟩
abbrev S1x64x16 : Shape := ⟨3, ![1, 64, 16]⟩
abbrev S64x2048x64 : Shape := ⟨3, ![64, 2048, 64]⟩

abbrev nBuf : Space → Nat
  | .hbm => 386
  | .vmem => 0
  | .smem => 0
  | _ => 0

abbrev hbmTy0_0 (i : Nat) : BufTy := match i % 128 with
  | 0 => ⟨S2048x1024, .f32⟩
  | 1 => ⟨S2048x1024, .f32⟩
  | 2 => ⟨S64x64, .f32⟩
  | 3 => ⟨S64x64, .f32⟩
  | 4 => ⟨S64, .f32⟩
  | 5 => ⟨S64x64x16, .f32⟩
  | 6 => ⟨S64x64x16, .f32⟩
  | 7 => ⟨S64x16x64, .f32⟩
  | 8 => ⟨S64x16x64, .f32⟩
  | 9 => ⟨S64x16, .f32⟩
  | 10 => ⟨S2048x64x16, .f32⟩
  | 11 => ⟨S64, .f32⟩
  | 12 => ⟨S64x1, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S64x64, .f32⟩
  | 33 => ⟨S64x64, .f32⟩
  | 34 => ⟨S_, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64x1, .f32⟩
  | 50 => ⟨S64x64x1, .f32⟩
  | 51 => ⟨S64x64x16, .f32⟩
  | 52 => ⟨S64x64x16, .f32⟩
  | 53 => ⟨S64x64x16, .f32⟩
  | 54 => ⟨S64x64x16, .f32⟩
  | 55 => ⟨S64x64x16, .f32⟩
  | 56 => ⟨S64x64x16, .f32⟩
  | 57 => ⟨S64x64x16, .f32⟩
  | 58 => ⟨S64x64x16, .f32⟩
  | 59 => ⟨S64x64x16, .f32⟩
  | 60 => ⟨S64x64x16, .f32⟩
  | 61 => ⟨S64x64x2048, .f32⟩
  | 62 => ⟨S2048x64x64, .f32⟩
  | 63 => ⟨S64x64x2048, .f32⟩
  | 64 => ⟨S2048x64x64, .f32⟩
  | 65 => ⟨S_, .f32⟩
  | 66 => ⟨S64x64, .f32⟩
  | 67 => ⟨S_, .f32⟩
  | 68 => ⟨S2048x64x64, .f32⟩
  | 69 => ⟨S_, .f32⟩
  | 70 => ⟨S2048x64x64, .f32⟩
  | 71 => ⟨S_, .f32⟩
  | 72 => ⟨S2048x64x64, .f32⟩
  | 73 => ⟨S_, .f32⟩
  | 74 => ⟨S2048x64x64, .f32⟩
  | 75 => ⟨S_, .i32⟩
  | 76 => ⟨S2048x64x64, .f32⟩
  | 77 => ⟨S2048x64x64, .f32⟩
  | 78 => ⟨S64x64, .f32⟩
  | 79 => ⟨S64x64, .f32⟩
  | 80 => ⟨S_, .i32⟩
  | 81 => ⟨S64x64, .f32⟩
  | 82 => ⟨S64x64, .f32⟩
  | 83 => ⟨S2048x64x64, .f32⟩
  | 84 => ⟨S2048x64x64, .f32⟩
  | 85 => ⟨S2048x64x64, .f32⟩
  | 86 => ⟨S2048x64x64, .f32⟩
  | 87 => ⟨S_, .i32⟩
  | 88 => ⟨S_, .i1⟩
  | 89 => ⟨S_, .i32⟩
  | 90 => ⟨S_, .i32⟩
  | 91 => ⟨S1x64x64, .f32⟩
  | 92 => ⟨S64x64, .f32⟩
  | 93 => ⟨S_, .i32⟩
  | 94 => ⟨S_, .i32⟩
  | 95 => ⟨S1x64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S1x64x64, .f32⟩
  | 106 => ⟨S_, .i32⟩
  | 107 => ⟨S_, .i32⟩
  | 108 => ⟨S2048x64x64, .f32⟩
  | 109 => ⟨S1x64x64, .f32⟩
  | 110 => ⟨S_, .i32⟩
  | 111 => ⟨S_, .i32⟩
  | 112 => ⟨S2048x64x64, .f32⟩
  | 113 => ⟨S1x64x64, .f32⟩
  | 114 => ⟨S_, .i32⟩
  | 115 => ⟨S_, .i32⟩
  | 116 => ⟨S2048x64x64, .f32⟩
  | 117 => ⟨S1x64x64, .f32⟩
  | 118 => ⟨S_, .i32⟩
  | 119 => ⟨S_, .i32⟩
  | 120 => ⟨S2048x64x64, .f32⟩
  | 121 => ⟨S_, .i32⟩
  | 122 => ⟨S_, .i32⟩
  | 123 => ⟨S64x2048x16, .f32⟩
  | 124 => ⟨S2048x64x16, .f32⟩
  | 125 => ⟨S64x2048x16, .f32⟩
  | 126 => ⟨S2048x64x16, .f32⟩
  | 127 => ⟨S2048x64x16, .f32⟩
  | _ => ⟨S2048x1024, .f32⟩

abbrev hbmTy0_1 (i : Nat) : BufTy := match i % 128 with
  | 0 => ⟨S1x64x16, .f32⟩
  | 1 => ⟨S2048x64x16, .f32⟩
  | 2 => ⟨S2048x64x16, .f32⟩
  | 3 => ⟨S2048x64x16, .f32⟩
  | 4 => ⟨S2048x1024, .f32⟩
  | 5 => ⟨S2048x1024, .f32⟩
  | 6 => ⟨S2048x1024, .f32⟩
  | 7 => ⟨S2048x1024, .f32⟩
  | 8 => ⟨S_, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S2048x1024, .f32⟩
  | 19 => ⟨S_, .f32⟩
  | 20 => ⟨S2048x1024, .f32⟩
  | 21 => ⟨S2048x1024, .f32⟩
  | 22 => ⟨S_, .f32⟩
  | 23 => ⟨S2048x1024, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S2048x1024, .f32⟩
  | 33 => ⟨S_, .f32⟩
  | 34 => ⟨S64x64, .f32⟩
  | 35 => ⟨S_, .f32⟩
  | 36 => ⟨S64x64, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S2048x1024, .f32⟩
  | 43 => ⟨S_, .f32⟩
  | 44 => ⟨S2048x1024, .f32⟩
  | 45 => ⟨S2048x1024, .f32⟩
  | 46 => ⟨S2048x1024, .f32⟩
  | 47 => ⟨S_, .f32⟩
  | 48 => ⟨S2048x1024, .f32⟩
  | 49 => ⟨S2048x1024, .f32⟩
  | 50 => ⟨S2048x1024, .f32⟩
  | 51 => ⟨S2048x1024, .f32⟩
  | 52 => ⟨S2048x64x16, .f32⟩
  | 53 => ⟨S2048x64x16, .f32⟩
  | 54 => ⟨S2048x64x16, .f32⟩
  | 55 => ⟨S2048x64x16, .f32⟩
  | 56 => ⟨S_, .f32⟩
  | 57 => ⟨S64x16, .f32⟩
  | 58 => ⟨S1x64x16, .f32⟩
  | 59 => ⟨S_, .f32⟩
  | 60 => ⟨S64x16, .f32⟩
  | 61 => ⟨S2048x64x16, .f32⟩
  | 62 => ⟨S64x2048x16, .f32⟩
  | 63 => ⟨S64x16x64, .f32⟩
  | 64 => ⟨S64x2048x64, .f32⟩
  | 65 => ⟨S2048x64x64, .f32⟩
  | 66 => ⟨S64x2048x16, .f32⟩
  | 67 => ⟨S64x16x64, .f32⟩
  | 68 => ⟨S64x2048x64, .f32⟩
  | 69 => ⟨S2048x64x64, .f32⟩
  | 70 => ⟨S_, .f32⟩
  | 71 => ⟨S64x64, .f32⟩
  | 72 => ⟨S_, .f32⟩
  | 73 => ⟨S64x64, .f32⟩
  | 74 => ⟨S_, .f32⟩
  | 75 => ⟨S64x64, .f32⟩
  | 76 => ⟨S_, .f32⟩
  | 77 => ⟨S64x64, .f32⟩
  | 78 => ⟨S_, .f32⟩
  | 79 => ⟨S2048x64x64, .f32⟩
  | 80 => ⟨S_, .f32⟩
  | 81 => ⟨S2048x64x64, .f32⟩
  | 82 => ⟨S_, .i32⟩
  | 83 => ⟨S2048x64x64, .f32⟩
  | 84 => ⟨S2048x64x64, .f32⟩
  | 85 => ⟨S2048x64x64, .f32⟩
  | 86 => ⟨S2048x64x64, .f32⟩
  | 87 => ⟨S64x64, .f32⟩
  | 88 => ⟨S64x64, .f32⟩
  | 89 => ⟨S_, .i32⟩
  | 90 => ⟨S64x64, .f32⟩
  | 91 => ⟨S64x64, .f32⟩
  | 92 => ⟨S64x64, .f32⟩
  | 93 => ⟨S64x64, .f32⟩
  | 94 => ⟨S2048x64x64, .f32⟩
  | 95 => ⟨S2048x64x64, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S1x64x64, .f32⟩
  | 105 => ⟨S64x64, .f32⟩
  | 106 => ⟨S_, .i32⟩
  | 107 => ⟨S_, .i32⟩
  | 108 => ⟨S1x64x64, .f32⟩
  | 109 => ⟨S64x64, .f32⟩
  | 110 => ⟨S_, .i32⟩
  | 111 => ⟨S_, .i32⟩
  | 112 => ⟨S1x64x64, .f32⟩
  | 113 => ⟨S64x64, .f32⟩
  | 114 => ⟨S_, .i32⟩
  | 115 => ⟨S_, .i32⟩
  | 116 => ⟨S1x64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S2048x1024, .f32⟩

abbrev hbmTy0_2 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S1x64x64, .f32⟩
  | 8 => ⟨S_, .i32⟩
  | 9 => ⟨S_, .i32⟩
  | 10 => ⟨S2048x64x64, .f32⟩
  | 11 => ⟨S1x64x64, .f32⟩
  | 12 => ⟨S_, .i32⟩
  | 13 => ⟨S_, .i32⟩
  | 14 => ⟨S2048x64x64, .f32⟩
  | 15 => ⟨S_, .i32⟩
  | 16 => ⟨S_, .i32⟩
  | 17 => ⟨S64x64x2048, .f32⟩
  | 18 => ⟨S64x2048x16, .f32⟩
  | 19 => ⟨S2048x64x16, .f32⟩
  | 20 => ⟨S2048x64x16, .f32⟩
  | 21 => ⟨S64x64x16, .f32⟩
  | 22 => ⟨S64x64x2048, .f32⟩
  | 23 => ⟨S64x2048x16, .f32⟩
  | 24 => ⟨S2048x64x16, .f32⟩
  | 25 => ⟨S2048x64x16, .f32⟩
  | 26 => ⟨S64x64x16, .f32⟩
  | 27 => ⟨S64x64x16, .f32⟩
  | 28 => ⟨S64x64x16, .f32⟩
  | 29 => ⟨S64x64x16, .f32⟩
  | 30 => ⟨S_, .f32⟩
  | 31 => ⟨S64x64, .f32⟩
  | 32 => ⟨S64x64x1, .f32⟩
  | 33 => ⟨S64x64x16, .f32⟩
  | 34 => ⟨S64x64x16, .f32⟩
  | 35 => ⟨S64x64x16, .f32⟩
  | 36 => ⟨S_, .f32⟩
  | 37 => ⟨S64x64, .f32⟩
  | 38 => ⟨S64x64x1, .f32⟩
  | 39 => ⟨S64x64x16, .f32⟩
  | 40 => ⟨S64x64x16, .f32⟩
  | 41 => ⟨S64x64x16, .f32⟩
  | 42 => ⟨S64x64x16, .f32⟩
  | 43 => ⟨S64x64x16, .f32⟩
  | 44 => ⟨S_, .f32⟩
  | 45 => ⟨S64x64, .f32⟩
  | 46 => ⟨S64x64x1, .f32⟩
  | 47 => ⟨S64x64x1, .f32⟩
  | 48 => ⟨S64x64x16, .f32⟩
  | 49 => ⟨S64x64x16, .f32⟩
  | 50 => ⟨S64x64x16, .f32⟩
  | 51 => ⟨S64x64x16, .f32⟩
  | 52 => ⟨S_, .f32⟩
  | 53 => ⟨S64x64, .f32⟩
  | 54 => ⟨S64x64x1, .f32⟩
  | 55 => ⟨S64x64x1, .f32⟩
  | 56 => ⟨S_, .f32⟩
  | 57 => ⟨S64x64, .f32⟩
  | 58 => ⟨S_, .f32⟩
  | 59 => ⟨S64x64, .f32⟩
  | 60 => ⟨S64x64, .f32⟩
  | 61 => ⟨S64x64, .f32⟩
  | 62 => ⟨S64x64, .f32⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S64x64, .f32⟩
  | 69 => ⟨S64x64, .f32⟩
  | 70 => ⟨S64x64, .f32⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S64x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S_, .f32⟩
  | 98 => ⟨S64, .f32⟩
  | 99 => ⟨S64x1, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S_, .f32⟩
  | 110 => ⟨S64, .f32⟩
  | 111 => ⟨S64x1, .f32⟩
  | 112 => ⟨S64x1, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S_, .f32⟩
  | 119 => ⟨S64, .f32⟩
  | 120 => ⟨S64x1, .f32⟩
  | 121 => ⟨S64x1, .f32⟩
  | 122 => ⟨S64x64, .f32⟩
  | 123 => ⟨S64x64, .f32⟩
  | 124 => ⟨S64x64, .f32⟩
  | 125 => ⟨S_, .f32⟩
  | 126 => ⟨S64, .f32⟩
  | 127 => ⟨S64, .f32⟩
  | _ => ⟨S2048x1024, .f32⟩

abbrev hbmTy0_3 (i : Nat) : BufTy := match i % 128 with
  | 0 => ⟨S2048x1024, .f32⟩
  | 1 => ⟨S2048x1024, .bf16⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_2 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_c : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev main_v57_3 : Ref sig .tc := ⟨.hbm, 79, rfl⟩
abbrev main_v57_4 : Ref sig .tc := ⟨.hbm, 80, rfl⟩
abbrev main_v57_5 : Ref sig .tc := ⟨.hbm, 81, rfl⟩
abbrev main_v57_6 : Ref sig .tc := ⟨.hbm, 82, rfl⟩
abbrev main_v57_7 : Ref sig .tc := ⟨.hbm, 83, rfl⟩
abbrev main_v57_8 : Ref sig .tc := ⟨.hbm, 84, rfl⟩
abbrev main_v57_9 : Ref sig .tc := ⟨.hbm, 85, rfl⟩
abbrev main_v57_10 : Ref sig .tc := ⟨.hbm, 86, rfl⟩
abbrev main_while0c_c_48 : Ref sig .tc := ⟨.hbm, 87, rfl⟩
abbrev main_while0c_v229 : Ref sig .tc := ⟨.hbm, 88, rfl⟩
abbrev main_while0b_call0_c : Ref sig .tc := ⟨.hbm, 89, rfl⟩
abbrev main_while0b_call0_c_0 : Ref sig .tc := ⟨.hbm, 90, rfl⟩
abbrev main_while0b_call0_v0 : Ref sig .tc := ⟨.hbm, 91, rfl⟩
abbrev main_while0b_v229 : Ref sig .tc := ⟨.hbm, 92, rfl⟩
abbrev main_while0b_call1_c : Ref sig .tc := ⟨.hbm, 93, rfl⟩
abbrev main_while0b_call1_c_0 : Ref sig .tc := ⟨.hbm, 94, rfl⟩
abbrev main_while0b_call1_v0 : Ref sig .tc := ⟨.hbm, 95, rfl⟩
abbrev main_while0b_v230 : Ref sig .tc := ⟨.hbm, 96, rfl⟩
abbrev main_while0b_v231 : Ref sig .tc := ⟨.hbm, 97, rfl⟩
abbrev main_while0b_v232 : Ref sig .tc := ⟨.hbm, 98, rfl⟩
abbrev main_while0b_v233 : Ref sig .tc := ⟨.hbm, 99, rfl⟩
abbrev main_while0b_v234 : Ref sig .tc := ⟨.hbm, 100, rfl⟩
abbrev main_while0b_v235 : Ref sig .tc := ⟨.hbm, 101, rfl⟩
abbrev main_while0b_v236 : Ref sig .tc := ⟨.hbm, 102, rfl⟩
abbrev main_while0b_v237 : Ref sig .tc := ⟨.hbm, 103, rfl⟩
abbrev main_while0b_v238 : Ref sig .tc := ⟨.hbm, 104, rfl⟩
abbrev main_while0b_call2_v0 : Ref sig .tc := ⟨.hbm, 105, rfl⟩
abbrev main_while0b_call2_c : Ref sig .tc := ⟨.hbm, 106, rfl⟩
abbrev main_while0b_call2_c_0 : Ref sig .tc := ⟨.hbm, 107, rfl⟩
abbrev main_while0b_v239 : Ref sig .tc := ⟨.hbm, 108, rfl⟩
abbrev main_while0b_call3_v0 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_v240 : Ref sig .tc := ⟨.hbm, 112, rfl⟩
abbrev main_while0b_call4_v0 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_v241 : Ref sig .tc := ⟨.hbm, 116, rfl⟩
abbrev main_while0b_call5_v0 : Ref sig .tc := ⟨.hbm, 117, rfl⟩
abbrev main_while0b_call5_c : Ref sig .tc := ⟨.hbm, 118, rfl⟩
abbrev main_while0b_call5_c_0 : Ref sig .tc := ⟨.hbm, 119, rfl⟩
abbrev main_while0b_v242 : Ref sig .tc := ⟨.hbm, 120, rfl⟩
abbrev main_while0b_c_48 : Ref sig .tc := ⟨.hbm, 121, rfl⟩
abbrev main_while0b_v243 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_cst_7 : Ref sig .tc := ⟨.hbm, 136, rfl⟩
abbrev main_v71 : Ref sig .tc := ⟨.hbm, 137, rfl⟩
abbrev main_v72 : Ref sig .tc := ⟨.hbm, 138, rfl⟩
abbrev main_cst_8 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_9 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_cst_10 : Ref sig .tc := ⟨.hbm, 147, rfl⟩
abbrev main_v79 : Ref sig .tc := ⟨.hbm, 148, rfl⟩
abbrev main_v80 : Ref sig .tc := ⟨.hbm, 149, rfl⟩
abbrev main_cst_11 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_cst_12 : Ref sig .tc := ⟨.hbm, 154, rfl⟩
abbrev main_v84 : Ref sig .tc := ⟨.hbm, 155, rfl⟩
abbrev main_v85 : Ref sig .tc := ⟨.hbm, 156, rfl⟩
abbrev main_cst_13 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_cst_14 : Ref sig .tc := ⟨.hbm, 161, rfl⟩
abbrev main_v89 : Ref sig .tc := ⟨.hbm, 162, rfl⟩
abbrev main_cst_15 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_cst_16 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_cst_17 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_cst_18 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_cst_19 : Ref sig .tc := ⟨.hbm, 184, rfl⟩
abbrev main_v107 : Ref sig .tc := ⟨.hbm, 185, rfl⟩
abbrev main_v108 : Ref sig .tc := ⟨.hbm, 186, rfl⟩
abbrev main_cst_20 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_cst_21 : Ref sig .tc := ⟨.hbm, 198, rfl⟩
abbrev main_v119 : Ref sig .tc := ⟨.hbm, 199, rfl⟩
abbrev main_cst_22 : Ref sig .tc := ⟨.hbm, 200, rfl⟩
abbrev main_v120 : Ref sig .tc := ⟨.hbm, 201, rfl⟩
abbrev main_cst_23 : Ref sig .tc := ⟨.hbm, 202, rfl⟩
abbrev main_v121 : Ref sig .tc := ⟨.hbm, 203, rfl⟩
abbrev main_cst_24 : Ref sig .tc := ⟨.hbm, 204, rfl⟩
abbrev main_v122 : Ref sig .tc := ⟨.hbm, 205, rfl⟩
abbrev main_cst_25 : Ref sig .tc := ⟨.hbm, 206, rfl⟩
abbrev main_v123 : Ref sig .tc := ⟨.hbm, 207, rfl⟩
abbrev main_cst_26 : Ref sig .tc := ⟨.hbm, 208, rfl⟩
abbrev main_v124 : Ref sig .tc := ⟨.hbm, 209, rfl⟩
abbrev main_c_27 : Ref sig .tc := ⟨.hbm, 210, rfl⟩
abbrev main_v125_0 : Ref sig .tc := ⟨.hbm, 211, rfl⟩
abbrev main_v125_1 : Ref sig .tc := ⟨.hbm, 212, rfl⟩
abbrev main_v125_2 : Ref sig .tc := ⟨.hbm, 213, rfl⟩
abbrev main_v125_3 : Ref sig .tc := ⟨.hbm, 214, rfl⟩
abbrev main_v125_4 : Ref sig .tc := ⟨.hbm, 215, rfl⟩
abbrev main_v125_5 : Ref sig .tc := ⟨.hbm, 216, rfl⟩
abbrev main_v125_6 : Ref sig .tc := ⟨.hbm, 217, rfl⟩
abbrev main_v125_7 : Ref sig .tc := ⟨.hbm, 218, rfl⟩
abbrev main_v125_8 : Ref sig .tc := ⟨.hbm, 219, rfl⟩
abbrev main_v125_9 : Ref sig .tc := ⟨.hbm, 220, rfl⟩
abbrev main_v125_10 : Ref sig .tc := ⟨.hbm, 221, rfl⟩
abbrev main_v125_11 : Ref sig .tc := ⟨.hbm, 222, rfl⟩
abbrev main_v125_12 : Ref sig .tc := ⟨.hbm, 223, rfl⟩
abbrev main_while1c_c_50 : Ref sig .tc := ⟨.hbm, 224, rfl⟩
abbrev main_while1c_v229 : Ref sig .tc := ⟨.hbm, 225, rfl⟩
abbrev main_while1b_c_50 : Ref sig .tc := ⟨.hbm, 226, rfl⟩
abbrev main_while1b_v229 : Ref sig .tc := ⟨.hbm, 227, rfl⟩
abbrev main_while1b_c_51 : Ref sig .tc := ⟨.hbm, 228, rfl⟩
abbrev main_while1b_v230 : Ref sig .tc := ⟨.hbm, 229, rfl⟩
abbrev main_while1b_call6_c : Ref sig .tc := ⟨.hbm, 230, rfl⟩
abbrev main_while1b_call6_c_0 : Ref sig .tc := ⟨.hbm, 231, rfl⟩
abbrev main_while1b_call6_v0 : Ref sig .tc := ⟨.hbm, 232, rfl⟩
abbrev main_while1b_v231 : Ref sig .tc := ⟨.hbm, 233, rfl⟩
abbrev main_while1b_call7_c : Ref sig .tc := ⟨.hbm, 234, rfl⟩
abbrev main_while1b_call7_c_0 : Ref sig .tc := ⟨.hbm, 235, rfl⟩
abbrev main_while1b_call7_v0 : Ref sig .tc := ⟨.hbm, 236, rfl⟩
abbrev main_while1b_v232 : Ref sig .tc := ⟨.hbm, 237, rfl⟩
abbrev main_while1b_call8_c : Ref sig .tc := ⟨.hbm, 238, rfl⟩
abbrev main_while1b_call8_c_0 : Ref sig .tc := ⟨.hbm, 239, rfl⟩
abbrev main_while1b_call8_v0 : Ref sig .tc := ⟨.hbm, 240, rfl⟩
abbrev main_while1b_v233 : Ref sig .tc := ⟨.hbm, 241, rfl⟩
abbrev main_while1b_call9_c : Ref sig .tc := ⟨.hbm, 242, rfl⟩
abbrev main_while1b_call9_c_0 : Ref sig .tc := ⟨.hbm, 243, rfl⟩
abbrev main_while1b_call9_v0 : Ref sig .tc := ⟨.hbm, 244, rfl⟩
abbrev main_while1b_v234 : Ref sig .tc := ⟨.hbm, 245, rfl⟩
abbrev main_while1b_v235 : Ref sig .tc := ⟨.hbm, 246, rfl⟩
abbrev main_while1b_v236 : Ref sig .tc := ⟨.hbm, 247, rfl⟩
abbrev main_while1b_v237 : Ref sig .tc := ⟨.hbm, 248, rfl⟩
abbrev main_while1b_v238 : Ref sig .tc := ⟨.hbm, 249, rfl⟩
abbrev main_while1b_v239 : Ref sig .tc := ⟨.hbm, 250, rfl⟩
abbrev main_while1b_v240 : Ref sig .tc := ⟨.hbm, 251, rfl⟩
abbrev main_while1b_v241 : Ref sig .tc := ⟨.hbm, 252, rfl⟩
abbrev main_while1b_v242 : Ref sig .tc := ⟨.hbm, 253, rfl⟩
abbrev main_while1b_v243 : Ref sig .tc := ⟨.hbm, 254, rfl⟩
abbrev main_while1b_v244 : Ref sig .tc := ⟨.hbm, 255, rfl⟩
abbrev main_while1b_v245 : Ref sig .tc := ⟨.hbm, 256, rfl⟩
abbrev main_while1b_v246 : Ref sig .tc := ⟨.hbm, 257, rfl⟩
abbrev main_while1b_v247 : Ref sig .tc := ⟨.hbm, 258, rfl⟩
abbrev main_while1b_v248 : Ref sig .tc := ⟨.hbm, 259, rfl⟩
abbrev main_while1b_v249 : Ref sig .tc := ⟨.hbm, 260, rfl⟩
abbrev main_while1b_v250 : Ref sig .tc := ⟨.hbm, 261, rfl⟩
abbrev main_while1b_v251 : Ref sig .tc := ⟨.hbm, 262, rfl⟩
abbrev main_while1b_call10_v0 : Ref sig .tc := ⟨.hbm, 263, rfl⟩
abbrev main_while1b_call10_c : Ref sig .tc := ⟨.hbm, 264, rfl⟩
abbrev main_while1b_call10_c_0 : Ref sig .tc := ⟨.hbm, 265, rfl⟩
abbrev main_while1b_v252 : Ref sig .tc := ⟨.hbm, 266, rfl⟩
abbrev main_while1b_call11_v0 : Ref sig .tc := ⟨.hbm, 267, rfl⟩
abbrev main_while1b_call11_c : Ref sig .tc := ⟨.hbm, 268, rfl⟩
abbrev main_while1b_call11_c_0 : Ref sig .tc := ⟨.hbm, 269, rfl⟩
abbrev main_while1b_v253 : Ref sig .tc := ⟨.hbm, 270, rfl⟩
abbrev main_while1b_c_52 : Ref sig .tc := ⟨.hbm, 271, rfl⟩
abbrev main_while1b_v254 : Ref sig .tc := ⟨.hbm, 272, rfl⟩
abbrev main_v126 : Ref sig .tc := ⟨.hbm, 273, rfl⟩
abbrev main_v127 : Ref sig .tc := ⟨.hbm, 274, rfl⟩
abbrev main_v128 : Ref sig .tc := ⟨.hbm, 275, rfl⟩
abbrev main_v129 : Ref sig .tc := ⟨.hbm, 276, rfl⟩
abbrev main_v130 : Ref sig .tc := ⟨.hbm, 277, rfl⟩
abbrev main_v131 : Ref sig .tc := ⟨.hbm, 278, rfl⟩
abbrev main_v132 : Ref sig .tc := ⟨.hbm, 279, rfl⟩
abbrev main_v133 : Ref sig .tc := ⟨.hbm, 280, rfl⟩
abbrev main_v134 : Ref sig .tc := ⟨.hbm, 281, rfl⟩
abbrev main_v135 : Ref sig .tc := ⟨.hbm, 282, rfl⟩
abbrev main_v136 : Ref sig .tc := ⟨.hbm, 283, rfl⟩
abbrev main_v137 : Ref sig .tc := ⟨.hbm, 284, rfl⟩
abbrev main_v138 : Ref sig .tc := ⟨.hbm, 285, rfl⟩
abbrev main_cst_28 : Ref sig .tc := ⟨.hbm, 286, rfl⟩
abbrev main_v139 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_v143 : Ref sig .tc := ⟨.hbm, 291, rfl⟩
abbrev main_cst_29 : Ref sig .tc := ⟨.hbm, 292, rfl⟩
abbrev main_v144 : Ref sig .tc := ⟨.hbm, 293, rfl⟩
abbrev main_v145 : Ref sig .tc := ⟨.hbm, 294, rfl⟩
abbrev main_v146 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_v150 : Ref sig .tc := ⟨.hbm, 299, rfl⟩
abbrev main_cst_30 : Ref sig .tc := ⟨.hbm, 300, rfl⟩
abbrev main_v151 : Ref sig .tc := ⟨.hbm, 301, rfl⟩
abbrev main_v152 : Ref sig .tc := ⟨.hbm, 302, rfl⟩
abbrev main_v153 : Ref sig .tc := ⟨.hbm, 303, rfl⟩
abbrev main_v154 : Ref sig .tc := ⟨.hbm, 304, rfl⟩
abbrev main_v155 : Ref sig .tc := ⟨.hbm, 305, rfl⟩
abbrev main_v156 : Ref sig .tc := ⟨.hbm, 306, rfl⟩
abbrev main_v157 : Ref sig .tc := ⟨.hbm, 307, rfl⟩
abbrev main_cst_31 : Ref sig .tc := ⟨.hbm, 308, rfl⟩
abbrev main_v158 : Ref sig .tc := ⟨.hbm, 309, rfl⟩
abbrev main_v159 : Ref sig .tc := ⟨.hbm, 310, rfl⟩
abbrev main_v160 : Ref sig .tc := ⟨.hbm, 311, rfl⟩
abbrev main_cst_32 : Ref sig .tc := ⟨.hbm, 312, rfl⟩
abbrev main_v161 : Ref sig .tc := ⟨.hbm, 313, rfl⟩
abbrev main_cst_33 : Ref sig .tc := ⟨.hbm, 314, rfl⟩
abbrev main_v162 : Ref sig .tc := ⟨.hbm, 315, rfl⟩
abbrev main_v163 : Ref sig .tc := ⟨.hbm, 316, rfl⟩
abbrev main_v164 : Ref sig .tc := ⟨.hbm, 317, rfl⟩
abbrev main_v165 : Ref sig .tc := ⟨.hbm, 318, rfl⟩
abbrev main_v166 : Ref sig .tc := ⟨.hbm, 319, rfl⟩
abbrev main_v167 : Ref sig .tc := ⟨.hbm, 320, rfl⟩
abbrev main_v168 : Ref sig .tc := ⟨.hbm, 321, rfl⟩
abbrev main_v169 : Ref sig .tc := ⟨.hbm, 322, rfl⟩
abbrev main_v170 : Ref sig .tc := ⟨.hbm, 323, rfl⟩
abbrev main_v171 : Ref sig .tc := ⟨.hbm, 324, rfl⟩
abbrev main_v172 : Ref sig .tc := ⟨.hbm, 325, rfl⟩
abbrev main_v173 : Ref sig .tc := ⟨.hbm, 326, rfl⟩
abbrev main_v174 : Ref sig .tc := ⟨.hbm, 327, rfl⟩
abbrev main_v175 : Ref sig .tc := ⟨.hbm, 328, rfl⟩
abbrev main_v176 : Ref sig .tc := ⟨.hbm, 329, rfl⟩
abbrev main_v177 : Ref sig .tc := ⟨.hbm, 330, rfl⟩
abbrev main_v178 : Ref sig .tc := ⟨.hbm, 331, rfl⟩
abbrev main_v179 : Ref sig .tc := ⟨.hbm, 332, rfl⟩
abbrev main_v180 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_v184 : Ref sig .tc := ⟨.hbm, 337, rfl⟩
abbrev main_v185 : Ref sig .tc := ⟨.hbm, 338, rfl⟩
abbrev main_v186 : Ref sig .tc := ⟨.hbm, 339, rfl⟩
abbrev main_v187 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_v191 : Ref sig .tc := ⟨.hbm, 344, rfl⟩
abbrev main_v192 : Ref sig .tc := ⟨.hbm, 345, rfl⟩
abbrev main_v193 : Ref sig .tc := ⟨.hbm, 346, rfl⟩
abbrev main_v194 : Ref sig .tc := ⟨.hbm, 347, rfl⟩
abbrev main_v195 : Ref sig .tc := ⟨.hbm, 348, rfl⟩
abbrev main_v196 : Ref sig .tc := ⟨.hbm, 349, rfl⟩
abbrev main_v197 : Ref sig .tc := ⟨.hbm, 350, rfl⟩
abbrev main_v198 : Ref sig .tc := ⟨.hbm, 351, rfl⟩
abbrev main_v199 : Ref sig .tc := ⟨.hbm, 352, rfl⟩
abbrev main_cst_34 : Ref sig .tc := ⟨.hbm, 353, rfl⟩
abbrev main_v200 : Ref sig .tc := ⟨.hbm, 354, rfl⟩
abbrev main_v201 : Ref sig .tc := ⟨.hbm, 355, rfl⟩
abbrev main_v202 : Ref sig .tc := ⟨.hbm, 356, rfl⟩
abbrev main_v203 : Ref sig .tc := ⟨.hbm, 357, rfl⟩
abbrev main_v204 : Ref sig .tc := ⟨.hbm, 358, rfl⟩
abbrev main_v205 : Ref sig .tc := ⟨.hbm, 359, rfl⟩
abbrev main_v206 : Ref sig .tc := ⟨.hbm, 360, rfl⟩
abbrev main_v207 : Ref sig .tc := ⟨.hbm, 361, rfl⟩
abbrev main_v208 : Ref sig .tc := ⟨.hbm, 362, rfl⟩
abbrev main_v209 : Ref sig .tc := ⟨.hbm, 363, rfl⟩
abbrev main_v210 : Ref sig .tc := ⟨.hbm, 364, rfl⟩
abbrev main_cst_35 : Ref sig .tc := ⟨.hbm, 365, rfl⟩
abbrev main_v211 : Ref sig .tc := ⟨.hbm, 366, rfl⟩
abbrev main_v212 : Ref sig .tc := ⟨.hbm, 367, rfl⟩
abbrev main_v213 : Ref sig .tc := ⟨.hbm, 368, rfl⟩
abbrev main_v214 : Ref sig .tc := ⟨.hbm, 369, rfl⟩
abbrev main_v215 : Ref sig .tc := ⟨.hbm, 370, rfl⟩
abbrev main_v216 : Ref sig .tc := ⟨.hbm, 371, rfl⟩
abbrev main_v217 : Ref sig .tc := ⟨.hbm, 372, rfl⟩
abbrev main_v218 : Ref sig .tc := ⟨.hbm, 373, rfl⟩
abbrev main_cst_36 : Ref sig .tc := ⟨.hbm, 374, rfl⟩
abbrev main_v219 : Ref sig .tc := ⟨.hbm, 375, rfl⟩
abbrev main_v220 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_v224 : Ref sig .tc := ⟨.hbm, 380, rfl⟩
abbrev main_cst_37 : Ref sig .tc := ⟨.hbm, 381, rfl⟩
abbrev main_v225 : Ref sig .tc := ⟨.hbm, 382, rfl⟩
abbrev main_v226 : Ref sig .tc := ⟨.hbm, 383, rfl⟩
abbrev main_v227 : Ref sig .tc := ⟨.hbm, 384, rfl⟩
abbrev main_v228 : Ref sig .tc := ⟨.hbm, 385, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Up.lean ====
abbrev S2048x2048 : Shape := ⟨2, ![2048, 2048]⟩
abbrev S4x2048x2816 : Shape := ⟨3, ![4, 2048, 2816]⟩
abbrev S2x2048x5632 : Shape := ⟨3, ![2, 2048, 5632]⟩
abbrev S1x2048x256 : Shape := ⟨3, ![1, 2048, 256]⟩
abbrev S2048x256 : Shape := ⟨2, ![2048, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S4x2048x2816, .f32⟩
  | .hbm, ⟨2, _⟩ => ⟨S2048x2048, .bf16⟩
  | .hbm, ⟨3, _⟩ => ⟨S4x2048x2816, .bf16⟩
  | .hbm, ⟨4, _⟩ => ⟨S2x2048x5632, .f32⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .f32⟩
  | .local _ .vmem, ⟨4, _⟩ => ⟨S1x2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.divsi arg1 c22_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c22_i32 c0_i32_1
  let v7 : BitVec 32 := Scalar.extui v6
  let c0_i32_2 : BitVec 32 := 0#32
  let v8 : BitVec 1 := Scalar.cmpi .slt c22_i32 c0_i32_2
  let v9 : BitVec 32 := Scalar.extui v8
  let v10 : BitVec 32 := Scalar.subi v7 v9
  let v11 : BitVec 1 := Scalar.cmpi .ne v5 v10
  let v12 : BitVec 32 := Scalar.remsi arg1 c22_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c22_i32_4 : BitVec 32 := 22#32
  let c0_i32_5 : BitVec 32 := 0#32
  let v17 : BitVec 1 := Scalar.cmpi .eq c22_i32_4 c0_i32_5
  let c1_i32_6 : BitVec 32 := 1#32
  let v18 : BitVec 32 := Scalar.select v17 c1_i32_6 c22_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S2048x5632 : Shape := ⟨2, ![2048, 5632]⟩
abbrev S1x2048x5632 : Shape := ⟨3, ![1, 2048, 5632]⟩
abbrev S2x2048x5632 : Shape := ⟨3, ![2, 2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x2816, .f32⟩
  | .hbm, ⟨2, _⟩ => ⟨S2048x4x2816, .f32⟩
  | .hbm, ⟨3, _⟩ => ⟨S2048x11264, .f32⟩
  | .hbm, ⟨4, _⟩ => ⟨S2048x11264, .f32⟩
  | .hbm, ⟨5, _⟩ => ⟨S2048x5632, .f32⟩
  | .hbm, ⟨6, _⟩ => ⟨S2048x5632, .f32⟩
  | .hbm, ⟨7, _⟩ => ⟨S1x2048x5632, .f32⟩
  | .hbm, ⟨8, _⟩ => ⟨S1x2048x5632, .f32⟩
  | .hbm, ⟨9, _⟩ => ⟨S2x2048x5632, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Mid.lean ====
abbrev S2048x2048 : Shape := ⟨2, ![2048, 2048]⟩
abbrev S5632x2048 : Shape := ⟨2, ![5632, 2048]⟩
abbrev S2x2048x5632 : Shape := ⟨3, ![2, 2048, 5632]⟩
abbrev S2048x5632 : Shape := ⟨2, ![2048, 5632]⟩
abbrev S512x2048 : Shape := ⟨2, ![512, 2048]⟩
abbrev S2x512x512 : Shape := ⟨3, ![2, 512, 512]⟩
abbrev S512x512 : Shape := ⟨2, ![512, 512]⟩
abbrev S1x512x512 : Shape := ⟨3, ![1, 512, 512]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2x2048x5632, .f32⟩
  | .hbm, ⟨3, _⟩ => ⟨S5632x2048, .bf16⟩
  | .hbm, ⟨4, _⟩ => ⟨S2x2048x5632, .bf16⟩
  | .hbm, ⟨5, _⟩ => ⟨S2048x5632, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2x512x512, .f32⟩
  | .local _ .vmem, ⟨5, _⟩ => ⟨S2x512x512, .f32⟩
  | .local _ .vmem, ⟨6, _⟩ => ⟨S2x512x512, .bf16⟩
  | .local _ .vmem, ⟨7, _⟩ => ⟨S2x512x512, .bf16⟩
  | .local _ .vmem, ⟨8, _⟩ => ⟨S512x512, .bf16⟩
  | .local _ .vmem, ⟨9, _⟩ => ⟨S512x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MidReferenceIdeal.lean ====
abbrev S2048x2048 : Shape := ⟨2, ![2048, 2048]⟩
abbrev S5632x2048 : Shape := ⟨2, ![5632, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S1x2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S1x2048x5632, .f32⟩
  | .hbm, ⟨32, _⟩ => ⟨S_, .f32⟩
  | .hbm, ⟨33, _⟩ => ⟨S2x2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S1x2048x5632, .f32⟩
  | .hbm, ⟨39, _⟩ => ⟨S_, .f32⟩
  | .hbm, ⟨40, _⟩ => ⟨S2x2048x5632, .f32⟩
  | .hbm, ⟨41, _⟩ => ⟨S2x2048x5632, .f32⟩
  | .hbm, ⟨42, _⟩ => ⟨S2x2048x5632, .bf16⟩
  | .hbm, ⟨43, _⟩ => ⟨S1x2048x5632, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S_, .f32⟩
  | .hbm, ⟨48, _⟩ => ⟨S2048x5632, .f32⟩
  | .hbm, ⟨49, _⟩ => ⟨S2048x5632, .f32⟩
  | .hbm, ⟨50, _⟩ => ⟨S_, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S1x2048x5632, .f32⟩
  | .hbm, ⟨55, _⟩ => ⟨S2048x5632, .f32⟩
  | .hbm, ⟨56, _⟩ => ⟨S2048x5632, .f32⟩
  | .hbm, ⟨57, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Dwd.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdReferenceIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x5632, .f32⟩
  | .hbm, ⟨12, _⟩ => ⟨S5632x2048, .f32⟩
  | .hbm, ⟨13, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Dwgu.lean ====
abbrev S2048x2048 : Shape := ⟨2, ![2048, 2048]⟩
abbrev S2x2048x5632 : Shape := ⟨3, ![2, 2048, 5632]⟩
abbrev S4x2048x2816 : Shape := ⟨3, ![4, 2048, 2816]⟩
abbrev S1x2048x256 : Shape := ⟨3, ![1, 2048, 256]⟩
abbrev S512x2048 : Shape := ⟨2, ![512, 2048]⟩
abbrev S2048x512 : Shape := ⟨2, ![2048, 512]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2x2048x5632, .f32⟩
  | .hbm, ⟨2, _⟩ => ⟨S2048x2048, .bf16⟩
  | .hbm, ⟨3, _⟩ => ⟨S2x2048x5632, .bf16⟩
  | .hbm, ⟨4, _⟩ => ⟨S4x2048x2816, .bf16⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S2048x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 44, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.divsi arg1 c22_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c22_i32 c0_i32_1
  let v7 : BitVec 32 := Scalar.extui v6
  let c0_i32_2 : BitVec 32 := 0#32
  let v8 : BitVec 1 := Scalar.cmpi .slt c22_i32 c0_i32_2
  let v9 : BitVec 32 := Scalar.extui v8
  let v10 : BitVec 32 := Scalar.subi v7 v9
  let v11 : BitVec 1 := Scalar.cmpi .ne v5 v10
  let v12 : BitVec 32 := Scalar.remsi arg1 c22_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c22_i32_4 : BitVec 32 := 22#32
  let c0_i32_5 : BitVec 32 := 0#32
  let v17 : BitVec 1 := Scalar.cmpi .eq c22_i32_4 c0_i32_5
  let c1_i32_6 : BitVec 32 := 1#32
  let v18 : BitVec 32 := Scalar.select v17 c1_i32_6 c22_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwguReferenceIdeal.lean ====
abbrev S2048x2048 : Shape := ⟨2, ![2048, 2048]⟩
abbrev S2x2048x5632 : Shape := ⟨3, ![2, 2048, 5632]⟩
abbrev S_ : Shape := ⟨0, ![]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S2048x5632 : Shape := ⟨2, ![2048, 5632]⟩
abbrev S1x2048x5632 : Shape := ⟨3, ![1, 2048, 5632]⟩
abbrev S11264x2048 : Shape := ⟨2, ![11264, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2x2048x5632, .f32⟩
  | .hbm, ⟨2, _⟩ => ⟨S_, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S1x2048x5632, .f32⟩
  | .hbm, ⟨10, _⟩ => ⟨S1x2048x5632, .f32⟩
  | .hbm, ⟨11, _⟩ => ⟨S2x2048x5632, .f32⟩
  | .hbm, ⟨12, _⟩ => ⟨S1x2048x5632, .f32⟩
  | .hbm, ⟨13, _⟩ => ⟨S2048x5632, .f32⟩
  | .hbm, ⟨14, _⟩ => ⟨S1x2048x5632, .f32⟩
  | .hbm, ⟨15, _⟩ => ⟨S2048x5632, .f32⟩
  | .hbm, ⟨16, _⟩ => ⟨S2048x11264, .f32⟩
  | .hbm, ⟨17, _⟩ => ⟨S11264x2048, .f32⟩
  | .hbm, ⟨18, _⟩ => ⟨S2048x11264, .f32⟩
  | .hbm, ⟨19, _⟩ => ⟨S2048x4x2816, .f32⟩
  | .hbm, ⟨20, _⟩ => ⟨S4x2048x2816, .f32⟩
  | .hbm, ⟨21, _⟩ => ⟨S4x2048x2816, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Dx.lean ====
abbrev S2x2048x5632 : Shape := ⟨3, ![2, 2048, 5632]⟩
abbrev S4x2048x2816 : Shape := ⟨3, ![4, 2048, 2816]⟩
abbrev S2048x2048 : Shape := ⟨2, ![2048, 2048]⟩
abbrev S1x512x1408 : Shape := ⟨3, ![1, 512, 1408]⟩
abbrev S1x2048x1408 : Shape := ⟨3, ![1, 2048, 1408]⟩
abbrev S512x2048 : Shape := ⟨2, ![512, 2048]⟩
abbrev S512x1408 : Shape := ⟨2, ![512, 1408]⟩
abbrev S2048x1408 : Shape := ⟨2, ![2048, 1408]⟩

abbrev nBuf : Space → Nat
  | .hbm => 6
  | .vmem => 9
  | .smem => 0
  | _ => 0

abbrev bufTy : (tb : Table) → Fin (tcTables nBuf tb) → BufTy
  | .hbm, ⟨0, _⟩ => ⟨S2x2048x5632, .f32⟩
  | .hbm, ⟨1, _⟩ => ⟨S4x2048x2816, .f32⟩
  | .hbm, ⟨2, _⟩ => ⟨S2048x2048, .f32⟩
  | .hbm, ⟨3, _⟩ => ⟨S2x2048x5632, .bf16⟩
  | .hbm, ⟨4, _⟩ => ⟨S4x2048x2816, .bf16⟩
  | .hbm, ⟨5, _⟩ => ⟨S2048x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxReferenceIdeal.lean ====
abbrev S2x2048x5632 : Shape := ⟨3, ![2, 2048, 5632]⟩
abbrev S4x2048x2816 : Shape := ⟨3, ![4, 2048, 2816]⟩
abbrev S2048x2048 : Shape := ⟨2, ![2048, 2048]⟩
abbrev S_ : Shape := ⟨0, ![]⟩
abbrev S2048x4x2816 : Shape := ⟨3, ![2048, 4, 2816]⟩
abbrev S2048x11264 : Shape := ⟨2, ![2048, 11264]⟩
abbrev S2048x5632 : Shape := ⟨2, ![2048, 5632]⟩
abbrev S1x2048x5632 : Shape := ⟨3, ![1, 2048, 5632]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S4x2048x2816, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x4x2816, .f32⟩
  | .hbm, ⟨6, _⟩ => ⟨S2048x11264, .f32⟩
  | .hbm, ⟨7, _⟩ => ⟨S2048x11264, .f32⟩
  | .hbm, ⟨8, _⟩ => ⟨S2048x5632, .f32⟩
  | .hbm, ⟨9, _⟩ => ⟨S2048x5632, .f32⟩
  | .hbm, ⟨10, _⟩ => ⟨S1x2048x5632, .f32⟩
  | .hbm, ⟨11, _⟩ => ⟨S1x2048x5632, .f32⟩
  | .hbm, ⟨12, _⟩ => ⟨S2x2048x5632, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S1x2048x5632, .f32⟩
  | .hbm, ⟨20, _⟩ => ⟨S2048x5632, .f32⟩
  | .hbm, ⟨21, _⟩ => ⟨S1x2048x5632, .f32⟩
  | .hbm, ⟨22, _⟩ => ⟨S2048x5632, .f32⟩
  | .hbm, ⟨23, _⟩ => ⟨S2048x11264, .f32⟩
  | .hbm, ⟨24, _⟩ => ⟨S2048x2048, .f32⟩
  | .hbm, ⟨25, _⟩ => ⟨S2048x2048, .f32⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Down.lean ====
abbrev S2x2048x5632 : Shape := ⟨3, ![2, 2048, 5632]⟩
abbrev S5632x2048 : Shape := ⟨2, ![5632, 2048]⟩
abbrev S2048x2048 : Shape := ⟨2, ![2048, 2048]⟩
abbrev S2048 : Shape := ⟨1, ![2048]⟩
abbrev S1x2048 : Shape := ⟨2, ![1, 2048]⟩
abbrev S2x512x512 : Shape := ⟨3, ![2, 512, 512]⟩
abbrev S512x2048 : Shape := ⟨2, ![512, 2048]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S2x2048x5632, .f32⟩
  | .hbm, ⟨1, _⟩ => ⟨S5632x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .local _ .vmem, ⟨0, _⟩ => ⟨S2x512x512, .f32⟩
  | .local _ .vmem, ⟨1, _⟩ => ⟨S2x512x512, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v19 : BitVec 1 := Scalar.cmpi .eq arg1 c10_i32
  let v20 : BitVec 32 := Scalar.extui v19
  let c0_i32_11 : BitVec 32 := 0#32
  let v21 : BitVec 1 := Scalar.cmpi .ne v20 c0_i32_11
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownReferenceIdeal.lean ====
abbrev S2x2048x5632 : Shape := ⟨3, ![2, 2048, 5632]⟩
abbrev S5632x2048 : Shape := ⟨2, ![5632, 2048]⟩
abbrev S2048x2048 : Shape := ⟨2, ![2048, 2048]⟩
abbrev S2048 : Shape := ⟨1, ![2048]⟩
abbrev S_ : Shape := ⟨0, ![]⟩
abbrev S1x2048x5632 : Shape := ⟨3, ![1, 2048, 5632]⟩
abbrev S2048x5632 : Shape := ⟨2, ![2048, 5632]⟩
abbrev S2048x1 : Shape := ⟨2, ![2048, 1]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S5632x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S1x2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S1x2048x5632, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1, .f32⟩
  | .hbm, ⟨48, _⟩ => ⟨S2048x2048, .f32⟩
  | .hbm, ⟨49, _⟩ => ⟨S2048x2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S1x2048, .f32⟩
  | .hbm, ⟨54, _⟩ => ⟨S2048x2048, .f32⟩
  | .hbm, ⟨55, _⟩ => ⟨S2048x2048, .f32⟩
  | .hbm, ⟨56, _⟩ => ⟨S2048x2048, .bf16⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== InProj.lean ====
abbrev S2048x2048 : Shape := ⟨2, ![2048, 2048]⟩
abbrev S2048x9728 : Shape := ⟨2, ![2048, 9728]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x9728, .f32⟩
  | .hbm, ⟨2, _⟩ => ⟨S2048x2048, .bf16⟩
  | .hbm, ⟨3, _⟩ => ⟨S2048x9728, .bf16⟩
  | .hbm, ⟨4, _⟩ => ⟨S2048x9728, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S2048x2048 : Shape := ⟨2, ![2048, 2048]⟩
abbrev S2048x9728 : Shape := ⟨2, ![2048, 9728]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x9728, .f32⟩
  | .hbm, ⟨2, _⟩ => ⟨S2048x9728, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDw.lean ====
abbrev S2048x2048 : Shape := ⟨2, ![2048, 2048]⟩
abbrev S2048x9728 : Shape := ⟨2, ![2048, 9728]⟩
abbrev S2048x512 : Shape := ⟨2, ![2048, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x9728, .f32⟩
  | .hbm, ⟨2, _⟩ => ⟨S2048x2048, .bf16⟩
  | .hbm, ⟨3, _⟩ => ⟨S2048x9728, .bf16⟩
  | .hbm, ⟨4, _⟩ => ⟨S2048x9728, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S2048x2048 : Shape := ⟨2, ![2048, 2048]⟩
abbrev S2048x9728 : Shape := ⟨2, ![2048, 9728]⟩
abbrev S_ : Shape := ⟨0, ![]⟩
abbrev S9728x2048 : Shape := ⟨2, ![9728, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x9728, .f32⟩
  | .hbm, ⟨2, _⟩ => ⟨S_, .f32⟩
  | .hbm, ⟨3, _⟩ => ⟨S2048x9728, .f32⟩
  | .hbm, ⟨4, _⟩ => ⟨S2048x9728, .f32⟩
  | .hbm, ⟨5, _⟩ => ⟨S9728x2048, .f32⟩
  | .hbm, ⟨6, _⟩ => ⟨S2048x9728, .f32⟩
  | .hbm, ⟨7, _⟩ => ⟨S2048x9728, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDx.lean ====
abbrev S2048x9728 : Shape := ⟨2, ![2048, 9728]⟩
abbrev S2048x2048 : Shape := ⟨2, ![2048, 2048]⟩
abbrev S512x512 : Shape := ⟨2, ![512, 512]⟩
abbrev S2048x512 : Shape := ⟨2, ![2048, 512]⟩
abbrev S512x2048 : Shape := ⟨2, ![512, 2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x9728, .f32⟩
  | .hbm, ⟨1, _⟩ => ⟨S2048x9728, .f32⟩
  | .hbm, ⟨2, _⟩ => ⟨S2048x2048, .f32⟩
  | .hbm, ⟨3, _⟩ => ⟨S2048x9728, .bf16⟩
  | .hbm, ⟨4, _⟩ => ⟨S2048x9728, .bf16⟩
  | .hbm, ⟨5, _⟩ => ⟨S2048x2048, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S2048x9728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 19], ![false, false, false]⟩

def k0_cond3 (i : grid0.Coords) : BitVec 1 :=
  let arg2 : BitVec 32 := BitVec.ofNat 32 (i 2).val
  let c18_i32 : BitVec 32 := 18#32
  let v11 : BitVec 1 := Scalar.cmpi .eq arg2 c18_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxReferenceIdeal.lean ====
abbrev S2048x9728 : Shape := ⟨2, ![2048, 9728]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x9728, .f32⟩
  | .hbm, ⟨1, _⟩ => ⟨S2048x9728, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x9728, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | _, _ => ⟨S2048x9728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== MixOut.lean ====
abbrev S2048x2048 : Shape := ⟨2, ![2048, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixOutReferenceIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x2048, .f32⟩
  | .hbm, ⟨32, _⟩ => ⟨S2048x2048, .f32⟩
  | .hbm, ⟨33, _⟩ => ⟨S1x2048, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== MixDm.lean ====
abbrev S2048x2048 : Shape := ⟨2, ![2048, 2048]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDmReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixDw.lean ====
abbrev S2048x2048 : Shape := ⟨2, ![2048, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwReferenceIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Br.lean ====
abbrev S2048x1024 : Shape := ⟨2, ![2048, 1024]⟩
abbrev S4x1024x512 : Shape := ⟨3, ![4, 1024, 512]⟩
abbrev S2048x2048 : Shape := ⟨2, ![2048, 2048]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S4x1024x512, .f32⟩
  | .hbm, ⟨2, _⟩ => ⟨S2048x1024, .bf16⟩
  | .hbm, ⟨3, _⟩ => ⟨S4x1024x512, .bf16⟩
  | .hbm, ⟨4, _⟩ => ⟨S2048x2048, .f32⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .f32⟩
  | .local _ .vmem, ⟨4, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrReferenceIdeal.lean ====
abbrev S2048x1024 : Shape := ⟨2, ![2048, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024x512, .f32⟩
  | .hbm, ⟨2, _⟩ => ⟨S1024x4x512, .f32⟩
  | .hbm, ⟨3, _⟩ => ⟨S1024x2048, .f32⟩
  | .hbm, ⟨4, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BrDw.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x2048 : Shape := ⟨2, ![1024, 2048]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrDwReferenceIdeal.lean ====
abbrev S2048x1024 : Shape := ⟨2, ![2048, 1024]⟩
abbrev S2048x2048 : Shape := ⟨2, ![2048, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== BrDx.lean ====
abbrev S2048x2048 : Shape := ⟨2, ![2048, 2048]⟩
abbrev S4x1024x512 : Shape := ⟨3, ![4, 1024, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x1024x512, .f32⟩
  | .hbm, ⟨2, _⟩ => ⟨S2048x2048, .bf16⟩
  | .hbm, ⟨3, _⟩ => ⟨S4x1024x512, .bf16⟩
  | .hbm, ⟨4, _⟩ => ⟨S2048x1024, .f32⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .f32⟩
  | .local _ .vmem, ⟨5, _⟩ => ⟨S2048x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BrDxReferenceIdeal.lean ====
abbrev S2048x2048 : Shape := ⟨2, ![2048, 2048]⟩
abbrev S4x1024x512 : Shape := ⟨3, ![4, 1024, 512]⟩
abbrev S_ : Shape := ⟨0, ![]⟩
abbrev S2048x1024 : Shape := ⟨2, ![2048, 1024]⟩
abbrev S1024x4x512 : Shape := ⟨3, ![1024, 4, 512]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x1024x512, .f32⟩
  | .hbm, ⟨2, _⟩ => ⟨S_, .f32⟩
  | .hbm, ⟨3, _⟩ => ⟨S2048x1024, .f32⟩
  | .hbm, ⟨4, _⟩ => ⟨S1024x4x512, .f32⟩
  | .hbm, ⟨5, _⟩ => ⟨S1024x2048, .f32⟩
  | .hbm, ⟨6, _⟩ => ⟨S2048x2048, .f32⟩
  | .hbm, ⟨7, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Scan.lean ====
/-
  The blocked scan of the kernel, read as complex arithmetic.

  The kernel keeps a complex number as two real vectors. `IsC a b z` says that the extended reals `a`, `b` are the real
  and imaginary part of `z`. Every vector of the scan is followed as a function of the row and the lane with values in ℂ;
  the last theorems say that one trip of eight rows turns eight inputs and the carried state into eight states.
-/
module

public import proofs.«01_k».proof.Proof.Gen.KernelIdeal.Skeleton
public import Idealize.ShloMosaic.Lib.Pointwise
public import Mathlib.Data.Complex.Basic
public import Mathlib.Algebra.Star.BigOperators

@[expose] public section

set_option maxRecDepth 16384

noncomputable section

open Idealize.ShloMosaic Idealize.ShloMosaic.TcCoe Idealize.SL.Sem

namespace S5

/-- The pair of extended reals `a`, `b` is the complex number `z`. -/
def IsC (a b : EReal) (z : ℂ) : Prop := a = ((z.re : ℝ) : EReal) ∧ b = ((z.im : ℝ) : EReal)

namespace IsC

variable {a b c d : EReal} {z w : ℂ}

theorem zero : IsC 0 0 0 := by simp [IsC]
theorem one : IsC 1 0 1 := by simp [IsC]
theorem add (h : IsC a b z) (k : IsC c d w) : IsC (a + c) (b + d) (z + w) := by
  obtain ⟨rfl, rfl⟩ := h; obtain ⟨rfl, rfl⟩ := k
  simp only [IsC, Complex.add_re, Complex.add_im, EReal.coe_add, and_self]
theorem sub (h : IsC a b z) (k : IsC c d w) : IsC (a - c) (b - d) (z - w) := by
  obtain ⟨rfl, rfl⟩ := h; obtain ⟨rfl, rfl⟩ := k
  simp only [IsC, Complex.sub_re, Complex.sub_im, EReal.coe_sub, and_self]
/-- The product of two complex numbers as the programs form it. -/
theorem mul (h : IsC a b z) (k : IsC c d w) : IsC (a * c - b * d) (a * d + b * c) (z * w) := by
  obtain ⟨rfl, rfl⟩ := h; obtain ⟨rfl, rfl⟩ := k
  simp only [IsC, Complex.mul_re, Complex.mul_im, EReal.coe_sub, EReal.coe_add, EReal.coe_mul, and_self]
theorem eq_re (h : IsC a b z) : a = ((z.re : ℝ) : EReal) := h.1
theorem eq_im (h : IsC a b z) : b = ((z.im : ℝ) : EReal) := h.2
theorem of_coe (x y : ℝ) : IsC (x : EReal) (y : EReal) ⟨x, y⟩ := ⟨rfl, rfl⟩
theorem sum {ι : Type} (s : Finset ι) {f g : ι → EReal} {F : ι → ℂ} (h : ∀ i ∈ s, IsC (f i) (g i) (F i)) :
    IsC (∑ i ∈ s, f i) (∑ i ∈ s, g i) (∑ i ∈ s, F i) := by
  classical
  induction s using Finset.induction_on with
  | empty => simpa using zero
  | insert i s hi ih =>
    simp only [Finset.sum_insert hi]
    exact (h i (Finset.mem_insert_self i s)).add (ih fun j hj => h j (Finset.mem_insert_of_mem hj))

end IsC

/-- The scan's state after `n` inputs: `s₀ = 0`, `sₙ₊₁ = lam · sₙ + xₙ`. -/
def scan (lam : ℂ) (x : ℕ → ℂ) : ℕ → ℂ
  | 0 => 0
  | n + 1 => lam * scan lam x n + x n

theorem scan_succ (lam : ℂ) (x : ℕ → ℂ) (n : ℕ) : scan lam x (n + 1) = lam * scan lam x n + x n := rfl

/-- Eight steps of the scan by three doublings and the carried state, in ascending rows. -/
def blockUp (p : ℂ) (X : Fin 8 → ℂ) (c : ℂ) : Fin 8 → ℂ :=
  fun r =>
    let s (d : ℕ) (q : ℂ) (Y : Fin 8 → ℂ) (r : Fin 8) : ℂ := Y r + q * if h : d ≤ (r : ℕ) then Y ⟨r - d, by omega⟩ else 0
    let w (d : ℕ) (Y : Fin 8 → ℂ) (r : Fin 8) : ℂ := Y r * if h : d ≤ (r : ℕ) then Y ⟨r - d, by omega⟩ else 1
    s 4 (p * p * (p * p)) (s 2 (p * p) (s 1 p X)) r + w 4 (w 2 (w 1 fun _ => p)) r * c

/-- The same in descending rows. -/
def blockDown (p : ℂ) (X : Fin 8 → ℂ) (c : ℂ) : Fin 8 → ℂ :=
  fun r =>
    let s (d : ℕ) (q : ℂ) (Y : Fin 8 → ℂ) (r : Fin 8) : ℂ := Y r + q * if h : (r : ℕ) < 8 - d then Y ⟨r + d, by omega⟩ else 0
    let w (d : ℕ) (Y : Fin 8 → ℂ) (r : Fin 8) : ℂ := Y r * if h : (r : ℕ) < 8 - d then Y ⟨r + d, by omega⟩ else 1
    s 4 (p * p * (p * p)) (s 2 (p * p) (s 1 p X)) r + w 4 (w 2 (w 1 fun _ => p)) r * c

/-- The ascending block holds the next eight states. -/
theorem blockUp_eq (p : ℂ) (x : ℕ → ℂ) (n : ℕ) (r : Fin 8) :
    blockUp p (fun r => x (n + r)) (scan p x n) r = scan p x (n + r + 1) := by
  fin_cases r <;> simp [blockUp, scan] <;> ring

/-- The descending block holds the next eight states, the last row first. -/
theorem blockDown_eq (p : ℂ) (x : ℕ → ℂ) (n : ℕ) (r : Fin 8) :
    blockDown p (fun r => x (n + (7 - r))) (scan p x n) r = scan p x (n + (7 - r) + 1) := by
  fin_cases r <;> simp [blockDown, scan] <;> ring

end S5

namespace Cert.KernelIdeal.Gen

open Cert.KernelIdeal S5

/-- A block of eight rows of all the lanes. -/
abbrev V8 : Type := FVec Ideal S8x512 .f32

/-- The row number of every element of a block. -/
def rowNo : IVec S8x512 32 := iota .tc S8x512 32 [0] iota_S8x512_d0_w32

/-- Two blocks are the parts of `X r l`. -/
def IsV (xr xi : V8) (X : Fin 8 → Fin 512 → ℂ) : Prop := ∀ r l, IsC (xr (ix2 r l)) (xi (ix2 r l)) (X r l)

/-- A block moved `d` rows up, its first rows filled. -/
def up (d : BitVec 32) (f : BitVec 32) (x : V8) : V8 :=
  select (cmpi .sge rowNo (broadcast S8x512 d)) (dynamicRotate 0 d none x rotates_S8x512_d0)
    (broadcast S8x512 (Scalar.ofBits .f32 f))

/-- A block moved `8 - n` rows down, its last rows filled. -/
def down (n : BitVec 32) (f : BitVec 32) (x : V8) : V8 :=
  select (cmpi .slt rowNo (broadcast S8x512 n)) (dynamicRotate 0 n none x rotates_S8x512_d0)
    (broadcast S8x512 (Scalar.ofBits .f32 f))

/-- The product of complex blocks. -/
theorem IsV.mul {ar ai br bi : V8} {A B : Fin 8 → Fin 512 → ℂ} (h : IsV ar ai A) (k : IsV br bi B) :
    IsV (subf (mulf ar br) (mulf ai bi)) (addf (mulf ar bi) (mulf ai br)) fun r l => A r l * B r l :=
  fun r l => by have := (h r l).mul (k r l); pointwise; exact this

/-- The sum of complex blocks. -/
theorem IsV.add {ar ai br bi : V8} {A B : Fin 8 → Fin 512 → ℂ} (h : IsV ar ai A) (k : IsV br bi B) :
    IsV (addf ar br) (addf ai bi) fun r l => A r l + B r l :=
  fun r l => by have := (h r l).add (k r l); pointwise; exact this

theorem fill0 : (Scalar.ofBits .f32 0x00000000#32 : Ideal .f32) = (0 : EReal) := by pointwise
theorem fill1 : (Scalar.ofBits .f32 0x3F800000#32 : Ideal .f32) = (1 : EReal) := by pointwise

theorem up_apply (d : BitVec 32) (f : BitVec 32) (x : V8) (hd : d = 1#32 ∨ d = 2#32 ∨ d = 4#32) (r : Fin 8) (l : Fin 512) :
    up d f x (ix2 r l)
      = if h : d.toNat ≤ (r : ℕ) then x (ix2 ⟨r - d.toNat, by omega⟩ l) else (Scalar.ofBits .f32 f : Ideal .f32) := by
  rcases hd with rfl | rfl | rfl <;> pointwise [up, rowNo] <;> fin_cases r <;> simp <;> rfl

theorem down_apply (n : BitVec 32) (f : BitVec 32) (x : V8) (hd : n = 7#32 ∨ n = 6#32 ∨ n = 4#32) (r : Fin 8) (l : Fin 512) :
    down n f x (ix2 r l)
      = if h : (r : ℕ) < n.toNat then x (ix2 ⟨r + (8 - n.toNat), by omega⟩ l) else (Scalar.ofBits .f32 f : Ideal .f32) := by
  rcases hd with rfl | rfl | rfl <;> pointwise [down, rowNo] <;> fin_cases r <;> simp <;> rfl

/-- A complex block moved up, the first rows filled with a real constant. -/
theorem IsV.up {xr xi : V8} {X : Fin 8 → Fin 512 → ℂ} (h : IsV xr xi X) (d f : BitVec 32) (hd : d = 1#32 ∨ d = 2#32 ∨ d = 4#32)
    {z : ℂ} (hf : IsC (Scalar.ofBits .f32 f : Ideal .f32) 0 z) :
    IsV (Gen.up d f xr) (Gen.up d 0x00000000#32 xi)
      fun r l => if h : d.toNat ≤ (r : ℕ) then X ⟨r - d.toNat, by omega⟩ l else z := by
  intro r l
  rw [up_apply d _ _ hd, up_apply d _ _ hd, fill0]
  by_cases g : d.toNat ≤ (r : ℕ)
  · simp only [dif_pos g]; exact h _ _
  · simp only [dif_neg g]; exact hf

/-- A complex block moved down, the last rows filled with a real constant. -/
theorem IsV.down {xr xi : V8} {X : Fin 8 → Fin 512 → ℂ} (h : IsV xr xi X) (n f : BitVec 32) (hd : n = 7#32 ∨ n = 6#32 ∨ n = 4#32)
    {z : ℂ} (hf : IsC (Scalar.ofBits .f32 f : Ideal .f32) 0 z) :
    IsV (Gen.down n f xr) (Gen.down n 0x00000000#32 xi)
      fun r l => if h : (r : ℕ) < n.toNat then X ⟨r + (8 - n.toNat), by omega⟩ l else z := by
  intro r l
  rw [down_apply n _ _ hd, down_apply n _ _ hd, fill0]
  by_cases g : (r : ℕ) < n.toNat
  · simp only [dif_pos g]; exact h _ _
  · simp only [dif_neg g]; exact hf

theorem c_fill0 : IsC (Scalar.ofBits .f32 0x00000000#32 : Ideal .f32) 0 0 := by rw [fill0]; exact IsC.zero
theorem c_fill1 : IsC (Scalar.ofBits .f32 0x3F800000#32 : Ideal .f32) 0 1 := by rw [fill1]; exact IsC.one

/-- One doubling of the ascending scan. -/
theorem IsV.stepUp {xr xi qr qi : V8} {X Q : Fin 8 → Fin 512 → ℂ} (h : IsV xr xi X) (k : IsV qr qi Q) (d : BitVec 32)
    (hd : d = 1#32 ∨ d = 2#32 ∨ d = 4#32) :
    IsV (addf xr (subf (mulf qr (Gen.up d 0x00000000#32 xr)) (mulf qi (Gen.up d 0x00000000#32 xi))))
      (addf xi (addf (mulf qr (Gen.up d 0x00000000#32 xi)) (mulf qi (Gen.up d 0x00000000#32 xr))))
      fun r l => X r l + Q r l * if h : d.toNat ≤ (r : ℕ) then X ⟨r - d.toNat, by omega⟩ l else 0 :=
  h.add (k.mul (h.up d _ hd c_fill0))

/-- One doubling of the descending scan. -/
theorem IsV.stepDown {xr xi qr qi : V8} {X Q : Fin 8 → Fin 512 → ℂ} (h : IsV xr xi X) (k : IsV qr qi Q) (n : BitVec 32)
    (hd : n = 7#32 ∨ n = 6#32 ∨ n = 4#32) :
    IsV (addf xr (subf (mulf qr (Gen.down n 0x00000000#32 xr)) (mulf qi (Gen.down n 0x00000000#32 xi))))
      (addf xi (addf (mulf qr (Gen.down n 0x00000000#32 xi)) (mulf qi (Gen.down n 0x00000000#32 xr))))
      fun r l => X r l + Q r l * if h : (r : ℕ) < n.toNat then X ⟨r + (8 - n.toNat), by omega⟩ l else 0 :=
  h.add (k.mul (h.down n _ hd c_fill0))

/-- The row `e` of a block, in every row: what the kernel carries to the next trip. -/
def edge (e : BitVec 32) (x : V8) : V8 :=
  let a : V8 := select (cmpi .eq rowNo (broadcast S8x512 e)) x (broadcast S8x512 (Scalar.ofBits .f32 0x00000000#32))
  let b : V8 := addf a (dynamicRotate 0 1#32 none a rotates_S8x512_d0)
  let c : V8 := addf b (dynamicRotate 0 2#32 none b rotates_S8x512_d0)
  addf c (dynamicRotate 0 4#32 none c rotates_S8x512_d0)

theorem edge7_apply (x : V8) (r : Fin 8) (l : Fin 512) : edge 7#32 x (ix2 r l) = x (ix2 7 l) := by
  pointwise [edge, rowNo]
  fin_cases r <;> simp [Scalar.select, IntOp.cmpi] <;> rfl

theorem edge0_apply (x : V8) (r : Fin 8) (l : Fin 512) : edge 0#32 x (ix2 r l) = x (ix2 0 l) := by
  pointwise [edge, rowNo]
  fin_cases r <;> simp [Scalar.select, IntOp.cmpi] <;> rfl

/-! ## The ascending trips -/

section Up

variable {pr pi xr xi cr ci : V8} {p : Fin 512 → ℂ} {X C : Fin 8 → Fin 512 → ℂ}

/-- The square of a block's number. -/
def sqR (a b : V8) : V8 := subf (mulf a a) (mulf b b)
def sqI (a b : V8) : V8 := addf (mulf a b) (mulf b a)

def wUpR (d : BitVec 32) (a b : V8) : V8 := subf (mulf a (up d 0x3F800000#32 a)) (mulf b (up d 0x00000000#32 b))
def wUpI (d : BitVec 32) (a b : V8) : V8 := addf (mulf a (up d 0x00000000#32 b)) (mulf b (up d 0x3F800000#32 a))
def sUpR (d : BitVec 32) (qr qi xr xi : V8) : V8 :=
  addf xr (subf (mulf qr (up d 0x00000000#32 xr)) (mulf qi (up d 0x00000000#32 xi)))
def sUpI (d : BitVec 32) (qr qi xr xi : V8) : V8 :=
  addf xi (addf (mulf qr (up d 0x00000000#32 xi)) (mulf qi (up d 0x00000000#32 xr)))

def w2UpR (pr pi : V8) : V8 := wUpR 2#32 (wUpR 1#32 pr pi) (wUpI 1#32 pr pi)
def w2UpI (pr pi : V8) : V8 := wUpI 2#32 (wUpR 1#32 pr pi) (wUpI 1#32 pr pi)
def wUp3R (pr pi : V8) : V8 := wUpR 4#32 (w2UpR pr pi) (w2UpI pr pi)
def wUp3I (pr pi : V8) : V8 := wUpI 4#32 (w2UpR pr pi) (w2UpI pr pi)

def s1UpR (pr pi xr xi : V8) : V8 := sUpR 1#32 pr pi xr xi
def s1UpI (pr pi xr xi : V8) : V8 := sUpI 1#32 pr pi xr xi
def s2UpR (pr pi xr xi : V8) : V8 := sUpR 2#32 (sqR pr pi) (sqI pr pi) (s1UpR pr pi xr xi) (s1UpI pr pi xr xi)
def s2UpI (pr pi xr xi : V8) : V8 := sUpI 2#32 (sqR pr pi) (sqI pr pi) (s1UpR pr pi xr xi) (s1UpI pr pi xr xi)
def s4UpR (pr pi xr xi : V8) : V8 :=
  sUpR 4#32 (sqR (sqR pr pi) (sqI pr pi)) (sqI (sqR pr pi) (sqI pr pi)) (s2UpR pr pi xr xi) (s2UpI pr pi xr xi)
def s4UpI (pr pi xr xi : V8) : V8 :=
  sUpI 4#32 (sqR (sqR pr pi) (sqI pr pi)) (sqI (sqR pr pi) (sqI pr pi)) (s2UpR pr pi xr xi) (s2UpI pr pi xr xi)

/-- The eight rows an ascending trip stores, real part and imaginary part. -/
def outUpR (pr pi xr xi cr ci : V8) : V8 := addf (s4UpR pr pi xr xi) (subf (mulf (wUp3R pr pi) cr) (mulf (wUp3I pr pi) ci))
def outUpI (pr pi xr xi cr ci : V8) : V8 := addf (s4UpI pr pi xr xi) (addf (mulf (wUp3R pr pi) ci) (mulf (wUp3I pr pi) cr))

/-- An ascending trip is `blockUp` in every lane. -/
theorem outUp_is (hp : IsV pr pi fun _ => p) (hx : IsV xr xi X) (hc : IsV cr ci C) :
    IsV (outUpR pr pi xr xi cr ci) (outUpI pr pi xr xi cr ci)
      fun r l => blockUp (p l) (fun r => X r l) (C r l) r := by
  have hq := hp.mul hp
  have hq2 := hq.mul hq
  have h1 := hx.stepUp hp 1#32 (by simp)
  have h2 := h1.stepUp hq 2#32 (by simp)
  have h4 := h2.stepUp hq2 4#32 (by simp)
  have w1 := hp.mul (hp.up 1#32 _ (by simp) c_fill1)
  have w2 := w1.mul (w1.up 2#32 _ (by simp) c_fill1)
  have w4 := w2.mul (w2.up 4#32 _ (by simp) c_fill1)
  exact h4.add (w4.mul hc)

end Up

/-! ## The descending trips -/

section Down

variable {pr pi xr xi cr ci : V8} {p : Fin 512 → ℂ} {X C : Fin 8 → Fin 512 → ℂ}

def wDnR (d : BitVec 32) (a b : V8) : V8 := subf (mulf a (down d 0x3F800000#32 a)) (mulf b (down d 0x00000000#32 b))
def wDnI (d : BitVec 32) (a b : V8) : V8 := addf (mulf a (down d 0x00000000#32 b)) (mulf b (down d 0x3F800000#32 a))
def sDnR (d : BitVec 32) (qr qi xr xi : V8) : V8 :=
  addf xr (subf (mulf qr (down d 0x00000000#32 xr)) (mulf qi (down d 0x00000000#32 xi)))
def sDnI (d : BitVec 32) (qr qi xr xi : V8) : V8 :=
  addf xi (addf (mulf qr (down d 0x00000000#32 xi)) (mulf qi (down d 0x00000000#32 xr)))

def wDn3R (pr pi : V8) : V8 :=
  wDnR 4#32 (wDnR 6#32 (wDnR 7#32 pr pi) (wDnI 7#32 pr pi)) (wDnI 6#32 (wDnR 7#32 pr pi) (wDnI 7#32 pr pi))
def wDn3I (pr pi : V8) : V8 :=
  wDnI 4#32 (wDnR 6#32 (wDnR 7#32 pr pi) (wDnI 7#32 pr pi)) (wDnI 6#32 (wDnR 7#32 pr pi) (wDnI 7#32 pr pi))

def s1DnR (pr pi xr xi : V8) : V8 := sDnR 7#32 pr pi xr xi
def s1DnI (pr pi xr xi : V8) : V8 := sDnI 7#32 pr pi xr xi
def s2DnR (pr pi xr xi : V8) : V8 := sDnR 6#32 (sqR pr pi) (sqI pr pi) (s1DnR pr pi xr xi) (s1DnI pr pi xr xi)
def s2DnI (pr pi xr xi : V8) : V8 := sDnI 6#32 (sqR pr pi) (sqI pr pi) (s1DnR pr pi xr xi) (s1DnI pr pi xr xi)
def s4DnR (pr pi xr xi : V8) : V8 :=
  sDnR 4#32 (sqR (sqR pr pi) (sqI pr pi)) (sqI (sqR pr pi) (sqI pr pi)) (s2DnR pr pi xr xi) (s2DnI pr pi xr xi)
def s4DnI (pr pi xr xi : V8) : V8 :=
  sDnI 4#32 (sqR (sqR pr pi) (sqI pr pi)) (sqI (sqR pr pi) (sqI pr pi)) (s2DnR pr pi xr xi) (s2DnI pr pi xr xi)

/-- The eight rows a descending trip stores, real part and imaginary part. -/
def outDnR (pr pi xr xi cr ci : V8) : V8 := addf (s4DnR pr pi xr xi) (subf (mulf (wDn3R pr pi) cr) (mulf (wDn3I pr pi) ci))
def outDnI (pr pi xr xi cr ci : V8) : V8 := addf (s4DnI pr pi xr xi) (addf (mulf (wDn3R pr pi) ci) (mulf (wDn3I pr pi) cr))

/-- A descending trip is `blockDown` in every lane. -/
theorem outDn_is (hp : IsV pr pi fun _ => p) (hx : IsV xr xi X) (hc : IsV cr ci C) :
    IsV (outDnR pr pi xr xi cr ci) (outDnI pr pi xr xi cr ci)
      fun r l => blockDown (p l) (fun r => X r l) (C r l) r := by
  have hq := hp.mul hp
  have hq2 := hq.mul hq
  have h1 := hx.stepDown hp 7#32 (by simp)
  have h2 := h1.stepDown hq 6#32 (by simp)
  have h4 := h2.stepDown hq2 4#32 (by simp)
  have w1 := hp.mul (hp.down 7#32 _ (by simp) c_fill1)
  have w2 := w1.mul (w1.down 6#32 _ (by simp) c_fill1)
  have w4 := w2.mul (w2.down 4#32 _ (by simp) c_fill1)
  exact h4.add (w4.mul hc)

end Down

end Cert.KernelIdeal.Gen

end
-- ==== Proof.LoopVal.lean ====
/-
  The kernel's three loops over blocks of eight rows.

  `UpStep` and `DownStep` say what one trip of a loop does to the carried state and to the two scratch arrays; each of the
  three loops is shown to go from trip to trip by it, and an induction gives what the scratch arrays hold after the loop:
  the states of the scan in every lane.
-/
module

public import proofs.«01_k».proof.Proof.Scan
public import proofs.«01_k».proof.Proof.Gen.KernelIdeal.Loops
public import Idealize.ShloMosaic.Lib.WritesUnit

@[expose] public section

set_option maxRecDepth 16384

noncomputable section

open Idealize.ShloMosaic Idealize.ShloMosaic.TcCoe Idealize.SL.Sem

namespace Cert.KernelIdeal.Gen

open Cert.KernelIdeal S5

/-- A loop's state: the carried pair and the pieces written so far into the two scratch arrays. -/
abbrev LoopSt : Type :=
  (V8 × V8) × List (View.Piece (Elt Ideal) S2048x512 .f32) × List (View.Piece (Elt Ideal) S2048x512 .f32)

section Step

variable {sg : RefSig} {κ κ' : Kind} {sp sp' : Space} (v : View sg κ sp S2048x512 .f32) (w : View sg κ' sp' S2048x512 .f32)
  (G : v.ty.Contents (Elt Ideal)) (H : w.ty.Contents (Elt Ideal)) (pr pi : V8) (o : ℕ) (s s' : LoopSt)

/-- One ascending trip at the rows from `o` on: it loads eight rows of both arrays, stores the eight states over them and
    carries the last row. -/
def UpStep : Prop :=
  ∃ (off : Fin 2 → ℕ) (inb : ∀ a, off a + S8x512.size a ≤ S2048x512.size a), off = ![o, 0] ∧
    s' = ((edge 7#32 (outUpR pr pi
                (v.readAt (Elt Ideal) (Rect.unit (s := S2048x512) off S8x512.size inb).toLoadRect (v.writes (Elt Ideal) G s.2.1))
                (w.readAt (Elt Ideal) (Rect.unit (s := S2048x512) off S8x512.size inb).toLoadRect (w.writes (Elt Ideal) H s.2.2)) s.1.1 s.1.2),
           edge 7#32 (outUpI pr pi
                (v.readAt (Elt Ideal) (Rect.unit (s := S2048x512) off S8x512.size inb).toLoadRect (v.writes (Elt Ideal) G s.2.1))
                (w.readAt (Elt Ideal) (Rect.unit (s := S2048x512) off S8x512.size inb).toLoadRect (w.writes (Elt Ideal) H s.2.2)) s.1.1 s.1.2)),
          (⟨Rect.unit (s := S2048x512) off S8x512.size inb, outUpR pr pi
                (v.readAt (Elt Ideal) (Rect.unit (s := S2048x512) off S8x512.size inb).toLoadRect (v.writes (Elt Ideal) G s.2.1))
                (w.readAt (Elt Ideal) (Rect.unit (s := S2048x512) off S8x512.size inb).toLoadRect (w.writes (Elt Ideal) H s.2.2)) s.1.1 s.1.2⟩ :
                View.Piece (Elt Ideal) S2048x512 .f32) :: s.2.1,
          (⟨Rect.unit (s := S2048x512) off S8x512.size inb, outUpI pr pi
                (v.readAt (Elt Ideal) (Rect.unit (s := S2048x512) off S8x512.size inb).toLoadRect (v.writes (Elt Ideal) G s.2.1))
                (w.readAt (Elt Ideal) (Rect.unit (s := S2048x512) off S8x512.size inb).toLoadRect (w.writes (Elt Ideal) H s.2.2)) s.1.1 s.1.2⟩ :
                View.Piece (Elt Ideal) S2048x512 .f32) :: s.2.2)

/-- One descending trip at the rows from `o` on: it loads eight rows of both arrays, stores the eight states over them and
    carries the first row. -/
def DownStep : Prop :=
  ∃ (off : Fin 2 → ℕ) (inb : ∀ a, off a + S8x512.size a ≤ S2048x512.size a), off = ![o, 0] ∧
    s' = ((edge 0#32 (outDnR pr pi
                (v.readAt (Elt Ideal) (Rect.unit (s := S2048x512) off S8x512.size inb).toLoadRect (v.writes (Elt Ideal) G s.2.1))
                (w.readAt (Elt Ideal) (Rect.unit (s := S2048x512) off S8x512.size inb).toLoadRect (w.writes (Elt Ideal) H s.2.2)) s.1.1 s.1.2),
           edge 0#32 (outDnI pr pi
                (v.readAt (Elt Ideal) (Rect.unit (s := S2048x512) off S8x512.size inb).toLoadRect (v.writes (Elt Ideal) G s.2.1))
                (w.readAt (Elt Ideal) (Rect.unit (s := S2048x512) off S8x512.size inb).toLoadRect (w.writes (Elt Ideal) H s.2.2)) s.1.1 s.1.2)),
          (⟨Rect.unit (s := S2048x512) off S8x512.size inb, outDnR pr pi
                (v.readAt (Elt Ideal) (Rect.unit (s := S2048x512) off S8x512.size inb).toLoadRect (v.writes (Elt Ideal) G s.2.1))
                (w.readAt (Elt Ideal) (Rect.unit (s := S2048x512) off S8x512.size inb).toLoadRect (w.writes (Elt Ideal) H s.2.2)) s.1.1 s.1.2⟩ :
                View.Piece (Elt Ideal) S2048x512 .f32) :: s.2.1,
          (⟨Rect.unit (s := S2048x512) off S8x512.size inb, outDnI pr pi
                (v.readAt (Elt Ideal) (Rect.unit (s := S2048x512) off S8x512.size inb).toLoadRect (v.writes (Elt Ideal) G s.2.1))
                (w.readAt (Elt Ideal) (Rect.unit (s := S2048x512) off S8x512.size inb).toLoadRect (w.writes (Elt Ideal) H s.2.2)) s.1.1 s.1.2⟩ :
                View.Piece (Elt Ideal) S2048x512 .f32) :: s.2.2)

end Step

/-- The forward kernel's loop goes from trip to trip by `UpStep`. -/
theorem k0_t1_step (𝒱 : Variants) (c : Dev nD) (bd : Option 𝒱.V) (i : grid0.Coords) (arg1 : Memref sig .tc .vmem S2048x128 .f32) (harg1 : arg1.IsWhole) (arg2 : Memref sig .tc .vmem S1x128x512 .f32) (harg2 : arg2.IsWhole) (arg3 : Memref sig .tc .vmem S1x128x512 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S2048x512 .f32) (harg12 : arg12.IsWhole) (arg13 : Memref sig .tc .vmem S2048x512 .f32) (harg13 : arg13.IsWhole) (v0 : Vec Ideal S2048x128 .f32) (pr pi : V8)
    (G_arg12 : BufTy.Contents (Elt Ideal) arg12.view.ty) (G_arg13 : BufTy.Contents (Elt Ideal) arg13.view.ty)
    (init : V8 × V8) (k : ℕ) (hk : k < 256) :
    UpStep arg12.view arg13.view G_arg12 G_arg13 pr pi (8 * k)
      (st_k0_t1 𝒱 c bd i arg1 harg1 arg2 harg2 arg3 harg3 arg4 harg4 arg5 harg5 arg6 harg6 arg7 harg7 arg8 harg8 arg9 harg9 arg10 harg10 arg11 harg11 arg12 harg12 arg13 harg13 v0 rowNo pr pi (sqR pr pi) (sqI pr pi) (sqR (sqR pr pi) (sqI pr pi)) (sqI (sqR pr pi) (sqI pr pi)) (w2UpR pr pi) (w2UpI pr pi) (up 4#32 0x3F800000#32 (w2UpR pr pi)) (up 4#32 0x00000000#32 (w2UpI pr pi)) (mulf (w2UpR pr pi) (up 4#32 0x3F800000#32 (w2UpR pr pi))) (mulf (w2UpI pr pi) (up 4#32 0x00000000#32 (w2UpI pr pi))) G_arg12 G_arg13 init k)
      (st_k0_t1 𝒱 c bd i arg1 harg1 arg2 harg2 arg3 harg3 arg4 harg4 arg5 harg5 arg6 harg6 arg7 harg7 arg8 harg8 arg9 harg9 arg10 harg10 arg11 harg11 arg12 harg12 arg13 harg13 v0 rowNo pr pi (sqR pr pi) (sqI pr pi) (sqR (sqR pr pi) (sqI pr pi)) (sqI (sqR pr pi) (sqI pr pi)) (w2UpR pr pi) (w2UpI pr pi) (up 4#32 0x3F800000#32 (w2UpR pr pi)) (up 4#32 0x00000000#32 (w2UpI pr pi)) (mulf (w2UpR pr pi) (up 4#32 0x3F800000#32 (w2UpR pr pi))) (mulf (w2UpI pr pi) (up 4#32 0x00000000#32 (w2UpI pr pi))) G_arg12 G_arg13 init (k + 1)) := by
  refine ⟨k0_off1 ⟨k, hk⟩, k0_off1_inb ⟨k, hk⟩, k0_off1_eq ⟨k, hk⟩, ?_⟩
  rw [st_k0_t1_succ (k := ⟨k, hk⟩)]
  unfold tripR_k0_t1 tripL_k0_t1 trip_k0_t1
  dsimp only
  sl_unfold_words
  simp only [k0_pay16, k0_pay17, shapeCast_self]
  rfl

/-- The backward kernel's first loop goes from trip to trip by `UpStep`. -/
theorem k1_t1_step (𝒱 : Variants) (c : Dev nD) (bd : Option 𝒱.V) (i : grid1.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x128 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S2048x512 .f32) (harg22 : arg22.IsWhole) (v10 : FVec Ideal S512x128 .bf16) (v13 : FVec Ideal S512x128 .bf16) (v15 : FVec Ideal S1x512 .f32) (v17 : FVec Ideal S1x512 .f32) (v53 : FVec Ideal S2048x128 .bf16) (pr pi : V8)
    (G_arg19 : BufTy.Contents (Elt Ideal) arg19.view.ty) (G_arg20 : BufTy.Contents (Elt Ideal) arg20.view.ty)
    (init : V8 × V8) (k : ℕ) (hk : k < 256) :
    UpStep arg19.view arg20.view G_arg19 G_arg20 pr pi (8 * k)
      (st_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v10 v13 v15 v17 v53 rowNo pr pi (sqR pr pi) (sqI pr pi) (sqR (sqR pr pi) (sqI pr pi)) (sqI (sqR pr pi) (sqI pr pi)) (w2UpR pr pi) (w2UpI pr pi) (up 4#32 0x3F800000#32 (w2UpR pr pi)) (up 4#32 0x00000000#32 (w2UpI pr pi)) G_arg19 G_arg20 init k)
      (st_k1_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v10 v13 v15 v17 v53 rowNo pr pi (sqR pr pi) (sqI pr pi) (sqR (sqR pr pi) (sqI pr pi)) (sqI (sqR pr pi) (sqI pr pi)) (w2UpR pr pi) (w2UpI pr pi) (up 4#32 0x3F800000#32 (w2UpR pr pi)) (up 4#32 0x00000000#32 (w2UpI pr pi)) G_arg19 G_arg20 init (k + 1)) := by
  refine ⟨k1_off1 ⟨k, hk⟩, k1_off1_inb ⟨k, hk⟩, k1_off1_eq ⟨k, hk⟩, ?_⟩
  rw [st_k1_t1_succ (k := ⟨k, hk⟩)]
  unfold tripR_k1_t1 tripL_k1_t1 trip_k1_t1
  dsimp only
  sl_unfold_words
  simp only [k1_pay14, k1_pay15, shapeCast_self]
  rfl

/-- The backward kernel's second loop goes from trip to trip by `DownStep`. -/
theorem k1_t2_step (𝒱 : Variants) (c : Dev nD) (bd : Option 𝒱.V) (i : grid1.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x128 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S2048x512 .f32) (harg22 : arg22.IsWhole) (v1 : FVec Ideal S2048x128 .bf16) (v53 : FVec Ideal S2048x128 .bf16) (cst_78 : Ideal .f32) (pr pi : V8)
    (G_arg21 : BufTy.Contents (Elt Ideal) arg21.view.ty) (G_arg22 : BufTy.Contents (Elt Ideal) arg22.view.ty)
    (init : V8 × V8) (k : ℕ) (hk : k < 256) :
    DownStep arg21.view arg22.view G_arg21 G_arg22 pr pi (2040 - 8 * k)
      (st_k1_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v53 rowNo pr pi (sqR pr pi) (sqI pr pi) (sqR (sqR pr pi) (sqI pr pi)) (sqI (sqR pr pi) (sqI pr pi)) (wDn3R pr pi) (wDn3I pr pi) cst_78 G_arg21 G_arg22 init k)
      (st_k1_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1 v53 rowNo pr pi (sqR pr pi) (sqI pr pi) (sqR (sqR pr pi) (sqI pr pi)) (sqI (sqR pr pi) (sqI pr pi)) (wDn3R pr pi) (wDn3I pr pi) cst_78 G_arg21 G_arg22 init (k + 1)) := by
  refine ⟨k1_off2 ⟨k, hk⟩, k1_off2_inb ⟨k, hk⟩, k1_off2_eq ⟨k, hk⟩, ?_⟩
  rw [st_k1_t2_succ (k := ⟨k, hk⟩)]
  unfold tripR_k1_t2 tripL_k1_t2 trip_k1_t2
  dsimp only
  sl_unfold_words
  simp only [k1_pay30, k1_pay31, shapeCast_self]
  rfl

/-- The zero a loop carries into its first trip. -/
theorem c_zz {i : S8x512.Idx} : IsC (broadcast S8x512 (Scalar.ofBits .f32 0x00000000#32 : Ideal .f32) i) (broadcast S8x512 (Scalar.ofBits .f32 0x00000000#32 : Ideal .f32) i) 0 := by
  simp only [broadcast, fill0]; exact IsC.zero

section Induction

variable {sg : RefSig} {κ κ' : Kind} {sp sp' : Space} {v : View sg κ sp S2048x512 .f32} {w : View sg κ' sp' S2048x512 .f32}
  {G : v.ty.Contents (Elt Ideal)} {H : w.ty.Contents (Elt Ideal)} {pr pi : V8} {p : Fin 512 → ℂ} {x : Fin 512 → ℕ → ℂ}
  {S : ℕ → LoopSt}

/-- The eight rows a trip loads are the rows from `o` on. -/
theorem load_rows {sg : RefSig} {κ : Kind} {sp : Space} (v : View sg κ sp S2048x512 .f32) (f : v.ty.Contents (Elt Ideal))
    {off : Fin 2 → ℕ} {o : ℕ} (inb : ∀ a, off a + S8x512.size a ≤ S2048x512.size a) (ho : off = ![o, 0]) (hb : o + 8 ≤ 2048)
    (r : Fin 8) (l : Fin 512) :
    v.readAt (Elt Ideal) (Rect.unit (s := S2048x512) off S8x512.size inb).toLoadRect f (ix2 r l)
      = v.read (Elt Ideal) f (ix2 ⟨o + r, by omega⟩ l) := by
  subst ho
  refine congrArg (v.read (Elt Ideal) f) (funext fun a => Fin.ext ?_)
  fin_cases a
  · show o + 1 * (r : ℕ) = o + r; omega
  · show 0 + 1 * (l : ℕ) = l; omega

/-- After `k` ascending trips the rows below `8 k` hold the scan's states, the others what they held, and the carried
    pair is the state after `8 k` inputs in every row. -/
theorem loopUp (hp : IsV pr pi fun _ => p) (h0 : S 0 = ((broadcast S8x512 (Scalar.ofBits .f32 0x00000000#32), broadcast S8x512 (Scalar.ofBits .f32 0x00000000#32)), [], []))
    (hs : ∀ k < 256, UpStep v w G H pr pi (8 * k) (S k) (S (k + 1)))
    (hx : ∀ (t : Fin 2048) l, IsC (v.read (Elt Ideal) G (ix2 t l)) (w.read (Elt Ideal) H (ix2 t l)) (x l t)) (k : ℕ) (hk : k ≤ 256) :
    IsV (S k).1.1 (S k).1.2 (fun _ l => scan (p l) (x l) (8 * k)) ∧
    ∀ (t : Fin 2048) l, IsC (v.read (Elt Ideal) (v.writes (Elt Ideal) G (S k).2.1) (ix2 t l))
      (w.read (Elt Ideal) (w.writes (Elt Ideal) H (S k).2.2) (ix2 t l))
      (if (t : ℕ) < 8 * k then scan (p l) (x l) (t + 1) else x l t) := by
  induction k with
  | zero =>
    rw [h0]
    exact ⟨fun r l => c_zz (i := ix2 r l), fun t l => by simpa using hx t l⟩
  | succ k ih =>
    obtain ⟨hc, hr⟩ := ih (by omega)
    obtain ⟨off, inb, ho, hS⟩ := hs k (by omega)
    have hX : IsV (v.readAt (Elt Ideal) (Rect.unit (s := S2048x512) off S8x512.size inb).toLoadRect (v.writes (Elt Ideal) G (S k).2.1))
        (w.readAt (Elt Ideal) (Rect.unit (s := S2048x512) off S8x512.size inb).toLoadRect (w.writes (Elt Ideal) H (S k).2.2))
        (fun r l => x l (8 * k + r)) := fun r l => by
      rw [load_rows v _ inb ho (by omega) r l, load_rows w _ inb ho (by omega) r l]
      have := hr ⟨8 * k + r, by omega⟩ l
      rwa [if_neg (by simp)] at this
    have hO := outUp_is hp hX hc
    have hO' : IsV _ _ (fun r l => scan (p l) (x l) (8 * k + r + 1)) := fun r l => by
      have := hO r l; dsimp only at this; rwa [blockUp_eq (p l) (x l) (8 * k) r] at this
    rw [hS]
    refine ⟨fun r l => ?_, fun t l => ?_⟩
    · dsimp only
      rw [edge7_apply, edge7_apply]
      exact hO' 7 l
    · dsimp only
      by_cases h1 : (t : ℕ) < 8 * k
      · rw [View.read_writes_cons_rows_of_not_mem _ _ inb _ _ _ ho rfl (.inl h1),
          View.read_writes_cons_rows_of_not_mem _ _ inb _ _ _ ho rfl (.inl h1), if_pos (by omega)]
        have := hr t l
        rwa [if_pos h1] at this
      by_cases h2 : (t : ℕ) < 8 * k + 8
      · rw [View.read_writes_cons_rows_of_mem _ _ inb _ _ _ (ix2 ⟨t - 8 * k, by omega⟩ l) ho (by simp only [ix2_0]; omega) rfl,
          View.read_writes_cons_rows_of_mem _ _ inb _ _ _ (ix2 ⟨t - 8 * k, by omega⟩ l) ho (by simp only [ix2_0]; omega) rfl, if_pos (by omega)]
        have := hO' ⟨t - 8 * k, by omega⟩ l
        have e : 8 * k + (t - 8 * k) + 1 = (t : ℕ) + 1 := by omega
        simp only [e] at this
        exact this
      · rw [View.read_writes_cons_rows_of_not_mem _ _ inb _ _ _ ho rfl (.inr (by simpa using h2)),
          View.read_writes_cons_rows_of_not_mem _ _ inb _ _ _ ho rfl (.inr (by simpa using h2)), if_neg (by omega)]
        have := hr t l
        rwa [if_neg h1] at this

/-- After `k` descending trips the rows from `2048 - 8 k` on hold the scan's states, the last row first. -/
theorem loopDown (hp : IsV pr pi fun _ => p) (h0 : S 0 = ((broadcast S8x512 (Scalar.ofBits .f32 0x00000000#32), broadcast S8x512 (Scalar.ofBits .f32 0x00000000#32)), [], []))
    (hs : ∀ k < 256, DownStep v w G H pr pi (2040 - 8 * k) (S k) (S (k + 1)))
    (hx : ∀ (t : Fin 2048) l, IsC (v.read (Elt Ideal) G (ix2 t l)) (w.read (Elt Ideal) H (ix2 t l)) (x l (2047 - t))) (k : ℕ) (hk : k ≤ 256) :
    IsV (S k).1.1 (S k).1.2 (fun _ l => scan (p l) (x l) (8 * k)) ∧
    ∀ (t : Fin 2048) l, IsC (v.read (Elt Ideal) (v.writes (Elt Ideal) G (S k).2.1) (ix2 t l))
      (w.read (Elt Ideal) (w.writes (Elt Ideal) H (S k).2.2) (ix2 t l))
      (if 2048 - 8 * k ≤ (t : ℕ) then scan (p l) (x l) (2047 - t + 1) else x l (2047 - t)) := by
  induction k with
  | zero =>
    rw [h0]
    exact ⟨fun r l => c_zz (i := ix2 r l), fun t l => by rw [if_neg (by omega)]; exact hx t l⟩
  | succ k ih =>
    obtain ⟨hc, hr⟩ := ih (by omega)
    obtain ⟨off, inb, ho, hS⟩ := hs k (by omega)
    have hX : IsV (v.readAt (Elt Ideal) (Rect.unit (s := S2048x512) off S8x512.size inb).toLoadRect (v.writes (Elt Ideal) G (S k).2.1))
        (w.readAt (Elt Ideal) (Rect.unit (s := S2048x512) off S8x512.size inb).toLoadRect (w.writes (Elt Ideal) H (S k).2.2))
        (fun r l => x l (8 * k + (7 - r))) := fun r l => by
      rw [load_rows v _ inb ho (by omega) r l, load_rows w _ inb ho (by omega) r l]
      have := hr ⟨2040 - 8 * k + r, by omega⟩ l
      have e : 2047 - (2040 - 8 * k + (r : ℕ)) = 8 * k + (7 - r) := by omega
      rw [if_neg (by simp only []; omega)] at this
      simp only [e] at this
      exact this
    have hO := outDn_is hp hX hc
    have hO' : IsV _ _ (fun r l => scan (p l) (x l) (8 * k + (7 - r) + 1)) := fun r l => by
      have := hO r l; dsimp only at this; rwa [blockDown_eq (p l) (x l) (8 * k) r] at this
    rw [hS]
    refine ⟨fun r l => ?_, fun t l => ?_⟩
    · dsimp only
      rw [edge0_apply, edge0_apply]
      exact hO' 0 l
    · dsimp only
      by_cases h1 : 2048 - 8 * k ≤ (t : ℕ)
      · rw [View.read_writes_cons_rows_of_not_mem _ _ inb _ _ _ ho (W := 8) rfl (.inr (by show 2040 - 8 * k + 8 ≤ (t : ℕ); omega)),
          View.read_writes_cons_rows_of_not_mem _ _ inb _ _ _ ho (W := 8) rfl (.inr (by show 2040 - 8 * k + 8 ≤ (t : ℕ); omega)), if_pos (by omega)]
        have := hr t l
        rwa [if_pos h1] at this
      by_cases h2 : 2040 - 8 * k ≤ (t : ℕ)
      · rw [View.read_writes_cons_rows_of_mem _ _ inb _ _ _ (ix2 ⟨t - (2040 - 8 * k), by omega⟩ l) ho (by simp only [ix2_0]; omega) rfl,
          View.read_writes_cons_rows_of_mem _ _ inb _ _ _ (ix2 ⟨t - (2040 - 8 * k), by omega⟩ l) ho (by simp only [ix2_0]; omega) rfl, if_pos (by omega)]
        have := hO' ⟨t - (2040 - 8 * k), by omega⟩ l
        have e : 8 * k + (7 - (t - (2040 - 8 * k))) + 1 = 2047 - (t : ℕ) + 1 := by omega
        simp only [e] at this
        exact this
      · rw [View.read_writes_cons_rows_of_not_mem _ _ inb _ _ _ ho rfl (.inl (by simp only [ix2_0]; omega)),
          View.read_writes_cons_rows_of_not_mem _ _ inb _ _ _ ho rfl (.inl (by simp only [ix2_0]; omega)), if_neg (by omega)]
        have := hr t l
        rwa [if_neg h1] at this

end Induction

end Cert.KernelIdeal.Gen

end
-- ==== Proof.FwdVal.lean ====
/-
  The forward kernel's blocks: what one grid point leaves in its outputs, as functions of its inputs and of the states of
  the scan.
-/
module

public import proofs.«01_k».proof.Proof.LoopVal
public import proofs.«01_k».proof.Proof.Gen.KernelIdeal.Frame

@[expose] public section

set_option maxRecDepth 16384

noncomputable section

open Idealize.ShloMosaic Idealize.ShloMosaic.TcCoe Idealize.SL.Sem

namespace Cert.KernelIdeal.Gen

open Cert.KernelIdeal S5

theorem hz2 : (![0, 0] : Fin 2 → Nat) = fun _ => 0 := funext fun a => by fin_cases a <;> rfl
theorem hz3 : (![0, 0, 0] : Fin 3 → Nat) = fun _ => 0 := funext fun a => by fin_cases a <;> rfl

section Read

variable {sg : RefSig} {κ : Kind} {sp : Space} {s : Shape} {e : EltTy} (v : View sg κ sp s e)

/-- Two lists of writes one after the other. -/
theorem writes_app (f : v.ty.Contents (Elt Ideal)) (L M : List (View.Piece (Elt Ideal) s e)) :
    v.writes (Elt Ideal) f (L ++ M) = v.writes (Elt Ideal) (v.writes (Elt Ideal) f M) L := by
  induction L with
  | nil => rfl
  | cons p L ih => rw [List.cons_append, View.writes_cons, View.writes_cons, ih]

/-- A load of the whole array is its contents. -/
theorem readAt_whole {off : Fin s.rank → ℕ} (h : off = fun _ => 0) (inb : ∀ a, off a + s.size a ≤ s.size a)
    (f : v.ty.Contents (Elt Ideal)) : v.readAt (Elt Ideal) (Rect.unit off s.size inb).toLoadRect f = v.read (Elt Ideal) f := by
  rw [View.readAt_eq_ld]; exact View.ld_unit_zero h inb _

/-- A store of the whole array leaves what was stored. -/
theorem read_whole {off : Fin s.rank → ℕ} (h : off = fun _ => 0) (inb : ∀ a, off a + s.size a ≤ s.size a)
    (f : v.ty.Contents (Elt Ideal)) (w : s.Idx → Elt Ideal e) :
    v.read (Elt Ideal) (v.writes (Elt Ideal) f [⟨Rect.unit off s.size inb, w⟩]) = w := by
  rw [View.read_writes_eq_canon _ _ _ fun y => ⟨_, List.mem_singleton_self _, by
    subst h; show y ∈ (Rect.whole s).set; rw [Rect.set_whole]; exact Finset.mem_univ y⟩]
  exact View.canon_unit_zero h inb w

end Read

/-- The first input of a trip: the scan of `k0_pay21 x0 x1`, `k0_pay22 x0 x2` with the factors `x5`, `x6` is what the
    forward kernel's outputs are formed from. -/
theorem fwd_out (c : Dev nD) (i : grid0.Coords) (arg1 : Memref sig .tc .vmem S2048x128 .f32) (harg1 : arg1.IsWhole) (arg2 : Memref sig .tc .vmem S1x128x512 .f32) (harg2 : arg2.IsWhole) (arg3 : Memref sig .tc .vmem S1x128x512 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S2048x512 .f32) (harg12 : arg12.IsWhole) (arg13 : Memref sig .tc .vmem S2048x512 .f32) (harg13 : arg13.IsWhole) (x0 : Vec Ideal S2048x128 .f32) (x1 : Vec Ideal S1x128x512 .f32) (x2 : Vec Ideal S1x128x512 .f32) (x3 : Vec Ideal S1x512x128 .f32) (x4 : Vec Ideal S1x512x128 .f32) (x5 : Vec Ideal S1x512 .f32) (x6 : Vec Ideal S1x512 .f32) (x7 : Vec Ideal S1x128 .f32)
    {p : Fin 512 → ℂ} {x : Fin 512 → ℕ → ℂ} (hp : IsV (k0_pay23 x5) (k0_pay24 x6) fun _ => p)
    (hx : ∀ (t : Fin 2048) l, IsC (k0_pay21 x0 x1 (ix2 t l)) (k0_pay22 x0 x2 (ix2 t l)) (x l t)) :
    ∃ SR SI : Vec Ideal S2048x512 .f32,
      (out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay47 x0 SR x3 SI x4 x7 ∧
       out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay1 (k0_pay47 x0 SR x3 SI x4 x7) (k0_pay48 x0 SR x3 SI x4 x7) k0_pay49) ∧
      ∀ t l, IsC (SR (ix2 t l)) (SI (ix2 t l)) (scan (p l) (x l) (t + 1)) := by
  have hL := loopUp (v := arg12.view) (w := arg13.view) (pr := k0_pay23 x5) (pi := k0_pay24 x6) (p := p) (x := x)
    (G := arg12.view.writes (Elt Ideal) arg12.view.junk [⟨Rect.unit ![0, 0] S2048x512.size inb_S2048x512_S2048x512_0_0, k0_pay21 x0 x1⟩])
    (H := arg13.view.writes (Elt Ideal) arg13.view.junk [⟨Rect.unit ![0, 0] S2048x512.size inb_S2048x512_S2048x512_0_0, k0_pay22 x0 x2⟩])
    (S := st_k0_t1 Variants.none c none i arg1 harg1 arg2 harg2 arg3 harg3 arg4 harg4 arg5 harg5 arg6 harg6 arg7 harg7 arg8 harg8 arg9 harg9 arg10 harg10 arg11 harg11 arg12 harg12 arg13 harg13 x0 rowNo (k0_pay23 x5) (k0_pay24 x6) (sqR (k0_pay23 x5) (k0_pay24 x6)) (sqI (k0_pay23 x5) (k0_pay24 x6)) (sqR (sqR (k0_pay23 x5) (k0_pay24 x6)) (sqI (k0_pay23 x5) (k0_pay24 x6))) (sqI (sqR (k0_pay23 x5) (k0_pay24 x6)) (sqI (k0_pay23 x5) (k0_pay24 x6))) (w2UpR (k0_pay23 x5) (k0_pay24 x6)) (w2UpI (k0_pay23 x5) (k0_pay24 x6)) (up 4#32 0x3F800000#32 (w2UpR (k0_pay23 x5) (k0_pay24 x6))) (up 4#32 0x00000000#32 (w2UpI (k0_pay23 x5) (k0_pay24 x6))) (mulf (w2UpR (k0_pay23 x5) (k0_pay24 x6)) (up 4#32 0x3F800000#32 (w2UpR (k0_pay23 x5) (k0_pay24 x6)))) (mulf (w2UpI (k0_pay23 x5) (k0_pay24 x6)) (up 4#32 0x00000000#32 (w2UpI (k0_pay23 x5) (k0_pay24 x6)))) _ _ (k0_pay44, k0_pay44))
    hp rfl (fun k hk => k0_t1_step _ _ _ _ arg1 harg1 arg2 harg2 arg3 harg3 arg4 harg4 arg5 harg5 arg6 harg6 arg7 harg7 arg8 harg8 arg9 harg9 arg10 harg10 arg11 harg11 arg12 harg12 arg13 harg13 _ _ _ _ _ _ k hk)
    (fun t l => by rw [read_whole _ hz2, read_whole _ hz2]; exact hx t l) 256 le_rfl
  refine ⟨arg12.view.readCov ((st_k0_t1 Variants.none c none i arg1 harg1 arg2 harg2 arg3 harg3 arg4 harg4 arg5 harg5 arg6 harg6 arg7 harg7 arg8 harg8 arg9 harg9 arg10 harg10 arg11 harg11 arg12 harg12 arg13 harg13 x0 rowNo (k0_pay23 x5) (k0_pay24 x6) (sqR (k0_pay23 x5) (k0_pay24 x6)) (sqI (k0_pay23 x5) (k0_pay24 x6)) (sqR (sqR (k0_pay23 x5) (k0_pay24 x6)) (sqI (k0_pay23 x5) (k0_pay24 x6))) (sqI (sqR (k0_pay23 x5) (k0_pay24 x6)) (sqI (k0_pay23 x5) (k0_pay24 x6))) (w2UpR (k0_pay23 x5) (k0_pay24 x6)) (w2UpI (k0_pay23 x5) (k0_pay24 x6)) (up 4#32 0x3F800000#32 (w2UpR (k0_pay23 x5) (k0_pay24 x6))) (up 4#32 0x00000000#32 (w2UpI (k0_pay23 x5) (k0_pay24 x6))) (mulf (w2UpR (k0_pay23 x5) (k0_pay24 x6)) (up 4#32 0x3F800000#32 (w2UpR (k0_pay23 x5) (k0_pay24 x6)))) (mulf (w2UpI (k0_pay23 x5) (k0_pay24 x6)) (up 4#32 0x00000000#32 (w2UpI (k0_pay23 x5) (k0_pay24 x6))))
      (arg12.view.writes (Elt Ideal) arg12.view.junk [⟨Rect.unit ![0, 0] S2048x512.size inb_S2048x512_S2048x512_0_0, k0_pay21 x0 x1⟩])
      (arg13.view.writes (Elt Ideal) arg13.view.junk [⟨Rect.unit ![0, 0] S2048x512.size inb_S2048x512_S2048x512_0_0, k0_pay22 x0 x2⟩])
      (k0_pay44, k0_pay44) 256).2.1 ++ [⟨Rect.unit ![0, 0] S2048x512.size inb_S2048x512_S2048x512_0_0, k0_pay21 x0 x1⟩])
      (Rect.unit ![0, 0] S2048x512.size inb_S2048x512_S2048x512_0_0).toLoadRect,
    arg13.view.readCov ((st_k0_t1 Variants.none c none i arg1 harg1 arg2 harg2 arg3 harg3 arg4 harg4 arg5 harg5 arg6 harg6 arg7 harg7 arg8 harg8 arg9 harg9 arg10 harg10 arg11 harg11 arg12 harg12 arg13 harg13 x0 rowNo (k0_pay23 x5) (k0_pay24 x6) (sqR (k0_pay23 x5) (k0_pay24 x6)) (sqI (k0_pay23 x5) (k0_pay24 x6)) (sqR (sqR (k0_pay23 x5) (k0_pay24 x6)) (sqI (k0_pay23 x5) (k0_pay24 x6))) (sqI (sqR (k0_pay23 x5) (k0_pay24 x6)) (sqI (k0_pay23 x5) (k0_pay24 x6))) (w2UpR (k0_pay23 x5) (k0_pay24 x6)) (w2UpI (k0_pay23 x5) (k0_pay24 x6)) (up 4#32 0x3F800000#32 (w2UpR (k0_pay23 x5) (k0_pay24 x6))) (up 4#32 0x00000000#32 (w2UpI (k0_pay23 x5) (k0_pay24 x6))) (mulf (w2UpR (k0_pay23 x5) (k0_pay24 x6)) (up 4#32 0x3F800000#32 (w2UpR (k0_pay23 x5) (k0_pay24 x6)))) (mulf (w2UpI (k0_pay23 x5) (k0_pay24 x6)) (up 4#32 0x00000000#32 (w2UpI (k0_pay23 x5) (k0_pay24 x6))))
      (arg12.view.writes (Elt Ideal) arg12.view.junk [⟨Rect.unit ![0, 0] S2048x512.size inb_S2048x512_S2048x512_0_0, k0_pay21 x0 x1⟩])
      (arg13.view.writes (Elt Ideal) arg13.view.junk [⟨Rect.unit ![0, 0] S2048x512.size inb_S2048x512_S2048x512_0_0, k0_pay22 x0 x2⟩])
      (k0_pay44, k0_pay44) 256).2.2 ++ [⟨Rect.unit ![0, 0] S2048x512.size inb_S2048x512_S2048x512_0_0, k0_pay22 x0 x2⟩])
      (Rect.unit ![0, 0] S2048x512.size inb_S2048x512_S2048x512_0_0).toLoadRect, ⟨?e8, ?e9⟩, ?states⟩
  case e8 =>
    unfold out0_A_8
    rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
    unfold kernelRun0_A
    dsimp only
    sl_unfold_words
    rw [View.canon_unit_zero (S := S2048x128) hz2]
    simp only [View.readAt_eq_ld, Memref.IsWhole.read_unread, View.ld_unit_zero (S := S2048x128) hz2,
      View.ld_unit_zero (S := S1x512) hz2, View.ld_unit_zero (S := S1x128) hz2, View.ld_unit_zero (S := S1x128x512) hz3,
      View.ld_unit_zero (S := S1x512x128) hz3]
    rfl
  case e9 =>
    unfold out0_A_9
    rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7)]
    unfold kernelRun0_A
    dsimp only
    sl_unfold_words
    rw [View.canon_unit_zero (S := S2048x128) hz2]
    simp only [View.readAt_eq_ld, Memref.IsWhole.read_unread, View.ld_unit_zero (S := S2048x128) hz2,
      View.ld_unit_zero (S := S1x512) hz2, View.ld_unit_zero (S := S1x128) hz2, View.ld_unit_zero (S := S1x128x512) hz3,
      View.ld_unit_zero (S := S1x512x128) hz3]
    rfl
  case states =>
    intro t l
    have := hL.2 t l
    rw [if_pos (by omega), ← writes_app, ← writes_app, ← readAt_whole _ hz2 inb_S2048x512_S2048x512_0_0,
      ← readAt_whole _ hz2 inb_S2048x512_S2048x512_0_0] at this
    exact this

end Cert.KernelIdeal.Gen

end
-- ==== Proof.BwdVal.lean ====
/-
  The backward kernel's blocks: what one grid point leaves in its eight outputs, as functions of its inputs, of the states
  of the forward scan and of the states of the reversed scan of the cotangent.
-/
module

public import proofs.«01_k».proof.Proof.FwdVal

@[expose] public section

set_option maxRecDepth 16384

noncomputable section

open Idealize.ShloMosaic Idealize.ShloMosaic.TcCoe Idealize.SL.Sem

namespace Cert.KernelIdeal.Gen

open Cert.KernelIdeal S5

section Read

variable {sg : RefSig} {κ : Kind} {sp : Space} {s : Shape} {e : EltTy} (v : View sg κ sp s e)

/-- A load of the whole of what a list of writes left. -/
theorem readCov_whole {off : Fin s.rank → ℕ} (h : off = fun _ => 0) (inb : ∀ a, off a + s.size a ≤ s.size a)
    (L : List (View.Piece (Elt Ideal) s e)) :
    v.readCov L (Rect.unit off s.size inb).toLoadRect = v.read (Elt Ideal) (v.writes (Elt Ideal) v.junk L) :=
  readAt_whole v h inb _

/-- A load of a part of it. -/
theorem readCov_ld (r : Rect s) (L : List (View.Piece (Elt Ideal) s e)) :
    v.readCov L r.toLoadRect = View.ld (v.read (Elt Ideal) (v.writes (Elt Ideal) v.junk L)) r := rfl

end Read

/-- The rows from 0 on, 512 of them. -/
def rows0 (X : Vec Ideal S2048x512 .f32) : Vec Ideal S512x512 .f32 :=
  View.ld X (Rect.unit (s := S2048x512) ![0, 0] S512x512.size inb_S2048x512_S512x512_0_0)
def urows0 (X : Vec Ideal S2048x128 .f32) : Vec Ideal S512x128 .f32 :=
  View.ld X (Rect.unit (s := S2048x128) ![0, 0] S512x128.size inb_S2048x128_S512x128_0_0)

/-- The rows from 512 on, 512 of them. -/
def rows1 (X : Vec Ideal S2048x512 .f32) : Vec Ideal S512x512 .f32 :=
  View.ld X (Rect.unit (s := S2048x512) ![512, 0] S512x512.size inb_S2048x512_S512x512_512_0)
def urows1 (X : Vec Ideal S2048x128 .f32) : Vec Ideal S512x128 .f32 :=
  View.ld X (Rect.unit (s := S2048x128) ![512, 0] S512x128.size inb_S2048x128_S512x128_512_0)

/-- The rows from 1024 on, 512 of them. -/
def rows2 (X : Vec Ideal S2048x512 .f32) : Vec Ideal S512x512 .f32 :=
  View.ld X (Rect.unit (s := S2048x512) ![1024, 0] S512x512.size inb_S2048x512_S512x512_1024_0)
def urows2 (X : Vec Ideal S2048x128 .f32) : Vec Ideal S512x128 .f32 :=
  View.ld X (Rect.unit (s := S2048x128) ![1024, 0] S512x128.size inb_S2048x128_S512x128_1024_0)

/-- The rows from 1536 on, 512 of them. -/
def rows3 (X : Vec Ideal S2048x512 .f32) : Vec Ideal S512x512 .f32 :=
  View.ld X (Rect.unit (s := S2048x512) ![1536, 0] S512x512.size inb_S2048x512_S512x512_1536_0)
def urows3 (X : Vec Ideal S2048x128 .f32) : Vec Ideal S512x128 .f32 :=
  View.ld X (Rect.unit (s := S2048x128) ![1536, 0] S512x128.size inb_S2048x128_S512x128_1536_0)

/-- The real part of the factors' gradient as the kernel forms it, block by block of 512 rows. -/
def dlrOf (v4 v7 : FVec Ideal S128x512 .bf16) (v15 v17 : FVec Ideal S1x512 .f32) (u : Vec Ideal S2048x128 .f32) (SR SI GR GI : Vec Ideal S2048x512 .f32) : FVec Ideal S1x512 .f32 :=
  k1_pay136 v4 v7 (k1_pay107 v15 v17) (k1_pay108 v15 v17)
    (k1_pay129 v4 v7 (k1_pay107 v15 v17) (k1_pay108 v15 v17)
      (k1_pay117 (k1_pay107 v15 v17) (k1_pay108 v15 v17) k1_pay109 (k1_pay112 v4 (urows0 u) (rows0 SR)) (k1_pay113 v7 (urows0 u) (rows0 SI))
        (k1_pay114 v4 v15 v17 (urows0 u) (rows0 SR)) (rows0 GR) (rows0 GI))
      (k1_pay122 v4 v7 (k1_pay107 v15 v17) (k1_pay108 v15 v17) (urows1 u) (rows1 SR) (rows1 SI))
      (k1_pay123 v4 v7 (k1_pay107 v15 v17) (k1_pay108 v15 v17) (urows1 u) (rows1 SR) (rows1 SI)) (rows1 GR) (rows1 GI)
      (urows2 u) (rows2 SR) (rows2 SI) (rows2 GR) (rows2 GI))
    (urows3 u) (rows3 SR) (rows3 SI) (rows3 GR) (rows3 GI)

/-- The imaginary part of the factors' gradient as the kernel forms it, block by block of 512 rows. -/
def dliOf (v4 v7 : FVec Ideal S128x512 .bf16) (v15 v17 : FVec Ideal S1x512 .f32) (u : Vec Ideal S2048x128 .f32) (SR SI GR GI : Vec Ideal S2048x512 .f32) : FVec Ideal S1x512 .f32 :=
  k1_pay137 v4 v7 (k1_pay107 v15 v17) (k1_pay108 v15 v17)
    (k1_pay130 v4 v7 (k1_pay107 v15 v17) (k1_pay108 v15 v17)
      (k1_pay118 (k1_pay107 v15 v17) (k1_pay108 v15 v17) k1_pay110 (k1_pay112 v4 (urows0 u) (rows0 SR)) (k1_pay113 v7 (urows0 u) (rows0 SI))
        (k1_pay114 v4 v15 v17 (urows0 u) (rows0 SR)) (rows0 GR) (rows0 GI))
      (k1_pay122 v4 v7 (k1_pay107 v15 v17) (k1_pay108 v15 v17) (urows1 u) (rows1 SR) (rows1 SI))
      (k1_pay123 v4 v7 (k1_pay107 v15 v17) (k1_pay108 v15 v17) (urows1 u) (rows1 SR) (rows1 SI)) (rows1 GR) (rows1 GI)
      (urows2 u) (rows2 SR) (rows2 SI) (rows2 GR) (rows2 GI))
    (urows3 u) (rows3 SR) (rows3 SI) (rows3 GR) (rows3 GI)

set_option maxHeartbeats 800000 in
/-- A grid point of the backward kernel: with `p` the factors, `q` their conjugates, `x` the forward scan's inputs and `y` the
    cotangent's in reversed order, its outputs are formed from the states of the two scans. -/
theorem bwd_out (c : Dev nD) (i : grid1.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S2048x128 .bf16) (harg11 : arg11.IsWhole) (arg12 : Memref sig .tc .vmem S1x128x512 .f32) (harg12 : arg12.IsWhole) (arg13 : Memref sig .tc .vmem S1x128x512 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x128 .f32) (harg18 : arg18.IsWhole) (arg19 : Memref sig .tc .vmem S2048x512 .f32) (harg19 : arg19.IsWhole) (arg20 : Memref sig .tc .vmem S2048x512 .f32) (harg20 : arg20.IsWhole) (arg21 : Memref sig .tc .vmem S2048x512 .f32) (harg21 : arg21.IsWhole) (arg22 : Memref sig .tc .vmem S2048x512 .f32) (harg22 : arg22.IsWhole) (x0 : Vec Ideal S2048x128 .f32) (x1 : Vec Ideal S2048x128 .f32) (x2 : Vec Ideal S2048x128 .f32) (x3 : Vec Ideal S1x128x512 .f32) (x4 : Vec Ideal S1x128x512 .f32) (x5 : Vec Ideal S1x512x128 .f32) (x6 : Vec Ideal S1x512x128 .f32) (x7 : Vec Ideal S1x512 .f32) (x8 : Vec Ideal S1x512 .f32) (x9 : Vec Ideal S1x128 .f32)
    {p q : Fin 512 → ℂ} {x y : Fin 512 → ℕ → ℂ} (hp : IsV (k1_pay50 (k1_pay39 x7)) (k1_pay51 (k1_pay40 x8)) fun _ => p) (hq : IsV (k1_pay73 (k1_pay39 x7)) (k1_pay74 (k1_pay40 x8)) fun _ => q)
    (hx : ∀ (t : Fin 2048) l, IsC ((k1_pay48 (k1_pay34 x0) (k1_pay35 x3)) (ix2 t l)) ((k1_pay49 (k1_pay34 x0) (k1_pay36 x4)) (ix2 t l)) (x l t))
    (hy : ∀ (t : Fin 2048) l, IsC ((k1_pay71 (k1_pay37 x5) (k1_pay47 (k1_pay41 x1) (k1_pay42 x1) (k1_pay43 x1) (k1_pay44 x1) k1_pay45 x2)) (ix2 t l)) ((k1_pay72 (k1_pay38 x6) (k1_pay47 (k1_pay41 x1) (k1_pay42 x1) (k1_pay43 x1) (k1_pay44 x1) k1_pay45 x2)) (ix2 t l)) (y l (2047 - t))) :
    ∃ SR SI GR GI : Vec Ideal S2048x512 .f32,
      (out1_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 = k1_pay104 (k1_pay35 x3) (k1_pay36 x4) (k1_pay46 (k1_pay41 x1) (k1_pay42 x1) (k1_pay43 x1) (k1_pay44 x1) k1_pay45 x2) (k1_pay99 GR) (k1_pay100 GI) x9 ∧
       out1_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 = k1_pay101 (k1_pay34 x0) GR ∧
       out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 = k1_pay103 (k1_pay102 (k1_pay34 x0) GI) ∧
       out1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 = k1_pay97 (k1_pay47 (k1_pay41 x1) (k1_pay42 x1) (k1_pay43 x1) (k1_pay44 x1) k1_pay45 x2) SR ∧
       out1_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 = k1_pay98 (k1_pay47 (k1_pay41 x1) (k1_pay42 x1) (k1_pay43 x1) (k1_pay44 x1) k1_pay45 x2) SI ∧
       out1_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 = dlrOf (k1_pay35 x3) (k1_pay36 x4) (k1_pay39 x7) (k1_pay40 x8) x0 SR SI GR GI ∧
       out1_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 = dliOf (k1_pay35 x3) (k1_pay36 x4) (k1_pay39 x7) (k1_pay40 x8) x0 SR SI GR GI ∧
       out1_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 = k1_pay105 x0 (k1_pay46 (k1_pay41 x1) (k1_pay42 x1) (k1_pay43 x1) (k1_pay44 x1) k1_pay45 x2)) ∧
      (∀ t l, IsC (SR (ix2 t l)) (SI (ix2 t l)) (scan (p l) (x l) (t + 1))) ∧
      ∀ (t : Fin 2048) l, IsC (GR (ix2 t l)) (GI (ix2 t l)) (scan (q l) (y l) (2047 - t + 1)) := by
  have hL := loopUp (v := arg19.view) (w := arg20.view) (pr := (k1_pay50 (k1_pay39 x7))) (pi := (k1_pay51 (k1_pay40 x8))) (p := p) (x := x)
    (G := (arg19.view.writes (Elt Ideal) arg19.view.junk [⟨Rect.unit ![0, 0] S2048x512.size inb_S2048x512_S2048x512_0_0, (k1_pay48 (k1_pay34 x0) (k1_pay35 x3))⟩]))
    (H := (arg20.view.writes (Elt Ideal) arg20.view.junk [⟨Rect.unit ![0, 0] S2048x512.size inb_S2048x512_S2048x512_0_0, (k1_pay49 (k1_pay34 x0) (k1_pay36 x4))⟩]))
    (S := st_k1_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (k1_pay37 x5) (k1_pay38 x6) (k1_pay39 x7) (k1_pay40 x8) (k1_pay47 (k1_pay41 x1) (k1_pay42 x1) (k1_pay43 x1) (k1_pay44 x1) k1_pay45 x2) rowNo (k1_pay50 (k1_pay39 x7)) (k1_pay51 (k1_pay40 x8)) (sqR (k1_pay50 (k1_pay39 x7)) (k1_pay51 (k1_pay40 x8))) (sqI (k1_pay50 (k1_pay39 x7)) (k1_pay51 (k1_pay40 x8))) (sqR (sqR (k1_pay50 (k1_pay39 x7)) (k1_pay51 (k1_pay40 x8))) (sqI (k1_pay50 (k1_pay39 x7)) (k1_pay51 (k1_pay40 x8)))) (sqI (sqR (k1_pay50 (k1_pay39 x7)) (k1_pay51 (k1_pay40 x8))) (sqI (k1_pay50 (k1_pay39 x7)) (k1_pay51 (k1_pay40 x8)))) (w2UpR (k1_pay50 (k1_pay39 x7)) (k1_pay51 (k1_pay40 x8))) (w2UpI (k1_pay50 (k1_pay39 x7)) (k1_pay51 (k1_pay40 x8))) (up 4#32 0x3F800000#32 (w2UpR (k1_pay50 (k1_pay39 x7)) (k1_pay51 (k1_pay40 x8)))) (up 4#32 0x00000000#32 (w2UpI (k1_pay50 (k1_pay39 x7)) (k1_pay51 (k1_pay40 x8)))) (arg19.view.writes (Elt Ideal) arg19.view.junk [⟨Rect.unit ![0, 0] S2048x512.size inb_S2048x512_S2048x512_0_0, (k1_pay48 (k1_pay34 x0) (k1_pay35 x3))⟩]) (arg20.view.writes (Elt Ideal) arg20.view.junk [⟨Rect.unit ![0, 0] S2048x512.size inb_S2048x512_S2048x512_0_0, (k1_pay49 (k1_pay34 x0) (k1_pay36 x4))⟩]) (k1_pay68, k1_pay68))
    hp rfl (fun k hk => k1_t1_step _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ k hk)
    (fun t l => by rw [read_whole _ hz2, read_whole _ hz2]; exact hx t l) 256 le_rfl
  have hM := loopDown (v := arg21.view) (w := arg22.view) (pr := (k1_pay73 (k1_pay39 x7))) (pi := (k1_pay74 (k1_pay40 x8))) (p := q) (x := y)
    (G := (arg21.view.writes (Elt Ideal) arg21.view.junk [⟨Rect.unit ![0, 0] S2048x512.size inb_S2048x512_S2048x512_0_0, (k1_pay71 (k1_pay37 x5) (k1_pay47 (k1_pay41 x1) (k1_pay42 x1) (k1_pay43 x1) (k1_pay44 x1) k1_pay45 x2))⟩]))
    (H := (arg22.view.writes (Elt Ideal) arg22.view.junk [⟨Rect.unit ![0, 0] S2048x512.size inb_S2048x512_S2048x512_0_0, (k1_pay72 (k1_pay38 x6) (k1_pay47 (k1_pay41 x1) (k1_pay42 x1) (k1_pay43 x1) (k1_pay44 x1) k1_pay45 x2))⟩]))
    (S := st_k1_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (k1_pay34 x0) (k1_pay47 (k1_pay41 x1) (k1_pay42 x1) (k1_pay43 x1) (k1_pay44 x1) k1_pay45 x2) rowNo (k1_pay73 (k1_pay39 x7)) (k1_pay74 (k1_pay40 x8)) (sqR (k1_pay73 (k1_pay39 x7)) (k1_pay74 (k1_pay40 x8))) (sqI (k1_pay73 (k1_pay39 x7)) (k1_pay74 (k1_pay40 x8))) (sqR (sqR (k1_pay73 (k1_pay39 x7)) (k1_pay74 (k1_pay40 x8))) (sqI (k1_pay73 (k1_pay39 x7)) (k1_pay74 (k1_pay40 x8)))) (sqI (sqR (k1_pay73 (k1_pay39 x7)) (k1_pay74 (k1_pay40 x8))) (sqI (k1_pay73 (k1_pay39 x7)) (k1_pay74 (k1_pay40 x8)))) (wDn3R (k1_pay73 (k1_pay39 x7)) (k1_pay74 (k1_pay40 x8))) (wDn3I (k1_pay73 (k1_pay39 x7)) (k1_pay74 (k1_pay40 x8))) (Scalar.ofBits .f32 0x00000000#32) (arg21.view.writes (Elt Ideal) arg21.view.junk [⟨Rect.unit ![0, 0] S2048x512.size inb_S2048x512_S2048x512_0_0, (k1_pay71 (k1_pay37 x5) (k1_pay47 (k1_pay41 x1) (k1_pay42 x1) (k1_pay43 x1) (k1_pay44 x1) k1_pay45 x2))⟩]) (arg22.view.writes (Elt Ideal) arg22.view.junk [⟨Rect.unit ![0, 0] S2048x512.size inb_S2048x512_S2048x512_0_0, (k1_pay72 (k1_pay38 x6) (k1_pay47 (k1_pay41 x1) (k1_pay42 x1) (k1_pay43 x1) (k1_pay44 x1) k1_pay45 x2))⟩]) (k1_pay94 (Scalar.ofBits .f32 0x00000000#32), k1_pay94 (Scalar.ofBits .f32 0x00000000#32)))
    hq rfl (fun k hk => k1_t2_step _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ k hk)
    (fun t l => by rw [read_whole _ hz2, read_whole _ hz2]; exact hy t l) 256 le_rfl
  refine ⟨(arg19.view.read (Elt Ideal) (arg19.view.writes (Elt Ideal) arg19.view.junk ((st_k1_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (k1_pay37 x5) (k1_pay38 x6) (k1_pay39 x7) (k1_pay40 x8) (k1_pay47 (k1_pay41 x1) (k1_pay42 x1) (k1_pay43 x1) (k1_pay44 x1) k1_pay45 x2) (iota .tc S8x512 32 [0] iota_S8x512_d0_w32) (k1_pay50 (k1_pay39 x7)) (k1_pay51 (k1_pay40 x8)) (k1_pay52 (k1_pay39 x7) (k1_pay40 x8)) (k1_pay53 (k1_pay39 x7) (k1_pay40 x8)) (k1_pay54 (k1_pay39 x7) (k1_pay40 x8)) (k1_pay55 (k1_pay39 x7) (k1_pay40 x8)) (k1_pay62 (iota .tc S8x512 32 [0] iota_S8x512_d0_w32) (k1_pay50 (k1_pay39 x7)) (k1_pay51 (k1_pay40 x8))) (k1_pay63 (iota .tc S8x512 32 [0] iota_S8x512_d0_w32) (k1_pay50 (k1_pay39 x7)) (k1_pay51 (k1_pay40 x8))) (k1_pay64 (iota .tc S8x512 32 [0] iota_S8x512_d0_w32) (k1_pay50 (k1_pay39 x7)) (k1_pay51 (k1_pay40 x8))) (k1_pay65 (iota .tc S8x512 32 [0] iota_S8x512_d0_w32) (k1_pay50 (k1_pay39 x7)) (k1_pay51 (k1_pay40 x8))) (arg19.view.writes (Elt Ideal) arg19.view.junk [⟨Rect.unit ![0, 0] S2048x512.size inb_S2048x512_S2048x512_0_0, (k1_pay48 (k1_pay34 x0) (k1_pay35 x3))⟩]) (arg20.view.writes (Elt Ideal) arg20.view.junk [⟨Rect.unit ![0, 0] S2048x512.size inb_S2048x512_S2048x512_0_0, (k1_pay49 (k1_pay34 x0) (k1_pay36 x4))⟩]) (k1_pay68, k1_pay68) (Scf.trips k1_t1_loop.lb k1_t1_loop.ub k1_t1_loop.st)).2.1 ++ [⟨Rect.unit ![0, 0] S2048x512.size inb_S2048x512_S2048x512_0_0, (k1_pay48 (k1_pay34 x0) (k1_pay35 x3))⟩]))),
    (arg20.view.read (Elt Ideal) (arg20.view.writes (Elt Ideal) arg20.view.junk ((st_k1_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (k1_pay37 x5) (k1_pay38 x6) (k1_pay39 x7) (k1_pay40 x8) (k1_pay47 (k1_pay41 x1) (k1_pay42 x1) (k1_pay43 x1) (k1_pay44 x1) k1_pay45 x2) (iota .tc S8x512 32 [0] iota_S8x512_d0_w32) (k1_pay50 (k1_pay39 x7)) (k1_pay51 (k1_pay40 x8)) (k1_pay52 (k1_pay39 x7) (k1_pay40 x8)) (k1_pay53 (k1_pay39 x7) (k1_pay40 x8)) (k1_pay54 (k1_pay39 x7) (k1_pay40 x8)) (k1_pay55 (k1_pay39 x7) (k1_pay40 x8)) (k1_pay62 (iota .tc S8x512 32 [0] iota_S8x512_d0_w32) (k1_pay50 (k1_pay39 x7)) (k1_pay51 (k1_pay40 x8))) (k1_pay63 (iota .tc S8x512 32 [0] iota_S8x512_d0_w32) (k1_pay50 (k1_pay39 x7)) (k1_pay51 (k1_pay40 x8))) (k1_pay64 (iota .tc S8x512 32 [0] iota_S8x512_d0_w32) (k1_pay50 (k1_pay39 x7)) (k1_pay51 (k1_pay40 x8))) (k1_pay65 (iota .tc S8x512 32 [0] iota_S8x512_d0_w32) (k1_pay50 (k1_pay39 x7)) (k1_pay51 (k1_pay40 x8))) (arg19.view.writes (Elt Ideal) arg19.view.junk [⟨Rect.unit ![0, 0] S2048x512.size inb_S2048x512_S2048x512_0_0, (k1_pay48 (k1_pay34 x0) (k1_pay35 x3))⟩]) (arg20.view.writes (Elt Ideal) arg20.view.junk [⟨Rect.unit ![0, 0] S2048x512.size inb_S2048x512_S2048x512_0_0, (k1_pay49 (k1_pay34 x0) (k1_pay36 x4))⟩]) (k1_pay68, k1_pay68) (Scf.trips k1_t1_loop.lb k1_t1_loop.ub k1_t1_loop.st)).2.2 ++ [⟨Rect.unit ![0, 0] S2048x512.size inb_S2048x512_S2048x512_0_0, (k1_pay49 (k1_pay34 x0) (k1_pay36 x4))⟩]))),
    (arg21.view.read (Elt Ideal) (arg21.view.writes (Elt Ideal) arg21.view.junk ((st_k1_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (k1_pay34 x0) (k1_pay47 (k1_pay41 x1) (k1_pay42 x1) (k1_pay43 x1) (k1_pay44 x1) k1_pay45 x2) (iota .tc S8x512 32 [0] iota_S8x512_d0_w32) (k1_pay73 (k1_pay39 x7)) (k1_pay74 (k1_pay40 x8)) (k1_pay75 (k1_pay39 x7) (k1_pay40 x8)) (k1_pay76 (k1_pay39 x7) (k1_pay40 x8)) (k1_pay77 (k1_pay39 x7) (k1_pay40 x8)) (k1_pay78 (k1_pay39 x7) (k1_pay40 x8)) (k1_pay92 (iota .tc S8x512 32 [0] iota_S8x512_d0_w32) (k1_pay73 (k1_pay39 x7)) (k1_pay74 (k1_pay40 x8)) k1_pay79 (k1_pay80 (k1_pay39 x7)) k1_pay81) (k1_pay93 (iota .tc S8x512 32 [0] iota_S8x512_d0_w32) (k1_pay73 (k1_pay39 x7)) (k1_pay74 (k1_pay40 x8)) k1_pay79 (k1_pay80 (k1_pay39 x7)) k1_pay81) (Scalar.ofBits .f32 0x00000000#32) (arg21.view.writes (Elt Ideal) arg21.view.junk [⟨Rect.unit ![0, 0] S2048x512.size inb_S2048x512_S2048x512_0_0, (k1_pay71 (k1_pay37 x5) (k1_pay47 (k1_pay41 x1) (k1_pay42 x1) (k1_pay43 x1) (k1_pay44 x1) k1_pay45 x2))⟩]) (arg22.view.writes (Elt Ideal) arg22.view.junk [⟨Rect.unit ![0, 0] S2048x512.size inb_S2048x512_S2048x512_0_0, (k1_pay72 (k1_pay38 x6) (k1_pay47 (k1_pay41 x1) (k1_pay42 x1) (k1_pay43 x1) (k1_pay44 x1) k1_pay45 x2))⟩]) (k1_pay94 (Scalar.ofBits .f32 0x00000000#32), k1_pay94 (Scalar.ofBits .f32 0x00000000#32)) (Scf.trips k1_t2_loop.lb k1_t2_loop.ub k1_t2_loop.st)).2.1 ++ [⟨Rect.unit ![0, 0] S2048x512.size inb_S2048x512_S2048x512_0_0, (k1_pay71 (k1_pay37 x5) (k1_pay47 (k1_pay41 x1) (k1_pay42 x1) (k1_pay43 x1) (k1_pay44 x1) k1_pay45 x2))⟩]))),
    (arg22.view.read (Elt Ideal) (arg22.view.writes (Elt Ideal) arg22.view.junk ((st_k1_t2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (k1_pay34 x0) (k1_pay47 (k1_pay41 x1) (k1_pay42 x1) (k1_pay43 x1) (k1_pay44 x1) k1_pay45 x2) (iota .tc S8x512 32 [0] iota_S8x512_d0_w32) (k1_pay73 (k1_pay39 x7)) (k1_pay74 (k1_pay40 x8)) (k1_pay75 (k1_pay39 x7) (k1_pay40 x8)) (k1_pay76 (k1_pay39 x7) (k1_pay40 x8)) (k1_pay77 (k1_pay39 x7) (k1_pay40 x8)) (k1_pay78 (k1_pay39 x7) (k1_pay40 x8)) (k1_pay92 (iota .tc S8x512 32 [0] iota_S8x512_d0_w32) (k1_pay73 (k1_pay39 x7)) (k1_pay74 (k1_pay40 x8)) k1_pay79 (k1_pay80 (k1_pay39 x7)) k1_pay81) (k1_pay93 (iota .tc S8x512 32 [0] iota_S8x512_d0_w32) (k1_pay73 (k1_pay39 x7)) (k1_pay74 (k1_pay40 x8)) k1_pay79 (k1_pay80 (k1_pay39 x7)) k1_pay81) (Scalar.ofBits .f32 0x00000000#32) (arg21.view.writes (Elt Ideal) arg21.view.junk [⟨Rect.unit ![0, 0] S2048x512.size inb_S2048x512_S2048x512_0_0, (k1_pay71 (k1_pay37 x5) (k1_pay47 (k1_pay41 x1) (k1_pay42 x1) (k1_pay43 x1) (k1_pay44 x1) k1_pay45 x2))⟩]) (arg22.view.writes (Elt Ideal) arg22.view.junk [⟨Rect.unit ![0, 0] S2048x512.size inb_S2048x512_S2048x512_0_0, (k1_pay72 (k1_pay38 x6) (k1_pay47 (k1_pay41 x1) (k1_pay42 x1) (k1_pay43 x1) (k1_pay44 x1) k1_pay45 x2))⟩]) (k1_pay94 (Scalar.ofBits .f32 0x00000000#32), k1_pay94 (Scalar.ofBits .f32 0x00000000#32)) (Scf.trips k1_t2_loop.lb k1_t2_loop.ub k1_t2_loop.st)).2.2 ++ [⟨Rect.unit ![0, 0] S2048x512.size inb_S2048x512_S2048x512_0_0, (k1_pay72 (k1_pay38 x6) (k1_pay47 (k1_pay41 x1) (k1_pay42 x1) (k1_pay43 x1) (k1_pay44 x1) k1_pay45 x2))⟩]))),
    ⟨?e10, ?e11, ?e12, ?e13, ?e14, ?e15, ?e16, ?e17⟩, ?states, ?gstates⟩
  case e10 =>
    unfold out1_A_10
    rw [View.read_writes_eq_canon _ _ _ (cover1_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9)]
    unfold kernelRun1_A
    dsimp only
    sl_unfold_words
    rw [View.canon_unit_zero (S := S2048x128) hz2]
    simp only [View.readAt_eq_ld, Memref.IsWhole.read_unread, View.ld_unit_zero (S := S2048x128) hz2,
      View.ld_unit_zero (S := S1x512) hz2, View.ld_unit_zero (S := S1x128) hz2, View.ld_unit_zero (S := S1x128x512) hz3,
      View.ld_unit_zero (S := S1x512x128) hz3, readCov_whole (s := S2048x512) _ hz2, readCov_ld]

  case e11 =>
    unfold out1_A_11
    rw [View.read_writes_eq_canon _ _ _ (cover1_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9)]
    unfold kernelRun1_A
    dsimp only
    sl_unfold_words
    rw [View.canon_unit_zero (S := S1x128x512) hz3]
    simp only [View.readAt_eq_ld, Memref.IsWhole.read_unread, View.ld_unit_zero (S := S2048x128) hz2,
      View.ld_unit_zero (S := S1x512) hz2, View.ld_unit_zero (S := S1x128) hz2, View.ld_unit_zero (S := S1x128x512) hz3,
      View.ld_unit_zero (S := S1x512x128) hz3, readCov_whole (s := S2048x512) _ hz2, readCov_ld]

  case e12 =>
    unfold out1_A_12
    rw [View.read_writes_eq_canon _ _ _ (cover1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9)]
    unfold kernelRun1_A
    dsimp only
    sl_unfold_words
    rw [View.canon_unit_zero (S := S1x128x512) hz3]
    simp only [View.readAt_eq_ld, Memref.IsWhole.read_unread, View.ld_unit_zero (S := S2048x128) hz2,
      View.ld_unit_zero (S := S1x512) hz2, View.ld_unit_zero (S := S1x128) hz2, View.ld_unit_zero (S := S1x128x512) hz3,
      View.ld_unit_zero (S := S1x512x128) hz3, readCov_whole (s := S2048x512) _ hz2, readCov_ld]

  case e13 =>
    unfold out1_A_13
    rw [View.read_writes_eq_canon _ _ _ (cover1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9)]
    unfold kernelRun1_A
    dsimp only
    sl_unfold_words
    rw [View.canon_unit_zero (S := S1x512x128) hz3]
    simp only [View.readAt_eq_ld, Memref.IsWhole.read_unread, View.ld_unit_zero (S := S2048x128) hz2,
      View.ld_unit_zero (S := S1x512) hz2, View.ld_unit_zero (S := S1x128) hz2, View.ld_unit_zero (S := S1x128x512) hz3,
      View.ld_unit_zero (S := S1x512x128) hz3, readCov_whole (s := S2048x512) _ hz2, readCov_ld]

  case e14 =>
    unfold out1_A_14
    rw [View.read_writes_eq_canon _ _ _ (cover1_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9)]
    unfold kernelRun1_A
    dsimp only
    sl_unfold_words
    rw [View.canon_unit_zero (S := S1x512x128) hz3]
    simp only [View.readAt_eq_ld, Memref.IsWhole.read_unread, View.ld_unit_zero (S := S2048x128) hz2,
      View.ld_unit_zero (S := S1x512) hz2, View.ld_unit_zero (S := S1x128) hz2, View.ld_unit_zero (S := S1x128x512) hz3,
      View.ld_unit_zero (S := S1x512x128) hz3, readCov_whole (s := S2048x512) _ hz2, readCov_ld]

  case e15 =>
    unfold out1_A_15
    rw [View.read_writes_eq_canon _ _ _ (cover1_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9)]
    unfold kernelRun1_A
    dsimp only
    sl_unfold_words
    rw [View.canon_unit_zero (S := S1x512) hz2]
    simp only [View.readAt_eq_ld, Memref.IsWhole.read_unread, View.ld_unit_zero (S := S2048x128) hz2,
      View.ld_unit_zero (S := S1x512) hz2, View.ld_unit_zero (S := S1x128) hz2, View.ld_unit_zero (S := S1x128x512) hz3,
      View.ld_unit_zero (S := S1x512x128) hz3, readCov_whole (s := S2048x512) _ hz2, readCov_ld]
    rfl
  case e16 =>
    unfold out1_A_16
    rw [View.read_writes_eq_canon _ _ _ (cover1_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9)]
    unfold kernelRun1_A
    dsimp only
    sl_unfold_words
    rw [View.canon_unit_zero (S := S1x512) hz2]
    simp only [View.readAt_eq_ld, Memref.IsWhole.read_unread, View.ld_unit_zero (S := S2048x128) hz2,
      View.ld_unit_zero (S := S1x512) hz2, View.ld_unit_zero (S := S1x128) hz2, View.ld_unit_zero (S := S1x128x512) hz3,
      View.ld_unit_zero (S := S1x512x128) hz3, readCov_whole (s := S2048x512) _ hz2, readCov_ld]
    rfl
  case e17 =>
    unfold out1_A_17
    rw [View.read_writes_eq_canon _ _ _ (cover1_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9)]
    unfold kernelRun1_A
    dsimp only
    sl_unfold_words
    rw [View.canon_unit_zero (S := S1x128) hz2]
    simp only [View.readAt_eq_ld, Memref.IsWhole.read_unread, View.ld_unit_zero (S := S2048x128) hz2,
      View.ld_unit_zero (S := S1x512) hz2, View.ld_unit_zero (S := S1x128) hz2, View.ld_unit_zero (S := S1x128x512) hz3,
      View.ld_unit_zero (S := S1x512x128) hz3, readCov_whole (s := S2048x512) _ hz2, readCov_ld]

  case states =>
    intro t l
    have := hL.2 t l
    rw [if_pos (by omega), ← writes_app, ← writes_app] at this
    exact this
  case gstates =>
    intro t l
    have := hM.2 t l
    rw [if_pos (by omega), ← writes_app, ← writes_app] at this
    exact this

end Cert.KernelIdeal.Gen

end
-- ==== Proof.KRun.lean ====
/-
  The kernel program run to its end, naming what every buffer holds: `run` is the launch of the generated frame with the
  contents `W4 m ρ c` (host operations, the forward region, the backward region, host operations) as its conclusion.
-/
module

public import proofs.«01_k».proof.Proof.BwdVal

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every fair execution of the kernel program ends, each buffer that holds a tensor at `W4` and each counter at zero. -/
theorem run : θ_run defs (onTc (τ := τ) (main (F := F))) ⟨m, fun _ => 0, ρ⟩ (fun r => (∀ (c : Dev nD) (b : Ref sig .tc),
      (Proc.devRef .tc b : DevRef τ sig).isScoped = false → r.2.mem ((c.tc : Thread nD τ).loc b) = W4 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c _ (mem_uc b (by rw [hb]; exact Bool.false_ne_true)), funext fun g => hz g (.inr (no_unscoped g.2))⟩)

end Cert.KernelIdeal.Gen

end
-- ==== Proof.Math.lean ====
/-
  The mathematics of one S5 block: a diagonal complex state space of state set `L` with inputs and outputs in `K`, the
  activation that follows it, and its gradients. Both programs are read as these functions: the kernel at its dense tiles
  (`K` of 128 channels, `L` of 512 states), the reference at the 64 groups (16 channels, 64 states). The last section says
  that a block-diagonal tile is its blocks.
-/
module

public import proofs.«01_k».proof.Proof.KRun
public import Idealize.ShloMosaic.Lib.IdealHost
public import Mathlib.Data.Complex.BigOperators

@[expose] public section

set_option maxRecDepth 16384

noncomputable section

open Idealize.ShloMosaic Idealize.ShloMosaic.TcCoe Idealize.SL.Sem
open scoped ComplexConjugate

namespace S5

/-- A finite extended real is the real it carries. -/
theorem coe_toReal {a : EReal} (h : ∃ r : ℝ, a = (r : EReal)) : a = ((a.toReal : ℝ) : EReal) := by
  obtain ⟨r, rfl⟩ := h; rw [EReal.toReal_coe]

theorem coe_sum {ι : Type} (s : Finset ι) (f : ι → ℝ) : (∑ i ∈ s, ((f i : ℝ) : EReal)) = ((∑ i ∈ s, f i : ℝ) : EReal) := by
  classical
  induction s using Finset.induction_on with
  | empty => simp
  | insert i s hi ih => simp only [Finset.sum_insert hi, ih, EReal.coe_add]

/-- A real multiple of a complex number. -/
theorem IsC.smul {a b c : EReal} {r : ℝ} {z : ℂ} (h : a = (r : EReal)) (k : IsC b c z) : IsC (a * b) (a * c) ((r : ℂ) * z) := by
  obtain ⟨rfl, rfl⟩ := k; subst h
  simp only [IsC, Complex.re_ofReal_mul, Complex.im_ofReal_mul, EReal.coe_mul, and_self]
theorem IsC.smul' {a b c : EReal} {r : ℝ} {z : ℂ} (h : a = (r : EReal)) (k : IsC b c z) : IsC (b * a) (c * a) ((r : ℂ) * z) := by
  rw [mul_comm b, mul_comm c]; exact k.smul h
/-- The conjugate, with the imaginary part subtracted from zero or negated. -/
theorem IsC.conj {a b : EReal} {z : ℂ} (h : IsC a b z) : IsC a (0 - b) (conj z) := by
  obtain ⟨rfl, rfl⟩ := h
  refine ⟨rfl, ?_⟩
  rw [zero_sub, ← EReal.coe_neg, Complex.conj_im]
theorem IsC.conj' {a b : EReal} {z : ℂ} (h : IsC a b z) : IsC a (-b) (conj z) := by
  obtain ⟨rfl, rfl⟩ := h
  refine ⟨rfl, ?_⟩
  rw [← EReal.coe_neg, Complex.conj_im]

/-! ## The activation -/

/-- The constants of the tanh form of the activation, as the reals their words stand for. -/
def c1 : ℝ := (Ideal.ofBits .f32 0x3D372713#32).toReal
def c2 : ℝ := (Ideal.ofBits .f32 0x3F4C422A#32).toReal
def ch : ℝ := (Ideal.ofBits .f32 0x3F000000#32).toReal
def c3 : ℝ := (Ideal.ofBits .f32 0x40400000#32).toReal

theorem c1_eq : Ideal.ofBits .f32 0x3D372713#32 = (c1 : EReal) := coe_toReal (by simp only [Ideal.ofBits, Ideal.ieee]; simp; exact ⟨_, (EReal.coe_mul _ _).symm⟩)
theorem c2_eq : Ideal.ofBits .f32 0x3F4C422A#32 = (c2 : EReal) := coe_toReal (by simp only [Ideal.ofBits, Ideal.ieee]; simp; exact ⟨_, (EReal.coe_mul _ _).symm⟩)
theorem ch_eq : Ideal.ofBits .f32 0x3F000000#32 = (ch : EReal) := coe_toReal (by simp only [Ideal.ofBits, Ideal.ieee]; simp; exact ⟨_, (EReal.coe_mul _ _).symm⟩)
theorem c3_eq : Ideal.ofBits .f32 0x40400000#32 = (c3 : EReal) := coe_toReal (by simp only [Ideal.ofBits, Ideal.ieee]; simp; exact ⟨_, (EReal.coe_mul _ _).symm⟩)

/-- The activation's tanh. -/
def th (y : ℝ) : ℝ := Real.tanh (c2 * (y + c1 * (y * (y * y))))
/-- The activation. -/
def gelu (y : ℝ) : ℝ := y * (ch * (1 + th y))
/-- The activation's cotangent `g` carried back to its input `y`. -/
def dgelu (y g : ℝ) : ℝ :=
  g * (ch * (1 + th y)) + c2 * (ch * (y * g) * ((1 + th y) * (1 - th y)))
    + c1 * (c2 * (ch * (y * g) * ((1 + th y) * (1 - th y)))) * (c3 * (y * y))

/-! ## The block -/

/-- A block: the sequence `u`, the input matrix `B`, the output matrix `C`, the factors `p`, the skip weights `d` and the
    cotangent `dy` of the activation's value. -/
structure Blk (K L : Type) where
  u : ℕ → K → ℝ
  B : K → L → ℂ
  C : L → K → ℂ
  p : L → ℂ
  d : K → ℝ
  dy : ℕ → K → ℝ

namespace Blk

variable {K L : Type} [Fintype K] [Fintype L] (T : Blk K L)

/-- The scan's inputs. -/
def x (l : L) (t : ℕ) : ℂ := ∑ k, (T.u t k : ℂ) * T.B k l
/-- The state after `n` inputs. -/
def s (l : L) (n : ℕ) : ℂ := scan (T.p l) (T.x l) n
/-- The activation's input. -/
def yp (t : ℕ) (k : K) : ℝ := ∑ l, (T.s l (t + 1) * T.C l k).re + T.d k * T.u t k
/-- Its cotangent. -/
def dyp (t : ℕ) (k : K) : ℝ := dgelu (T.yp t k) (T.dy t k)
/-- The cotangent of the state read out at row `t`. -/
def gx (l : L) (t : ℕ) : ℂ := ∑ k, (T.dyp t k : ℂ) * conj (T.C l k)
/-- The cotangent of the state with everything after row `t` carried back. -/
def gr (l : L) (t : ℕ) : ℂ := scan (conj (T.p l)) (fun i => T.gx l (2047 - i)) (2047 - t + 1)
/-- The gradients. -/
def du (t : ℕ) (k : K) : ℝ := ∑ l, (T.gr l t * conj (T.B k l)).re + T.d k * T.dyp t k
def dB (k : K) (l : L) : ℂ := ∑ t : Fin 2048, (T.u t k : ℂ) * T.gr l t
def dC (l : L) (k : K) : ℂ := ∑ t : Fin 2048, (T.dyp t k : ℂ) * conj (T.s l (t + 1))
def dp (l : L) : ℂ := ∑ t : Fin 2048, T.gr l t * conj (T.s l t)
def dd (k : K) : ℝ := ∑ t : Fin 2048, T.dyp t k * T.u t k

end Blk

/-! ## Block-diagonal tiles -/

section Diag

variable {K L : Type} [Fintype K] [Fintype L] {n : ℕ} (T : Blk (Fin n × K) (Fin n × L)) (G : Fin n → Blk K L)

/-- `T` is block-diagonal with the blocks `G`. -/
structure Diag : Prop where
  u : ∀ t a q, T.u t (a, q) = (G a).u t q
  dy : ∀ t a q, T.dy t (a, q) = (G a).dy t q
  d : ∀ a q, T.d (a, q) = (G a).d q
  p : ∀ a l, T.p (a, l) = (G a).p l
  B : ∀ a q b l, T.B (a, q) (b, l) = if a = b then (G b).B q l else 0
  C : ∀ b l a q, T.C (b, l) (a, q) = if a = b then (G b).C l q else 0

variable {T G} (h : Diag T G)
include h

theorem Diag.x (b : Fin n) (l : L) (t : ℕ) : T.x (b, l) t = (G b).x l t := by
  simp only [Blk.x, Fintype.sum_prod_type, h.u, h.B, mul_ite, mul_zero]
  rw [Finset.sum_eq_single b (fun a _ hab => by simp [hab]) (fun hb => absurd (Finset.mem_univ b) hb)]
  simp
theorem Diag.s (b : Fin n) (l : L) (t : ℕ) : T.s (b, l) t = (G b).s l t := by
  simp only [Blk.s, h.p, funext (h.x b l)]
theorem Diag.yp (t : ℕ) (a : Fin n) (q : K) : T.yp t (a, q) = (G a).yp t q := by
  simp only [Blk.yp, Fintype.sum_prod_type, h.s, h.C, h.d, h.u, mul_ite, mul_zero, apply_ite Complex.re, Complex.zero_re]
  rw [Finset.sum_eq_single a (fun b _ hab => by simp [Ne.symm hab]) (fun hb => absurd (Finset.mem_univ a) hb)]
  simp
theorem Diag.dyp (t : ℕ) (a : Fin n) (q : K) : T.dyp t (a, q) = (G a).dyp t q := by
  simp only [Blk.dyp, h.yp, h.dy]
theorem Diag.gx (b : Fin n) (l : L) (t : ℕ) : T.gx (b, l) t = (G b).gx l t := by
  simp only [Blk.gx, Fintype.sum_prod_type, h.dyp, h.C, apply_ite conj, map_zero, mul_ite, mul_zero]
  rw [Finset.sum_eq_single b (fun a _ hab => by simp [hab]) (fun hb => absurd (Finset.mem_univ b) hb)]
  simp
theorem Diag.gr (b : Fin n) (l : L) (t : ℕ) : T.gr (b, l) t = (G b).gr l t := by
  simp only [Blk.gr, h.p, h.gx]
theorem Diag.du (t : ℕ) (a : Fin n) (q : K) : T.du t (a, q) = (G a).du t q := by
  simp only [Blk.du, Fintype.sum_prod_type, h.gr, h.B, h.d, h.dyp, apply_ite conj, map_zero, mul_ite, mul_zero, apply_ite Complex.re, Complex.zero_re]
  rw [Finset.sum_eq_single a (fun b _ hab => by simp [Ne.symm hab]) (fun hb => absurd (Finset.mem_univ a) hb)]
  simp
theorem Diag.dB (a : Fin n) (q : K) (l : L) : T.dB (a, q) (a, l) = (G a).dB q l := by
  simp only [Blk.dB, h.u, h.gr]
theorem Diag.dC (a : Fin n) (l : L) (q : K) : T.dC (a, l) (a, q) = (G a).dC l q := by
  simp only [Blk.dC, h.dyp, h.s]
theorem Diag.dp (a : Fin n) (l : L) : T.dp (a, l) = (G a).dp l := by
  simp only [Blk.dp, h.gr, h.s]
theorem Diag.dd (a : Fin n) (q : K) : T.dd (a, q) = (G a).dd q := by
  simp only [Blk.dd, h.dyp, h.u]

end Diag

end S5
-- ==== Proof.Tile.lean ====
/-
  A tile of the kernel as a block of the mathematics: the vectors a grid point computes from blocks that hold a `Blk`, read
  entry by entry.
-/
module

public import proofs.«01_k».proof.Proof.Math

@[expose] public section

set_option maxRecDepth 16384

noncomputable section

open Idealize.ShloMosaic Idealize.ShloMosaic.TcCoe Idealize.SL.Sem
open scoped ComplexConjugate

namespace Cert.KernelIdeal.Gen

open Cert.KernelIdeal S5

variable (T : Blk (Fin 128) (Fin 512))

/-- The blocks of a grid point hold the tile `T` (its cotangent `dy` apart). -/
structure Holds (x0 : FVec Ideal S2048x128 .f32) (x1 x2 : FVec Ideal S1x128x512 .f32) (x3 x4 : FVec Ideal S1x512x128 .f32)
    (x5 x6 : FVec Ideal S1x512 .f32) (x7 : FVec Ideal S1x128 .f32) : Prop where
  u : ∀ (t : Fin 2048) k, x0 (ix2 t k) = ((T.u t k : ℝ) : EReal)
  B : ∀ k l, IsC (x1 (ix3 0 k l)) (x2 (ix3 0 k l)) (T.B k l)
  C : ∀ l k, IsC (x3 (ix3 0 l k)) (x4 (ix3 0 l k)) (T.C l k)
  p : ∀ l, IsC (x5 (ix2 0 l)) (x6 (ix2 0 l)) (T.p l)
  d : ∀ k, x7 (ix2 0 k) = ((T.d k : ℝ) : EReal)

variable {T} {x0 : FVec Ideal S2048x128 .f32} {x1 x2 : FVec Ideal S1x128x512 .f32} {x3 x4 : FVec Ideal S1x512x128 .f32}
    {x5 x6 : FVec Ideal S1x512 .f32} {x7 : FVec Ideal S1x128 .f32} (h : Holds T x0 x1 x2 x3 x4 x5 x6 x7)

include h

/-! ## The forward kernel -/

/-- The factors, spread over eight rows. -/
theorem fwd_p : IsV (k0_pay23 (F := Ideal) x5) (k0_pay24 (F := Ideal) x6) fun _ => T.p := by
  intro r l
  have := h.p l
  pointwise [k0_pay23, k0_pay24]
  exact this

/-- The scan's inputs. -/
theorem fwd_x (t : Fin 2048) (l : Fin 512) : IsC (k0_pay21 (F := Ideal) x0 x1 (ix2 t l)) (k0_pay22 (F := Ideal) x0 x2 (ix2 t l)) (T.x l t) := by
  pointwise [k0_pay21, k0_pay22, k0_pay20]
  exact IsC.sum _ fun k _ => (h.B k l).smul (h.u t k)

/-- The activation's input. -/
theorem fwd_yp {SR SI : FVec Ideal S2048x512 .f32} (hs : ∀ (t : Fin 2048) l, IsC (SR (ix2 t l)) (SI (ix2 t l)) (T.s l (t + 1)))
    (t : Fin 2048) (k : Fin 128) : k0_pay47 (F := Ideal) x0 SR x3 SI x4 x7 (ix2 t k) = ((T.yp t k : ℝ) : EReal) := by
  pointwise [k0_pay47]
  simp only [zero_add, (hs t _).1, (hs t _).2, (h.C _ k).1, (h.C _ k).2, h.u, h.d, ← EReal.coe_mul, coe_sum, ← EReal.coe_sub, ← EReal.coe_add]
  simp only [Blk.yp, Complex.mul_re, Finset.sum_sub_distrib]

omit h in
/-- The activation's value. -/
theorem fwd_y2 {SR SI : FVec Ideal S2048x512 .f32} {t : Fin 2048} {k : Fin 128} {y : ℝ}
    (hy : k0_pay47 (F := Ideal) x0 SR x3 SI x4 x7 (ix2 t k) = (y : EReal)) :
    k0_pay1 (F := Ideal) (k0_pay47 (F := Ideal) x0 SR x3 SI x4 x7) (k0_pay48 (F := Ideal) x0 SR x3 SI x4 x7) k0_pay49 (ix2 t k) = ((gelu y : ℝ) : EReal) := by
  pointwise [k0_pay1, k0_pay48, k0_pay49]
  simp only [hy, c1_eq, c2_eq, ch_eq, ← EReal.coe_mul, ← EReal.coe_add, ← EReal.coe_one, Ideal.tanh_coe]
  rfl

/-! ## The backward kernel -/

theorem bwd_p : IsV (k1_pay50 (F := Ideal) (k1_pay39 (F := Ideal) x5)) (k1_pay51 (F := Ideal) (k1_pay40 (F := Ideal) x6)) fun _ => T.p := by
  intro r l
  have := h.p l
  pointwise [k1_pay50, k1_pay39, k1_pay51, k1_pay40]
  exact this
theorem bwd_q : IsV (k1_pay73 (F := Ideal) (k1_pay39 (F := Ideal) x5)) (k1_pay74 (F := Ideal) (k1_pay40 (F := Ideal) x6)) fun _ l => conj (T.p l) := by
  intro r l
  have := (h.p l).conj
  pointwise [k1_pay73, k1_pay39, k1_pay74, k1_pay40]
  exact this
theorem bwd_x (t : Fin 2048) (l : Fin 512) : IsC ((k1_pay48 (F := Ideal) (k1_pay34 (F := Ideal) x0) (k1_pay35 (F := Ideal) x1)) (ix2 t l)) ((k1_pay49 (F := Ideal) (k1_pay34 (F := Ideal) x0) (k1_pay36 (F := Ideal) x2)) (ix2 t l)) (T.x l t) := by
  pointwise [k1_pay48, k1_pay49, k1_pay34, k1_pay35, k1_pay36]
  exact IsC.sum _ fun k _ => (h.B k l).smul (h.u t k)

omit h in
/-- The cotangent of the activation's input. -/
theorem bwd_dyp {y1 y2 : FVec Ideal S2048x128 .f32} {t : Fin 2048} {k : Fin 128} {y g : ℝ} (hy : y1 (ix2 t k) = (y : EReal)) (hg : y2 (ix2 t k) = (g : EReal)) :
    k1_pay46 (F := Ideal) (k1_pay41 (F := Ideal) y1) (k1_pay42 (F := Ideal) y1) (k1_pay43 (F := Ideal) y1) (k1_pay44 (F := Ideal) y1) k1_pay45 y2 (ix2 t k) = ((dgelu y g : ℝ) : EReal) := by
  pointwise [k1_pay46, k1_pay41, k1_pay42, k1_pay43, k1_pay44, k1_pay45]
  simp only [hy, hg, c1_eq, c2_eq, c3_eq, ch_eq, ← EReal.coe_mul, ← EReal.coe_add, ← EReal.coe_sub, ← EReal.coe_one, Ideal.tanh_coe]
  rfl

variable {DY : FVec Ideal S2048x128 .f32} {DYB : FVec Ideal S2048x128 .bf16} (hD : ∀ (t : Fin 2048) k, DY (ix2 t k) = ((T.dyp t k : ℝ) : EReal))
  (hDB : ∀ (t : Fin 2048) k, DYB (ix2 t k) = ((T.dyp t k : ℝ) : EReal))

include hDB in
/-- The cotangent of the state read out at a row. -/
theorem bwd_y (t : Fin 2048) (l : Fin 512) : IsC (k1_pay71 (F := Ideal) (k1_pay37 (F := Ideal) x3) DYB (ix2 t l)) (k1_pay72 (F := Ideal) (k1_pay38 (F := Ideal) x4) DYB (ix2 t l)) (T.gx l t) := by
  pointwise [k1_pay71, k1_pay72, k1_pay37, k1_pay38]
  simp only [zero_add, hDB, (h.C l _).1, (h.C l _).2, ← EReal.coe_mul, coe_sum, zero_sub, ← EReal.coe_neg]
  refine ⟨?_, ?_⟩ <;> simp only [Blk.gx, Complex.re_sum, Complex.im_sum, Complex.re_ofReal_mul, Complex.im_ofReal_mul, Complex.conj_re, Complex.conj_im, mul_neg, Finset.sum_neg_distrib]

variable {SR SI GR GI : FVec Ideal S2048x512 .f32} (hs : ∀ (t : Fin 2048) l, IsC (SR (ix2 t l)) (SI (ix2 t l)) (T.s l (t + 1)))
  (hg : ∀ (t : Fin 2048) l, IsC (GR (ix2 t l)) (GI (ix2 t l)) (T.gr l t))

include hD hg in
/-- The input's gradient. -/
theorem bwd_du (t : Fin 2048) (k : Fin 128) : k1_pay104 (F := Ideal) (k1_pay35 (F := Ideal) x1) (k1_pay36 (F := Ideal) x2) DY (k1_pay99 (F := Ideal) GR) (k1_pay100 (F := Ideal) GI) x7 (ix2 t k) = ((T.du t k : ℝ) : EReal) := by
  pointwise [k1_pay104, k1_pay35, k1_pay36, k1_pay99, k1_pay100]
  simp only [zero_add, (hg t _).1, (hg t _).2, (h.B k _).1, (h.B k _).2, hD, h.d, ← EReal.coe_mul, coe_sum, ← EReal.coe_sub, ← EReal.coe_add]
  simp only [Blk.du, Complex.mul_re, Complex.conj_re, Complex.conj_im, mul_neg, sub_neg_eq_add, Finset.sum_add_distrib]

include hg in
/-- The input matrix's gradient. -/
theorem bwd_dB (k : Fin 128) (l : Fin 512) : IsC (k1_pay101 (F := Ideal) (k1_pay34 (F := Ideal) x0) GR (ix3 0 k l)) (k1_pay103 (F := Ideal) (k1_pay102 (F := Ideal) (k1_pay34 (F := Ideal) x0) GI) (ix3 0 k l)) (T.dB k l) := by
  pointwise [k1_pay101, k1_pay103, k1_pay102, k1_pay34, k1_pay99, k1_pay100]
  exact IsC.sum _ fun t _ => (hg t l).smul (h.u t k)

omit h in
include hDB hs in
/-- The output matrix's gradient. -/
theorem bwd_dC (l : Fin 512) (k : Fin 128) : IsC (k1_pay97 (F := Ideal) DYB SR (ix3 0 l k)) (k1_pay98 (F := Ideal) DYB SI (ix3 0 l k)) (T.dC l k) := by
  pointwise [k1_pay97, k1_pay98]
  have := (IsC.sum Finset.univ fun t (_ : t ∈ Finset.univ) => (hs t l).smul' (hDB t k)).conj
  rw [map_sum] at this
  simpa only [Blk.dC, map_mul, Complex.conj_ofReal] using this

include hD in
/-- The skip weights' gradient. -/
theorem bwd_dd (k : Fin 128) : k1_pay105 (F := Ideal) x0 DY (ix2 0 k) = ((T.dd k : ℝ) : EReal) := by
  pointwise [k1_pay105]
  simp only [hD, h.u, ← EReal.coe_mul, coe_sum, zero_add]
  rfl

/-! ## The factors' gradient -/

/-- The factors' inverses as the kernel forms them. -/
theorem inv_p (h0 : ∀ l, T.p l ≠ 0) (l : Fin 512) : IsC (k1_pay107 (F := Ideal) (k1_pay39 x5) (k1_pay40 x6) (ix2 0 l)) (k1_pay108 (F := Ideal) (k1_pay39 x5) (k1_pay40 x6) (ix2 0 l)) (T.p l)⁻¹ := by
  pointwise [k1_pay107, k1_pay108, k1_pay106, k1_pay39, k1_pay40]
  have hn : (T.p l).re * (T.p l).re + (T.p l).im * (T.p l).im ≠ 0 := by
    rw [← Complex.normSq_apply]; exact fun e => h0 l (Complex.normSq_eq_zero.1 e)
  simp only [(h.p l).1, (h.p l).2, ← EReal.coe_mul, ← EReal.coe_add, Ideal.div_coe hn, one_mul, zero_sub, ← EReal.coe_neg]
  simp only [IsC, Complex.inv_re, Complex.inv_im, Complex.normSq_apply, div_eq_mul_inv, one_mul, and_self]

omit h in
/-- Four blocks of 512 rows are the 2048 rows. -/
theorem sum_rows (f : ℕ → ℝ) : (∑ x : Fin 512, f x) + (∑ x : Fin 512, f (512 + x)) + (∑ x : Fin 512, f (1024 + x)) + (∑ x : Fin 512, f (1536 + x))
    = ∑ t : Fin 2048, f t := by
  rw [Fin.sum_univ_eq_sum_range f 2048, Fin.sum_univ_eq_sum_range f 512, Fin.sum_univ_eq_sum_range (fun x => f (512 + x)) 512,
    Fin.sum_univ_eq_sum_range (fun x => f (1024 + x)) 512, Fin.sum_univ_eq_sum_range (fun x => f (1536 + x)) 512,
    Finset.sum_range_add f 1536 512, Finset.sum_range_add f 1024 512, Finset.sum_range_add f 512 512]

include hs hg in
/-- One row's term of the factors' gradient: the state before the row is recovered from the state after it. -/
theorem dp_term (h0 : ∀ l, T.p l ≠ 0) (t : Fin 2048) (l : Fin 512) {a b : EReal} (hi : IsC a b (T.p l)⁻¹) :
    let P : EReal := SR (ix2 t l) - ∑ k : Fin 128, x0 (ix2 t k) * x1 (ix3 0 k l)
    let Q : EReal := SI (ix2 t l) - ∑ k : Fin 128, x0 (ix2 t k) * x2 (ix3 0 k l)
    GR (ix2 t l) * (P * a - Q * b) + GI (ix2 t l) * (P * b + Q * a) = (((T.gr l t * conj (T.s l t)).re : ℝ) : EReal)
    ∧ GI (ix2 t l) * (P * a - Q * b) - GR (ix2 t l) * (P * b + Q * a) = (((T.gr l t * conj (T.s l t)).im : ℝ) : EReal) := by
  intro P Q
  have hx : IsC (∑ k : Fin 128, x0 (ix2 t k) * x1 (ix3 0 k l)) (∑ k : Fin 128, x0 (ix2 t k) * x2 (ix3 0 k l)) (T.x l t) :=
    IsC.sum _ fun k _ => (h.B k l).smul (h.u t k)
  have hm := ((hs t l).sub hx).mul hi
  have hv : (T.s l (t + 1) - T.x l t) * (T.p l)⁻¹ = T.s l t := by
    rw [Blk.s, Blk.s, scan_succ, add_sub_cancel_right, mul_comm (T.p l), mul_assoc, mul_inv_cancel₀ (h0 l), mul_one]
  rw [hv] at hm
  have e1 : P * a - Q * b = (((T.s l t).re : ℝ) : EReal) := hm.1
  have e2 : P * b + Q * a = (((T.s l t).im : ℝ) : EReal) := hm.2
  rw [e1, e2, (hg t l).1, (hg t l).2]
  simp only [← EReal.coe_mul, ← EReal.coe_add, ← EReal.coe_sub, Complex.mul_re, Complex.mul_im, Complex.conj_re, Complex.conj_im]
  constructor <;> congr 1 <;> ring

include hs hg in
/-- The factors' gradient, its real part. -/
theorem dlr_eq (h0 : ∀ l, T.p l ≠ 0) (l : Fin 512) : dlrOf (k1_pay35 x1) (k1_pay36 x2) (k1_pay39 x5) (k1_pay40 x6) x0 SR SI GR GI (ix2 0 l) = (((T.dp l).re : ℝ) : EReal) := by
  have hi := inv_p h h0 l
  pointwise [dlrOf, k1_pay136, k1_pay129, k1_pay117, k1_pay109, k1_pay112, k1_pay113, k1_pay114, k1_pay115, k1_pay116, k1_pay122, k1_pay123,
    k1_pay127, k1_pay128, k1_pay134, k1_pay135, k1_pay120, k1_pay121, k1_pay125, k1_pay126, k1_pay132, k1_pay133, k1_pay111, k1_pay119, k1_pay124, k1_pay131,
    rows0, rows1, rows2, rows3, urows0, urows1, urows2, urows3, k1_pay35, k1_pay36]
  have ht := fun t => (dp_term h hs hg h0 t l hi).1
  simp only [ht, coe_sum, ← EReal.coe_add]
  congr 1
  rw [Blk.dp, Complex.re_sum]
  exact sum_rows fun t => (T.gr l t * conj (T.s l t)).re

include hs hg in
/-- The factors' gradient, its imaginary part. -/
theorem dli_eq (h0 : ∀ l, T.p l ≠ 0) (l : Fin 512) : dliOf (k1_pay35 x1) (k1_pay36 x2) (k1_pay39 x5) (k1_pay40 x6) x0 SR SI GR GI (ix2 0 l) = (((T.dp l).im : ℝ) : EReal) := by
  have hi := inv_p h h0 l
  pointwise [dliOf, k1_pay137, k1_pay130, k1_pay118, k1_pay110, k1_pay112, k1_pay113, k1_pay114, k1_pay115, k1_pay116, k1_pay122, k1_pay123,
    k1_pay127, k1_pay128, k1_pay134, k1_pay135, k1_pay120, k1_pay121, k1_pay125, k1_pay126, k1_pay132, k1_pay133, k1_pay111, k1_pay119, k1_pay124, k1_pay131,
    rows0, rows1, rows2, rows3, urows0, urows1, urows2, urows3, k1_pay35, k1_pay36]
  have ht := fun t => (dp_term h hs hg h0 t l hi).2
  simp only [ht, coe_sum, ← EReal.coe_add]
  congr 1
  rw [Blk.dp, Complex.im_sum]
  exact sum_rows fun t => (T.gr l t * conj (T.s l t)).im

end Cert.KernelIdeal.Gen
-- ==== Proof.Arrays.lean ====
/-
  The two regions' result arrays: with input arrays that hold eight tiles `T j`, one grid point per tile, the arrays the
  regions leave are the tiles' values and gradients, entry by entry.
-/
module

public import proofs.«01_k».proof.Proof.Tile
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped ComplexConjugate

namespace Cert.KernelIdeal.Gen

open Cert.KernelIdeal S5

/-- Channel `k` of tile `j`, and state `l` of tile `j`, in the whole rows. -/
def col (j : Fin 8) (k : Fin 128) : Fin 1024 := ⟨j.val * 128 + k.val, by omega⟩
def lane (j : Fin 8) (l : Fin 512) : Fin 4096 := ⟨j.val * 512 + l.val, by omega⟩

theorem col_surj (i : Fin 1024) : ∃ j k, i = col j k := ⟨⟨i.val / 128, by omega⟩, ⟨i.val % 128, by omega⟩, Fin.ext (by simp only [col]; omega)⟩
theorem lane_surj (i : Fin 4096) : ∃ j l, i = lane j l := ⟨⟨i.val / 512, by omega⟩, ⟨i.val % 512, by omega⟩, Fin.ext (by simp only [lane]; omega)⟩

/-- The arrays hold the tiles `T` (their cotangents apart). -/
structure HoldsAll (T : Fin 8 → Blk (Fin 128) (Fin 512)) (u : FVec Ideal S2048x1024 .f32) (br bi : FVec Ideal S8x128x512 .f32)
    (cr ci : FVec Ideal S8x512x128 .f32) (pr pi : FVec Ideal S1x4096 .f32) (d : FVec Ideal S1x1024 .f32) : Prop where
  u : ∀ (t : Fin 2048) j k, u (ix2 t (col j k)) = (((T j).u t k : ℝ) : EReal)
  B : ∀ j k l, IsC (br (ix3 j k l)) (bi (ix3 j k l)) ((T j).B k l)
  C : ∀ j l k, IsC (cr (ix3 j l k)) (ci (ix3 j l k)) ((T j).C l k)
  p : ∀ j l, IsC (pr (ix2 0 (lane j l))) (pi (ix2 0 (lane j l))) ((T j).p l)
  d : ∀ j k, d (ix2 0 (col j k)) = (((T j).d k : ℝ) : EReal)

variable (V : (c : Dev nD) → (b : Ref sig .tc) → Buf (Elt Ideal) ((c : Thread nD τ).loc b)) (c : Dev nD)

/-! ## Region 0 -/

/-- The tile of a grid point. -/
def tj0 (t : Fin cfg0.N) : Fin 8 := ⟨t.val, N_0 ▸ t.isLt⟩

theorem idx0 : ∀ t : Fin cfg0.N, win0_0.index t = ![0, t.val] ∧ win0_1.index t = ![t.val, 0, 0] ∧ win0_2.index t = ![t.val, 0, 0] ∧ win0_3.index t = ![t.val, 0, 0] ∧ win0_4.index t = ![t.val, 0, 0] ∧ win0_5.index t = ![0, t.val] ∧ win0_6.index t = ![0, t.val] ∧ win0_7.index t = ![0, t.val] ∧ win0_8.index t = ![0, t.val] ∧ win0_9.index t = ![0, t.val] ∧ win0_10.index t = ![0, t.val] :=
  (by decide +kernel : ∀ t : Fin grid0.N, _)

variable {T : Fin 8 → Blk (Fin 128) (Fin 512)}

theorem blk0_0 (t : Fin cfg0.N) (r : Fin 2048) (k : Fin 128) : iblk0 V c 0 t (ix2 r k) = (V c main_arg0 : FVec Ideal S2048x1024 .f32) (ix2 r (col (tj0 t) k)) := by
  blk_ext [iblk0, idx0 t, col, tj0]
theorem blk0_1 (t : Fin cfg0.N) (k : Fin 128) (l : Fin 512) : iblk0 V c 1 t (ix3 0 k l) = (V c main_v60 : FVec Ideal S8x128x512 .f32) (ix3 (tj0 t) k l) := by
  blk_ext [iblk0, idx0 t, tj0]
theorem blk0_2 (t : Fin cfg0.N) (k : Fin 128) (l : Fin 512) : iblk0 V c 2 t (ix3 0 k l) = (V c main_v74 : FVec Ideal S8x128x512 .f32) (ix3 (tj0 t) k l) := by
  blk_ext [iblk0, idx0 t, tj0]
theorem blk0_3 (t : Fin cfg0.N) (l : Fin 512) (k : Fin 128) : iblk0 V c 3 t (ix3 0 l k) = (V c main_v88 : FVec Ideal S8x512x128 .f32) (ix3 (tj0 t) l k) := by
  blk_ext [iblk0, idx0 t, tj0]
theorem blk0_4 (t : Fin cfg0.N) (l : Fin 512) (k : Fin 128) : iblk0 V c 4 t (ix3 0 l k) = (V c main_v102 : FVec Ideal S8x512x128 .f32) (ix3 (tj0 t) l k) := by
  blk_ext [iblk0, idx0 t, tj0]
theorem blk0_5 (t : Fin cfg0.N) (l : Fin 512) : iblk0 V c 5 t (ix2 0 l) = (V c main_v103 : FVec Ideal S1x4096 .f32) (ix2 0 (lane (tj0 t) l)) := by
  blk_ext [iblk0, idx0 t, lane, tj0]
theorem blk0_6 (t : Fin cfg0.N) (l : Fin 512) : iblk0 V c 6 t (ix2 0 l) = (V c main_v104 : FVec Ideal S1x4096 .f32) (ix2 0 (lane (tj0 t) l)) := by
  blk_ext [iblk0, idx0 t, lane, tj0]
theorem blk0_7 (t : Fin cfg0.N) (k : Fin 128) : iblk0 V c 7 t (ix2 0 k) = (V c main_v105 : FVec Ideal S1x1024 .f32) (ix2 0 (col (tj0 t) k)) := by
  blk_ext [iblk0, idx0 t, col, tj0]

/-- The blocks of a grid point hold its tile. -/
theorem holds0 (h : HoldsAll T (V c main_arg0) (V c main_v60) (V c main_v74) (V c main_v88) (V c main_v102) (V c main_v103) (V c main_v104) (V c main_v105)) (t : Fin cfg0.N) : Holds (T (tj0 t)) (iblk0 V c 0 t) (iblk0 V c 1 t) (iblk0 V c 2 t) (iblk0 V c 3 t) (iblk0 V c 4 t) (iblk0 V c 5 t) (iblk0 V c 6 t) (iblk0 V c 7 t) where
  u r k := (blk0_0 V c t r k).trans (h.u r (tj0 t) k)
  B k l := by rw [blk0_1, blk0_2]; exact h.B (tj0 t) k l
  C l k := by rw [blk0_3, blk0_4]; exact h.C (tj0 t) l k
  p l := by rw [blk0_5, blk0_6]; exact h.p (tj0 t) l
  d k := (blk0_7 V c t k).trans (h.d (tj0 t) k)

/-- What the forward kernel leaves in its first two outputs' blocks. -/
theorem outs0 (h : HoldsAll T (V c main_arg0) (V c main_v60) (V c main_v74) (V c main_v88) (V c main_v102) (V c main_v103) (V c main_v104) (V c main_v105))
    (t : Fin cfg0.N) (r : Fin 2048) (k : Fin 128) :
    (outsAt0 V c t).1 (ix2 r k) = (((T (tj0 t)).yp r k : ℝ) : EReal) ∧ (outsAt0 V c t).2.1 (ix2 r k) = ((gelu ((T (tj0 t)).yp r k) : ℝ) : EReal) := by
  have H := holds0 V c h t
  unfold outsAt0
  generalize iblk0 V c 0 t = x0 at H ⊢; generalize iblk0 V c 1 t = x1 at H ⊢; generalize iblk0 V c 2 t = x2 at H ⊢; generalize iblk0 V c 3 t = x3 at H ⊢
  generalize iblk0 V c 4 t = x4 at H ⊢; generalize iblk0 V c 5 t = x5 at H ⊢; generalize iblk0 V c 6 t = x6 at H ⊢; generalize iblk0 V c 7 t = x7 at H ⊢
  obtain ⟨SR, SI, ⟨e8, e9⟩, hs⟩ := fwd_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    x0 x1 x2 x3 x4 x5 x6 x7 (fwd_p H) (fwd_x H)
  dsimp only
  rw [e8, e9]
  have hy := fwd_yp H hs r k
  exact ⟨hy, fwd_y2 hy⟩

/-- The forward region's first array: the activation's input. -/
theorem final0_8 (h : HoldsAll T (V c main_arg0) (V c main_v60) (V c main_v74) (V c main_v88) (V c main_v102) (V c main_v103) (V c main_v104) (V c main_v105))
    (r : Fin 2048) (j : Fin 8) (k : Fin 128) : ((dat0 V c).arrAt 8 cfg0.N : FVec Ideal S2048x1024 .f32) (ix2 r (col j k)) = (((T j).yp r k : ℝ) : EReal) := by
  refine ((dat0 V c).arrAt_forall_of_covers 8 (fun i v => ∀ (r : Fin 2048) (j : Fin 8) (k : Fin 128), i = ix2 r (col j k) → v = (((T j).yp r k : ℝ) : EReal)) (by decide +kernel)
    (fun t hf y => ?_) (ix2 r (col j k))) r j k rfl
  intro r j k hi
  blk_simp
  rw [after0_8]
  have e0 := congrArg (fun i : S2048x1024.Idx => (i 0 : ℕ)) hi
  have e1 := congrArg (fun i : S2048x1024.Idx => (i 1 : ℕ)) hi
  clear hi
  blk_simp [idx0 t, col] at e0 e1
  clear hf
  have hy : y = (ix2 r k : S2048x128.Idx) := by idx_ext <;> omega
  have ej : t.val * 128 + k.val = j.val * 128 + k.val := by rw [hy] at e1; exact e1
  obtain rfl : j = tj0 t := Fin.ext (by simp only [tj0]; omega)
  rw [hy]
  exact (outs0 V c h t r k).1

/-- Its second: the activation's value. -/
theorem final0_9 (h : HoldsAll T (V c main_arg0) (V c main_v60) (V c main_v74) (V c main_v88) (V c main_v102) (V c main_v103) (V c main_v104) (V c main_v105))
    (r : Fin 2048) (j : Fin 8) (k : Fin 128) : ((dat0 V c).arrAt 9 cfg0.N : FVec Ideal S2048x1024 .f32) (ix2 r (col j k)) = ((gelu ((T j).yp r k) : ℝ) : EReal) := by
  refine ((dat0 V c).arrAt_forall_of_covers 9 (fun i v => ∀ (r : Fin 2048) (j : Fin 8) (k : Fin 128), i = ix2 r (col j k) → v = ((gelu ((T j).yp r k) : ℝ) : EReal)) (by decide +kernel)
    (fun t hf y => ?_) (ix2 r (col j k))) r j k rfl
  intro r j k hi
  blk_simp
  rw [after0_9]
  have e0 := congrArg (fun i : S2048x1024.Idx => (i 0 : ℕ)) hi
  have e1 := congrArg (fun i : S2048x1024.Idx => (i 1 : ℕ)) hi
  clear hi
  blk_simp [idx0 t, col] at e0 e1
  clear hf
  have hy : y = (ix2 r k : S2048x128.Idx) := by idx_ext <;> omega
  have ej : t.val * 128 + k.val = j.val * 128 + k.val := by rw [hy] at e1; exact e1
  obtain rfl : j = tj0 t := Fin.ext (by simp only [tj0]; omega)
  rw [hy]
  exact (outs0 V c h t r k).2

/-! ## Region 1 -/

/-- The tile of a grid point. -/
def tj1 (t : Fin cfg1.N) : Fin 8 := ⟨t.val, N_1 ▸ t.isLt⟩

theorem idx1 : ∀ t : Fin cfg1.N, win1_0.index t = ![0, t.val] ∧ win1_1.index t = ![0, t.val] ∧ win1_2.index t = ![0, t.val] ∧ win1_3.index t = ![t.val, 0, 0] ∧ win1_4.index t = ![t.val, 0, 0] ∧ win1_5.index t = ![t.val, 0, 0] ∧ win1_6.index t = ![t.val, 0, 0] ∧ win1_7.index t = ![0, t.val] ∧ win1_8.index t = ![0, t.val] ∧ win1_9.index t = ![0, t.val] ∧ win1_10.index t = ![0, t.val] ∧ win1_11.index t = ![t.val, 0, 0] ∧ win1_12.index t = ![t.val, 0, 0] ∧ win1_13.index t = ![t.val, 0, 0] ∧ win1_14.index t = ![t.val, 0, 0] ∧ win1_15.index t = ![0, t.val] ∧ win1_16.index t = ![0, t.val] ∧ win1_17.index t = ![0, t.val] :=
  (by decide +kernel : ∀ t : Fin grid1.N, _)
theorem blk1_0 (t : Fin cfg1.N) (r : Fin 2048) (k : Fin 128) : iblk1 V c 0 t (ix2 r k) = (V c main_arg0 : FVec Ideal S2048x1024 .f32) (ix2 r (col (tj1 t) k)) := by
  blk_ext [iblk1, idx1 t, col, tj1]
theorem blk1_3 (t : Fin cfg1.N) (k : Fin 128) (l : Fin 512) : iblk1 V c 3 t (ix3 0 k l) = (V c main_v60 : FVec Ideal S8x128x512 .f32) (ix3 (tj1 t) k l) := by
  blk_ext [iblk1, idx1 t, tj1]
theorem blk1_4 (t : Fin cfg1.N) (k : Fin 128) (l : Fin 512) : iblk1 V c 4 t (ix3 0 k l) = (V c main_v74 : FVec Ideal S8x128x512 .f32) (ix3 (tj1 t) k l) := by
  blk_ext [iblk1, idx1 t, tj1]
theorem blk1_5 (t : Fin cfg1.N) (l : Fin 512) (k : Fin 128) : iblk1 V c 5 t (ix3 0 l k) = (V c main_v88 : FVec Ideal S8x512x128 .f32) (ix3 (tj1 t) l k) := by
  blk_ext [iblk1, idx1 t, tj1]
theorem blk1_6 (t : Fin cfg1.N) (l : Fin 512) (k : Fin 128) : iblk1 V c 6 t (ix3 0 l k) = (V c main_v102 : FVec Ideal S8x512x128 .f32) (ix3 (tj1 t) l k) := by
  blk_ext [iblk1, idx1 t, tj1]
theorem blk1_7 (t : Fin cfg1.N) (l : Fin 512) : iblk1 V c 7 t (ix2 0 l) = (V c main_v103 : FVec Ideal S1x4096 .f32) (ix2 0 (lane (tj1 t) l)) := by
  blk_ext [iblk1, idx1 t, lane, tj1]
theorem blk1_8 (t : Fin cfg1.N) (l : Fin 512) : iblk1 V c 8 t (ix2 0 l) = (V c main_v104 : FVec Ideal S1x4096 .f32) (ix2 0 (lane (tj1 t) l)) := by
  blk_ext [iblk1, idx1 t, lane, tj1]
theorem blk1_9 (t : Fin cfg1.N) (k : Fin 128) : iblk1 V c 9 t (ix2 0 k) = (V c main_v105 : FVec Ideal S1x1024 .f32) (ix2 0 (col (tj1 t) k)) := by
  blk_ext [iblk1, idx1 t, col, tj1]

/-- The blocks of a grid point hold its tile. -/
theorem holds1 (h : HoldsAll T (V c main_arg0) (V c main_v60) (V c main_v74) (V c main_v88) (V c main_v102) (V c main_v103) (V c main_v104) (V c main_v105)) (t : Fin cfg1.N) : Holds (T (tj1 t)) (iblk1 V c 0 t) (iblk1 V c 3 t) (iblk1 V c 4 t) (iblk1 V c 5 t) (iblk1 V c 6 t) (iblk1 V c 7 t) (iblk1 V c 8 t) (iblk1 V c 9 t) where
  u r k := (blk1_0 V c t r k).trans (h.u r (tj1 t) k)
  B k l := by rw [blk1_3, blk1_4]; exact h.B (tj1 t) k l
  C l k := by rw [blk1_5, blk1_6]; exact h.C (tj1 t) l k
  p l := by rw [blk1_7, blk1_8]; exact h.p (tj1 t) l
  d k := (blk1_9 V c t k).trans (h.d (tj1 t) k)

theorem blk1_1 (t : Fin cfg1.N) (r : Fin 2048) (k : Fin 128) : iblk1 V c 1 t (ix2 r k) = (V c main_v106_0 : FVec Ideal S2048x1024 .f32) (ix2 r (col (tj1 t) k)) := by
  blk_ext [iblk1, idx1 t, col, tj1]
theorem blk1_2 (t : Fin cfg1.N) (r : Fin 2048) (k : Fin 128) : iblk1 V c 2 t (ix2 r k) = (V c main_arg1 : FVec Ideal S2048x1024 .f32) (ix2 r (col (tj1 t) k)) := by
  blk_ext [iblk1, idx1 t, col, tj1]

/-- What the backward kernel leaves in its outputs' blocks. -/
theorem outs1 (h : HoldsAll T (V c main_arg0) (V c main_v60) (V c main_v74) (V c main_v88) (V c main_v102) (V c main_v103) (V c main_v104) (V c main_v105))
    (hy1 : ∀ (t : Fin 2048) j k, (V c main_v106_0 : FVec Ideal S2048x1024 .f32) (ix2 t (col j k)) = (((T j).yp t k : ℝ) : EReal))
    (hy2 : ∀ (t : Fin 2048) j k, (V c main_arg1 : FVec Ideal S2048x1024 .f32) (ix2 t (col j k)) = (((T j).dy t k : ℝ) : EReal)) (h0 : ∀ j l, (T j).p l ≠ 0) (t : Fin cfg1.N) :
    (∀ (r : Fin 2048) (k : Fin 128), (outsAt1 V c t).1 (ix2 r k) = (((T (tj1 t)).du r k : ℝ) : EReal))
    ∧ (∀ (k : Fin 128) (l : Fin 512), IsC ((outsAt1 V c t).2.1 (ix3 0 k l)) ((outsAt1 V c t).2.2.1 (ix3 0 k l)) ((T (tj1 t)).dB k l))
    ∧ (∀ (l : Fin 512) (k : Fin 128), IsC ((outsAt1 V c t).2.2.2.1 (ix3 0 l k)) ((outsAt1 V c t).2.2.2.2.1 (ix3 0 l k)) ((T (tj1 t)).dC l k))
    ∧ (∀ l : Fin 512, IsC ((outsAt1 V c t).2.2.2.2.2.1 (ix2 0 l)) ((outsAt1 V c t).2.2.2.2.2.2.1 (ix2 0 l)) ((T (tj1 t)).dp l))
    ∧ (∀ k : Fin 128, (outsAt1 V c t).2.2.2.2.2.2.2 (ix2 0 k) = (((T (tj1 t)).dd k : ℝ) : EReal)) := by
  have H := holds1 V c h t
  have b1 : ∀ (r : Fin 2048) k, iblk1 V c 1 t (ix2 r k) = (((T (tj1 t)).yp r k : ℝ) : EReal) := fun r k => (blk1_1 V c t r k).trans (hy1 r (tj1 t) k)
  have b2 : ∀ (r : Fin 2048) k, iblk1 V c 2 t (ix2 r k) = (((T (tj1 t)).dy r k : ℝ) : EReal) := fun r k => (blk1_2 V c t r k).trans (hy2 r (tj1 t) k)
  have z := h0 (tj1 t)
  unfold outsAt1
  generalize iblk1 V c 0 t = x0 at H ⊢; generalize iblk1 V c 1 t = x1 at b1 ⊢; generalize iblk1 V c 2 t = x2 at b2 ⊢; generalize iblk1 V c 3 t = x3 at H ⊢
  generalize iblk1 V c 4 t = x4 at H ⊢; generalize iblk1 V c 5 t = x5 at H ⊢; generalize iblk1 V c 6 t = x6 at H ⊢; generalize iblk1 V c 7 t = x7 at H ⊢
  generalize iblk1 V c 8 t = x8 at H ⊢; generalize iblk1 V c 9 t = x9 at H ⊢
  have hD := fun (r : Fin 2048) k => bwd_dyp (b1 r k) (b2 r k)
  have hDB : ∀ (r : Fin 2048) k, k1_pay47 (F := Ideal) (k1_pay41 x1) (k1_pay42 x1) (k1_pay43 x1) (k1_pay44 x1) k1_pay45 x2 (ix2 r k) = (((T (tj1 t)).dyp r k : ℝ) : EReal) :=
    fun r k => hD r k
  have hyy : ∀ (r : Fin 2048) l, IsC (k1_pay71 (F := Ideal) (k1_pay37 x5) (k1_pay47 (k1_pay41 x1) (k1_pay42 x1) (k1_pay43 x1) (k1_pay44 x1) k1_pay45 x2) (ix2 r l))
      (k1_pay72 (F := Ideal) (k1_pay38 x6) (k1_pay47 (k1_pay41 x1) (k1_pay42 x1) (k1_pay43 x1) (k1_pay44 x1) k1_pay45 x2) (ix2 r l)) ((fun i => (T (tj1 t)).gx l (2047 - i)) (2047 - r)) := by
    intro r l
    have := bwd_y H hDB r l
    dsimp only
    rwa [Nat.sub_sub_self (Nat.le_of_lt_succ r.isLt)]
  obtain ⟨SR, SI, GR, GI, ⟨e10, e11, e12, e13, e14, e15, e16, e17⟩, hs, hg⟩ := bwd_out c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) scM1_0 (Memref.isWhole_whole _) scM1_1 (Memref.isWhole_whole _) scM1_2 (Memref.isWhole_whole _) scM1_3 (Memref.isWhole_whole _)
    x0 x1 x2 x3 x4 x5 x6 x7 x8 x9 (y := fun l i => (T (tj1 t)).gx l (2047 - i)) (bwd_p H) (bwd_q H) (bwd_x H) hyy
  dsimp only
  rw [e10, e11, e12, e13, e14, e15, e16, e17]
  exact ⟨fun r k => bwd_du H hD hg r k, fun k l => bwd_dB H hg k l, fun l k => bwd_dC hDB hs l k,
    fun l => ⟨dlr_eq H hs hg z l, dli_eq H hs hg z l⟩, fun k => bwd_dd H hD k⟩

/-- The backward region's arrays: the input's gradient, -/
theorem final1_10 (h : HoldsAll T (V c main_arg0) (V c main_v60) (V c main_v74) (V c main_v88) (V c main_v102) (V c main_v103) (V c main_v104) (V c main_v105))
    (hy1 : ∀ (t : Fin 2048) j k, (V c main_v106_0 : FVec Ideal S2048x1024 .f32) (ix2 t (col j k)) = (((T j).yp t k : ℝ) : EReal))
    (hy2 : ∀ (t : Fin 2048) j k, (V c main_arg1 : FVec Ideal S2048x1024 .f32) (ix2 t (col j k)) = (((T j).dy t k : ℝ) : EReal)) (h0 : ∀ j l, (T j).p l ≠ 0)
    (r : Fin 2048) (j : Fin 8) (k : Fin 128) : ((dat1 V c).arrAt 10 cfg1.N : FVec Ideal S2048x1024 .bf16) (ix2 r (col j k)) = (((T j).du r k : ℝ) : EReal) := by
  refine ((dat1 V c).arrAt_forall_of_covers 10 (fun i v => ∀ (r : Fin 2048) (j : Fin 8) (k : Fin 128), i = ix2 r (col j k) → v = (((T j).du r k : ℝ) : EReal)) (by decide +kernel)
    (fun t hf y => ?_) (ix2 r (col j k))) r j k rfl
  intro r j k hi
  blk_simp
  rw [after1_10]
  have e0 := congrArg (fun i : S2048x1024.Idx => (i 0 : ℕ)) hi
  have e1 := congrArg (fun i : S2048x1024.Idx => (i 1 : ℕ)) hi
  clear hi
  blk_simp [idx1 t, col] at e0 e1
  clear hf
  have hy : y = (ix2 r k : S2048x128.Idx) := by idx_ext <;> omega
  have ej : t.val * 128 + k.val = j.val * 128 + k.val := by rw [hy] at e1; exact e1
  obtain rfl : j = tj1 t := Fin.ext (by simp only [tj1]; omega)
  rw [hy]
  exact (outs1 V c h hy1 hy2 h0 t).1 r k

/-- the input matrix's gradient, -/
theorem final1_11 (h : HoldsAll T (V c main_arg0) (V c main_v60) (V c main_v74) (V c main_v88) (V c main_v102) (V c main_v103) (V c main_v104) (V c main_v105))
    (hy1 : ∀ (t : Fin 2048) j k, (V c main_v106_0 : FVec Ideal S2048x1024 .f32) (ix2 t (col j k)) = (((T j).yp t k : ℝ) : EReal))
    (hy2 : ∀ (t : Fin 2048) j k, (V c main_arg1 : FVec Ideal S2048x1024 .f32) (ix2 t (col j k)) = (((T j).dy t k : ℝ) : EReal)) (h0 : ∀ j l, (T j).p l ≠ 0)
    (j : Fin 8) (k : Fin 128) (l : Fin 512) : ((dat1 V c).arrAt 11 cfg1.N : FVec Ideal S8x128x512 .f32) (ix3 j k l) = ((((T j).dB k l).re : ℝ) : EReal) := by
  refine ((dat1 V c).arrAt_forall_of_covers 11 (fun i v => ∀ (j : Fin 8) (k : Fin 128) (l : Fin 512), i = ix3 j k l → v = ((((T j).dB k l).re : ℝ) : EReal)) (by decide +kernel)
    (fun t hf y => ?_) (ix3 j k l)) j k l rfl
  intro j k l hi
  blk_simp
  rw [after1_11]
  have e0 := congrArg (fun i : S8x128x512.Idx => (i 0 : ℕ)) hi
  have e1 := congrArg (fun i : S8x128x512.Idx => (i 1 : ℕ)) hi
  have e2 := congrArg (fun i : S8x128x512.Idx => (i 2 : ℕ)) hi
  clear hi
  blk_simp [idx1 t] at e0 e1 e2
  clear hf
  have hy : y = (ix3 0 k l : S1x128x512.Idx) := by idx_ext <;> omega
  have ej : t.val = j.val := e0
  obtain rfl : j = tj1 t := Fin.ext (by simp only [tj1]; omega)
  rw [hy]
  exact ((outs1 V c h hy1 hy2 h0 t).2.1 k l).1

/-- its imaginary part, -/
theorem final1_12 (h : HoldsAll T (V c main_arg0) (V c main_v60) (V c main_v74) (V c main_v88) (V c main_v102) (V c main_v103) (V c main_v104) (V c main_v105))
    (hy1 : ∀ (t : Fin 2048) j k, (V c main_v106_0 : FVec Ideal S2048x1024 .f32) (ix2 t (col j k)) = (((T j).yp t k : ℝ) : EReal))
    (hy2 : ∀ (t : Fin 2048) j k, (V c main_arg1 : FVec Ideal S2048x1024 .f32) (ix2 t (col j k)) = (((T j).dy t k : ℝ) : EReal)) (h0 : ∀ j l, (T j).p l ≠ 0)
    (j : Fin 8) (k : Fin 128) (l : Fin 512) : ((dat1 V c).arrAt 12 cfg1.N : FVec Ideal S8x128x512 .f32) (ix3 j k l) = ((((T j).dB k l).im : ℝ) : EReal) := by
  refine ((dat1 V c).arrAt_forall_of_covers 12 (fun i v => ∀ (j : Fin 8) (k : Fin 128) (l : Fin 512), i = ix3 j k l → v = ((((T j).dB k l).im : ℝ) : EReal)) (by decide +kernel)
    (fun t hf y => ?_) (ix3 j k l)) j k l rfl
  intro j k l hi
  blk_simp
  rw [after1_12]
  have e0 := congrArg (fun i : S8x128x512.Idx => (i 0 : ℕ)) hi
  have e1 := congrArg (fun i : S8x128x512.Idx => (i 1 : ℕ)) hi
  have e2 := congrArg (fun i : S8x128x512.Idx => (i 2 : ℕ)) hi
  clear hi
  blk_simp [idx1 t] at e0 e1 e2
  clear hf
  have hy : y = (ix3 0 k l : S1x128x512.Idx) := by idx_ext <;> omega
  have ej : t.val = j.val := e0
  obtain rfl : j = tj1 t := Fin.ext (by simp only [tj1]; omega)
  rw [hy]
  exact ((outs1 V c h hy1 hy2 h0 t).2.1 k l).2

/-- the output matrix's gradient, -/
theorem final1_13 (h : HoldsAll T (V c main_arg0) (V c main_v60) (V c main_v74) (V c main_v88) (V c main_v102) (V c main_v103) (V c main_v104) (V c main_v105))
    (hy1 : ∀ (t : Fin 2048) j k, (V c main_v106_0 : FVec Ideal S2048x1024 .f32) (ix2 t (col j k)) = (((T j).yp t k : ℝ) : EReal))
    (hy2 : ∀ (t : Fin 2048) j k, (V c main_arg1 : FVec Ideal S2048x1024 .f32) (ix2 t (col j k)) = (((T j).dy t k : ℝ) : EReal)) (h0 : ∀ j l, (T j).p l ≠ 0)
    (j : Fin 8) (l : Fin 512) (k : Fin 128) : ((dat1 V c).arrAt 13 cfg1.N : FVec Ideal S8x512x128 .f32) (ix3 j l k) = ((((T j).dC l k).re : ℝ) : EReal) := by
  refine ((dat1 V c).arrAt_forall_of_covers 13 (fun i v => ∀ (j : Fin 8) (l : Fin 512) (k : Fin 128), i = ix3 j l k → v = ((((T j).dC l k).re : ℝ) : EReal)) (by decide +kernel)
    (fun t hf y => ?_) (ix3 j l k)) j l k rfl
  intro j l k hi
  blk_simp
  rw [after1_13]
  have e0 := congrArg (fun i : S8x512x128.Idx => (i 0 : ℕ)) hi
  have e1 := congrArg (fun i : S8x512x128.Idx => (i 1 : ℕ)) hi
  have e2 := congrArg (fun i : S8x512x128.Idx => (i 2 : ℕ)) hi
  clear hi
  blk_simp [idx1 t] at e0 e1 e2
  clear hf
  have hy : y = (ix3 0 l k : S1x512x128.Idx) := by idx_ext <;> omega
  have ej : t.val = j.val := e0
  obtain rfl : j = tj1 t := Fin.ext (by simp only [tj1]; omega)
  rw [hy]
  exact ((outs1 V c h hy1 hy2 h0 t).2.2.1 l k).1

/-- its imaginary part, -/
theorem final1_14 (h : HoldsAll T (V c main_arg0) (V c main_v60) (V c main_v74) (V c main_v88) (V c main_v102) (V c main_v103) (V c main_v104) (V c main_v105))
    (hy1 : ∀ (t : Fin 2048) j k, (V c main_v106_0 : FVec Ideal S2048x1024 .f32) (ix2 t (col j k)) = (((T j).yp t k : ℝ) : EReal))
    (hy2 : ∀ (t : Fin 2048) j k, (V c main_arg1 : FVec Ideal S2048x1024 .f32) (ix2 t (col j k)) = (((T j).dy t k : ℝ) : EReal)) (h0 : ∀ j l, (T j).p l ≠ 0)
    (j : Fin 8) (l : Fin 512) (k : Fin 128) : ((dat1 V c).arrAt 14 cfg1.N : FVec Ideal S8x512x128 .f32) (ix3 j l k) = ((((T j).dC l k).im : ℝ) : EReal) := by
  refine ((dat1 V c).arrAt_forall_of_covers 14 (fun i v => ∀ (j : Fin 8) (l : Fin 512) (k : Fin 128), i = ix3 j l k → v = ((((T j).dC l k).im : ℝ) : EReal)) (by decide +kernel)
    (fun t hf y => ?_) (ix3 j l k)) j l k rfl
  intro j l k hi
  blk_simp
  rw [after1_14]
  have e0 := congrArg (fun i : S8x512x128.Idx => (i 0 : ℕ)) hi
  have e1 := congrArg (fun i : S8x512x128.Idx => (i 1 : ℕ)) hi
  have e2 := congrArg (fun i : S8x512x128.Idx => (i 2 : ℕ)) hi
  clear hi
  blk_simp [idx1 t] at e0 e1 e2
  clear hf
  have hy : y = (ix3 0 l k : S1x512x128.Idx) := by idx_ext <;> omega
  have ej : t.val = j.val := e0
  obtain rfl : j = tj1 t := Fin.ext (by simp only [tj1]; omega)
  rw [hy]
  exact ((outs1 V c h hy1 hy2 h0 t).2.2.1 l k).2

/-- the factors' gradient, -/
theorem final1_15 (h : HoldsAll T (V c main_arg0) (V c main_v60) (V c main_v74) (V c main_v88) (V c main_v102) (V c main_v103) (V c main_v104) (V c main_v105))
    (hy1 : ∀ (t : Fin 2048) j k, (V c main_v106_0 : FVec Ideal S2048x1024 .f32) (ix2 t (col j k)) = (((T j).yp t k : ℝ) : EReal))
    (hy2 : ∀ (t : Fin 2048) j k, (V c main_arg1 : FVec Ideal S2048x1024 .f32) (ix2 t (col j k)) = (((T j).dy t k : ℝ) : EReal)) (h0 : ∀ j l, (T j).p l ≠ 0)
    (j : Fin 8) (l : Fin 512) : ((dat1 V c).arrAt 15 cfg1.N : FVec Ideal S1x4096 .f32) (ix2 0 (lane j l)) = ((((T j).dp l).re : ℝ) : EReal) := by
  refine ((dat1 V c).arrAt_forall_of_covers 15 (fun i v => ∀ (j : Fin 8) (l : Fin 512), i = ix2 0 (lane j l) → v = ((((T j).dp l).re : ℝ) : EReal)) (by decide +kernel)
    (fun t hf y => ?_) (ix2 0 (lane j l))) j l rfl
  intro j l hi
  blk_simp
  rw [after1_15]
  have e0 := congrArg (fun i : S1x4096.Idx => (i 0 : ℕ)) hi
  have e1 := congrArg (fun i : S1x4096.Idx => (i 1 : ℕ)) hi
  clear hi
  blk_simp [idx1 t, lane] at e0 e1
  clear hf
  have hy : y = (ix2 0 l : S1x512.Idx) := by idx_ext <;> omega
  have ej : t.val * 512 + l.val = j.val * 512 + l.val := by rw [hy] at e1; exact e1
  obtain rfl : j = tj1 t := Fin.ext (by simp only [tj1]; omega)
  rw [hy]
  exact ((outs1 V c h hy1 hy2 h0 t).2.2.2.1 l).1

/-- its imaginary part, -/
theorem final1_16 (h : HoldsAll T (V c main_arg0) (V c main_v60) (V c main_v74) (V c main_v88) (V c main_v102) (V c main_v103) (V c main_v104) (V c main_v105))
    (hy1 : ∀ (t : Fin 2048) j k, (V c main_v106_0 : FVec Ideal S2048x1024 .f32) (ix2 t (col j k)) = (((T j).yp t k : ℝ) : EReal))
    (hy2 : ∀ (t : Fin 2048) j k, (V c main_arg1 : FVec Ideal S2048x1024 .f32) (ix2 t (col j k)) = (((T j).dy t k : ℝ) : EReal)) (h0 : ∀ j l, (T j).p l ≠ 0)
    (j : Fin 8) (l : Fin 512) : ((dat1 V c).arrAt 16 cfg1.N : FVec Ideal S1x4096 .f32) (ix2 0 (lane j l)) = ((((T j).dp l).im : ℝ) : EReal) := by
  refine ((dat1 V c).arrAt_forall_of_covers 16 (fun i v => ∀ (j : Fin 8) (l : Fin 512), i = ix2 0 (lane j l) → v = ((((T j).dp l).im : ℝ) : EReal)) (by decide +kernel)
    (fun t hf y => ?_) (ix2 0 (lane j l))) j l rfl
  intro j l hi
  blk_simp
  rw [after1_16]
  have e0 := congrArg (fun i : S1x4096.Idx => (i 0 : ℕ)) hi
  have e1 := congrArg (fun i : S1x4096.Idx => (i 1 : ℕ)) hi
  clear hi
  blk_simp [idx1 t, lane] at e0 e1
  clear hf
  have hy : y = (ix2 0 l : S1x512.Idx) := by idx_ext <;> omega
  have ej : t.val * 512 + l.val = j.val * 512 + l.val := by rw [hy] at e1; exact e1
  obtain rfl : j = tj1 t := Fin.ext (by simp only [tj1]; omega)
  rw [hy]
  exact ((outs1 V c h hy1 hy2 h0 t).2.2.2.1 l).2

/-- and the skip weights' gradient. -/
theorem final1_17 (h : HoldsAll T (V c main_arg0) (V c main_v60) (V c main_v74) (V c main_v88) (V c main_v102) (V c main_v103) (V c main_v104) (V c main_v105))
    (hy1 : ∀ (t : Fin 2048) j k, (V c main_v106_0 : FVec Ideal S2048x1024 .f32) (ix2 t (col j k)) = (((T j).yp t k : ℝ) : EReal))
    (hy2 : ∀ (t : Fin 2048) j k, (V c main_arg1 : FVec Ideal S2048x1024 .f32) (ix2 t (col j k)) = (((T j).dy t k : ℝ) : EReal)) (h0 : ∀ j l, (T j).p l ≠ 0)
    (j : Fin 8) (k : Fin 128) : ((dat1 V c).arrAt 17 cfg1.N : FVec Ideal S1x1024 .f32) (ix2 0 (col j k)) = (((T j).dd k : ℝ) : EReal) := by
  refine ((dat1 V c).arrAt_forall_of_covers 17 (fun i v => ∀ (j : Fin 8) (k : Fin 128), i = ix2 0 (col j k) → v = (((T j).dd k : ℝ) : EReal)) (by decide +kernel)
    (fun t hf y => ?_) (ix2 0 (col j k))) j k rfl
  intro j k hi
  blk_simp
  rw [after1_17]
  have e0 := congrArg (fun i : S1x1024.Idx => (i 0 : ℕ)) hi
  have e1 := congrArg (fun i : S1x1024.Idx => (i 1 : ℕ)) hi
  clear hi
  blk_simp [idx1 t, col] at e0 e1
  clear hf
  have hy : y = (ix2 0 k : S1x128.Idx) := by idx_ext <;> omega
  have ej : t.val * 128 + k.val = j.val * 128 + k.val := by rw [hy] at e1; exact e1
  obtain rfl : j = tj1 t := Fin.ext (by simp only [tj1]; omega)
  rw [hy]
  exact (outs1 V c h hy1 hy2 h0 t).2.2.2.2 k

end Cert.KernelIdeal.Gen
-- ==== Proof.Group.lean ====
/-
  The layer's real arguments and its 64 groups. `Args` holds the arguments as real functions, `Args.G g` is group `g` as a
  block of 16 channels and 64 states (its factors and input matrix are the discretisation of the continuous-time arguments),
  and `Args.T j` is the dense tile of groups `8j … 8j+7`, whose quantities are the groups' quantities.
-/
module

public import proofs.«01_k».proof.Proof.Arrays

@[expose] public section

set_option maxRecDepth 16384

noncomputable section

open Idealize.ShloMosaic Idealize.ShloMosaic.TcCoe Idealize.SL.Sem
open scoped ComplexConjugate

namespace S5

/-! ## Renaming a block's channels and states -/

section Re

variable {K L K' L' : Type} [Fintype K] [Fintype L] [Fintype K'] [Fintype L'] (e : K' ≃ K) (f : L' ≃ L) (T : Blk K L)

/-- A block under new names of its channels and states. -/
def Blk.re : Blk K' L' where
  u t k := T.u t (e k)
  B k l := T.B (e k) (f l)
  C l k := T.C (f l) (e k)
  p l := T.p (f l)
  d k := T.d (e k)
  dy t k := T.dy t (e k)

theorem re_x (l : L') (t : ℕ) : (T.re e f).x l t = T.x (f l) t := Fintype.sum_equiv e _ _ fun _ => rfl
theorem re_s (l : L') (t : ℕ) : (T.re e f).s l t = T.s (f l) t := by
  rw [Blk.s, Blk.s, funext (re_x e f T l)]; rfl
theorem re_yp (t : ℕ) (k : K') : (T.re e f).yp t k = T.yp t (e k) :=
  congrArg (· + _) (Fintype.sum_equiv f _ _ fun l => by rw [re_s]; rfl)
theorem re_dyp (t : ℕ) (k : K') : (T.re e f).dyp t k = T.dyp t (e k) := by
  rw [Blk.dyp, Blk.dyp, re_yp]; rfl
theorem re_gx (l : L') (t : ℕ) : (T.re e f).gx l t = T.gx (f l) t := Fintype.sum_equiv e _ _ fun k => by rw [re_dyp]; rfl
theorem re_gr (l : L') (t : ℕ) : (T.re e f).gr l t = T.gr (f l) t := by
  rw [Blk.gr, Blk.gr, funext (fun i => re_gx e f T l (2047 - i))]; rfl
theorem re_du (t : ℕ) (k : K') : (T.re e f).du t k = T.du t (e k) := by
  rw [Blk.du, Blk.du, re_dyp]
  exact congrArg (· + _) (Fintype.sum_equiv f _ _ fun l => by rw [re_gr]; rfl)
theorem re_dB (k : K') (l : L') : (T.re e f).dB k l = T.dB (e k) (f l) := by
  simp only [Blk.dB, re_gr]; rfl
theorem re_dC (l : L') (k : K') : (T.re e f).dC l k = T.dC (f l) (e k) := by
  simp only [Blk.dC, re_dyp, re_s]
theorem re_dp (l : L') : (T.re e f).dp l = T.dp (f l) := by
  simp only [Blk.dp, re_gr, re_s]
theorem re_dd (k : K') : (T.re e f).dd k = T.dd (e k) := by
  simp only [Blk.dd, re_dyp]; rfl

end Re

/-! ## The arguments -/

/-- The layer's arguments, as real functions: the sequence, the cotangent, the poles' real and imaginary parts, the groups'
    log steps, the input and output matrices and the skip weights. No pole is zero. -/
structure Args where
  u : Fin 2048 → Fin 1024 → ℝ
  dy : Fin 2048 → Fin 1024 → ℝ
  ar : Fin 64 → Fin 64 → ℝ
  ai : Fin 64 → Fin 64 → ℝ
  ld : Fin 64 → ℝ
  br : Fin 64 → Fin 64 → Fin 16 → ℝ
  bi : Fin 64 → Fin 64 → Fin 16 → ℝ
  cr : Fin 64 → Fin 16 → Fin 64 → ℝ
  ci : Fin 64 → Fin 16 → Fin 64 → ℝ
  d : Fin 64 → Fin 16 → ℝ
  nz : ∀ g n, ar g n * ar g n + ai g n * ai g n ≠ 0

/-- Channel `q` of group `g` in the whole row. -/
def chan (g : Fin 64) (q : Fin 16) : Fin 1024 := ⟨g.val * 16 + q.val, by omega⟩
/-- Group `a` of tile `j`. -/
def grp (j a : Fin 8) : Fin 64 := ⟨j.val * 8 + a.val, by omega⟩

namespace Args

variable (A : Args)

/-- The step of a group. -/
def dt (g : Fin 64) : ℝ := Real.exp (A.ld g)
/-- The squared modulus of a pole, and its reciprocal's parts. -/
def nn (g n : Fin 64) : ℝ := A.ar g n * A.ar g n + A.ai g n * A.ai g n
def er (g n : Fin 64) : ℝ := Real.exp (A.ar g n * A.dt g)
def lr (g n : Fin 64) : ℝ := A.er g n * Real.cos (A.ai g n * A.dt g)
def li (g n : Fin 64) : ℝ := A.er g n * Real.sin (A.ai g n * A.dt g)
def qr (g n : Fin 64) : ℝ := A.ar g n * (1 / A.nn g n)
def qi (g n : Fin 64) : ℝ := -A.ai g n * (1 / A.nn g n)
/-- The parts of the factor the discretisation puts on the input matrix. -/
def kr (g n : Fin 64) : ℝ := (A.lr g n - 1) * A.qr g n - A.li g n * A.qi g n
def ki (g n : Fin 64) : ℝ := (A.lr g n - 1) * A.qi g n + A.li g n * A.qr g n

/-- Group `g` as a block. -/
def G (g : Fin 64) : Blk (Fin 16) (Fin 64) where
  u t q := if h : t < 2048 then A.u ⟨t, h⟩ (chan g q) else 0
  dy t q := if h : t < 2048 then A.dy ⟨t, h⟩ (chan g q) else 0
  B q n := ⟨A.kr g n * A.br g n q - A.ki g n * A.bi g n q, A.kr g n * A.bi g n q + A.ki g n * A.br g n q⟩
  C n q := ⟨A.cr g q n, A.ci g q n⟩
  p n := ⟨A.lr g n, A.li g n⟩
  d q := A.d g q

theorem G_u (g : Fin 64) (t : Fin 2048) (q : Fin 16) : (A.G g).u t q = A.u t (chan g q) := by simp [G]
theorem G_dy (g : Fin 64) (t : Fin 2048) (q : Fin 16) : (A.G g).dy t q = A.dy t (chan g q) := by simp [G]

theorem p_ne (g n : Fin 64) : (A.G g).p n ≠ 0 := by
  intro h
  have hr : A.lr g n = 0 := congrArg Complex.re h
  have hi : A.li g n = 0 := congrArg Complex.im h
  have he : A.er g n ≠ 0 := Real.exp_ne_zero _
  have hc := (mul_eq_zero.mp hr).resolve_left he
  have hs := (mul_eq_zero.mp hi).resolve_left he
  have := Real.sin_sq_add_cos_sq (A.ai g n * A.dt g)
  rw [hc, hs] at this; norm_num at this

/-- The block-diagonal block of tile `j`'s groups. -/
def D (j : Fin 8) : Blk (Fin 8 × Fin 16) (Fin 8 × Fin 64) where
  u t k := (A.G (grp j k.1)).u t k.2
  dy t k := (A.G (grp j k.1)).dy t k.2
  B k l := if k.1 = l.1 then (A.G (grp j l.1)).B k.2 l.2 else 0
  C l k := if k.1 = l.1 then (A.G (grp j l.1)).C l.2 k.2 else 0
  p l := (A.G (grp j l.1)).p l.2
  d k := (A.G (grp j k.1)).d k.2

theorem diag (j : Fin 8) : Diag (A.D j) (fun a => A.G (grp j a)) := by
  constructor <;> intros <;> rfl

/-- A tile's channel as a group and a channel of the group, and its state as a group and a state of the group. -/
def eK : Fin 128 ≃ Fin 8 × Fin 16 := (finProdFinEquiv (m := 8) (n := 16)).symm
def eL : Fin 512 ≃ Fin 8 × Fin 64 := (finProdFinEquiv (m := 8) (n := 64)).symm

theorem eK_eq (k : Fin 128) : eK k = (⟨k.val / 16, by omega⟩, ⟨k.val % 16, by omega⟩) := rfl
theorem eL_eq (l : Fin 512) : eL l = (⟨l.val / 64, by omega⟩, ⟨l.val % 64, by omega⟩) := rfl

/-- Tile `j`. -/
def T (j : Fin 8) : Blk (Fin 128) (Fin 512) := (A.D j).re eK eL

variable (j : Fin 8)

theorem T_p (l : Fin 512) : (A.T j).p l = (A.G (grp j (eL l).1)).p (eL l).2 := rfl
theorem T_yp (t : ℕ) (k : Fin 128) : (A.T j).yp t k = (A.G (grp j (eK k).1)).yp t (eK k).2 := by
  rw [T, re_yp]; exact (A.diag j).yp t _ _
theorem T_du (t : ℕ) (k : Fin 128) : (A.T j).du t k = (A.G (grp j (eK k).1)).du t (eK k).2 := by
  rw [T, re_du]; exact (A.diag j).du t _ _
theorem T_dB (k : Fin 128) (l : Fin 512) (h : (eK k).1 = (eL l).1) : (A.T j).dB k l = (A.G (grp j (eK k).1)).dB (eK k).2 (eL l).2 := by
  rw [T, re_dB]; rw [← (A.diag j).dB (eK k).1 (eK k).2 (eL l).2, h]
  congr 1; exact Prod.ext h rfl
theorem T_dC (l : Fin 512) (k : Fin 128) (h : (eK k).1 = (eL l).1) : (A.T j).dC l k = (A.G (grp j (eK k).1)).dC (eL l).2 (eK k).2 := by
  rw [T, re_dC]; rw [← (A.diag j).dC (eK k).1 (eL l).2 (eK k).2, h]
  congr 1; exact Prod.ext h rfl
theorem T_dp (l : Fin 512) : (A.T j).dp l = (A.G (grp j (eL l).1)).dp (eL l).2 := by
  rw [T, re_dp]; exact (A.diag j).dp _ _
theorem T_dd (k : Fin 128) : (A.T j).dd k = (A.G (grp j (eK k).1)).dd (eK k).2 := by
  rw [T, re_dd]; exact (A.diag j).dd _ _

end Args

/-- The arrays hold the arguments. -/
structure Reads (A : Args) (x0 x1 : FVec Ideal ⟨2, ![2048, 1024]⟩ .f32) (x2 x3 : FVec Ideal ⟨2, ![64, 64]⟩ .f32) (x4 : FVec Ideal ⟨1, ![64]⟩ .f32)
    (x5 x6 : FVec Ideal ⟨3, ![64, 64, 16]⟩ .f32) (x7 x8 : FVec Ideal ⟨3, ![64, 16, 64]⟩ .f32) (x9 : FVec Ideal ⟨2, ![64, 16]⟩ .f32) : Prop where
  u : ∀ t k, x0 (ix2 t k) = ((A.u t k : ℝ) : EReal)
  dy : ∀ t k, x1 (ix2 t k) = ((A.dy t k : ℝ) : EReal)
  ar : ∀ g n, x2 (ix2 g n) = ((A.ar g n : ℝ) : EReal)
  ai : ∀ g n, x3 (ix2 g n) = ((A.ai g n : ℝ) : EReal)
  ld : ∀ g, x4 (ix1 g) = ((A.ld g : ℝ) : EReal)
  br : ∀ g n q, x5 (ix3 g n q) = ((A.br g n q : ℝ) : EReal)
  bi : ∀ g n q, x6 (ix3 g n q) = ((A.bi g n q : ℝ) : EReal)
  cr : ∀ g q n, x7 (ix3 g q n) = ((A.cr g q n : ℝ) : EReal)
  ci : ∀ g q n, x8 (ix3 g q n) = ((A.ci g q n : ℝ) : EReal)
  d : ∀ g q, x9 (ix2 g q) = ((A.d g q : ℝ) : EReal)

/-! ## The discretisation on extended reals -/

section Disc

variable {A : Args} (g n : Fin 64)

theorem disc_lr : Ideal.exp (((A.ar g n : ℝ) : EReal) * Ideal.exp ((A.ld g : ℝ) : EReal)) * Ideal.cos (((A.ai g n : ℝ) : EReal) * Ideal.exp ((A.ld g : ℝ) : EReal))
    = ((A.lr g n : ℝ) : EReal) := by
  simp only [Ideal.exp_coe, Ideal.cos_coe, ← EReal.coe_mul]; rfl
theorem disc_li : Ideal.exp (((A.ar g n : ℝ) : EReal) * Ideal.exp ((A.ld g : ℝ) : EReal)) * Ideal.sin (((A.ai g n : ℝ) : EReal) * Ideal.exp ((A.ld g : ℝ) : EReal))
    = ((A.li g n : ℝ) : EReal) := by
  simp only [Ideal.exp_coe, Ideal.sin_coe, ← EReal.coe_mul]; rfl
theorem disc_qr : Ideal.div ((A.ar g n : ℝ) : EReal) (((A.ar g n : ℝ) : EReal) * ((A.ar g n : ℝ) : EReal) + ((A.ai g n : ℝ) : EReal) * ((A.ai g n : ℝ) : EReal))
    = ((A.qr g n : ℝ) : EReal) := by
  rw [← EReal.coe_mul, ← EReal.coe_mul, ← EReal.coe_add, Ideal.div_coe (A.nz g n), ← EReal.coe_mul]; rfl
theorem disc_qi : Ideal.div (-((A.ai g n : ℝ) : EReal)) (((A.ar g n : ℝ) : EReal) * ((A.ar g n : ℝ) : EReal) + ((A.ai g n : ℝ) : EReal) * ((A.ai g n : ℝ) : EReal))
    = ((A.qi g n : ℝ) : EReal) := by
  rw [← EReal.coe_mul, ← EReal.coe_mul, ← EReal.coe_add, Ideal.div_coe (A.nz g n), ← EReal.coe_neg, ← EReal.coe_mul]; rfl

end Disc

end S5
-- ==== Proof.KHost.lean ====
/-
  What the kernel's host code prepares for the two regions: arrays that hold the eight dense tiles.
-/
module

public import proofs.«01_k».proof.Proof.Group
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.KernelIdeal.Gen

open Cert.KernelIdeal S5

/-- A valuation's argument arrays hold the arguments `A`. -/
abbrev ReadsV (A : Args) (V : Valuation τ sig (Elt Ideal)) : Prop :=
  Reads A (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9))

/-- The entry of the identity matrix that keeps a tile block-diagonal. -/
theorem eye_eq (a b : ℕ) (ha : a < 8) (hb : b < 8) :
    (FloatOps.uitofp (F := Ideal) FTy.f32 (IntOp.cmpi CmpIPredicate.eq (IntOp.addi (BitVec.ofNat 32 a) 0#32) (BitVec.ofNat 32 b)) : EReal)
      = if (⟨a, ha⟩ : Fin 8) = ⟨b, hb⟩ then 1 else 0 := by
  have : ∀ x y : Fin 8, IntOp.cmpi CmpIPredicate.eq (IntOp.addi (BitVec.ofNat 32 x.val) 0#32) (BitVec.ofNat 32 y.val) = if x = y then 1#1 else 0#1 := by decide
  rw [this ⟨a, ha⟩ ⟨b, hb⟩]
  split_ifs <;> simp [FloatOps.uitofp]

variable {A : Args} {V : Valuation τ sig (Elt Ideal)} (h : ReadsV A V)
include h

theorem pre_B (j : Fin 8) (k : Fin 128) (l : Fin 512) :
    IsC ((after hostOps0 V (Proc.devRef .tc main_v60) : FVec Ideal S8x128x512 .f32) (ix3 j k l))
      ((after hostOps0 V (Proc.devRef .tc main_v74) : FVec Ideal S8x128x512 .f32) (ix3 j k l)) ((A.T j).B k l) := by
  have e : (A.T j).B k l = if (Args.eK k).1 = (Args.eL l).1 then (A.G (grp j (Args.eK k).1)).B (Args.eK k).2 (Args.eL l).2 else 0 := by
    show (if _ then _ else _) = _
    split_ifs with hh
    · rw [hh]
    · rfl
  constructor
  · after_reads_at
    simp only [h.ar, h.ai, h.ld, h.br, h.bi, disc_lr, disc_li, disc_qr, disc_qi]
    have hh := eye_eq (k.val / 16) (l.val / 64) (by omega) (by omega)
    simp only [hh]
    by_cases h1 : (⟨k.val / 16, by omega⟩ : Fin 8) = ⟨l.val / 64, by omega⟩
    · refine Eq.trans ?_ (congrArg (fun z : ℂ => ((z.re : ℝ) : EReal)) (e.trans (if_pos h1))).symm
      simp only [if_pos h1]; simp only [mul_one, ← EReal.coe_one, ← EReal.coe_mul, ← EReal.coe_sub, ← EReal.coe_add]; rfl
    · refine Eq.trans ?_ (congrArg (fun z : ℂ => ((z.re : ℝ) : EReal)) (e.trans (if_neg h1))).symm
      simp only [if_neg h1, mul_zero]; rfl
  · after_reads_at
    simp only [h.ar, h.ai, h.ld, h.br, h.bi, disc_lr, disc_li, disc_qr, disc_qi]
    have hh := eye_eq (k.val / 16) (l.val / 64) (by omega) (by omega)
    simp only [hh]
    by_cases h1 : (⟨k.val / 16, by omega⟩ : Fin 8) = ⟨l.val / 64, by omega⟩
    · refine Eq.trans ?_ (congrArg (fun z : ℂ => ((z.im : ℝ) : EReal)) (e.trans (if_pos h1))).symm
      simp only [if_pos h1]; simp only [mul_one, ← EReal.coe_one, ← EReal.coe_mul, ← EReal.coe_sub, ← EReal.coe_add]; rfl
    · refine Eq.trans ?_ (congrArg (fun z : ℂ => ((z.im : ℝ) : EReal)) (e.trans (if_neg h1))).symm
      simp only [if_neg h1, mul_zero]; rfl

theorem pre_C (j : Fin 8) (l : Fin 512) (k : Fin 128) :
    IsC ((after hostOps0 V (Proc.devRef .tc main_v88) : FVec Ideal S8x512x128 .f32) (ix3 j l k))
      ((after hostOps0 V (Proc.devRef .tc main_v102) : FVec Ideal S8x512x128 .f32) (ix3 j l k)) ((A.T j).C l k) := by
  have e : (A.T j).C l k = if (Args.eL l).1 = (Args.eK k).1 then (A.G (grp j (Args.eL l).1)).C (Args.eL l).2 (Args.eK k).2 else 0 := by
    show (if _ then _ else _) = _
    simp only [eq_comm (a := (Args.eK k).1)]
  constructor
  · after_reads_at
    simp only [h.cr, h.ci]
    have hh := eye_eq (l.val / 64) (k.val / 16) (by omega) (by omega)
    simp only [hh]
    by_cases h1 : (⟨l.val / 64, by omega⟩ : Fin 8) = ⟨k.val / 16, by omega⟩
    · refine Eq.trans ?_ (congrArg (fun z : ℂ => ((z.re : ℝ) : EReal)) (e.trans (if_pos h1))).symm
      simp only [if_pos h1]; simp only [mul_one]; rfl
    · refine Eq.trans ?_ (congrArg (fun z : ℂ => ((z.re : ℝ) : EReal)) (e.trans (if_neg h1))).symm
      simp only [if_neg h1, mul_zero]; rfl
  · after_reads_at
    simp only [h.cr, h.ci]
    have hh := eye_eq (l.val / 64) (k.val / 16) (by omega) (by omega)
    simp only [hh]
    by_cases h1 : (⟨l.val / 64, by omega⟩ : Fin 8) = ⟨k.val / 16, by omega⟩
    · refine Eq.trans ?_ (congrArg (fun z : ℂ => ((z.im : ℝ) : EReal)) (e.trans (if_pos h1))).symm
      simp only [if_pos h1]; simp only [mul_one]; rfl
    · refine Eq.trans ?_ (congrArg (fun z : ℂ => ((z.im : ℝ) : EReal)) (e.trans (if_neg h1))).symm
      simp only [if_neg h1, mul_zero]; rfl

theorem pre_p (j : Fin 8) (l : Fin 512) :
    IsC ((after hostOps0 V (Proc.devRef .tc main_v103) : FVec Ideal S1x4096 .f32) (ix2 0 (lane j l)))
      ((after hostOps0 V (Proc.devRef .tc main_v104) : FVec Ideal S1x4096 .f32) (ix2 0 (lane j l))) ((A.T j).p l) := by
  have e1 : (⟨(lane j l).val / 64, by omega⟩ : Fin 64) = grp j (Args.eL l).1 := Fin.ext (by simp only [lane, grp, Args.eL_eq]; omega)
  have e2 : (⟨(lane j l).val % 64, by omega⟩ : Fin 64) = (Args.eL l).2 := Fin.ext (by simp only [lane, Args.eL_eq]; omega)
  constructor
  · after_reads_at
    simp only [h.ar, h.ai, h.ld, disc_lr, disc_li]
    rw [Args.T_p, e1, e2]; rfl
  · after_reads_at
    simp only [h.ar, h.ai, h.ld, disc_lr, disc_li]
    rw [Args.T_p, e1, e2]; rfl

theorem pre_d (j : Fin 8) (k : Fin 128) :
    (after hostOps0 V (Proc.devRef .tc main_v105) : FVec Ideal S1x1024 .f32) (ix2 0 (col j k)) = (((A.T j).d k : ℝ) : EReal) := by
  have e1 : (⟨(col j k).val / 16, by omega⟩ : Fin 64) = grp j (Args.eK k).1 := Fin.ext (by simp only [col, grp, Args.eK_eq]; omega)
  have e2 : (⟨(col j k).val % 16, by omega⟩ : Fin 16) = (Args.eK k).2 := Fin.ext (by simp only [col, Args.eK_eq]; omega)
  after_reads_at
  simp only [h.d]
  rw [e1, e2]; rfl

omit h in
theorem chan_col (j : Fin 8) (k : Fin 128) : chan (grp j (Args.eK k).1) (Args.eK k).2 = col j k :=
  Fin.ext (by simp only [col, chan, grp, Args.eK_eq]; omega)

omit h in
theorem T_u (t : Fin 2048) (j : Fin 8) (k : Fin 128) : (A.T j).u t k = A.u t (col j k) :=
  (A.G_u (grp j (Args.eK k).1) t (Args.eK k).2).trans (by rw [chan_col])
omit h in
theorem T_dy (t : Fin 2048) (j : Fin 8) (k : Fin 128) : (A.T j).dy t k = A.dy t (col j k) :=
  (A.G_dy (grp j (Args.eK k).1) t (Args.eK k).2).trans (by rw [chan_col])

end Cert.KernelIdeal.Gen
-- ==== Proof.KVal.lean ====
/-
  The kernel's results: what the two regions leave, taken off the dense tiles' diagonals, is what the 64 groups' blocks say.
-/
module

public import proofs.«01_k».proof.Proof.KHost

@[expose] public section

set_option maxRecDepth 16384

noncomputable section

open Idealize.ShloMosaic Idealize.ShloMosaic.TcCoe Idealize.SL.Sem Idealize.ShloMosaic.StableHlo

namespace Cert.KernelIdeal.Gen

open Cert.KernelIdeal S5

variable {A : Args}

/-! ## Groups in tiles -/

/-- The tile of a group, and the group's channels and states in it. -/
def tl (g : Fin 64) : Fin 8 := ⟨g.val / 8, by omega⟩
def tk (g : Fin 64) (q : Fin 16) : Fin 128 := ⟨g.val % 8 * 16 + q.val, by omega⟩
def ts (g : Fin 64) (n : Fin 64) : Fin 512 := ⟨g.val % 8 * 64 + n.val, by omega⟩

theorem grp_k (g : Fin 64) (q : Fin 16) : grp (tl g) (Args.eK (tk g q)).1 = g := Fin.ext (by simp only [grp, tl, tk, Args.eK_eq]; omega)
theorem grp_s (g n : Fin 64) : grp (tl g) (Args.eL (ts g n)).1 = g := Fin.ext (by simp only [grp, tl, ts, Args.eL_eq]; omega)
theorem snd_k (g : Fin 64) (q : Fin 16) : (Args.eK (tk g q)).2 = q := Fin.ext (by simp only [tk, Args.eK_eq]; omega)
theorem snd_s (g n : Fin 64) : (Args.eL (ts g n)).2 = n := Fin.ext (by simp only [ts, Args.eL_eq]; omega)
theorem fst_eq (g n : Fin 64) (q : Fin 16) : (Args.eK (tk g q)).1 = (Args.eL (ts g n)).1 := Fin.ext (by simp only [tk, ts, Args.eK_eq, Args.eL_eq]; omega)

theorem at_dB (g n : Fin 64) (q : Fin 16) : (A.T (tl g)).dB (tk g q) (ts g n) = (A.G g).dB q n := by
  rw [Args.T_dB _ _ _ _ (fst_eq g n q), grp_k, snd_k, snd_s]
theorem at_dC (g n : Fin 64) (q : Fin 16) : (A.T (tl g)).dC (ts g n) (tk g q) = (A.G g).dC n q := by
  rw [Args.T_dC _ _ _ _ (fst_eq g n q), grp_k, snd_k, snd_s]
theorem at_dp (g n : Fin 64) : (A.T (tl g)).dp (ts g n) = (A.G g).dp n := by
  rw [Args.T_dp, grp_s, snd_s]
theorem at_dd (g : Fin 64) (q : Fin 16) : (A.T (tl g)).dd (tk g q) = (A.G g).dd q := by
  rw [Args.T_dd, grp_k, snd_k]

/-- A column's tile and its channel in it. -/
theorem col_eq (k : Fin 1024) : k = col ⟨k.val / 128, by omega⟩ ⟨k.val % 128, by omega⟩ := Fin.ext (by simp only [col]; omega)
theorem grp_col (k : Fin 1024) : grp ⟨k.val / 128, by omega⟩ (Args.eK ⟨k.val % 128, by omega⟩).1 = ⟨k.val / 16, by omega⟩ :=
  Fin.ext (by simp only [grp, Args.eK_eq]; omega)
theorem snd_col (k : Fin 1024) : (Args.eK ⟨k.val % 128, by omega⟩).2 = ⟨k.val % 16, by omega⟩ := Fin.ext (by simp only [Args.eK_eq]; omega)

/-- A sum against a row of the identity is its entry. -/
theorem pick (f : Fin 8 → EReal) (a : ℕ) (ha : a < 8) :
    (∑ x : Fin 8, f x * (FloatOps.uitofp (F := Ideal) FTy.f32 (IntOp.cmpi CmpIPredicate.eq (IntOp.addi (BitVec.ofNat 32 a) 0#32) (BitVec.ofNat 32 x.val)) : EReal))
      = f ⟨a, ha⟩ := by
  have hh := fun x : Fin 8 => eye_eq a x.val ha x.isLt
  simp only [hh]
  rw [Finset.sum_eq_single (⟨a, ha⟩ : Fin 8) (fun x _ hx => by rw [if_neg (fun e => hx (by rw [e])), mul_zero]) (fun hb => absurd (Finset.mem_univ _) hb)]
  rw [if_pos rfl, mul_one]

/-! ## The regions -/

section Regions

variable (m : (ℓ : Loc nD τ sig) → Buf (Elt Ideal) ℓ) (ρ : Dev nD → PrngReg) (c : Dev nD) (h : ReadsV A (W0 m ρ c))
include h

theorem entry1 : HoldsAll A.T (V1 m ρ c main_arg0) (V1 m ρ c main_v60) (V1 m ρ c main_v74) (V1 m ρ c main_v88) (V1 m ρ c main_v102) (V1 m ρ c main_v103) (V1 m ρ c main_v104) (V1 m ρ c main_v105) :=
  ⟨fun t j k => by
      show (W1 m ρ c (Proc.devRef .tc main_arg0) : FVec Ideal S2048x1024 .f32) (ix2 t (col j k)) = _
      rw [W1_of m ρ c main_arg0 (by decide), T_u]; exact h.u t (col j k),
    pre_B h, pre_C h, pre_p h, pre_d h⟩

theorem entry2 : HoldsAll A.T (V2 m ρ c main_arg0) (V2 m ρ c main_v60) (V2 m ρ c main_v74) (V2 m ρ c main_v88) (V2 m ρ c main_v102) (V2 m ρ c main_v103) (V2 m ρ c main_v104) (V2 m ρ c main_v105) := by
  have e : ∀ r : Ref sig .tc, (∀ w : Fin cfg0.W, Pipeline.arrRef spec0 w = r → (cfg0.win w).isOut = false) → V2 m ρ c r = V1 m ρ c r :=
    fun r hr => W2_of m ρ c r hr
  rw [e main_arg0 (by decide), e main_v60 (by decide), e main_v74 (by decide), e main_v88 (by decide), e main_v102 (by decide), e main_v103 (by decide),
    e main_v104 (by decide), e main_v105 (by decide)]
  exact entry1 m ρ c h

theorem V2_y (t : Fin 2048) (j : Fin 8) (k : Fin 128) :
    (V2 m ρ c main_v106_0 : FVec Ideal S2048x1024 .f32) (ix2 t (col j k)) = (((A.T j).yp t k : ℝ) : EReal) := by
  have e : V2 m ρ c main_v106_0 = (dat0 (V1 m ρ) c).arrAt 8 cfg0.N := W2_arr m ρ c 8
  rw [e]; exact final0_8 (V1 m ρ) c (entry1 m ρ c h) t j k

theorem V2_dy (t : Fin 2048) (j : Fin 8) (k : Fin 128) :
    (V2 m ρ c main_arg1 : FVec Ideal S2048x1024 .f32) (ix2 t (col j k)) = (((A.T j).dy t k : ℝ) : EReal) := by
  have e : V2 m ρ c main_arg1 = W0 m ρ c (Proc.devRef .tc main_arg1) := (W2_of m ρ c main_arg1 (by decide)).trans (W1_of m ρ c main_arg1 (by decide))
  rw [e, T_dy]; exact h.dy t (col j k)

omit h in
theorem p_ne (j : Fin 8) (l : Fin 512) : (A.T j).p l ≠ 0 := by rw [Args.T_p]; exact A.p_ne _ _

theorem W3_dB (j : Fin 8) (k : Fin 128) (l : Fin 512) :
    IsC ((W3 m ρ c (Proc.devRef .tc main_v107_1) : FVec Ideal S8x128x512 .f32) (ix3 j k l)) ((W3 m ρ c (Proc.devRef .tc main_v107_2) : FVec Ideal S8x128x512 .f32) (ix3 j k l)) ((A.T j).dB k l) := by
  have e1 : W3 m ρ c (Proc.devRef .tc main_v107_1) = (dat1 (V2 m ρ) c).arrAt 11 cfg1.N := W3_arr m ρ c 11
  have e2 : W3 m ρ c (Proc.devRef .tc main_v107_2) = (dat1 (V2 m ρ) c).arrAt 12 cfg1.N := W3_arr m ρ c 12
  rw [e1, e2]
  exact ⟨final1_11 (V2 m ρ) c (entry2 m ρ c h) (V2_y m ρ c h) (V2_dy m ρ c h) p_ne j k l, final1_12 (V2 m ρ) c (entry2 m ρ c h) (V2_y m ρ c h) (V2_dy m ρ c h) p_ne j k l⟩
theorem W3_dC (j : Fin 8) (l : Fin 512) (k : Fin 128) :
    IsC ((W3 m ρ c (Proc.devRef .tc main_v107_3) : FVec Ideal S8x512x128 .f32) (ix3 j l k)) ((W3 m ρ c (Proc.devRef .tc main_v107_4) : FVec Ideal S8x512x128 .f32) (ix3 j l k)) ((A.T j).dC l k) := by
  have e1 : W3 m ρ c (Proc.devRef .tc main_v107_3) = (dat1 (V2 m ρ) c).arrAt 13 cfg1.N := W3_arr m ρ c 13
  have e2 : W3 m ρ c (Proc.devRef .tc main_v107_4) = (dat1 (V2 m ρ) c).arrAt 14 cfg1.N := W3_arr m ρ c 14
  rw [e1, e2]
  exact ⟨final1_13 (V2 m ρ) c (entry2 m ρ c h) (V2_y m ρ c h) (V2_dy m ρ c h) p_ne j l k, final1_14 (V2 m ρ) c (entry2 m ρ c h) (V2_y m ρ c h) (V2_dy m ρ c h) p_ne j l k⟩
theorem W3_dp (j : Fin 8) (l : Fin 512) :
    IsC ((W3 m ρ c (Proc.devRef .tc main_v107_5) : FVec Ideal S1x4096 .f32) (ix2 0 (lane j l))) ((W3 m ρ c (Proc.devRef .tc main_v107_6) : FVec Ideal S1x4096 .f32) (ix2 0 (lane j l))) ((A.T j).dp l) := by
  have e1 : W3 m ρ c (Proc.devRef .tc main_v107_5) = (dat1 (V2 m ρ) c).arrAt 15 cfg1.N := W3_arr m ρ c 15
  have e2 : W3 m ρ c (Proc.devRef .tc main_v107_6) = (dat1 (V2 m ρ) c).arrAt 16 cfg1.N := W3_arr m ρ c 16
  rw [e1, e2]
  exact ⟨final1_15 (V2 m ρ) c (entry2 m ρ c h) (V2_y m ρ c h) (V2_dy m ρ c h) p_ne j l, final1_16 (V2 m ρ) c (entry2 m ρ c h) (V2_y m ρ c h) (V2_dy m ρ c h) p_ne j l⟩
theorem W3_dd (j : Fin 8) (k : Fin 128) :
    (W3 m ρ c (Proc.devRef .tc main_v107_7) : FVec Ideal S1x1024 .f32) (ix2 0 (col j k)) = (((A.T j).dd k : ℝ) : EReal) := by
  have e1 : W3 m ρ c (Proc.devRef .tc main_v107_7) = (dat1 (V2 m ρ) c).arrAt 17 cfg1.N := W3_arr m ρ c 17
  rw [e1]
  exact final1_17 (V2 m ρ) c (entry2 m ρ c h) (V2_y m ρ c h) (V2_dy m ρ c h) p_ne j k

/-! ## The results -/

theorem end_gelu (t : Fin 2048) (k : Fin 1024) :
    (W4 m ρ c (Proc.devRef .tc main_v106_1) : FVec Ideal S2048x1024 .f32) (ix2 t k)
      = ((gelu ((A.G ⟨k.val / 16, by omega⟩).yp t ⟨k.val % 16, by omega⟩) : ℝ) : EReal) := by
  have e1 : W4 m ρ c (Proc.devRef .tc main_v106_1) = (dat0 (V1 m ρ) c).arrAt 9 cfg0.N :=
    (W4_of m ρ c main_v106_1 (by decide)).trans ((W3_of m ρ c main_v106_1 (by decide)).trans (W2_arr m ρ c 9))
  have e := final0_9 (V1 m ρ) c (entry1 m ρ c h) t ⟨k.val / 128, by omega⟩ ⟨k.val % 128, by omega⟩
  rw [← col_eq, Args.T_yp, grp_col, snd_col] at e
  rw [e1]; exact e

theorem end_du (t : Fin 2048) (k : Fin 1024) :
    (W4 m ρ c (Proc.devRef .tc main_v107_0) : FVec Ideal S2048x1024 .bf16) (ix2 t k)
      = (((A.G ⟨k.val / 16, by omega⟩).du t ⟨k.val % 16, by omega⟩ : ℝ) : EReal) := by
  have e1 : W4 m ρ c (Proc.devRef .tc main_v107_0) = (dat1 (V2 m ρ) c).arrAt 10 cfg1.N :=
    (W4_of m ρ c main_v107_0 (by decide)).trans (W3_arr m ρ c 10)
  have e := final1_10 (V2 m ρ) c (entry2 m ρ c h) (V2_y m ρ c h) (V2_dy m ρ c h) p_ne t ⟨k.val / 128, by omega⟩ ⟨k.val % 128, by omega⟩
  rw [← col_eq, Args.T_du, grp_col, snd_col] at e
  rw [e1]; exact e

theorem end_dB (g n : Fin 64) (q : Fin 16) :
    IsC ((after (hostOps2.take 32) (W3 m ρ c) (Proc.devRef .tc main_v122) : FVec Ideal S64x64x16 .f32) (ix3 g n q))
      ((after (hostOps2.take 32) (W3 m ρ c) (Proc.devRef .tc main_v135) : FVec Ideal S64x64x16 .f32) (ix3 g n q)) ((A.G g).dB q n) := by
  have e := W3_dB m ρ c h (tl g) (tk g q) (ts g n)
  rw [at_dB] at e
  generalize W3 m ρ c = X at *
  constructor
  · after_reads_at
    exact (pick (fun x => (X (Proc.devRef .tc main_v107_1) : FVec Ideal S8x128x512 .f32) (ix3 (tl g) (tk g q) ⟨x.val * 64 + n.val, by omega⟩)) (g.val % 8) (by omega)).trans e.1
  · after_reads_at
    exact (pick (fun x => (X (Proc.devRef .tc main_v107_2) : FVec Ideal S8x128x512 .f32) (ix3 (tl g) (tk g q) ⟨x.val * 64 + n.val, by omega⟩)) (g.val % 8) (by omega)).trans e.2

theorem end_dp (g n : Fin 64) :
    IsC ((after (hostOps2.take 32) (W3 m ρ c) (Proc.devRef .tc main_v108) : FVec Ideal S64x64 .f32) (ix2 g n))
      ((after (hostOps2.take 32) (W3 m ρ c) (Proc.devRef .tc main_v109) : FVec Ideal S64x64 .f32) (ix2 g n)) ((A.G g).dp n) := by
  have e := W3_dp m ρ c h (tl g) (ts g n)
  have el : lane (tl g) (ts g n) = ⟨g.val * 64 + n.val, by omega⟩ := Fin.ext (by simp only [lane, tl, ts]; omega)
  rw [at_dp, el] at e
  generalize W3 m ρ c = X at *
  constructor
  · after_reads_at
    exact e.1
  · after_reads_at
    exact e.2

theorem end_dC (g n : Fin 64) (q : Fin 16) :
    IsC ((W4 m ρ c (Proc.devRef .tc main_v239) : FVec Ideal S64x16x64 .f32) (ix3 g q n))
      ((W4 m ρ c (Proc.devRef .tc main_v252) : FVec Ideal S64x16x64 .f32) (ix3 g q n)) ((A.G g).dC n q) := by
  have e := W3_dC m ρ c h (tl g) (ts g n) (tk g q)
  rw [at_dC] at e
  unfold W4
  generalize W3 m ρ c = X at *
  constructor
  · after_reads_at
    exact (pick (fun x => (X (Proc.devRef .tc main_v107_3) : FVec Ideal S8x512x128 .f32) (ix3 (tl g) (ts g n) ⟨x.val * 16 + q.val, by omega⟩)) (g.val % 8) (by omega)).trans e.1
  · after_reads_at
    exact (pick (fun x => (X (Proc.devRef .tc main_v107_4) : FVec Ideal S8x512x128 .f32) (ix3 (tl g) (ts g n) ⟨x.val * 16 + q.val, by omega⟩)) (g.val % 8) (by omega)).trans e.2

theorem end_dd (g : Fin 64) (q : Fin 16) :
    (W4 m ρ c (Proc.devRef .tc main_v253) : FVec Ideal S64x16 .f32) (ix2 g q) = (((A.G g).dd q : ℝ) : EReal) := by
  have e := W3_dd m ρ c h (tl g) (tk g q)
  have el : col (tl g) (tk g q) = ⟨g.val * 16 + q.val, by omega⟩ := Fin.ext (by simp only [col, tl, tk]; omega)
  rw [at_dd, el] at e
  unfold W4
  generalize W3 m ρ c = X at *
  after_reads_at
  exact e

end Regions

end Cert.KernelIdeal.Gen
-- ==== Proof.RefRun.lean ====
/-
  The reference program run to its end. Its @main is host operations, a counted loop (the recurrence forwards), more
  host operations, a second counted loop (the recurrence backwards) and the remaining host operations. `run`: from any
  memory with zero counters every fair execution ends, and each buffer ends at `fin m c`, the fold of those operations
  over the launch contents, each loop's body folded 2048 times.
-/
module

public import proofs.«01_k».proof.Proof.Gen.ReferenceIdeal
public import Idealize.ShloMosaic.Lib.StableHlo.RunLoop
public import Idealize.ShloMosaic.Lib.StableHlo.RunRead
public import proofs.«01_k».proof.Proof.BwdVal

@[expose] public section

set_option maxRecDepth 100000

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held afterL atTrip Plain seq launchContents segsOf loopSeg segsOf_chains segsOf_prog segsOf_M_T LoopCond)
open Idealize.ShloMosaic.Pipeline (CSeg Ticket PCfg ucRefs unscopedBufs_held sub_ucRefs)

variable {F : FTy → Type} [FloatOps F]

local notation "𝕄" => MT nD τ sig Unit (Elt F) ℕ (Option PUnit) ℕ

set_option maxHeartbeats 40000000 in
/-- @main's operations before the first loop. -/
abbrev opsA : List (HloOp τ sig (Elt F)) :=
  [ StableHlo.reshape main_arg0 main_v0 (rfl : (.f32 : EltTy) = .f32) shapeCasts_S2048x1024_S2048x64x16,
    StableHlo.unary main_arg4 main_v1 (Host.exp : (⟨S64, .f32⟩ : BufTy).Contents (Elt F) → (⟨S64, .f32⟩ : BufTy).Contents (Elt F)),
    StableHlo.unary main_v1 main_v2 (broadcastInDim S64x1 ![0] bcast_S64_S64x1_0 : (⟨S64, .f32⟩ : BufTy).Contents (Elt F) → (⟨S64x1, .f32⟩ : BufTy).Contents (Elt F)),
    StableHlo.unary main_v2 main_v3 (broadcastInDim S64x64 ![0, 1] bcast_S64x1_S64x64_0_1 : (⟨S64x1, .f32⟩ : BufTy).Contents (Elt F) → (⟨S64x64, .f32⟩ : BufTy).Contents (Elt F)),
    StableHlo.binary main_arg2 main_v3 main_v4 (mulf : (⟨S64x64, .f32⟩ : BufTy).Contents (Elt F) → (⟨S64x64, .f32⟩ : BufTy).Contents (Elt F) → (⟨S64x64, .f32⟩ : BufTy).Contents (Elt F)),
    StableHlo.unary main_v4 main_v5 (Host.exp : (⟨S64x64, .f32⟩ : BufTy).Contents (Elt F) → (⟨S64x64, .f32⟩ : BufTy).Contents (Elt F)),
    StableHlo.unary main_v2 main_v6 (broadcastInDim S64x64 ![0, 1] bcast_S64x1_S64x64_0_1 : (⟨S64x1, .f32⟩ : BufTy).Contents (Elt F) → (⟨S64x64, .f32⟩ : BufTy).Contents (Elt F)),
    StableHlo.binary main_arg3 main_v6 main_v7 (mulf : (⟨S64x64, .f32⟩ : BufTy).Contents (Elt F) → (⟨S64x64, .f32⟩ : BufTy).Contents (Elt F) → (⟨S64x64, .f32⟩ : BufTy).Contents (Elt F)),
    StableHlo.unary main_v7 main_v8 (Host.cos : (⟨S64x64, .f32⟩ : BufTy).Contents (Elt F) → (⟨S64x64, .f32⟩ : BufTy).Contents (Elt F)),
    StableHlo.unary main_v7 main_v9 (Host.sin : (⟨S64x64, .f32⟩ : BufTy).Contents (Elt F) → (⟨S64x64, .f32⟩ : BufTy).Contents (Elt F)),
    StableHlo.binary main_v5 main_v8 main_v10 (mulf : (⟨S64x64, .f32⟩ : BufTy).Contents (Elt F) → (⟨S64x64, .f32⟩ : BufTy).Contents (Elt F) → (⟨S64x64, .f32⟩ : BufTy).Contents (Elt F)),
    StableHlo.unary main_v2 main_v11 (broadcastInDim S64x64 ![0, 1] bcast_S64x1_S64x64_0_1 : (⟨S64x1, .f32⟩ : BufTy).Contents (Elt F) → (⟨S64x64, .f32⟩ : BufTy).Contents (Elt F)),
    StableHlo.binary main_arg3 main_v11 main_v12 (mulf : (⟨S64x64, .f32⟩ : BufTy).Contents (Elt F) → (⟨S64x64, .f32⟩ : BufTy).Contents (Elt F) → (⟨S64x64, .f32⟩ : BufTy).Contents (Elt F)),
    StableHlo.unary main_v12 main_v13 (Host.sin : (⟨S64x64, .f32⟩ : BufTy).Contents (Elt F) → (⟨S64x64, .f32⟩ : BufTy).Contents (Elt F)),
    StableHlo.unary main_v12 main_v14 (Host.cos : (⟨S64x64, .f32⟩ : BufTy).Contents (Elt F) → (⟨S64x64, .f32⟩ : BufTy).Contents (Elt F)),
    StableHlo.binary main_v5 main_v13 main_v15 (mulf : (⟨S64x64, .f32⟩ : BufTy).Contents (Elt F) → (⟨S64x64, .f32⟩ : BufTy).Contents (Elt F) → (⟨S64x64, .f32⟩ : BufTy).Contents (Elt F)),
    StableHlo.binary main_arg2 main_arg2 main_v16 (mulf : (⟨S64x64, .f32⟩ : BufTy).Contents (Elt F) → (⟨S64x64, .f32⟩ : BufTy).Contents (Elt F) → (⟨S64x64, .f32⟩ : BufTy).Contents (Elt F)),
    StableHlo.binary main_arg3 main_arg3 main_v17 (mulf : (⟨S64x64, .f32⟩ : BufTy).Contents (Elt F) → (⟨S64x64, .f32⟩ : BufTy).Contents (Elt F) → (⟨S64x64, .f32⟩ : BufTy).Contents (Elt F)),
    StableHlo.binary main_v16 main_v17 main_v18 (addf : (⟨S64x64, .f32⟩ : BufTy).Contents (Elt F) → (⟨S64x64, .f32⟩ : BufTy).Contents (Elt F) → (⟨S64x64, .f32⟩ : BufTy).Contents (Elt F)),
    StableHlo.nullary main_cst (constant S_ .f32 0x3F800000#32),
    StableHlo.unary main_cst main_v19 (broadcastInDim S64x64 ![] bcast_S_S64x64 : (⟨S_, .f32⟩ : BufTy).Contents (Elt F) → (⟨S64x64, .f32⟩ : BufTy).Contents (Elt F)),
    StableHlo.binary main_v10 main_v19 main_v20 (subf : (⟨S64x64, .f32⟩ : BufTy).Contents (Elt F) → (⟨S64x64, .f32⟩ : BufTy).Contents (Elt F) → (⟨S64x64, .f32⟩ : BufTy).Contents (Elt F)),
    StableHlo.binary main_arg2 main_v18 main_v21 (Host.divf : (⟨S64x64, .f32⟩ : BufTy).Contents (Elt F) → (⟨S64x64, .f32⟩ : BufTy).Contents (Elt F) → (⟨S64x64, .f32⟩ : BufTy).Contents (Elt F)),
    StableHlo.binary main_v18 main_v18 main_v22 (mulf : (⟨S64x64, .f32⟩ : BufTy).Contents (Elt F) → (⟨S64x64, .f32⟩ : BufTy).Contents (Elt F) → (⟨S64x64, .f32⟩ : BufTy).Contents (Elt F)),
    StableHlo.nullary main_cst_0 (constant S_ .f32 0x3F800000#32),
    StableHlo.unary main_cst_0 main_v23 (broadcastInDim S64x64 ![] bcast_S_S64x64 : (⟨S_, .f32⟩ : BufTy).Contents (Elt F) → (⟨S64x64, .f32⟩ : BufTy).Contents (Elt F)),
    StableHlo.binary main_v23 main_v22 main_v24 (Host.divf : (⟨S64x64, .f32⟩ : BufTy).Contents (Elt F) → (⟨S64x64, .f32⟩ : BufTy).Contents (Elt F) → (⟨S64x64, .f32⟩ : BufTy).Contents (Elt F)),
    StableHlo.unary main_arg3 main_v25 (Host.negf : (⟨S64x64, .f32⟩ : BufTy).Contents (Elt F) → (⟨S64x64, .f32⟩ : BufTy).Contents (Elt F)),
    StableHlo.binary main_v25 main_v18 main_v26 (Host.divf : (⟨S64x64, .f32⟩ : BufTy).Contents (Elt F) → (⟨S64x64, .f32⟩ : BufTy).Contents (Elt F) → (⟨S64x64, .f32⟩ : BufTy).Contents (Elt F)),
    StableHlo.binary main_v18 main_v18 main_v27 (mulf : (⟨S64x64, .f32⟩ : BufTy).Contents (Elt F) → (⟨S64x64, .f32⟩ : BufTy).Contents (Elt F) → (⟨S64x64, .f32⟩ : BufTy).Contents (Elt F)),
    StableHlo.nullary main_cst_1 (constant S_ .f32 0x3F800000#32),
    StableHlo.unary main_cst_1 main_v28 (broadcastInDim S64x64 ![] bcast_S_S64x64 : (⟨S_, .f32⟩ : BufTy).Contents (Elt F) → (⟨S64x64, .f32⟩ : BufTy).Contents (Elt F)),
    StableHlo.binary main_v28 main_v27 main_v29 (Host.divf : (⟨S64x64, .f32⟩ : BufTy).Contents (Elt F) → (⟨S64x64, .f32⟩ : BufTy).Contents (Elt F) → (⟨S64x64, .f32⟩ : BufTy).Contents (Elt F)),
    StableHlo.binary main_v20 main_v21 main_v30 (mulf : (⟨S64x64, .f32⟩ : BufTy).Contents (Elt F) → (⟨S64x64, .f32⟩ : BufTy).Contents (Elt F) → (⟨S64x64, .f32⟩ : BufTy).Contents (Elt F)),
    StableHlo.binary main_v15 main_v26 main_v31 (mulf : (⟨S64x64, .f32⟩ : BufTy).Contents (Elt F) → (⟨S64x64, .f32⟩ : BufTy).Contents (Elt F) → (⟨S64x64, .f32⟩ : BufTy).Contents (Elt F)),
    StableHlo.binary main_v30 main_v31 main_v32 (subf : (⟨S64x64, .f32⟩ : BufTy).Contents (Elt F) → (⟨S64x64, .f32⟩ : BufTy).Contents (Elt F) → (⟨S64x64, .f32⟩ : BufTy).Contents (Elt F)),
    StableHlo.binary main_v20 main_v26 main_v33 (mulf : (⟨S64x64, .f32⟩ : BufTy).Contents (Elt F) → (⟨S64x64, .f32⟩ : BufTy).Contents (Elt F) → (⟨S64x64, .f32⟩ : BufTy).Contents (Elt F)),
    StableHlo.binary main_v15 main_v21 main_v34 (mulf : (⟨S64x64, .f32⟩ : BufTy).Contents (Elt F) → (⟨S64x64, .f32⟩ : BufTy).Contents (Elt F) → (⟨S64x64, .f32⟩ : BufTy).Contents (Elt F)),
    StableHlo.binary main_v33 main_v34 main_v35 (addf : (⟨S64x64, .f32⟩ : BufTy).Contents (Elt F) → (⟨S64x64, .f32⟩ : BufTy).Contents (Elt F) → (⟨S64x64, .f32⟩ : BufTy).Contents (Elt F)),
    StableHlo.unary main_v32 main_v36 (broadcastInDim S64x64x1 ![0, 1] bcast_S64x64_S64x64x1_0_1 : (⟨S64x64, .f32⟩ : BufTy).Contents (Elt F) → (⟨S64x64x1, .f32⟩ : BufTy).Contents (Elt F)),
    StableHlo.unary main_v35 main_v37 (broadcastInDim S64x64x1 ![0, 1] bcast_S64x64_S64x64x1_0_1 : (⟨S64x64, .f32⟩ : BufTy).Contents (Elt F) → (⟨S64x64x1, .f32⟩ : BufTy).Contents (Elt F)),
    StableHlo.unary main_v36 main_v38 (broadcastInDim S64x64x16 ![0, 1, 2] bcast_S64x64x1_S64x64x16_0_1_2 : (⟨S64x64x1, .f32⟩ : BufTy).Contents (Elt F) → (⟨S64x64x16, .f32⟩ : BufTy).Contents (Elt F)),
    StableHlo.binary main_v38 main_arg5 main_v39 (mulf : (⟨S64x64x16, .f32⟩ : BufTy).Contents (Elt F) → (⟨S64x64x16, .f32⟩ : BufTy).Contents (Elt F) → (⟨S64x64x16, .f32⟩ : BufTy).Contents (Elt F)),
    StableHlo.unary main_v37 main_v40 (broadcastInDim S64x64x16 ![0, 1, 2] bcast_S64x64x1_S64x64x16_0_1_2 : (⟨S64x64x1, .f32⟩ : BufTy).Contents (Elt F) → (⟨S64x64x16, .f32⟩ : BufTy).Contents (Elt F)),
    StableHlo.binary main_v40 main_arg6 main_v41 (mulf : (⟨S64x64x16, .f32⟩ : BufTy).Contents (Elt F) → (⟨S64x64x16, .f32⟩ : BufTy).Contents (Elt F) → (⟨S64x64x16, .f32⟩ : BufTy).Contents (Elt F)),
    StableHlo.binary main_v39 main_v41 main_v42 (subf : (⟨S64x64x16, .f32⟩ : BufTy).Contents (Elt F) → (⟨S64x64x16, .f32⟩ : BufTy).Contents (Elt F) → (⟨S64x64x16, .f32⟩ : BufTy).Contents (Elt F)),
    StableHlo.unary main_v36 main_v43 (broadcastInDim S64x64x16 ![0, 1, 2] bcast_S64x64x1_S64x64x16_0_1_2 : (⟨S64x64x1, .f32⟩ : BufTy).Contents (Elt F) → (⟨S64x64x16, .f32⟩ : BufTy).Contents (Elt F)),
    StableHlo.binary main_v43 main_arg6 main_v44 (mulf : (⟨S64x64x16, .f32⟩ : BufTy).Contents (Elt F) → (⟨S64x64x16, .f32⟩ : BufTy).Contents (Elt F) → (⟨S64x64x16, .f32⟩ : BufTy).Contents (Elt F)),
    StableHlo.unary main_v37 main_v45 (broadcastInDim S64x64x16 ![0, 1, 2] bcast_S64x64x1_S64x64x16_0_1_2 : (⟨S64x64x1, .f32⟩ : BufTy).Contents (Elt F) → (⟨S64x64x16, .f32⟩ : BufTy).Contents (Elt F)),
    StableHlo.binary main_v45 main_arg5 main_v46 (mulf : (⟨S64x64x16, .f32⟩ : BufTy).Contents (Elt F) → (⟨S64x64x16, .f32⟩ : BufTy).Contents (Elt F) → (⟨S64x64x16, .f32⟩ : BufTy).Contents (Elt F)),
    StableHlo.binary main_v44 main_v46 main_v47 (addf : (⟨S64x64x16, .f32⟩ : BufTy).Contents (Elt F) → (⟨S64x64x16, .f32⟩ : BufTy).Contents (Elt F) → (⟨S64x64x16, .f32⟩ : BufTy).Contents (Elt F)),
    StableHlo.binary main_v42 main_v0 main_v48 ((fun l r => Host.dotGeneral dot_S64x64x16_S2048x64x16_S64x64x2048_2_2_1_0_0_1 none l r) : (⟨S64x64x16, .f32⟩ : BufTy).Contents (Elt F) → (⟨S2048x64x16, .f32⟩ : BufTy).Contents (Elt F) → (⟨S64x64x2048, .f32⟩ : BufTy).Contents (Elt F)),
    StableHlo.unary main_v48 main_v49 ((transpose S2048x64x64 [2, 0, 1] · transposes_S64x64x2048_S2048x64x64_2_0_1) : (⟨S64x64x2048, .f32⟩ : BufTy).Contents (Elt F) → (⟨S2048x64x64, .f32⟩ : BufTy).Contents (Elt F)),
    StableHlo.binary main_v47 main_v0 main_v50 ((fun l r => Host.dotGeneral dot_S64x64x16_S2048x64x16_S64x64x2048_2_2_1_0_0_1 none l r) : (⟨S64x64x16, .f32⟩ : BufTy).Contents (Elt F) → (⟨S2048x64x16, .f32⟩ : BufTy).Contents (Elt F) → (⟨S64x64x2048, .f32⟩ : BufTy).Contents (Elt F)),
    StableHlo.unary main_v50 main_v51 ((transpose S2048x64x64 [2, 0, 1] · transposes_S64x64x2048_S2048x64x64_2_0_1) : (⟨S64x64x2048, .f32⟩ : BufTy).Contents (Elt F) → (⟨S2048x64x64, .f32⟩ : BufTy).Contents (Elt F)),
    StableHlo.nullary main_cst_2 (constant S_ .f32 0x00000000#32),
    StableHlo.unary main_cst_2 main_v52 (broadcastInDim S64x64 ![] bcast_S_S64x64 : (⟨S_, .f32⟩ : BufTy).Contents (Elt F) → (⟨S64x64, .f32⟩ : BufTy).Contents (Elt F)),
    StableHlo.nullary main_cst_3 (constant S_ .f32 0x00000000#32),
    StableHlo.unary main_cst_3 main_v53 (broadcastInDim S2048x64x64 ![] bcast_S_S2048x64x64 : (⟨S_, .f32⟩ : BufTy).Contents (Elt F) → (⟨S2048x64x64, .f32⟩ : BufTy).Contents (Elt F)),
    StableHlo.nullary main_cst_4 (constant S_ .f32 0x00000000#32),
    StableHlo.unary main_cst_4 main_v54 (broadcastInDim S2048x64x64 ![] bcast_S_S2048x64x64 : (⟨S_, .f32⟩ : BufTy).Contents (Elt F) → (⟨S2048x64x64, .f32⟩ : BufTy).Contents (Elt F)),
    StableHlo.nullary main_cst_5 (constant S_ .f32 0x00000000#32),
    StableHlo.unary main_cst_5 main_v55 (broadcastInDim S2048x64x64 ![] bcast_S_S2048x64x64 : (⟨S_, .f32⟩ : BufTy).Contents (Elt F) → (⟨S2048x64x64, .f32⟩ : BufTy).Contents (Elt F)),
    StableHlo.nullary main_cst_6 (constant S_ .f32 0x00000000#32),
    StableHlo.unary main_cst_6 main_v56 (broadcastInDim S2048x64x64 ![] bcast_S_S2048x64x64 : (⟨S_, .f32⟩ : BufTy).Contents (Elt F) → (⟨S2048x64x64, .f32⟩ : BufTy).Contents (Elt F)),
    StableHlo.nullary main_c (constantI S_ 32 0#32),
    StableHlo.unary main_v49 main_v57_0 id,
    StableHlo.unary main_v51 main_v57_1 id,
    StableHlo.unary main_v10 main_v57_2 id,
    StableHlo.unary main_v15 main_v57_3 id,
    StableHlo.unary main_c main_v57_4 id,
    StableHlo.unary main_v52 main_v57_5 id,
    StableHlo.unary main_v52 main_v57_6 id,
    StableHlo.unary main_v53 main_v57_7 id,
    StableHlo.unary main_v54 main_v57_8 id,
    StableHlo.unary main_v55 main_v57_9 id,
    StableHlo.unary main_v56 main_v57_10 id ]

set_option maxHeartbeats 40000000 in
/-- They touch TensorCore references only. -/
theorem opsA_sub : (opsA : List (HloOp τ sig (Elt F))).Forall fun op => op.bufs ⊆ StableHlo.tcRefs τ sig :=
  ⟨StableHlo.reshape_bufs_sub .., StableHlo.unary_bufs_sub .., StableHlo.unary_bufs_sub .., StableHlo.unary_bufs_sub ..,
   StableHlo.binary_bufs_sub .., StableHlo.unary_bufs_sub .., StableHlo.unary_bufs_sub .., StableHlo.binary_bufs_sub .., StableHlo.unary_bufs_sub ..,
   StableHlo.unary_bufs_sub .., StableHlo.binary_bufs_sub .., StableHlo.unary_bufs_sub .., StableHlo.binary_bufs_sub .., StableHlo.unary_bufs_sub ..,
   StableHlo.unary_bufs_sub .., StableHlo.binary_bufs_sub .., StableHlo.binary_bufs_sub .., StableHlo.binary_bufs_sub ..,
   StableHlo.binary_bufs_sub .., StableHlo.nullary_bufs_sub .., StableHlo.unary_bufs_sub .., StableHlo.binary_bufs_sub ..,
   StableHlo.binary_bufs_sub .., StableHlo.binary_bufs_sub .., StableHlo.nullary_bufs_sub .., StableHlo.unary_bufs_sub ..,
   StableHlo.binary_bufs_sub .., StableHlo.unary_bufs_sub .., StableHlo.binary_bufs_sub .., StableHlo.binary_bufs_sub ..,
   StableHlo.nullary_bufs_sub .., StableHlo.unary_bufs_sub .., StableHlo.binary_bufs_sub .., StableHlo.binary_bufs_sub ..,
   StableHlo.binary_bufs_sub .., StableHlo.binary_bufs_sub .., StableHlo.binary_bufs_sub .., StableHlo.binary_bufs_sub ..,
   StableHlo.binary_bufs_sub .., StableHlo.unary_bufs_sub .., StableHlo.unary_bufs_sub .., StableHlo.unary_bufs_sub .., StableHlo.binary_bufs_sub ..,
   StableHlo.unary_bufs_sub .., StableHlo.binary_bufs_sub .., StableHlo.binary_bufs_sub .., StableHlo.unary_bufs_sub ..,
   StableHlo.binary_bufs_sub .., StableHlo.unary_bufs_sub .., StableHlo.binary_bufs_sub .., StableHlo.binary_bufs_sub ..,
   StableHlo.binary_bufs_sub .., StableHlo.unary_bufs_sub .., StableHlo.binary_bufs_sub .., StableHlo.unary_bufs_sub ..,
   StableHlo.nullary_bufs_sub .., StableHlo.unary_bufs_sub .., StableHlo.nullary_bufs_sub .., StableHlo.unary_bufs_sub ..,
   StableHlo.nullary_bufs_sub .., StableHlo.unary_bufs_sub .., StableHlo.nullary_bufs_sub .., StableHlo.unary_bufs_sub ..,
   StableHlo.nullary_bufs_sub .., StableHlo.unary_bufs_sub .., StableHlo.nullary_bufs_sub .., StableHlo.unary_bufs_sub ..,
   StableHlo.unary_bufs_sub .., StableHlo.unary_bufs_sub .., StableHlo.unary_bufs_sub .., StableHlo.unary_bufs_sub .., StableHlo.unary_bufs_sub ..,
   StableHlo.unary_bufs_sub .., StableHlo.unary_bufs_sub .., StableHlo.unary_bufs_sub .., StableHlo.unary_bufs_sub .., StableHlo.unary_bufs_sub ..⟩

set_option maxHeartbeats 40000000 in
/-- @main's operations between the loops. -/
abbrev opsB : List (HloOp τ sig (Elt F)) :=
  [ StableHlo.binary main_v57_7 main_arg7 main_v58 ((fun l r => Host.dotGeneral dot_S2048x64x64_S64x16x64_S64x2048x16_2_2_0_1_1_0 none l r) : (⟨S2048x64x64, .f32⟩ : BufTy).Contents (Elt F) → (⟨S64x16x64, .f32⟩ : BufTy).Contents (Elt F) → (⟨S64x2048x16, .f32⟩ : BufTy).Contents (Elt F)),
    StableHlo.unary main_v58 main_v59 ((transpose S2048x64x16 [1, 0, 2] · transposes_S64x2048x16_S2048x64x16_1_0_2) : (⟨S64x2048x16, .f32⟩ : BufTy).Contents (Elt F) → (⟨S2048x64x16, .f32⟩ : BufTy).Contents (Elt F)),
    StableHlo.binary main_v57_8 main_arg8 main_v60 ((fun l r => Host.dotGeneral dot_S2048x64x64_S64x16x64_S64x2048x16_2_2_0_1_1_0 none l r) : (⟨S2048x64x64, .f32⟩ : BufTy).Contents (Elt F) → (⟨S64x16x64, .f32⟩ : BufTy).Contents (Elt F) → (⟨S64x2048x16, .f32⟩ : BufTy).Contents (Elt F)),
    StableHlo.unary main_v60 main_v61 ((transpose S2048x64x16 [1, 0, 2] · transposes_S64x2048x16_S2048x64x16_1_0_2) : (⟨S64x2048x16, .f32⟩ : BufTy).Contents (Elt F) → (⟨S2048x64x16, .f32⟩ : BufTy).Contents (Elt F)),
    StableHlo.binary main_v59 main_v61 main_v62 (subf : (⟨S2048x64x16, .f32⟩ : BufTy).Contents (Elt F) → (⟨S2048x64x16, .f32⟩ : BufTy).Contents (Elt F) → (⟨S2048x64x16, .f32⟩ : BufTy).Contents (Elt F)),
    StableHlo.unary main_arg9 main_v63 (broadcastInDim S1x64x16 ![1, 2] bcast_S64x16_S1x64x16_1_2 : (⟨S64x16, .f32⟩ : BufTy).Contents (Elt F) → (⟨S1x64x16, .f32⟩ : BufTy).Contents (Elt F)),
    StableHlo.unary main_v63 main_v64 (broadcastInDim S2048x64x16 ![0, 1, 2] bcast_S1x64x16_S2048x64x16_0_1_2 : (⟨S1x64x16, .f32⟩ : BufTy).Contents (Elt F) → (⟨S2048x64x16, .f32⟩ : BufTy).Contents (Elt F)),
    StableHlo.binary main_v64 main_v0 main_v65 (mulf : (⟨S2048x64x16, .f32⟩ : BufTy).Contents (Elt F) → (⟨S2048x64x16, .f32⟩ : BufTy).Contents (Elt F) → (⟨S2048x64x16, .f32⟩ : BufTy).Contents (Elt F)),
    StableHlo.binary main_v62 main_v65 main_v66 (addf : (⟨S2048x64x16, .f32⟩ : BufTy).Contents (Elt F) → (⟨S2048x64x16, .f32⟩ : BufTy).Contents (Elt F) → (⟨S2048x64x16, .f32⟩ : BufTy).Contents (Elt F)),
    StableHlo.reshape main_v66 main_v67 (rfl : (.f32 : EltTy) = .f32) shapeCasts_S2048x64x16_S2048x1024,
    StableHlo.binary main_v67 main_v67 main_v68 (mulf : (⟨S2048x1024, .f32⟩ : BufTy).Contents (Elt F) → (⟨S2048x1024, .f32⟩ : BufTy).Contents (Elt F) → (⟨S2048x1024, .f32⟩ : BufTy).Contents (Elt F)),
    StableHlo.binary main_v68 main_v67 main_v69 (mulf : (⟨S2048x1024, .f32⟩ : BufTy).Contents (Elt F) → (⟨S2048x1024, .f32⟩ : BufTy).Contents (Elt F) → (⟨S2048x1024, .f32⟩ : BufTy).Contents (Elt F)),
    StableHlo.binary main_v67 main_v67 main_v70 (mulf : (⟨S2048x1024, .f32⟩ : BufTy).Contents (Elt F) → (⟨S2048x1024, .f32⟩ : BufTy).Contents (Elt F) → (⟨S2048x1024, .f32⟩ : BufTy).Contents (Elt F)),
    StableHlo.nullary main_cst_7 (constant S_ .f32 0x40400000#32),
    StableHlo.unary main_cst_7 main_v71 (broadcastInDim S2048x1024 ![] bcast_S_S2048x1024 : (⟨S_, .f32⟩ : BufTy).Contents (Elt F) → (⟨S2048x1024, .f32⟩ : BufTy).Contents (Elt F)),
    StableHlo.binary main_v71 main_v70 main_v72 (mulf : (⟨S2048x1024, .f32⟩ : BufTy).Contents (Elt F) → (⟨S2048x1024, .f32⟩ : BufTy).Contents (Elt F) → (⟨S2048x1024, .f32⟩ : BufTy).Contents (Elt F)),
    StableHlo.nullary main_cst_8 (constant S_ .f32 0x3D372713#32),
    StableHlo.unary main_cst_8 main_v73 (broadcastInDim S2048x1024 ![] bcast_S_S2048x1024 : (⟨S_, .f32⟩ : BufTy).Contents (Elt F) → (⟨S2048x1024, .f32⟩ : BufTy).Contents (Elt F)),
    StableHlo.binary main_v73 main_v69 main_v74 (mulf : (⟨S2048x1024, .f32⟩ : BufTy).Contents (Elt F) → (⟨S2048x1024, .f32⟩ : BufTy).Contents (Elt F) → (⟨S2048x1024, .f32⟩ : BufTy).Contents (Elt F)),
    StableHlo.binary main_v67 main_v74 main_v75 (addf : (⟨S2048x1024, .f32⟩ : BufTy).Contents (Elt F) → (⟨S2048x1024, .f32⟩ : BufTy).Contents (Elt F) → (⟨S2048x1024, .f32⟩ : BufTy).Contents (Elt F)),
    StableHlo.nullary main_cst_9 (constant S_ .f32 0x3F4C422A#32),
    StableHlo.unary main_cst_9 main_v76 (broadcastInDim S2048x1024 ![] bcast_S_S2048x1024 : (⟨S_, .f32⟩ : BufTy).Contents (Elt F) → (⟨S2048x1024, .f32⟩ : BufTy).Contents (Elt F)),
    StableHlo.binary main_v76 main_v75 main_v77 (mulf : (⟨S2048x1024, .f32⟩ : BufTy).Contents (Elt F) → (⟨S2048x1024, .f32⟩ : BufTy).Contents (Elt F) → (⟨S2048x1024, .f32⟩ : BufTy).Contents (Elt F)),
    StableHlo.unary main_v77 main_v78 (Host.tanh : (⟨S2048x1024, .f32⟩ : BufTy).Contents (Elt F) → (⟨S2048x1024, .f32⟩ : BufTy).Contents (Elt F)),
    StableHlo.nullary main_cst_10 (constant S_ .f32 0x3F800000#32),
    StableHlo.unary main_cst_10 main_v79 (broadcastInDim S2048x1024 ![] bcast_S_S2048x1024 : (⟨S_, .f32⟩ : BufTy).Contents (Elt F) → (⟨S2048x1024, .f32⟩ : BufTy).Contents (Elt F)),
    StableHlo.binary main_v79 main_v78 main_v80 (addf : (⟨S2048x1024, .f32⟩ : BufTy).Contents (Elt F) → (⟨S2048x1024, .f32⟩ : BufTy).Contents (Elt F) → (⟨S2048x1024, .f32⟩ : BufTy).Contents (Elt F)),
    StableHlo.nullary main_cst_11 (constant S_ .f32 0x3F800000#32),
    StableHlo.unary main_cst_11 main_v81 (broadcastInDim S2048x1024 ![] bcast_S_S2048x1024 : (⟨S_, .f32⟩ : BufTy).Contents (Elt F) → (⟨S2048x1024, .f32⟩ : BufTy).Contents (Elt F)),
    StableHlo.binary main_v81 main_v78 main_v82 (subf : (⟨S2048x1024, .f32⟩ : BufTy).Contents (Elt F) → (⟨S2048x1024, .f32⟩ : BufTy).Contents (Elt F) → (⟨S2048x1024, .f32⟩ : BufTy).Contents (Elt F)),
    StableHlo.binary main_v80 main_v82 main_v83 (mulf : (⟨S2048x1024, .f32⟩ : BufTy).Contents (Elt F) → (⟨S2048x1024, .f32⟩ : BufTy).Contents (Elt F) → (⟨S2048x1024, .f32⟩ : BufTy).Contents (Elt F)),
    StableHlo.nullary main_cst_12 (constant S_ .f32 0x3F800000#32),
    StableHlo.unary main_cst_12 main_v84 (broadcastInDim S2048x1024 ![] bcast_S_S2048x1024 : (⟨S_, .f32⟩ : BufTy).Contents (Elt F) → (⟨S2048x1024, .f32⟩ : BufTy).Contents (Elt F)),
    StableHlo.binary main_v84 main_v78 main_v85 (addf : (⟨S2048x1024, .f32⟩ : BufTy).Contents (Elt F) → (⟨S2048x1024, .f32⟩ : BufTy).Contents (Elt F) → (⟨S2048x1024, .f32⟩ : BufTy).Contents (Elt F)),
    StableHlo.nullary main_cst_13 (constant S_ .f32 0x3F000000#32),
    StableHlo.unary main_cst_13 main_v86 (broadcastInDim S2048x1024 ![] bcast_S_S2048x1024 : (⟨S_, .f32⟩ : BufTy).Contents (Elt F) → (⟨S2048x1024, .f32⟩ : BufTy).Contents (Elt F)),
    StableHlo.binary main_v86 main_v85 main_v87 (mulf : (⟨S2048x1024, .f32⟩ : BufTy).Contents (Elt F) → (⟨S2048x1024, .f32⟩ : BufTy).Contents (Elt F) → (⟨S2048x1024, .f32⟩ : BufTy).Contents (Elt F)),
    StableHlo.binary main_v67 main_v87 main_v88 (mulf : (⟨S2048x1024, .f32⟩ : BufTy).Contents (Elt F) → (⟨S2048x1024, .f32⟩ : BufTy).Contents (Elt F) → (⟨S2048x1024, .f32⟩ : BufTy).Contents (Elt F)),
    StableHlo.nullary main_cst_14 (constant S_ .f32 0x00000000#32),
    StableHlo.unary main_cst_14 main_v89 (broadcastInDim S64x64 ![] bcast_S_S64x64 : (⟨S_, .f32⟩ : BufTy).Contents (Elt F) → (⟨S64x64, .f32⟩ : BufTy).Contents (Elt F)),
    StableHlo.nullary main_cst_15 (constant S_ .f32 0x00000000#32),
    StableHlo.unary main_cst_15 main_v90 (broadcastInDim S64x64 ![] bcast_S_S64x64 : (⟨S_, .f32⟩ : BufTy).Contents (Elt F) → (⟨S64x64, .f32⟩ : BufTy).Contents (Elt F)),
    StableHlo.binary main_v67 main_arg1 main_v91 (mulf : (⟨S2048x1024, .f32⟩ : BufTy).Contents (Elt F) → (⟨S2048x1024, .f32⟩ : BufTy).Contents (Elt F) → (⟨S2048x1024, .f32⟩ : BufTy).Contents (Elt F)),
    StableHlo.binary main_arg1 main_v87 main_v92 (mulf : (⟨S2048x1024, .f32⟩ : BufTy).Contents (Elt F) → (⟨S2048x1024, .f32⟩ : BufTy).Contents (Elt F) → (⟨S2048x1024, .f32⟩ : BufTy).Contents (Elt F)),
    StableHlo.nullary main_cst_16 (constant S_ .f32 0x3F000000#32),
    StableHlo.unary main_cst_16 main_v93 (broadcastInDim S2048x1024 ![] bcast_S_S2048x1024 : (⟨S_, .f32⟩ : BufTy).Contents (Elt F) → (⟨S2048x1024, .f32⟩ : BufTy).Contents (Elt F)),
    StableHlo.binary main_v93 main_v91 main_v94 (mulf : (⟨S2048x1024, .f32⟩ : BufTy).Contents (Elt F) → (⟨S2048x1024, .f32⟩ : BufTy).Contents (Elt F) → (⟨S2048x1024, .f32⟩ : BufTy).Contents (Elt F)),
    StableHlo.binary main_v94 main_v83 main_v95 (mulf : (⟨S2048x1024, .f32⟩ : BufTy).Contents (Elt F) → (⟨S2048x1024, .f32⟩ : BufTy).Contents (Elt F) → (⟨S2048x1024, .f32⟩ : BufTy).Contents (Elt F)),
    StableHlo.nullary main_cst_17 (constant S_ .f32 0x3F4C422A#32),
    StableHlo.unary main_cst_17 main_v96 (broadcastInDim S2048x1024 ![] bcast_S_S2048x1024 : (⟨S_, .f32⟩ : BufTy).Contents (Elt F) → (⟨S2048x1024, .f32⟩ : BufTy).Contents (Elt F)),
    StableHlo.binary main_v96 main_v95 main_v97 (mulf : (⟨S2048x1024, .f32⟩ : BufTy).Contents (Elt F) → (⟨S2048x1024, .f32⟩ : BufTy).Contents (Elt F) → (⟨S2048x1024, .f32⟩ : BufTy).Contents (Elt F)),
    StableHlo.binary main_v92 main_v97 main_v98 (addf : (⟨S2048x1024, .f32⟩ : BufTy).Contents (Elt F) → (⟨S2048x1024, .f32⟩ : BufTy).Contents (Elt F) → (⟨S2048x1024, .f32⟩ : BufTy).Contents (Elt F)),
    StableHlo.nullary main_cst_18 (constant S_ .f32 0x3D372713#32),
    StableHlo.unary main_cst_18 main_v99 (broadcastInDim S2048x1024 ![] bcast_S_S2048x1024 : (⟨S_, .f32⟩ : BufTy).Contents (Elt F) → (⟨S2048x1024, .f32⟩ : BufTy).Contents (Elt F)),
    StableHlo.binary main_v99 main_v97 main_v100 (mulf : (⟨S2048x1024, .f32⟩ : BufTy).Contents (Elt F) → (⟨S2048x1024, .f32⟩ : BufTy).Contents (Elt F) → (⟨S2048x1024, .f32⟩ : BufTy).Contents (Elt F)),
    StableHlo.binary main_v100 main_v72 main_v101 (mulf : (⟨S2048x1024, .f32⟩ : BufTy).Contents (Elt F) → (⟨S2048x1024, .f32⟩ : BufTy).Contents (Elt F) → (⟨S2048x1024, .f32⟩ : BufTy).Contents (Elt F)),
    StableHlo.binary main_v98 main_v101 main_v102 (addf : (⟨S2048x1024, .f32⟩ : BufTy).Contents (Elt F) → (⟨S2048x1024, .f32⟩ : BufTy).Contents (Elt F) → (⟨S2048x1024, .f32⟩ : BufTy).Contents (Elt F)),
    StableHlo.reshape main_v102 main_v103 (rfl : (.f32 : EltTy) = .f32) shapeCasts_S2048x1024_S2048x64x16,
    StableHlo.unary main_v63 main_v104 (broadcastInDim S2048x64x16 ![0, 1, 2] bcast_S1x64x16_S2048x64x16_0_1_2 : (⟨S1x64x16, .f32⟩ : BufTy).Contents (Elt F) → (⟨S2048x64x16, .f32⟩ : BufTy).Contents (Elt F)),
    StableHlo.binary main_v104 main_v103 main_v105 (mulf : (⟨S2048x64x16, .f32⟩ : BufTy).Contents (Elt F) → (⟨S2048x64x16, .f32⟩ : BufTy).Contents (Elt F) → (⟨S2048x64x16, .f32⟩ : BufTy).Contents (Elt F)),
    StableHlo.binary main_v103 main_v0 main_v106 (mulf : (⟨S2048x64x16, .f32⟩ : BufTy).Contents (Elt F) → (⟨S2048x64x16, .f32⟩ : BufTy).Contents (Elt F) → (⟨S2048x64x16, .f32⟩ : BufTy).Contents (Elt F)),
    StableHlo.nullary main_cst_19 (constant S_ .f32 0x00000000#32),
    StableHlo.binary main_v106 main_cst_19 main_v107 ((fun x v => Host.reduceAdd x v reducesTo_S2048x64x16_S64x16_d0 h_S_) : (⟨S2048x64x16, .f32⟩ : BufTy).Contents (Elt F) → (⟨S_, .f32⟩ : BufTy).Contents (Elt F) → (⟨S64x16, .f32⟩ : BufTy).Contents (Elt F)),
    StableHlo.reshape main_v107 main_v108 (rfl : (.f32 : EltTy) = .f32) shapeCasts_S64x16_S1x64x16,
    StableHlo.nullary main_cst_20 (constant S_ .f32 0x00000000#32),
    StableHlo.binary main_v108 main_cst_20 main_v109 ((fun x v => Host.reduceAdd x v reducesTo_S1x64x16_S64x16_d0 h_S_) : (⟨S1x64x16, .f32⟩ : BufTy).Contents (Elt F) → (⟨S_, .f32⟩ : BufTy).Contents (Elt F) → (⟨S64x16, .f32⟩ : BufTy).Contents (Elt F)),
    StableHlo.unary main_v103 main_v110 (Host.negf : (⟨S2048x64x16, .f32⟩ : BufTy).Contents (Elt F) → (⟨S2048x64x16, .f32⟩ : BufTy).Contents (Elt F)),
    StableHlo.unary main_v110 main_v111 ((transpose S64x2048x16 [1, 0, 2] · transposes_S2048x64x16_S64x2048x16_1_0_2) : (⟨S2048x64x16, .f32⟩ : BufTy).Contents (Elt F) → (⟨S64x2048x16, .f32⟩ : BufTy).Contents (Elt F)),
    StableHlo.binary main_v111 main_v57_8 main_v112 ((fun l r => Host.dotGeneral dot_S64x2048x16_S2048x64x64_S64x16x64_1_0_2_2_0_1 none l r) : (⟨S64x2048x16, .f32⟩ : BufTy).Contents (Elt F) → (⟨S2048x64x64, .f32⟩ : BufTy).Contents (Elt F) → (⟨S64x16x64, .f32⟩ : BufTy).Contents (Elt F)),
    StableHlo.binary main_v111 main_arg8 main_v113 ((fun l r => Host.dotGeneral dot_S64x2048x16_S64x16x64_S64x2048x64_2_1_1_2_0_0 none l r) : (⟨S64x2048x16, .f32⟩ : BufTy).Contents (Elt F) → (⟨S64x16x64, .f32⟩ : BufTy).Contents (Elt F) → (⟨S64x2048x64, .f32⟩ : BufTy).Contents (Elt F)),
    StableHlo.unary main_v113 main_v114 ((transpose S2048x64x64 [1, 0, 2] · transposes_S64x2048x64_S2048x64x64_1_0_2) : (⟨S64x2048x64, .f32⟩ : BufTy).Contents (Elt F) → (⟨S2048x64x64, .f32⟩ : BufTy).Contents (Elt F)),
    StableHlo.unary main_v103 main_v115 ((transpose S64x2048x16 [1, 0, 2] · transposes_S2048x64x16_S64x2048x16_1_0_2) : (⟨S2048x64x16, .f32⟩ : BufTy).Contents (Elt F) → (⟨S64x2048x16, .f32⟩ : BufTy).Contents (Elt F)),
    StableHlo.binary main_v115 main_v57_7 main_v116 ((fun l r => Host.dotGeneral dot_S64x2048x16_S2048x64x64_S64x16x64_1_0_2_2_0_1 none l r) : (⟨S64x2048x16, .f32⟩ : BufTy).Contents (Elt F) → (⟨S2048x64x64, .f32⟩ : BufTy).Contents (Elt F) → (⟨S64x16x64, .f32⟩ : BufTy).Contents (Elt F)),
    StableHlo.binary main_v115 main_arg7 main_v117 ((fun l r => Host.dotGeneral dot_S64x2048x16_S64x16x64_S64x2048x64_2_1_1_2_0_0 none l r) : (⟨S64x2048x16, .f32⟩ : BufTy).Contents (Elt F) → (⟨S64x16x64, .f32⟩ : BufTy).Contents (Elt F) → (⟨S64x2048x64, .f32⟩ : BufTy).Contents (Elt F)),
    StableHlo.unary main_v117 main_v118 ((transpose S2048x64x64 [1, 0, 2] · transposes_S64x2048x64_S2048x64x64_1_0_2) : (⟨S64x2048x64, .f32⟩ : BufTy).Contents (Elt F) → (⟨S2048x64x64, .f32⟩ : BufTy).Contents (Elt F)),
    StableHlo.nullary main_cst_21 (constant S_ .f32 0x00000000#32),
    StableHlo.unary main_cst_21 main_v119 (broadcastInDim S64x64 ![] bcast_S_S64x64 : (⟨S_, .f32⟩ : BufTy).Contents (Elt F) → (⟨S64x64, .f32⟩ : BufTy).Contents (Elt F)),
    StableHlo.nullary main_cst_22 (constant S_ .f32 0x00000000#32),
    StableHlo.unary main_cst_22 main_v120 (broadcastInDim S64x64 ![] bcast_S_S64x64 : (⟨S_, .f32⟩ : BufTy).Contents (Elt F) → (⟨S64x64, .f32⟩ : BufTy).Contents (Elt F)),
    StableHlo.nullary main_cst_23 (constant S_ .f32 0x00000000#32),
    StableHlo.unary main_cst_23 main_v121 (broadcastInDim S64x64 ![] bcast_S_S64x64 : (⟨S_, .f32⟩ : BufTy).Contents (Elt F) → (⟨S64x64, .f32⟩ : BufTy).Contents (Elt F)),
    StableHlo.nullary main_cst_24 (constant S_ .f32 0x00000000#32),
    StableHlo.unary main_cst_24 main_v122 (broadcastInDim S64x64 ![] bcast_S_S64x64 : (⟨S_, .f32⟩ : BufTy).Contents (Elt F) → (⟨S64x64, .f32⟩ : BufTy).Contents (Elt F)),
    StableHlo.nullary main_cst_25 (constant S_ .f32 0x00000000#32),
    StableHlo.unary main_cst_25 main_v123 (broadcastInDim S2048x64x64 ![] bcast_S_S2048x64x64 : (⟨S_, .f32⟩ : BufTy).Contents (Elt F) → (⟨S2048x64x64, .f32⟩ : BufTy).Contents (Elt F)),
    StableHlo.nullary main_cst_26 (constant S_ .f32 0x00000000#32),
    StableHlo.unary main_cst_26 main_v124 (broadcastInDim S2048x64x64 ![] bcast_S_S2048x64x64 : (⟨S_, .f32⟩ : BufTy).Contents (Elt F) → (⟨S2048x64x64, .f32⟩ : BufTy).Contents (Elt F)),
    StableHlo.nullary main_c_27 (constantI S_ 32 0#32),
    StableHlo.unary main_v118 main_v125_0 id,
    StableHlo.unary main_v114 main_v125_1 id,
    StableHlo.unary main_v57_9 main_v125_2 id,
    StableHlo.unary main_v57_10 main_v125_3 id,
    StableHlo.unary main_v10 main_v125_4 id,
    StableHlo.unary main_v15 main_v125_5 id,
    StableHlo.unary main_c_27 main_v125_6 id,
    StableHlo.unary main_v121 main_v125_7 id,
    StableHlo.unary main_v122 main_v125_8 id,
    StableHlo.unary main_v119 main_v125_9 id,
    StableHlo.unary main_v120 main_v125_10 id,
    StableHlo.unary main_v123 main_v125_11 id,
    StableHlo.unary main_v124 main_v125_12 id ]

set_option maxHeartbeats 40000000 in
/-- They touch TensorCore references only. -/
theorem opsB_sub : (opsB : List (HloOp τ sig (Elt F))).Forall fun op => op.bufs ⊆ StableHlo.tcRefs τ sig :=
  ⟨StableHlo.binary_bufs_sub .., StableHlo.unary_bufs_sub .., StableHlo.binary_bufs_sub .., StableHlo.unary_bufs_sub ..,
   StableHlo.binary_bufs_sub .., StableHlo.unary_bufs_sub .., StableHlo.unary_bufs_sub .., StableHlo.binary_bufs_sub ..,
   StableHlo.binary_bufs_sub .., StableHlo.reshape_bufs_sub .., StableHlo.binary_bufs_sub .., StableHlo.binary_bufs_sub ..,
   StableHlo.binary_bufs_sub .., StableHlo.nullary_bufs_sub .., StableHlo.unary_bufs_sub .., StableHlo.binary_bufs_sub ..,
   StableHlo.nullary_bufs_sub .., StableHlo.unary_bufs_sub .., StableHlo.binary_bufs_sub .., StableHlo.binary_bufs_sub ..,
   StableHlo.nullary_bufs_sub .., StableHlo.unary_bufs_sub .., StableHlo.binary_bufs_sub .., StableHlo.unary_bufs_sub ..,
   StableHlo.nullary_bufs_sub .., StableHlo.unary_bufs_sub .., StableHlo.binary_bufs_sub .., StableHlo.nullary_bufs_sub ..,
   StableHlo.unary_bufs_sub .., StableHlo.binary_bufs_sub .., StableHlo.binary_bufs_sub .., StableHlo.nullary_bufs_sub ..,
   StableHlo.unary_bufs_sub .., StableHlo.binary_bufs_sub .., StableHlo.nullary_bufs_sub .., StableHlo.unary_bufs_sub ..,
   StableHlo.binary_bufs_sub .., StableHlo.binary_bufs_sub .., StableHlo.nullary_bufs_sub .., StableHlo.unary_bufs_sub ..,
   StableHlo.nullary_bufs_sub .., StableHlo.unary_bufs_sub .., StableHlo.binary_bufs_sub .., StableHlo.binary_bufs_sub ..,
   StableHlo.nullary_bufs_sub .., StableHlo.unary_bufs_sub .., StableHlo.binary_bufs_sub .., StableHlo.binary_bufs_sub ..,
   StableHlo.nullary_bufs_sub .., StableHlo.unary_bufs_sub .., StableHlo.binary_bufs_sub .., StableHlo.binary_bufs_sub ..,
   StableHlo.nullary_bufs_sub .., StableHlo.unary_bufs_sub .., StableHlo.binary_bufs_sub .., StableHlo.binary_bufs_sub ..,
   StableHlo.binary_bufs_sub .., StableHlo.reshape_bufs_sub .., StableHlo.unary_bufs_sub .., StableHlo.binary_bufs_sub ..,
   StableHlo.binary_bufs_sub .., StableHlo.nullary_bufs_sub .., StableHlo.binary_bufs_sub .., StableHlo.reshape_bufs_sub ..,
   StableHlo.nullary_bufs_sub .., StableHlo.binary_bufs_sub .., StableHlo.unary_bufs_sub .., StableHlo.unary_bufs_sub ..,
   StableHlo.binary_bufs_sub .., StableHlo.binary_bufs_sub .., StableHlo.unary_bufs_sub .., StableHlo.unary_bufs_sub ..,
   StableHlo.binary_bufs_sub .., StableHlo.binary_bufs_sub .., StableHlo.unary_bufs_sub .., StableHlo.nullary_bufs_sub ..,
   StableHlo.unary_bufs_sub .., StableHlo.nullary_bufs_sub .., StableHlo.unary_bufs_sub .., StableHlo.nullary_bufs_sub ..,
   StableHlo.unary_bufs_sub .., StableHlo.nullary_bufs_sub .., StableHlo.unary_bufs_sub .., StableHlo.nullary_bufs_sub ..,
   StableHlo.unary_bufs_sub .., StableHlo.nullary_bufs_sub .., StableHlo.unary_bufs_sub .., StableHlo.nullary_bufs_sub ..,
   StableHlo.unary_bufs_sub .., StableHlo.unary_bufs_sub .., StableHlo.unary_bufs_sub .., StableHlo.unary_bufs_sub .., StableHlo.unary_bufs_sub ..,
   StableHlo.unary_bufs_sub .., StableHlo.unary_bufs_sub .., StableHlo.unary_bufs_sub .., StableHlo.unary_bufs_sub .., StableHlo.unary_bufs_sub ..,
   StableHlo.unary_bufs_sub .., StableHlo.unary_bufs_sub .., StableHlo.unary_bufs_sub ..⟩

set_option maxHeartbeats 40000000 in
/-- @main's operations after the second loop. -/
abbrev opsC : List (HloOp τ sig (Elt F)) :=
  [ StableHlo.unary main_v125_12 main_v126 ((transpose S64x64x2048 [1, 2, 0] · transposes_S2048x64x64_S64x64x2048_1_2_0) : (⟨S2048x64x64, .f32⟩ : BufTy).Contents (Elt F) → (⟨S64x64x2048, .f32⟩ : BufTy).Contents (Elt F)),
    StableHlo.binary main_v126 main_v47 main_v127 ((fun l r => Host.dotGeneral dot_S64x64x2048_S64x64x16_S64x2048x16_1_1_2_2_0_0 none l r) : (⟨S64x64x2048, .f32⟩ : BufTy).Contents (Elt F) → (⟨S64x64x16, .f32⟩ : BufTy).Contents (Elt F) → (⟨S64x2048x16, .f32⟩ : BufTy).Contents (Elt F)),
    StableHlo.unary main_v127 main_v128 ((transpose S2048x64x16 [1, 0, 2] · transposes_S64x2048x16_S2048x64x16_1_0_2) : (⟨S64x2048x16, .f32⟩ : BufTy).Contents (Elt F) → (⟨S2048x64x16, .f32⟩ : BufTy).Contents (Elt F)),
    StableHlo.binary main_v105 main_v128 main_v129 (addf : (⟨S2048x64x16, .f32⟩ : BufTy).Contents (Elt F) → (⟨S2048x64x16, .f32⟩ : BufTy).Contents (Elt F) → (⟨S2048x64x16, .f32⟩ : BufTy).Contents (Elt F)),
    StableHlo.binary main_v126 main_v0 main_v130 ((fun l r => Host.dotGeneral dot_S64x64x2048_S2048x64x16_S64x64x16_2_0_1_2_0_1 none l r) : (⟨S64x64x2048, .f32⟩ : BufTy).Contents (Elt F) → (⟨S2048x64x16, .f32⟩ : BufTy).Contents (Elt F) → (⟨S64x64x16, .f32⟩ : BufTy).Contents (Elt F)),
    StableHlo.unary main_v125_11 main_v131 ((transpose S64x64x2048 [1, 2, 0] · transposes_S2048x64x64_S64x64x2048_1_2_0) : (⟨S2048x64x64, .f32⟩ : BufTy).Contents (Elt F) → (⟨S64x64x2048, .f32⟩ : BufTy).Contents (Elt F)),
    StableHlo.binary main_v131 main_v42 main_v132 ((fun l r => Host.dotGeneral dot_S64x64x2048_S64x64x16_S64x2048x16_1_1_2_2_0_0 none l r) : (⟨S64x64x2048, .f32⟩ : BufTy).Contents (Elt F) → (⟨S64x64x16, .f32⟩ : BufTy).Contents (Elt F) → (⟨S64x2048x16, .f32⟩ : BufTy).Contents (Elt F)),
    StableHlo.unary main_v132 main_v133 ((transpose S2048x64x16 [1, 0, 2] · transposes_S64x2048x16_S2048x64x16_1_0_2) : (⟨S64x2048x16, .f32⟩ : BufTy).Contents (Elt F) → (⟨S2048x64x16, .f32⟩ : BufTy).Contents (Elt F)),
    StableHlo.binary main_v129 main_v133 main_v134 (addf : (⟨S2048x64x16, .f32⟩ : BufTy).Contents (Elt F) → (⟨S2048x64x16, .f32⟩ : BufTy).Contents (Elt F) → (⟨S2048x64x16, .f32⟩ : BufTy).Contents (Elt F)),
    StableHlo.binary main_v131 main_v0 main_v135 ((fun l r => Host.dotGeneral dot_S64x64x2048_S2048x64x16_S64x64x16_2_0_1_2_0_1 none l r) : (⟨S64x64x2048, .f32⟩ : BufTy).Contents (Elt F) → (⟨S2048x64x16, .f32⟩ : BufTy).Contents (Elt F) → (⟨S64x64x16, .f32⟩ : BufTy).Contents (Elt F)),
    StableHlo.unary main_v37 main_v136 (broadcastInDim S64x64x16 ![0, 1, 2] bcast_S64x64x1_S64x64x16_0_1_2 : (⟨S64x64x1, .f32⟩ : BufTy).Contents (Elt F) → (⟨S64x64x16, .f32⟩ : BufTy).Contents (Elt F)),
    StableHlo.binary main_v136 main_v130 main_v137 (mulf : (⟨S64x64x16, .f32⟩ : BufTy).Contents (Elt F) → (⟨S64x64x16, .f32⟩ : BufTy).Contents (Elt F) → (⟨S64x64x16, .f32⟩ : BufTy).Contents (Elt F)),
    StableHlo.binary main_v130 main_arg5 main_v138 (mulf : (⟨S64x64x16, .f32⟩ : BufTy).Contents (Elt F) → (⟨S64x64x16, .f32⟩ : BufTy).Contents (Elt F) → (⟨S64x64x16, .f32⟩ : BufTy).Contents (Elt F)),
    StableHlo.nullary main_cst_28 (constant S_ .f32 0x00000000#32),
    StableHlo.binary main_v138 main_cst_28 main_v139 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F)),
    StableHlo.reshape main_v139 main_v140 (rfl : (.f32 : EltTy) = .f32) shapeCasts_S64x64_S64x64x1,
    StableHlo.unary main_v36 main_v141 (broadcastInDim S64x64x16 ![0, 1, 2] bcast_S64x64x1_S64x64x16_0_1_2 : (⟨S64x64x1, .f32⟩ : BufTy).Contents (Elt F) → (⟨S64x64x16, .f32⟩ : BufTy).Contents (Elt F)),
    StableHlo.binary main_v141 main_v130 main_v142 (mulf : (⟨S64x64x16, .f32⟩ : BufTy).Contents (Elt F) → (⟨S64x64x16, .f32⟩ : BufTy).Contents (Elt F) → (⟨S64x64x16, .f32⟩ : BufTy).Contents (Elt F)),
    StableHlo.binary main_v130 main_arg6 main_v143 (mulf : (⟨S64x64x16, .f32⟩ : BufTy).Contents (Elt F) → (⟨S64x64x16, .f32⟩ : BufTy).Contents (Elt F) → (⟨S64x64x16, .f32⟩ : BufTy).Contents (Elt F)),
    StableHlo.nullary main_cst_29 (constant S_ .f32 0x00000000#32),
    StableHlo.binary main_v143 main_cst_29 main_v144 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F)),
    StableHlo.reshape main_v144 main_v145 (rfl : (.f32 : EltTy) = .f32) shapeCasts_S64x64_S64x64x1,
    StableHlo.unary main_v135 main_v146 (Host.negf : (⟨S64x64x16, .f32⟩ : BufTy).Contents (Elt F) → (⟨S64x64x16, .f32⟩ : BufTy).Contents (Elt F)),
    StableHlo.unary main_v37 main_v147 (broadcastInDim S64x64x16 ![0, 1, 2] bcast_S64x64x1_S64x64x16_0_1_2 : (⟨S64x64x1, .f32⟩ : BufTy).Contents (Elt F) → (⟨S64x64x16, .f32⟩ : BufTy).Contents (Elt F)),
    StableHlo.binary main_v147 main_v146 main_v148 (mulf : (⟨S64x64x16, .f32⟩ : BufTy).Contents (Elt F) → (⟨S64x64x16, .f32⟩ : BufTy).Contents (Elt F) → (⟨S64x64x16, .f32⟩ : BufTy).Contents (Elt F)),
    StableHlo.binary main_v142 main_v148 main_v149 (addf : (⟨S64x64x16, .f32⟩ : BufTy).Contents (Elt F) → (⟨S64x64x16, .f32⟩ : BufTy).Contents (Elt F) → (⟨S64x64x16, .f32⟩ : BufTy).Contents (Elt F)),
    StableHlo.binary main_v146 main_arg6 main_v150 (mulf : (⟨S64x64x16, .f32⟩ : BufTy).Contents (Elt F) → (⟨S64x64x16, .f32⟩ : BufTy).Contents (Elt F) → (⟨S64x64x16, .f32⟩ : BufTy).Contents (Elt F)),
    StableHlo.nullary main_cst_30 (constant S_ .f32 0x00000000#32),
    StableHlo.binary main_v150 main_cst_30 main_v151 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F)),
    StableHlo.reshape main_v151 main_v152 (rfl : (.f32 : EltTy) = .f32) shapeCasts_S64x64_S64x64x1,
    StableHlo.binary main_v140 main_v152 main_v153 (addf : (⟨S64x64x1, .f32⟩ : BufTy).Contents (Elt F) → (⟨S64x64x1, .f32⟩ : BufTy).Contents (Elt F) → (⟨S64x64x1, .f32⟩ : BufTy).Contents (Elt F)),
    StableHlo.unary main_v36 main_v154 (broadcastInDim S64x64x16 ![0, 1, 2] bcast_S64x64x1_S64x64x16_0_1_2 : (⟨S64x64x1, .f32⟩ : BufTy).Contents (Elt F) → (⟨S64x64x16, .f32⟩ : BufTy).Contents (Elt F)),
    StableHlo.binary main_v154 main_v135 main_v155 (mulf : (⟨S64x64x16, .f32⟩ : BufTy).Contents (Elt F) → (⟨S64x64x16, .f32⟩ : BufTy).Contents (Elt F) → (⟨S64x64x16, .f32⟩ : BufTy).Contents (Elt F)),
    StableHlo.binary main_v137 main_v155 main_v156 (addf : (⟨S64x64x16, .f32⟩ : BufTy).Contents (Elt F) → (⟨S64x64x16, .f32⟩ : BufTy).Contents (Elt F) → (⟨S64x64x16, .f32⟩ : BufTy).Contents (Elt F)),
    StableHlo.binary main_v135 main_arg5 main_v157 (mulf : (⟨S64x64x16, .f32⟩ : BufTy).Contents (Elt F) → (⟨S64x64x16, .f32⟩ : BufTy).Contents (Elt F) → (⟨S64x64x16, .f32⟩ : BufTy).Contents (Elt F)),
    StableHlo.nullary main_cst_31 (constant S_ .f32 0x00000000#32),
    StableHlo.binary main_v157 main_cst_31 main_v158 ((fun x v => Host.reduceAdd x v reducesTo_S64x64x16_S64x64_d2 h_S_) : (⟨S64x64x16, .f32⟩ : BufTy).Contents (Elt F) → (⟨S_, .f32⟩ : BufTy).Contents (Elt F) → (⟨S64x64, .f32⟩ : BufTy).Contents (Elt F)),
    StableHlo.reshape main_v158 main_v159 (rfl : (.f32 : EltTy) = .f32) shapeCasts_S64x64_S64x64x1,
    StableHlo.binary main_v145 main_v159 main_v160 (addf : (⟨S64x64x1, .f32⟩ : BufTy).Contents (Elt F) → (⟨S64x64x1, .f32⟩ : BufTy).Contents (Elt F) → (⟨S64x64x1, .f32⟩ : BufTy).Contents (Elt F)),
    StableHlo.nullary main_cst_32 (constant S_ .f32 0x00000000#32),
    StableHlo.binary main_v153 main_cst_32 main_v161 ((fun x v => Host.reduceAdd x v reducesTo_S64x64x1_S64x64_d2 h_S_) : (⟨S64x64x1, .f32⟩ : BufTy).Contents (Elt F) → (⟨S_, .f32⟩ : BufTy).Contents (Elt F) → (⟨S64x64, .f32⟩ : BufTy).Contents (Elt F)),
    StableHlo.nullary main_cst_33 (constant S_ .f32 0x00000000#32),
    StableHlo.binary main_v160 main_cst_33 main_v162 ((fun x v => Host.reduceAdd x v reducesTo_S64x64x1_S64x64_d2 h_S_) : (⟨S64x64x1, .f32⟩ : BufTy).Contents (Elt F) → (⟨S_, .f32⟩ : BufTy).Contents (Elt F) → (⟨S64x64, .f32⟩ : BufTy).Contents (Elt F)),
    StableHlo.binary main_v15 main_v161 main_v163 (mulf : (⟨S64x64, .f32⟩ : BufTy).Contents (Elt F) → (⟨S64x64, .f32⟩ : BufTy).Contents (Elt F) → (⟨S64x64, .f32⟩ : BufTy).Contents (Elt F)),
    StableHlo.binary main_v161 main_v21 main_v164 (mulf : (⟨S64x64, .f32⟩ : BufTy).Contents (Elt F) → (⟨S64x64, .f32⟩ : BufTy).Contents (Elt F) → (⟨S64x64, .f32⟩ : BufTy).Contents (Elt F)),
    StableHlo.binary main_v125_8 main_v164 main_v165 (addf : (⟨S64x64, .f32⟩ : BufTy).Contents (Elt F) → (⟨S64x64, .f32⟩ : BufTy).Contents (Elt F) → (⟨S64x64, .f32⟩ : BufTy).Contents (Elt F)),
    StableHlo.binary main_v20 main_v161 main_v166 (mulf : (⟨S64x64, .f32⟩ : BufTy).Contents (Elt F) → (⟨S64x64, .f32⟩ : BufTy).Contents (Elt F) → (⟨S64x64, .f32⟩ : BufTy).Contents (Elt F)),
    StableHlo.binary main_v161 main_v26 main_v167 (mulf : (⟨S64x64, .f32⟩ : BufTy).Contents (Elt F) → (⟨S64x64, .f32⟩ : BufTy).Contents (Elt F) → (⟨S64x64, .f32⟩ : BufTy).Contents (Elt F)),
    StableHlo.binary main_v125_7 main_v167 main_v168 (addf : (⟨S64x64, .f32⟩ : BufTy).Contents (Elt F) → (⟨S64x64, .f32⟩ : BufTy).Contents (Elt F) → (⟨S64x64, .f32⟩ : BufTy).Contents (Elt F)),
    StableHlo.unary main_v162 main_v169 (Host.negf : (⟨S64x64, .f32⟩ : BufTy).Contents (Elt F) → (⟨S64x64, .f32⟩ : BufTy).Contents (Elt F)),
    StableHlo.binary main_v15 main_v169 main_v170 (mulf : (⟨S64x64, .f32⟩ : BufTy).Contents (Elt F) → (⟨S64x64, .f32⟩ : BufTy).Contents (Elt F) → (⟨S64x64, .f32⟩ : BufTy).Contents (Elt F)),
    StableHlo.binary main_v166 main_v170 main_v171 (addf : (⟨S64x64, .f32⟩ : BufTy).Contents (Elt F) → (⟨S64x64, .f32⟩ : BufTy).Contents (Elt F) → (⟨S64x64, .f32⟩ : BufTy).Contents (Elt F)),
    StableHlo.binary main_v169 main_v26 main_v172 (mulf : (⟨S64x64, .f32⟩ : BufTy).Contents (Elt F) → (⟨S64x64, .f32⟩ : BufTy).Contents (Elt F) → (⟨S64x64, .f32⟩ : BufTy).Contents (Elt F)),
    StableHlo.binary main_v165 main_v172 main_v173 (addf : (⟨S64x64, .f32⟩ : BufTy).Contents (Elt F) → (⟨S64x64, .f32⟩ : BufTy).Contents (Elt F) → (⟨S64x64, .f32⟩ : BufTy).Contents (Elt F)),
    StableHlo.binary main_v20 main_v162 main_v174 (mulf : (⟨S64x64, .f32⟩ : BufTy).Contents (Elt F) → (⟨S64x64, .f32⟩ : BufTy).Contents (Elt F) → (⟨S64x64, .f32⟩ : BufTy).Contents (Elt F)),
    StableHlo.binary main_v163 main_v174 main_v175 (addf : (⟨S64x64, .f32⟩ : BufTy).Contents (Elt F) → (⟨S64x64, .f32⟩ : BufTy).Contents (Elt F) → (⟨S64x64, .f32⟩ : BufTy).Contents (Elt F)),
    StableHlo.binary main_v162 main_v21 main_v176 (mulf : (⟨S64x64, .f32⟩ : BufTy).Contents (Elt F) → (⟨S64x64, .f32⟩ : BufTy).Contents (Elt F) → (⟨S64x64, .f32⟩ : BufTy).Contents (Elt F)),
    StableHlo.binary main_v168 main_v176 main_v177 (addf : (⟨S64x64, .f32⟩ : BufTy).Contents (Elt F) → (⟨S64x64, .f32⟩ : BufTy).Contents (Elt F) → (⟨S64x64, .f32⟩ : BufTy).Contents (Elt F)),
    StableHlo.binary main_v171 main_v29 main_v178 (mulf : (⟨S64x64, .f32⟩ : BufTy).Contents (Elt F) → (⟨S64x64, .f32⟩ : BufTy).Contents (Elt F) → (⟨S64x64, .f32⟩ : BufTy).Contents (Elt F)),
    StableHlo.binary main_v178 main_v25 main_v179 (mulf : (⟨S64x64, .f32⟩ : BufTy).Contents (Elt F) → (⟨S64x64, .f32⟩ : BufTy).Contents (Elt F) → (⟨S64x64, .f32⟩ : BufTy).Contents (Elt F)),
    StableHlo.unary main_v179 main_v180 (Host.negf : (⟨S64x64, .f32⟩ : BufTy).Contents (Elt F) → (⟨S64x64, .f32⟩ : BufTy).Contents (Elt F)),
    StableHlo.binary main_v171 main_v18 main_v181 (Host.divf : (⟨S64x64, .f32⟩ : BufTy).Contents (Elt F) → (⟨S64x64, .f32⟩ : BufTy).Contents (Elt F) → (⟨S64x64, .f32⟩ : BufTy).Contents (Elt F)),
    StableHlo.unary main_v181 main_v182 (Host.negf : (⟨S64x64, .f32⟩ : BufTy).Contents (Elt F) → (⟨S64x64, .f32⟩ : BufTy).Contents (Elt F)),
    StableHlo.binary main_v175 main_v24 main_v183 (mulf : (⟨S64x64, .f32⟩ : BufTy).Contents (Elt F) → (⟨S64x64, .f32⟩ : BufTy).Contents (Elt F) → (⟨S64x64, .f32⟩ : BufTy).Contents (Elt F)),
    StableHlo.binary main_v183 main_arg2 main_v184 (mulf : (⟨S64x64, .f32⟩ : BufTy).Contents (Elt F) → (⟨S64x64, .f32⟩ : BufTy).Contents (Elt F) → (⟨S64x64, .f32⟩ : BufTy).Contents (Elt F)),
    StableHlo.unary main_v184 main_v185 (Host.negf : (⟨S64x64, .f32⟩ : BufTy).Contents (Elt F) → (⟨S64x64, .f32⟩ : BufTy).Contents (Elt F)),
    StableHlo.binary main_v180 main_v185 main_v186 (addf : (⟨S64x64, .f32⟩ : BufTy).Contents (Elt F) → (⟨S64x64, .f32⟩ : BufTy).Contents (Elt F) → (⟨S64x64, .f32⟩ : BufTy).Contents (Elt F)),
    StableHlo.binary main_v175 main_v18 main_v187 (Host.divf : (⟨S64x64, .f32⟩ : BufTy).Contents (Elt F) → (⟨S64x64, .f32⟩ : BufTy).Contents (Elt F) → (⟨S64x64, .f32⟩ : BufTy).Contents (Elt F)),
    StableHlo.binary main_arg3 main_v186 main_v188 (mulf : (⟨S64x64, .f32⟩ : BufTy).Contents (Elt F) → (⟨S64x64, .f32⟩ : BufTy).Contents (Elt F) → (⟨S64x64, .f32⟩ : BufTy).Contents (Elt F)),
    StableHlo.binary main_v182 main_v188 main_v189 (addf : (⟨S64x64, .f32⟩ : BufTy).Contents (Elt F) → (⟨S64x64, .f32⟩ : BufTy).Contents (Elt F) → (⟨S64x64, .f32⟩ : BufTy).Contents (Elt F)),
    StableHlo.binary main_v186 main_arg3 main_v190 (mulf : (⟨S64x64, .f32⟩ : BufTy).Contents (Elt F) → (⟨S64x64, .f32⟩ : BufTy).Contents (Elt F) → (⟨S64x64, .f32⟩ : BufTy).Contents (Elt F)),
    StableHlo.binary main_v189 main_v190 main_v191 (addf : (⟨S64x64, .f32⟩ : BufTy).Contents (Elt F) → (⟨S64x64, .f32⟩ : BufTy).Contents (Elt F) → (⟨S64x64, .f32⟩ : BufTy).Contents (Elt F)),
    StableHlo.binary main_arg2 main_v186 main_v192 (mulf : (⟨S64x64, .f32⟩ : BufTy).Contents (Elt F) → (⟨S64x64, .f32⟩ : BufTy).Contents (Elt F) → (⟨S64x64, .f32⟩ : BufTy).Contents (Elt F)),
    StableHlo.binary main_v187 main_v192 main_v193 (addf : (⟨S64x64, .f32⟩ : BufTy).Contents (Elt F) → (⟨S64x64, .f32⟩ : BufTy).Contents (Elt F) → (⟨S64x64, .f32⟩ : BufTy).Contents (Elt F)),
    StableHlo.binary main_v186 main_arg2 main_v194 (mulf : (⟨S64x64, .f32⟩ : BufTy).Contents (Elt F) → (⟨S64x64, .f32⟩ : BufTy).Contents (Elt F) → (⟨S64x64, .f32⟩ : BufTy).Contents (Elt F)),
    StableHlo.binary main_v193 main_v194 main_v195 (addf : (⟨S64x64, .f32⟩ : BufTy).Contents (Elt F) → (⟨S64x64, .f32⟩ : BufTy).Contents (Elt F) → (⟨S64x64, .f32⟩ : BufTy).Contents (Elt F)),
    StableHlo.binary main_v5 main_v173 main_v196 (mulf : (⟨S64x64, .f32⟩ : BufTy).Contents (Elt F) → (⟨S64x64, .f32⟩ : BufTy).Contents (Elt F) → (⟨S64x64, .f32⟩ : BufTy).Contents (Elt F)),
    StableHlo.binary main_v173 main_v13 main_v197 (mulf : (⟨S64x64, .f32⟩ : BufTy).Contents (Elt F) → (⟨S64x64, .f32⟩ : BufTy).Contents (Elt F) → (⟨S64x64, .f32⟩ : BufTy).Contents (Elt F)),
    StableHlo.binary main_v196 main_v14 main_v198 (mulf : (⟨S64x64, .f32⟩ : BufTy).Contents (Elt F) → (⟨S64x64, .f32⟩ : BufTy).Contents (Elt F) → (⟨S64x64, .f32⟩ : BufTy).Contents (Elt F)),
    StableHlo.binary main_arg3 main_v198 main_v199 (mulf : (⟨S64x64, .f32⟩ : BufTy).Contents (Elt F) → (⟨S64x64, .f32⟩ : BufTy).Contents (Elt F) → (⟨S64x64, .f32⟩ : BufTy).Contents (Elt F)),
    StableHlo.nullary main_cst_34 (constant S_ .f32 0x00000000#32),
    StableHlo.binary main_v199 main_cst_34 main_v200 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    StableHlo.reshape main_v200 main_v201 (rfl : (.f32 : EltTy) = .f32) shapeCasts_S64_S64x1,
    StableHlo.unary main_v2 main_v202 (broadcastInDim S64x64 ![0, 1] bcast_S64x1_S64x64_0_1 : (⟨S64x1, .f32⟩ : BufTy).Contents (Elt F) → (⟨S64x64, .f32⟩ : BufTy).Contents (Elt F)),
    StableHlo.binary main_v198 main_v202 main_v203 (mulf : (⟨S64x64, .f32⟩ : BufTy).Contents (Elt F) → (⟨S64x64, .f32⟩ : BufTy).Contents (Elt F) → (⟨S64x64, .f32⟩ : BufTy).Contents (Elt F)),
    StableHlo.binary main_v191 main_v203 main_v204 (addf : (⟨S64x64, .f32⟩ : BufTy).Contents (Elt F) → (⟨S64x64, .f32⟩ : BufTy).Contents (Elt F) → (⟨S64x64, .f32⟩ : BufTy).Contents (Elt F)),
    StableHlo.binary main_v5 main_v177 main_v205 (mulf : (⟨S64x64, .f32⟩ : BufTy).Contents (Elt F) → (⟨S64x64, .f32⟩ : BufTy).Contents (Elt F) → (⟨S64x64, .f32⟩ : BufTy).Contents (Elt F)),
    StableHlo.binary main_v177 main_v8 main_v206 (mulf : (⟨S64x64, .f32⟩ : BufTy).Contents (Elt F) → (⟨S64x64, .f32⟩ : BufTy).Contents (Elt F) → (⟨S64x64, .f32⟩ : BufTy).Contents (Elt F)),
    StableHlo.binary main_v197 main_v206 main_v207 (addf : (⟨S64x64, .f32⟩ : BufTy).Contents (Elt F) → (⟨S64x64, .f32⟩ : BufTy).Contents (Elt F) → (⟨S64x64, .f32⟩ : BufTy).Contents (Elt F)),
    StableHlo.unary main_v205 main_v208 (Host.negf : (⟨S64x64, .f32⟩ : BufTy).Contents (Elt F) → (⟨S64x64, .f32⟩ : BufTy).Contents (Elt F)),
    StableHlo.binary main_v208 main_v9 main_v209 (mulf : (⟨S64x64, .f32⟩ : BufTy).Contents (Elt F) → (⟨S64x64, .f32⟩ : BufTy).Contents (Elt F) → (⟨S64x64, .f32⟩ : BufTy).Contents (Elt F)),
    StableHlo.binary main_arg3 main_v209 main_v210 (mulf : (⟨S64x64, .f32⟩ : BufTy).Contents (Elt F) → (⟨S64x64, .f32⟩ : BufTy).Contents (Elt F) → (⟨S64x64, .f32⟩ : BufTy).Contents (Elt F)),
    StableHlo.nullary main_cst_35 (constant S_ .f32 0x00000000#32),
    StableHlo.binary main_v210 main_cst_35 main_v211 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    StableHlo.reshape main_v211 main_v212 (rfl : (.f32 : EltTy) = .f32) shapeCasts_S64_S64x1,
    StableHlo.binary main_v201 main_v212 main_v213 (addf : (⟨S64x1, .f32⟩ : BufTy).Contents (Elt F) → (⟨S64x1, .f32⟩ : BufTy).Contents (Elt F) → (⟨S64x1, .f32⟩ : BufTy).Contents (Elt F)),
    StableHlo.unary main_v2 main_v214 (broadcastInDim S64x64 ![0, 1] bcast_S64x1_S64x64_0_1 : (⟨S64x1, .f32⟩ : BufTy).Contents (Elt F) → (⟨S64x64, .f32⟩ : BufTy).Contents (Elt F)),
    StableHlo.binary main_v209 main_v214 main_v215 (mulf : (⟨S64x64, .f32⟩ : BufTy).Contents (Elt F) → (⟨S64x64, .f32⟩ : BufTy).Contents (Elt F) → (⟨S64x64, .f32⟩ : BufTy).Contents (Elt F)),
    StableHlo.binary main_v204 main_v215 main_v216 (addf : (⟨S64x64, .f32⟩ : BufTy).Contents (Elt F) → (⟨S64x64, .f32⟩ : BufTy).Contents (Elt F) → (⟨S64x64, .f32⟩ : BufTy).Contents (Elt F)),
    StableHlo.binary main_v207 main_v5 main_v217 (mulf : (⟨S64x64, .f32⟩ : BufTy).Contents (Elt F) → (⟨S64x64, .f32⟩ : BufTy).Contents (Elt F) → (⟨S64x64, .f32⟩ : BufTy).Contents (Elt F)),
    StableHlo.binary main_arg2 main_v217 main_v218 (mulf : (⟨S64x64, .f32⟩ : BufTy).Contents (Elt F) → (⟨S64x64, .f32⟩ : BufTy).Contents (Elt F) → (⟨S64x64, .f32⟩ : BufTy).Contents (Elt F)),
    StableHlo.nullary main_cst_36 (constant S_ .f32 0x00000000#32),
    StableHlo.binary main_v218 main_cst_36 main_v219 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    StableHlo.reshape main_v219 main_v220 (rfl : (.f32 : EltTy) = .f32) shapeCasts_S64_S64x1,
    StableHlo.binary main_v213 main_v220 main_v221 (addf : (⟨S64x1, .f32⟩ : BufTy).Contents (Elt F) → (⟨S64x1, .f32⟩ : BufTy).Contents (Elt F) → (⟨S64x1, .f32⟩ : BufTy).Contents (Elt F)),
    StableHlo.unary main_v2 main_v222 (broadcastInDim S64x64 ![0, 1] bcast_S64x1_S64x64_0_1 : (⟨S64x1, .f32⟩ : BufTy).Contents (Elt F) → (⟨S64x64, .f32⟩ : BufTy).Contents (Elt F)),
    StableHlo.binary main_v217 main_v222 main_v223 (mulf : (⟨S64x64, .f32⟩ : BufTy).Contents (Elt F) → (⟨S64x64, .f32⟩ : BufTy).Contents (Elt F) → (⟨S64x64, .f32⟩ : BufTy).Contents (Elt F)),
    StableHlo.binary main_v195 main_v223 main_v224 (addf : (⟨S64x64, .f32⟩ : BufTy).Contents (Elt F) → (⟨S64x64, .f32⟩ : BufTy).Contents (Elt F) → (⟨S64x64, .f32⟩ : BufTy).Contents (Elt F)),
    StableHlo.nullary main_cst_37 (constant S_ .f32 0x00000000#32),
    StableHlo.binary main_v221 main_cst_37 main_v225 ((fun x v => Host.reduceAdd x v reducesTo_S64x1_S64_d1 h_S_) : (⟨S64x1, .f32⟩ : BufTy).Contents (Elt F) → (⟨S_, .f32⟩ : BufTy).Contents (Elt F) → (⟨S64, .f32⟩ : BufTy).Contents (Elt F)),
    StableHlo.binary main_v225 main_v1 main_v226 (mulf : (⟨S64, .f32⟩ : BufTy).Contents (Elt F) → (⟨S64, .f32⟩ : BufTy).Contents (Elt F) → (⟨S64, .f32⟩ : BufTy).Contents (Elt F)),
    StableHlo.reshape main_v134 main_v227 (rfl : (.f32 : EltTy) = .f32) shapeCasts_S2048x64x16_S2048x1024,
    StableHlo.unary main_v227 main_v228 ((truncf .bf16 · bitsLt_bf16_f32) : (⟨S2048x1024, .f32⟩ : BufTy).Contents (Elt F) → (⟨S2048x1024, .bf16⟩ : BufTy).Contents (Elt F)) ]

set_option maxHeartbeats 40000000 in
/-- They touch TensorCore references only. -/
theorem opsC_sub : (opsC : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..,
   StableHlo.binary_bufs_sub .., StableHlo.unary_bufs_sub .., StableHlo.binary_bufs_sub .., StableHlo.unary_bufs_sub ..,
   StableHlo.binary_bufs_sub .., StableHlo.binary_bufs_sub .., StableHlo.unary_bufs_sub .., StableHlo.binary_bufs_sub ..,
   StableHlo.binary_bufs_sub .., StableHlo.nullary_bufs_sub .., StableHlo.binary_bufs_sub .., StableHlo.reshape_bufs_sub ..,
   StableHlo.unary_bufs_sub .., StableHlo.binary_bufs_sub .., StableHlo.binary_bufs_sub .., StableHlo.nullary_bufs_sub ..,
   StableHlo.binary_bufs_sub .., StableHlo.reshape_bufs_sub .., StableHlo.unary_bufs_sub .., StableHlo.unary_bufs_sub ..,
   StableHlo.binary_bufs_sub .., StableHlo.binary_bufs_sub .., StableHlo.binary_bufs_sub .., StableHlo.nullary_bufs_sub ..,
   StableHlo.binary_bufs_sub .., StableHlo.reshape_bufs_sub .., StableHlo.binary_bufs_sub .., StableHlo.unary_bufs_sub ..,
   StableHlo.binary_bufs_sub .., StableHlo.binary_bufs_sub .., StableHlo.binary_bufs_sub .., StableHlo.nullary_bufs_sub ..,
   StableHlo.binary_bufs_sub .., StableHlo.reshape_bufs_sub .., StableHlo.binary_bufs_sub .., StableHlo.nullary_bufs_sub ..,
   StableHlo.binary_bufs_sub .., StableHlo.nullary_bufs_sub .., StableHlo.binary_bufs_sub .., StableHlo.binary_bufs_sub ..,
   StableHlo.binary_bufs_sub .., StableHlo.binary_bufs_sub .., StableHlo.binary_bufs_sub .., StableHlo.binary_bufs_sub ..,
   StableHlo.binary_bufs_sub .., StableHlo.unary_bufs_sub .., StableHlo.binary_bufs_sub .., StableHlo.binary_bufs_sub ..,
   StableHlo.binary_bufs_sub .., StableHlo.binary_bufs_sub .., StableHlo.binary_bufs_sub .., StableHlo.binary_bufs_sub ..,
   StableHlo.binary_bufs_sub .., StableHlo.binary_bufs_sub .., StableHlo.binary_bufs_sub .., StableHlo.binary_bufs_sub ..,
   StableHlo.unary_bufs_sub .., StableHlo.binary_bufs_sub .., StableHlo.unary_bufs_sub .., StableHlo.binary_bufs_sub ..,
   StableHlo.binary_bufs_sub .., StableHlo.unary_bufs_sub .., StableHlo.binary_bufs_sub .., StableHlo.binary_bufs_sub ..,
   StableHlo.binary_bufs_sub .., StableHlo.binary_bufs_sub .., StableHlo.binary_bufs_sub .., StableHlo.binary_bufs_sub ..,
   StableHlo.binary_bufs_sub .., StableHlo.binary_bufs_sub .., StableHlo.binary_bufs_sub .., StableHlo.binary_bufs_sub ..,
   StableHlo.binary_bufs_sub .., StableHlo.binary_bufs_sub .., StableHlo.binary_bufs_sub .., StableHlo.binary_bufs_sub ..,
   StableHlo.nullary_bufs_sub .., StableHlo.binary_bufs_sub .., StableHlo.reshape_bufs_sub .., StableHlo.unary_bufs_sub ..,
   StableHlo.binary_bufs_sub .., StableHlo.binary_bufs_sub .., StableHlo.binary_bufs_sub .., StableHlo.binary_bufs_sub ..,
   StableHlo.binary_bufs_sub .., StableHlo.unary_bufs_sub .., StableHlo.binary_bufs_sub .., StableHlo.binary_bufs_sub ..,
   StableHlo.nullary_bufs_sub .., StableHlo.binary_bufs_sub .., StableHlo.reshape_bufs_sub .., StableHlo.binary_bufs_sub ..,
   StableHlo.unary_bufs_sub .., StableHlo.binary_bufs_sub .., StableHlo.binary_bufs_sub .., StableHlo.binary_bufs_sub ..,
   StableHlo.binary_bufs_sub .., StableHlo.nullary_bufs_sub .., StableHlo.binary_bufs_sub .., StableHlo.reshape_bufs_sub ..,
   StableHlo.binary_bufs_sub .., StableHlo.unary_bufs_sub .., StableHlo.binary_bufs_sub .., StableHlo.binary_bufs_sub ..,
   StableHlo.nullary_bufs_sub .., StableHlo.binary_bufs_sub .., StableHlo.binary_bufs_sub .., StableHlo.reshape_bufs_sub ..,
   StableHlo.unary_bufs_sub ..⟩

set_option maxHeartbeats 40000000 in
/-- The first loop's condition. -/
abbrev cond0 : List (HloOp τ sig (Elt F)) :=
  [ StableHlo.nullary main_while0c_c_48 (constantI S_ 32 2048#32),
    StableHlo.binary main_v57_4 main_while0c_c_48 main_while0c_v229 (cmpi .slt : (⟨S_, .i32⟩ : BufTy).Contents (Elt F) → (⟨S_, .i32⟩ : BufTy).Contents (Elt F) → (⟨S_, .i1⟩ : BufTy).Contents (Elt F)) ]

set_option maxHeartbeats 40000000 in
/-- They touch TensorCore references only. -/
theorem cond0_sub : (cond0 : List (HloOp τ sig (Elt F))).Forall fun op => op.bufs ⊆ StableHlo.tcRefs τ sig :=
  ⟨StableHlo.nullary_bufs_sub .., StableHlo.binary_bufs_sub ..⟩

set_option maxHeartbeats 40000000 in
/-- The second loop's condition. -/
abbrev cond1 : List (HloOp τ sig (Elt F)) :=
  [ StableHlo.nullary main_while1c_c_50 (constantI S_ 32 2048#32),
    StableHlo.binary main_v125_6 main_while1c_c_50 main_while1c_v229 (cmpi .slt : (⟨S_, .i32⟩ : BufTy).Contents (Elt F) → (⟨S_, .i32⟩ : BufTy).Contents (Elt F) → (⟨S_, .i1⟩ : BufTy).Contents (Elt F)) ]

set_option maxHeartbeats 40000000 in
/-- They touch TensorCore references only. -/
theorem cond1_sub : (cond1 : List (HloOp τ sig (Elt F))).Forall fun op => op.bufs ⊆ StableHlo.tcRefs τ sig :=
  ⟨StableHlo.nullary_bufs_sub .., StableHlo.binary_bufs_sub ..⟩

set_option maxHeartbeats 40000000 in
/-- The first loop's body. -/
abbrev body0 : List (HloOp τ sig (Elt F)) :=
  [ StableHlo.TRef.nullary (StableHlo.TRef.of main_while0b_call0_c) (constantI S_ 32 0#32),
    StableHlo.TRef.nullary (StableHlo.TRef.of main_while0b_call0_c_0) (constantI S_ 32 0#32),
    StableHlo.TRef.unaryIndexed (StableHlo.TRef.of main_v57_0 : StableHlo.TRef sig ⟨S2048x64x64, .f32⟩) ![(StableHlo.TRef.of main_v57_4 : StableHlo.TRef sig ⟨S_, .i32⟩), .of main_while0b_call0_c, .of main_while0b_call0_c_0] (StableHlo.TRef.of main_while0b_call0_v0 : StableHlo.TRef sig ⟨S1x64x64, .f32⟩) (fun x i => Host.dynamicSlice S1x64x64 x (fun k => (i k (Shape.Idx.first h_S_)).toInt) sliceFits_S2048x64x64_S1x64x64),
    StableHlo.TRef.reshape (StableHlo.TRef.of main_while0b_call0_v0 : StableHlo.TRef sig ⟨S1x64x64, .f32⟩) (StableHlo.TRef.of main_while0b_v229 : StableHlo.TRef sig ⟨S64x64, .f32⟩) (rfl : (.f32 : EltTy) = .f32) shapeCasts_S1x64x64_S64x64,
    StableHlo.TRef.nullary (StableHlo.TRef.of main_while0b_call1_c) (constantI S_ 32 0#32),
    StableHlo.TRef.nullary (StableHlo.TRef.of main_while0b_call1_c_0) (constantI S_ 32 0#32),
    StableHlo.TRef.unaryIndexed (StableHlo.TRef.of main_v57_1 : StableHlo.TRef sig ⟨S2048x64x64, .f32⟩) ![(StableHlo.TRef.of main_v57_4 : StableHlo.TRef sig ⟨S_, .i32⟩), .of main_while0b_call1_c, .of main_while0b_call1_c_0] (StableHlo.TRef.of main_while0b_call1_v0 : StableHlo.TRef sig ⟨S1x64x64, .f32⟩) (fun x i => Host.dynamicSlice S1x64x64 x (fun k => (i k (Shape.Idx.first h_S_)).toInt) sliceFits_S2048x64x64_S1x64x64),
    StableHlo.TRef.reshape (StableHlo.TRef.of main_while0b_call1_v0 : StableHlo.TRef sig ⟨S1x64x64, .f32⟩) (StableHlo.TRef.of main_while0b_v230 : StableHlo.TRef sig ⟨S64x64, .f32⟩) (rfl : (.f32 : EltTy) = .f32) shapeCasts_S1x64x64_S64x64,
    StableHlo.binary main_v57_2 main_v57_5 main_while0b_v231 (mulf : (⟨S64x64, .f32⟩ : BufTy).Contents (Elt F) → (⟨S64x64, .f32⟩ : BufTy).Contents (Elt F) → (⟨S64x64, .f32⟩ : BufTy).Contents (Elt F)),
    StableHlo.binary main_v57_3 main_v57_6 main_while0b_v232 (mulf : (⟨S64x64, .f32⟩ : BufTy).Contents (Elt F) → (⟨S64x64, .f32⟩ : BufTy).Contents (Elt F) → (⟨S64x64, .f32⟩ : BufTy).Contents (Elt F)),
    StableHlo.binary main_while0b_v231 main_while0b_v232 main_while0b_v233 (subf : (⟨S64x64, .f32⟩ : BufTy).Contents (Elt F) → (⟨S64x64, .f32⟩ : BufTy).Contents (Elt F) → (⟨S64x64, .f32⟩ : BufTy).Contents (Elt F)),
    StableHlo.binary main_v57_2 main_v57_6 main_while0b_v234 (mulf : (⟨S64x64, .f32⟩ : BufTy).Contents (Elt F) → (⟨S64x64, .f32⟩ : BufTy).Contents (Elt F) → (⟨S64x64, .f32⟩ : BufTy).Contents (Elt F)),
    StableHlo.binary main_v57_3 main_v57_5 main_while0b_v235 (mulf : (⟨S64x64, .f32⟩ : BufTy).Contents (Elt F) → (⟨S64x64, .f32⟩ : BufTy).Contents (Elt F) → (⟨S64x64, .f32⟩ : BufTy).Contents (Elt F)),
    StableHlo.binary main_while0b_v234 main_while0b_v235 main_while0b_v236 (addf : (⟨S64x64, .f32⟩ : BufTy).Contents (Elt F) → (⟨S64x64, .f32⟩ : BufTy).Contents (Elt F) → (⟨S64x64, .f32⟩ : BufTy).Contents (Elt F)),
    StableHlo.binary main_while0b_v233 main_while0b_v229 main_while0b_v237 (addf : (⟨S64x64, .f32⟩ : BufTy).Contents (Elt F) → (⟨S64x64, .f32⟩ : BufTy).Contents (Elt F) → (⟨S64x64, .f32⟩ : BufTy).Contents (Elt F)),
    StableHlo.binary main_while0b_v236 main_while0b_v230 main_while0b_v238 (addf : (⟨S64x64, .f32⟩ : BufTy).Contents (Elt F) → (⟨S64x64, .f32⟩ : BufTy).Contents (Elt F) → (⟨S64x64, .f32⟩ : BufTy).Contents (Elt F)),
    StableHlo.TRef.unary (StableHlo.TRef.of main_while0b_v237 : StableHlo.TRef sig ⟨S64x64, .f32⟩) (StableHlo.TRef.of main_while0b_call2_v0 : StableHlo.TRef sig ⟨S1x64x64, .f32⟩) (broadcastInDim S1x64x64 ![1, 2] bcast_S64x64_S1x64x64_1_2),
    StableHlo.TRef.nullary (StableHlo.TRef.of main_while0b_call2_c) (constantI S_ 32 0#32),
    StableHlo.TRef.nullary (StableHlo.TRef.of main_while0b_call2_c_0) (constantI S_ 32 0#32),
    StableHlo.TRef.binaryIndexed (StableHlo.TRef.of main_v57_7 : StableHlo.TRef sig ⟨S2048x64x64, .f32⟩) (StableHlo.TRef.of main_while0b_call2_v0 : StableHlo.TRef sig ⟨S1x64x64, .f32⟩) ![(StableHlo.TRef.of main_v57_4 : StableHlo.TRef sig ⟨S_, .i32⟩), .of main_while0b_call2_c, .of main_while0b_call2_c_0] (StableHlo.TRef.of main_while0b_v239 : StableHlo.TRef sig ⟨S2048x64x64, .f32⟩) (fun x u i => Host.dynamicUpdateSlice x u (fun k => (i k (Shape.Idx.first h_S_)).toInt) updateFits_S2048x64x64_S1x64x64),
    StableHlo.TRef.unary (StableHlo.TRef.of main_while0b_v238 : StableHlo.TRef sig ⟨S64x64, .f32⟩) (StableHlo.TRef.of main_while0b_call3_v0 : StableHlo.TRef sig ⟨S1x64x64, .f32⟩) (broadcastInDim S1x64x64 ![1, 2] bcast_S64x64_S1x64x64_1_2),
    StableHlo.TRef.nullary (StableHlo.TRef.of main_while0b_call3_c) (constantI S_ 32 0#32),
    StableHlo.TRef.nullary (StableHlo.TRef.of main_while0b_call3_c_0) (constantI S_ 32 0#32),
    StableHlo.TRef.binaryIndexed (StableHlo.TRef.of main_v57_8 : StableHlo.TRef sig ⟨S2048x64x64, .f32⟩) (StableHlo.TRef.of main_while0b_call3_v0 : StableHlo.TRef sig ⟨S1x64x64, .f32⟩) ![(StableHlo.TRef.of main_v57_4 : StableHlo.TRef sig ⟨S_, .i32⟩), .of main_while0b_call3_c, .of main_while0b_call3_c_0] (StableHlo.TRef.of main_while0b_v240 : StableHlo.TRef sig ⟨S2048x64x64, .f32⟩) (fun x u i => Host.dynamicUpdateSlice x u (fun k => (i k (Shape.Idx.first h_S_)).toInt) updateFits_S2048x64x64_S1x64x64),
    StableHlo.TRef.unary (StableHlo.TRef.of main_v57_5 : StableHlo.TRef sig ⟨S64x64, .f32⟩) (StableHlo.TRef.of main_while0b_call4_v0 : StableHlo.TRef sig ⟨S1x64x64, .f32⟩) (broadcastInDim S1x64x64 ![1, 2] bcast_S64x64_S1x64x64_1_2),
    StableHlo.TRef.nullary (StableHlo.TRef.of main_while0b_call4_c) (constantI S_ 32 0#32),
    StableHlo.TRef.nullary (StableHlo.TRef.of main_while0b_call4_c_0) (constantI S_ 32 0#32),
    StableHlo.TRef.binaryIndexed (StableHlo.TRef.of main_v57_9 : StableHlo.TRef sig ⟨S2048x64x64, .f32⟩) (StableHlo.TRef.of main_while0b_call4_v0 : StableHlo.TRef sig ⟨S1x64x64, .f32⟩) ![(StableHlo.TRef.of main_v57_4 : StableHlo.TRef sig ⟨S_, .i32⟩), .of main_while0b_call4_c, .of main_while0b_call4_c_0] (StableHlo.TRef.of main_while0b_v241 : StableHlo.TRef sig ⟨S2048x64x64, .f32⟩) (fun x u i => Host.dynamicUpdateSlice x u (fun k => (i k (Shape.Idx.first h_S_)).toInt) updateFits_S2048x64x64_S1x64x64),
    StableHlo.TRef.unary (StableHlo.TRef.of main_v57_6 : StableHlo.TRef sig ⟨S64x64, .f32⟩) (StableHlo.TRef.of main_while0b_call5_v0 : StableHlo.TRef sig ⟨S1x64x64, .f32⟩) (broadcastInDim S1x64x64 ![1, 2] bcast_S64x64_S1x64x64_1_2),
    StableHlo.TRef.nullary (StableHlo.TRef.of main_while0b_call5_c) (constantI S_ 32 0#32),
    StableHlo.TRef.nullary (StableHlo.TRef.of main_while0b_call5_c_0) (constantI S_ 32 0#32),
    StableHlo.TRef.binaryIndexed (StableHlo.TRef.of main_v57_10 : StableHlo.TRef sig ⟨S2048x64x64, .f32⟩) (StableHlo.TRef.of main_while0b_call5_v0 : StableHlo.TRef sig ⟨S1x64x64, .f32⟩) ![(StableHlo.TRef.of main_v57_4 : StableHlo.TRef sig ⟨S_, .i32⟩), .of main_while0b_call5_c, .of main_while0b_call5_c_0] (StableHlo.TRef.of main_while0b_v242 : StableHlo.TRef sig ⟨S2048x64x64, .f32⟩) (fun x u i => Host.dynamicUpdateSlice x u (fun k => (i k (Shape.Idx.first h_S_)).toInt) updateFits_S2048x64x64_S1x64x64),
    StableHlo.nullary main_while0b_c_48 (constantI S_ 32 1#32),
    StableHlo.binary main_v57_4 main_while0b_c_48 main_while0b_v243 (addi : (⟨S_, .i32⟩ : BufTy).Contents (Elt F) → (⟨S_, .i32⟩ : BufTy).Contents (Elt F) → (⟨S_, .i32⟩ : BufTy).Contents (Elt F)),
    StableHlo.unary main_while0b_v243 main_v57_4 id,
    StableHlo.unary main_while0b_v237 main_v57_5 id,
    StableHlo.unary main_while0b_v238 main_v57_6 id,
    StableHlo.unary main_while0b_v239 main_v57_7 id,
    StableHlo.unary main_while0b_v240 main_v57_8 id,
    StableHlo.unary main_while0b_v241 main_v57_9 id,
    StableHlo.unary main_while0b_v242 main_v57_10 id ]

set_option maxHeartbeats 40000000 in
/-- They touch TensorCore references only. -/
theorem body0_sub : (body0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..,
   StableHlo.nullary_bufs_sub .., StableHlo.nullary_bufs_sub .., StableHlo.unaryIndexed_bufs_sub .., StableHlo.reshape_bufs_sub ..,
   StableHlo.binary_bufs_sub .., StableHlo.binary_bufs_sub .., StableHlo.binary_bufs_sub .., StableHlo.binary_bufs_sub ..,
   StableHlo.binary_bufs_sub .., StableHlo.binary_bufs_sub .., StableHlo.binary_bufs_sub .., StableHlo.binary_bufs_sub ..,
   StableHlo.unary_bufs_sub .., StableHlo.nullary_bufs_sub .., StableHlo.nullary_bufs_sub .., StableHlo.binaryIndexed_bufs_sub ..,
   StableHlo.unary_bufs_sub .., StableHlo.nullary_bufs_sub .., StableHlo.nullary_bufs_sub .., StableHlo.binaryIndexed_bufs_sub ..,
   StableHlo.unary_bufs_sub .., StableHlo.nullary_bufs_sub .., StableHlo.nullary_bufs_sub .., StableHlo.binaryIndexed_bufs_sub ..,
   StableHlo.unary_bufs_sub .., StableHlo.nullary_bufs_sub .., StableHlo.nullary_bufs_sub .., StableHlo.binaryIndexed_bufs_sub ..,
   StableHlo.nullary_bufs_sub .., StableHlo.binary_bufs_sub .., StableHlo.unary_bufs_sub .., StableHlo.unary_bufs_sub ..,
   StableHlo.unary_bufs_sub .., StableHlo.unary_bufs_sub .., StableHlo.unary_bufs_sub .., StableHlo.unary_bufs_sub .., StableHlo.unary_bufs_sub ..⟩

set_option maxHeartbeats 40000000 in
/-- The second loop's body. -/
abbrev body1 : List (HloOp τ sig (Elt F)) :=
  [ StableHlo.nullary main_while1b_c_50 (constantI S_ 32 2048#32),
    StableHlo.binary main_while1b_c_50 main_v125_6 main_while1b_v229 (subi : (⟨S_, .i32⟩ : BufTy).Contents (Elt F) → (⟨S_, .i32⟩ : BufTy).Contents (Elt F) → (⟨S_, .i32⟩ : BufTy).Contents (Elt F)),
    StableHlo.nullary main_while1b_c_51 (constantI S_ 32 1#32),
    StableHlo.binary main_while1b_v229 main_while1b_c_51 main_while1b_v230 (subi : (⟨S_, .i32⟩ : BufTy).Contents (Elt F) → (⟨S_, .i32⟩ : BufTy).Contents (Elt F) → (⟨S_, .i32⟩ : BufTy).Contents (Elt F)),
    StableHlo.TRef.nullary (StableHlo.TRef.of main_while1b_call6_c) (constantI S_ 32 0#32),
    StableHlo.TRef.nullary (StableHlo.TRef.of main_while1b_call6_c_0) (constantI S_ 32 0#32),
    StableHlo.TRef.unaryIndexed (StableHlo.TRef.of main_v125_0 : StableHlo.TRef sig ⟨S2048x64x64, .f32⟩) ![(StableHlo.TRef.of main_while1b_v230 : StableHlo.TRef sig ⟨S_, .i32⟩), .of main_while1b_call6_c, .of main_while1b_call6_c_0] (StableHlo.TRef.of main_while1b_call6_v0 : StableHlo.TRef sig ⟨S1x64x64, .f32⟩) (fun x i => Host.dynamicSlice S1x64x64 x (fun k => (i k (Shape.Idx.first h_S_)).toInt) sliceFits_S2048x64x64_S1x64x64),
    StableHlo.TRef.reshape (StableHlo.TRef.of main_while1b_call6_v0 : StableHlo.TRef sig ⟨S1x64x64, .f32⟩) (StableHlo.TRef.of main_while1b_v231 : StableHlo.TRef sig ⟨S64x64, .f32⟩) (rfl : (.f32 : EltTy) = .f32) shapeCasts_S1x64x64_S64x64,
    StableHlo.TRef.nullary (StableHlo.TRef.of main_while1b_call7_c) (constantI S_ 32 0#32),
    StableHlo.TRef.nullary (StableHlo.TRef.of main_while1b_call7_c_0) (constantI S_ 32 0#32),
    StableHlo.TRef.unaryIndexed (StableHlo.TRef.of main_v125_1 : StableHlo.TRef sig ⟨S2048x64x64, .f32⟩) ![(StableHlo.TRef.of main_while1b_v230 : StableHlo.TRef sig ⟨S_, .i32⟩), .of main_while1b_call7_c, .of main_while1b_call7_c_0] (StableHlo.TRef.of main_while1b_call7_v0 : StableHlo.TRef sig ⟨S1x64x64, .f32⟩) (fun x i => Host.dynamicSlice S1x64x64 x (fun k => (i k (Shape.Idx.first h_S_)).toInt) sliceFits_S2048x64x64_S1x64x64),
    StableHlo.TRef.reshape (StableHlo.TRef.of main_while1b_call7_v0 : StableHlo.TRef sig ⟨S1x64x64, .f32⟩) (StableHlo.TRef.of main_while1b_v232 : StableHlo.TRef sig ⟨S64x64, .f32⟩) (rfl : (.f32 : EltTy) = .f32) shapeCasts_S1x64x64_S64x64,
    StableHlo.TRef.nullary (StableHlo.TRef.of main_while1b_call8_c) (constantI S_ 32 0#32),
    StableHlo.TRef.nullary (StableHlo.TRef.of main_while1b_call8_c_0) (constantI S_ 32 0#32),
    StableHlo.TRef.unaryIndexed (StableHlo.TRef.of main_v125_2 : StableHlo.TRef sig ⟨S2048x64x64, .f32⟩) ![(StableHlo.TRef.of main_while1b_v230 : StableHlo.TRef sig ⟨S_, .i32⟩), .of main_while1b_call8_c, .of main_while1b_call8_c_0] (StableHlo.TRef.of main_while1b_call8_v0 : StableHlo.TRef sig ⟨S1x64x64, .f32⟩) (fun x i => Host.dynamicSlice S1x64x64 x (fun k => (i k (Shape.Idx.first h_S_)).toInt) sliceFits_S2048x64x64_S1x64x64),
    StableHlo.TRef.reshape (StableHlo.TRef.of main_while1b_call8_v0 : StableHlo.TRef sig ⟨S1x64x64, .f32⟩) (StableHlo.TRef.of main_while1b_v233 : StableHlo.TRef sig ⟨S64x64, .f32⟩) (rfl : (.f32 : EltTy) = .f32) shapeCasts_S1x64x64_S64x64,
    StableHlo.TRef.nullary (StableHlo.TRef.of main_while1b_call9_c) (constantI S_ 32 0#32),
    StableHlo.TRef.nullary (StableHlo.TRef.of main_while1b_call9_c_0) (constantI S_ 32 0#32),
    StableHlo.TRef.unaryIndexed (StableHlo.TRef.of main_v125_3 : StableHlo.TRef sig ⟨S2048x64x64, .f32⟩) ![(StableHlo.TRef.of main_while1b_v230 : StableHlo.TRef sig ⟨S_, .i32⟩), .of main_while1b_call9_c, .of main_while1b_call9_c_0] (StableHlo.TRef.of main_while1b_call9_v0 : StableHlo.TRef sig ⟨S1x64x64, .f32⟩) (fun x i => Host.dynamicSlice S1x64x64 x (fun k => (i k (Shape.Idx.first h_S_)).toInt) sliceFits_S2048x64x64_S1x64x64),
    StableHlo.TRef.reshape (StableHlo.TRef.of main_while1b_call9_v0 : StableHlo.TRef sig ⟨S1x64x64, .f32⟩) (StableHlo.TRef.of main_while1b_v234 : StableHlo.TRef sig ⟨S64x64, .f32⟩) (rfl : (.f32 : EltTy) = .f32) shapeCasts_S1x64x64_S64x64,
    StableHlo.binary main_v125_9 main_while1b_v231 main_while1b_v235 (addf : (⟨S64x64, .f32⟩ : BufTy).Contents (Elt F) → (⟨S64x64, .f32⟩ : BufTy).Contents (Elt F) → (⟨S64x64, .f32⟩ : BufTy).Contents (Elt F)),
    StableHlo.binary main_v125_10 main_while1b_v232 main_while1b_v236 (addf : (⟨S64x64, .f32⟩ : BufTy).Contents (Elt F) → (⟨S64x64, .f32⟩ : BufTy).Contents (Elt F) → (⟨S64x64, .f32⟩ : BufTy).Contents (Elt F)),
    StableHlo.binary main_v125_5 main_while1b_v236 main_while1b_v237 (mulf : (⟨S64x64, .f32⟩ : BufTy).Contents (Elt F) → (⟨S64x64, .f32⟩ : BufTy).Contents (Elt F) → (⟨S64x64, .f32⟩ : BufTy).Contents (Elt F)),
    StableHlo.binary main_while1b_v236 main_while1b_v233 main_while1b_v238 (mulf : (⟨S64x64, .f32⟩ : BufTy).Contents (Elt F) → (⟨S64x64, .f32⟩ : BufTy).Contents (Elt F) → (⟨S64x64, .f32⟩ : BufTy).Contents (Elt F)),
    StableHlo.binary main_v125_8 main_while1b_v238 main_while1b_v239 (addf : (⟨S64x64, .f32⟩ : BufTy).Contents (Elt F) → (⟨S64x64, .f32⟩ : BufTy).Contents (Elt F) → (⟨S64x64, .f32⟩ : BufTy).Contents (Elt F)),
    StableHlo.binary main_v125_4 main_while1b_v236 main_while1b_v240 (mulf : (⟨S64x64, .f32⟩ : BufTy).Contents (Elt F) → (⟨S64x64, .f32⟩ : BufTy).Contents (Elt F) → (⟨S64x64, .f32⟩ : BufTy).Contents (Elt F)),
    StableHlo.binary main_while1b_v236 main_while1b_v234 main_while1b_v241 (mulf : (⟨S64x64, .f32⟩ : BufTy).Contents (Elt F) → (⟨S64x64, .f32⟩ : BufTy).Contents (Elt F) → (⟨S64x64, .f32⟩ : BufTy).Contents (Elt F)),
    StableHlo.binary main_v125_7 main_while1b_v241 main_while1b_v242 (addf : (⟨S64x64, .f32⟩ : BufTy).Contents (Elt F) → (⟨S64x64, .f32⟩ : BufTy).Contents (Elt F) → (⟨S64x64, .f32⟩ : BufTy).Contents (Elt F)),
    StableHlo.unary main_while1b_v235 main_while1b_v243 (Host.negf : (⟨S64x64, .f32⟩ : BufTy).Contents (Elt F) → (⟨S64x64, .f32⟩ : BufTy).Contents (Elt F)),
    StableHlo.binary main_v125_5 main_while1b_v243 main_while1b_v244 (mulf : (⟨S64x64, .f32⟩ : BufTy).Contents (Elt F) → (⟨S64x64, .f32⟩ : BufTy).Contents (Elt F) → (⟨S64x64, .f32⟩ : BufTy).Contents (Elt F)),
    StableHlo.binary main_while1b_v240 main_while1b_v244 main_while1b_v245 (addf : (⟨S64x64, .f32⟩ : BufTy).Contents (Elt F) → (⟨S64x64, .f32⟩ : BufTy).Contents (Elt F) → (⟨S64x64, .f32⟩ : BufTy).Contents (Elt F)),
    StableHlo.binary main_while1b_v243 main_while1b_v234 main_while1b_v246 (mulf : (⟨S64x64, .f32⟩ : BufTy).Contents (Elt F) → (⟨S64x64, .f32⟩ : BufTy).Contents (Elt F) → (⟨S64x64, .f32⟩ : BufTy).Contents (Elt F)),
    StableHlo.binary main_while1b_v239 main_while1b_v246 main_while1b_v247 (addf : (⟨S64x64, .f32⟩ : BufTy).Contents (Elt F) → (⟨S64x64, .f32⟩ : BufTy).Contents (Elt F) → (⟨S64x64, .f32⟩ : BufTy).Contents (Elt F)),
    StableHlo.binary main_v125_4 main_while1b_v235 main_while1b_v248 (mulf : (⟨S64x64, .f32⟩ : BufTy).Contents (Elt F) → (⟨S64x64, .f32⟩ : BufTy).Contents (Elt F) → (⟨S64x64, .f32⟩ : BufTy).Contents (Elt F)),
    StableHlo.binary main_while1b_v237 main_while1b_v248 main_while1b_v249 (addf : (⟨S64x64, .f32⟩ : BufTy).Contents (Elt F) → (⟨S64x64, .f32⟩ : BufTy).Contents (Elt F) → (⟨S64x64, .f32⟩ : BufTy).Contents (Elt F)),
    StableHlo.binary main_while1b_v235 main_while1b_v233 main_while1b_v250 (mulf : (⟨S64x64, .f32⟩ : BufTy).Contents (Elt F) → (⟨S64x64, .f32⟩ : BufTy).Contents (Elt F) → (⟨S64x64, .f32⟩ : BufTy).Contents (Elt F)),
    StableHlo.binary main_while1b_v242 main_while1b_v250 main_while1b_v251 (addf : (⟨S64x64, .f32⟩ : BufTy).Contents (Elt F) → (⟨S64x64, .f32⟩ : BufTy).Contents (Elt F) → (⟨S64x64, .f32⟩ : BufTy).Contents (Elt F)),
    StableHlo.TRef.unary (StableHlo.TRef.of main_while1b_v235 : StableHlo.TRef sig ⟨S64x64, .f32⟩) (StableHlo.TRef.of main_while1b_call10_v0 : StableHlo.TRef sig ⟨S1x64x64, .f32⟩) (broadcastInDim S1x64x64 ![1, 2] bcast_S64x64_S1x64x64_1_2),
    StableHlo.TRef.nullary (StableHlo.TRef.of main_while1b_call10_c) (constantI S_ 32 0#32),
    StableHlo.TRef.nullary (StableHlo.TRef.of main_while1b_call10_c_0) (constantI S_ 32 0#32),
    StableHlo.TRef.binaryIndexed (StableHlo.TRef.of main_v125_11 : StableHlo.TRef sig ⟨S2048x64x64, .f32⟩) (StableHlo.TRef.of main_while1b_call10_v0 : StableHlo.TRef sig ⟨S1x64x64, .f32⟩) ![(StableHlo.TRef.of main_while1b_v230 : StableHlo.TRef sig ⟨S_, .i32⟩), .of main_while1b_call10_c, .of main_while1b_call10_c_0] (StableHlo.TRef.of main_while1b_v252 : StableHlo.TRef sig ⟨S2048x64x64, .f32⟩) (fun x u i => Host.dynamicUpdateSlice x u (fun k => (i k (Shape.Idx.first h_S_)).toInt) updateFits_S2048x64x64_S1x64x64),
    StableHlo.TRef.unary (StableHlo.TRef.of main_while1b_v236 : StableHlo.TRef sig ⟨S64x64, .f32⟩) (StableHlo.TRef.of main_while1b_call11_v0 : StableHlo.TRef sig ⟨S1x64x64, .f32⟩) (broadcastInDim S1x64x64 ![1, 2] bcast_S64x64_S1x64x64_1_2),
    StableHlo.TRef.nullary (StableHlo.TRef.of main_while1b_call11_c) (constantI S_ 32 0#32),
    StableHlo.TRef.nullary (StableHlo.TRef.of main_while1b_call11_c_0) (constantI S_ 32 0#32),
    StableHlo.TRef.binaryIndexed (StableHlo.TRef.of main_v125_12 : StableHlo.TRef sig ⟨S2048x64x64, .f32⟩) (StableHlo.TRef.of main_while1b_call11_v0 : StableHlo.TRef sig ⟨S1x64x64, .f32⟩) ![(StableHlo.TRef.of main_while1b_v230 : StableHlo.TRef sig ⟨S_, .i32⟩), .of main_while1b_call11_c, .of main_while1b_call11_c_0] (StableHlo.TRef.of main_while1b_v253 : StableHlo.TRef sig ⟨S2048x64x64, .f32⟩) (fun x u i => Host.dynamicUpdateSlice x u (fun k => (i k (Shape.Idx.first h_S_)).toInt) updateFits_S2048x64x64_S1x64x64),
    StableHlo.nullary main_while1b_c_52 (constantI S_ 32 1#32),
    StableHlo.binary main_v125_6 main_while1b_c_52 main_while1b_v254 (addi : (⟨S_, .i32⟩ : BufTy).Contents (Elt F) → (⟨S_, .i32⟩ : BufTy).Contents (Elt F) → (⟨S_, .i32⟩ : BufTy).Contents (Elt F)),
    StableHlo.unary main_while1b_v254 main_v125_6 id,
    StableHlo.unary main_while1b_v251 main_v125_7 id,
    StableHlo.unary main_while1b_v247 main_v125_8 id,
    StableHlo.unary main_while1b_v249 main_v125_9 id,
    StableHlo.unary main_while1b_v245 main_v125_10 id,
    StableHlo.unary main_while1b_v252 main_v125_11 id,
    StableHlo.unary main_while1b_v253 main_v125_12 id ]

set_option maxHeartbeats 40000000 in
/-- They touch TensorCore references only. -/
theorem body1_sub : (body1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..,
   StableHlo.nullary_bufs_sub .., StableHlo.nullary_bufs_sub .., StableHlo.unaryIndexed_bufs_sub .., StableHlo.reshape_bufs_sub ..,
   StableHlo.nullary_bufs_sub .., StableHlo.nullary_bufs_sub .., StableHlo.unaryIndexed_bufs_sub .., StableHlo.reshape_bufs_sub ..,
   StableHlo.nullary_bufs_sub .., StableHlo.nullary_bufs_sub .., StableHlo.unaryIndexed_bufs_sub .., StableHlo.reshape_bufs_sub ..,
   StableHlo.nullary_bufs_sub .., StableHlo.nullary_bufs_sub .., StableHlo.unaryIndexed_bufs_sub .., StableHlo.reshape_bufs_sub ..,
   StableHlo.binary_bufs_sub .., StableHlo.binary_bufs_sub .., StableHlo.binary_bufs_sub .., StableHlo.binary_bufs_sub ..,
   StableHlo.binary_bufs_sub .., StableHlo.binary_bufs_sub .., StableHlo.binary_bufs_sub .., StableHlo.binary_bufs_sub ..,
   StableHlo.unary_bufs_sub .., StableHlo.binary_bufs_sub .., StableHlo.binary_bufs_sub .., StableHlo.binary_bufs_sub ..,
   StableHlo.binary_bufs_sub .., StableHlo.binary_bufs_sub .., StableHlo.binary_bufs_sub .., StableHlo.binary_bufs_sub ..,
   StableHlo.binary_bufs_sub .., StableHlo.unary_bufs_sub .., StableHlo.nullary_bufs_sub .., StableHlo.nullary_bufs_sub ..,
   StableHlo.binaryIndexed_bufs_sub .., StableHlo.unary_bufs_sub .., StableHlo.nullary_bufs_sub .., StableHlo.nullary_bufs_sub ..,
   StableHlo.binaryIndexed_bufs_sub .., StableHlo.nullary_bufs_sub .., StableHlo.binary_bufs_sub .., StableHlo.unary_bufs_sub ..,
   StableHlo.unary_bufs_sub .., StableHlo.unary_bufs_sub .., StableHlo.unary_bufs_sub .., StableHlo.unary_bufs_sub .., StableHlo.unary_bufs_sub ..,
   StableHlo.unary_bufs_sub ..⟩

theorem plainOf {ops : List (HloOp τ sig (Elt F))} (hs : ops.Forall fun op => op.bufs ⊆ StableHlo.tcRefs τ sig)
    (hf : ops.Forall fun op => op.fresh = ∅) : Plain [ops] := fun o ho => by
  obtain rfl := List.mem_singleton.mp ho
  exact ⟨List.forall_iff_forall_mem.mp hs, List.forall_iff_forall_mem.mp hf⟩

set_option maxHeartbeats 4000000 in
/-- The stretch is plain: no operation allocates. -/
theorem opsA_plain : Plain [(opsA : List (HloOp τ sig (Elt F)))] := plainOf opsA_sub
  ⟨rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl⟩

set_option maxHeartbeats 4000000 in
/-- The stretch is plain: no operation allocates. -/
theorem opsB_plain : Plain [(opsB : List (HloOp τ sig (Elt F)))] := plainOf opsB_sub
  ⟨rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxHeartbeats 4000000 in
/-- The stretch is plain: no operation allocates. -/
theorem opsC_plain : Plain [(opsC : List (HloOp τ sig (Elt F)))] := plainOf opsC_sub
  ⟨rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl⟩

set_option maxHeartbeats 4000000 in
/-- The stretch is plain: no operation allocates. -/
theorem body0_plain : Plain [(body0 : List (HloOp τ sig (Elt F)))] := plainOf body0_sub
  ⟨rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

set_option maxHeartbeats 4000000 in
/-- The stretch is plain: no operation allocates. -/
theorem body1_plain : Plain [(body1 : List (HloOp τ sig (Elt F)))] := plainOf body1_sub
  ⟨rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl⟩

/-- The first loop's body is its operations in order. -/
theorem body0_chain : (main_while0_body (F := F)) = Pipeline.chain ([body0].map fun ops => (seq ops : Prog _ PUnit)) := by
  show _ = Pipeline.chain [seq body0]
  chain_rfl

/-- The second loop's body is its operations in order. -/
theorem body1_chain : (main_while1_body (F := F)) = Pipeline.chain ([body1].map fun ops => (seq ops : Prog _ PUnit)) := by
  show _ = Pipeline.chain [seq body1]
  chain_rfl

/-- @main is its operations and its two loops in order. -/
theorem main_chain (c : Dev nD) : main (F := F) c
    = Pipeline.chain [seq opsA, HostLoop.enter 0, seq opsB, HostLoop.enter 1, seq opsC] := by
  chain_rfl

/-! ## The counters -/

/-- One trip of the first loop adds one to its counter. -/
theorem ctr0 (X : Valuation τ sig (Elt F)) : after body0 (after cond0 X) (Proc.devRef .tc main_v57_4)
    = addi (X (Proc.devRef .tc main_v57_4)) (constantI S_ 32 1#32) := by
  after_reads_simp <;> rfl

/-- One trip of the second loop adds one to its counter. -/
theorem ctr1 (X : Valuation τ sig (Elt F)) : after body1 (after cond1 X) (Proc.devRef .tc main_v125_6)
    = addi (X (Proc.devRef .tc main_v125_6)) (constantI S_ 32 1#32) := by
  after_reads_simp <;> rfl

/-- The contents after `k` trips of the first loop, entered at `W`. -/
abbrev trip0 (W : Dev nD → Valuation τ sig (Elt F)) : ℕ → Dev nD → Valuation τ sig (Elt F) := atTrip cond0 [body0] W
/-- The contents after `k` trips of the second loop, entered at `W`. -/
abbrev trip1 (W : Dev nD → Valuation τ sig (Elt F)) : ℕ → Dev nD → Valuation τ sig (Elt F) := atTrip cond1 [body1] W

theorem trip0_succ (W : Dev nD → Valuation τ sig (Elt F)) (k : ℕ) (c : Dev nD) : trip0 W (k + 1) c = after body0 (after cond0 (trip0 W k c)) := rfl
theorem trip1_succ (W : Dev nD → Valuation τ sig (Elt F)) (k : ℕ) (c : Dev nD) : trip1 W (k + 1) c = after body1 (after cond1 (trip1 W k c)) := rfl

theorem addi_one (k : ℕ) : addi (fun (_ : S_.Idx) => (BitVec.ofNat 32 k : BitVec 32)) (constantI S_ 32 1#32) = fun _ => (BitVec.ofNat 32 (k + 1) : BitVec 32) := by
  funext i
  show BitVec.ofNat 32 k + 1#32 = BitVec.ofNat 32 (k + 1)
  rw [BitVec.ofNat_add]

/-- Before its `k`-th trip the first loop's counter is `k`. -/
theorem trip0_ctr (W : Dev nD → Valuation τ sig (Elt F)) (c : Dev nD) (h : W c (Proc.devRef .tc main_v57_4) = fun _ => (0#32 : BitVec 32)) :
    ∀ k, trip0 W k c (Proc.devRef .tc main_v57_4) = fun _ => (BitVec.ofNat 32 k : BitVec 32)
  | 0 => h
  | k + 1 => by rw [trip0_succ, ctr0, trip0_ctr W c h k]; exact addi_one k

/-- Before its `k`-th trip the second loop's counter is `k`. -/
theorem trip1_ctr (W : Dev nD → Valuation τ sig (Elt F)) (c : Dev nD) (h : W c (Proc.devRef .tc main_v125_6) = fun _ => (0#32 : BitVec 32)) :
    ∀ k, trip1 W k c (Proc.devRef .tc main_v125_6) = fun _ => (BitVec.ofNat 32 k : BitVec 32)
  | 0 => h
  | k + 1 => by rw [trip1_succ, ctr1, trip1_ctr W c h k]; exact addi_one k

theorem toInt_small (k : ℕ) (hk : k ≤ 2048) : (BitVec.ofNat 32 k).toInt = k := by
  rw [BitVec.toInt_ofNat']
  rw [Int.bmod_def]; omega

/-- For `k ≤ 2048` the comparison `k < 2048` reads `1` exactly when it holds. -/
theorem pred_iff (k : ℕ) (hk : k ≤ 2048) : IntOp.cmpi .slt (BitVec.ofNat 32 k) 2048#32 = 1#1 ↔ k < 2048 := by
  have h1 := toInt_small k hk
  have h2 : (2048#32 : BitVec 32).toInt = 2048 := by decide
  simp only [IntOp.cmpi, BitVec.slt, h1, h2]
  by_cases h : k < 2048
  · simp [h]
  · simp [h]

/-! ## The launch -/

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev Lx : GSem nD τ sig → Finset Unit := fun _ => ∅
abbrev lvx : GSem nD τ sig → Unit → ℕ := fun _ _ => 0
/-- What rides along beside the buffers. -/
abbrev Rw (c : Dev nD) : sProp 𝕄 := iprop(∃ W, owes (c : Thread nD τ) (0 : CellTallies nD τ sig Unit) W)

set_option backward.isDefEq.respectTransparency.types false in
/-- The condition of the first loop: run before trip `k`, it answers `1` exactly when `k < 2048`. -/
theorem cond0_spec (W : Dev nD → Valuation τ sig (Elt F)) (h : ∀ c, W c (Proc.devRef .tc main_v57_4) = fun _ => (0#32 : BitVec 32)) :
    LoopCond (pcfgs (F := F)) defs₀ Variants.none loops Rw main_while0_cond cond0 [body0] W 2048 := fun k hk c bd => by
  have hctr := trip0_ctr W c (h c) k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip0 W k c) (Proc.devRef .tc main_v57_4) HostLoop.idx0)
        (HloOp.result _ (trip0 W k c) (Proc.devRef .tc main_while0c_c_48) HostLoop.idx0) = 1#1) (k < 2048)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

set_option backward.isDefEq.respectTransparency.types false in
/-- The condition of the second loop: run before trip `k`, it answers `1` exactly when `k < 2048`. -/
theorem cond1_spec (W : Dev nD → Valuation τ sig (Elt F)) (h : ∀ c, W c (Proc.devRef .tc main_v125_6) = fun _ => (0#32 : BitVec 32)) :
    LoopCond (pcfgs (F := F)) defs₀ Variants.none loops Rw main_while1_cond cond1 [body1] W 2048 := fun k hk c bd => by
  have hctr := trip1_ctr W c (h c) k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip1 W k c) (Proc.devRef .tc main_v125_6) HostLoop.idx0)
        (HloOp.result _ (trip1 W k c) (Proc.devRef .tc main_while1c_c_50) HostLoop.idx0) = 1#1) (k < 2048)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

variable (m : (ℓ : Loc nD τ sig) → Buf (Elt F) ℓ)

/-- Before the first loop. -/
abbrev WA (c : Dev nD) : Valuation τ sig (Elt F) := after opsA (launchContents m c)
/-- After the first loop. -/
abbrev WB (c : Dev nD) : Valuation τ sig (Elt F) := after cond0 (trip0 (WA m) 2048 c)
/-- Before the second loop. -/
abbrev WC (c : Dev nD) : Valuation τ sig (Elt F) := after opsB (WB m c)
/-- After the second loop. -/
abbrev WD (c : Dev nD) : Valuation τ sig (Elt F) := after cond1 (trip1 (WC m) 2048 c)
/-- At the end. -/
abbrev fin (c : Dev nD) : Valuation τ sig (Elt F) := after opsC (WD m c)

theorem WA_ctr (c : Dev nD) : WA m c (Proc.devRef .tc main_v57_4) = fun _ => (0#32 : BitVec 32) := by
  after_reads_simp; rfl
theorem WC_ctr (c : Dev nD) : WC m c (Proc.devRef .tc main_v125_6) = fun _ => (0#32 : BitVec 32) := by
  unfold WC; generalize WB m c = X
  after_reads_simp; rfl

/-- @main's segments. -/
def segs : List (CSeg (pcfgs (F := F)) adm defs₀ Variants.none Lx lvx loops tk) :=
  segsOf _ _ _ _ _ _ _ _ Rw [opsA] opsA_plain (launchContents m)
    ++ loopSeg _ _ _ _ _ _ _ _ 0 main_while0_cond main_while0_body rfl cond0 [body0] body0_plain body0_chain 2048 (WA m) Rw
        (cond0_spec (WA m) (WA_ctr m))
      :: (segsOf _ _ _ _ _ _ _ _ Rw [opsB] opsB_plain (WB m)
        ++ loopSeg _ _ _ _ _ _ _ _ 1 main_while1_cond main_while1_body rfl cond1 [body1] body1_plain body1_chain 2048 (WC m) Rw
            (cond1_spec (WC m) (WC_ctr m))
          :: segsOf _ _ _ _ _ _ _ _ Rw [opsC] opsC_plain (WD m))

theorem segs_prog : (segs m).map CSeg.prog = [seq opsA, HostLoop.enter 0, seq opsB, HostLoop.enter 1, seq opsC] := by
  unfold segs
  simp only [List.map_append, List.map_cons, segsOf_prog, List.map_nil]
  rfl

theorem segs_chains : CSeg.Chains (fun c => iprop(held (c : Thread nD τ) (ucRefs τ sig) (launchContents m c) ∗ Rw c)) (segs m)
    (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Rw [opsA] opsA_plain _) ⟨fun _ => .rfl,
    CSeg.Chains.append (segsOf_chains _ _ _ _ _ _ _ _ Rw [opsB] opsB_plain _) ⟨fun _ => .rfl,
      segsOf_chains _ _ _ _ _ _ _ _ Rw [opsC] opsC_plain _⟩⟩

/-- Every fair execution of the reference ends, each buffer at `fin` and each counter at zero. -/
theorem run (ρ : Dev nD → PrngReg) : θ_run defs (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = fin m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none Lx lvx loops tk m ρ main (segs m)
    (fun c Q => by
      rw [main_chain c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (fin m c)))
    (hch := segs_chains m)
    (hinit := by
      refine Pipeline.initEach Lx lvx fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun _ h c b hb => h c _ (StableHlo.devRef_mem_ucRefs b hb))

end Cert.ReferenceIdeal.Gen

end
-- ==== Proof.RefStep.lean ====
/-
  The reference's straight lines of operations, read: what each leaves unchanged, and what one trip of each of the two loops
  (the scan forward through the rows, the scan back) does to the arrays it carries.
-/
module

public import proofs.«01_k».proof.Proof.Group
public import proofs.«01_k».proof.Proof.RefRun
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.ReferenceIdeal.Gen

open Cert.ReferenceIdeal S5

variable {F : FTy → Type} [FloatOps F]

/-! ## What a stretch leaves unchanged -/

/-- What `opsA` writes. -/
abbrev opsA_W : List (Ref sig .tc) := [main_v0, main_v1, main_v2, main_v3, main_v4, main_v5, main_v6, main_v7, main_v8, main_v9, main_v10, main_v11, main_v12, main_v13, main_v14, main_v15, main_v16, main_v17, main_v18, main_cst, main_v19, main_v20, main_v21, main_v22, main_cst_0, main_v23, main_v24, main_v25, main_v26, main_v27, main_cst_1, main_v28, main_v29, main_v30, main_v31, main_v32, main_v33, main_v34, main_v35, main_v36, main_v37, main_v38, main_v39, main_v40, main_v41, main_v42, main_v43, main_v44, main_v45, main_v46, main_v47, main_v48, main_v49, main_v50, main_v51, main_cst_2, main_v52, main_cst_3, main_v53, main_cst_4, main_v54, main_cst_5, main_v55, main_cst_6, main_v56, main_c, main_v57_0, main_v57_1, main_v57_2, main_v57_3, main_v57_4, main_v57_5, main_v57_6, main_v57_7, main_v57_8, main_v57_9, main_v57_10]
theorem opsA_writes : (opsA : List (HloOp τ sig (Elt F))).Forall fun op => op.writes ⊆ (opsA_W.map (Proc.devRef (τ := τ) .tc)).toFinset :=
  forall_writes_sub_of_map rfl

/-- What `opsB` writes. -/
abbrev opsB_W : List (Ref sig .tc) := [main_v58, main_v59, main_v60, main_v61, main_v62, main_v63, main_v64, main_v65, main_v66, main_v67, main_v68, main_v69, main_v70, main_cst_7, main_v71, main_v72, main_cst_8, main_v73, main_v74, main_v75, main_cst_9, main_v76, main_v77, main_v78, main_cst_10, main_v79, main_v80, main_cst_11, main_v81, main_v82, main_v83, main_cst_12, main_v84, main_v85, main_cst_13, main_v86, main_v87, main_v88, main_cst_14, main_v89, main_cst_15, main_v90, main_v91, main_v92, main_cst_16, main_v93, main_v94, main_v95, main_cst_17, main_v96, main_v97, main_v98, main_cst_18, main_v99, main_v100, main_v101, main_v102, main_v103, main_v104, main_v105, main_v106, main_cst_19, main_v107, main_v108, main_cst_20, main_v109, main_v110, main_v111, main_v112, main_v113, main_v114, main_v115, main_v116, main_v117, main_v118, main_cst_21, main_v119, main_cst_22, main_v120, main_cst_23, main_v121, main_cst_24, main_v122, main_cst_25, main_v123, main_cst_26, main_v124, main_c_27, main_v125_0, main_v125_1, main_v125_2, main_v125_3, main_v125_4, main_v125_5, main_v125_6, main_v125_7, main_v125_8, main_v125_9, main_v125_10, main_v125_11, main_v125_12]
theorem opsB_writes : (opsB : List (HloOp τ sig (Elt F))).Forall fun op => op.writes ⊆ (opsB_W.map (Proc.devRef (τ := τ) .tc)).toFinset :=
  forall_writes_sub_of_map rfl

/-- What `opsC` writes. -/
abbrev opsC_W : List (Ref sig .tc) := [main_v126, main_v127, main_v128, main_v129, main_v130, main_v131, main_v132, main_v133, main_v134, main_v135, main_v136, main_v137, main_v138, main_cst_28, main_v139, main_v140, main_v141, main_v142, main_v143, main_cst_29, main_v144, main_v145, main_v146, main_v147, main_v148, main_v149, main_v150, main_cst_30, main_v151, main_v152, main_v153, main_v154, main_v155, main_v156, main_v157, main_cst_31, main_v158, main_v159, main_v160, main_cst_32, main_v161, main_cst_33, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_cst_34, main_v200, main_v201, main_v202, main_v203, main_v204, main_v205, main_v206, main_v207, main_v208, main_v209, main_v210, main_cst_35, main_v211, main_v212, main_v213, main_v214, main_v215, main_v216, main_v217, main_v218, main_cst_36, main_v219, main_v220, main_v221, main_v222, main_v223, main_v224, main_cst_37, main_v225, main_v226, main_v227, main_v228]
theorem opsC_writes : (opsC : List (HloOp τ sig (Elt F))).Forall fun op => op.writes ⊆ (opsC_W.map (Proc.devRef (τ := τ) .tc)).toFinset :=
  forall_writes_sub_of_map rfl

/-- What `cond0` writes. -/
abbrev cond0_W : List (Ref sig .tc) := [main_while0c_c_48, main_while0c_v229]
theorem cond0_writes : (cond0 : List (HloOp τ sig (Elt F))).Forall fun op => op.writes ⊆ (cond0_W.map (Proc.devRef (τ := τ) .tc)).toFinset :=
  forall_writes_sub_of_map rfl

/-- What `cond1` writes. -/
abbrev cond1_W : List (Ref sig .tc) := [main_while1c_c_50, main_while1c_v229]
theorem cond1_writes : (cond1 : List (HloOp τ sig (Elt F))).Forall fun op => op.writes ⊆ (cond1_W.map (Proc.devRef (τ := τ) .tc)).toFinset :=
  forall_writes_sub_of_map rfl

/-- What `body0` writes. -/
abbrev body0_W : List (Ref sig .tc) := [main_while0b_call0_c, main_while0b_call0_c_0, main_while0b_call0_v0, main_while0b_v229, main_while0b_call1_c, main_while0b_call1_c_0, main_while0b_call1_v0, main_while0b_v230, main_while0b_v231, main_while0b_v232, main_while0b_v233, main_while0b_v234, main_while0b_v235, main_while0b_v236, main_while0b_v237, main_while0b_v238, main_while0b_call2_v0, main_while0b_call2_c, main_while0b_call2_c_0, main_while0b_v239, main_while0b_call3_v0, main_while0b_call3_c, main_while0b_call3_c_0, main_while0b_v240, main_while0b_call4_v0, main_while0b_call4_c, main_while0b_call4_c_0, main_while0b_v241, main_while0b_call5_v0, main_while0b_call5_c, main_while0b_call5_c_0, main_while0b_v242, main_while0b_c_48, main_while0b_v243, main_v57_4, main_v57_5, main_v57_6, main_v57_7, main_v57_8, main_v57_9, main_v57_10]
theorem body0_writes : (body0 : List (HloOp τ sig (Elt F))).Forall fun op => op.writes ⊆ (body0_W.map (Proc.devRef (τ := τ) .tc)).toFinset :=
  forall_writes_sub_of_map rfl

/-- What `body1` writes. -/
abbrev body1_W : List (Ref sig .tc) := [main_while1b_c_50, main_while1b_v229, main_while1b_c_51, main_while1b_v230, main_while1b_call6_c, main_while1b_call6_c_0, main_while1b_call6_v0, main_while1b_v231, main_while1b_call7_c, main_while1b_call7_c_0, main_while1b_call7_v0, main_while1b_v232, main_while1b_call8_c, main_while1b_call8_c_0, main_while1b_call8_v0, main_while1b_v233, main_while1b_call9_c, main_while1b_call9_c_0, main_while1b_call9_v0, main_while1b_v234, main_while1b_v235, main_while1b_v236, main_while1b_v237, main_while1b_v238, main_while1b_v239, main_while1b_v240, main_while1b_v241, main_while1b_v242, main_while1b_v243, main_while1b_v244, main_while1b_v245, main_while1b_v246, main_while1b_v247, main_while1b_v248, main_while1b_v249, main_while1b_v250, main_while1b_v251, main_while1b_call10_v0, main_while1b_call10_c, main_while1b_call10_c_0, main_while1b_v252, main_while1b_call11_v0, main_while1b_call11_c, main_while1b_call11_c_0, main_while1b_v253, main_while1b_c_52, main_while1b_v254, main_v125_6, main_v125_7, main_v125_8, main_v125_9, main_v125_10, main_v125_11, main_v125_12]
theorem body1_writes : (body1 : List (HloOp τ sig (Elt F))).Forall fun op => op.writes ⊆ (body1_W.map (Proc.devRef (τ := τ) .tc)).toFinset :=
  forall_writes_sub_of_map rfl

/-- A buffer the loop does not write keeps its contents. -/
theorem trip0_keep (W : Dev nD → Valuation τ sig (Elt F)) (c : Dev nD) (r : Ref sig .tc) (h : r ∉ cond0_W) (h' : r ∉ body0_W) :
    ∀ k, trip0 W k c (Proc.devRef .tc r) = W c (Proc.devRef .tc r)
  | 0 => rfl
  | k + 1 => by
    rw [trip0_succ, after_of_writes_sub body0 _ body0_writes h', after_of_writes_sub cond0 _ cond0_writes h, trip0_keep W c r h h' k]

/-- A buffer the loop does not write keeps its contents. -/
theorem trip1_keep (W : Dev nD → Valuation τ sig (Elt F)) (c : Dev nD) (r : Ref sig .tc) (h : r ∉ cond1_W) (h' : r ∉ body1_W) :
    ∀ k, trip1 W k c (Proc.devRef .tc r) = W c (Proc.devRef .tc r)
  | 0 => rfl
  | k + 1 => by
    rw [trip1_succ, after_of_writes_sub body1 _ body1_writes h', after_of_writes_sub cond1 _ cond1_writes h, trip1_keep W c r h h' k]

/-! ## A row read or written at a loop's index -/

theorem rowFits (k : Fin 2048) : S2048x64x64.Slices ![k.val, 0, 0] S1x64x64 := by
  refine ⟨rfl, fun a => ?_⟩
  have := k.isLt
  fin_cases a
  · show k.val + 1 ≤ 2048; omega
  · show 0 + 64 ≤ 64; omega
  · show 0 + 64 ≤ 64; omega

theorem starts (start : Fin 3 → Int) (k : Fin 2048) (h : start 0 = (k.val : Int) ∧ start 1 = 0 ∧ start 2 = 0) : ∀ a, start a = ((![k.val, 0, 0] : Fin 3 → ℕ) a : Int) := by
  intro a
  fin_cases a
  · exact h.1
  · exact h.2.1
  · exact h.2.2

/-- Row `k` of an array, read. -/
theorem rowRead (x : FVec Ideal S2048x64x64 .f32) (start : Fin 3 → Int) (k : Fin 2048) (h : start 0 = (k.val : Int) ∧ start 1 = 0 ∧ start 2 = 0)
    (hs : S2048x64x64.Slices (fun _ => 0) S1x64x64) (g n : Fin 64) : Host.dynamicSlice S1x64x64 x start hs (ix3 0 g n) = x (ix3 k g n) := by
  rw [WordCmp.dynamicSlice_eq_extract S1x64x64 x start hs ![k.val, 0, 0] (rowFits k) (starts start k h)]
  pointwise

/-- Row `k` of an array, written. -/
theorem rowWrite (x : FVec Ideal S2048x64x64 .f32) (u : FVec Ideal S1x64x64 .f32) (start : Fin 3 → Int) (k : Fin 2048)
    (h : start 0 = (k.val : Int) ∧ start 1 = 0 ∧ start 2 = 0) (hs : S2048x64x64.Slices (fun _ => 0) S1x64x64) (t : Fin 2048) (g n : Fin 64) :
    Host.dynamicUpdateSlice x u start hs (ix3 t g n) = if t = k then u (ix3 0 g n) else x (ix3 t g n) := by
  rw [WordCmp.dynamicUpdateSlice_eq_update x u start hs ![k.val, 0, 0] (rowFits k) (starts start k h)]
  pointwise
  by_cases e : t = k
  · subst e
    rw [dif_pos ⟨le_refl _, by omega⟩, if_pos rfl]
    exact congrArg (fun a => u (ix3 a g n)) (Subsingleton.elim _ _)
  · rw [dif_neg (fun hc => e (Fin.ext (by omega))), if_neg e]

/-! ## One trip of the loop forward: row `k` of the inputs goes into the state -/

section Forward

/-- One number of a `[64, 64]` array. -/
abbrev at2 (x : FVec Ideal S64x64 .f32) (i : S64x64.Idx) : EReal := x i
/-- One number of a `[2048, 64, 64]` array. -/
abbrev at3 (x : FVec Ideal S2048x64x64 .f32) (i : S2048x64x64.Idx) : EReal := x i

variable (X : Valuation τ sig (Elt Ideal)) (k : Fin 2048) (hctr : X (Proc.devRef .tc main_v57_4) = fun _ => (BitVec.ofNat 32 k.val : BitVec 32))
include hctr

theorem at0_2 : BitVec.toInt ((upto body0 (after cond0 X) 2 (Proc.devRef .tc main_v57_4) : IVec S_ 32) (Shape.Idx.first h_S_)) = (k.val : Int)
    ∧ BitVec.toInt ((upto body0 (after cond0 X) 2 (Proc.devRef .tc main_while0b_call0_c) : IVec S_ 32) (Shape.Idx.first h_S_)) = 0
    ∧ BitVec.toInt ((upto body0 (after cond0 X) 2 (Proc.devRef .tc main_while0b_call0_c_0) : IVec S_ 32) (Shape.Idx.first h_S_)) = 0 := by
  after_reads_simp
  refine ⟨?_, rfl, rfl⟩
  rw [hctr]; exact toInt_small k.val (by omega)
theorem at0_6 : BitVec.toInt ((upto body0 (after cond0 X) 6 (Proc.devRef .tc main_v57_4) : IVec S_ 32) (Shape.Idx.first h_S_)) = (k.val : Int)
    ∧ BitVec.toInt ((upto body0 (after cond0 X) 6 (Proc.devRef .tc main_while0b_call1_c) : IVec S_ 32) (Shape.Idx.first h_S_)) = 0
    ∧ BitVec.toInt ((upto body0 (after cond0 X) 6 (Proc.devRef .tc main_while0b_call1_c_0) : IVec S_ 32) (Shape.Idx.first h_S_)) = 0 := by
  after_reads_simp
  refine ⟨?_, rfl, rfl⟩
  rw [hctr]; exact toInt_small k.val (by omega)
theorem at0_19 : BitVec.toInt ((upto body0 (after cond0 X) 19 (Proc.devRef .tc main_v57_4) : IVec S_ 32) (Shape.Idx.first h_S_)) = (k.val : Int)
    ∧ BitVec.toInt ((upto body0 (after cond0 X) 19 (Proc.devRef .tc main_while0b_call2_c) : IVec S_ 32) (Shape.Idx.first h_S_)) = 0
    ∧ BitVec.toInt ((upto body0 (after cond0 X) 19 (Proc.devRef .tc main_while0b_call2_c_0) : IVec S_ 32) (Shape.Idx.first h_S_)) = 0 := by
  after_reads_simp
  refine ⟨?_, rfl, rfl⟩
  rw [hctr]; exact toInt_small k.val (by omega)
theorem at0_23 : BitVec.toInt ((upto body0 (after cond0 X) 23 (Proc.devRef .tc main_v57_4) : IVec S_ 32) (Shape.Idx.first h_S_)) = (k.val : Int)
    ∧ BitVec.toInt ((upto body0 (after cond0 X) 23 (Proc.devRef .tc main_while0b_call3_c) : IVec S_ 32) (Shape.Idx.first h_S_)) = 0
    ∧ BitVec.toInt ((upto body0 (after cond0 X) 23 (Proc.devRef .tc main_while0b_call3_c_0) : IVec S_ 32) (Shape.Idx.first h_S_)) = 0 := by
  after_reads_simp
  refine ⟨?_, rfl, rfl⟩
  rw [hctr]; exact toInt_small k.val (by omega)
theorem at0_27 : BitVec.toInt ((upto body0 (after cond0 X) 27 (Proc.devRef .tc main_v57_4) : IVec S_ 32) (Shape.Idx.first h_S_)) = (k.val : Int)
    ∧ BitVec.toInt ((upto body0 (after cond0 X) 27 (Proc.devRef .tc main_while0b_call4_c) : IVec S_ 32) (Shape.Idx.first h_S_)) = 0
    ∧ BitVec.toInt ((upto body0 (after cond0 X) 27 (Proc.devRef .tc main_while0b_call4_c_0) : IVec S_ 32) (Shape.Idx.first h_S_)) = 0 := by
  after_reads_simp
  refine ⟨?_, rfl, rfl⟩
  rw [hctr]; exact toInt_small k.val (by omega)
theorem at0_31 : BitVec.toInt ((upto body0 (after cond0 X) 31 (Proc.devRef .tc main_v57_4) : IVec S_ 32) (Shape.Idx.first h_S_)) = (k.val : Int)
    ∧ BitVec.toInt ((upto body0 (after cond0 X) 31 (Proc.devRef .tc main_while0b_call5_c) : IVec S_ 32) (Shape.Idx.first h_S_)) = 0
    ∧ BitVec.toInt ((upto body0 (after cond0 X) 31 (Proc.devRef .tc main_while0b_call5_c_0) : IVec S_ 32) (Shape.Idx.first h_S_)) = 0 := by
  after_reads_simp
  refine ⟨?_, rfl, rfl⟩
  rw [hctr]; exact toInt_small k.val (by omega)

/-- The state, real part. -/
theorem trip0_5 (g n : Fin 64) : (after body0 (after cond0 X) (Proc.devRef .tc main_v57_5) : FVec Ideal S64x64 .f32) (ix2 g n) =
    (at2 (X (Proc.devRef .tc main_v57_2)) (ix2 g n) * at2 (X (Proc.devRef .tc main_v57_5)) (ix2 g n) - at2 (X (Proc.devRef .tc main_v57_3)) (ix2 g n) * at2 (X (Proc.devRef .tc main_v57_6)) (ix2 g n) + at3 (X (Proc.devRef .tc main_v57_0)) (ix3 k g n) : EReal) := by
  after_reads_simp
  rw [WordCmp.dynamicSlice_eq_extract S1x64x64 _ _ _ ![k.val, 0, 0] (rowFits k) ?_]
  rotate_left
  · exact starts _ k (at0_2 X k hctr)
  simp -implicitDefEqProofs only [id, TRef.toBuf, TRef.ofBuf, cast_cast, cast_eq]
  pointwise

/-- The state, imaginary part. -/
theorem trip0_6 (g n : Fin 64) : (after body0 (after cond0 X) (Proc.devRef .tc main_v57_6) : FVec Ideal S64x64 .f32) (ix2 g n) =
    (at2 (X (Proc.devRef .tc main_v57_2)) (ix2 g n) * at2 (X (Proc.devRef .tc main_v57_6)) (ix2 g n) + at2 (X (Proc.devRef .tc main_v57_3)) (ix2 g n) * at2 (X (Proc.devRef .tc main_v57_5)) (ix2 g n) + at3 (X (Proc.devRef .tc main_v57_1)) (ix3 k g n) : EReal) := by
  after_reads_simp
  rw [WordCmp.dynamicSlice_eq_extract S1x64x64 _ _ _ ![k.val, 0, 0] (rowFits k) ?_]
  rotate_left
  · exact starts _ k (at0_6 X k hctr)
  simp -implicitDefEqProofs only [id, TRef.toBuf, TRef.ofBuf, cast_cast, cast_eq]
  pointwise

/-- The new state goes to row `k` of the states, real part. -/
theorem trip0_7 (t : Fin 2048) (g n : Fin 64) : (after body0 (after cond0 X) (Proc.devRef .tc main_v57_7) : FVec Ideal S2048x64x64 .f32) (ix3 t g n) =
    if t = k then (at2 (X (Proc.devRef .tc main_v57_2)) (ix2 g n) * at2 (X (Proc.devRef .tc main_v57_5)) (ix2 g n) - at2 (X (Proc.devRef .tc main_v57_3)) (ix2 g n) * at2 (X (Proc.devRef .tc main_v57_6)) (ix2 g n) + at3 (X (Proc.devRef .tc main_v57_0)) (ix3 k g n) : EReal) else (X (Proc.devRef .tc main_v57_7) : FVec Ideal S2048x64x64 .f32) (ix3 t g n) := by
  after_reads_simp
  rw [WordCmp.dynamicSlice_eq_extract S1x64x64 _ _ _ ![k.val, 0, 0] (rowFits k) ?_]
  rotate_left
  · exact starts _ k (at0_2 X k hctr)
  simp -implicitDefEqProofs only [id, TRef.toBuf, TRef.ofBuf, cast_cast, cast_eq]
  rw [rowWrite _ _ _ k ?_]
  rotate_left
  · exact at0_19 X k hctr
  pointwise

/-- The new state goes to row `k` of the states, imaginary part. -/
theorem trip0_8 (t : Fin 2048) (g n : Fin 64) : (after body0 (after cond0 X) (Proc.devRef .tc main_v57_8) : FVec Ideal S2048x64x64 .f32) (ix3 t g n) =
    if t = k then (at2 (X (Proc.devRef .tc main_v57_2)) (ix2 g n) * at2 (X (Proc.devRef .tc main_v57_6)) (ix2 g n) + at2 (X (Proc.devRef .tc main_v57_3)) (ix2 g n) * at2 (X (Proc.devRef .tc main_v57_5)) (ix2 g n) + at3 (X (Proc.devRef .tc main_v57_1)) (ix3 k g n) : EReal) else (X (Proc.devRef .tc main_v57_8) : FVec Ideal S2048x64x64 .f32) (ix3 t g n) := by
  after_reads_simp
  rw [WordCmp.dynamicSlice_eq_extract S1x64x64 _ _ _ ![k.val, 0, 0] (rowFits k) ?_]
  rotate_left
  · exact starts _ k (at0_6 X k hctr)
  simp -implicitDefEqProofs only [id, TRef.toBuf, TRef.ofBuf, cast_cast, cast_eq]
  rw [rowWrite _ _ _ k ?_]
  rotate_left
  · exact at0_23 X k hctr
  pointwise

/-- The old state goes to row `k` of the earlier states, real part. -/
theorem trip0_9 (t : Fin 2048) (g n : Fin 64) : (after body0 (after cond0 X) (Proc.devRef .tc main_v57_9) : FVec Ideal S2048x64x64 .f32) (ix3 t g n) =
    if t = k then at2 (X (Proc.devRef .tc main_v57_5)) (ix2 g n) else (X (Proc.devRef .tc main_v57_9) : FVec Ideal S2048x64x64 .f32) (ix3 t g n) := by
  after_reads_simp
  simp -implicitDefEqProofs only [id, TRef.toBuf, TRef.ofBuf, cast_cast, cast_eq]
  rw [rowWrite _ _ _ k ?_]
  rotate_left
  · exact at0_27 X k hctr
  pointwise

/-- The old state goes to row `k` of the earlier states, imaginary part. -/
theorem trip0_10 (t : Fin 2048) (g n : Fin 64) : (after body0 (after cond0 X) (Proc.devRef .tc main_v57_10) : FVec Ideal S2048x64x64 .f32) (ix3 t g n) =
    if t = k then at2 (X (Proc.devRef .tc main_v57_6)) (ix2 g n) else (X (Proc.devRef .tc main_v57_10) : FVec Ideal S2048x64x64 .f32) (ix3 t g n) := by
  after_reads_simp
  simp -implicitDefEqProofs only [id, TRef.toBuf, TRef.ofBuf, cast_cast, cast_eq]
  rw [rowWrite _ _ _ k ?_]
  rotate_left
  · exact at0_31 X k hctr
  pointwise

end Forward

/-! ## One trip of the loop back: row `k` of the cotangents joins the carried one -/

section Back

variable (X : Valuation τ sig (Elt Ideal)) (k : Fin 2048) (hctr : X (Proc.devRef .tc main_v125_6) = fun _ => (BitVec.ofNat 32 (2047 - k.val) : BitVec 32))
include hctr

omit hctr in
theorem back_index (k : ℕ) (hk : k < 2048) : (2048#32 - BitVec.ofNat 32 (2047 - k) - 1#32).toInt = (k : Int) := by
  have e : (2048#32 - BitVec.ofNat 32 (2047 - k) - 1#32 : BitVec 32) = BitVec.ofNat 32 k := by
    apply BitVec.eq_of_toNat_eq
    simp only [BitVec.toNat_sub, BitVec.toNat_ofNat]
    omega
  rw [e]; exact toInt_small k (by omega)

theorem at1_6 : BitVec.toInt ((upto body1 (after cond1 X) 6 (Proc.devRef .tc main_while1b_v230) : IVec S_ 32) (Shape.Idx.first h_S_)) = (k.val : Int)
    ∧ BitVec.toInt ((upto body1 (after cond1 X) 6 (Proc.devRef .tc main_while1b_call6_c) : IVec S_ 32) (Shape.Idx.first h_S_)) = 0
    ∧ BitVec.toInt ((upto body1 (after cond1 X) 6 (Proc.devRef .tc main_while1b_call6_c_0) : IVec S_ 32) (Shape.Idx.first h_S_)) = 0 := by
  after_reads_simp
  refine ⟨?_, rfl, rfl⟩
  rw [hctr]; exact back_index k.val k.isLt
theorem at1_10 : BitVec.toInt ((upto body1 (after cond1 X) 10 (Proc.devRef .tc main_while1b_v230) : IVec S_ 32) (Shape.Idx.first h_S_)) = (k.val : Int)
    ∧ BitVec.toInt ((upto body1 (after cond1 X) 10 (Proc.devRef .tc main_while1b_call7_c) : IVec S_ 32) (Shape.Idx.first h_S_)) = 0
    ∧ BitVec.toInt ((upto body1 (after cond1 X) 10 (Proc.devRef .tc main_while1b_call7_c_0) : IVec S_ 32) (Shape.Idx.first h_S_)) = 0 := by
  after_reads_simp
  refine ⟨?_, rfl, rfl⟩
  rw [hctr]; exact back_index k.val k.isLt
theorem at1_14 : BitVec.toInt ((upto body1 (after cond1 X) 14 (Proc.devRef .tc main_while1b_v230) : IVec S_ 32) (Shape.Idx.first h_S_)) = (k.val : Int)
    ∧ BitVec.toInt ((upto body1 (after cond1 X) 14 (Proc.devRef .tc main_while1b_call8_c) : IVec S_ 32) (Shape.Idx.first h_S_)) = 0
    ∧ BitVec.toInt ((upto body1 (after cond1 X) 14 (Proc.devRef .tc main_while1b_call8_c_0) : IVec S_ 32) (Shape.Idx.first h_S_)) = 0 := by
  after_reads_simp
  refine ⟨?_, rfl, rfl⟩
  rw [hctr]; exact back_index k.val k.isLt
theorem at1_18 : BitVec.toInt ((upto body1 (after cond1 X) 18 (Proc.devRef .tc main_while1b_v230) : IVec S_ 32) (Shape.Idx.first h_S_)) = (k.val : Int)
    ∧ BitVec.toInt ((upto body1 (after cond1 X) 18 (Proc.devRef .tc main_while1b_call9_c) : IVec S_ 32) (Shape.Idx.first h_S_)) = 0
    ∧ BitVec.toInt ((upto body1 (after cond1 X) 18 (Proc.devRef .tc main_while1b_call9_c_0) : IVec S_ 32) (Shape.Idx.first h_S_)) = 0 := by
  after_reads_simp
  refine ⟨?_, rfl, rfl⟩
  rw [hctr]; exact back_index k.val k.isLt
theorem at1_40 : BitVec.toInt ((upto body1 (after cond1 X) 40 (Proc.devRef .tc main_while1b_v230) : IVec S_ 32) (Shape.Idx.first h_S_)) = (k.val : Int)
    ∧ BitVec.toInt ((upto body1 (after cond1 X) 40 (Proc.devRef .tc main_while1b_call10_c) : IVec S_ 32) (Shape.Idx.first h_S_)) = 0
    ∧ BitVec.toInt ((upto body1 (after cond1 X) 40 (Proc.devRef .tc main_while1b_call10_c_0) : IVec S_ 32) (Shape.Idx.first h_S_)) = 0 := by
  after_reads_simp
  refine ⟨?_, rfl, rfl⟩
  rw [hctr]; exact back_index k.val k.isLt
theorem at1_44 : BitVec.toInt ((upto body1 (after cond1 X) 44 (Proc.devRef .tc main_while1b_v230) : IVec S_ 32) (Shape.Idx.first h_S_)) = (k.val : Int)
    ∧ BitVec.toInt ((upto body1 (after cond1 X) 44 (Proc.devRef .tc main_while1b_call11_c) : IVec S_ 32) (Shape.Idx.first h_S_)) = 0
    ∧ BitVec.toInt ((upto body1 (after cond1 X) 44 (Proc.devRef .tc main_while1b_call11_c_0) : IVec S_ 32) (Shape.Idx.first h_S_)) = 0 := by
  after_reads_simp
  refine ⟨?_, rfl, rfl⟩
  rw [hctr]; exact back_index k.val k.isLt

/-- The factor's gradient, real part. -/
theorem trip1_7 (g n : Fin 64) : (after body1 (after cond1 X) (Proc.devRef .tc main_v125_7) : FVec Ideal S64x64 .f32) (ix2 g n) =
    (at2 (X (Proc.devRef .tc main_v125_7)) (ix2 g n) + (at2 (X (Proc.devRef .tc main_v125_10)) (ix2 g n) + at3 (X (Proc.devRef .tc main_v125_1)) (ix3 k g n)) * at3 (X (Proc.devRef .tc main_v125_3)) (ix3 k g n) + (at2 (X (Proc.devRef .tc main_v125_9)) (ix2 g n) + at3 (X (Proc.devRef .tc main_v125_0)) (ix3 k g n)) * at3 (X (Proc.devRef .tc main_v125_2)) (ix3 k g n) : EReal) := by
  after_reads_simp
  rw [WordCmp.dynamicSlice_eq_extract S1x64x64 _ _ _ ![k.val, 0, 0] (rowFits k) ?_]
  rotate_left
  · exact starts _ k (at1_10 X k hctr)
  rw [WordCmp.dynamicSlice_eq_extract S1x64x64 _ _ _ ![k.val, 0, 0] (rowFits k) ?_]
  rotate_left
  · exact starts _ k (at1_18 X k hctr)
  rw [WordCmp.dynamicSlice_eq_extract S1x64x64 _ _ _ ![k.val, 0, 0] (rowFits k) ?_]
  rotate_left
  · exact starts _ k (at1_6 X k hctr)
  rw [WordCmp.dynamicSlice_eq_extract S1x64x64 _ _ _ ![k.val, 0, 0] (rowFits k) ?_]
  rotate_left
  · exact starts _ k (at1_14 X k hctr)
  simp -implicitDefEqProofs only [id, TRef.toBuf, TRef.ofBuf, cast_cast, cast_eq]
  pointwise

/-- The factor's gradient, imaginary part. -/
theorem trip1_8 (g n : Fin 64) : (after body1 (after cond1 X) (Proc.devRef .tc main_v125_8) : FVec Ideal S64x64 .f32) (ix2 g n) =
    (at2 (X (Proc.devRef .tc main_v125_8)) (ix2 g n) + (at2 (X (Proc.devRef .tc main_v125_10)) (ix2 g n) + at3 (X (Proc.devRef .tc main_v125_1)) (ix3 k g n)) * at3 (X (Proc.devRef .tc main_v125_2)) (ix3 k g n) + -(at2 (X (Proc.devRef .tc main_v125_9)) (ix2 g n) + at3 (X (Proc.devRef .tc main_v125_0)) (ix3 k g n)) * at3 (X (Proc.devRef .tc main_v125_3)) (ix3 k g n) : EReal) := by
  after_reads_simp
  rw [WordCmp.dynamicSlice_eq_extract S1x64x64 _ _ _ ![k.val, 0, 0] (rowFits k) ?_]
  rotate_left
  · exact starts _ k (at1_10 X k hctr)
  rw [WordCmp.dynamicSlice_eq_extract S1x64x64 _ _ _ ![k.val, 0, 0] (rowFits k) ?_]
  rotate_left
  · exact starts _ k (at1_14 X k hctr)
  rw [WordCmp.dynamicSlice_eq_extract S1x64x64 _ _ _ ![k.val, 0, 0] (rowFits k) ?_]
  rotate_left
  · exact starts _ k (at1_6 X k hctr)
  rw [WordCmp.dynamicSlice_eq_extract S1x64x64 _ _ _ ![k.val, 0, 0] (rowFits k) ?_]
  rotate_left
  · exact starts _ k (at1_18 X k hctr)
  simp -implicitDefEqProofs only [id, TRef.toBuf, TRef.ofBuf, cast_cast, cast_eq]
  pointwise

/-- The carried cotangent, real part. -/
theorem trip1_9 (g n : Fin 64) : (after body1 (after cond1 X) (Proc.devRef .tc main_v125_9) : FVec Ideal S64x64 .f32) (ix2 g n) =
    (at2 (X (Proc.devRef .tc main_v125_5)) (ix2 g n) * (at2 (X (Proc.devRef .tc main_v125_10)) (ix2 g n) + at3 (X (Proc.devRef .tc main_v125_1)) (ix3 k g n)) + at2 (X (Proc.devRef .tc main_v125_4)) (ix2 g n) * (at2 (X (Proc.devRef .tc main_v125_9)) (ix2 g n) + at3 (X (Proc.devRef .tc main_v125_0)) (ix3 k g n)) : EReal) := by
  after_reads_simp
  rw [WordCmp.dynamicSlice_eq_extract S1x64x64 _ _ _ ![k.val, 0, 0] (rowFits k) ?_]
  rotate_left
  · exact starts _ k (at1_10 X k hctr)
  rw [WordCmp.dynamicSlice_eq_extract S1x64x64 _ _ _ ![k.val, 0, 0] (rowFits k) ?_]
  rotate_left
  · exact starts _ k (at1_6 X k hctr)
  simp -implicitDefEqProofs only [id, TRef.toBuf, TRef.ofBuf, cast_cast, cast_eq]
  pointwise

/-- The carried cotangent, imaginary part. -/
theorem trip1_10 (g n : Fin 64) : (after body1 (after cond1 X) (Proc.devRef .tc main_v125_10) : FVec Ideal S64x64 .f32) (ix2 g n) =
    (at2 (X (Proc.devRef .tc main_v125_4)) (ix2 g n) * (at2 (X (Proc.devRef .tc main_v125_10)) (ix2 g n) + at3 (X (Proc.devRef .tc main_v125_1)) (ix3 k g n)) + at2 (X (Proc.devRef .tc main_v125_5)) (ix2 g n) * -(at2 (X (Proc.devRef .tc main_v125_9)) (ix2 g n) + at3 (X (Proc.devRef .tc main_v125_0)) (ix3 k g n)) : EReal) := by
  after_reads_simp
  rw [WordCmp.dynamicSlice_eq_extract S1x64x64 _ _ _ ![k.val, 0, 0] (rowFits k) ?_]
  rotate_left
  · exact starts _ k (at1_10 X k hctr)
  rw [WordCmp.dynamicSlice_eq_extract S1x64x64 _ _ _ ![k.val, 0, 0] (rowFits k) ?_]
  rotate_left
  · exact starts _ k (at1_6 X k hctr)
  simp -implicitDefEqProofs only [id, TRef.toBuf, TRef.ofBuf, cast_cast, cast_eq]
  pointwise

/-- The joined cotangent goes to row `k`, real part. -/
theorem trip1_11 (t : Fin 2048) (g n : Fin 64) : (after body1 (after cond1 X) (Proc.devRef .tc main_v125_11) : FVec Ideal S2048x64x64 .f32) (ix3 t g n) =
    if t = k then ((at2 (X (Proc.devRef .tc main_v125_9)) (ix2 g n) + at3 (X (Proc.devRef .tc main_v125_0)) (ix3 k g n)) : EReal) else (X (Proc.devRef .tc main_v125_11) : FVec Ideal S2048x64x64 .f32) (ix3 t g n) := by
  after_reads_simp
  rw [WordCmp.dynamicSlice_eq_extract S1x64x64 _ _ _ ![k.val, 0, 0] (rowFits k) ?_]
  rotate_left
  · exact starts _ k (at1_6 X k hctr)
  simp -implicitDefEqProofs only [id, TRef.toBuf, TRef.ofBuf, cast_cast, cast_eq]
  rw [rowWrite _ _ _ k ?_]
  rotate_left
  · exact at1_40 X k hctr
  pointwise

/-- The joined cotangent goes to row `k`, imaginary part. -/
theorem trip1_12 (t : Fin 2048) (g n : Fin 64) : (after body1 (after cond1 X) (Proc.devRef .tc main_v125_12) : FVec Ideal S2048x64x64 .f32) (ix3 t g n) =
    if t = k then ((at2 (X (Proc.devRef .tc main_v125_10)) (ix2 g n) + at3 (X (Proc.devRef .tc main_v125_1)) (ix3 k g n)) : EReal) else (X (Proc.devRef .tc main_v125_12) : FVec Ideal S2048x64x64 .f32) (ix3 t g n) := by
  after_reads_simp
  rw [WordCmp.dynamicSlice_eq_extract S1x64x64 _ _ _ ![k.val, 0, 0] (rowFits k) ?_]
  rotate_left
  · exact starts _ k (at1_10 X k hctr)
  simp -implicitDefEqProofs only [id, TRef.toBuf, TRef.ofBuf, cast_cast, cast_eq]
  rw [rowWrite _ _ _ k ?_]
  rotate_left
  · exact at1_44 X k hctr
  pointwise

end Back

end Cert.ReferenceIdeal.Gen
-- ==== Proof.RefVal.lean ====
/-
  The reference's values forward: what its straight-line code prepares, and the states its loop goes through.
-/
module

public import proofs.«01_k».proof.Proof.RefStep

@[expose] public section

set_option maxRecDepth 16384

noncomputable section

open Idealize.ShloMosaic Idealize.ShloMosaic.TcCoe Idealize.SL.Sem Idealize.ShloMosaic.StableHlo
open scoped ComplexConjugate

namespace Cert.ReferenceIdeal.Gen

open Cert.ReferenceIdeal S5

/-- A valuation's argument arrays hold the arguments `A`. -/
abbrev ReadsV (A : Args) (V : Valuation τ sig (Elt Ideal)) : Prop :=
  Reads A (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9))

variable {A : Args}

section Prepare

variable {V : Valuation τ sig (Elt Ideal)} (h : ReadsV A V)
include h

/-- The sequence by groups. -/
theorem opsA_u (t : Fin 2048) (g : Fin 64) (q : Fin 16) :
    (after opsA V (Proc.devRef .tc main_v0) : FVec Ideal S2048x64x16 .f32) (ix3 t g q) = (((A.G g).u t q : ℝ) : EReal) := by
  after_reads_at
  rw [A.G_u]; exact h.u t (chan g q)

/-- The input matrix. -/
theorem opsA_B (g n : Fin 64) (q : Fin 16) :
    IsC ((after opsA V (Proc.devRef .tc main_v42) : FVec Ideal S64x64x16 .f32) (ix3 g n q))
      ((after opsA V (Proc.devRef .tc main_v47) : FVec Ideal S64x64x16 .f32) (ix3 g n q)) ((A.G g).B q n) := by
  constructor <;>
  · after_reads_at
    simp only [h.ar, h.ai, h.ld, h.br, h.bi, disc_lr, disc_li, disc_qr, disc_qi]
    simp only [← EReal.coe_one, ← EReal.coe_mul, ← EReal.coe_sub, ← EReal.coe_add]; rfl

/-- The factor. -/
theorem opsA_p (g n : Fin 64) :
    IsC ((after opsA V (Proc.devRef .tc main_v57_2) : FVec Ideal S64x64 .f32) (ix2 g n))
      ((after opsA V (Proc.devRef .tc main_v57_3) : FVec Ideal S64x64 .f32) (ix2 g n)) ((A.G g).p n) := by
  constructor <;>
  · after_reads_simp
    simp only [id]
    pointwise
    simp only [h.ar, h.ai, h.ld, disc_lr, disc_li]; rfl
theorem opsA_p' (g n : Fin 64) :
    IsC ((after opsA V (Proc.devRef .tc main_v10) : FVec Ideal S64x64 .f32) (ix2 g n))
      ((after opsA V (Proc.devRef .tc main_v15) : FVec Ideal S64x64 .f32) (ix2 g n)) ((A.G g).p n) := by
  constructor <;>
  · after_reads_simp
    pointwise
    simp only [h.ar, h.ai, h.ld, disc_lr, disc_li]; rfl

/-- The loop's inputs. -/
theorem opsA_x (t : Fin 2048) (g n : Fin 64) :
    IsC ((after opsA V (Proc.devRef .tc main_v57_0) : FVec Ideal S2048x64x64 .f32) (ix3 t g n))
      ((after opsA V (Proc.devRef .tc main_v57_1) : FVec Ideal S2048x64x64 .f32) (ix3 t g n)) ((A.G g).x n t) := by
  have e : (A.G g).x n t = ∑ q : Fin 16, (A.G g).B q n * (A.u t (chan g q) : ℂ) := by
    unfold Blk.x
    exact Finset.sum_congr rfl fun q _ => by rw [A.G_u, mul_comm]
  constructor
  · after_reads_simp
    simp only [id]
    pointwise
    simp only [h.ar, h.ai, h.ld, h.br, h.bi, disc_lr, disc_li, disc_qr, disc_qi, h.u]
    refine Eq.trans ?_ (congrArg (fun z : ℂ => ((z.re : ℝ) : EReal)) e).symm
    simp only [zero_add, ← EReal.coe_one, ← EReal.coe_mul, ← EReal.coe_sub, ← EReal.coe_add, coe_sum]
    rw [Complex.re_sum]
    simp only [Complex.mul_re, Complex.ofReal_re, Complex.ofReal_im, mul_zero, sub_zero]; rfl
  · after_reads_simp
    simp only [id]
    pointwise
    simp only [h.ar, h.ai, h.ld, h.br, h.bi, disc_lr, disc_li, disc_qr, disc_qi, h.u]
    refine Eq.trans ?_ (congrArg (fun z : ℂ => ((z.im : ℝ) : EReal)) e).symm
    simp only [zero_add, ← EReal.coe_one, ← EReal.coe_mul, ← EReal.coe_sub, ← EReal.coe_add, coe_sum]
    rw [Complex.im_sum]
    simp only [Complex.mul_im, Complex.ofReal_re, Complex.ofReal_im, mul_zero, zero_add]; rfl

omit h in
/-- The state starts at zero. -/
theorem opsA_s (g n : Fin 64) :
    IsC ((after opsA V (Proc.devRef .tc main_v57_5) : FVec Ideal S64x64 .f32) (ix2 g n))
      ((after opsA V (Proc.devRef .tc main_v57_6) : FVec Ideal S64x64 .f32) (ix2 g n)) 0 := by
  constructor <;>
  · after_reads_simp
    simp only [id]
    pointwise
    simp

end Prepare

/-! ## The loop forward -/

/-- What a valuation holds after `k` trips. -/
structure St0 (A : Args) (X : Valuation τ sig (Elt Ideal)) (k : ℕ) : Prop where
  x : ∀ (t : Fin 2048) g n, IsC ((X (Proc.devRef .tc main_v57_0) : FVec Ideal S2048x64x64 .f32) (ix3 t g n)) ((X (Proc.devRef .tc main_v57_1) : FVec Ideal S2048x64x64 .f32) (ix3 t g n)) ((A.G g).x n t)
  p : ∀ g n, IsC ((X (Proc.devRef .tc main_v57_2) : FVec Ideal S64x64 .f32) (ix2 g n)) ((X (Proc.devRef .tc main_v57_3) : FVec Ideal S64x64 .f32) (ix2 g n)) ((A.G g).p n)
  s : ∀ g n, IsC ((X (Proc.devRef .tc main_v57_5) : FVec Ideal S64x64 .f32) (ix2 g n)) ((X (Proc.devRef .tc main_v57_6) : FVec Ideal S64x64 .f32) (ix2 g n)) ((A.G g).s n k)
  new : ∀ (t : Fin 2048) g n, t.val < k → IsC ((X (Proc.devRef .tc main_v57_7) : FVec Ideal S2048x64x64 .f32) (ix3 t g n)) ((X (Proc.devRef .tc main_v57_8) : FVec Ideal S2048x64x64 .f32) (ix3 t g n)) ((A.G g).s n (t + 1))
  old : ∀ (t : Fin 2048) g n, t.val < k → IsC ((X (Proc.devRef .tc main_v57_9) : FVec Ideal S2048x64x64 .f32) (ix3 t g n)) ((X (Proc.devRef .tc main_v57_10) : FVec Ideal S2048x64x64 .f32) (ix3 t g n)) ((A.G g).s n t)

/-- A buffer a trip does not write keeps its contents. -/
theorem step0_keep (X : Valuation τ sig (Elt Ideal)) (r : Ref sig .tc) (h : r ∉ cond0_W) (h' : r ∉ body0_W) :
    after body0 (after cond0 X) (Proc.devRef .tc r) = X (Proc.devRef .tc r) := by
  rw [after_of_writes_sub body0 _ body0_writes h', after_of_writes_sub cond0 _ cond0_writes h]

theorem St0.step {X : Valuation τ sig (Elt Ideal)} (k : Fin 2048) (hctr : X (Proc.devRef .tc main_v57_4) = fun _ => (BitVec.ofNat 32 k.val : BitVec 32))
    (h : St0 A X k) : St0 A (after body0 (after cond0 X)) (k + 1) := by
  have e0 := step0_keep X main_v57_0 (by decide) (by decide)
  have e1 := step0_keep X main_v57_1 (by decide) (by decide)
  have e2 := step0_keep X main_v57_2 (by decide) (by decide)
  have e3 := step0_keep X main_v57_3 (by decide) (by decide)
  have hs : ∀ g n, IsC (at2 (X (Proc.devRef .tc main_v57_2)) (ix2 g n) * at2 (X (Proc.devRef .tc main_v57_5)) (ix2 g n) - at2 (X (Proc.devRef .tc main_v57_3)) (ix2 g n) * at2 (X (Proc.devRef .tc main_v57_6)) (ix2 g n) + at3 (X (Proc.devRef .tc main_v57_0)) (ix3 k g n))
      (at2 (X (Proc.devRef .tc main_v57_2)) (ix2 g n) * at2 (X (Proc.devRef .tc main_v57_6)) (ix2 g n) + at2 (X (Proc.devRef .tc main_v57_3)) (ix2 g n) * at2 (X (Proc.devRef .tc main_v57_5)) (ix2 g n) + at3 (X (Proc.devRef .tc main_v57_1)) (ix3 k g n))
      ((A.G g).s n (k + 1)) := fun g n => ((h.p g n).mul (h.s g n)).add (h.x k g n)
  refine ⟨?_, ?_, ?_, ?_, ?_⟩
  · intro t g n; rw [e0, e1]; exact h.x t g n
  · intro g n; rw [e2, e3]; exact h.p g n
  · intro g n
    rw [trip0_5 X k hctr, trip0_6 X k hctr]; exact hs g n
  · intro t g n ht
    rw [trip0_7 X k hctr, trip0_8 X k hctr]
    by_cases e : t = k
    · rw [if_pos e, if_pos e, e]; exact hs g n
    · rw [if_neg e, if_neg e]; exact h.new t g n (by have : t.val ≠ k.val := fun hh => e (Fin.ext hh); omega)
  · intro t g n ht
    rw [trip0_9 X k hctr, trip0_10 X k hctr]
    by_cases e : t = k
    · rw [if_pos e, if_pos e, e]; exact h.s g n
    · rw [if_neg e, if_neg e]; exact h.old t g n (by have : t.val ≠ k.val := fun hh => e (Fin.ext hh); omega)

variable (m : (ℓ : Loc nD τ sig) → Buf (Elt Ideal) ℓ) (c : Dev nD) (h : ReadsV A (launchContents m c))
include h

theorem st0 : ∀ k, k ≤ 2048 → St0 A (trip0 (WA m) k c) k
  | 0, _ => ⟨fun t g n => opsA_x h t g n, fun g n => opsA_p h g n, fun g n => opsA_s g n, fun _ _ _ ht => absurd ht (Nat.not_lt_zero _), fun _ _ _ ht => absurd ht (Nat.not_lt_zero _)⟩
  | k + 1, hk => by
    rw [trip0_succ]
    exact St0.step ⟨k, hk⟩ (trip0_ctr (WA m) c (WA_ctr m c) k) (st0 k (by omega))

omit h in
/-- What the loop does not write is as before it. -/
theorem WB_keep (r : Ref sig .tc) (h : r ∉ cond0_W) (h' : r ∉ body0_W) : WB m c (Proc.devRef .tc r) = WA m c (Proc.devRef .tc r) := by
  unfold WB; rw [after_of_writes_sub cond0 _ cond0_writes h, trip0_keep (WA m) c r h h']
omit h in
theorem WB_trip (r : Ref sig .tc) (h : r ∉ cond0_W) : WB m c (Proc.devRef .tc r) = trip0 (WA m) 2048 c (Proc.devRef .tc r) := by
  unfold WB; rw [after_of_writes_sub cond0 _ cond0_writes h]
omit h in
theorem WA_keep (r : Ref sig .tc) (h : r ∉ opsA_W) : WA m c (Proc.devRef .tc r) = launchContents m c (Proc.devRef .tc r) := by
  unfold WA; rw [after_of_writes_sub opsA _ opsA_writes h]

/-- The states after the loop. -/
theorem WB_new (t : Fin 2048) (g n : Fin 64) :
    IsC ((WB m c (Proc.devRef .tc main_v57_7) : FVec Ideal S2048x64x64 .f32) (ix3 t g n)) ((WB m c (Proc.devRef .tc main_v57_8) : FVec Ideal S2048x64x64 .f32) (ix3 t g n)) ((A.G g).s n (t + 1)) := by
  rw [WB_trip m c _ (by decide), WB_trip m c _ (by decide)]
  exact (st0 m c h 2048 le_rfl).new t g n t.isLt
theorem WB_old (t : Fin 2048) (g n : Fin 64) :
    IsC ((WB m c (Proc.devRef .tc main_v57_9) : FVec Ideal S2048x64x64 .f32) (ix3 t g n)) ((WB m c (Proc.devRef .tc main_v57_10) : FVec Ideal S2048x64x64 .f32) (ix3 t g n)) ((A.G g).s n t) := by
  rw [WB_trip m c _ (by decide), WB_trip m c _ (by decide)]
  exact (st0 m c h 2048 le_rfl).old t g n t.isLt
theorem WB_u (t : Fin 2048) (g : Fin 64) (q : Fin 16) :
    (WB m c (Proc.devRef .tc main_v0) : FVec Ideal S2048x64x16 .f32) (ix3 t g q) = (((A.G g).u t q : ℝ) : EReal) := by
  rw [WB_keep m c _ (by decide) (by decide)]; exact opsA_u h t g q
theorem WB_B (g n : Fin 64) (q : Fin 16) :
    IsC ((WB m c (Proc.devRef .tc main_v42) : FVec Ideal S64x64x16 .f32) (ix3 g n q))
      ((WB m c (Proc.devRef .tc main_v47) : FVec Ideal S64x64x16 .f32) (ix3 g n q)) ((A.G g).B q n) := by
  rw [WB_keep m c _ (by decide) (by decide), WB_keep m c _ (by decide) (by decide)]; exact opsA_B h g n q
theorem WB_p (g n : Fin 64) :
    IsC ((WB m c (Proc.devRef .tc main_v10) : FVec Ideal S64x64 .f32) (ix2 g n))
      ((WB m c (Proc.devRef .tc main_v15) : FVec Ideal S64x64 .f32) (ix2 g n)) ((A.G g).p n) := by
  rw [WB_keep m c _ (by decide) (by decide), WB_keep m c _ (by decide) (by decide)]; exact opsA_p' h g n
theorem WB_args : ReadsV A (WB m c) := by
  have e : ∀ r, r ∉ opsA_W → r ∉ cond0_W → r ∉ body0_W → WB m c (Proc.devRef .tc r) = launchContents m c (Proc.devRef .tc r) :=
    fun r h1 h2 h3 => (WB_keep m c r h2 h3).trans (WA_keep m c r h1)
  unfold ReadsV
  rw [e _ (by decide) (by decide) (by decide), e _ (by decide) (by decide) (by decide), e _ (by decide) (by decide) (by decide), e _ (by decide) (by decide) (by decide),
    e _ (by decide) (by decide) (by decide), e _ (by decide) (by decide) (by decide), e _ (by decide) (by decide) (by decide), e _ (by decide) (by decide) (by decide),
    e _ (by decide) (by decide) (by decide), e _ (by decide) (by decide) (by decide)]
  exact h

end Cert.ReferenceIdeal.Gen
-- ==== Proof.RefBack.lean ====
/-
  The reference's values back: the activation, the loop that carries the state's cotangents back, and the gradients.
-/
module

public import proofs.«01_k».proof.Proof.RefVal

@[expose] public section

set_option maxRecDepth 16384

noncomputable section

open Idealize.ShloMosaic Idealize.ShloMosaic.TcCoe Idealize.SL.Sem Idealize.ShloMosaic.StableHlo
open scoped ComplexConjugate

namespace Cert.ReferenceIdeal.Gen

open Cert.ReferenceIdeal S5

variable {A : Args}

/-! ## Between the loops -/

/-- What the reference holds after its first loop. -/
structure Mid (A : Args) (V : Valuation τ sig (Elt Ideal)) : Prop where
  args : ReadsV A V
  new : ∀ (t : Fin 2048) g n, IsC ((V (Proc.devRef .tc main_v57_7) : FVec Ideal S2048x64x64 .f32) (ix3 t g n)) ((V (Proc.devRef .tc main_v57_8) : FVec Ideal S2048x64x64 .f32) (ix3 t g n)) ((A.G g).s n (t + 1))
  old : ∀ (t : Fin 2048) g n, IsC ((V (Proc.devRef .tc main_v57_9) : FVec Ideal S2048x64x64 .f32) (ix3 t g n)) ((V (Proc.devRef .tc main_v57_10) : FVec Ideal S2048x64x64 .f32) (ix3 t g n)) ((A.G g).s n t)
  u : ∀ (t : Fin 2048) g q, (V (Proc.devRef .tc main_v0) : FVec Ideal S2048x64x16 .f32) (ix3 t g q) = (((A.G g).u t q : ℝ) : EReal)
  p : ∀ g n, IsC ((V (Proc.devRef .tc main_v10) : FVec Ideal S64x64 .f32) (ix2 g n)) ((V (Proc.devRef .tc main_v15) : FVec Ideal S64x64 .f32) (ix2 g n)) ((A.G g).p n)

/-- The activation's input in real parts. -/
theorem yp_eq (t : ℕ) (g : Fin 64) (q : Fin 16) :
    (∑ n : Fin 64, ((A.G g).s n (t + 1)).re * A.cr g q n - ∑ n : Fin 64, ((A.G g).s n (t + 1)).im * A.ci g q n + A.d g q * (A.G g).u t q : ℝ)
      = (A.G g).yp t q := by
  unfold Blk.yp
  simp only [Complex.mul_re, Finset.sum_sub_distrib]
  rfl

section Between

variable {V : Valuation τ sig (Elt Ideal)} (h : Mid A V)
include h

/-- The activation's value. -/
theorem mid_gelu (t : Fin 2048) (k : Fin 1024) :
    (after opsB V (Proc.devRef .tc main_v88) : FVec Ideal S2048x1024 .f32) (ix2 t k)
      = ((gelu ((A.G ⟨k.val / 16, by omega⟩).yp t ⟨k.val % 16, by omega⟩) : ℝ) : EReal) := by
  after_reads_at
  simp only [fun t g n => (h.new t g n).1, fun t g n => (h.new t g n).2, h.args.cr, h.args.ci, h.args.d, h.u, coe_sum, c1_eq, c2_eq, ch_eq, ← EReal.coe_mul, ← EReal.coe_add, ← EReal.coe_sub, ← EReal.coe_one, Ideal.tanh_coe]
  simp only [yp_eq]
  refine congrArg ((↑) : ℝ → EReal) ?_
  simp only [gelu, th, mul_assoc]

/-- The cotangent of the activation's input. -/
theorem mid_dyp (t : Fin 2048) (g : Fin 64) (q : Fin 16) :
    (after (opsB.take 58) V (Proc.devRef .tc main_v103) : FVec Ideal S2048x64x16 .f32) (ix3 t g q) = (((A.G g).dyp t q : ℝ) : EReal) := by
  after_reads_at
  have e1 : (⟨(g.val * 16 + q.val) / 16, by omega⟩ : Fin 64) = g := Fin.ext (by simp only; omega)
  have e2 : (⟨(g.val * 16 + q.val) % 16, by omega⟩ : Fin 16) = q := Fin.ext (by simp only; omega)
  have e3 : (V (Proc.devRef .tc main_arg1) : FVec Ideal S2048x1024 .f32) (ix2 t ⟨g.val * 16 + q.val, by omega⟩) = (((A.G g).dy t q : ℝ) : EReal) := by
    rw [A.G_dy]; exact h.args.dy t (chan g q)
  simp only [e1, e2, e3, fun t g n => (h.new t g n).1, fun t g n => (h.new t g n).2, h.args.cr, h.args.ci, h.args.d, h.u, coe_sum, c1_eq, c2_eq, c3_eq, ch_eq, ← EReal.coe_mul, ← EReal.coe_add, ← EReal.coe_sub, ← EReal.coe_one, Ideal.tanh_coe]
  simp only [yp_eq]
  refine congrArg ((↑) : ℝ → EReal) ?_
  simp only [Blk.dyp, dgelu, th, mul_assoc]

end Between

omit A in
/-- The code between the loops is the activation's part followed by the rest. -/
theorem opsB_split (V : Valuation τ sig (Elt Ideal)) : after opsB V = after (opsB.drop 58) (after (opsB.take 58) V) := by
  rw [← after_append, List.take_append_drop]

/-- What the rest finds. -/
structure Mid' (A : Args) (V : Valuation τ sig (Elt Ideal)) : Prop extends Mid A V where
  dyp : ∀ (t : Fin 2048) g q, (V (Proc.devRef .tc main_v103) : FVec Ideal S2048x64x16 .f32) (ix3 t g q) = (((A.G g).dyp t q : ℝ) : EReal)
  d : ∀ g q, (V (Proc.devRef .tc main_v63) : FVec Ideal S1x64x16 .f32) (ix3 0 g q) = (((A.G g).d q : ℝ) : EReal)

theorem Mid.mid' {V : Valuation τ sig (Elt Ideal)} (h : Mid A V) : Mid' A (after (opsB.take 58) V) := by
  have e : ∀ r : Ref sig .tc, r ∉ opsB_W → after (opsB.take 58) V (Proc.devRef .tc r) = V (Proc.devRef .tc r) := fun r hr =>
    after_of_writes_sub (opsB.take 58) V (List.forall_iff_forall_mem.mpr fun o ho => List.forall_iff_forall_mem.mp opsB_writes o (List.mem_of_mem_take ho)) hr
  refine ⟨⟨?_, ?_, ?_, ?_, ?_⟩, mid_dyp h, ?_⟩
  · unfold ReadsV
    rw [e _ (by decide), e _ (by decide), e _ (by decide), e _ (by decide), e _ (by decide), e _ (by decide), e _ (by decide), e _ (by decide), e _ (by decide), e _ (by decide)]
    exact h.args
  · rw [e _ (by decide), e _ (by decide)]; exact h.new
  · rw [e _ (by decide), e _ (by decide)]; exact h.old
  · rw [e _ (by decide)]; exact h.u
  · rw [e _ (by decide), e _ (by decide)]; exact h.p
  · intro g q
    after_reads_at
    exact h.args.d g q

section Rest

variable {V : Valuation τ sig (Elt Ideal)} (h : Mid' A V)
include h

theorem rest_skip (t : Fin 2048) (g : Fin 64) (q : Fin 16) :
    (after (opsB.drop 58) V (Proc.devRef .tc main_v105) : FVec Ideal S2048x64x16 .f32) (ix3 t g q) = (((A.G g).d q * (A.G g).dyp t q : ℝ) : EReal) := by
  after_reads_at
  simp only [h.dyp, h.d, ← EReal.coe_mul]

theorem rest_dd (g : Fin 64) (q : Fin 16) :
    (after (opsB.drop 58) V (Proc.devRef .tc main_v109) : FVec Ideal S64x16 .f32) (ix2 g q) = (((A.G g).dd q : ℝ) : EReal) := by
  after_reads_at
  simp only [h.dyp, h.u, ← EReal.coe_mul, coe_sum, Finset.univ_unique, Finset.sum_singleton]
  rfl

/-- The gradient of the output matrix: the imaginary parts are carried with their sign. -/
theorem rest_dC (g n : Fin 64) (q : Fin 16) :
    IsC ((after (opsB.drop 58) V (Proc.devRef .tc main_v116) : FVec Ideal S64x16x64 .f32) (ix3 g q n))
      ((after (opsB.drop 58) V (Proc.devRef .tc main_v112) : FVec Ideal S64x16x64 .f32) (ix3 g q n)) ((A.G g).dC n q) := by
  constructor
  · after_reads_at
    simp only [h.dyp, fun t => (h.new t g n).1, ← EReal.coe_mul, coe_sum]
    unfold Blk.dC
    rw [Complex.re_sum]
    simp only [Complex.re_ofReal_mul, Complex.conj_re]
  · after_reads_at
    simp only [h.dyp, fun t => (h.new t g n).2, ← EReal.coe_mul, ← EReal.coe_neg, coe_sum]
    unfold Blk.dC
    rw [Complex.im_sum]
    simp only [Complex.im_ofReal_mul, Complex.conj_im, mul_neg, neg_mul]

/-- The cotangent of the state read out at a row. -/
theorem rest_gx (t : Fin 2048) (g n : Fin 64) :
    IsC ((after (opsB.drop 58) V (Proc.devRef .tc main_v125_0) : FVec Ideal S2048x64x64 .f32) (ix3 t g n))
      ((after (opsB.drop 58) V (Proc.devRef .tc main_v125_1) : FVec Ideal S2048x64x64 .f32) (ix3 t g n)) ((A.G g).gx n t) := by
  constructor
  · after_reads_simp
    simp only [id]
    pointwise
    simp only [zero_add, h.dyp, h.args.cr, ← EReal.coe_mul, coe_sum]
    unfold Blk.gx
    rw [Complex.re_sum]
    simp only [Complex.re_ofReal_mul, Complex.conj_re]
    rfl
  · after_reads_simp
    simp only [id]
    pointwise
    simp only [zero_add, h.dyp, h.args.ci, ← EReal.coe_mul, ← EReal.coe_neg, coe_sum]
    unfold Blk.gx
    rw [Complex.im_sum]
    simp only [Complex.im_ofReal_mul, Complex.conj_im, mul_neg, neg_mul]
    rfl

theorem rest_old (t : Fin 2048) (g n : Fin 64) :
    IsC ((after (opsB.drop 58) V (Proc.devRef .tc main_v125_2) : FVec Ideal S2048x64x64 .f32) (ix3 t g n))
      ((after (opsB.drop 58) V (Proc.devRef .tc main_v125_3) : FVec Ideal S2048x64x64 .f32) (ix3 t g n)) ((A.G g).s n t) := by
  constructor
  · after_reads_simp; exact (h.old t g n).1
  · after_reads_simp; exact (h.old t g n).2

theorem rest_p (g n : Fin 64) :
    IsC ((after (opsB.drop 58) V (Proc.devRef .tc main_v125_4) : FVec Ideal S64x64 .f32) (ix2 g n))
      ((after (opsB.drop 58) V (Proc.devRef .tc main_v125_5) : FVec Ideal S64x64 .f32) (ix2 g n)) ((A.G g).p n) := by
  constructor
  · after_reads_simp; exact (h.p g n).1
  · after_reads_simp; exact (h.p g n).2

omit h in
theorem rest_zero (g n : Fin 64) :
    IsC ((after (opsB.drop 58) V (Proc.devRef .tc main_v125_7) : FVec Ideal S64x64 .f32) (ix2 g n))
      ((after (opsB.drop 58) V (Proc.devRef .tc main_v125_8) : FVec Ideal S64x64 .f32) (ix2 g n)) 0
    ∧ IsC ((after (opsB.drop 58) V (Proc.devRef .tc main_v125_9) : FVec Ideal S64x64 .f32) (ix2 g n))
      ((after (opsB.drop 58) V (Proc.devRef .tc main_v125_10) : FVec Ideal S64x64 .f32) (ix2 g n)) 0 := by
  refine ⟨⟨?_, ?_⟩, ?_, ?_⟩ <;>
  · after_reads_simp
    simp only [id]
    pointwise
    simp

end Rest

/-! ## The loop back -/

/-- What a valuation holds after `k` trips: rows `2048 - k` and later are done. -/
structure St1 (A : Args) (X : Valuation τ sig (Elt Ideal)) (k : ℕ) : Prop where
  gx : ∀ (t : Fin 2048) g n, IsC ((X (Proc.devRef .tc main_v125_0) : FVec Ideal S2048x64x64 .f32) (ix3 t g n)) ((X (Proc.devRef .tc main_v125_1) : FVec Ideal S2048x64x64 .f32) (ix3 t g n)) ((A.G g).gx n t)
  s : ∀ (t : Fin 2048) g n, IsC ((X (Proc.devRef .tc main_v125_2) : FVec Ideal S2048x64x64 .f32) (ix3 t g n)) ((X (Proc.devRef .tc main_v125_3) : FVec Ideal S2048x64x64 .f32) (ix3 t g n)) ((A.G g).s n t)
  p : ∀ g n, IsC ((X (Proc.devRef .tc main_v125_4) : FVec Ideal S64x64 .f32) (ix2 g n)) ((X (Proc.devRef .tc main_v125_5) : FVec Ideal S64x64 .f32) (ix2 g n)) ((A.G g).p n)
  dp : ∀ g n, IsC ((X (Proc.devRef .tc main_v125_7) : FVec Ideal S64x64 .f32) (ix2 g n)) ((X (Proc.devRef .tc main_v125_8) : FVec Ideal S64x64 .f32) (ix2 g n))
    (∑ i ∈ Finset.range k, (A.G g).gr n (2047 - i) * conj ((A.G g).s n (2047 - i)))
  c : ∀ g n, IsC ((X (Proc.devRef .tc main_v125_9) : FVec Ideal S64x64 .f32) (ix2 g n)) ((X (Proc.devRef .tc main_v125_10) : FVec Ideal S64x64 .f32) (ix2 g n))
    (conj ((A.G g).p n) * scan (conj ((A.G g).p n)) (fun i => (A.G g).gx n (2047 - i)) k)
  gr : ∀ (t : Fin 2048) g n, 2048 ≤ t.val + k → IsC ((X (Proc.devRef .tc main_v125_11) : FVec Ideal S2048x64x64 .f32) (ix3 t g n)) ((X (Proc.devRef .tc main_v125_12) : FVec Ideal S2048x64x64 .f32) (ix3 t g n)) ((A.G g).gr n t)

omit A in
/-- A buffer a trip does not write keeps its contents. -/
theorem step1_keep (X : Valuation τ sig (Elt Ideal)) (r : Ref sig .tc) (h : r ∉ cond1_W) (h' : r ∉ body1_W) :
    after body1 (after cond1 X) (Proc.devRef .tc r) = X (Proc.devRef .tc r) := by
  rw [after_of_writes_sub body1 _ body1_writes h', after_of_writes_sub cond1 _ cond1_writes h]

theorem St1.step {X : Valuation τ sig (Elt Ideal)} (j : ℕ) (hj : j < 2048) (hctr : X (Proc.devRef .tc main_v125_6) = fun _ => (BitVec.ofNat 32 j : BitVec 32))
    (h : St1 A X j) : St1 A (after body1 (after cond1 X)) (j + 1) := by
  obtain ⟨k, hk⟩ : ∃ k : Fin 2048, k.val = 2047 - j := ⟨⟨2047 - j, by omega⟩, rfl⟩
  have hj' : j = 2047 - k.val := by omega
  have hc : X (Proc.devRef .tc main_v125_6) = fun _ => (BitVec.ofNat 32 (2047 - k.val) : BitVec 32) := by rw [hctr, hj']
  have hg : ∀ g n, IsC (at2 (X (Proc.devRef .tc main_v125_9)) (ix2 g n) + at3 (X (Proc.devRef .tc main_v125_0)) (ix3 k g n))
      (at2 (X (Proc.devRef .tc main_v125_10)) (ix2 g n) + at3 (X (Proc.devRef .tc main_v125_1)) (ix3 k g n)) ((A.G g).gr n k) := by
    intro g n
    have e := (h.c g n).add (h.gx k g n)
    have e2 : (A.G g).gr n k = conj ((A.G g).p n) * scan (conj ((A.G g).p n)) (fun i => (A.G g).gx n (2047 - i)) j + (A.G g).gx n k := by
      unfold Blk.gr
      rw [scan_succ, hj', show 2047 - (2047 - k.val) = k.val by omega]
    rw [e2]; exact e
  have e0 := step1_keep X main_v125_0 (by decide) (by decide)
  have e1 := step1_keep X main_v125_1 (by decide) (by decide)
  have e2 := step1_keep X main_v125_2 (by decide) (by decide)
  have e3 := step1_keep X main_v125_3 (by decide) (by decide)
  have e4 := step1_keep X main_v125_4 (by decide) (by decide)
  have e5 := step1_keep X main_v125_5 (by decide) (by decide)
  refine ⟨?_, ?_, ?_, ?_, ?_, ?_⟩
  · intro t g n; rw [e0, e1]; exact h.gx t g n
  · intro t g n; rw [e2, e3]; exact h.s t g n
  · intro g n; rw [e4, e5]; exact h.p g n
  · intro g n
    rw [trip1_7 X k hc, trip1_8 X k hc, Finset.sum_range_succ, ← hk]
    obtain ⟨a1, a2⟩ := hg g n
    obtain ⟨b1, b2⟩ := h.s k g n
    obtain ⟨c1, c2⟩ := h.dp g n
    rw [a1, a2]
    simp only [at2, at3, b1, b2, c1, c2]
    simp only [← EReal.coe_mul, ← EReal.coe_add, ← EReal.coe_neg]
    constructor <;> refine congrArg ((↑) : ℝ → EReal) ?_ <;> simp only [Complex.add_re, Complex.add_im, Complex.mul_re, Complex.mul_im, Complex.conj_re, Complex.conj_im] <;> ring
  · intro g n
    rw [trip1_9 X k hc, trip1_10 X k hc, scan_succ]
    have e : conj ((A.G g).p n) * (conj ((A.G g).p n) * scan (conj ((A.G g).p n)) (fun i => (A.G g).gx n (2047 - i)) j + (A.G g).gx n (2047 - j)) = conj ((A.G g).p n) * (A.G g).gr n k := by
      rw [← hk]; unfold Blk.gr
      rw [show 2047 - k.val + 1 = j + 1 by omega, scan_succ, ← hk]
    rw [e]
    obtain ⟨a1, a2⟩ := hg g n
    obtain ⟨b1, b2⟩ := h.p g n
    rw [a1, a2]
    simp only [at2, b1, b2]
    simp only [← EReal.coe_mul, ← EReal.coe_add, ← EReal.coe_neg]
    constructor <;> refine congrArg ((↑) : ℝ → EReal) ?_ <;> simp only [Complex.add_re, Complex.add_im, Complex.mul_re, Complex.mul_im, Complex.conj_re, Complex.conj_im] <;> ring
  · intro t g n ht
    rw [trip1_11 X k hc, trip1_12 X k hc]
    by_cases e : t = k
    · rw [if_pos e, if_pos e, e]; exact hg g n
    · rw [if_neg e, if_neg e]; exact h.gr t g n (by have : t.val ≠ k.val := fun hh => e (Fin.ext hh); omega)

theorem St1.start {V : Valuation τ sig (Elt Ideal)} (h : Mid' A V) : St1 A (after (opsB.drop 58) V) 0 := by
  refine ⟨rest_gx h, rest_old h, rest_p h, fun g n => ?_, fun g n => ?_, fun t _ _ ht => absurd ht (by omega)⟩
  · rw [Finset.sum_range_zero]; exact (rest_zero g n).1
  · rw [show scan (conj ((A.G g).p n)) (fun i => (A.G g).gx n (2047 - i)) 0 = 0 from rfl, mul_zero]; exact (rest_zero g n).2

section Run

variable (m : (ℓ : Loc nD τ sig) → Buf (Elt Ideal) ℓ) (c : Dev nD) (h : ReadsV A (launchContents m c))
include h

theorem mid : Mid A (WB m c) := ⟨WB_args m c h, WB_new m c h, WB_old m c h, WB_u m c h, WB_p m c h⟩
theorem mid' : Mid' A (after (opsB.take 58) (WB m c)) := (mid m c h).mid'

theorem st1 : ∀ k, k ≤ 2048 → St1 A (trip1 (WC m) k c) k
  | 0, _ => by
    show St1 A (WC m c) 0
    unfold WC
    rw [opsB_split]
    exact St1.start (mid' m c h)
  | k + 1, hk => by
    rw [trip1_succ]
    exact St1.step k hk (trip1_ctr (WC m) c (WC_ctr m c) k) (st1 k (by omega))

omit h in
theorem WD_trip (r : Ref sig .tc) (h : r ∉ cond1_W) : WD m c (Proc.devRef .tc r) = trip1 (WC m) 2048 c (Proc.devRef .tc r) := by
  unfold WD; rw [after_of_writes_sub cond1 _ cond1_writes h]
omit h in
theorem WD_keep (r : Ref sig .tc) (h : r ∉ cond1_W) (h' : r ∉ body1_W) : WD m c (Proc.devRef .tc r) = WC m c (Proc.devRef .tc r) := by
  rw [WD_trip m c r h, trip1_keep (WC m) c r h h']
omit h in
theorem WC_keep (r : Ref sig .tc) (h : r ∉ opsB_W) : WC m c (Proc.devRef .tc r) = WB m c (Proc.devRef .tc r) := by
  unfold WC; rw [after_of_writes_sub opsB _ opsB_writes h]

/-- The states' gradients after the loop. -/
theorem WD_gr (t : Fin 2048) (g n : Fin 64) :
    IsC ((WD m c (Proc.devRef .tc main_v125_11) : FVec Ideal S2048x64x64 .f32) (ix3 t g n)) ((WD m c (Proc.devRef .tc main_v125_12) : FVec Ideal S2048x64x64 .f32) (ix3 t g n)) ((A.G g).gr n t) := by
  rw [WD_trip m c _ (by decide), WD_trip m c _ (by decide)]
  exact (st1 m c h 2048 le_rfl).gr t g n (by omega)
/-- The factor's gradient. -/
theorem WD_dp (g n : Fin 64) :
    IsC ((WD m c (Proc.devRef .tc main_v125_7) : FVec Ideal S64x64 .f32) (ix2 g n)) ((WD m c (Proc.devRef .tc main_v125_8) : FVec Ideal S64x64 .f32) (ix2 g n)) ((A.G g).dp n) := by
  rw [WD_trip m c _ (by decide), WD_trip m c _ (by decide)]
  have e := (st1 m c h 2048 le_rfl).dp g n
  have e2 := Finset.sum_range_reflect (fun i => (A.G g).gr n i * conj ((A.G g).s n i)) 2048
  rw [show (A.G g).dp n = ∑ i ∈ Finset.range 2048, (A.G g).gr n i * conj ((A.G g).s n i) from (Finset.sum_range fun i => (A.G g).gr n i * conj ((A.G g).s n i)).symm, ← e2]
  exact e
theorem WD_u (t : Fin 2048) (g : Fin 64) (q : Fin 16) :
    (WD m c (Proc.devRef .tc main_v0) : FVec Ideal S2048x64x16 .f32) (ix3 t g q) = (((A.G g).u t q : ℝ) : EReal) := by
  rw [WD_keep m c _ (by decide) (by decide), WC_keep m c _ (by decide)]; exact WB_u m c h t g q
theorem WD_B (g n : Fin 64) (q : Fin 16) :
    IsC ((WD m c (Proc.devRef .tc main_v42) : FVec Ideal S64x64x16 .f32) (ix3 g n q))
      ((WD m c (Proc.devRef .tc main_v47) : FVec Ideal S64x64x16 .f32) (ix3 g n q)) ((A.G g).B q n) := by
  rw [WD_keep m c _ (by decide) (by decide), WC_keep m c _ (by decide), WD_keep m c _ (by decide) (by decide), WC_keep m c _ (by decide)]; exact WB_B m c h g n q
theorem WD_skip (t : Fin 2048) (g : Fin 64) (q : Fin 16) :
    (WD m c (Proc.devRef .tc main_v105) : FVec Ideal S2048x64x16 .f32) (ix3 t g q) = (((A.G g).d q * (A.G g).dyp t q : ℝ) : EReal) := by
  rw [WD_keep m c _ (by decide) (by decide), WC, opsB_split]; exact rest_skip (mid' m c h) t g q

/-! ## The results -/

omit h in
theorem fin_keep (r : Ref sig .tc) (h : r ∉ opsC_W) : fin m c (Proc.devRef .tc r) = WD m c (Proc.devRef .tc r) := by
  unfold fin; rw [after_of_writes_sub opsC _ opsC_writes h]

theorem fin_gelu (t : Fin 2048) (k : Fin 1024) :
    (fin m c (Proc.devRef .tc main_v88) : FVec Ideal S2048x1024 .f32) (ix2 t k)
      = ((gelu ((A.G ⟨k.val / 16, by omega⟩).yp t ⟨k.val % 16, by omega⟩) : ℝ) : EReal) := by
  rw [fin_keep m c _ (by decide), WD_keep m c _ (by decide) (by decide)]; exact mid_gelu (mid m c h) t k
theorem fin_dd (g : Fin 64) (q : Fin 16) :
    (fin m c (Proc.devRef .tc main_v109) : FVec Ideal S64x16 .f32) (ix2 g q) = (((A.G g).dd q : ℝ) : EReal) := by
  rw [fin_keep m c _ (by decide), WD_keep m c _ (by decide) (by decide), WC, opsB_split]; exact rest_dd (mid' m c h) g q
theorem fin_dC (g n : Fin 64) (q : Fin 16) :
    IsC ((fin m c (Proc.devRef .tc main_v116) : FVec Ideal S64x16x64 .f32) (ix3 g q n))
      ((fin m c (Proc.devRef .tc main_v112) : FVec Ideal S64x16x64 .f32) (ix3 g q n)) ((A.G g).dC n q) := by
  rw [fin_keep m c _ (by decide), fin_keep m c _ (by decide), WD_keep m c _ (by decide) (by decide), WD_keep m c _ (by decide) (by decide), WC, opsB_split]
  exact rest_dC (mid' m c h) g n q
theorem fin_du (t : Fin 2048) (k : Fin 1024) :
    (fin m c (Proc.devRef .tc main_v228) : FVec Ideal S2048x1024 .bf16) (ix2 t k)
      = (((A.G ⟨k.val / 16, by omega⟩).du t ⟨k.val % 16, by omega⟩ : ℝ) : EReal) := by
  have h1 := fun (g n : Fin 64) => (WD_gr m c h t g n).1
  have h2 := fun (g n : Fin 64) => (WD_gr m c h t g n).2
  have h3 := fun (g n : Fin 64) (q : Fin 16) => (WD_B m c h g n q).1
  have h4 := fun (g n : Fin 64) (q : Fin 16) => (WD_B m c h g n q).2
  have h5 := WD_skip m c h t
  unfold fin
  generalize WD m c = Y at *
  after_reads_at
  simp only [h1, h2, h3, h4, h5, ← EReal.coe_mul, coe_sum, ← EReal.coe_add]
  refine congrArg ((↑) : ℝ → EReal) ?_
  unfold Blk.du
  simp only [Complex.mul_re, Complex.conj_re, Complex.conj_im, mul_neg, sub_neg_eq_add, Finset.sum_add_distrib]
  ring
theorem fin_dB (g n : Fin 64) (q : Fin 16) :
    IsC ((after (opsC.take 10) (WD m c) (Proc.devRef .tc main_v135) : FVec Ideal S64x64x16 .f32) (ix3 g n q))
      ((after (opsC.take 10) (WD m c) (Proc.devRef .tc main_v130) : FVec Ideal S64x64x16 .f32) (ix3 g n q)) ((A.G g).dB q n) := by
  have h1 := fun (t : Fin 2048) => (WD_gr m c h t g n).1
  have h2 := fun (t : Fin 2048) => (WD_gr m c h t g n).2
  have h3 := fun (t : Fin 2048) => WD_u m c h t g q
  generalize WD m c = Y at *
  constructor
  · after_reads_at
    simp only [h1, h3, ← EReal.coe_mul, coe_sum]
    unfold Blk.dB
    rw [Complex.re_sum]
    simp only [Complex.re_ofReal_mul]
    exact congrArg ((↑) : ℝ → EReal) (Finset.sum_congr rfl fun t _ => mul_comm _ _)
  · after_reads_at
    simp only [h2, h3, ← EReal.coe_mul, coe_sum]
    unfold Blk.dB
    rw [Complex.im_sum]
    simp only [Complex.im_ofReal_mul]
    exact congrArg ((↑) : ℝ → EReal) (Finset.sum_congr rfl fun t _ => mul_comm _ _)

end Run

end Cert.ReferenceIdeal.Gen
-- ==== Proof.Tail.lean ====
/-
  The end of the two host programs. From the gradients of the factors and of the discretised input matrix both programs go
  back to the poles, the steps and the input matrix by the same operations, so that equal arrays give equal results.
-/
module

public import proofs.«01_k».proof.Proof.KHost
public import proofs.«01_k».proof.Proof.RefRun

@[expose] public section

set_option maxRecDepth 16384

noncomputable section

open Idealize.ShloMosaic Idealize.ShloMosaic.TcCoe Idealize.SL.Sem Idealize.ShloMosaic.StableHlo

namespace Cert.Tail

/-- The arrays both ends start from: `X` is the kernel's valuation before its last host operations, `Y` the reference's. -/
structure Same (X : Valuation KernelIdeal.τ KernelIdeal.sig (Elt Ideal)) (Y : Valuation ReferenceIdeal.τ ReferenceIdeal.sig (Elt Ideal)) : Prop where
  a2 : (X (Proc.devRef .tc KernelIdeal.main_arg2) : FVec Ideal ⟨2, ![64, 64]⟩ .f32) = Y (Proc.devRef .tc ReferenceIdeal.main_arg2)
  a3 : (X (Proc.devRef .tc KernelIdeal.main_arg3) : FVec Ideal ⟨2, ![64, 64]⟩ .f32) = Y (Proc.devRef .tc ReferenceIdeal.main_arg3)
  a5 : (X (Proc.devRef .tc KernelIdeal.main_arg5) : FVec Ideal ⟨3, ![64, 64, 16]⟩ .f32) = Y (Proc.devRef .tc ReferenceIdeal.main_arg5)
  a6 : (X (Proc.devRef .tc KernelIdeal.main_arg6) : FVec Ideal ⟨3, ![64, 64, 16]⟩ .f32) = Y (Proc.devRef .tc ReferenceIdeal.main_arg6)
  v0 : (X (Proc.devRef .tc KernelIdeal.main_v0) : FVec Ideal ⟨1, ![64]⟩ .f32) = Y (Proc.devRef .tc ReferenceIdeal.main_v1)
  v1 : (X (Proc.devRef .tc KernelIdeal.main_v1) : FVec Ideal ⟨2, ![64, 1]⟩ .f32) = Y (Proc.devRef .tc ReferenceIdeal.main_v2)
  v4 : (X (Proc.devRef .tc KernelIdeal.main_v4) : FVec Ideal ⟨2, ![64, 64]⟩ .f32) = Y (Proc.devRef .tc ReferenceIdeal.main_v5)
  v7 : (X (Proc.devRef .tc KernelIdeal.main_v7) : FVec Ideal ⟨2, ![64, 64]⟩ .f32) = Y (Proc.devRef .tc ReferenceIdeal.main_v8)
  v8 : (X (Proc.devRef .tc KernelIdeal.main_v8) : FVec Ideal ⟨2, ![64, 64]⟩ .f32) = Y (Proc.devRef .tc ReferenceIdeal.main_v9)
  v12 : (X (Proc.devRef .tc KernelIdeal.main_v12) : FVec Ideal ⟨2, ![64, 64]⟩ .f32) = Y (Proc.devRef .tc ReferenceIdeal.main_v13)
  v13 : (X (Proc.devRef .tc KernelIdeal.main_v13) : FVec Ideal ⟨2, ![64, 64]⟩ .f32) = Y (Proc.devRef .tc ReferenceIdeal.main_v14)
  v14 : (X (Proc.devRef .tc KernelIdeal.main_v14) : FVec Ideal ⟨2, ![64, 64]⟩ .f32) = Y (Proc.devRef .tc ReferenceIdeal.main_v15)
  v17 : (X (Proc.devRef .tc KernelIdeal.main_v17) : FVec Ideal ⟨2, ![64, 64]⟩ .f32) = Y (Proc.devRef .tc ReferenceIdeal.main_v18)
  v19 : (X (Proc.devRef .tc KernelIdeal.main_v19) : FVec Ideal ⟨2, ![64, 64]⟩ .f32) = Y (Proc.devRef .tc ReferenceIdeal.main_v20)
  v20 : (X (Proc.devRef .tc KernelIdeal.main_v20) : FVec Ideal ⟨2, ![64, 64]⟩ .f32) = Y (Proc.devRef .tc ReferenceIdeal.main_v21)
  v23 : (X (Proc.devRef .tc KernelIdeal.main_v23) : FVec Ideal ⟨2, ![64, 64]⟩ .f32) = Y (Proc.devRef .tc ReferenceIdeal.main_v24)
  v24 : (X (Proc.devRef .tc KernelIdeal.main_v24) : FVec Ideal ⟨2, ![64, 64]⟩ .f32) = Y (Proc.devRef .tc ReferenceIdeal.main_v25)
  v25 : (X (Proc.devRef .tc KernelIdeal.main_v25) : FVec Ideal ⟨2, ![64, 64]⟩ .f32) = Y (Proc.devRef .tc ReferenceIdeal.main_v26)
  v28 : (X (Proc.devRef .tc KernelIdeal.main_v28) : FVec Ideal ⟨2, ![64, 64]⟩ .f32) = Y (Proc.devRef .tc ReferenceIdeal.main_v29)
  v35 : (X (Proc.devRef .tc KernelIdeal.main_v35) : FVec Ideal ⟨3, ![64, 64, 1]⟩ .f32) = Y (Proc.devRef .tc ReferenceIdeal.main_v36)
  v36 : (X (Proc.devRef .tc KernelIdeal.main_v36) : FVec Ideal ⟨3, ![64, 64, 1]⟩ .f32) = Y (Proc.devRef .tc ReferenceIdeal.main_v37)
  v108 : (X (Proc.devRef .tc KernelIdeal.main_v108) : FVec Ideal ⟨2, ![64, 64]⟩ .f32) = Y (Proc.devRef .tc ReferenceIdeal.main_v125_7)
  v109 : (X (Proc.devRef .tc KernelIdeal.main_v109) : FVec Ideal ⟨2, ![64, 64]⟩ .f32) = Y (Proc.devRef .tc ReferenceIdeal.main_v125_8)
  v122 : (X (Proc.devRef .tc KernelIdeal.main_v122) : FVec Ideal ⟨3, ![64, 64, 16]⟩ .f32)
    = Y (Proc.devRef .tc ReferenceIdeal.main_v135)
  v135 : (X (Proc.devRef .tc KernelIdeal.main_v135) : FVec Ideal ⟨3, ![64, 64, 16]⟩ .f32)
    = Y (Proc.devRef .tc ReferenceIdeal.main_v130)

variable {X : Valuation KernelIdeal.τ KernelIdeal.sig (Elt Ideal)} {Y : Valuation ReferenceIdeal.τ ReferenceIdeal.sig (Elt Ideal)}

/-- The gradient of the input matrix's real part. -/
theorem db_re (h : Same X Y) : (after (KernelIdeal.Gen.hostOps2.drop 32) X (Proc.devRef .tc KernelIdeal.main_v156) : FVec Ideal ⟨3, ![64, 64, 16]⟩ .f32)
    = after (ReferenceIdeal.Gen.opsC.drop 10) Y (Proc.devRef .tc ReferenceIdeal.main_v156) := by
  obtain ⟨a2, a3, a5, a6, v0, v1, v4, v7, v8, v12, v13, v14, v17, v19, v20, v23, v24, v25, v28, v35, v36, v108, v109, v122, v135⟩ := h
  after_reads_simp
  simp only [a2, a3, a5, a6, v0, v1, v4, v7, v8, v12, v13, v14, v17, v19, v20, v23, v24, v25, v28, v35, v36, v108, v109, v122, v135]

/-- The gradient of the input matrix's imaginary part. -/
theorem db_im (h : Same X Y) : (after (KernelIdeal.Gen.hostOps2.drop 32) X (Proc.devRef .tc KernelIdeal.main_v149) : FVec Ideal ⟨3, ![64, 64, 16]⟩ .f32)
    = after (ReferenceIdeal.Gen.opsC.drop 10) Y (Proc.devRef .tc ReferenceIdeal.main_v149) := by
  obtain ⟨a2, a3, a5, a6, v0, v1, v4, v7, v8, v12, v13, v14, v17, v19, v20, v23, v24, v25, v28, v35, v36, v108, v109, v122, v135⟩ := h
  after_reads_simp
  simp only [a2, a3, a5, a6, v0, v1, v4, v7, v8, v12, v13, v14, v17, v19, v20, v23, v24, v25, v28, v35, v36, v108, v109, v122, v135]

/-- The gradient of the poles' imaginary part. -/
theorem da_im (h : Same X Y) : (after (KernelIdeal.Gen.hostOps2.drop 32) X (Proc.devRef .tc KernelIdeal.main_v216) : FVec Ideal ⟨2, ![64, 64]⟩ .f32)
    = after (ReferenceIdeal.Gen.opsC.drop 10) Y (Proc.devRef .tc ReferenceIdeal.main_v216) := by
  obtain ⟨a2, a3, a5, a6, v0, v1, v4, v7, v8, v12, v13, v14, v17, v19, v20, v23, v24, v25, v28, v35, v36, v108, v109, v122, v135⟩ := h
  after_reads_simp
  simp only [a2, a3, a5, a6, v0, v1, v4, v7, v8, v12, v13, v14, v17, v19, v20, v23, v24, v25, v28, v35, v36, v108, v109, v122, v135]
  rfl

/-- The gradient of the poles' real part. -/
theorem da_re (h : Same X Y) : (after (KernelIdeal.Gen.hostOps2.drop 32) X (Proc.devRef .tc KernelIdeal.main_v224) : FVec Ideal ⟨2, ![64, 64]⟩ .f32)
    = after (ReferenceIdeal.Gen.opsC.drop 10) Y (Proc.devRef .tc ReferenceIdeal.main_v224) := by
  obtain ⟨a2, a3, a5, a6, v0, v1, v4, v7, v8, v12, v13, v14, v17, v19, v20, v23, v24, v25, v28, v35, v36, v108, v109, v122, v135⟩ := h
  after_reads_simp
  simp only [a2, a3, a5, a6, v0, v1, v4, v7, v8, v12, v13, v14, v17, v19, v20, v23, v24, v25, v28, v35, v36, v108, v109, v122, v135]
  rfl

/-- The gradient of the log steps. -/
theorem dlog_dt (h : Same X Y) : (after (KernelIdeal.Gen.hostOps2.drop 32) X (Proc.devRef .tc KernelIdeal.main_v226) : FVec Ideal ⟨1, ![64]⟩ .f32)
    = after (ReferenceIdeal.Gen.opsC.drop 10) Y (Proc.devRef .tc ReferenceIdeal.main_v226) := by
  obtain ⟨a2, a3, a5, a6, v0, v1, v4, v7, v8, v12, v13, v14, v17, v19, v20, v23, v24, v25, v28, v35, v36, v108, v109, v122, v135⟩ := h
  after_reads_simp
  simp only [a2, a3, a5, a6, v0, v1, v4, v7, v8, v12, v13, v14, v17, v19, v20, v23, v24, v25, v28, v35, v36, v108, v109, v122, v135]
  rfl

end Cert.Tail
-- ==== Proof.Head.lean ====
/-
  The beginning of the two host programs. From equal arguments both discretise by the same operations, so that what the ends
  read again of this beginning is equal.
-/
module

public import proofs.«01_k».proof.Proof.Tail

@[expose] public section

set_option maxRecDepth 16384

noncomputable section

open Idealize.ShloMosaic Idealize.ShloMosaic.TcCoe Idealize.SL.Sem Idealize.ShloMosaic.StableHlo

namespace Cert.Tail

/-- Two valuations, of the kernel and of the reference, hold the same poles, log steps and input matrices. -/
structure SameArgs (V : Valuation KernelIdeal.τ KernelIdeal.sig (Elt Ideal)) (V' : Valuation ReferenceIdeal.τ ReferenceIdeal.sig (Elt Ideal)) : Prop where
  a2 : (V (Proc.devRef .tc KernelIdeal.main_arg2) : FVec Ideal ⟨2, ![64, 64]⟩ .f32) = V' (Proc.devRef .tc ReferenceIdeal.main_arg2)
  a3 : (V (Proc.devRef .tc KernelIdeal.main_arg3) : FVec Ideal ⟨2, ![64, 64]⟩ .f32) = V' (Proc.devRef .tc ReferenceIdeal.main_arg3)
  a4 : (V (Proc.devRef .tc KernelIdeal.main_arg4) : FVec Ideal ⟨1, ![64]⟩ .f32) = V' (Proc.devRef .tc ReferenceIdeal.main_arg4)
  a5 : (V (Proc.devRef .tc KernelIdeal.main_arg5) : FVec Ideal ⟨3, ![64, 64, 16]⟩ .f32) = V' (Proc.devRef .tc ReferenceIdeal.main_arg5)
  a6 : (V (Proc.devRef .tc KernelIdeal.main_arg6) : FVec Ideal ⟨3, ![64, 64, 16]⟩ .f32) = V' (Proc.devRef .tc ReferenceIdeal.main_arg6)

variable {V : Valuation KernelIdeal.τ KernelIdeal.sig (Elt Ideal)} {V' : Valuation ReferenceIdeal.τ ReferenceIdeal.sig (Elt Ideal)} (h : SameArgs V V')
include h

/-! Each array the ends read again is the same after the two beginnings. -/

theorem head_v0 : (after KernelIdeal.Gen.hostOps0 V (Proc.devRef .tc KernelIdeal.main_v0) : FVec Ideal ⟨1, ![64]⟩ .f32)
    = after ReferenceIdeal.Gen.opsA V' (Proc.devRef .tc ReferenceIdeal.main_v1) := by
  after_reads_simp
  simp only [h.a2, h.a3, h.a4]

theorem head_v1 : (after KernelIdeal.Gen.hostOps0 V (Proc.devRef .tc KernelIdeal.main_v1) : FVec Ideal ⟨2, ![64, 1]⟩ .f32)
    = after ReferenceIdeal.Gen.opsA V' (Proc.devRef .tc ReferenceIdeal.main_v2) := by
  after_reads_simp
  simp only [h.a2, h.a3, h.a4]

theorem head_v4 : (after KernelIdeal.Gen.hostOps0 V (Proc.devRef .tc KernelIdeal.main_v4) : FVec Ideal ⟨2, ![64, 64]⟩ .f32)
    = after ReferenceIdeal.Gen.opsA V' (Proc.devRef .tc ReferenceIdeal.main_v5) := by
  after_reads_simp
  simp only [h.a2, h.a3, h.a4]

theorem head_v7 : (after KernelIdeal.Gen.hostOps0 V (Proc.devRef .tc KernelIdeal.main_v7) : FVec Ideal ⟨2, ![64, 64]⟩ .f32)
    = after ReferenceIdeal.Gen.opsA V' (Proc.devRef .tc ReferenceIdeal.main_v8) := by
  after_reads_simp
  simp only [h.a2, h.a3, h.a4]

theorem head_v8 : (after KernelIdeal.Gen.hostOps0 V (Proc.devRef .tc KernelIdeal.main_v8) : FVec Ideal ⟨2, ![64, 64]⟩ .f32)
    = after ReferenceIdeal.Gen.opsA V' (Proc.devRef .tc ReferenceIdeal.main_v9) := by
  after_reads_simp
  simp only [h.a2, h.a3, h.a4]

theorem head_v12 : (after KernelIdeal.Gen.hostOps0 V (Proc.devRef .tc KernelIdeal.main_v12) : FVec Ideal ⟨2, ![64, 64]⟩ .f32)
    = after ReferenceIdeal.Gen.opsA V' (Proc.devRef .tc ReferenceIdeal.main_v13) := by
  after_reads_simp
  simp only [h.a2, h.a3, h.a4]

theorem head_v13 : (after KernelIdeal.Gen.hostOps0 V (Proc.devRef .tc KernelIdeal.main_v13) : FVec Ideal ⟨2, ![64, 64]⟩ .f32)
    = after ReferenceIdeal.Gen.opsA V' (Proc.devRef .tc ReferenceIdeal.main_v14) := by
  after_reads_simp
  simp only [h.a2, h.a3, h.a4]

theorem head_v14 : (after KernelIdeal.Gen.hostOps0 V (Proc.devRef .tc KernelIdeal.main_v14) : FVec Ideal ⟨2, ![64, 64]⟩ .f32)
    = after ReferenceIdeal.Gen.opsA V' (Proc.devRef .tc ReferenceIdeal.main_v15) := by
  after_reads_simp
  simp only [h.a2, h.a3, h.a4]

theorem head_v17 : (after KernelIdeal.Gen.hostOps0 V (Proc.devRef .tc KernelIdeal.main_v17) : FVec Ideal ⟨2, ![64, 64]⟩ .f32)
    = after ReferenceIdeal.Gen.opsA V' (Proc.devRef .tc ReferenceIdeal.main_v18) := by
  after_reads_simp
  simp only [h.a2, h.a3, h.a4]

theorem head_v19 : (after KernelIdeal.Gen.hostOps0 V (Proc.devRef .tc KernelIdeal.main_v19) : FVec Ideal ⟨2, ![64, 64]⟩ .f32)
    = after ReferenceIdeal.Gen.opsA V' (Proc.devRef .tc ReferenceIdeal.main_v20) := by
  after_reads_simp
  simp only [h.a2, h.a3, h.a4]

theorem head_v20 : (after KernelIdeal.Gen.hostOps0 V (Proc.devRef .tc KernelIdeal.main_v20) : FVec Ideal ⟨2, ![64, 64]⟩ .f32)
    = after ReferenceIdeal.Gen.opsA V' (Proc.devRef .tc ReferenceIdeal.main_v21) := by
  after_reads_simp
  simp only [h.a2, h.a3, h.a4]

theorem head_v23 : (after KernelIdeal.Gen.hostOps0 V (Proc.devRef .tc KernelIdeal.main_v23) : FVec Ideal ⟨2, ![64, 64]⟩ .f32)
    = after ReferenceIdeal.Gen.opsA V' (Proc.devRef .tc ReferenceIdeal.main_v24) := by
  after_reads_simp
  simp only [h.a2, h.a3, h.a4]

theorem head_v24 : (after KernelIdeal.Gen.hostOps0 V (Proc.devRef .tc KernelIdeal.main_v24) : FVec Ideal ⟨2, ![64, 64]⟩ .f32)
    = after ReferenceIdeal.Gen.opsA V' (Proc.devRef .tc ReferenceIdeal.main_v25) := by
  after_reads_simp
  simp only [h.a2, h.a3, h.a4]

theorem head_v25 : (after KernelIdeal.Gen.hostOps0 V (Proc.devRef .tc KernelIdeal.main_v25) : FVec Ideal ⟨2, ![64, 64]⟩ .f32)
    = after ReferenceIdeal.Gen.opsA V' (Proc.devRef .tc ReferenceIdeal.main_v26) := by
  after_reads_simp
  simp only [h.a2, h.a3, h.a4]

theorem head_v28 : (after KernelIdeal.Gen.hostOps0 V (Proc.devRef .tc KernelIdeal.main_v28) : FVec Ideal ⟨2, ![64, 64]⟩ .f32)
    = after ReferenceIdeal.Gen.opsA V' (Proc.devRef .tc ReferenceIdeal.main_v29) := by
  after_reads_simp
  simp only [h.a2, h.a3, h.a4]

theorem head_v35 : (after KernelIdeal.Gen.hostOps0 V (Proc.devRef .tc KernelIdeal.main_v35) : FVec Ideal ⟨3, ![64, 64, 1]⟩ .f32)
    = after ReferenceIdeal.Gen.opsA V' (Proc.devRef .tc ReferenceIdeal.main_v36) := by
  after_reads_simp
  simp only [h.a2, h.a3, h.a4]

theorem head_v36 : (after KernelIdeal.Gen.hostOps0 V (Proc.devRef .tc KernelIdeal.main_v36) : FVec Ideal ⟨3, ![64, 64, 1]⟩ .f32)
    = after ReferenceIdeal.Gen.opsA V' (Proc.devRef .tc ReferenceIdeal.main_v37) := by
  after_reads_simp
  simp only [h.a2, h.a3, h.a4]

end Cert.Tail
-- ==== Proof.Join.lean ====
/-
  The two programs' results are the same arrays: where both compute a group's quantities by ways of their own, both are what the
  group's block says; where they go on by the same operations, those start from the same arrays.
-/
module

public import proofs.«01_k».proof.Proof.KVal
public import proofs.«01_k».proof.Proof.RefBack
public import proofs.«01_k».proof.Proof.Head

@[expose] public section

set_option maxRecDepth 16384

noncomputable section

open Idealize.ShloMosaic Idealize.ShloMosaic.TcCoe Idealize.SL.Sem Idealize.ShloMosaic.StableHlo

namespace Cert.Tail

open S5

variable {A : Args} (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- What the kernel's regions and first tail operations do not write is as the beginning left it. -/
theorem keepK (r : Ref KernelIdeal.sig .tc) (h2 : r ∉ KernelIdeal.Gen.hostOps2_W)
    (h1 : ∀ w, Pipeline.arrRef KernelIdeal.spec1 w = r → (KernelIdeal.cfg1.win w).isOut = false)
    (h0 : ∀ w, Pipeline.arrRef KernelIdeal.spec0 w = r → (KernelIdeal.cfg0.win w).isOut = false) :
    after (KernelIdeal.Gen.hostOps2.take 32) (KernelIdeal.Gen.W3 m ρ c) (Proc.devRef .tc r)
      = after KernelIdeal.Gen.hostOps0 (KernelIdeal.Gen.W0 m ρ c) (Proc.devRef .tc r) :=
  (after_of_writes_sub (KernelIdeal.Gen.hostOps2.take 32) _
    (List.forall_iff_forall_mem.mpr fun o ho => List.forall_iff_forall_mem.mp KernelIdeal.Gen.hostOps2_writes o (List.mem_of_mem_take ho)) h2).trans
  ((KernelIdeal.Gen.W3_of m ρ c r h1).trans (KernelIdeal.Gen.W2_of m ρ c r h0))

/-- What the reference's loops and the operations from the first to the tenth of its tail do not write is as the beginning left it. -/
theorem keepR (r : Ref ReferenceIdeal.sig .tc) (hC : r ∉ ReferenceIdeal.Gen.opsC_W) (h1 : r ∉ ReferenceIdeal.Gen.cond1_W) (h1' : r ∉ ReferenceIdeal.Gen.body1_W)
    (hB : r ∉ ReferenceIdeal.Gen.opsB_W) (h0 : r ∉ ReferenceIdeal.Gen.cond0_W) (h0' : r ∉ ReferenceIdeal.Gen.body0_W) :
    after (ReferenceIdeal.Gen.opsC.take 10) (ReferenceIdeal.Gen.WD m' c) (Proc.devRef .tc r)
      = after ReferenceIdeal.Gen.opsA (launchContents m' c) (Proc.devRef .tc r) :=
  (after_of_writes_sub (ReferenceIdeal.Gen.opsC.take 10) _
    (List.forall_iff_forall_mem.mpr fun o ho => List.forall_iff_forall_mem.mp ReferenceIdeal.Gen.opsC_writes o (List.mem_of_mem_take ho)) hC).trans
  ((ReferenceIdeal.Gen.WD_keep m' c r h1 h1').trans ((ReferenceIdeal.Gen.WC_keep m' c r hB).trans (ReferenceIdeal.Gen.WB_keep m' c r h0 h0')))

/-- An argument of the reference ends as launched. -/
theorem fin_arg (r : Ref ReferenceIdeal.sig .tc) (hC : r ∉ ReferenceIdeal.Gen.opsC_W) (h1 : r ∉ ReferenceIdeal.Gen.cond1_W) (h1' : r ∉ ReferenceIdeal.Gen.body1_W)
    (hB : r ∉ ReferenceIdeal.Gen.opsB_W) (h0 : r ∉ ReferenceIdeal.Gen.cond0_W) (h0' : r ∉ ReferenceIdeal.Gen.body0_W) (hA : r ∉ ReferenceIdeal.Gen.opsA_W) :
    ReferenceIdeal.Gen.fin m' c (Proc.devRef .tc r) = m' ((c.tc : Thread ReferenceIdeal.nD ReferenceIdeal.τ).loc r) :=
  (ReferenceIdeal.Gen.fin_keep m' c r hC).trans ((ReferenceIdeal.Gen.WD_keep m' c r h1 h1').trans ((ReferenceIdeal.Gen.WC_keep m' c r hB).trans
    ((ReferenceIdeal.Gen.WB_keep m' c r h0 h0').trans (ReferenceIdeal.Gen.WA_keep m' c r hA))))

/-- Arrays of two axes, or three, equal at every index are equal. -/
theorem ext2 {a b : ℕ} (x y : FVec Ideal ⟨2, ![a, b]⟩ .f32) (h : ∀ i j, x (ix2 i j) = y (ix2 i j)) : x = y := by
  funext i; rw [eq_ix2 i]; exact h _ _
theorem ext3 {a b c : ℕ} (x y : FVec Ideal ⟨3, ![a, b, c]⟩ .f32) (h : ∀ i j k, x (ix3 i j k) = y (ix3 i j k)) : x = y := by
  funext i; rw [eq_ix3 i]; exact h _ _ _

/-- The first output. -/
theorem same_gelu (hK : KernelIdeal.Gen.ReadsV A (KernelIdeal.Gen.W0 m ρ c)) (hR : ReferenceIdeal.Gen.ReadsV A (launchContents m' c)) :
    (KernelIdeal.Gen.W4 m ρ c (Proc.devRef .tc KernelIdeal.main_v106_1) : FVec Ideal ⟨2, ![2048, 1024]⟩ .f32)
      = ReferenceIdeal.Gen.fin m' c (Proc.devRef .tc ReferenceIdeal.main_v88) :=
  ext2 _ _ fun t k => (KernelIdeal.Gen.end_gelu m ρ c hK t k).trans (ReferenceIdeal.Gen.fin_gelu m' c hR t k).symm
/-- The input's gradient. -/
theorem same_du (hK : KernelIdeal.Gen.ReadsV A (KernelIdeal.Gen.W0 m ρ c)) (hR : ReferenceIdeal.Gen.ReadsV A (launchContents m' c)) :
    (KernelIdeal.Gen.W4 m ρ c (Proc.devRef .tc KernelIdeal.main_v107_0) : FVec Ideal ⟨2, ![2048, 1024]⟩ .bf16)
      = ReferenceIdeal.Gen.fin m' c (Proc.devRef .tc ReferenceIdeal.main_v228) :=
  ext2 _ _ fun t k => (KernelIdeal.Gen.end_du m ρ c hK t k).trans (ReferenceIdeal.Gen.fin_du m' c hR t k).symm
/-- The output matrix's gradient, both parts. -/
theorem same_dc_re (hK : KernelIdeal.Gen.ReadsV A (KernelIdeal.Gen.W0 m ρ c)) (hR : ReferenceIdeal.Gen.ReadsV A (launchContents m' c)) :
    (KernelIdeal.Gen.W4 m ρ c (Proc.devRef .tc KernelIdeal.main_v239) : FVec Ideal ⟨3, ![64, 16, 64]⟩ .f32)
      = ReferenceIdeal.Gen.fin m' c (Proc.devRef .tc ReferenceIdeal.main_v116) :=
  ext3 _ _ fun g q n => (KernelIdeal.Gen.end_dC m ρ c hK g n q).1.trans (ReferenceIdeal.Gen.fin_dC m' c hR g n q).1.symm
theorem same_dc_im (hK : KernelIdeal.Gen.ReadsV A (KernelIdeal.Gen.W0 m ρ c)) (hR : ReferenceIdeal.Gen.ReadsV A (launchContents m' c)) :
    (KernelIdeal.Gen.W4 m ρ c (Proc.devRef .tc KernelIdeal.main_v252) : FVec Ideal ⟨3, ![64, 16, 64]⟩ .f32)
      = ReferenceIdeal.Gen.fin m' c (Proc.devRef .tc ReferenceIdeal.main_v112) :=
  ext3 _ _ fun g q n => (KernelIdeal.Gen.end_dC m ρ c hK g n q).2.trans (ReferenceIdeal.Gen.fin_dC m' c hR g n q).2.symm
/-- The skip's gradient. -/
theorem same_dd (hK : KernelIdeal.Gen.ReadsV A (KernelIdeal.Gen.W0 m ρ c)) (hR : ReferenceIdeal.Gen.ReadsV A (launchContents m' c)) :
    (KernelIdeal.Gen.W4 m ρ c (Proc.devRef .tc KernelIdeal.main_v253) : FVec Ideal ⟨2, ![64, 16]⟩ .f32)
      = ReferenceIdeal.Gen.fin m' c (Proc.devRef .tc ReferenceIdeal.main_v109) :=
  ext2 _ _ fun g q => (KernelIdeal.Gen.end_dd m ρ c hK g q).trans (ReferenceIdeal.Gen.fin_dd m' c hR g q).symm

/-- The arrays the two tails start from are the same. -/
theorem same (hK : KernelIdeal.Gen.ReadsV A (KernelIdeal.Gen.W0 m ρ c)) (hR : ReferenceIdeal.Gen.ReadsV A (launchContents m' c))
    (e : SameArgs (KernelIdeal.Gen.W0 m ρ c) (launchContents m' c)) :
    Same (after (KernelIdeal.Gen.hostOps2.take 32) (KernelIdeal.Gen.W3 m ρ c)) (after (ReferenceIdeal.Gen.opsC.take 10) (ReferenceIdeal.Gen.WD m' c)) where
  a2 := (keepK m ρ c KernelIdeal.main_arg2 (by decide) (by decide) (by decide)).trans ((KernelIdeal.Gen.W1_of m ρ c _ (by decide)).trans
    (e.a2.trans ((keepR m' c ReferenceIdeal.main_arg2 (by decide) (by decide) (by decide) (by decide) (by decide) (by decide)).trans (ReferenceIdeal.Gen.WA_keep m' c _ (by decide))).symm))
  a3 := (keepK m ρ c KernelIdeal.main_arg3 (by decide) (by decide) (by decide)).trans ((KernelIdeal.Gen.W1_of m ρ c _ (by decide)).trans
    (e.a3.trans ((keepR m' c ReferenceIdeal.main_arg3 (by decide) (by decide) (by decide) (by decide) (by decide) (by decide)).trans (ReferenceIdeal.Gen.WA_keep m' c _ (by decide))).symm))
  a5 := (keepK m ρ c KernelIdeal.main_arg5 (by decide) (by decide) (by decide)).trans ((KernelIdeal.Gen.W1_of m ρ c _ (by decide)).trans
    (e.a5.trans ((keepR m' c ReferenceIdeal.main_arg5 (by decide) (by decide) (by decide) (by decide) (by decide) (by decide)).trans (ReferenceIdeal.Gen.WA_keep m' c _ (by decide))).symm))
  a6 := (keepK m ρ c KernelIdeal.main_arg6 (by decide) (by decide) (by decide)).trans ((KernelIdeal.Gen.W1_of m ρ c _ (by decide)).trans
    (e.a6.trans ((keepR m' c ReferenceIdeal.main_arg6 (by decide) (by decide) (by decide) (by decide) (by decide) (by decide)).trans (ReferenceIdeal.Gen.WA_keep m' c _ (by decide))).symm))
  v0 := (keepK m ρ c KernelIdeal.main_v0 (by decide) (by decide) (by decide)).trans ((head_v0 e).trans (keepR m' c ReferenceIdeal.main_v1 (by decide) (by decide) (by decide) (by decide) (by decide) (by decide)).symm)
  v1 := (keepK m ρ c KernelIdeal.main_v1 (by decide) (by decide) (by decide)).trans ((head_v1 e).trans (keepR m' c ReferenceIdeal.main_v2 (by decide) (by decide) (by decide) (by decide) (by decide) (by decide)).symm)
  v4 := (keepK m ρ c KernelIdeal.main_v4 (by decide) (by decide) (by decide)).trans ((head_v4 e).trans (keepR m' c ReferenceIdeal.main_v5 (by decide) (by decide) (by decide) (by decide) (by decide) (by decide)).symm)
  v7 := (keepK m ρ c KernelIdeal.main_v7 (by decide) (by decide) (by decide)).trans ((head_v7 e).trans (keepR m' c ReferenceIdeal.main_v8 (by decide) (by decide) (by decide) (by decide) (by decide) (by decide)).symm)
  v8 := (keepK m ρ c KernelIdeal.main_v8 (by decide) (by decide) (by decide)).trans ((head_v8 e).trans (keepR m' c ReferenceIdeal.main_v9 (by decide) (by decide) (by decide) (by decide) (by decide) (by decide)).symm)
  v12 := (keepK m ρ c KernelIdeal.main_v12 (by decide) (by decide) (by decide)).trans ((head_v12 e).trans (keepR m' c ReferenceIdeal.main_v13 (by decide) (by decide) (by decide) (by decide) (by decide) (by decide)).symm)
  v13 := (keepK m ρ c KernelIdeal.main_v13 (by decide) (by decide) (by decide)).trans ((head_v13 e).trans (keepR m' c ReferenceIdeal.main_v14 (by decide) (by decide) (by decide) (by decide) (by decide) (by decide)).symm)
  v14 := (keepK m ρ c KernelIdeal.main_v14 (by decide) (by decide) (by decide)).trans ((head_v14 e).trans (keepR m' c ReferenceIdeal.main_v15 (by decide) (by decide) (by decide) (by decide) (by decide) (by decide)).symm)
  v17 := (keepK m ρ c KernelIdeal.main_v17 (by decide) (by decide) (by decide)).trans ((head_v17 e).trans (keepR m' c ReferenceIdeal.main_v18 (by decide) (by decide) (by decide) (by decide) (by decide) (by decide)).symm)
  v19 := (keepK m ρ c KernelIdeal.main_v19 (by decide) (by decide) (by decide)).trans ((head_v19 e).trans (keepR m' c ReferenceIdeal.main_v20 (by decide) (by decide) (by decide) (by decide) (by decide) (by decide)).symm)
  v20 := (keepK m ρ c KernelIdeal.main_v20 (by decide) (by decide) (by decide)).trans ((head_v20 e).trans (keepR m' c ReferenceIdeal.main_v21 (by decide) (by decide) (by decide) (by decide) (by decide) (by decide)).symm)
  v23 := (keepK m ρ c KernelIdeal.main_v23 (by decide) (by decide) (by decide)).trans ((head_v23 e).trans (keepR m' c ReferenceIdeal.main_v24 (by decide) (by decide) (by decide) (by decide) (by decide) (by decide)).symm)
  v24 := (keepK m ρ c KernelIdeal.main_v24 (by decide) (by decide) (by decide)).trans ((head_v24 e).trans (keepR m' c ReferenceIdeal.main_v25 (by decide) (by decide) (by decide) (by decide) (by decide) (by decide)).symm)
  v25 := (keepK m ρ c KernelIdeal.main_v25 (by decide) (by decide) (by decide)).trans ((head_v25 e).trans (keepR m' c ReferenceIdeal.main_v26 (by decide) (by decide) (by decide) (by decide) (by decide) (by decide)).symm)
  v28 := (keepK m ρ c KernelIdeal.main_v28 (by decide) (by decide) (by decide)).trans ((head_v28 e).trans (keepR m' c ReferenceIdeal.main_v29 (by decide) (by decide) (by decide) (by decide) (by decide) (by decide)).symm)
  v35 := (keepK m ρ c KernelIdeal.main_v35 (by decide) (by decide) (by decide)).trans ((head_v35 e).trans (keepR m' c ReferenceIdeal.main_v36 (by decide) (by decide) (by decide) (by decide) (by decide) (by decide)).symm)
  v36 := (keepK m ρ c KernelIdeal.main_v36 (by decide) (by decide) (by decide)).trans ((head_v36 e).trans (keepR m' c ReferenceIdeal.main_v37 (by decide) (by decide) (by decide) (by decide) (by decide) (by decide)).symm)
  v108 := (ext2 _ _ fun g n => (KernelIdeal.Gen.end_dp m ρ c hK g n).1.trans (ReferenceIdeal.Gen.WD_dp m' c hR g n).1.symm).trans ((after_of_writes_sub (ReferenceIdeal.Gen.opsC.take 10) _
    (List.forall_iff_forall_mem.mpr fun o ho => List.forall_iff_forall_mem.mp ReferenceIdeal.Gen.opsC_writes o (List.mem_of_mem_take ho)) (by decide)).symm)
  v109 := (ext2 _ _ fun g n => (KernelIdeal.Gen.end_dp m ρ c hK g n).2.trans (ReferenceIdeal.Gen.WD_dp m' c hR g n).2.symm).trans ((after_of_writes_sub (ReferenceIdeal.Gen.opsC.take 10) _
    (List.forall_iff_forall_mem.mpr fun o ho => List.forall_iff_forall_mem.mp ReferenceIdeal.Gen.opsC_writes o (List.mem_of_mem_take ho)) (by decide)).symm)
  v122 := ext3 _ _ fun g n q => (KernelIdeal.Gen.end_dB m ρ c hK g n q).1.trans (ReferenceIdeal.Gen.fin_dB m' c hR g n q).1.symm
  v135 := ext3 _ _ fun g n q => (KernelIdeal.Gen.end_dB m ρ c hK g n q).2.trans (ReferenceIdeal.Gen.fin_dB m' c hR g n q).2.symm

theorem W4_split : KernelIdeal.Gen.W4 m ρ c = after (KernelIdeal.Gen.hostOps2.drop 32) (after (KernelIdeal.Gen.hostOps2.take 32) (KernelIdeal.Gen.W3 m ρ c)) := by
  rw [← after_append, List.take_append_drop]
theorem fin_split : ReferenceIdeal.Gen.fin m' c = after (ReferenceIdeal.Gen.opsC.drop 10) (after (ReferenceIdeal.Gen.opsC.take 10) (ReferenceIdeal.Gen.WD m' c)) := by
  rw [← after_append, List.take_append_drop]

end Cert.Tail
-- ==== Proof.PreVal.lean ====
/-
  The precondition read off: every argument entry is a real number, and no pole is zero.
-/
module

public import proofs.«01_k».proof.Pre_finite_and_no_zero_pole
public import proofs.«01_k».proof.Proof.Group

@[expose] public section

set_option maxRecDepth 16384

noncomputable section

open Idealize.ShloMosaic S5

namespace Cert.Pre_finite_and_no_zero_pole

/-- The shape relations of the precondition's operations. -/
theorem facts : Facts where
  bcast_S_S2048x1024 := by decide
  bcast_S_S64x64 := by decide
  bcast_S_S64 := by decide
  bcast_S_S64x64x16 := by decide
  bcast_S_S64x16x64 := by decide
  bcast_S_S64x16 := by decide

/-- A value the comparison finds below `+∞` in magnitude is a real number. -/
theorem real_of (x : Ideal .f32) (h : FloatOps.cmpf .olt (FloatOps.hostAbsf x) (FloatOps.ofBits (F := Ideal) .f32 0x7F800000#32) = 1#1) :
    ∃ r : ℝ, (x : EReal) = r := by
  have e : Ideal.ofBits .f32 0x7F800000#32 = ⊤ := by simp [Ideal.ofBits, Ideal.ieee]
  change Ideal.cmp .olt (max (x : EReal) (-(x : EReal))) (Ideal.ofBits .f32 0x7F800000#32) = 1#1 at h
  rw [e] at h
  have hlt : max (x : EReal) (-(x : EReal)) < ⊤ := by
    by_contra hn
    simp [Ideal.cmp, hn] at h
  rw [max_lt_iff] at hlt
  refine ⟨EReal.toReal x, (EReal.coe_toReal hlt.1.ne ?_).symm⟩
  intro hb
  have h2 := hlt.2
  rw [show (x : EReal) = ⊥ from hb] at h2
  simp at h2

/-- Two real numbers whose squares' sum the comparison finds unequal to zero. -/
theorem ne_of (x y : ℝ) (h : FloatOps.cmpf .une (FloatOps.addf (FloatOps.mulf ((x : EReal) : Ideal .f32) ((x : EReal) : Ideal .f32)) (FloatOps.mulf ((y : EReal) : Ideal .f32) ((y : EReal) : Ideal .f32)))
    (FloatOps.ofBits (F := Ideal) .f32 0x00000000#32) = 1#1) : x * x + y * y ≠ 0 := by
  intro h0
  change Ideal.cmp .une ((x : EReal) * x + (y : EReal) * y) (Ideal.ofBits .f32 0x00000000#32) = 1#1 at h
  rw [Ideal.ofBits_zero_f32, ← EReal.coe_mul, ← EReal.coe_mul, ← EReal.coe_add, h0] at h
  simp [Ideal.cmp] at h

variable [Facts]
variable (x0 x1 : FVec Ideal S2048x1024 .f32) (x2 x3 : FVec Ideal S64x64 .f32) (x4 : FVec Ideal S64 .f32)
  (x5 x6 : FVec Ideal S64x64x16 .f32) (x7 x8 : FVec Ideal S64x16x64 .f32) (x9 : FVec Ideal S64x16 .f32)

/-- The precondition's eleven results are all ones. -/
def Holds : Prop :=
  (fn x0 x1 x2 x3 x4 x5 x6 x7 x8 x9).1 = (fun _ => 1#1)
  ∧ (fn x0 x1 x2 x3 x4 x5 x6 x7 x8 x9).2.1 = (fun _ => 1#1)
  ∧ (fn x0 x1 x2 x3 x4 x5 x6 x7 x8 x9).2.2.1 = (fun _ => 1#1)
  ∧ (fn x0 x1 x2 x3 x4 x5 x6 x7 x8 x9).2.2.2.1 = (fun _ => 1#1)
  ∧ (fn x0 x1 x2 x3 x4 x5 x6 x7 x8 x9).2.2.2.2.1 = (fun _ => 1#1)
  ∧ (fn x0 x1 x2 x3 x4 x5 x6 x7 x8 x9).2.2.2.2.2.1 = (fun _ => 1#1)
  ∧ (fn x0 x1 x2 x3 x4 x5 x6 x7 x8 x9).2.2.2.2.2.2.1 = (fun _ => 1#1)
  ∧ (fn x0 x1 x2 x3 x4 x5 x6 x7 x8 x9).2.2.2.2.2.2.2.1 = (fun _ => 1#1)
  ∧ (fn x0 x1 x2 x3 x4 x5 x6 x7 x8 x9).2.2.2.2.2.2.2.2.1 = (fun _ => 1#1)
  ∧ (fn x0 x1 x2 x3 x4 x5 x6 x7 x8 x9).2.2.2.2.2.2.2.2.2.1 = (fun _ => 1#1)
  ∧ (fn x0 x1 x2 x3 x4 x5 x6 x7 x8 x9).2.2.2.2.2.2.2.2.2.2 = (fun _ => 1#1)

/-- Arguments of which the precondition holds are arrays of real numbers without a zero pole. -/
theorem exists_args (h : Holds x0 x1 x2 x3 x4 x5 x6 x7 x8 x9) : ∃ A : Args, Reads A x0 x1 x2 x3 x4 x5 x6 x7 x8 x9 := by
  obtain ⟨h0, h1, h2, h3, h4, h5, h6, h7, h8, h9, h10⟩ := h
  have r0 := fun i => coe_toReal (real_of (x0 i) (congrFun h0 i))
  have r1 := fun i => coe_toReal (real_of (x1 i) (congrFun h1 i))
  have r2 := fun i => coe_toReal (real_of (x2 i) (congrFun h2 i))
  have r3 := fun i => coe_toReal (real_of (x3 i) (congrFun h3 i))
  have r4 := fun i => coe_toReal (real_of (x4 i) (congrFun h4 i))
  have r5 := fun i => coe_toReal (real_of (x5 i) (congrFun h5 i))
  have r6 := fun i => coe_toReal (real_of (x6 i) (congrFun h6 i))
  have r7 := fun i => coe_toReal (real_of (x7 i) (congrFun h7 i))
  have r8 := fun i => coe_toReal (real_of (x8 i) (congrFun h8 i))
  have r9 := fun i => coe_toReal (real_of (x9 i) (congrFun h9 i))
  refine ⟨⟨fun t k => EReal.toReal (x0 (ix2 t k)), fun t k => EReal.toReal (x1 (ix2 t k)), fun g n => EReal.toReal (x2 (ix2 g n)),
    fun g n => EReal.toReal (x3 (ix2 g n)), fun g => EReal.toReal (x4 (ix1 g)), fun g n q => EReal.toReal (x5 (ix3 g n q)),
    fun g n q => EReal.toReal (x6 (ix3 g n q)), fun g q n => EReal.toReal (x7 (ix3 g q n)), fun g q n => EReal.toReal (x8 (ix3 g q n)),
    fun g q => EReal.toReal (x9 (ix2 g q)), fun g n => ne_of _ _ ?_⟩,
    fun t k => r0 _, fun t k => r1 _, fun g n => r2 _, fun g n => r3 _, fun g => r4 _, fun g n q => r5 _, fun g n q => r6 _,
    fun g q n => r7 _, fun g q n => r8 _, fun g q => r9 _⟩
  rw [← r2 (ix2 g n), ← r3 (ix2 g n)]
  exact congrFun h10 (ix2 g n)

end Cert.Pre_finite_and_no_zero_pole
-- ==== Proof.FfnUp.lean ====
/-
  The SwiGLU's first product, `x · w`: the four blocks of `w`'s columns in, the gate and the up projection out. The kernel's
  44 column blocks and the host's one product are the same sums.
-/
module

public import proofs.«01_k».proof.Defs
public import proofs.«01_k».proof.Proof.Gen.UpIdeal.Value
public import proofs.«01_k».proof.Proof.Gen.UpReferenceIdeal.Run
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.UpIdeal.Gen

open Cert.UpIdeal

/-- Column `n` of 11264, of block `q` and place `r` among four blocks of 2816. -/
def col4 (i : Fin 2) (j : Fin 5632) : Fin 4 := ⟨(5632 * i.val + j.val) / 2816, by omega⟩

/-- The place of that column in its block. -/
def place4 (i : Fin 2) (j : Fin 5632) : Fin 2816 := ⟨(5632 * i.val + j.val) % 2816, by omega⟩

/-- The product, entry by entry. -/
def G (x : FVec Ideal S2048x2048 .f32) (w : FVec Ideal S4x2048x2816 .f32) : FVec Ideal S2x2048x5632 .f32 := fun i =>
  ∑ k : Fin 2048, x (ix2 (i 1) k) * w (ix3 (col4 (i 0) (i 2)) k (place4 (i 0) (i 2)))

/-- Where each window's block lies at grid point `t`. -/
theorem idx : ∀ t : Fin cfg0.N, win0_0.index t = ![0, 0] ∧ win0_1.index t = ![t.val / 11, 0, t.val % 11] ∧ win0_2.index t = ![t.val / 22, 0, t.val % 22] :=
  (by decide +kernel : ∀ t : Fin grid0.N, _)

variable (m : (ℓ : Loc nD τ sig) → Buf (Elt Ideal) ℓ) (c : Dev nD)

/-- The narrowed input is the input. -/
theorem V_x : V m c main_v0 = (m ((c : Thread nD τ).loc main_arg0) : FVec Ideal S2048x2048 .f32) := by
  show StableHlo.after hostOps0 _ _ = _
  unfold hostOps0
  after_reads_simp
  try rfl

/-- The narrowed weights are the weights. -/
theorem V_w : V m c main_v1 = (m ((c : Thread nD τ).loc main_arg1) : FVec Ideal S4x2048x2816 .f32) := by
  show StableHlo.after hostOps0 _ _ = _
  unfold hostOps0
  after_reads_simp
  try rfl

/-- The block of the first operand at point `t`, entry by entry. -/
theorem blk0 (t : Fin cfg0.N) (r k : Fin 2048) : iblk m c 0 t (ix2 r k) = (m ((c : Thread nD τ).loc main_arg0) : FVec Ideal S2048x2048 .f32) (ix2 r k) := by
  rw [← V_x m c]
  blk_ext [iblk, idx t]

/-- The block of the second operand at point `t`, entry by entry. -/
theorem blk1 (t : Fin cfg0.N) (k : Fin 2048) (n : Fin 256) (q : Fin 4) (p : Fin 2816) (hq : q.val = t.val / 11) (hp : p.val = t.val % 11 * 256 + n.val) :
    iblk m c 1 t (ix3 0 k n) = (m ((c : Thread nD τ).loc main_arg1) : FVec Ideal S4x2048x2816 .f32) (ix3 q k p) := by
  rw [← V_w m c]
  blk_ext [iblk, idx t, hq, hp]

/-- What the body computes of its blocks, entry by entry. -/
theorem pay (v0 : Vec Ideal S2048x2048 .bf16) (v2 : Vec Ideal S1x2048x256 .bf16) (r : Fin 2048) (n : Fin 256) :
    k0_pay1 v0 v2 (ix3 0 r n) = ∑ k : Fin 2048, (v0 (ix2 r k) : EReal) * (v2 (ix3 0 k n) : EReal) := by
  unfold k0_pay1
  pointwise

/-- The output array after the run. -/
theorem out : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, n, rfl⟩ : ∃ (r : Fin 2048) (n : Fin 256), y = (ix3 0 r n : S1x2048x256.Idx) := ⟨y 1, y 2, by idx_ext <;> omega⟩
  refine (pay _ _ r n).trans (Finset.sum_congr (M := EReal) rfl fun k _ => ?_)
  rw [blk0 m c t r k, blk1 m c t k n (col4 _ _) (place4 _ _) ?_ ?_]
  · congr 2
    blk_ext [idx t]
  · blk_simp [idx t, col4]
    simp only [Fin.val_zero]
    have ht := lt_of_lt_of_eq t.isLt N_0
    omega
  · blk_simp [idx t, place4]
    simp only [Fin.val_zero]
    have ht := lt_of_lt_of_eq t.isLt N_0
    omega

end Cert.UpIdeal.Gen

namespace Cert.UpReferenceIdeal.Gen
open Cert.UpReferenceIdeal

/-- The host's operations, composed, are the same function. -/
theorem ref (x : FVec Ideal S2048x2048 .f32) (w : FVec Ideal S4x2048x2816 .f32) :
    concatenate S2x2048x5632 0 [⟨S1x2048x5632, (broadcastInDim S1x2048x5632 ![1, 2] bcast_S2048x5632_S1x2048x5632_1_2 (extractStridedSlice S2048x5632 ![0, 0] (Host.dotGeneral dot_S2048x2048_S2048x11264_S2048x11264_1_0_0_1_n_n none x (shapeCast _ (transpose S2048x4x2816 [1, 0, 2] w transposes_S4x2048x2816_S2048x4x2816_1_0_2) shapeCasts_S2048x4x2816_S2048x11264)) slices_S2048x11264_S2048x5632_0_0))⟩, ⟨S1x2048x5632, (broadcastInDim S1x2048x5632 ![1, 2] bcast_S2048x5632_S1x2048x5632_1_2 (extractStridedSlice S2048x5632 ![0, 5632] (Host.dotGeneral dot_S2048x2048_S2048x11264_S2048x11264_1_0_0_1_n_n none x (shapeCast _ (transpose S2048x4x2816 [1, 0, 2] w transposes_S4x2048x2816_S2048x4x2816_1_0_2) shapeCasts_S2048x4x2816_S2048x11264)) slices_S2048x11264_S2048x5632_0_5632))⟩] concatenates_S1x2048x5632_S1x2048x5632_S2x2048x5632_d0
      = UpIdeal.Gen.G x w := by
  funext i
  obtain ⟨i0, r, n, rfl⟩ : ∃ (i0 : Fin 2) (r : Fin 2048) (n : Fin 5632), i = ix3 i0 r n := ⟨i 0, i 1, i 2, eq_ix3 i⟩
  pointwise
  obtain rfl | rfl : i0 = 0 ∨ i0 = 1 := by omega
  · rw [dif_pos (by decide)]
    refine Finset.sum_congr (M := EReal) rfl fun k _ => ?_
    congr 2
    blk_ext [UpIdeal.Gen.col4, UpIdeal.Gen.place4]
  · rw [dif_neg (by decide)]
    refine Finset.sum_congr (M := EReal) rfl fun k _ => ?_
    rfl

end Cert.UpReferenceIdeal.Gen

namespace Cert.FfnUp

/-- The host's program runs, leaves its arguments and every counter at zero. -/
theorem reference_frame : quiescent_UpReferenceIdeal (hUpReferenceIdeal := UpReferenceIdeal.Gen.facts) := fun m g _ =>
  (θ_run UpReferenceIdeal.defs _ _).mono (fun r h => ⟨fun c => (h c).2, sem_eq_zero_of_no_sems (by decide) r.2⟩) (UpReferenceIdeal.Value.run m g)

/-- Kernel and host end with the same product. -/
theorem value : algebraic_UpIdeal_UpReferenceIdeal (hUpIdeal := UpIdeal.Gen.facts) (hUpReferenceIdeal := UpReferenceIdeal.Gen.facts) := fun m g m' g' _ he =>
  ⟨fun c => UpIdeal.Gen.G (m ((c.tc : Thread UpIdeal.nD UpIdeal.τ).loc UpIdeal.main_arg0)) (m ((c.tc : Thread UpIdeal.nD UpIdeal.τ).loc UpIdeal.main_arg1)),
    (θ_run UpIdeal.defs _ _).mono (fun _ h c => ⟨(h c).1.trans (UpIdeal.Gen.out m c), (h c).2⟩) (UpIdeal.Value.run_blocks m g),
    (θ_run UpReferenceIdeal.defs _ _).mono (fun _ h c => ⟨(h c).1.trans ((UpReferenceIdeal.Gen.ref _ _).trans (congrArg₂ UpIdeal.Gen.G (he c).1 (he c).2)), (h c).2⟩)
      (UpReferenceIdeal.Value.run m' g')⟩

end Cert.FfnUp
-- ==== Proof.FfnKit.lean ====
/-
  What several of the proofs share: a nonnegative finite factor goes in and out of a sum of extended reals; a whole buffer read back is what was stored;
  the layer norm of one row.
-/
module

public import Idealize.ShloMosaic.Lib.Pipeline.ValueKit

@[expose] public section

noncomputable section

open Idealize.ShloMosaic

namespace Cert.FfnKit

/-- A nonnegative finite factor goes out of a sum, whatever infinities stand under it. -/
theorem mul_sum_of_finite {ι : Type*} (s : Finset ι) (f : ι → EReal) (q : ℝ) (hq : 0 ≤ q) : ∑ k ∈ s, (q : EReal) * f k = (q : EReal) * ∑ k ∈ s, f k := by
  classical
  induction s using Finset.induction_on with
  | empty => simp
  | insert a s ha ih =>
    rw [Finset.sum_insert ha, Finset.sum_insert ha, ih, EReal.left_distrib_of_nonneg_of_ne_top (EReal.coe_nonneg.mpr hq) (EReal.coe_ne_top q)]

/-- The bits of one half are a nonnegative real. -/
theorem half : ∃ q : ℝ, 0 ≤ q ∧ Ideal.ofBits .f32 0x3F000000#32 = (q : EReal) := by
  refine ⟨(2 : ℝ)⁻¹, by norm_num, ?_⟩
  simp only [Ideal.ofBits, Ideal.ieee]
  simp
  rw [← EReal.coe_mul]
  norm_num

/-- A load of a whole buffer reads at each place what the stores before it left there. -/
theorem readCov_whole {Val : EltTy → Type} [∀ e, Nonempty (Val e)] {sig : RefSig} {κ : Kind} {sp : Space} {S : Shape} {e : EltTy} (v : View sig κ sp S e)
    (L : List (View.Piece Val S e)) {off : Fin S.rank → ℕ} (inb : ∀ a, off a + S.size a ≤ S.size a) (h : ∀ a, off a = 0) (y : S.Idx) :
    v.readCov L (Rect.unit off (no_index S.size) inb).toLoadRect y = View.canon L y := by
  rw [View.readCov_eq_canon']
  refine congrArg (View.canon L) (funext fun a => Fin.ext ?_)
  show off a + 1 * (y a).val = (y a).val
  rw [h, one_mul, zero_add]

/-- Entry `n` of the layer norm of the row `f`, with that entry's scale `g` and shift `b`: less the mean, over the root of the mean square plus 1e-5. -/
def norm (f : Fin 2048 → EReal) (g b : EReal) (n : Fin 2048) : EReal :=
  (f n - Ideal.div (∑ k, f k) (Ideal.ofBits .f32 0x45000000#32))
      * Ideal.rsqrt (Ideal.div (∑ k, (f k - Ideal.div (∑ j, f j) (Ideal.ofBits .f32 0x45000000#32)) * (f k - Ideal.div (∑ j, f j) (Ideal.ofBits .f32 0x45000000#32)))
          (Ideal.ofBits .f32 0x45000000#32) + Ideal.ofBits .f32 0x3727C5AC#32) * g + b

end Cert.FfnKit
-- ==== Proof.FfnMid.lean ====
/-
  The middle of the feed-forward block's backward pass. From `dr`, `w` and the pre-activations `h` (gate half and up half) the
  kernel's 4 by 11 blocks and the host's differentiated program leave the same gradient of `h` and the same activation.
-/
module

public import proofs.«01_k».proof.Defs
public import proofs.«01_k».proof.Proof.Gen.MidIdeal.Value
public import proofs.«01_k».proof.Proof.Gen.MidReferenceIdeal.Run
public import proofs.«01_k».proof.Proof.FfnKit
public import proofs.«01_k».proof.Proof.PreVal
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MidIdeal.Gen

open Cert.MidIdeal

/-- The gradient of the activation: `dr / 2` times `w` transposed. -/
def da (d : FVec Ideal S2048x2048 .f32) (w : FVec Ideal S5632x2048 .f32) (r : Fin 2048) (n : Fin 5632) : EReal :=
  ∑ k : Fin 2048, (Ideal.ofBits .f32 0x3F000000#32 * (d (ix2 r k) : EReal)) * (w (ix2 n k) : EReal)

/-- The gradient of the gate half, from the activation's gradient `a`, gate `g` and up value `u`. -/
def dGate (a g u : EReal) : EReal := (a * u) * (Ideal.logistic g * (1 + g * (1 - Ideal.logistic g)))

/-- The gradient of the up half. -/
def dUp (a g : EReal) : EReal := a * (g * Ideal.logistic g)

/-- The gradient of the pre-activations, entry by entry. -/
def G (d : FVec Ideal S2048x2048 .f32) (w : FVec Ideal S5632x2048 .f32) (h : FVec Ideal S2x2048x5632 .f32) : FVec Ideal S2x2048x5632 .bf16 := fun i =>
  if (i 0).val = 0 then dGate (da d w (i 1) (i 2)) (h (ix3 0 (i 1) (i 2))) (h (ix3 1 (i 1) (i 2))) else dUp (da d w (i 1) (i 2)) (h (ix3 0 (i 1) (i 2)))

/-- The gradient's gate half. -/
theorem G_gate (d : FVec Ideal S2048x2048 .f32) (w : FVec Ideal S5632x2048 .f32) (h : FVec Ideal S2x2048x5632 .f32) (r : Fin 2048) (n : Fin 5632) :
    G d w h (ix3 0 r n) = dGate (da d w r n) (h (ix3 0 r n)) (h (ix3 1 r n)) := if_pos rfl

/-- The gradient's up half. -/
theorem G_up (d : FVec Ideal S2048x2048 .f32) (w : FVec Ideal S5632x2048 .f32) (h : FVec Ideal S2x2048x5632 .f32) (r : Fin 2048) (n : Fin 5632) :
    G d w h (ix3 1 r n) = dUp (da d w r n) (h (ix3 0 r n)) := if_neg Nat.one_ne_zero

/-- The activation, entry by entry. -/
def A (h : FVec Ideal S2x2048x5632 .f32) : FVec Ideal S2048x5632 .bf16 := fun i =>
  ((h (ix3 0 (i 0) (i 1)) : EReal) * Ideal.logistic (h (ix3 0 (i 0) (i 1)))) * (h (ix3 1 (i 0) (i 1)) : EReal)

/-- Where each window's block lies at grid point `t`. -/
theorem idx : ∀ t : Fin cfg0.N, win0_0.index t = ![t.val / 11, 0] ∧ win0_1.index t = ![t.val % 11, 0]
    ∧ win0_2.index t = ![0, t.val / 11, t.val % 11] ∧ win0_3.index t = ![0, t.val / 11, t.val % 11] ∧ win0_4.index t = ![t.val / 11, t.val % 11] :=
  (by decide +kernel : ∀ t : Fin grid0.N, _)

variable (m : (ℓ : Loc nD τ sig) → Buf (Elt Ideal) ℓ) (c : Dev nD)

/-- The narrowed weights are the weights. -/
theorem V_w : V m c main_v0 = (m ((c : Thread nD τ).loc main_arg1) : FVec Ideal S5632x2048 .f32) := by
  show StableHlo.after hostOps0 _ _ = _
  unfold hostOps0
  after_reads_simp
  try rfl

/-- The block of `dr` at point `t`. -/
theorem blk0 (t : Fin cfg0.N) (r : Fin 512) (k R : Fin 2048) (hR : R.val = t.val / 11 * 512 + r.val) :
    iblk m c 0 t (ix2 r k) = (m ((c : Thread nD τ).loc main_arg0) : FVec Ideal S2048x2048 .f32) (ix2 R k) := by
  rw [← V_main_arg0 m c]
  blk_ext [iblk, idx t, hR]

/-- The block of the weights at point `t`. -/
theorem blk1 (t : Fin cfg0.N) (n : Fin 512) (k : Fin 2048) (N : Fin 5632) (hN : N.val = t.val % 11 * 512 + n.val) :
    iblk m c 1 t (ix2 n k) = (m ((c : Thread nD τ).loc main_arg1) : FVec Ideal S5632x2048 .f32) (ix2 N k) := by
  rw [← V_w m c]
  blk_ext [iblk, idx t, hN]

/-- The block of the pre-activations at point `t`. -/
theorem blk2 (t : Fin cfg0.N) (q : Fin 2) (r n : Fin 512) (R : Fin 2048) (N : Fin 5632) (hR : R.val = t.val / 11 * 512 + r.val) (hN : N.val = t.val % 11 * 512 + n.val) :
    iblk m c 2 t (ix3 q r n) = (m ((c : Thread nD τ).loc main_arg2) : FVec Ideal S2x2048x5632 .f32) (ix3 q R N) := by
  rw [← V_main_arg2 m c]
  blk_ext [iblk, idx t, hR, hN]

/-- The activation's gradient over one block. -/
def daBlk (x0 : Vec Ideal S512x2048 .f32) (x1 : Vec Ideal S512x2048 .bf16) (r n : Fin 512) : EReal :=
  ∑ k : Fin 2048, (Ideal.ofBits .f32 0x3F000000#32 * (x0 (ix2 r k) : EReal)) * (x1 (ix2 n k) : EReal)

/-- The first product of the body, entry by entry. -/
theorem pay1 (x0 : Vec Ideal S512x2048 .f32) (x1 : Vec Ideal S512x2048 .bf16) (r n : Fin 512) : k0_pay1 x0 x1 (ix2 r n) = daBlk x0 x1 r n := by
  unfold k0_pay1 daBlk
  pointwise

/-- What the body stores in the gate half. -/
theorem pay7 (x0 : Vec Ideal S512x2048 .f32) (x1 : Vec Ideal S512x2048 .bf16) (x2 x3 : Vec Ideal S1x512x512 .f32) (r n : Fin 512) :
    k0_pay7 x0 x1 x2 x3 (ix3 0 r n) = dGate (daBlk x0 x1 r n) (x2 (ix3 0 r n)) (x3 (ix3 0 r n)) := by
  rw [← pay1]
  unfold k0_pay7 k0_pay4 k0_pay3 k0_pay2 dGate
  generalize k0_pay1 x0 x1 = v
  pointwise

/-- What the body stores in the up half. -/
theorem pay8 (x0 : Vec Ideal S512x2048 .f32) (x1 : Vec Ideal S512x2048 .bf16) (x2 : Vec Ideal S1x512x512 .f32) (r n : Fin 512) :
    k0_pay8 x0 x1 x2 (ix3 0 r n) = dUp (daBlk x0 x1 r n) (x2 (ix3 0 r n)) := by
  rw [← pay1]
  unfold k0_pay8 k0_pay5 k0_pay4 k0_pay2 dUp
  generalize k0_pay1 x0 x1 = v
  pointwise

/-- What the body stores as the activation. -/
theorem pay6 (x2 x3 : Vec Ideal S1x512x512 .f32) (r n : Fin 512) :
    k0_pay6 x2 x3 (ix2 r n) = ((x2 (ix3 0 r n) : EReal) * Ideal.logistic (x2 (ix3 0 r n))) * (x3 (ix3 0 r n) : EReal) := by
  unfold k0_pay6 k0_pay5 k0_pay4 k0_pay3 k0_pay2
  pointwise

/-- A block of the activation's gradient is its block of the whole. -/
theorem da_blk (t : Fin cfg0.N) (r n : Fin 512) (R : Fin 2048) (N : Fin 5632) (hR : R.val = t.val / 11 * 512 + r.val) (hN : N.val = t.val % 11 * 512 + n.val) :
    daBlk (iblk m c 0 t) (iblk m c 1 t) r n = da (m ((c : Thread nD τ).loc main_arg0)) (m ((c : Thread nD τ).loc main_arg1)) R N :=
  Finset.sum_congr (M := EReal) rfl fun k _ => congrArg₂ (fun z w : EReal => (Ideal.ofBits .f32 0x3F000000#32 * z) * w) (blk0 m c t r k R hR) (blk1 m c t n k N hN)

/-- The gate half of the staged pre-activations. -/
theorem ld0 (x : Vec Ideal S2x512x512 .f32) (r n : Fin 512) : (View.ld x r0_1 : Vec Ideal S1x512x512 .f32) (ix3 0 r n) = x (ix3 0 r n) := by
  show x _ = x _
  refine congrArg x ?_
  idx_ext

/-- The up half of the staged pre-activations. -/
theorem ld1 (x : Vec Ideal S2x512x512 .f32) (r n : Fin 512) : (View.ld x r0_2 : Vec Ideal S1x512x512 .f32) (ix3 0 r n) = x (ix3 1 r n) := by
  show x _ = x _
  refine congrArg x ?_
  idx_ext

/-- The activation array after the run. -/
theorem out4 : (dats m 0 c).arrAt 4 cfg0.N = A (m ((c : Thread nD τ).loc main_arg2)) := by
  refine (dats m 0 c).arrAt_eq_of_covers 4 _ (by decide +kernel) fun t hf y => ?_
  have ht := lt_of_lt_of_eq t.isLt N_0
  blk_simp
  rw [after0_4]
  obtain ⟨r, n, rfl⟩ : ∃ (r n : Fin 512), y = (ix2 r n : S512x512.Idx) := ⟨y 0, y 1, by idx_ext <;> omega⟩
  frame_out
  have hi : (((View.whole main_v1_1).slice (win0_4.rect t)).emb (ix2 r n)) = (ix2 ⟨t.val / 11 * 512 + r.val, by omega⟩ ⟨t.val % 11 * 512 + n.val, by omega⟩ : S2048x5632.Idx) := by
    blk_ext [idx t]
  rw [hi, pay6, ld0, ld1, blk2 m c t 0 r n ⟨t.val / 11 * 512 + r.val, by omega⟩ ⟨t.val % 11 * 512 + n.val, by omega⟩ rfl rfl,
    blk2 m c t 1 r n ⟨t.val / 11 * 512 + r.val, by omega⟩ ⟨t.val % 11 * 512 + n.val, by omega⟩ rfl rfl]
  rfl

/-- The block of the gradient, from the three staged blocks. -/
def E3 (x0 : Vec Ideal S512x2048 .f32) (x1 : Vec Ideal S512x2048 .bf16) (x2 : Vec Ideal S2x512x512 .f32) : Vec Ideal S2x512x512 .bf16 := fun y =>
  if (y 0).val = 0 then dGate (daBlk x0 x1 (y 1) (y 2)) (x2 (ix3 0 (y 1) (y 2))) (x2 (ix3 1 (y 1) (y 2))) else dUp (daBlk x0 x1 (y 1) (y 2)) (x2 (ix3 0 (y 1) (y 2)))

/-- That block's gate half. -/
theorem E3_gate (x0 : Vec Ideal S512x2048 .f32) (x1 : Vec Ideal S512x2048 .bf16) (x2 : Vec Ideal S2x512x512 .f32) (r n : Fin 512) :
    E3 x0 x1 x2 (ix3 0 r n) = dGate (daBlk x0 x1 r n) (x2 (ix3 0 r n)) (x2 (ix3 1 r n)) := if_pos rfl

/-- That block's up half. -/
theorem E3_up (x0 : Vec Ideal S512x2048 .f32) (x1 : Vec Ideal S512x2048 .bf16) (x2 : Vec Ideal S2x512x512 .f32) (r n : Fin 512) :
    E3 x0 x1 x2 (ix3 1 r n) = dUp (daBlk x0 x1 r n) (x2 (ix3 0 r n)) := if_neg Nat.one_ne_zero

/-- The two stores, one half each, leave that block. -/
theorem canon3 (x0 : Vec Ideal S512x2048 .f32) (x1 : Vec Ideal S512x2048 .bf16) (x2 : Vec Ideal S2x512x512 .f32) (y : S2x512x512.Idx) :
    View.canon [⟨r0_2, k0_pay8 x0 x1 (View.ld x2 r0_1)⟩, ⟨r0_1, k0_pay7 x0 x1 (View.ld x2 r0_1) (View.ld x2 r0_2)⟩] y = E3 x0 x1 x2 y := by
  refine View.canon_apply_of_pieces (E3 x0 x1 x2) _ ?_ y (cover0_3 _ _ y)
  intro pc hpc
  rcases List.mem_cons.mp hpc with rfl | hpc
  · intro x
    obtain ⟨r, n, rfl⟩ : ∃ (r n : Fin 512), x = (ix3 0 r n : S1x512x512.Idx) := ⟨x 1, x 2, by idx_ext <;> omega⟩
    have hi : r0_2.emb (ix3 0 r n : S1x512x512.Idx) = (ix3 1 r n : S2x512x512.Idx) := by blk_ext
    dsimp only
    rw [hi]
    refine (pay8 _ _ _ r n).trans ?_
    rw [ld0, E3_up]
  rcases List.mem_cons.mp hpc with rfl | hpc
  · intro x
    obtain ⟨r, n, rfl⟩ : ∃ (r n : Fin 512), x = (ix3 0 r n : S1x512x512.Idx) := ⟨x 1, x 2, by idx_ext <;> omega⟩
    have hi : r0_1.emb (ix3 0 r n : S1x512x512.Idx) = (ix3 0 r n : S2x512x512.Idx) := by blk_ext
    dsimp only
    rw [hi]
    refine (pay7 _ _ _ _ r n).trans ?_
    rw [ld0, ld1, E3_gate]
  cases hpc

/-- The gradient array after the run. -/
theorem out3 : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := lt_of_lt_of_eq t.isLt N_0
  blk_simp
  rw [after0_3]
  obtain ⟨q, r, n, rfl⟩ : ∃ (q : Fin 2) (r n : Fin 512), y = (ix3 q r n : S2x512x512.Idx) := ⟨y 0, y 1, y 2, by idx_ext <;> omega⟩
  frame_out
  refine (canon3 _ _ _ _).trans ?_
  have hi : (((View.whole main_v1_0).slice (win0_3.rect t)).emb (ix3 q r n)) = (ix3 q ⟨t.val / 11 * 512 + r.val, by omega⟩ ⟨t.val % 11 * 512 + n.val, by omega⟩ : S2x2048x5632.Idx) := by
    blk_ext [idx t]
  rw [hi]
  have ea := da_blk m c t r n ⟨t.val / 11 * 512 + r.val, by omega⟩ ⟨t.val % 11 * 512 + n.val, by omega⟩ rfl rfl
  have e0 := blk2 m c t 0 r n ⟨t.val / 11 * 512 + r.val, by omega⟩ ⟨t.val % 11 * 512 + n.val, by omega⟩ rfl rfl
  have e1 := blk2 m c t 1 r n ⟨t.val / 11 * 512 + r.val, by omega⟩ ⟨t.val % 11 * 512 + n.val, by omega⟩ rfl rfl
  obtain rfl | rfl : q = 0 ∨ q = 1 := by omega
  · rw [E3_gate, G_gate, ea, e0, e1]
  · rw [E3_up, G_up, ea, e0]

end Cert.MidIdeal.Gen

namespace Cert.MidReferenceIdeal.Gen
open Cert.MidReferenceIdeal

/-- Of real numbers, differentiating `g / (1 + exp (-g)) * u` as a product of three is the kernel's factored derivative. -/
theorem gate_eq (a g u : ℝ) :
    ((a : EReal) * u * Ideal.logistic g + (g : EReal) * (a * u) * (Ideal.logistic g * (1 - Ideal.logistic g)) : EReal) = MidIdeal.Gen.dGate a g u := by
  unfold MidIdeal.Gen.dGate
  rw [Ideal.logistic_coe]
  generalize ((1 + Real.exp (-g))⁻¹ : ℝ) = s
  rw [← EReal.coe_one]
  simp only [← EReal.coe_mul, ← EReal.coe_sub, ← EReal.coe_add]
  exact congrArg _ (by ring)

/-- Real arguments leave a real gradient of the activation. -/
theorem da_real (d : FVec Ideal S2048x2048 .f32) (w : FVec Ideal S5632x2048 .f32) (hd : ∀ i, ∃ x : ℝ, (d i : EReal) = x) (hw : ∀ i, ∃ x : ℝ, (w i : EReal) = x)
    (r : Fin 2048) (n : Fin 5632) : ∃ x : ℝ, MidIdeal.Gen.da d w r n = x := by
  obtain ⟨q, -, hq⟩ := FfnKit.half
  choose d' hd using hd
  choose w' hw using hw
  refine ⟨∑ k : Fin 2048, (q * d' (ix2 r k)) * w' (ix2 n k), ?_⟩
  rw [← S5.coe_sum]
  unfold MidIdeal.Gen.da
  refine Finset.sum_congr (M := EReal) rfl fun k _ => ?_
  rw [hq, hd, hw, EReal.coe_mul, EReal.coe_mul]

/-- The host's activation. -/
theorem refA (h : FVec Ideal S2x2048x5632 .f32) :
    truncf .bf16 (mulf (mulf (shapeCast _ (extractStridedSlice S1x2048x5632 ![0, 0, 0] h slices_S2x2048x5632_S1x2048x5632_0_0_0) shapeCasts_S1x2048x5632_S2048x5632) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (shapeCast _ (extractStridedSlice S1x2048x5632 ![0, 0, 0] h slices_S2x2048x5632_S1x2048x5632_0_0_0) shapeCasts_S1x2048x5632_S2048x5632)))))) (shapeCast _ (extractStridedSlice S1x2048x5632 ![1, 0, 0] h slices_S2x2048x5632_S1x2048x5632_1_0_0) shapeCasts_S1x2048x5632_S2048x5632)) bitsLt_bf16_f32
      = MidIdeal.Gen.A h := by
  funext i
  obtain ⟨r, n, rfl⟩ : ∃ (r : Fin 2048) (n : Fin 5632), i = ix2 r n := ⟨i 0, i 1, eq_ix2 i⟩
  pointwise
  rfl

/-- The host's gradient, of real arguments. -/
theorem ref (d : FVec Ideal S2048x2048 .f32) (w : FVec Ideal S5632x2048 .f32) (h : FVec Ideal S2x2048x5632 .f32)
    (hd : ∀ i, ∃ x : ℝ, (d i : EReal) = x) (hw : ∀ i, ∃ x : ℝ, (w i : EReal) = x) (hh : ∀ i, ∃ x : ℝ, (h i : EReal) = x) :
    truncf .bf16 (addf (pad S2x2048x5632 ![1, 0, 0] ![0, 0, 0] ![0, 0, 0] (broadcastInDim S1x2048x5632 ![1, 2] bcast_S2048x5632_S1x2048x5632_1_2 (mulf (mulf (shapeCast _ (extractStridedSlice S1x2048x5632 ![0, 0, 0] h slices_S2x2048x5632_S1x2048x5632_0_0_0) shapeCasts_S1x2048x5632_S2048x5632) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (shapeCast _ (extractStridedSlice S1x2048x5632 ![0, 0, 0] h slices_S2x2048x5632_S1x2048x5632_0_0_0) shapeCasts_S1x2048x5632_S2048x5632)))))) (Host.dotGeneral dot_S2048x2048_S5632x2048_S2048x5632_1_1_0_0_n_n none (mulf (broadcastInDim S2048x2048 ![] bcast_S_S2048x2048 (constant S_ .f32 0x3F000000#32)) d) w))) (constant S_ .f32 0x00000000#32) pads_S1x2048x5632_S2x2048x5632_100_000_000 h_S_) (pad S2x2048x5632 ![0, 0, 0] ![1, 0, 0] ![0, 0, 0] (broadcastInDim S1x2048x5632 ![1, 2] bcast_S2048x5632_S1x2048x5632_1_2 (addf (mulf (mulf (Host.dotGeneral dot_S2048x2048_S5632x2048_S2048x5632_1_1_0_0_n_n none (mulf (broadcastInDim S2048x2048 ![] bcast_S_S2048x2048 (constant S_ .f32 0x3F000000#32)) d) w) (shapeCast _ (extractStridedSlice S1x2048x5632 ![1, 0, 0] h slices_S2x2048x5632_S1x2048x5632_1_0_0) shapeCasts_S1x2048x5632_S2048x5632)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (shapeCast _ (extractStridedSlice S1x2048x5632 ![0, 0, 0] h slices_S2x2048x5632_S1x2048x5632_0_0_0) shapeCasts_S1x2048x5632_S2048x5632)))))) (mulf (mulf (shapeCast _ (extractStridedSlice S1x2048x5632 ![0, 0, 0] h slices_S2x2048x5632_S1x2048x5632_0_0_0) shapeCasts_S1x2048x5632_S2048x5632) (mulf (Host.dotGeneral dot_S2048x2048_S5632x2048_S2048x5632_1_1_0_0_n_n none (mulf (broadcastInDim S2048x2048 ![] bcast_S_S2048x2048 (constant S_ .f32 0x3F000000#32)) d) w) (shapeCast _ (extractStridedSlice S1x2048x5632 ![1, 0, 0] h slices_S2x2048x5632_S1x2048x5632_1_0_0) shapeCasts_S1x2048x5632_S2048x5632))) (mulf (Host.divf (broadcastInDim S2048x5632 ![] bcast_S_S2048x5632 (constant S_ .f32 0x3F800000#32)) (addf (broadcastInDim S2048x5632 ![] bcast_S_S2048x5632 (constant S_ .f32 0x3F800000#32)) (Host.exp (Host.negf (shapeCast _ (extractStridedSlice S1x2048x5632 ![0, 0, 0] h slices_S2x2048x5632_S1x2048x5632_0_0_0) shapeCasts_S1x2048x5632_S2048x5632))))) (subf (broadcastInDim S2048x5632 ![] bcast_S_S2048x5632 (constant S_ .f32 0x3F800000#32)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (shapeCast _ (extractStridedSlice S1x2048x5632 ![0, 0, 0] h slices_S2x2048x5632_S1x2048x5632_0_0_0) shapeCasts_S1x2048x5632_S2048x5632)))))))))) (constant S_ .f32 0x00000000#32) pads_S1x2048x5632_S2x2048x5632_010_000_000 h_S_)) bitsLt_bf16_f32
      = MidIdeal.Gen.G d w h := by
  funext i
  obtain ⟨i0, r, n, rfl⟩ : ∃ (i0 : Fin 2) (r : Fin 2048) (n : Fin 5632), i = ix3 i0 r n := ⟨i 0, i 1, i 2, eq_ix3 i⟩
  pointwise
  obtain ⟨a, ha⟩ := da_real d w hd hw r n
  obtain ⟨g, hg⟩ := hh (ix3 0 r n)
  obtain ⟨u, hu⟩ := hh (ix3 1 r n)
  have hs : (∑ k : Fin 2048, (Ideal.ofBits .f32 0x3F000000#32 * (d (ix2 r k) : EReal)) * (w (ix2 n k) : EReal)) = a := ha
  obtain rfl | rfl : i0 = 0 ∨ i0 = 1 := by omega
  · rw [dif_neg (by decide), dif_pos (by decide), zero_add, hs, hg, hu]
    refine (gate_eq a g u).trans ?_
    rw [MidIdeal.Gen.G_gate, ha, hg, hu]
  · rw [dif_pos (by decide), dif_neg (by decide), add_zero, mul_comm]
    rw [MidIdeal.Gen.G_up]
    rfl

end Cert.MidReferenceIdeal.Gen

namespace Cert.Pre_finite

/-- The shape relations of the precondition's operations. -/
theorem facts : Facts where
  bcast_S_S2048x2048 := by decide
  bcast_S_S5632x2048 := by decide
  bcast_S_S2x2048x5632 := by decide

end Cert.Pre_finite

namespace Cert.FfnMid
open Cert.Pre_finite_and_no_zero_pole (real_of)

/-- The host's program runs, leaves its arguments and every counter at zero. -/
theorem reference_frame : quiescent_MidReferenceIdeal (hMidReferenceIdeal := MidReferenceIdeal.Gen.facts) := fun m g _ =>
  (θ_run MidReferenceIdeal.defs _ _).mono (fun r h => ⟨fun c => (h c).2.2, sem_eq_zero_of_no_sems (by decide) r.2⟩) (MidReferenceIdeal.Value.run m g)

/-- Kernel and host end with the same gradient and the same activation, of finite arguments. -/
theorem value : algebraic_MidIdeal_MidReferenceIdeal_pre_finite (hMidIdeal := MidIdeal.Gen.facts) (hMidReferenceIdeal := MidReferenceIdeal.Gen.facts)
    (hPre_finite := Pre_finite.facts) := fun m g m' g' hp he =>
  ⟨fun c => MidIdeal.Gen.G (m ((c.tc : Thread MidIdeal.nD MidIdeal.τ).loc MidIdeal.main_arg0)) (m ((c.tc : Thread MidIdeal.nD MidIdeal.τ).loc MidIdeal.main_arg1))
      (m ((c.tc : Thread MidIdeal.nD MidIdeal.τ).loc MidIdeal.main_arg2)),
    fun c => MidIdeal.Gen.A (m ((c.tc : Thread MidIdeal.nD MidIdeal.τ).loc MidIdeal.main_arg2)),
    (θ_run MidIdeal.defs _ _).mono (fun _ h c => ⟨(h c).1.trans (MidIdeal.Gen.out3 m c), (h c).2.1.trans (MidIdeal.Gen.out4 m c), (h c).2.2⟩) (MidIdeal.Value.run_blocks m g),
    (θ_run MidReferenceIdeal.defs _ _).mono (fun _ h c =>
      ⟨(h c).1.trans (by
        rw [(he c).1, (he c).2.1, (he c).2.2]
        exact MidReferenceIdeal.Gen.ref _ _ _ (fun i => real_of _ (congrFun (hp c).1 i)) (fun i => real_of _ (congrFun (hp c).2.1 i)) (fun i => real_of _ (congrFun (hp c).2.2 i))),
      (h c).2.1.trans (by
        rw [(he c).2.2]
        exact MidReferenceIdeal.Gen.refA _), (h c).2.2⟩)
      (MidReferenceIdeal.Value.run m' g')⟩

end Cert.FfnMid
-- ==== Proof.FfnDwd.lean ====
/-
  The down projection's weight gradient, half of `act` transposed times `dr`: the kernel's eleven row blocks, each transposed into scratch first, and
  the host's one product are the same sums.
-/
module

public import proofs.«01_k».proof.Defs
public import proofs.«01_k».proof.Proof.Gen.DwdIdeal.Value
public import proofs.«01_k».proof.Proof.Gen.DwdReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DwdIdeal.Gen

open Cert.DwdIdeal

/-- The product, entry by entry. -/
def G (a : FVec Ideal S2048x5632 .f32) (d : FVec Ideal S2048x2048 .f32) : FVec Ideal S5632x2048 .f32 := fun i =>
  (∑ k : Fin 2048, a (ix2 k (i 0)) * d (ix2 k (i 1))) * Ideal.ofBits .f32 0x3F000000#32

/-- Where each window's block lies at grid point `t`. -/
theorem idx : ∀ t : Fin cfg0.N, win0_0.index t = ![0, t.val] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The narrowed activation is the activation. -/
theorem V_a : V m c main_v0 = (m ((c : Thread nD τ).loc main_arg0) : FVec Ideal S2048x5632 .f32) := by
  show StableHlo.after hostOps0 _ _ = _
  unfold hostOps0
  after_reads_simp
  try rfl

/-- The narrowed gradient is the gradient. -/
theorem V_d : V m c main_v1 = (m ((c : Thread nD τ).loc main_arg1) : FVec Ideal S2048x2048 .f32) := by
  show StableHlo.after hostOps0 _ _ = _
  unfold hostOps0
  after_reads_simp
  try rfl

/-- The block of the first operand at point `t`, entry by entry. -/
theorem blk0 (t : Fin cfg0.N) (k : Fin 2048) (r : Fin 512) (p : Fin 5632) (hp : p.val = t.val * 512 + r.val) :
    iblk m c 0 t (ix2 k r) = (m ((c : Thread nD τ).loc main_arg0) : FVec Ideal S2048x5632 .f32) (ix2 k p) := by
  rw [← V_a m c]
  blk_ext [iblk, idx t, hp]

/-- The block of the second operand at point `t`, entry by entry. -/
theorem blk1 (t : Fin cfg0.N) (k n : Fin 2048) :
    iblk m c 1 t (ix2 k n) = (m ((c : Thread nD τ).loc main_arg1) : FVec Ideal S2048x2048 .f32) (ix2 k n) := by
  rw [← V_d m c]
  blk_ext [iblk, idx t]

/-- What the body computes of its blocks, entry by entry. -/
theorem pay (v3 : Vec Ideal S512x2048 .bf16) (v4 : Vec Ideal S2048x2048 .bf16) (r : Fin 512) (n : Fin 2048) :
    k0_pay5 v3 v4 (ix2 r n) = (∑ k : Fin 2048, (v3 (ix2 r k) : EReal) * (v4 (ix2 k n) : EReal)) * Ideal.ofBits .f32 0x3F000000#32 := by
  unfold k0_pay5
  pointwise

/-- The output array after the run. -/
theorem out : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨r, n, rfl⟩ : ∃ (r : Fin 512) (n : Fin 2048), y = (ix2 r n : S512x2048.Idx) := ⟨y 0, y 1, by idx_ext <;> omega⟩
  refine (pay _ _ r n).trans (congrArg (fun z : EReal => z * Ideal.ofBits .f32 0x3F000000#32) (Finset.sum_congr (M := EReal) rfl fun k _ => congrArg₂ (fun z w : EReal => z * w)
    (Eq.trans (b := iblk m c 0 t (ix2 k r)) ?_ ((blk0 m c t k r _ ?_).trans (congrArg _ rfl))) ((blk1 m c t k n).trans ?_)))
  · refine (FfnKit.readCov_whole (S := S512x2048) _ _ _ (by decide) _).trans ?_
    canon_tiles x h
    all_goals (open_payloads; pointwise; blk_ext <;> first | exact h0.symm | exact h1.symm)
  · blk_simp [idx t]
  · congr 1
    blk_ext [idx t]

end Cert.DwdIdeal.Gen

namespace Cert.DwdReferenceIdeal.Gen
open Cert.DwdReferenceIdeal

/-- The host's operations, composed, are the same function. -/
theorem ref (a : FVec Ideal S2048x5632 .f32) (d : FVec Ideal S2048x2048 .f32) :
    truncf .bf16 (transpose S5632x2048 [1, 0] (Host.dotGeneral dot_S2048x2048_S2048x5632_S2048x5632_0_0_1_1_n_n none (mulf (broadcastInDim S2048x2048 ![] bcast_S_S2048x2048 (constant S_ .f32 0x3F000000#32)) d) a) transposes_S2048x5632_S5632x2048_1_0) bitsLt_bf16_f32
      = DwdIdeal.Gen.G a d := by
  funext i
  obtain ⟨r, n, rfl⟩ : ∃ (r : Fin 5632) (n : Fin 2048), i = ix2 r n := ⟨i 0, i 1, eq_ix2 i⟩
  pointwise
  obtain ⟨q, hq, e⟩ := FfnKit.half
  unfold DwdIdeal.Gen.G
  rw [e, mul_comm (Finset.sum _ _), ← FfnKit.mul_sum_of_finite _ _ q hq]
  refine Finset.sum_congr (M := EReal) rfl fun k _ => ?_
  rw [mul_assoc, mul_comm (d _)]
  rfl

end Cert.DwdReferenceIdeal.Gen

namespace Cert.FfnDwd

/-- The host's program runs, leaves its arguments and every counter at zero. -/
theorem reference_frame : quiescent_DwdReferenceIdeal (hDwdReferenceIdeal := DwdReferenceIdeal.Gen.facts) := fun m g _ =>
  (θ_run DwdReferenceIdeal.defs _ _).mono (fun r h => ⟨fun c => (h c).2, sem_eq_zero_of_no_sems (by decide) r.2⟩) (DwdReferenceIdeal.Value.run m g)

/-- Kernel and host end with the same product. -/
theorem value : algebraic_DwdIdeal_DwdReferenceIdeal (hDwdIdeal := DwdIdeal.Gen.facts) (hDwdReferenceIdeal := DwdReferenceIdeal.Gen.facts) := fun m g m' g' _ he =>
  ⟨fun c => DwdIdeal.Gen.G (m ((c.tc : Thread DwdIdeal.nD DwdIdeal.τ).loc DwdIdeal.main_arg0)) (m ((c.tc : Thread DwdIdeal.nD DwdIdeal.τ).loc DwdIdeal.main_arg1)),
    (θ_run DwdIdeal.defs _ _).mono (fun _ h c => ⟨(h c).1.trans (DwdIdeal.Gen.out m c), (h c).2⟩) (DwdIdeal.Value.run_blocks m g),
    (θ_run DwdReferenceIdeal.defs _ _).mono (fun _ h c => ⟨(h c).1.trans ((DwdReferenceIdeal.Gen.ref _ _).trans (congrArg₂ DwdIdeal.Gen.G (he c).1 (he c).2)), (h c).2⟩)
      (DwdReferenceIdeal.Value.run m' g')⟩

end Cert.FfnDwd
-- ==== Proof.FfnDwgu.lean ====
/-
  The up projections' weight gradient, `x` transposed times `dh`: the kernel's 44 column blocks over one transposed copy of `x`, which the first
  block's point leaves in scratch for all the others, and the host's one product are the same sums.
-/
module

public import proofs.«01_k».proof.Defs
public import proofs.«01_k».proof.Proof.Gen.DwguIdeal.Value
public import proofs.«01_k».proof.Proof.Gen.DwguReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DwguIdeal.Gen

open Cert.DwguIdeal

/-- Column `j` of block `i` among four blocks of 2816: which half of 11264 it is in, and its place there. -/
def half2 (i : Fin 4) (j : Fin 2816) : Fin 2 := ⟨(2816 * i.val + j.val) / 5632, by omega⟩

/-- The place of that column in its half. -/
def place2 (i : Fin 4) (j : Fin 2816) : Fin 5632 := ⟨(2816 * i.val + j.val) % 5632, by omega⟩

/-- The product, entry by entry. -/
def G (x : FVec Ideal S2048x2048 .f32) (d : FVec Ideal S2x2048x5632 .f32) : FVec Ideal S4x2048x2816 .f32 := fun i =>
  ∑ k : Fin 2048, x (ix2 k (i 1)) * d (ix3 (half2 (i 0) (i 2)) k (place2 (i 0) (i 2)))

/-- Where each window's block lies at grid point `t`. -/
theorem idx : ∀ t : Fin cfg0.N, win0_0.index t = ![0, 0] ∧ win0_1.index t = ![t.val / 22, 0, t.val % 22] ∧ win0_2.index t = ![t.val / 11, 0, t.val % 11] :=
  (by decide +kernel : ∀ t : Fin grid0.N, _)

variable (m : (ℓ : Loc nD τ sig) → Buf (Elt Ideal) ℓ) (c : Dev nD)

/-- The narrowed input is the input. -/
theorem V_x : V m c main_v0 = (m ((c : Thread nD τ).loc main_arg0) : FVec Ideal S2048x2048 .f32) := by
  show StableHlo.after hostOps0 _ _ = _
  unfold hostOps0
  after_reads_simp
  try rfl

/-- The narrowed gradient is the gradient. -/
theorem V_d : V m c main_v1 = (m ((c : Thread nD τ).loc main_arg1) : FVec Ideal S2x2048x5632 .f32) := by
  show StableHlo.after hostOps0 _ _ = _
  unfold hostOps0
  after_reads_simp
  try rfl

/-- The block of the first operand at point `t`, entry by entry. -/
theorem blk0 (t : Fin cfg0.N) (k r : Fin 2048) : iblk m c 0 t (ix2 k r) = (m ((c : Thread nD τ).loc main_arg0) : FVec Ideal S2048x2048 .f32) (ix2 k r) := by
  rw [← V_x m c]
  blk_ext [iblk, idx t]

/-- The block of the second operand at point `t`, entry by entry. -/
theorem blk1 (t : Fin cfg0.N) (k : Fin 2048) (n : Fin 256) (q : Fin 2) (p : Fin 5632) (hq : q.val = t.val / 22) (hp : p.val = t.val % 22 * 256 + n.val) :
    iblk m c 1 t (ix3 0 k n) = (m ((c : Thread nD τ).loc main_arg1) : FVec Ideal S2x2048x5632 .f32) (ix3 q k p) := by
  rw [← V_d m c]
  blk_ext [iblk, idx t, hq, hp]

/-- What the body computes of its blocks, entry by entry. -/
theorem pay (v3 : Vec Ideal S2048x2048 .bf16) (v4 : Vec Ideal S1x2048x256 .bf16) (r : Fin 2048) (n : Fin 256) :
    k0_pay5 v3 v4 (ix3 0 r n) = ∑ k : Fin 2048, (v3 (ix2 r k) : EReal) * (v4 (ix3 0 k n) : EReal) := by
  unfold k0_pay5
  pointwise

/-- Four stores, each 512 rows of `x` transposed, leave `x` transposed. -/
theorem canon (x : Vec Ideal S2048x2048 .bf16) (r k : Fin 2048) :
    View.canon (Val := Elt Ideal) (s := S2048x2048) (e := .bf16) [
      ⟨Rect.unit ![0, 1536] ![2048, 512] inb_S2048x2048_S2048x512_0_1536, k0_pay4 (View.ld x (Rect.unit ![1536, 0] ![512, 2048] inb_S2048x2048_S512x2048_1536_0))⟩,
      ⟨Rect.unit ![0, 1024] ![2048, 512] inb_S2048x2048_S2048x512_0_1024, k0_pay3 (View.ld x (Rect.unit ![1024, 0] ![512, 2048] inb_S2048x2048_S512x2048_1024_0))⟩,
      ⟨Rect.unit ![0, 512] ![2048, 512] inb_S2048x2048_S2048x512_0_512, k0_pay2 (View.ld x (Rect.unit ![512, 0] ![512, 2048] inb_S2048x2048_S512x2048_512_0))⟩,
      ⟨Rect.unit ![0, 0] ![2048, 512] inb_S2048x2048_S2048x512_0_0, k0_pay1 (View.ld x (Rect.unit ![0, 0] ![512, 2048] inb_S2048x2048_S512x2048_0_0))⟩] (ix2 r k)
      = x (ix2 k r) := by
  canon_tiles x h
  all_goals (open_payloads; pointwise; blk_ext <;> first | exact h0.symm | exact h1.symm)

/-- After every point the scratch holds `x` transposed. -/
theorem scr (n : ℕ) (hn : n < cfg0.N) (r k : Fin 2048) : (outsAt0 m c n hn).2 (ix2 r k) = (m ((c : Thread nD τ).loc main_arg0) : FVec Ideal S2048x2048 .f32) (ix2 k r) := by
  induction n with
  | zero =>
    have e := congrArg Prod.snd (outsAt0_A m c ⟨0, hn⟩ (Nat.zero_mod _))
    refine (congrFun e _).trans ?_
    dsimp only
    frame_out
    exact (canon _ r k).trans (blk0 m c _ k r)
  | succ n ih =>
    have hN := lt_of_lt_of_eq hn N_0
    have e := congrArg Prod.snd (outsAt0_B m c ⟨n + 1, hn⟩ (by dsimp only; omega))
    have key : ∀ (n' : ℕ) (h' : n' < cfg0.N), n' = n → (outsAt0 m c n' h').2 (ix2 r k) = (m ((c : Thread nD τ).loc main_arg0) : FVec Ideal S2048x2048 .f32) (ix2 k r) := by
      rintro _ _ rfl
      exact ih _
    refine (congrFun e _).trans ?_
    dsimp only
    unfold sout0_B_0
    exact key _ _ (Nat.add_sub_cancel n 1)

/-- The output array after the run. -/
theorem out : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  blk_simp
  rw [after0_2]
  obtain ⟨r, n, rfl⟩ : ∃ (r : Fin 2048) (n : Fin 256), y = (ix3 0 r n : S1x2048x256.Idx) := ⟨y 1, y 2, by idx_ext <;> omega⟩
  suffices h : ∀ X : Vec Ideal S2048x2048 .bf16, (∀ k, X (ix2 r k) = (m ((c : Thread nD τ).loc main_arg0) : FVec Ideal S2048x2048 .f32) (ix2 k r)) →
      k0_pay5 X (iblk m c 1 t) (ix3 0 r n) = G (m ((c : Thread nD τ).loc main_arg0)) (m ((c : Thread nD τ).loc main_arg1)) (((View.whole main_v2).slice (win0_2.rect t)).emb (ix3 0 r n)) by
    by_cases h0 : t.val % 44 = 0
    · rw [outsAt0_A m c t h0]
      frame_out
      refine h _ fun k => ?_
      exact (FfnKit.readCov_whole (S := S2048x2048) _ _ _ (by decide) _).trans ((canon _ r k).trans (blk0 m c t k r))
    · rw [outsAt0_B m c t h0]
      frame_out
      simp only [read_unread_whole]
      exact h _ fun k => scr m c _ _ r k
  intro X hX
  refine (pay _ _ r n).trans (Finset.sum_congr (M := EReal) rfl fun k _ => congrArg₂ (fun z w : EReal => z * w) ((hX k).trans ?_) (blk1 m c t k n _ _ ?_ ?_))
  · congr 1
    blk_ext [idx t]
  · blk_simp [idx t, half2]
    simp only [Fin.val_zero]
    omega
  · blk_simp [idx t, place2]
    simp only [Fin.val_zero]
    omega

end Cert.DwguIdeal.Gen

namespace Cert.DwguReferenceIdeal.Gen
open Cert.DwguReferenceIdeal

/-- The host's operations, composed, are the same function. -/
theorem ref (x : FVec Ideal S2048x2048 .f32) (d : FVec Ideal S2x2048x5632 .f32) :
    truncf .bf16 (transpose S4x2048x2816 [1, 0, 2] (shapeCast _ (transpose S2048x11264 [1, 0] (Host.dotGeneral dot_S2048x11264_S2048x2048_S11264x2048_0_0_1_1_n_n none (concatenate S2048x11264 1 [⟨S2048x5632, (shapeCast _ (extractStridedSlice S1x2048x5632 ![0, 0, 0] d slices_S2x2048x5632_S1x2048x5632_0_0_0) shapeCasts_S1x2048x5632_S2048x5632)⟩, ⟨S2048x5632, (shapeCast _ (extractStridedSlice S1x2048x5632 ![1, 0, 0] d slices_S2x2048x5632_S1x2048x5632_1_0_0) shapeCasts_S1x2048x5632_S2048x5632)⟩] concatenates_S2048x5632_S2048x5632_S2048x11264_d1) x) transposes_S11264x2048_S2048x11264_1_0) shapeCasts_S2048x11264_S2048x4x2816) transposes_S2048x4x2816_S4x2048x2816_1_0_2) bitsLt_bf16_f32
      = DwguIdeal.Gen.G x d := by
  funext i
  obtain ⟨q, r, n, rfl⟩ : ∃ (q : Fin 4) (r : Fin 2048) (n : Fin 2816), i = ix3 q r n := ⟨i 0, i 1, i 2, eq_ix3 i⟩
  pointwise
  refine Finset.sum_congr (M := EReal) rfl fun k _ => (mul_comm (G := EReal) _ _).trans (congrArg (fun z : EReal => x (ix2 k r) * z) ?_)
  by_cases h : q.val * 2816 + n.val < 5632
  · rw [dif_pos h]
    blk_ext [DwguIdeal.Gen.half2, DwguIdeal.Gen.place2] <;> omega
  · rw [dif_neg h]
    blk_ext [DwguIdeal.Gen.half2, DwguIdeal.Gen.place2] <;> omega

end Cert.DwguReferenceIdeal.Gen

namespace Cert.FfnDwgu

/-- The host's program runs, leaves its arguments and every counter at zero. -/
theorem reference_frame : quiescent_DwguReferenceIdeal (hDwguReferenceIdeal := DwguReferenceIdeal.Gen.facts) := fun m g _ =>
  (θ_run DwguReferenceIdeal.defs _ _).mono (fun r h => ⟨fun c => (h c).2, sem_eq_zero_of_no_sems (by decide) r.2⟩) (DwguReferenceIdeal.Value.run m g)

/-- Kernel and host end with the same product. -/
theorem value : algebraic_DwguIdeal_DwguReferenceIdeal (hDwguIdeal := DwguIdeal.Gen.facts) (hDwguReferenceIdeal := DwguReferenceIdeal.Gen.facts) := fun m g m' g' _ he =>
  ⟨fun c => DwguIdeal.Gen.G (m ((c.tc : Thread DwguIdeal.nD DwguIdeal.τ).loc DwguIdeal.main_arg0)) (m ((c.tc : Thread DwguIdeal.nD DwguIdeal.τ).loc DwguIdeal.main_arg1)),
    (θ_run DwguIdeal.defs _ _).mono (fun _ h c => ⟨(h c).1.trans (DwguIdeal.Gen.out m c), (h c).2⟩) (DwguIdeal.Value.run_blocks m g),
    (θ_run DwguReferenceIdeal.defs _ _).mono (fun _ h c => ⟨(h c).1.trans ((DwguReferenceIdeal.Gen.ref _ _).trans (congrArg₂ DwguIdeal.Gen.G (he c).1 (he c).2)), (h c).2⟩)
      (DwguReferenceIdeal.Value.run m' g')⟩

end Cert.FfnDwgu
-- ==== Proof.FfnDx.lean ====
/-
  The input gradient, `dh` times `w` transposed with the residual's share `ALPHA * dr` added: the kernel's four row blocks, each summed over eight chunks of
  1408 columns in a scratch accumulator, and the host's one product of 11264 columns are the same sums.
-/
module

public import proofs.«01_k».proof.Defs
public import proofs.«01_k».proof.Proof.Gen.DxIdeal.Value
public import proofs.«01_k».proof.Proof.Gen.DxReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DxIdeal.Gen

open Cert.DxIdeal

/-- The product's term at column `p` of 11264: `dh` holds the columns as two halves, `w` as four blocks. -/
def summand (d : FVec Ideal S2x2048x5632 .f32) (w : FVec Ideal S4x2048x2816 .f32) (r q : Fin 2048) (p : ℕ) : EReal :=
  if h : p < 11264 then
    (d (ix3 ⟨p / 5632, by omega⟩ r ⟨p % 5632, by omega⟩) : EReal) * w (ix3 ⟨p / 2816, by omega⟩ q ⟨p % 2816, by omega⟩)
  else 0

/-- The result, entry by entry. -/
def G (d : FVec Ideal S2x2048x5632 .f32) (w : FVec Ideal S4x2048x2816 .f32) (g : FVec Ideal S2048x2048 .f32) : FVec Ideal S2048x2048 .f32 := fun i =>
  (∑ p ∈ Finset.range 11264, summand d w (i 0) (i 1) p) + Ideal.ofBits .f32 0x3FD744FD#32 * (g i : EReal)

/-- Where each window's block lies at grid point `t`. -/
theorem idx : ∀ t : Fin cfg0.N, win0_0.index t = ![t.val % 8 / 4, t.val / 8, t.val % 4] ∧ win0_1.index t = ![t.val % 8 / 2, 0, t.val % 2]
    ∧ win0_2.index t = ![t.val / 8, 0] ∧ win0_3.index t = ![t.val / 8, 0] :=
  (by decide +kernel : ∀ t : Fin grid0.N, _)

variable (m : (ℓ : Loc nD τ sig) → Buf (Elt Ideal) ℓ) (c : Dev nD)

/-- The narrowed gradient is the gradient. -/
theorem V_d : V m c main_v0 = (m ((c : Thread nD τ).loc main_arg0) : FVec Ideal S2x2048x5632 .f32) := by
  show StableHlo.after hostOps0 _ _ = _
  unfold hostOps0
  after_reads_simp
  try rfl

/-- The narrowed weights are the weights. -/
theorem V_w : V m c main_v1 = (m ((c : Thread nD τ).loc main_arg1) : FVec Ideal S4x2048x2816 .f32) := by
  show StableHlo.after hostOps0 _ _ = _
  unfold hostOps0
  after_reads_simp
  try rfl

/-- The block of the first operand at point `t`, entry by entry. -/
theorem blk0 (t : Fin cfg0.N) (r : Fin 512) (k : Fin 1408) (q : Fin 2) (R : Fin 2048) (p : Fin 5632) (hq : q.val = t.val % 8 / 4) (hR : R.val = t.val / 8 * 512 + r.val)
    (hp : p.val = t.val % 4 * 1408 + k.val) :
    iblk m c 0 t (ix3 0 r k) = (m ((c : Thread nD τ).loc main_arg0) : FVec Ideal S2x2048x5632 .f32) (ix3 q R p) := by
  rw [← V_d m c]
  blk_ext [iblk, idx t, hq, hR, hp]

/-- The block of the second operand at point `t`, entry by entry. -/
theorem blk1 (t : Fin cfg0.N) (n : Fin 2048) (k : Fin 1408) (q : Fin 4) (p : Fin 2816) (hq : q.val = t.val % 8 / 2) (hp : p.val = t.val % 2 * 1408 + k.val) :
    iblk m c 1 t (ix3 0 n k) = (m ((c : Thread nD τ).loc main_arg1) : FVec Ideal S4x2048x2816 .f32) (ix3 q n p) := by
  rw [← V_w m c]
  blk_ext [iblk, idx t, hq, hp]

/-- The body's product of its blocks, entry by entry. -/
theorem pay1 (a : Vec Ideal S1x512x1408 .bf16) (b : Vec Ideal S1x2048x1408 .bf16) (r : Fin 512) (n : Fin 2048) :
    k0_pay1 a b (ix2 r n) = ∑ k : Fin 1408, (a (ix3 0 r k) : EReal) * (b (ix3 0 n k) : EReal) := by
  unfold k0_pay1
  pointwise

/-- What the first chunk leaves in the scratch. -/
theorem pay2 (a : Vec Ideal S1x512x1408 .bf16) (b : Vec Ideal S1x2048x1408 .bf16) : k0_pay2 a b = k0_pay1 a b := by
  funext i
  unfold k0_pay2
  generalize k0_pay1 a b = v
  pointwise

/-- What a later chunk leaves in the scratch: the sum so far plus its product. -/
theorem pay3 (a : Vec Ideal S1x512x1408 .bf16) (b : Vec Ideal S1x2048x1408 .bf16) (s : Vec Ideal S512x2048 .f32) (r : Fin 512) (n : Fin 2048) :
    k0_pay3 a b s (ix2 r n) = (s (ix2 r n) : EReal) + (k0_pay1 a b (ix2 r n) : EReal) := by
  unfold k0_pay3 k0_pay1
  pointwise

/-- What the last chunk leaves in the output: the sum plus `ALPHA` times the added block. -/
theorem pay4 (s v : Vec Ideal S512x2048 .f32) (i : S512x2048.Idx) :
    k0_pay4 s v i = (s i : EReal) + Ideal.ofBits .f32 0x3FD744FD#32 * (v i : EReal) := by
  unfold k0_pay4
  pointwise

/-- A point's chunk of the sum. -/
theorem chunk (t : Fin cfg0.N) (r : Fin 512) (n R : Fin 2048) (hR : R.val = t.val / 8 * 512 + r.val) :
    k0_pay1 (iblk m c 0 t) (iblk m c 1 t) (ix2 r n)
      = ∑ k ∈ Finset.range 1408, summand (m ((c : Thread nD τ).loc main_arg0)) (m ((c : Thread nD τ).loc main_arg1)) R n (1408 * (t.val % 8) + k) := by
  rw [Finset.sum_range]
  refine (pay1 _ _ r n).trans (Finset.sum_congr (M := EReal) rfl fun k _ => ?_)
  unfold summand
  rw [dif_pos (by omega)]
  refine congrArg₂ (fun z w : EReal => z * w) (blk0 m c t r k _ R _ ?_ hR ?_) (blk1 m c t n k _ _ ?_ ?_)
  all_goals (dsimp only; omega)

/-- The block of the added array at point `t`, entry by entry. -/
theorem blk2 (t : Fin cfg0.N) (r : Fin 512) (n R : Fin 2048) (hR : R.val = t.val / 8 * 512 + r.val) :
    iblk m c 2 t (ix2 r n) = (m ((c : Thread nD τ).loc main_arg2) : FVec Ideal S2048x2048 .f32) (ix2 R n) := by
  rw [← V_main_arg2 m c]
  blk_ext [iblk, idx t, hR]

/-- The sum of a row block's chunks up to and including point `n`. -/
def upTo (R q : Fin 2048) (n : ℕ) : EReal :=
  ∑ p ∈ Finset.range (1408 * (n % 8 + 1)), summand (m ((c : Thread nD τ).loc main_arg0)) (m ((c : Thread nD τ).loc main_arg1)) R q p

/-- The first chunk of a row block starts the sum. -/
theorem upTo_zero (t : Fin cfg0.N) (h0 : t.val % 8 = 0) (r : Fin 512) (q R : Fin 2048) (hR : R.val = t.val / 8 * 512 + r.val) :
    (k0_pay1 (iblk m c 0 t) (iblk m c 1 t) (ix2 r q) : EReal) = upTo m c R q t.val := by
  rw [chunk m c t r q R hR]
  unfold upTo
  rw [h0, Nat.zero_add, Nat.mul_one, Nat.mul_zero]
  refine Finset.sum_congr (M := EReal) rfl fun k _ => ?_
  rw [Nat.zero_add]

/-- A later chunk of a row block continues the sum. -/
theorem upTo_succ (t : Fin cfg0.N) (h0 : ¬ t.val % 8 = 0) (s : Vec Ideal S512x2048 .f32) (r : Fin 512) (q R : Fin 2048) (hR : R.val = t.val / 8 * 512 + r.val)
    (hs : (s (ix2 r q) : EReal) = upTo m c R q (t.val - 1)) :
    (k0_pay3 (iblk m c 0 t) (iblk m c 1 t) s (ix2 r q) : EReal) = upTo m c R q t.val := by
  rw [pay3, hs, chunk m c t r q R hR]
  unfold upTo
  rw [show 1408 * (t.val % 8 + 1) = 1408 * ((t.val - 1) % 8 + 1) + 1408 from by omega, Finset.sum_range_add,
    show 1408 * (t.val % 8) = 1408 * ((t.val - 1) % 8 + 1) from by omega]

/-- The scratch after the first chunk of a row block. -/
theorem scr_A (t : Fin cfg0.N) (h0 : t.val % 8 = 0) : (outsAt0 m c t.val t.isLt).2 = k0_pay1 (iblk m c 0 t) (iblk m c 1 t) := by
  refine (congrArg Prod.snd (outsAt0_A m c t h0 (by omega) (by omega))).trans ?_
  dsimp only
  unfold sout0_A_0
  frame_out
  exact pay2 _ _

/-- The scratch after a later chunk of a row block. -/
theorem scr_BC (t : Fin cfg0.N) (h0 : ¬ t.val % 8 = 0) :
    (outsAt0 m c t.val t.isLt).2 = k0_pay3 (iblk m c 0 t) (iblk m c 1 t) (outsAt0 m c (t.val - 1) (by omega)).2 := by
  by_cases h1 : t.val % 8 = 7
  · refine (congrArg Prod.snd (outsAt0_C m c t h0 (by omega) h1)).trans ?_
    dsimp only
    unfold sout0_C_0
    frame_out
    simp only [read_unread_whole]
  · refine (congrArg Prod.snd (outsAt0_B m c t h0 (by omega) h1)).trans ?_
    dsimp only
    unfold sout0_B_0
    frame_out
    simp only [read_unread_whole]

/-- After every point the scratch holds the sum of its row block's chunks so far. -/
theorem scr (n : ℕ) (hn : n < cfg0.N) (r : Fin 512) (q R : Fin 2048) (hR : R.val = n / 8 * 512 + r.val) :
    ((outsAt0 m c n hn).2 (ix2 r q) : EReal) = upTo m c R q n := by
  induction n using Nat.strong_induction_on with
  | _ n ih =>
    have hN := lt_of_lt_of_eq hn N_0
    by_cases h0 : n % 8 = 0
    · exact (congrFun (scr_A m c ⟨n, hn⟩ h0) _).trans (upTo_zero m c ⟨n, hn⟩ h0 r q R hR)
    · exact (congrFun (scr_BC m c ⟨n, hn⟩ h0) _).trans
        (upTo_succ m c ⟨n, hn⟩ h0 _ r q R hR (ih (n - 1) (by omega) (by omega) (by omega)))

/-- The output array after the run. -/
theorem out : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := lt_of_lt_of_eq t.isLt N_0
  have hm : t.val % 8 = 7 := (flush0_3 t).mp hf
  blk_simp
  rw [after0_3]
  obtain ⟨r, n, rfl⟩ : ∃ (r : Fin 512) (n : Fin 2048), y = (ix2 r n : S512x2048.Idx) := ⟨y 0, y 1, by idx_ext <;> omega⟩
  have e2 := scr m c t.val t.isLt r n ⟨t.val / 8 * 512 + r.val, by omega⟩ rfl
  rw [outsAt0_C m c t (by omega) (by omega) hm] at e2 ⊢
  revert e2
  dsimp only
  frame_out
  intro e2
  rw [pay4, e2, blk2 m c t r n ⟨t.val / 8 * 512 + r.val, by omega⟩ rfl]
  have hi : (((View.whole main_v2).slice (win0_3.rect t)).emb (ix2 r n)) = (ix2 ⟨t.val / 8 * 512 + r.val, by omega⟩ n : S2048x2048.Idx) := by
    blk_ext [idx t]
  unfold upTo G
  rw [hi, hm]
  simp only [Nat.reduceAdd, Nat.reduceMul]
  rfl

end Cert.DxIdeal.Gen

namespace Cert.DxReferenceIdeal.Gen
open Cert.DxReferenceIdeal

/-- The host's operations, composed, are the same function. -/
theorem ref (d : FVec Ideal S2x2048x5632 .f32) (w : FVec Ideal S4x2048x2816 .f32) (g : FVec Ideal S2048x2048 .f32) :
    addf (mulf (broadcastInDim S2048x2048 ![] bcast_S_S2048x2048 (constant S_ .f32 0x3FD744FD#32)) g) (Host.dotGeneral dot_S2048x11264_S2048x11264_S2048x2048_1_1_0_0_n_n none (concatenate S2048x11264 1 [⟨S2048x5632, (shapeCast _ (extractStridedSlice S1x2048x5632 ![0, 0, 0] d slices_S2x2048x5632_S1x2048x5632_0_0_0) shapeCasts_S1x2048x5632_S2048x5632)⟩, ⟨S2048x5632, (shapeCast _ (extractStridedSlice S1x2048x5632 ![1, 0, 0] d slices_S2x2048x5632_S1x2048x5632_1_0_0) shapeCasts_S1x2048x5632_S2048x5632)⟩] concatenates_S2048x5632_S2048x5632_S2048x11264_d1) (shapeCast _ (transpose S2048x4x2816 [1, 0, 2] w transposes_S4x2048x2816_S2048x4x2816_1_0_2) shapeCasts_S2048x4x2816_S2048x11264))
      = DxIdeal.Gen.G d w g := by
  funext i
  obtain ⟨r, n, rfl⟩ : ∃ (r n : Fin 2048), i = ix2 r n := ⟨i 0, i 1, eq_ix2 i⟩
  pointwise
  unfold DxIdeal.Gen.G
  rw [add_comm, Finset.sum_range_add _ 5632 5632, Finset.sum_range, Finset.sum_range]
  refine congrArg (fun z : EReal => z + _) (congrArg₂ (fun z w : EReal => z + w) (Finset.sum_congr (M := EReal) rfl fun k _ => ?_) (Finset.sum_congr (M := EReal) rfl fun k _ => ?_))
  · unfold DxIdeal.Gen.summand
    rw [dif_pos (by omega)]
    refine congrArg₂ (fun z w : EReal => z * w) (congrArg d ?_) rfl
    idx_ext <;> omega
  · unfold DxIdeal.Gen.summand
    rw [dif_pos (by omega)]
    refine congrArg₂ (fun z w : EReal => z * w) (congrArg d ?_) rfl
    idx_ext <;> omega

end Cert.DxReferenceIdeal.Gen

namespace Cert.FfnDx

/-- The host's program runs, leaves its arguments and every counter at zero. -/
theorem reference_frame : quiescent_DxReferenceIdeal (hDxReferenceIdeal := DxReferenceIdeal.Gen.facts) := fun m g _ =>
  (θ_run DxReferenceIdeal.defs _ _).mono (fun r h => ⟨fun c => (h c).2, sem_eq_zero_of_no_sems (by decide) r.2⟩) (DxReferenceIdeal.Value.run m g)

/-- Kernel and host end with the same product. -/
theorem value : algebraic_DxIdeal_DxReferenceIdeal (hDxIdeal := DxIdeal.Gen.facts) (hDxReferenceIdeal := DxReferenceIdeal.Gen.facts) := fun m g m' g' _ he =>
  ⟨fun c => DxIdeal.Gen.G (m ((c.tc : Thread DxIdeal.nD DxIdeal.τ).loc DxIdeal.main_arg0)) (m ((c.tc : Thread DxIdeal.nD DxIdeal.τ).loc DxIdeal.main_arg1))
      (m ((c.tc : Thread DxIdeal.nD DxIdeal.τ).loc DxIdeal.main_arg2)),
    (θ_run DxIdeal.defs _ _).mono (fun _ h c => ⟨(h c).1.trans (DxIdeal.Gen.out m c), (h c).2⟩) (DxIdeal.Value.run_blocks m g),
    (θ_run DxReferenceIdeal.defs _ _).mono (fun _ h c => ⟨(h c).1.trans ((DxReferenceIdeal.Gen.ref _ _ _).trans (by rw [(he c).1, (he c).2.1, (he c).2.2])), (h c).2⟩)
      (DxReferenceIdeal.Value.run m' g')⟩

end Cert.FfnDx
-- ==== Proof.Down.lean ====
/-
  The feed-forward network's second product, `ALPHA * x + (silu(gate) * up) · w / 2`, with its layer norm: the kernel's four row blocks, each summed over
  eleven chunks of 512 in a scratch accumulator started at zero, and the host's one product are the same sums; the layer norm of each row is then the same
  function of it.
-/
module

public import proofs.«01_k».proof.Defs
public import proofs.«01_k».proof.Proof.Gen.DownIdeal.Value
public import proofs.«01_k».proof.Proof.Gen.DownReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DownIdeal.Gen

open Cert.DownIdeal

/-- The product's term at row `p` of 5632. -/
def summand (a : FVec Ideal S2x2048x5632 .f32) (w : FVec Ideal S5632x2048 .f32) (r q : Fin 2048) (p : ℕ) : EReal :=
  if h : p < 5632 then (((a (ix3 0 r ⟨p, h⟩) : EReal) * Ideal.logistic (a (ix3 0 r ⟨p, h⟩))) * (a (ix3 1 r ⟨p, h⟩) : EReal)) * w (ix2 ⟨p, h⟩ q) else 0

/-- The residual sum, entry by entry. -/
def R (a : FVec Ideal S2x2048x5632 .f32) (w : FVec Ideal S5632x2048 .f32) (x : FVec Ideal S2048x2048 .f32) : FVec Ideal S2048x2048 .f32 := fun i =>
  Ideal.ofBits .f32 0x3FD744FD#32 * (x i : EReal) + Ideal.ofBits .f32 0x3F000000#32 * (∑ p ∈ Finset.range 5632, summand a w (i 0) (i 1) p)

/-- The layer norm of every row, entry by entry. -/
def N (z : FVec Ideal S2048x2048 .f32) (g b : FVec Ideal S2048 .f32) : FVec Ideal S2048x2048 .f32 := fun i =>
  FfnKit.norm (fun k => z (ix2 (i 0) k)) (g (ix1 (i 1))) (b (ix1 (i 1))) (i 1)

/-- Where each window's block lies at grid point `t`. -/
theorem idx : ∀ t : Fin cfg0.N, win0_0.index t = ![0, t.val / 11, t.val % 11] ∧ win0_1.index t = ![t.val % 11, 0] ∧ win0_2.index t = ![t.val / 11, 0] ∧ win0_3.index t = ![0, 0] ∧ win0_4.index t = ![0, 0] ∧ win0_5.index t = ![t.val / 11, 0] ∧ win0_6.index t = ![t.val / 11, 0] ∧ win0_7.index t = ![t.val / 11, 0] :=
  (by decide +kernel : ∀ t : Fin grid0.N, _)

variable (m : (ℓ : Loc nD τ sig) → Buf (Elt Ideal) ℓ) (c : Dev nD)

/-- The narrowed weights are the weights. -/
theorem V_w : V m c main_v0 = (m ((c : Thread nD τ).loc main_arg1) : FVec Ideal S5632x2048 .f32) := by
  show StableHlo.after hostOps0 _ _ = _
  unfold hostOps0
  after_reads_simp
  try rfl

/-- The layer norm's scale as a row. -/
theorem V_g (n : Fin 2048) : (V m c main_v1 : FVec Ideal S1x2048 .f32) (ix2 0 n) = (m ((c : Thread nD τ).loc main_arg3) : FVec Ideal S2048 .f32) (ix1 n) := by
  show StableHlo.after hostOps0 _ _ _ = _
  unfold hostOps0
  after_reads_simp
  pointwise

/-- The layer norm's shift as a row. -/
theorem V_b (n : Fin 2048) : (V m c main_v2 : FVec Ideal S1x2048 .f32) (ix2 0 n) = (m ((c : Thread nD τ).loc main_arg4) : FVec Ideal S2048 .f32) (ix1 n) := by
  show StableHlo.after hostOps0 _ _ _ = _
  unfold hostOps0
  after_reads_simp
  pointwise

/-- The block of the first operand at point `t`, entry by entry. -/
theorem blk0 (t : Fin cfg0.N) (q : Fin 2) (r k : Fin 512) (Q : Fin 2048) (p : Fin 5632) (hQ : Q.val = t.val / 11 * 512 + r.val) (hp : p.val = t.val % 11 * 512 + k.val) :
    iblk m c 0 t (ix3 q r k) = (m ((c : Thread nD τ).loc main_arg0) : FVec Ideal S2x2048x5632 .f32) (ix3 q Q p) := by
  rw [← V_main_arg0 m c]
  blk_ext [iblk, idx t, hQ, hp]

/-- The block of the second operand at point `t`, entry by entry. -/
theorem blk1 (t : Fin cfg0.N) (k : Fin 512) (n : Fin 2048) (p : Fin 5632) (hp : p.val = t.val % 11 * 512 + k.val) :
    iblk m c 1 t (ix2 k n) = (m ((c : Thread nD τ).loc main_arg1) : FVec Ideal S5632x2048 .f32) (ix2 p n) := by
  rw [← V_w m c]
  blk_ext [iblk, idx t, hp]

/-- The block of the third operand at point `t`, entry by entry. -/
theorem blk2 (t : Fin cfg0.N) (r : Fin 512) (n R : Fin 2048) (hR : R.val = t.val / 11 * 512 + r.val) :
    iblk m c 2 t (ix2 r n) = (m ((c : Thread nD τ).loc main_arg2) : FVec Ideal S2048x2048 .f32) (ix2 R n) := by
  rw [← V_main_arg2 m c]
  blk_ext [iblk, idx t, hR]

/-- The layer norm's scale, staged. -/
theorem blk3 (t : Fin cfg0.N) (n : Fin 2048) : iblk m c 3 t (ix2 0 n) = (m ((c : Thread nD τ).loc main_arg3) : FVec Ideal S2048 .f32) (ix1 n) := by
  rw [← V_g m c]
  blk_ext [iblk, idx t]

/-- The layer norm's shift, staged. -/
theorem blk4 (t : Fin cfg0.N) (n : Fin 2048) : iblk m c 4 t (ix2 0 n) = (m ((c : Thread nD τ).loc main_arg4) : FVec Ideal S2048 .f32) (ix1 n) := by
  rw [← V_b m c]
  blk_ext [iblk, idx t]

/-- The accumulator starts at zero. -/
theorem pay1 (i : S512x2048.Idx) : (k0_pay1 (F := Ideal)) i = (0 : EReal) := by
  unfold k0_pay1
  pointwise

/-- The activation of gate value `g` and up value `u`. -/
def act (g u : EReal) : EReal := (g * Ideal.logistic g) * u

/-- The gate half of the staged pre-activations. -/
theorem ld0 (x : Vec Ideal S2x512x512 .f32) (r n : Fin 512) :
    (View.ld x (Rect.unit ![0, 0, 0] ![1, 512, 512] inb_S2x512x512_S1x512x512_0_0_0) : Vec Ideal S1x512x512 .f32) (ix3 0 r n) = x (ix3 0 r n) := by
  show x _ = x _
  refine congrArg x ?_
  idx_ext

/-- The up half of the staged pre-activations. -/
theorem ld1 (x : Vec Ideal S2x512x512 .f32) (r n : Fin 512) :
    (View.ld x (Rect.unit ![1, 0, 0] ![1, 512, 512] inb_S2x512x512_S1x512x512_1_0_0) : Vec Ideal S1x512x512 .f32) (ix3 0 r n) = x (ix3 1 r n) := by
  show x _ = x _
  refine congrArg x ?_
  idx_ext

/-- What a chunk leaves in the scratch, of the two staged halves. -/
theorem pay2' (g u : Vec Ideal S1x512x512 .f32) (s : Vec Ideal S512x2048 .f32) (b : Vec Ideal S512x2048 .bf16) (r : Fin 512) (n : Fin 2048) :
    k0_pay2 g u s b (ix2 r n) = (s (ix2 r n) : EReal) + ∑ k : Fin 512, act (g (ix3 0 r k)) (u (ix3 0 r k)) * (b (ix2 k n) : EReal) := by
  unfold k0_pay2 act
  pointwise

/-- What a chunk leaves in the scratch: the sum so far plus its product. -/
theorem pay2 (a : Vec Ideal S2x512x512 .f32) (s : Vec Ideal S512x2048 .f32) (b : Vec Ideal S512x2048 .bf16) (r : Fin 512) (n : Fin 2048) :
    k0_pay2 (View.ld a (Rect.unit ![0, 0, 0] ![1, 512, 512] inb_S2x512x512_S1x512x512_0_0_0)) (View.ld a (Rect.unit ![1, 0, 0] ![1, 512, 512] inb_S2x512x512_S1x512x512_1_0_0)) s b (ix2 r n)
      = (s (ix2 r n) : EReal) + ∑ k : Fin 512, act (a (ix3 0 r k)) (a (ix3 1 r k)) * (b (ix2 k n) : EReal) := by
  refine (pay2' _ _ s b r n).trans (congrArg (fun z : EReal => (s (ix2 r n) : EReal) + z) (Finset.sum_congr (M := EReal) rfl fun k _ => ?_))
  rw [ld0, ld1]

/-- What the last chunk stores as the residual sum. -/
theorem pay3 (x s : Vec Ideal S512x2048 .f32) (i : S512x2048.Idx) : k0_pay3 x s i = Ideal.ofBits .f32 0x3FD744FD#32 * (x i : EReal) + Ideal.ofBits .f32 0x3F000000#32 * (s i : EReal) := by
  unfold k0_pay3
  pointwise

/-- What the last chunk stores as the normalized sum. -/
theorem pay4 (x s : Vec Ideal S512x2048 .f32) (g b : Vec Ideal S1x2048 .f32) (r : Fin 512) (n : Fin 2048) :
    k0_pay4 x s g b (ix2 r n) = FfnKit.norm (fun k => k0_pay3 x s (ix2 r k)) (g (ix2 0 n)) (b (ix2 0 n)) n := by
  unfold k0_pay4 FfnKit.norm
  generalize k0_pay3 x s = v
  pointwise

/-- Narrowed, that is the same. -/
theorem pay5 (x s : Vec Ideal S512x2048 .f32) (g b : Vec Ideal S1x2048 .f32) (i : S512x2048.Idx) : (k0_pay5 x s g b i : EReal) = k0_pay4 x s g b i := by
  unfold k0_pay5
  generalize k0_pay4 x s g b = v
  pointwise

/-- A point's chunk of the sum, added to `s`. -/
theorem chunk (t : Fin cfg0.N) (s : Vec Ideal S512x2048 .f32) (r : Fin 512) (n Q : Fin 2048) (hQ : Q.val = t.val / 11 * 512 + r.val) :
    k0_pay2 (View.ld (iblk m c 0 t) (Rect.unit ![0, 0, 0] ![1, 512, 512] inb_S2x512x512_S1x512x512_0_0_0)) (View.ld (iblk m c 0 t) (Rect.unit ![1, 0, 0] ![1, 512, 512] inb_S2x512x512_S1x512x512_1_0_0)) s (iblk m c 1 t) (ix2 r n) = (s (ix2 r n) : EReal) + ∑ k ∈ Finset.range 512, summand (m ((c : Thread nD τ).loc main_arg0)) (m ((c : Thread nD τ).loc main_arg1)) Q n (512 * (t.val % 11) + k) := by
  have ht := lt_of_lt_of_eq t.isLt N_0
  rw [Finset.sum_range]
  refine (pay2 _ _ _ r n).trans (congrArg (fun z : EReal => (s (ix2 r n) : EReal) + z) (Finset.sum_congr (M := EReal) rfl fun k _ => ?_))
  unfold summand
  rw [dif_pos (by omega)]
  refine congrArg₂ (fun z w : EReal => z * w) (congrArg₂ act (blk0 m c t 0 r k Q _ hQ ?_) (blk0 m c t 1 r k Q _ hQ ?_)) (blk1 m c t k n _ ?_)
  all_goals (dsimp only; omega)

/-- The sum of a row block's chunks up to and including point `n`. -/
def upTo (Q q : Fin 2048) (n : ℕ) : EReal :=
  ∑ p ∈ Finset.range (512 * (n % 11 + 1)), summand (m ((c : Thread nD τ).loc main_arg0)) (m ((c : Thread nD τ).loc main_arg1)) Q q p

/-- The first chunk of a row block starts the sum. -/
theorem upTo_zero (t : Fin cfg0.N) (h0 : t.val % 11 = 0) (r : Fin 512) (q Q : Fin 2048) (hQ : Q.val = t.val / 11 * 512 + r.val) :
    (k0_pay2 (View.ld (iblk m c 0 t) (Rect.unit ![0, 0, 0] ![1, 512, 512] inb_S2x512x512_S1x512x512_0_0_0)) (View.ld (iblk m c 0 t) (Rect.unit ![1, 0, 0] ![1, 512, 512] inb_S2x512x512_S1x512x512_1_0_0)) (k0_pay1 (F := Ideal)) (iblk m c 1 t) (ix2 r q) : EReal) = upTo m c Q q t.val := by
  rw [chunk m c t _ r q Q hQ, pay1, zero_add]
  unfold upTo
  rw [h0, Nat.zero_add, Nat.mul_one, Nat.mul_zero]
  refine Finset.sum_congr (M := EReal) rfl fun k _ => ?_
  rw [Nat.zero_add]

/-- A later chunk of a row block continues the sum. -/
theorem upTo_succ (t : Fin cfg0.N) (h0 : ¬ t.val % 11 = 0) (s : Vec Ideal S512x2048 .f32) (r : Fin 512) (q Q : Fin 2048) (hQ : Q.val = t.val / 11 * 512 + r.val)
    (hs : (s (ix2 r q) : EReal) = upTo m c Q q (t.val - 1)) :
    (k0_pay2 (View.ld (iblk m c 0 t) (Rect.unit ![0, 0, 0] ![1, 512, 512] inb_S2x512x512_S1x512x512_0_0_0)) (View.ld (iblk m c 0 t) (Rect.unit ![1, 0, 0] ![1, 512, 512] inb_S2x512x512_S1x512x512_1_0_0)) s (iblk m c 1 t) (ix2 r q) : EReal) = upTo m c Q q t.val := by
  rw [chunk m c t s r q Q hQ, hs]
  unfold upTo
  rw [show 512 * (t.val % 11 + 1) = 512 * ((t.val - 1) % 11 + 1) + 512 from by omega, Finset.sum_range_add,
    show 512 * (t.val % 11) = 512 * ((t.val - 1) % 11 + 1) from by omega]

/-- The scratch after the first chunk of a row block. -/
theorem scr_A (t : Fin cfg0.N) (h0 : t.val % 11 = 0) :
    (outsAt0 m c t.val t.isLt).2.2.2 = k0_pay2 (View.ld (iblk m c 0 t) (Rect.unit ![0, 0, 0] ![1, 512, 512] inb_S2x512x512_S1x512x512_0_0_0)) (View.ld (iblk m c 0 t) (Rect.unit ![1, 0, 0] ![1, 512, 512] inb_S2x512x512_S1x512x512_1_0_0)) (k0_pay1 (F := Ideal)) (iblk m c 1 t) := by
  refine (congrArg (fun z => z.2.2.2) (outsAt0_A m c t h0 (by omega))).trans ?_
  dsimp only
  unfold sout0_A_0
  frame_out
  rfl

/-- The scratch after a later chunk of a row block. -/
theorem scr_BC (t : Fin cfg0.N) (h0 : ¬ t.val % 11 = 0) :
    (outsAt0 m c t.val t.isLt).2.2.2 = k0_pay2 (View.ld (iblk m c 0 t) (Rect.unit ![0, 0, 0] ![1, 512, 512] inb_S2x512x512_S1x512x512_0_0_0)) (View.ld (iblk m c 0 t) (Rect.unit ![1, 0, 0] ![1, 512, 512] inb_S2x512x512_S1x512x512_1_0_0)) (outsAt0 m c (t.val - 1) (by omega)).2.2.2 (iblk m c 1 t) := by
  by_cases h1 : t.val % 11 = 10
  · refine (congrArg (fun z => z.2.2.2) (outsAt0_C m c t h0 h1)).trans ?_
    dsimp only
    unfold sout0_C_0
    frame_out
    simp only [read_unread_whole]
    rfl
  · refine (congrArg (fun z => z.2.2.2) (outsAt0_B m c t h0 h1)).trans ?_
    dsimp only
    unfold sout0_B_0
    frame_out
    simp only [read_unread_whole]
    rfl

/-- After every point the scratch holds the sum of its row block's chunks so far. -/
theorem scr (n : ℕ) (hn : n < cfg0.N) (r : Fin 512) (q Q : Fin 2048) (hQ : Q.val = n / 11 * 512 + r.val) :
    ((outsAt0 m c n hn).2.2.2 (ix2 r q) : EReal) = upTo m c Q q n := by
  induction n using Nat.strong_induction_on with
  | _ n ih =>
    have hN := lt_of_lt_of_eq hn N_0
    by_cases h0 : n % 11 = 0
    · exact (congrFun (scr_A m c ⟨n, hn⟩ h0) _).trans (upTo_zero m c ⟨n, hn⟩ h0 r q Q hQ)
    · exact (congrFun (scr_BC m c ⟨n, hn⟩ h0) _).trans
        (upTo_succ m c ⟨n, hn⟩ h0 _ r q Q hQ (ih (n - 1) (by omega) (by omega) (by omega)))

/-- A row block's residual sum, once its last chunk is in. -/
theorem res (t : Fin cfg0.N) (hm : t.val % 11 = 10) (s : Vec Ideal S512x2048 .f32) (r : Fin 512) (n Q : Fin 2048) (hQ : Q.val = t.val / 11 * 512 + r.val)
    (hs : (s (ix2 r n) : EReal) = upTo m c Q n t.val) :
    k0_pay3 (iblk m c 2 t) s (ix2 r n) = R (m ((c : Thread nD τ).loc main_arg0)) (m ((c : Thread nD τ).loc main_arg1)) (m ((c : Thread nD τ).loc main_arg2)) (ix2 Q n) := by
  rw [pay3, hs, blk2 m c t r n Q hQ]
  unfold upTo R
  rw [hm]
  simp only [Nat.reduceAdd, Nat.reduceMul]
  rfl

/-- A row block's normalized sum, once its last chunk is in. -/
theorem nrm (t : Fin cfg0.N) (hm : t.val % 11 = 10) (s : Vec Ideal S512x2048 .f32) (r : Fin 512) (n Q : Fin 2048) (hQ : Q.val = t.val / 11 * 512 + r.val)
    (hs : ∀ k, (s (ix2 r k) : EReal) = upTo m c Q k t.val) :
    k0_pay4 (iblk m c 2 t) s (iblk m c 3 t) (iblk m c 4 t) (ix2 r n) = N (R (m ((c : Thread nD τ).loc main_arg0)) (m ((c : Thread nD τ).loc main_arg1)) (m ((c : Thread nD τ).loc main_arg2))) (m ((c : Thread nD τ).loc main_arg3)) (m ((c : Thread nD τ).loc main_arg4)) (ix2 Q n) := by
  rw [pay4, blk3 m c t n, blk4 m c t n]
  exact congrArg (fun f => FfnKit.norm f _ _ n) (funext fun k => res m c t hm s r k Q hQ (hs k))

/-- The residual sum after the run. -/
theorem out5 : (dats m 0 c).arrAt 5 cfg0.N = R (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht := lt_of_lt_of_eq t.isLt N_0
  have hm : t.val % 11 = 10 := (flush0_5 t).mp hf
  blk_simp
  rw [after0_5]
  obtain ⟨r, n, rfl⟩ : ∃ (r : Fin 512) (n : Fin 2048), y = (ix2 r n : S512x2048.Idx) := ⟨y 0, y 1, by idx_ext <;> omega⟩
  have e2 := fun k => scr m c t.val t.isLt r k ⟨t.val / 11 * 512 + r.val, by omega⟩ rfl
  rw [outsAt0_C m c t (by omega) hm] at e2 ⊢
  revert e2
  dsimp only
  frame_out
  intro e2
  have hi : (((View.whole main_v3_0).slice (win0_5.rect t)).emb (ix2 r n)) = (ix2 ⟨t.val / 11 * 512 + r.val, by omega⟩ n : S2048x2048.Idx) := by
    blk_ext [idx t]
  rw [hi]
  exact res m c t hm _ r n _ rfl (e2 n)

/-- The normalized sum after the run. -/
theorem out6 : (dats m 0 c).arrAt 6 cfg0.N = N (R (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 6 _ (by decide +kernel) fun t hf y => ?_
  have ht := lt_of_lt_of_eq t.isLt N_0
  have hm : t.val % 11 = 10 := (flush0_6 t).mp hf
  blk_simp
  rw [after0_6]
  obtain ⟨r, n, rfl⟩ : ∃ (r : Fin 512) (n : Fin 2048), y = (ix2 r n : S512x2048.Idx) := ⟨y 0, y 1, by idx_ext <;> omega⟩
  have e2 := fun k => scr m c t.val t.isLt r k ⟨t.val / 11 * 512 + r.val, by omega⟩ rfl
  rw [outsAt0_C m c t (by omega) hm] at e2 ⊢
  revert e2
  dsimp only
  frame_out
  intro e2
  have hi : (((View.whole main_v3_1).slice (win0_6.rect t)).emb (ix2 r n)) = (ix2 ⟨t.val / 11 * 512 + r.val, by omega⟩ n : S2048x2048.Idx) := by
    blk_ext [idx t]
  rw [hi]
  exact nrm m c t hm _ r n _ rfl e2

/-- The narrowed normalized sum after the run. -/
theorem out7 : (dats m 0 c).arrAt 7 cfg0.N = N (R (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 7 _ (by decide +kernel) fun t hf y => ?_
  have ht := lt_of_lt_of_eq t.isLt N_0
  have hm : t.val % 11 = 10 := (flush0_7 t).mp hf
  blk_simp
  rw [after0_7]
  obtain ⟨r, n, rfl⟩ : ∃ (r : Fin 512) (n : Fin 2048), y = (ix2 r n : S512x2048.Idx) := ⟨y 0, y 1, by idx_ext <;> omega⟩
  have e2 := fun k => scr m c t.val t.isLt r k ⟨t.val / 11 * 512 + r.val, by omega⟩ rfl
  rw [outsAt0_C m c t (by omega) hm] at e2 ⊢
  revert e2
  dsimp only
  frame_out
  intro e2
  have hi : (((View.whole main_v3_2).slice (win0_7.rect t)).emb (ix2 r n)) = (ix2 ⟨t.val / 11 * 512 + r.val, by omega⟩ n : S2048x2048.Idx) := by
    blk_ext [idx t]
  rw [hi]
  exact (pay5 _ _ _ _ _).trans (nrm m c t hm _ r n _ rfl e2)

end Cert.DownIdeal.Gen

namespace Cert.DownReferenceIdeal.Gen
open Cert.DownReferenceIdeal

/-- The host's residual sum. -/
theorem ref (a : FVec Ideal S2x2048x5632 .f32) (w : FVec Ideal S5632x2048 .f32) (x : FVec Ideal S2048x2048 .f32) :
    addf (mulf (broadcastInDim S2048x2048 ![] bcast_S_S2048x2048 (constant S_ .f32 0x3FD744FD#32)) x) (mulf (broadcastInDim S2048x2048 ![] bcast_S_S2048x2048 (constant S_ .f32 0x3F000000#32)) (Host.dotGeneral dot_S2048x5632_S5632x2048_S2048x2048_1_0_0_1_n_n none (mulf (mulf (shapeCast _ (extractStridedSlice S1x2048x5632 ![0, 0, 0] a slices_S2x2048x5632_S1x2048x5632_0_0_0) shapeCasts_S1x2048x5632_S2048x5632) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (shapeCast _ (extractStridedSlice S1x2048x5632 ![0, 0, 0] a slices_S2x2048x5632_S1x2048x5632_0_0_0) shapeCasts_S1x2048x5632_S2048x5632)))))) (shapeCast _ (extractStridedSlice S1x2048x5632 ![1, 0, 0] a slices_S2x2048x5632_S1x2048x5632_1_0_0) shapeCasts_S1x2048x5632_S2048x5632)) w))
      = DownIdeal.Gen.R a w x := by
  funext i
  obtain ⟨r, n, rfl⟩ : ∃ (r n : Fin 2048), i = ix2 r n := ⟨i 0, i 1, eq_ix2 i⟩
  pointwise
  unfold DownIdeal.Gen.R
  rw [Finset.sum_range]
  refine congrArg (fun z : EReal => _ + Ideal.ofBits .f32 0x3F000000#32 * z) (Finset.sum_congr (M := EReal) rfl fun k _ => ?_)
  unfold DownIdeal.Gen.summand
  rw [dif_pos k.isLt]
  rfl

/-- The host's layer norm of every row. -/
theorem ref_norm (z : FVec Ideal S2048x2048 .f32) (g b : FVec Ideal S2048 .f32) :
    addf (mulf (mulf (subf z (broadcastInDim S2048x2048 ![0, 1] bcast_S2048x1_S2048x2048_0_1 (Host.divf (broadcastInDim S2048x1 ![0] bcast_S2048_S2048x1_0 (Host.reduceAdd z (constant S_ .f32 0x00000000#32) reducesTo_S2048x2048_S2048_d1 h_S_)) (broadcastInDim S2048x1 ![] bcast_S_S2048x1 (constant S_ .f32 0x45000000#32))))) (broadcastInDim S2048x2048 ![0, 1] bcast_S2048x1_S2048x2048_0_1 (Host.rsqrt (addf (Host.divf (broadcastInDim S2048x1 ![0] bcast_S2048_S2048x1_0 (Host.reduceAdd (mulf (subf z (broadcastInDim S2048x2048 ![0, 1] bcast_S2048x1_S2048x2048_0_1 (Host.divf (broadcastInDim S2048x1 ![0] bcast_S2048_S2048x1_0 (Host.reduceAdd z (constant S_ .f32 0x00000000#32) reducesTo_S2048x2048_S2048_d1 h_S_)) (broadcastInDim S2048x1 ![] bcast_S_S2048x1 (constant S_ .f32 0x45000000#32))))) (subf z (broadcastInDim S2048x2048 ![0, 1] bcast_S2048x1_S2048x2048_0_1 (Host.divf (broadcastInDim S2048x1 ![0] bcast_S2048_S2048x1_0 (Host.reduceAdd z (constant S_ .f32 0x00000000#32) reducesTo_S2048x2048_S2048_d1 h_S_)) (broadcastInDim S2048x1 ![] bcast_S_S2048x1 (constant S_ .f32 0x45000000#32)))))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x3727C5AC#32)))))) (broadcastInDim S2048x2048 ![0, 1] bcast_S1x2048_S2048x2048_0_1 (broadcastInDim S1x2048 ![1] bcast_S2048_S1x2048_1 g))) (broadcastInDim S2048x2048 ![0, 1] bcast_S1x2048_S2048x2048_0_1 (broadcastInDim S1x2048 ![1] bcast_S2048_S1x2048_1 b))
      = DownIdeal.Gen.N z g b := by
  funext i
  obtain ⟨r, n, rfl⟩ : ∃ (r n : Fin 2048), i = ix2 r n := ⟨i 0, i 1, eq_ix2 i⟩
  unfold DownIdeal.Gen.N FfnKit.norm
  pointwise

end Cert.DownReferenceIdeal.Gen

namespace Cert.ValDown

/-- The host's program runs, leaves its arguments and every counter at zero. -/
theorem reference_frame : quiescent_DownReferenceIdeal (hDownReferenceIdeal := DownReferenceIdeal.Gen.facts) := fun m g _ =>
  (θ_run DownReferenceIdeal.defs _ _).mono (fun r h => ⟨fun c => (h c).2.2.2, sem_eq_zero_of_no_sems (by decide) r.2⟩) (DownReferenceIdeal.Value.run m g)

/-- Kernel and host end with the same three results, of any arguments. -/
theorem value : algebraic_DownIdeal_DownReferenceIdeal (hDownIdeal := DownIdeal.Gen.facts) (hDownReferenceIdeal := DownReferenceIdeal.Gen.facts) := fun m g m' g' _ he =>
  ⟨fun c => DownIdeal.Gen.R (m ((c.tc : Thread DownIdeal.nD DownIdeal.τ).loc DownIdeal.main_arg0)) (m ((c.tc : Thread DownIdeal.nD DownIdeal.τ).loc DownIdeal.main_arg1))
      (m ((c.tc : Thread DownIdeal.nD DownIdeal.τ).loc DownIdeal.main_arg2)),
    fun c => DownIdeal.Gen.N (DownIdeal.Gen.R (m ((c.tc : Thread DownIdeal.nD DownIdeal.τ).loc DownIdeal.main_arg0)) (m ((c.tc : Thread DownIdeal.nD DownIdeal.τ).loc DownIdeal.main_arg1))
      (m ((c.tc : Thread DownIdeal.nD DownIdeal.τ).loc DownIdeal.main_arg2))) (m ((c.tc : Thread DownIdeal.nD DownIdeal.τ).loc DownIdeal.main_arg3)) (m ((c.tc : Thread DownIdeal.nD DownIdeal.τ).loc DownIdeal.main_arg4)),
    fun c => DownIdeal.Gen.N (DownIdeal.Gen.R (m ((c.tc : Thread DownIdeal.nD DownIdeal.τ).loc DownIdeal.main_arg0)) (m ((c.tc : Thread DownIdeal.nD DownIdeal.τ).loc DownIdeal.main_arg1))
      (m ((c.tc : Thread DownIdeal.nD DownIdeal.τ).loc DownIdeal.main_arg2))) (m ((c.tc : Thread DownIdeal.nD DownIdeal.τ).loc DownIdeal.main_arg3)) (m ((c.tc : Thread DownIdeal.nD DownIdeal.τ).loc DownIdeal.main_arg4)),
    (θ_run DownIdeal.defs _ _).mono (fun _ h c => ⟨(h c).1.trans (DownIdeal.Gen.out5 m c), (h c).2.1.trans (DownIdeal.Gen.out6 m c), (h c).2.2.1.trans (DownIdeal.Gen.out7 m c), (h c).2.2.2⟩)
      (DownIdeal.Value.run_blocks m g),
    (θ_run DownReferenceIdeal.defs _ _).mono (fun _ h c =>
      ⟨(h c).1.trans (by
        rw [(he c).1, (he c).2.1, (he c).2.2.1]
        exact DownReferenceIdeal.Gen.ref _ _ _),
      (h c).2.1.trans (by
        unfold DownReferenceIdeal.Value.res_main_v35
        rw [(he c).1, (he c).2.1, (he c).2.2.1, (he c).2.2.2.1, (he c).2.2.2.2]
        exact (DownReferenceIdeal.Gen.ref_norm _ _ _).trans (congrArg (fun z => DownIdeal.Gen.N z _ _) (DownReferenceIdeal.Gen.ref _ _ _))),
      (h c).2.2.1.trans (by
        unfold DownReferenceIdeal.Value.res_main_v36
        rw [(he c).1, (he c).2.1, (he c).2.2.1, (he c).2.2.2.1, (he c).2.2.2.2]
        exact (DownReferenceIdeal.Gen.ref_norm _ _ _).trans (congrArg (fun z => DownIdeal.Gen.N z _ _) (DownReferenceIdeal.Gen.ref _ _ _))), (h c).2.2.2⟩)
      (DownReferenceIdeal.Value.run m' g')⟩

end Cert.ValDown
-- ==== Proof.InProj.lean ====
/-
  The input projection, `x · w`: the kernel's 19 column blocks and the host's one product are the same sums.
-/
module

public import proofs.«01_k».proof.Defs
public import proofs.«01_k».proof.Proof.Gen.InProjIdeal.Value
public import proofs.«01_k».proof.Proof.Gen.InProjReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InProjIdeal.Gen

open Cert.InProjIdeal

/-- The product, entry by entry. -/
def G (x : FVec Ideal S2048x2048 .f32) (w : FVec Ideal S2048x9728 .f32) : FVec Ideal S2048x9728 .f32 := fun i =>
  ∑ k : Fin 2048, x (ix2 (i 0) k) * w (ix2 k (i 1))

/-- Where each window's block lies at grid point `t`. -/
theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ) (c : Dev nD)

/-- The narrowed input is the input. -/
theorem V_x : V m c main_v0 = (m ((c : Thread nD τ).loc main_arg0) : FVec Ideal S2048x2048 .f32) := by
  show StableHlo.after hostOps0 _ _ = _
  unfold hostOps0
  after_reads_simp
  try rfl

/-- The narrowed weights are the weights. -/
theorem V_w : V m c main_v1 = (m ((c : Thread nD τ).loc main_arg1) : FVec Ideal S2048x9728 .f32) := by
  show StableHlo.after hostOps0 _ _ = _
  unfold hostOps0
  after_reads_simp
  try rfl

/-- The block of the first operand at point `t`, entry by entry. -/
theorem blk0 (t : Fin cfg0.N) (r k : Fin 2048) :
    iblk m c 0 t (ix2 r k) = (m ((c : Thread nD τ).loc main_arg0) : FVec Ideal S2048x2048 .f32) (ix2 r k) := by
  rw [← V_x m c]
  blk_ext [iblk, idx t]

/-- The block of the second operand at point `t`, entry by entry. -/
theorem blk1 (t : Fin cfg0.N) (k : Fin 2048) (n : Fin 512) (p : Fin 9728) (hp : p.val = t.val * 512 + n.val) :
    iblk m c 1 t (ix2 k n) = (m ((c : Thread nD τ).loc main_arg1) : FVec Ideal S2048x9728 .f32) (ix2 k p) := by
  rw [← V_w m c]
  blk_ext [iblk, idx t, hp]

/-- What the body computes of its blocks, entry by entry. -/
theorem pay (v0 : Vec Ideal S2048x2048 .bf16) (v2 : Vec Ideal S2048x512 .bf16) (r : Fin 2048) (n : Fin 512) :
    k0_pay1 v0 v2 (ix2 r n) = ∑ k : Fin 2048, (v0 (ix2 r k) : EReal) * (v2 (ix2 k n) : EReal) := by
  unfold k0_pay1
  pointwise

/-- The output array after the run. -/
theorem out : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, n, rfl⟩ : ∃ (r : Fin 2048) (n : Fin 512), y = (ix2 r n : S2048x512.Idx) := ⟨y 0, y 1, by idx_ext <;> omega⟩
  refine (pay _ _ r n).trans (Finset.sum_congr (M := EReal) rfl fun k _ => congrArg₂ (fun z w : EReal => z * w) ((blk0 m c t r k).trans ?_) (blk1 m c t k n _ ?_))
  · congr 1
    blk_ext [idx t]
  · blk_simp [idx t]

end Cert.InProjIdeal.Gen

namespace Cert.InProjReferenceIdeal.Gen
open Cert.InProjReferenceIdeal

/-- The host's product is the same function. -/
theorem ref (x : FVec Ideal S2048x2048 .f32) (w : FVec Ideal S2048x9728 .f32) :
    Host.dotGeneral dot_S2048x2048_S2048x9728_S2048x9728_1_0_0_1_n_n none x w = InProjIdeal.Gen.G x w := by
  funext i
  obtain ⟨r, n, rfl⟩ : ∃ (r : Fin 2048) (n : Fin 9728), i = ix2 r n := ⟨i 0, i 1, eq_ix2 i⟩
  pointwise
  rfl

end Cert.InProjReferenceIdeal.Gen

namespace Cert.ValInProj

/-- The host's program runs, leaves its arguments and every counter at zero. -/
theorem reference_frame : quiescent_InProjReferenceIdeal (hInProjReferenceIdeal := InProjReferenceIdeal.Gen.facts) := fun m g _ =>
  (θ_run InProjReferenceIdeal.defs _ _).mono (fun r h => ⟨fun c => (h c).2, sem_eq_zero_of_no_sems (by decide) r.2⟩) (InProjReferenceIdeal.Value.run m g)

/-- Kernel and host end with the same product. -/
theorem value : algebraic_InProjIdeal_InProjReferenceIdeal (hInProjIdeal := InProjIdeal.Gen.facts) (hInProjReferenceIdeal := InProjReferenceIdeal.Gen.facts) := fun m g m' g' _ he =>
  ⟨fun c => InProjIdeal.Gen.G (m ((c.tc : Thread InProjIdeal.nD InProjIdeal.τ).loc InProjIdeal.main_arg0)) (m ((c.tc : Thread InProjIdeal.nD InProjIdeal.τ).loc InProjIdeal.main_arg1)),
    (θ_run InProjIdeal.defs _ _).mono (fun _ h c => ⟨(h c).1.trans (InProjIdeal.Gen.out m c), (h c).2⟩) (InProjIdeal.Value.run_blocks m g),
    (θ_run InProjReferenceIdeal.defs _ _).mono (fun _ h c => ⟨(h c).1.trans ((InProjReferenceIdeal.Gen.ref _ _).trans (congrArg₂ InProjIdeal.Gen.G (he c).1 (he c).2)), (h c).2⟩)
      (InProjReferenceIdeal.Value.run m' g')⟩

end Cert.ValInProj
-- ==== Proof.InDw.lean ====
/-
  The input projection's weight gradient, `x` transposed times `dproj`: the kernel's 19 column blocks over one transposed copy of `x`, which the first
  block's point leaves in scratch for all the others, and the host's one product are the same sums.
-/
module

public import proofs.«01_k».proof.Defs
public import proofs.«01_k».proof.Proof.Gen.InDwIdeal.Value
public import proofs.«01_k».proof.Proof.Gen.InDwReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InDwIdeal.Gen

open Cert.InDwIdeal

/-- The product, entry by entry. -/
def G (x : FVec Ideal S2048x2048 .f32) (d : FVec Ideal S2048x9728 .f32) : FVec Ideal S2048x9728 .f32 := fun i =>
  ∑ k : Fin 2048, x (ix2 k (i 0)) * d (ix2 k (i 1))

/-- Where each window's block lies at grid point `t`. -/
theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ) (c : Dev nD)

/-- The narrowed input is the input. -/
theorem V_x : V m c main_v0 = (m ((c : Thread nD τ).loc main_arg0) : FVec Ideal S2048x2048 .f32) := by
  show StableHlo.after hostOps0 _ _ = _
  unfold hostOps0
  after_reads_simp
  try rfl

/-- The narrowed gradient is the gradient. -/
theorem V_d : V m c main_v1 = (m ((c : Thread nD τ).loc main_arg1) : FVec Ideal S2048x9728 .f32) := by
  show StableHlo.after hostOps0 _ _ = _
  unfold hostOps0
  after_reads_simp
  try rfl

/-- The block of the first operand at point `t`, entry by entry. -/
theorem blk0 (t : Fin cfg0.N) (k r : Fin 2048) :
    iblk m c 0 t (ix2 k r) = (m ((c : Thread nD τ).loc main_arg0) : FVec Ideal S2048x2048 .f32) (ix2 k r) := by
  rw [← V_x m c]
  blk_ext [iblk, idx t]

/-- The block of the second operand at point `t`, entry by entry. -/
theorem blk1 (t : Fin cfg0.N) (k : Fin 2048) (n : Fin 512) (p : Fin 9728) (hp : p.val = t.val * 512 + n.val) :
    iblk m c 1 t (ix2 k n) = (m ((c : Thread nD τ).loc main_arg1) : FVec Ideal S2048x9728 .f32) (ix2 k p) := by
  rw [← V_d m c]
  blk_ext [iblk, idx t, hp]

/-- What the body computes of its blocks, entry by entry. -/
theorem pay (v3 : Vec Ideal S2048x2048 .bf16) (v4 : Vec Ideal S2048x512 .bf16) (r : Fin 2048) (n : Fin 512) :
    k0_pay5 v3 v4 (ix2 r n) = ∑ k : Fin 2048, (v3 (ix2 r k) : EReal) * (v4 (ix2 k n) : EReal) := by
  unfold k0_pay5
  pointwise

/-- Four stores, each 512 rows of `x` transposed, leave `x` transposed. -/
theorem canon (x : Vec Ideal S2048x2048 .bf16) (r : Fin 2048) (k : Fin 2048) :
    View.canon (Val := Elt Ideal) (s := S2048x2048) (e := .bf16) [
      ⟨Rect.unit ![0, 1536] ![2048, 512] inb_S2048x2048_S2048x512_0_1536, k0_pay4 (View.ld x (Rect.unit ![1536, 0] ![512, 2048] inb_S2048x2048_S512x2048_1536_0))⟩,
      ⟨Rect.unit ![0, 1024] ![2048, 512] inb_S2048x2048_S2048x512_0_1024, k0_pay3 (View.ld x (Rect.unit ![1024, 0] ![512, 2048] inb_S2048x2048_S512x2048_1024_0))⟩,
      ⟨Rect.unit ![0, 512] ![2048, 512] inb_S2048x2048_S2048x512_0_512, k0_pay2 (View.ld x (Rect.unit ![512, 0] ![512, 2048] inb_S2048x2048_S512x2048_512_0))⟩,
      ⟨Rect.unit ![0, 0] ![2048, 512] inb_S2048x2048_S2048x512_0_0, k0_pay1 (View.ld x (Rect.unit ![0, 0] ![512, 2048] inb_S2048x2048_S512x2048_0_0))⟩] (ix2 r k)
      = x (ix2 k r) := by
  canon_tiles x h
  all_goals (open_payloads; pointwise; blk_ext <;> first | exact h0.symm | exact h1.symm)

/-- After every point the scratch holds the left operand transposed. -/
theorem scr (n : ℕ) (hn : n < cfg0.N) (r : Fin 2048) (k : Fin 2048) : (outsAt0 m c n hn).2 (ix2 r k) = (m ((c : Thread nD τ).loc main_arg0) : FVec Ideal S2048x2048 .f32) (ix2 k r) := by
  induction n with
  | zero =>
    have e := congrArg Prod.snd (outsAt0_A m c ⟨0, hn⟩ (Nat.zero_mod _))
    refine (congrFun e _).trans ?_
    dsimp only
    frame_out
    exact (canon _ r k).trans (blk0 m c _ k r)
  | succ n ih =>
    have hN := lt_of_lt_of_eq hn N_0
    have e := congrArg Prod.snd (outsAt0_B m c ⟨n + 1, hn⟩ (by dsimp only; omega))
    have key : ∀ (n' : ℕ) (h' : n' < cfg0.N), n' = n → (outsAt0 m c n' h').2 (ix2 r k) = (m ((c : Thread nD τ).loc main_arg0) : FVec Ideal S2048x2048 .f32) (ix2 k r) := by
      rintro _ _ rfl
      exact ih _
    refine (congrFun e _).trans ?_
    dsimp only
    unfold sout0_B_0
    exact key _ _ (Nat.add_sub_cancel n 1)

/-- The output array after the run. -/
theorem out : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  blk_simp
  rw [after0_2]
  obtain ⟨r, n, rfl⟩ : ∃ (r : Fin 2048) (n : Fin 512), y = (ix2 r n : S2048x512.Idx) := ⟨y 0, y 1, by idx_ext <;> omega⟩
  suffices h : ∀ X : Vec Ideal S2048x2048 .bf16, (∀ k, X (ix2 r k) = (m ((c : Thread nD τ).loc main_arg0) : FVec Ideal S2048x2048 .f32) (ix2 k r)) →
      k0_pay5 X (iblk m c 1 t) (ix2 r n) = G (m ((c : Thread nD τ).loc main_arg0)) (m ((c : Thread nD τ).loc main_arg1)) (((View.whole main_v2).slice (win0_2.rect t)).emb (ix2 r n)) by
    by_cases h0 : t.val % 19 = 0
    · rw [outsAt0_A m c t h0]
      frame_out
      refine h _ fun k => ?_
      exact (FfnKit.readCov_whole (S := S2048x2048) _ _ _ (by decide) _).trans ((canon _ r k).trans (blk0 m c t k r))
    · rw [outsAt0_B m c t h0]
      frame_out
      simp only [read_unread_whole]
      exact h _ fun k => scr m c _ _ r k
  intro X hX
  refine (pay _ _ r n).trans (Finset.sum_congr (M := EReal) rfl fun k _ => congrArg₂ (fun z w : EReal => z * w) ((hX k).trans ?_) (blk1 m c t k n _ ?_))
  · congr 1
    blk_ext [idx t]
  · blk_simp [idx t]

end Cert.InDwIdeal.Gen

namespace Cert.InDwReferenceIdeal.Gen
open Cert.InDwReferenceIdeal

/-- The host's operations, composed, are the same function. -/
theorem ref (x : FVec Ideal S2048x2048 .f32) (d : FVec Ideal S2048x9728 .f32) :
    truncf .bf16 (transpose S2048x9728 [1, 0] (Host.dotGeneral dot_S2048x9728_S2048x2048_S9728x2048_0_0_1_1_n_n none d x) transposes_S9728x2048_S2048x9728_1_0) bitsLt_bf16_f32
      = InDwIdeal.Gen.G x d := by
  funext i
  obtain ⟨r, n, rfl⟩ : ∃ (r : Fin 2048) (n : Fin 9728), i = ix2 r n := ⟨i 0, i 1, eq_ix2 i⟩
  pointwise
  exact Finset.sum_congr (M := EReal) rfl fun k _ => mul_comm (G := EReal) _ _

end Cert.InDwReferenceIdeal.Gen

namespace Cert.ValInDw

/-- The host's program runs, leaves its arguments and every counter at zero. -/
theorem reference_frame : quiescent_InDwReferenceIdeal (hInDwReferenceIdeal := InDwReferenceIdeal.Gen.facts) := fun m g _ =>
  (θ_run InDwReferenceIdeal.defs _ _).mono (fun r h => ⟨fun c => (h c).2, sem_eq_zero_of_no_sems (by decide) r.2⟩) (InDwReferenceIdeal.Value.run m g)

/-- Kernel and host end with the same product. -/
theorem value : algebraic_InDwIdeal_InDwReferenceIdeal (hInDwIdeal := InDwIdeal.Gen.facts) (hInDwReferenceIdeal := InDwReferenceIdeal.Gen.facts) := fun m g m' g' _ he =>
  ⟨fun c => InDwIdeal.Gen.G (m ((c.tc : Thread InDwIdeal.nD InDwIdeal.τ).loc InDwIdeal.main_arg0)) (m ((c.tc : Thread InDwIdeal.nD InDwIdeal.τ).loc InDwIdeal.main_arg1)),
    (θ_run InDwIdeal.defs _ _).mono (fun _ h c => ⟨(h c).1.trans (InDwIdeal.Gen.out m c), (h c).2⟩) (InDwIdeal.Value.run_blocks m g),
    (θ_run InDwReferenceIdeal.defs _ _).mono (fun _ h c => ⟨(h c).1.trans ((InDwReferenceIdeal.Gen.ref _ _).trans (congrArg₂ InDwIdeal.Gen.G (he c).1 (he c).2)), (h c).2⟩)
      (InDwReferenceIdeal.Value.run m' g')⟩

end Cert.ValInDw
-- ==== Proof.InDx.lean ====
/-
  The input projection's input gradient, `dproj` times `w` transposed with the residual's share `ALPHA * dr` added: the kernel's four row blocks, each
  summed over 19 chunks of 512 columns in a scratch accumulator, and the host's one product are the same sums.
-/
module

public import proofs.«01_k».proof.Defs
public import proofs.«01_k».proof.Proof.Gen.InDxIdeal.Value
public import proofs.«01_k».proof.Proof.Gen.InDxReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InDxIdeal.Gen

open Cert.InDxIdeal

/-- The product's term at column `p` of 9728. -/
def summand (d w : FVec Ideal S2048x9728 .f32) (r q : Fin 2048) (p : ℕ) : EReal :=
  if h : p < 9728 then (d (ix2 r ⟨p, h⟩) : EReal) * w (ix2 q ⟨p, h⟩) else 0

/-- The result, entry by entry. -/
def G (d w : FVec Ideal S2048x9728 .f32) (g : FVec Ideal S2048x2048 .f32) : FVec Ideal S2048x2048 .f32 := fun i =>
  (∑ p ∈ Finset.range 9728, summand d w (i 0) (i 1) p) + Ideal.ofBits .f32 0x3FD744FD#32 * (g i : EReal)

/-- Where each window's block lies at grid point `t`. -/
theorem idx : ∀ t : Fin cfg0.N, win0_0.index t = ![t.val / 19, t.val % 19] ∧ win0_1.index t = ![0, t.val % 19] ∧ win0_2.index t = ![t.val / 19, 0] ∧ win0_3.index t = ![t.val / 19, 0] :=
  (by decide +kernel : ∀ t : Fin grid0.N, _)

variable (m : (ℓ : Loc nD τ sig) → Buf (Elt Ideal) ℓ) (c : Dev nD)

/-- The narrowed gradient is the gradient. -/
theorem V_d : V m c main_v0 = (m ((c : Thread nD τ).loc main_arg0) : FVec Ideal S2048x9728 .f32) := by
  show StableHlo.after hostOps0 _ _ = _
  unfold hostOps0
  after_reads_simp
  try rfl

/-- The narrowed weights are the weights. -/
theorem V_w : V m c main_v1 = (m ((c : Thread nD τ).loc main_arg1) : FVec Ideal S2048x9728 .f32) := by
  show StableHlo.after hostOps0 _ _ = _
  unfold hostOps0
  after_reads_simp
  try rfl

/-- The block of the first operand at point `t`, entry by entry. -/
theorem blk0 (t : Fin cfg0.N) (r k : Fin 512) (R : Fin 2048) (p : Fin 9728) (hR : R.val = t.val / 19 * 512 + r.val) (hp : p.val = t.val % 19 * 512 + k.val) :
    iblk m c 0 t (ix2 r k) = (m ((c : Thread nD τ).loc main_arg0) : FVec Ideal S2048x9728 .f32) (ix2 R p) := by
  rw [← V_d m c]
  blk_ext [iblk, idx t, hR, hp]

/-- The block of the second operand at point `t`, entry by entry. -/
theorem blk1 (t : Fin cfg0.N) (n : Fin 2048) (k : Fin 512) (p : Fin 9728) (hp : p.val = t.val % 19 * 512 + k.val) :
    iblk m c 1 t (ix2 n k) = (m ((c : Thread nD τ).loc main_arg1) : FVec Ideal S2048x9728 .f32) (ix2 n p) := by
  rw [← V_w m c]
  blk_ext [iblk, idx t, hp]

/-- The block of the third operand at point `t`, entry by entry. -/
theorem blk2 (t : Fin cfg0.N) (r : Fin 512) (n R : Fin 2048) (hR : R.val = t.val / 19 * 512 + r.val) :
    iblk m c 2 t (ix2 r n) = (m ((c : Thread nD τ).loc main_arg2) : FVec Ideal S2048x2048 .f32) (ix2 R n) := by
  rw [← V_main_arg2 m c]
  blk_ext [iblk, idx t, hR]

/-- The body's product of its blocks, entry by entry. -/
theorem pay1 (a : Vec Ideal S512x512 .bf16) (b : Vec Ideal S2048x512 .bf16) (r : Fin 512) (n : Fin 2048) :
    k0_pay1 a b (ix2 r n) = ∑ k : Fin 512, (a (ix2 r k) : EReal) * (b (ix2 n k) : EReal) := by
  unfold k0_pay1
  pointwise

/-- What the first chunk leaves in the scratch. -/
theorem pay2 (a : Vec Ideal S512x512 .bf16) (b : Vec Ideal S2048x512 .bf16) : k0_pay2 a b = k0_pay1 a b := by
  funext i
  unfold k0_pay2
  generalize k0_pay1 a b = v
  pointwise

/-- What a later chunk leaves in the scratch: the sum so far plus its product. -/
theorem pay3 (a : Vec Ideal S512x512 .bf16) (b : Vec Ideal S2048x512 .bf16) (s : Vec Ideal S512x2048 .f32) (r : Fin 512) (n : Fin 2048) :
    k0_pay3 a b s (ix2 r n) = (s (ix2 r n) : EReal) + (k0_pay1 a b (ix2 r n) : EReal) := by
  unfold k0_pay3 k0_pay1
  pointwise

/-- What the last chunk leaves in the output: the sum plus `ALPHA` times the added block. -/
theorem pay4 (s v : Vec Ideal S512x2048 .f32) (i : S512x2048.Idx) :
    k0_pay4 s v i = (s i : EReal) + Ideal.ofBits .f32 0x3FD744FD#32 * (v i : EReal) := by
  unfold k0_pay4
  pointwise

/-- A point's chunk of the sum. -/
theorem chunk (t : Fin cfg0.N) (r : Fin 512) (n R : Fin 2048) (hR : R.val = t.val / 19 * 512 + r.val) :
    k0_pay1 (iblk m c 0 t) (iblk m c 1 t) (ix2 r n) = ∑ k ∈ Finset.range 512, summand (m ((c : Thread nD τ).loc main_arg0)) (m ((c : Thread nD τ).loc main_arg1)) R n (512 * (t.val % 19) + k) := by
  rw [Finset.sum_range]
  refine (pay1 _ _ r n).trans (Finset.sum_congr (M := EReal) rfl fun k _ => ?_)
  unfold summand
  rw [dif_pos (by omega)]
  refine congrArg₂ (fun z w : EReal => z * w) (blk0 m c t r k R _ hR ?_) (blk1 m c t n k _ ?_)
  all_goals (dsimp only; omega)

/-- The sum of a row block's chunks up to and including point `n`. -/
def upTo (R q : Fin 2048) (n : ℕ) : EReal :=
  ∑ p ∈ Finset.range (512 * (n % 19 + 1)), summand (m ((c : Thread nD τ).loc main_arg0)) (m ((c : Thread nD τ).loc main_arg1)) R q p

/-- The first chunk of a row block starts the sum. -/
theorem upTo_zero (t : Fin cfg0.N) (h0 : t.val % 19 = 0) (r : Fin 512) (q R : Fin 2048) (hR : R.val = t.val / 19 * 512 + r.val) :
    (k0_pay1 (iblk m c 0 t) (iblk m c 1 t) (ix2 r q) : EReal) = upTo m c R q t.val := by
  rw [chunk m c t r q R hR]
  unfold upTo
  rw [h0, Nat.zero_add, Nat.mul_one, Nat.mul_zero]
  refine Finset.sum_congr (M := EReal) rfl fun k _ => ?_
  rw [Nat.zero_add]

/-- A later chunk of a row block continues the sum. -/
theorem upTo_succ (t : Fin cfg0.N) (h0 : ¬ t.val % 19 = 0) (s : Vec Ideal S512x2048 .f32) (r : Fin 512) (q R : Fin 2048) (hR : R.val = t.val / 19 * 512 + r.val)
    (hs : (s (ix2 r q) : EReal) = upTo m c R q (t.val - 1)) :
    (k0_pay3 (iblk m c 0 t) (iblk m c 1 t) s (ix2 r q) : EReal) = upTo m c R q t.val := by
  rw [pay3, hs, chunk m c t r q R hR]
  unfold upTo
  rw [show 512 * (t.val % 19 + 1) = 512 * ((t.val - 1) % 19 + 1) + 512 from by omega, Finset.sum_range_add,
    show 512 * (t.val % 19) = 512 * ((t.val - 1) % 19 + 1) from by omega]

/-- The scratch after the first chunk of a row block. -/
theorem scr_A (t : Fin cfg0.N) (h0 : t.val % 19 = 0) : (outsAt0 m c t.val t.isLt).2 = k0_pay1 (iblk m c 0 t) (iblk m c 1 t) := by
  refine (congrArg Prod.snd (outsAt0_A m c t h0 (by omega) (by omega))).trans ?_
  dsimp only
  unfold sout0_A_0
  frame_out
  exact pay2 _ _

/-- The scratch after a later chunk of a row block. -/
theorem scr_BC (t : Fin cfg0.N) (h0 : ¬ t.val % 19 = 0) :
    (outsAt0 m c t.val t.isLt).2 = k0_pay3 (iblk m c 0 t) (iblk m c 1 t) (outsAt0 m c (t.val - 1) (by omega)).2 := by
  by_cases h1 : t.val % 19 = 18
  · refine (congrArg Prod.snd (outsAt0_C m c t h0 (by omega) h1)).trans ?_
    dsimp only
    unfold sout0_C_0
    frame_out
    simp only [read_unread_whole]
  · refine (congrArg Prod.snd (outsAt0_B m c t h0 (by omega) h1)).trans ?_
    dsimp only
    unfold sout0_B_0
    frame_out
    simp only [read_unread_whole]

/-- After every point the scratch holds the sum of its row block's chunks so far. -/
theorem scr (n : ℕ) (hn : n < cfg0.N) (r : Fin 512) (q R : Fin 2048) (hR : R.val = n / 19 * 512 + r.val) :
    ((outsAt0 m c n hn).2 (ix2 r q) : EReal) = upTo m c R q n := by
  induction n using Nat.strong_induction_on with
  | _ n ih =>
    have hN := lt_of_lt_of_eq hn N_0
    by_cases h0 : n % 19 = 0
    · exact (congrFun (scr_A m c ⟨n, hn⟩ h0) _).trans (upTo_zero m c ⟨n, hn⟩ h0 r q R hR)
    · exact (congrFun (scr_BC m c ⟨n, hn⟩ h0) _).trans
        (upTo_succ m c ⟨n, hn⟩ h0 _ r q R hR (ih (n - 1) (by omega) (by omega) (by omega)))

/-- The output array after the run. -/
theorem out : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := lt_of_lt_of_eq t.isLt N_0
  have hm : t.val % 19 = 18 := (flush0_3 t).mp hf
  blk_simp
  rw [after0_3]
  obtain ⟨r, n, rfl⟩ : ∃ (r : Fin 512) (n : Fin 2048), y = (ix2 r n : S512x2048.Idx) := ⟨y 0, y 1, by idx_ext <;> omega⟩
  have e2 := scr m c t.val t.isLt r n ⟨t.val / 19 * 512 + r.val, by omega⟩ rfl
  rw [outsAt0_C m c t (by omega) (by omega) hm] at e2 ⊢
  revert e2
  dsimp only
  frame_out
  intro e2
  rw [pay4, e2, blk2 m c t r n ⟨t.val / 19 * 512 + r.val, by omega⟩ rfl]
  have hi : (((View.whole main_v2).slice (win0_3.rect t)).emb (ix2 r n)) = (ix2 ⟨t.val / 19 * 512 + r.val, by omega⟩ n : S2048x2048.Idx) := by
    blk_ext [idx t]
  unfold upTo G
  rw [hi, hm]
  simp only [Nat.reduceAdd, Nat.reduceMul]
  rfl

end Cert.InDxIdeal.Gen

namespace Cert.InDxReferenceIdeal.Gen
open Cert.InDxReferenceIdeal

/-- The host's operations, composed, are the same function. -/
theorem ref (d w : FVec Ideal S2048x9728 .f32) (g : FVec Ideal S2048x2048 .f32) :
    addf (mulf (broadcastInDim S2048x2048 ![] bcast_S_S2048x2048 (constant S_ .f32 0x3FD744FD#32)) g) (Host.dotGeneral dot_S2048x9728_S2048x9728_S2048x2048_1_1_0_0_n_n none d w)
      = InDxIdeal.Gen.G d w g := by
  funext i
  obtain ⟨r, n, rfl⟩ : ∃ (r n : Fin 2048), i = ix2 r n := ⟨i 0, i 1, eq_ix2 i⟩
  pointwise
  unfold InDxIdeal.Gen.G
  rw [add_comm, Finset.sum_range]
  refine congrArg (fun z : EReal => z + _) (Finset.sum_congr (M := EReal) rfl fun k _ => ?_)
  unfold InDxIdeal.Gen.summand
  rw [dif_pos k.isLt]
  rfl

end Cert.InDxReferenceIdeal.Gen

namespace Cert.ValInDx

/-- The host's program runs, leaves its arguments and every counter at zero. -/
theorem reference_frame : quiescent_InDxReferenceIdeal (hInDxReferenceIdeal := InDxReferenceIdeal.Gen.facts) := fun m g _ =>
  (θ_run InDxReferenceIdeal.defs _ _).mono (fun r h => ⟨fun c => (h c).2, sem_eq_zero_of_no_sems (by decide) r.2⟩) (InDxReferenceIdeal.Value.run m g)

/-- Kernel and host end with the same product. -/
theorem value : algebraic_InDxIdeal_InDxReferenceIdeal (hInDxIdeal := InDxIdeal.Gen.facts) (hInDxReferenceIdeal := InDxReferenceIdeal.Gen.facts) := fun m g m' g' _ he =>
  ⟨fun c => InDxIdeal.Gen.G (m ((c.tc : Thread InDxIdeal.nD InDxIdeal.τ).loc InDxIdeal.main_arg0)) (m ((c.tc : Thread InDxIdeal.nD InDxIdeal.τ).loc InDxIdeal.main_arg1))
      (m ((c.tc : Thread InDxIdeal.nD InDxIdeal.τ).loc InDxIdeal.main_arg2)),
    (θ_run InDxIdeal.defs _ _).mono (fun _ h c => ⟨(h c).1.trans (InDxIdeal.Gen.out m c), (h c).2⟩) (InDxIdeal.Value.run_blocks m g),
    (θ_run InDxReferenceIdeal.defs _ _).mono (fun _ h c => ⟨(h c).1.trans ((InDxReferenceIdeal.Gen.ref _ _ _).trans (by rw [(he c).1, (he c).2.1, (he c).2.2])), (h c).2⟩)
      (InDxReferenceIdeal.Value.run m' g')⟩

end Cert.ValInDx
-- ==== Proof.MixOut.lean ====
/-
  The block's output projection, `ALPHA * x + mrg · w`, with its layer norm: the kernel's four row blocks, each summed over four chunks of 512 in a scratch
  accumulator started at zero, and the host's one product are the same sums; the layer norm of each row is then the same function of it.
-/
module

public import proofs.«01_k».proof.Defs
public import proofs.«01_k».proof.Proof.Gen.MixOutIdeal.Value
public import proofs.«01_k».proof.Proof.Gen.MixOutReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MixOutIdeal.Gen

open Cert.MixOutIdeal

/-- The product's term at row `p` of 2048. -/
def summand (a : FVec Ideal S2048x2048 .f32) (w : FVec Ideal S2048x2048 .f32) (r q : Fin 2048) (p : ℕ) : EReal :=
  if h : p < 2048 then (a (ix2 r ⟨p, h⟩) : EReal) * w (ix2 ⟨p, h⟩ q) else 0

/-- The residual sum, entry by entry. -/
def R (a : FVec Ideal S2048x2048 .f32) (w : FVec Ideal S2048x2048 .f32) (x : FVec Ideal S2048x2048 .f32) : FVec Ideal S2048x2048 .f32 := fun i =>
  Ideal.ofBits .f32 0x3FD744FD#32 * (x i : EReal) + (∑ p ∈ Finset.range 2048, summand a w (i 0) (i 1) p)

/-- The layer norm of every row, entry by entry. -/
def N (z : FVec Ideal S2048x2048 .f32) (g b : FVec Ideal S2048 .f32) : FVec Ideal S2048x2048 .f32 := fun i =>
  FfnKit.norm (fun k => z (ix2 (i 0) k)) (g (ix1 (i 1))) (b (ix1 (i 1))) (i 1)

/-- Where each window's block lies at grid point `t`. -/
theorem idx : ∀ t : Fin cfg0.N, win0_0.index t = ![t.val / 4, t.val % 4] ∧ win0_1.index t = ![t.val % 4, 0] ∧ win0_2.index t = ![t.val / 4, 0] ∧ win0_3.index t = ![0, 0] ∧ win0_4.index t = ![0, 0] ∧ win0_5.index t = ![t.val / 4, 0] ∧ win0_6.index t = ![t.val / 4, 0] ∧ win0_7.index t = ![t.val / 4, 0] :=
  (by decide +kernel : ∀ t : Fin grid0.N, _)

variable (m : (ℓ : Loc nD τ sig) → Buf (Elt Ideal) ℓ) (c : Dev nD)

/-- The narrowed weights are the weights. -/
theorem V_w : V m c main_v0 = (m ((c : Thread nD τ).loc main_arg1) : FVec Ideal S2048x2048 .f32) := by
  show StableHlo.after hostOps0 _ _ = _
  unfold hostOps0
  after_reads_simp
  try rfl

/-- The layer norm's scale as a row. -/
theorem V_g (n : Fin 2048) : (V m c main_v1 : FVec Ideal S1x2048 .f32) (ix2 0 n) = (m ((c : Thread nD τ).loc main_arg3) : FVec Ideal S2048 .f32) (ix1 n) := by
  show StableHlo.after hostOps0 _ _ _ = _
  unfold hostOps0
  after_reads_simp
  pointwise

/-- The layer norm's shift as a row. -/
theorem V_b (n : Fin 2048) : (V m c main_v2 : FVec Ideal S1x2048 .f32) (ix2 0 n) = (m ((c : Thread nD τ).loc main_arg4) : FVec Ideal S2048 .f32) (ix1 n) := by
  show StableHlo.after hostOps0 _ _ _ = _
  unfold hostOps0
  after_reads_simp
  pointwise

/-- The block of the first operand at point `t`, entry by entry. -/
theorem blk0 (t : Fin cfg0.N) (r k : Fin 512) (Q p : Fin 2048) (hQ : Q.val = t.val / 4 * 512 + r.val) (hp : p.val = t.val % 4 * 512 + k.val) :
    iblk m c 0 t (ix2 r k) = (m ((c : Thread nD τ).loc main_arg0) : FVec Ideal S2048x2048 .f32) (ix2 Q p) := by
  rw [← V_main_arg0 m c]
  blk_ext [iblk, idx t, hQ, hp]

/-- The block of the second operand at point `t`, entry by entry. -/
theorem blk1 (t : Fin cfg0.N) (k : Fin 512) (n : Fin 2048) (p : Fin 2048) (hp : p.val = t.val % 4 * 512 + k.val) :
    iblk m c 1 t (ix2 k n) = (m ((c : Thread nD τ).loc main_arg1) : FVec Ideal S2048x2048 .f32) (ix2 p n) := by
  rw [← V_w m c]
  blk_ext [iblk, idx t, hp]

/-- The block of the third operand at point `t`, entry by entry. -/
theorem blk2 (t : Fin cfg0.N) (r : Fin 512) (n R : Fin 2048) (hR : R.val = t.val / 4 * 512 + r.val) :
    iblk m c 2 t (ix2 r n) = (m ((c : Thread nD τ).loc main_arg2) : FVec Ideal S2048x2048 .f32) (ix2 R n) := by
  rw [← V_main_arg2 m c]
  blk_ext [iblk, idx t, hR]

/-- The layer norm's scale, staged. -/
theorem blk3 (t : Fin cfg0.N) (n : Fin 2048) : iblk m c 3 t (ix2 0 n) = (m ((c : Thread nD τ).loc main_arg3) : FVec Ideal S2048 .f32) (ix1 n) := by
  rw [← V_g m c]
  blk_ext [iblk, idx t]

/-- The layer norm's shift, staged. -/
theorem blk4 (t : Fin cfg0.N) (n : Fin 2048) : iblk m c 4 t (ix2 0 n) = (m ((c : Thread nD τ).loc main_arg4) : FVec Ideal S2048 .f32) (ix1 n) := by
  rw [← V_b m c]
  blk_ext [iblk, idx t]

/-- The accumulator starts at zero. -/
theorem pay1 (i : S512x2048.Idx) : (k0_pay1 (F := Ideal)) i = (0 : EReal) := by
  unfold k0_pay1
  pointwise

/-- What a chunk leaves in the scratch: the sum so far plus its product. -/
theorem pay2 (a : Vec Ideal S512x512 .f32) (s : Vec Ideal S512x2048 .f32) (b : Vec Ideal S512x2048 .bf16) (r : Fin 512) (n : Fin 2048) :
    k0_pay2 a s b (ix2 r n) = (s (ix2 r n) : EReal) + ∑ k : Fin 512, (a (ix2 r k) : EReal) * (b (ix2 k n) : EReal) := by
  unfold k0_pay2
  pointwise

/-- What the last chunk stores as the residual sum. -/
theorem pay3 (x s : Vec Ideal S512x2048 .f32) (i : S512x2048.Idx) : k0_pay3 x s i = Ideal.ofBits .f32 0x3FD744FD#32 * (x i : EReal) + (s i : EReal) := by
  unfold k0_pay3
  pointwise

/-- What the last chunk stores as the normalized sum. -/
theorem pay4 (x s : Vec Ideal S512x2048 .f32) (g b : Vec Ideal S1x2048 .f32) (r : Fin 512) (n : Fin 2048) :
    k0_pay4 x s g b (ix2 r n) = FfnKit.norm (fun k => k0_pay3 x s (ix2 r k)) (g (ix2 0 n)) (b (ix2 0 n)) n := by
  unfold k0_pay4 FfnKit.norm
  generalize k0_pay3 x s = v
  pointwise

/-- Narrowed, that is the same. -/
theorem pay5 (x s : Vec Ideal S512x2048 .f32) (g b : Vec Ideal S1x2048 .f32) (i : S512x2048.Idx) : (k0_pay5 x s g b i : EReal) = k0_pay4 x s g b i := by
  unfold k0_pay5
  generalize k0_pay4 x s g b = v
  pointwise

/-- A point's chunk of the sum, added to `s`. -/
theorem chunk (t : Fin cfg0.N) (s : Vec Ideal S512x2048 .f32) (r : Fin 512) (n Q : Fin 2048) (hQ : Q.val = t.val / 4 * 512 + r.val) :
    k0_pay2 (iblk m c 0 t) s (iblk m c 1 t) (ix2 r n) = (s (ix2 r n) : EReal) + ∑ k ∈ Finset.range 512, summand (m ((c : Thread nD τ).loc main_arg0)) (m ((c : Thread nD τ).loc main_arg1)) Q n (512 * (t.val % 4) + k) := by
  have ht := lt_of_lt_of_eq t.isLt N_0
  rw [Finset.sum_range]
  refine (pay2 _ _ _ r n).trans (congrArg (fun z : EReal => (s (ix2 r n) : EReal) + z) (Finset.sum_congr (M := EReal) rfl fun k _ => ?_))
  unfold summand
  rw [dif_pos (by omega)]
  refine congrArg₂ (fun z w : EReal => z * w) (blk0 m c t r k Q _ hQ ?_) (blk1 m c t k n _ ?_)
  all_goals (dsimp only; omega)

/-- The sum of a row block's chunks up to and including point `n`. -/
def upTo (Q q : Fin 2048) (n : ℕ) : EReal :=
  ∑ p ∈ Finset.range (512 * (n % 4 + 1)), summand (m ((c : Thread nD τ).loc main_arg0)) (m ((c : Thread nD τ).loc main_arg1)) Q q p

/-- The first chunk of a row block starts the sum. -/
theorem upTo_zero (t : Fin cfg0.N) (h0 : t.val % 4 = 0) (r : Fin 512) (q Q : Fin 2048) (hQ : Q.val = t.val / 4 * 512 + r.val) :
    (k0_pay2 (iblk m c 0 t) (k0_pay1 (F := Ideal)) (iblk m c 1 t) (ix2 r q) : EReal) = upTo m c Q q t.val := by
  rw [chunk m c t _ r q Q hQ, pay1, zero_add]
  unfold upTo
  rw [h0, Nat.zero_add, Nat.mul_one, Nat.mul_zero]
  refine Finset.sum_congr (M := EReal) rfl fun k _ => ?_
  rw [Nat.zero_add]

/-- A later chunk of a row block continues the sum. -/
theorem upTo_succ (t : Fin cfg0.N) (h0 : ¬ t.val % 4 = 0) (s : Vec Ideal S512x2048 .f32) (r : Fin 512) (q Q : Fin 2048) (hQ : Q.val = t.val / 4 * 512 + r.val)
    (hs : (s (ix2 r q) : EReal) = upTo m c Q q (t.val - 1)) :
    (k0_pay2 (iblk m c 0 t) s (iblk m c 1 t) (ix2 r q) : EReal) = upTo m c Q q t.val := by
  rw [chunk m c t s r q Q hQ, hs]
  unfold upTo
  rw [show 512 * (t.val % 4 + 1) = 512 * ((t.val - 1) % 4 + 1) + 512 from by omega, Finset.sum_range_add,
    show 512 * (t.val % 4) = 512 * ((t.val - 1) % 4 + 1) from by omega]

/-- The scratch after the first chunk of a row block. -/
theorem scr_A (t : Fin cfg0.N) (h0 : t.val % 4 = 0) :
    (outsAt0 m c t.val t.isLt).2.2.2 = k0_pay2 (iblk m c 0 t) (k0_pay1 (F := Ideal)) (iblk m c 1 t) := by
  refine (congrArg (fun z => z.2.2.2) (outsAt0_A m c t h0 (by omega))).trans ?_
  dsimp only
  unfold sout0_A_0
  frame_out

/-- The scratch after a later chunk of a row block. -/
theorem scr_BC (t : Fin cfg0.N) (h0 : ¬ t.val % 4 = 0) :
    (outsAt0 m c t.val t.isLt).2.2.2 = k0_pay2 (iblk m c 0 t) (outsAt0 m c (t.val - 1) (by omega)).2.2.2 (iblk m c 1 t) := by
  by_cases h1 : t.val % 4 = 3
  · refine (congrArg (fun z => z.2.2.2) (outsAt0_C m c t h0 h1)).trans ?_
    dsimp only
    unfold sout0_C_0
    frame_out
    simp only [read_unread_whole]
  · refine (congrArg (fun z => z.2.2.2) (outsAt0_B m c t h0 h1)).trans ?_
    dsimp only
    unfold sout0_B_0
    frame_out
    simp only [read_unread_whole]

/-- After every point the scratch holds the sum of its row block's chunks so far. -/
theorem scr (n : ℕ) (hn : n < cfg0.N) (r : Fin 512) (q Q : Fin 2048) (hQ : Q.val = n / 4 * 512 + r.val) :
    ((outsAt0 m c n hn).2.2.2 (ix2 r q) : EReal) = upTo m c Q q n := by
  induction n using Nat.strong_induction_on with
  | _ n ih =>
    have hN := lt_of_lt_of_eq hn N_0
    by_cases h0 : n % 4 = 0
    · exact (congrFun (scr_A m c ⟨n, hn⟩ h0) _).trans (upTo_zero m c ⟨n, hn⟩ h0 r q Q hQ)
    · exact (congrFun (scr_BC m c ⟨n, hn⟩ h0) _).trans
        (upTo_succ m c ⟨n, hn⟩ h0 _ r q Q hQ (ih (n - 1) (by omega) (by omega) (by omega)))

/-- A row block's residual sum, once its last chunk is in. -/
theorem res (t : Fin cfg0.N) (hm : t.val % 4 = 3) (s : Vec Ideal S512x2048 .f32) (r : Fin 512) (n Q : Fin 2048) (hQ : Q.val = t.val / 4 * 512 + r.val)
    (hs : (s (ix2 r n) : EReal) = upTo m c Q n t.val) :
    k0_pay3 (iblk m c 2 t) s (ix2 r n) = R (m ((c : Thread nD τ).loc main_arg0)) (m ((c : Thread nD τ).loc main_arg1)) (m ((c : Thread nD τ).loc main_arg2)) (ix2 Q n) := by
  rw [pay3, hs, blk2 m c t r n Q hQ]
  unfold upTo R
  rw [hm]
  simp only [Nat.reduceAdd, Nat.reduceMul]
  rfl

/-- A row block's normalized sum, once its last chunk is in. -/
theorem nrm (t : Fin cfg0.N) (hm : t.val % 4 = 3) (s : Vec Ideal S512x2048 .f32) (r : Fin 512) (n Q : Fin 2048) (hQ : Q.val = t.val / 4 * 512 + r.val)
    (hs : ∀ k, (s (ix2 r k) : EReal) = upTo m c Q k t.val) :
    k0_pay4 (iblk m c 2 t) s (iblk m c 3 t) (iblk m c 4 t) (ix2 r n) = N (R (m ((c : Thread nD τ).loc main_arg0)) (m ((c : Thread nD τ).loc main_arg1)) (m ((c : Thread nD τ).loc main_arg2))) (m ((c : Thread nD τ).loc main_arg3)) (m ((c : Thread nD τ).loc main_arg4)) (ix2 Q n) := by
  rw [pay4, blk3 m c t n, blk4 m c t n]
  exact congrArg (fun f => FfnKit.norm f _ _ n) (funext fun k => res m c t hm s r k Q hQ (hs k))

/-- The residual sum after the run. -/
theorem out5 : (dats m 0 c).arrAt 5 cfg0.N = R (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht := lt_of_lt_of_eq t.isLt N_0
  have hm : t.val % 4 = 3 := (flush0_5 t).mp hf
  blk_simp
  rw [after0_5]
  obtain ⟨r, n, rfl⟩ : ∃ (r : Fin 512) (n : Fin 2048), y = (ix2 r n : S512x2048.Idx) := ⟨y 0, y 1, by idx_ext <;> omega⟩
  have e2 := fun k => scr m c t.val t.isLt r k ⟨t.val / 4 * 512 + r.val, by omega⟩ rfl
  rw [outsAt0_C m c t (by omega) hm] at e2 ⊢
  revert e2
  dsimp only
  frame_out
  intro e2
  have hi : (((View.whole main_v3_0).slice (win0_5.rect t)).emb (ix2 r n)) = (ix2 ⟨t.val / 4 * 512 + r.val, by omega⟩ n : S2048x2048.Idx) := by
    blk_ext [idx t]
  rw [hi]
  exact res m c t hm _ r n _ rfl (e2 n)

/-- The normalized sum after the run. -/
theorem out6 : (dats m 0 c).arrAt 6 cfg0.N = N (R (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 6 _ (by decide +kernel) fun t hf y => ?_
  have ht := lt_of_lt_of_eq t.isLt N_0
  have hm : t.val % 4 = 3 := (flush0_6 t).mp hf
  blk_simp
  rw [after0_6]
  obtain ⟨r, n, rfl⟩ : ∃ (r : Fin 512) (n : Fin 2048), y = (ix2 r n : S512x2048.Idx) := ⟨y 0, y 1, by idx_ext <;> omega⟩
  have e2 := fun k => scr m c t.val t.isLt r k ⟨t.val / 4 * 512 + r.val, by omega⟩ rfl
  rw [outsAt0_C m c t (by omega) hm] at e2 ⊢
  revert e2
  dsimp only
  frame_out
  intro e2
  have hi : (((View.whole main_v3_1).slice (win0_6.rect t)).emb (ix2 r n)) = (ix2 ⟨t.val / 4 * 512 + r.val, by omega⟩ n : S2048x2048.Idx) := by
    blk_ext [idx t]
  rw [hi]
  exact nrm m c t hm _ r n _ rfl e2

/-- The narrowed normalized sum after the run. -/
theorem out7 : (dats m 0 c).arrAt 7 cfg0.N = N (R (m ((c : Thread nD τ).loc main_arg0)) (m ((c : Thread nD τ).loc main_arg1)) (m ((c : Thread nD τ).loc main_arg2))) (m ((c : Thread nD τ).loc main_arg3)) (m ((c : Thread nD τ).loc main_arg4)) := by
  refine (dats m 0 c).arrAt_eq_of_covers 7 _ (by decide +kernel) fun t hf y => ?_
  have ht := lt_of_lt_of_eq t.isLt N_0
  have hm : t.val % 4 = 3 := (flush0_7 t).mp hf
  blk_simp
  rw [after0_7]
  obtain ⟨r, n, rfl⟩ : ∃ (r : Fin 512) (n : Fin 2048), y = (ix2 r n : S512x2048.Idx) := ⟨y 0, y 1, by idx_ext <;> omega⟩
  have e2 := fun k => scr m c t.val t.isLt r k ⟨t.val / 4 * 512 + r.val, by omega⟩ rfl
  rw [outsAt0_C m c t (by omega) hm] at e2 ⊢
  revert e2
  dsimp only
  frame_out
  intro e2
  have hi : (((View.whole main_v3_2).slice (win0_7.rect t)).emb (ix2 r n)) = (ix2 ⟨t.val / 4 * 512 + r.val, by omega⟩ n : S2048x2048.Idx) := by
    blk_ext [idx t]
  rw [hi]
  exact (pay5 _ _ _ _ _).trans (nrm m c t hm _ r n _ rfl e2)

end Cert.MixOutIdeal.Gen

namespace Cert.MixOutReferenceIdeal.Gen
open Cert.MixOutReferenceIdeal

/-- The host's residual sum. -/
theorem ref (a : FVec Ideal S2048x2048 .f32) (w : FVec Ideal S2048x2048 .f32) (x : FVec Ideal S2048x2048 .f32) :
    addf (mulf (broadcastInDim S2048x2048 ![] bcast_S_S2048x2048 (constant S_ .f32 0x3FD744FD#32)) x) (Host.dotGeneral dot_S2048x2048_S2048x2048_S2048x2048_1_0_0_1_n_n none a w)
      = MixOutIdeal.Gen.R a w x := by
  funext i
  obtain ⟨r, n, rfl⟩ : ∃ (r n : Fin 2048), i = ix2 r n := ⟨i 0, i 1, eq_ix2 i⟩
  pointwise
  unfold MixOutIdeal.Gen.R
  rw [Finset.sum_range]
  refine congrArg (fun z : EReal => _ + z) (Finset.sum_congr (M := EReal) rfl fun k _ => ?_)
  unfold MixOutIdeal.Gen.summand
  rw [dif_pos k.isLt]
  rfl

/-- The host's layer norm of every row. -/
theorem ref_norm (z : FVec Ideal S2048x2048 .f32) (g b : FVec Ideal S2048 .f32) :
    addf (mulf (mulf (subf z (broadcastInDim S2048x2048 ![0, 1] bcast_S2048x1_S2048x2048_0_1 (Host.divf (broadcastInDim S2048x1 ![0] bcast_S2048_S2048x1_0 (Host.reduceAdd z (constant S_ .f32 0x00000000#32) reducesTo_S2048x2048_S2048_d1 h_S_)) (broadcastInDim S2048x1 ![] bcast_S_S2048x1 (constant S_ .f32 0x45000000#32))))) (broadcastInDim S2048x2048 ![0, 1] bcast_S2048x1_S2048x2048_0_1 (Host.rsqrt (addf (Host.divf (broadcastInDim S2048x1 ![0] bcast_S2048_S2048x1_0 (Host.reduceAdd (mulf (subf z (broadcastInDim S2048x2048 ![0, 1] bcast_S2048x1_S2048x2048_0_1 (Host.divf (broadcastInDim S2048x1 ![0] bcast_S2048_S2048x1_0 (Host.reduceAdd z (constant S_ .f32 0x00000000#32) reducesTo_S2048x2048_S2048_d1 h_S_)) (broadcastInDim S2048x1 ![] bcast_S_S2048x1 (constant S_ .f32 0x45000000#32))))) (subf z (broadcastInDim S2048x2048 ![0, 1] bcast_S2048x1_S2048x2048_0_1 (Host.divf (broadcastInDim S2048x1 ![0] bcast_S2048_S2048x1_0 (Host.reduceAdd z (constant S_ .f32 0x00000000#32) reducesTo_S2048x2048_S2048_d1 h_S_)) (broadcastInDim S2048x1 ![] bcast_S_S2048x1 (constant S_ .f32 0x45000000#32)))))) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x3727C5AC#32)))))) (broadcastInDim S2048x2048 ![0, 1] bcast_S1x2048_S2048x2048_0_1 (broadcastInDim S1x2048 ![1] bcast_S2048_S1x2048_1 g))) (broadcastInDim S2048x2048 ![0, 1] bcast_S1x2048_S2048x2048_0_1 (broadcastInDim S1x2048 ![1] bcast_S2048_S1x2048_1 b))
      = MixOutIdeal.Gen.N z g b := by
  funext i
  obtain ⟨r, n, rfl⟩ : ∃ (r n : Fin 2048), i = ix2 r n := ⟨i 0, i 1, eq_ix2 i⟩
  unfold MixOutIdeal.Gen.N FfnKit.norm
  pointwise

end Cert.MixOutReferenceIdeal.Gen

namespace Cert.ValMixOut

/-- The host's program runs, leaves its arguments and every counter at zero. -/
theorem reference_frame : quiescent_MixOutReferenceIdeal (hMixOutReferenceIdeal := MixOutReferenceIdeal.Gen.facts) := fun m g _ =>
  (θ_run MixOutReferenceIdeal.defs _ _).mono (fun r h => ⟨fun c => (h c).2.2.2, sem_eq_zero_of_no_sems (by decide) r.2⟩) (MixOutReferenceIdeal.Value.run m g)

/-- Kernel and host end with the same three results, of any arguments. -/
theorem value : algebraic_MixOutIdeal_MixOutReferenceIdeal (hMixOutIdeal := MixOutIdeal.Gen.facts) (hMixOutReferenceIdeal := MixOutReferenceIdeal.Gen.facts) := fun m g m' g' _ he =>
  ⟨fun c => MixOutIdeal.Gen.R (m ((c.tc : Thread MixOutIdeal.nD MixOutIdeal.τ).loc MixOutIdeal.main_arg0)) (m ((c.tc : Thread MixOutIdeal.nD MixOutIdeal.τ).loc MixOutIdeal.main_arg1))
      (m ((c.tc : Thread MixOutIdeal.nD MixOutIdeal.τ).loc MixOutIdeal.main_arg2)),
    fun c => MixOutIdeal.Gen.N (MixOutIdeal.Gen.R (m ((c.tc : Thread MixOutIdeal.nD MixOutIdeal.τ).loc MixOutIdeal.main_arg0)) (m ((c.tc : Thread MixOutIdeal.nD MixOutIdeal.τ).loc MixOutIdeal.main_arg1))
      (m ((c.tc : Thread MixOutIdeal.nD MixOutIdeal.τ).loc MixOutIdeal.main_arg2))) (m ((c.tc : Thread MixOutIdeal.nD MixOutIdeal.τ).loc MixOutIdeal.main_arg3)) (m ((c.tc : Thread MixOutIdeal.nD MixOutIdeal.τ).loc MixOutIdeal.main_arg4)),
    fun c => MixOutIdeal.Gen.N (MixOutIdeal.Gen.R (m ((c.tc : Thread MixOutIdeal.nD MixOutIdeal.τ).loc MixOutIdeal.main_arg0)) (m ((c.tc : Thread MixOutIdeal.nD MixOutIdeal.τ).loc MixOutIdeal.main_arg1))
      (m ((c.tc : Thread MixOutIdeal.nD MixOutIdeal.τ).loc MixOutIdeal.main_arg2))) (m ((c.tc : Thread MixOutIdeal.nD MixOutIdeal.τ).loc MixOutIdeal.main_arg3)) (m ((c.tc : Thread MixOutIdeal.nD MixOutIdeal.τ).loc MixOutIdeal.main_arg4)),
    (θ_run MixOutIdeal.defs _ _).mono (fun _ h c => ⟨(h c).1.trans (MixOutIdeal.Gen.out5 m c), (h c).2.1.trans (MixOutIdeal.Gen.out6 m c), (h c).2.2.1.trans (MixOutIdeal.Gen.out7 m c), (h c).2.2.2⟩)
      (MixOutIdeal.Value.run_blocks m g),
    (θ_run MixOutReferenceIdeal.defs _ _).mono (fun _ h c =>
      ⟨(h c).1.trans (by
        rw [(he c).1, (he c).2.1, (he c).2.2.1]
        exact MixOutReferenceIdeal.Gen.ref _ _ _),
      (h c).2.1.trans (by
        rw [(he c).1, (he c).2.1, (he c).2.2.1, (he c).2.2.2.1, (he c).2.2.2.2]
        exact (MixOutReferenceIdeal.Gen.ref_norm _ _ _).trans (congrArg (fun z => MixOutIdeal.Gen.N z _ _) (MixOutReferenceIdeal.Gen.ref _ _ _))),
      (h c).2.2.1.trans (by
        rw [(he c).1, (he c).2.1, (he c).2.2.1, (he c).2.2.2.1, (he c).2.2.2.2]
        exact (MixOutReferenceIdeal.Gen.ref_norm _ _ _).trans (congrArg (fun z => MixOutIdeal.Gen.N z _ _) (MixOutReferenceIdeal.Gen.ref _ _ _))), (h c).2.2.2⟩)
      (MixOutReferenceIdeal.Value.run m' g')⟩

end Cert.ValMixOut
-- ==== Proof.MixDm.lean ====
/-
  The gradient of the output projection's input, `dr` times `w` transposed: the kernel's four row blocks and the host's one product are the same sums.
-/
module

public import proofs.«01_k».proof.Defs
public import proofs.«01_k».proof.Proof.Gen.MixDmIdeal.Value
public import proofs.«01_k».proof.Proof.Gen.MixDmReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MixDmIdeal.Gen

open Cert.MixDmIdeal

/-- The product, entry by entry. -/
def G (d w : FVec Ideal S2048x2048 .f32) : FVec Ideal S2048x2048 .f32 := fun i =>
  ∑ k : Fin 2048, d (ix2 (i 0) k) * w (ix2 (i 1) k)

/-- Where each window's block lies at grid point `t`. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The narrowed gradient is the gradient. -/
theorem V_d : V m c main_v0 = (m ((c : Thread nD τ).loc main_arg0) : FVec Ideal S2048x2048 .f32) := by
  show StableHlo.after hostOps0 _ _ = _
  unfold hostOps0
  after_reads_simp
  try rfl

/-- The narrowed weights are the weights. -/
theorem V_w : V m c main_v1 = (m ((c : Thread nD τ).loc main_arg1) : FVec Ideal S2048x2048 .f32) := by
  show StableHlo.after hostOps0 _ _ = _
  unfold hostOps0
  after_reads_simp
  try rfl

/-- The block of the first operand at point `t`, entry by entry. -/
theorem blk0 (t : Fin cfg0.N) (r : Fin 512) (k R : Fin 2048) (hR : R.val = t.val * 512 + r.val) :
    iblk m c 0 t (ix2 r k) = (m ((c : Thread nD τ).loc main_arg0) : FVec Ideal S2048x2048 .f32) (ix2 R k) := by
  rw [← V_d m c]
  blk_ext [iblk, idx t, hR]

/-- The block of the second operand at point `t`, entry by entry. -/
theorem blk1 (t : Fin cfg0.N) (n k : Fin 2048) :
    iblk m c 1 t (ix2 n k) = (m ((c : Thread nD τ).loc main_arg1) : FVec Ideal S2048x2048 .f32) (ix2 n k) := by
  rw [← V_w m c]
  blk_ext [iblk, idx t]

/-- What the body computes of its blocks, entry by entry. -/
theorem pay (v0 : Vec Ideal S512x2048 .bf16) (v2 : Vec Ideal S2048x2048 .bf16) (r : Fin 512) (n : Fin 2048) :
    k0_pay1 v0 v2 (ix2 r n) = ∑ k : Fin 2048, (v0 (ix2 r k) : EReal) * (v2 (ix2 n k) : EReal) := by
  unfold k0_pay1
  pointwise

/-- The output array after the run. -/
theorem out : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, n, rfl⟩ : ∃ (r : Fin 512) (n : Fin 2048), y = (ix2 r n : S512x2048.Idx) := ⟨y 0, y 1, by idx_ext <;> omega⟩
  refine (pay _ _ r n).trans (Finset.sum_congr (M := EReal) rfl fun k _ => congrArg₂ (fun z w : EReal => z * w) (blk0 m c t r k _ ?_) ((blk1 m c t n k).trans ?_))
  · blk_simp [idx t]
  · congr 1
    blk_ext [idx t]

end Cert.MixDmIdeal.Gen

namespace Cert.MixDmReferenceIdeal.Gen
open Cert.MixDmReferenceIdeal

/-- The host's product is the same function. -/
theorem ref (d w : FVec Ideal S2048x2048 .f32) :
    Host.dotGeneral dot_S2048x2048_S2048x2048_S2048x2048_1_1_0_0_n_n none d w = MixDmIdeal.Gen.G d w := by
  funext i
  obtain ⟨r, n, rfl⟩ : ∃ (r n : Fin 2048), i = ix2 r n := ⟨i 0, i 1, eq_ix2 i⟩
  pointwise
  rfl

end Cert.MixDmReferenceIdeal.Gen

namespace Cert.ValMixDm

/-- The host's program runs, leaves its arguments and every counter at zero. -/
theorem reference_frame : quiescent_MixDmReferenceIdeal (hMixDmReferenceIdeal := MixDmReferenceIdeal.Gen.facts) := fun m g _ =>
  (θ_run MixDmReferenceIdeal.defs _ _).mono (fun r h => ⟨fun c => (h c).2, sem_eq_zero_of_no_sems (by decide) r.2⟩) (MixDmReferenceIdeal.Value.run m g)

/-- Kernel and host end with the same product. -/
theorem value : algebraic_MixDmIdeal_MixDmReferenceIdeal (hMixDmIdeal := MixDmIdeal.Gen.facts) (hMixDmReferenceIdeal := MixDmReferenceIdeal.Gen.facts) := fun m g m' g' _ he =>
  ⟨fun c => MixDmIdeal.Gen.G (m ((c.tc : Thread MixDmIdeal.nD MixDmIdeal.τ).loc MixDmIdeal.main_arg0)) (m ((c.tc : Thread MixDmIdeal.nD MixDmIdeal.τ).loc MixDmIdeal.main_arg1)),
    (θ_run MixDmIdeal.defs _ _).mono (fun _ h c => ⟨(h c).1.trans (MixDmIdeal.Gen.out m c), (h c).2⟩) (MixDmIdeal.Value.run_blocks m g),
    (θ_run MixDmReferenceIdeal.defs _ _).mono (fun _ h c => ⟨(h c).1.trans ((MixDmReferenceIdeal.Gen.ref _ _).trans (congrArg₂ MixDmIdeal.Gen.G (he c).1 (he c).2)), (h c).2⟩)
      (MixDmReferenceIdeal.Value.run m' g')⟩

end Cert.ValMixDm
-- ==== Proof.MixDw.lean ====
/-
  The output projection's weight gradient, the merged branches transposed times `dr`: the kernel's four row blocks, each transposed into scratch first, and
  the host's one product are the same sums.
-/
module

public import proofs.«01_k».proof.Defs
public import proofs.«01_k».proof.Proof.Gen.MixDwIdeal.Value
public import proofs.«01_k».proof.Proof.Gen.MixDwReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MixDwIdeal.Gen

open Cert.MixDwIdeal

/-- The product, entry by entry. -/
def G (a d : FVec Ideal S2048x2048 .f32) : FVec Ideal S2048x2048 .f32 := fun i =>
  ∑ k : Fin 2048, a (ix2 k (i 0)) * d (ix2 k (i 1))

/-- Where each window's block lies at grid point `t`. -/
theorem idx : ∀ t : Fin cfg0.N, win0_0.index t = ![0, t.val] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The narrowed activation is the activation. -/
theorem V_a : V m c main_v0 = (m ((c : Thread nD τ).loc main_arg0) : FVec Ideal S2048x2048 .f32) := by
  show StableHlo.after hostOps0 _ _ = _
  unfold hostOps0
  after_reads_simp
  try rfl

/-- The narrowed gradient is the gradient. -/
theorem V_d : V m c main_v1 = (m ((c : Thread nD τ).loc main_arg1) : FVec Ideal S2048x2048 .f32) := by
  show StableHlo.after hostOps0 _ _ = _
  unfold hostOps0
  after_reads_simp
  try rfl

/-- The block of the first operand at point `t`, entry by entry. -/
theorem blk0 (t : Fin cfg0.N) (k : Fin 2048) (r : Fin 512) (p : Fin 2048) (hp : p.val = t.val * 512 + r.val) :
    iblk m c 0 t (ix2 k r) = (m ((c : Thread nD τ).loc main_arg0) : FVec Ideal S2048x2048 .f32) (ix2 k p) := by
  rw [← V_a m c]
  blk_ext [iblk, idx t, hp]

/-- The block of the second operand at point `t`, entry by entry. -/
theorem blk1 (t : Fin cfg0.N) (k n : Fin 2048) :
    iblk m c 1 t (ix2 k n) = (m ((c : Thread nD τ).loc main_arg1) : FVec Ideal S2048x2048 .f32) (ix2 k n) := by
  rw [← V_d m c]
  blk_ext [iblk, idx t]

/-- What the body computes of its blocks, entry by entry. -/
theorem pay (v3 : Vec Ideal S512x2048 .bf16) (v4 : Vec Ideal S2048x2048 .bf16) (r : Fin 512) (n : Fin 2048) :
    k0_pay5 v3 v4 (ix2 r n) = ∑ k : Fin 2048, (v3 (ix2 r k) : EReal) * (v4 (ix2 k n) : EReal) := by
  unfold k0_pay5
  pointwise

/-- The output array after the run. -/
theorem out : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨r, n, rfl⟩ : ∃ (r : Fin 512) (n : Fin 2048), y = (ix2 r n : S512x2048.Idx) := ⟨y 0, y 1, by idx_ext <;> omega⟩
  refine (pay _ _ r n).trans (Finset.sum_congr (M := EReal) rfl fun k _ => congrArg₂ (fun z w : EReal => z * w)
    (Eq.trans (b := iblk m c 0 t (ix2 k r)) ?_ ((blk0 m c t k r _ ?_).trans (congrArg _ rfl))) ((blk1 m c t k n).trans ?_))
  · refine (FfnKit.readCov_whole (S := S512x2048) _ _ _ (by decide) _).trans ?_
    canon_tiles x h
    all_goals (open_payloads; pointwise; blk_ext <;> first | exact h0.symm | exact h1.symm)
  · blk_simp [idx t]
  · congr 1
    blk_ext [idx t]

end Cert.MixDwIdeal.Gen

namespace Cert.MixDwReferenceIdeal.Gen
open Cert.MixDwReferenceIdeal

/-- The host's operations, composed, are the same function. -/
theorem ref (a d : FVec Ideal S2048x2048 .f32) :
    truncf .bf16 (transpose S2048x2048 [1, 0] (Host.dotGeneral dot_S2048x2048_S2048x2048_S2048x2048_0_0_1_1_n_n none d a) transposes_S2048x2048_S2048x2048_1_0) bitsLt_bf16_f32
      = MixDwIdeal.Gen.G a d := by
  funext i
  obtain ⟨r, n, rfl⟩ : ∃ (r n : Fin 2048), i = ix2 r n := ⟨i 0, i 1, eq_ix2 i⟩
  pointwise
  exact Finset.sum_congr (M := EReal) rfl fun k _ => mul_comm (G := EReal) _ _

end Cert.MixDwReferenceIdeal.Gen

namespace Cert.ValMixDw

/-- The host's program runs, leaves its arguments and every counter at zero. -/
theorem reference_frame : quiescent_MixDwReferenceIdeal (hMixDwReferenceIdeal := MixDwReferenceIdeal.Gen.facts) := fun m g _ =>
  (θ_run MixDwReferenceIdeal.defs _ _).mono (fun r h => ⟨fun c => (h c).2, sem_eq_zero_of_no_sems (by decide) r.2⟩) (MixDwReferenceIdeal.Value.run m g)

/-- Kernel and host end with the same product. -/
theorem value : algebraic_MixDwIdeal_MixDwReferenceIdeal (hMixDwIdeal := MixDwIdeal.Gen.facts) (hMixDwReferenceIdeal := MixDwReferenceIdeal.Gen.facts) := fun m g m' g' _ he =>
  ⟨fun c => MixDwIdeal.Gen.G (m ((c.tc : Thread MixDwIdeal.nD MixDwIdeal.τ).loc MixDwIdeal.main_arg0)) (m ((c.tc : Thread MixDwIdeal.nD MixDwIdeal.τ).loc MixDwIdeal.main_arg1)),
    (θ_run MixDwIdeal.defs _ _).mono (fun _ h c => ⟨(h c).1.trans (MixDwIdeal.Gen.out m c), (h c).2⟩) (MixDwIdeal.Value.run_blocks m g),
    (θ_run MixDwReferenceIdeal.defs _ _).mono (fun _ h c => ⟨(h c).1.trans ((MixDwReferenceIdeal.Gen.ref _ _).trans (congrArg₂ MixDwIdeal.Gen.G (he c).1 (he c).2)), (h c).2⟩)
      (MixDwReferenceIdeal.Value.run m' g')⟩

end Cert.ValMixDw
-- ==== Proof.Br.lean ====
/-
  A branch's projection, `y · w`, with `w` as four blocks of columns: the kernel's four column blocks and the host's one product are the same sums.
-/
module

public import proofs.«01_k».proof.Defs
public import proofs.«01_k».proof.Proof.Gen.BrIdeal.Value
public import proofs.«01_k».proof.Proof.Gen.BrReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.BrIdeal.Gen

open Cert.BrIdeal

/-- The block of column `j` of 2048 among four blocks of 512. -/
def col4 (j : Fin 2048) : Fin 4 := ⟨j.val / 512, by omega⟩

/-- The place of that column in its block. -/
def place4 (j : Fin 2048) : Fin 512 := ⟨j.val % 512, by omega⟩

/-- The product, entry by entry. -/
def G (x : FVec Ideal S2048x1024 .f32) (w : FVec Ideal S4x1024x512 .f32) : FVec Ideal S2048x2048 .f32 := fun i =>
  ∑ k : Fin 1024, x (ix2 (i 0) k) * w (ix3 (col4 (i 1)) k (place4 (i 1)))

/-- Where each window's block lies at grid point `t`. -/
theorem idx : ∀ t : Fin cfg0.N, win0_0.index t = ![0, 0] ∧ win0_1.index t = ![t.val, 0, 0] ∧ win0_2.index t = ![0, t.val] :=
  (by decide +kernel : ∀ t : Fin grid0.N, _)

variable (m : (ℓ : Loc nD τ sig) → Buf (Elt Ideal) ℓ) (c : Dev nD)

/-- The narrowed input is the input. -/
theorem V_x : V m c main_v0 = (m ((c : Thread nD τ).loc main_arg0) : FVec Ideal S2048x1024 .f32) := by
  show StableHlo.after hostOps0 _ _ = _
  unfold hostOps0
  after_reads_simp
  try rfl

/-- The narrowed weights are the weights. -/
theorem V_w : V m c main_v1 = (m ((c : Thread nD τ).loc main_arg1) : FVec Ideal S4x1024x512 .f32) := by
  show StableHlo.after hostOps0 _ _ = _
  unfold hostOps0
  after_reads_simp
  try rfl

/-- The block of the first operand at point `t`, entry by entry. -/
theorem blk0 (t : Fin cfg0.N) (r : Fin 2048) (k : Fin 1024) :
    iblk m c 0 t (ix2 r k) = (m ((c : Thread nD τ).loc main_arg0) : FVec Ideal S2048x1024 .f32) (ix2 r k) := by
  rw [← V_x m c]
  blk_ext [iblk, idx t]

/-- The block of the second operand at point `t`, entry by entry. -/
theorem blk1 (t : Fin cfg0.N) (k : Fin 1024) (n p : Fin 512) (q : Fin 4) (hq : q.val = t.val) (hp : p.val = n.val) :
    iblk m c 1 t (ix3 0 k n) = (m ((c : Thread nD τ).loc main_arg1) : FVec Ideal S4x1024x512 .f32) (ix3 q k p) := by
  rw [← V_w m c]
  blk_ext [iblk, idx t, hq, hp]

/-- What the body computes of its blocks, entry by entry. -/
theorem pay (v0 : Vec Ideal S2048x1024 .bf16) (v2 : Vec Ideal S1x1024x512 .bf16) (r : Fin 2048) (n : Fin 512) :
    k0_pay1 v0 v2 (ix2 r n) = ∑ k : Fin 1024, (v0 (ix2 r k) : EReal) * (v2 (ix3 0 k n) : EReal) := by
  unfold k0_pay1
  pointwise

/-- The output array after the run. -/
theorem out : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  blk_simp
  rw [after0_2]
  frame_out
  obtain ⟨r, n, rfl⟩ : ∃ (r : Fin 2048) (n : Fin 512), y = (ix2 r n : S2048x512.Idx) := ⟨y 0, y 1, by idx_ext <;> omega⟩
  refine (pay _ _ r n).trans (Finset.sum_congr (M := EReal) rfl fun k _ => congrArg₂ (fun z w : EReal => z * w) ((blk0 m c t r k).trans ?_) (blk1 m c t k n _ _ ?_ ?_))
  · congr 1
    blk_ext [idx t]
  · blk_simp [idx t, col4]
    dsimp only
    omega
  · blk_simp [idx t, place4]
    dsimp only
    omega

end Cert.BrIdeal.Gen

namespace Cert.BrReferenceIdeal.Gen
open Cert.BrReferenceIdeal

/-- The host's operations, composed, are the same function. -/
theorem ref (x : FVec Ideal S2048x1024 .f32) (w : FVec Ideal S4x1024x512 .f32) :
    Host.dotGeneral dot_S2048x1024_S1024x2048_S2048x2048_1_0_0_1_n_n none x (shapeCast _ (transpose S1024x4x512 [1, 0, 2] w transposes_S4x1024x512_S1024x4x512_1_0_2) shapeCasts_S1024x4x512_S1024x2048)
      = BrIdeal.Gen.G x w := by
  funext i
  obtain ⟨r, n, rfl⟩ : ∃ (r n : Fin 2048), i = ix2 r n := ⟨i 0, i 1, eq_ix2 i⟩
  pointwise
  rfl

end Cert.BrReferenceIdeal.Gen

namespace Cert.ValBr

/-- The host's program runs, leaves its arguments and every counter at zero. -/
theorem reference_frame : quiescent_BrReferenceIdeal (hBrReferenceIdeal := BrReferenceIdeal.Gen.facts) := fun m g _ =>
  (θ_run BrReferenceIdeal.defs _ _).mono (fun r h => ⟨fun c => (h c).2, sem_eq_zero_of_no_sems (by decide) r.2⟩) (BrReferenceIdeal.Value.run m g)

/-- Kernel and host end with the same product. -/
theorem value : algebraic_BrIdeal_BrReferenceIdeal (hBrIdeal := BrIdeal.Gen.facts) (hBrReferenceIdeal := BrReferenceIdeal.Gen.facts) := fun m g m' g' _ he =>
  ⟨fun c => BrIdeal.Gen.G (m ((c.tc : Thread BrIdeal.nD BrIdeal.τ).loc BrIdeal.main_arg0)) (m ((c.tc : Thread BrIdeal.nD BrIdeal.τ).loc BrIdeal.main_arg1)),
    (θ_run BrIdeal.defs _ _).mono (fun _ h c => ⟨(h c).1.trans (BrIdeal.Gen.out m c), (h c).2⟩) (BrIdeal.Value.run_blocks m g),
    (θ_run BrReferenceIdeal.defs _ _).mono (fun _ h c => ⟨(h c).1.trans ((BrReferenceIdeal.Gen.ref _ _).trans (congrArg₂ BrIdeal.Gen.G (he c).1 (he c).2)), (h c).2⟩)
      (BrReferenceIdeal.Value.run m' g')⟩

end Cert.ValBr
-- ==== Proof.BrDw.lean ====
/-
  A branch's projection's weight gradient, `y` transposed times `db`, as four blocks of columns: the kernel's four column blocks over one transposed copy
  of `y`, which the first block's point leaves in scratch for the others, and the host's one product are the same sums.
-/
module

public import proofs.«01_k».proof.Defs
public import proofs.«01_k».proof.Proof.Gen.BrDwIdeal.Value
public import proofs.«01_k».proof.Proof.Gen.BrDwReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.BrDwIdeal.Gen

open Cert.BrDwIdeal

/-- Column `j` of block `i` among four blocks of 512. -/
def col (i : Fin 4) (j : Fin 512) : Fin 2048 := ⟨512 * i.val + j.val, by omega⟩

/-- The product, entry by entry. -/
def G (x : FVec Ideal S2048x1024 .f32) (d : FVec Ideal S2048x2048 .f32) : FVec Ideal S4x1024x512 .f32 := fun i =>
  ∑ k : Fin 2048, x (ix2 k (i 1)) * d (ix2 k (col (i 0) (i 2)))

/-- Where each window's block lies at grid point `t`. -/
theorem idx : ∀ t : Fin cfg0.N, win0_0.index t = ![0, 0] ∧ win0_1.index t = ![0, t.val] ∧ win0_2.index t = ![t.val, 0, 0] :=
  (by decide +kernel : ∀ t : Fin grid0.N, _)

variable (m : (ℓ : Loc nD τ sig) → Buf (Elt Ideal) ℓ) (c : Dev nD)

/-- The narrowed input is the input. -/
theorem V_x : V m c main_v0 = (m ((c : Thread nD τ).loc main_arg0) : FVec Ideal S2048x1024 .f32) := by
  show StableHlo.after hostOps0 _ _ = _
  unfold hostOps0
  after_reads_simp
  try rfl

/-- The narrowed gradient is the gradient. -/
theorem V_d : V m c main_v1 = (m ((c : Thread nD τ).loc main_arg1) : FVec Ideal S2048x2048 .f32) := by
  show StableHlo.after hostOps0 _ _ = _
  unfold hostOps0
  after_reads_simp
  try rfl

/-- The block of the first operand at point `t`, entry by entry. -/
theorem blk0 (t : Fin cfg0.N) (k : Fin 2048) (r : Fin 1024) :
    iblk m c 0 t (ix2 k r) = (m ((c : Thread nD τ).loc main_arg0) : FVec Ideal S2048x1024 .f32) (ix2 k r) := by
  rw [← V_x m c]
  blk_ext [iblk, idx t]

/-- The block of the second operand at point `t`, entry by entry. -/
theorem blk1 (t : Fin cfg0.N) (k : Fin 2048) (n : Fin 512) (p : Fin 2048) (hp : p.val = t.val * 512 + n.val) :
    iblk m c 1 t (ix2 k n) = (m ((c : Thread nD τ).loc main_arg1) : FVec Ideal S2048x2048 .f32) (ix2 k p) := by
  rw [← V_d m c]
  blk_ext [iblk, idx t, hp]

/-- What the body computes of its blocks, entry by entry. -/
theorem pay (v3 : Vec Ideal S1024x2048 .bf16) (v4 : Vec Ideal S2048x512 .bf16) (r : Fin 1024) (n : Fin 512) :
    k0_pay5 v3 v4 (ix3 0 r n) = ∑ k : Fin 2048, (v3 (ix2 r k) : EReal) * (v4 (ix2 k n) : EReal) := by
  unfold k0_pay5
  pointwise

/-- Four stores, each 512 rows of `x` transposed, leave `x` transposed. -/
theorem canon (x : Vec Ideal S2048x1024 .bf16) (r : Fin 1024) (k : Fin 2048) :
    View.canon (Val := Elt Ideal) (s := S1024x2048) (e := .bf16) [
      ⟨Rect.unit ![0, 1536] ![1024, 512] inb_S1024x2048_S1024x512_0_1536, k0_pay4 (View.ld x (Rect.unit ![1536, 0] ![512, 1024] inb_S2048x1024_S512x1024_1536_0))⟩,
      ⟨Rect.unit ![0, 1024] ![1024, 512] inb_S1024x2048_S1024x512_0_1024, k0_pay3 (View.ld x (Rect.unit ![1024, 0] ![512, 1024] inb_S2048x1024_S512x1024_1024_0))⟩,
      ⟨Rect.unit ![0, 512] ![1024, 512] inb_S1024x2048_S1024x512_0_512, k0_pay2 (View.ld x (Rect.unit ![512, 0] ![512, 1024] inb_S2048x1024_S512x1024_512_0))⟩,
      ⟨Rect.unit ![0, 0] ![1024, 512] inb_S1024x2048_S1024x512_0_0, k0_pay1 (View.ld x (Rect.unit ![0, 0] ![512, 1024] inb_S2048x1024_S512x1024_0_0))⟩] (ix2 r k)
      = x (ix2 k r) := by
  canon_tiles x h
  all_goals (open_payloads; pointwise; blk_ext <;> first | exact h0.symm | exact h1.symm)

/-- After every point the scratch holds the left operand transposed. -/
theorem scr (n : ℕ) (hn : n < cfg0.N) (r : Fin 1024) (k : Fin 2048) : (outsAt0 m c n hn).2 (ix2 r k) = (m ((c : Thread nD τ).loc main_arg0) : FVec Ideal S2048x1024 .f32) (ix2 k r) := by
  induction n with
  | zero =>
    have e := congrArg Prod.snd (outsAt0_A m c ⟨0, hn⟩ (Nat.zero_mod _))
    refine (congrFun e _).trans ?_
    dsimp only
    frame_out
    exact (canon _ r k).trans (blk0 m c _ k r)
  | succ n ih =>
    have hN := lt_of_lt_of_eq hn N_0
    have e := congrArg Prod.snd (outsAt0_B m c ⟨n + 1, hn⟩ (by dsimp only; omega))
    have key : ∀ (n' : ℕ) (h' : n' < cfg0.N), n' = n → (outsAt0 m c n' h').2 (ix2 r k) = (m ((c : Thread nD τ).loc main_arg0) : FVec Ideal S2048x1024 .f32) (ix2 k r) := by
      rintro _ _ rfl
      exact ih _
    refine (congrFun e _).trans ?_
    dsimp only
    unfold sout0_B_0
    exact key _ _ (Nat.add_sub_cancel n 1)

/-- The output array after the run. -/
theorem out : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  blk_simp
  rw [after0_2]
  obtain ⟨r, n, rfl⟩ : ∃ (r : Fin 1024) (n : Fin 512), y = (ix3 0 r n : S1x1024x512.Idx) := ⟨y 1, y 2, by idx_ext <;> omega⟩
  suffices h : ∀ X : Vec Ideal S1024x2048 .bf16, (∀ k, X (ix2 r k) = (m ((c : Thread nD τ).loc main_arg0) : FVec Ideal S2048x1024 .f32) (ix2 k r)) →
      k0_pay5 X (iblk m c 1 t) (ix3 0 r n) = G (m ((c : Thread nD τ).loc main_arg0)) (m ((c : Thread nD τ).loc main_arg1)) (((View.whole main_v2).slice (win0_2.rect t)).emb (ix3 0 r n)) by
    by_cases h0 : t.val % 4 = 0
    · rw [outsAt0_A m c t h0]
      frame_out
      refine h _ fun k => ?_
      exact (FfnKit.readCov_whole (S := S1024x2048) _ _ _ (by decide) _).trans ((canon _ r k).trans (blk0 m c t k r))
    · rw [outsAt0_B m c t h0]
      frame_out
      simp only [read_unread_whole]
      exact h _ fun k => scr m c _ _ r k
  intro X hX
  refine (pay _ _ r n).trans (Finset.sum_congr (M := EReal) rfl fun k _ => congrArg₂ (fun z w : EReal => z * w) ((hX k).trans ?_) (blk1 m c t k n _ ?_))
  · congr 1
    blk_ext [idx t]
  · blk_simp [idx t, col]
    simp only [Fin.val_zero]
    omega

end Cert.BrDwIdeal.Gen

namespace Cert.BrDwReferenceIdeal.Gen
open Cert.BrDwReferenceIdeal

/-- The host's operations, composed, are the same function. -/
theorem ref (x : FVec Ideal S2048x1024 .f32) (d : FVec Ideal S2048x2048 .f32) :
    truncf .bf16 (transpose S4x1024x512 [1, 0, 2] (shapeCast _ (transpose S1024x2048 [1, 0] (Host.dotGeneral dot_S2048x2048_S2048x1024_S2048x1024_0_0_1_1_n_n none d x) transposes_S2048x1024_S1024x2048_1_0) shapeCasts_S1024x2048_S1024x4x512) transposes_S1024x4x512_S4x1024x512_1_0_2) bitsLt_bf16_f32
      = BrDwIdeal.Gen.G x d := by
  funext i
  obtain ⟨q, r, n, rfl⟩ : ∃ (q : Fin 4) (r : Fin 1024) (n : Fin 512), i = ix3 q r n := ⟨i 0, i 1, i 2, eq_ix3 i⟩
  pointwise
  refine Finset.sum_congr (M := EReal) rfl fun k _ => (mul_comm (G := EReal) _ _).trans (congrArg (fun z : EReal => x (ix2 k r) * z) ?_)
  blk_ext [BrDwIdeal.Gen.col]

end Cert.BrDwReferenceIdeal.Gen

namespace Cert.ValBrDw

/-- The host's program runs, leaves its arguments and every counter at zero. -/
theorem reference_frame : quiescent_BrDwReferenceIdeal (hBrDwReferenceIdeal := BrDwReferenceIdeal.Gen.facts) := fun m g _ =>
  (θ_run BrDwReferenceIdeal.defs _ _).mono (fun r h => ⟨fun c => (h c).2, sem_eq_zero_of_no_sems (by decide) r.2⟩) (BrDwReferenceIdeal.Value.run m g)

/-- Kernel and host end with the same product. -/
theorem value : algebraic_BrDwIdeal_BrDwReferenceIdeal (hBrDwIdeal := BrDwIdeal.Gen.facts) (hBrDwReferenceIdeal := BrDwReferenceIdeal.Gen.facts) := fun m g m' g' _ he =>
  ⟨fun c => BrDwIdeal.Gen.G (m ((c.tc : Thread BrDwIdeal.nD BrDwIdeal.τ).loc BrDwIdeal.main_arg0)) (m ((c.tc : Thread BrDwIdeal.nD BrDwIdeal.τ).loc BrDwIdeal.main_arg1)),
    (θ_run BrDwIdeal.defs _ _).mono (fun _ h c => ⟨(h c).1.trans (BrDwIdeal.Gen.out m c), (h c).2⟩) (BrDwIdeal.Value.run_blocks m g),
    (θ_run BrDwReferenceIdeal.defs _ _).mono (fun _ h c => ⟨(h c).1.trans ((BrDwReferenceIdeal.Gen.ref _ _).trans (congrArg₂ BrDwIdeal.Gen.G (he c).1 (he c).2)), (h c).2⟩)
      (BrDwReferenceIdeal.Value.run m' g')⟩

end Cert.ValBrDw
-- ==== Proof.BrDx.lean ====
/-
  The gradient of a branch's projection's input, `db` times `w` transposed, with `w` as four blocks of columns: the kernel's four chunks of 512 columns,
  summed in a scratch accumulator, and the host's one product are the same sums.
-/
module

public import proofs.«01_k».proof.Defs
public import proofs.«01_k».proof.Proof.Gen.BrDxIdeal.Value
public import proofs.«01_k».proof.Proof.Gen.BrDxReferenceIdeal.Run
public import proofs.«01_k».proof.Proof.FfnKit
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.BrDxIdeal.Gen

open Cert.BrDxIdeal

/-- The product's term at column `p` of 2048: `w` holds the columns as four blocks. -/
def summand (d : FVec Ideal S2048x2048 .f32) (w : FVec Ideal S4x1024x512 .f32) (r : Fin 2048) (q : Fin 1024) (p : ℕ) : EReal :=
  if h : p < 2048 then (d (ix2 r ⟨p, h⟩) : EReal) * w (ix3 ⟨p / 512, by omega⟩ q ⟨p % 512, by omega⟩) else 0

/-- The result, entry by entry. -/
def G (d : FVec Ideal S2048x2048 .f32) (w : FVec Ideal S4x1024x512 .f32) : FVec Ideal S2048x1024 .f32 := fun i =>
  ∑ p ∈ Finset.range 2048, summand d w (i 0) (i 1) p

/-- Where each window's block lies at grid point `t`. -/
theorem idx : ∀ t : Fin cfg0.N, win0_0.index t = ![0, t.val] ∧ win0_1.index t = ![t.val, 0, 0] ∧ win0_2.index t = ![0, 0] :=
  (by decide +kernel : ∀ t : Fin grid0.N, _)

variable (m : (ℓ : Loc nD τ sig) → Buf (Elt Ideal) ℓ) (c : Dev nD)

/-- The narrowed gradient is the gradient. -/
theorem V_d : V m c main_v0 = (m ((c : Thread nD τ).loc main_arg0) : FVec Ideal S2048x2048 .f32) := by
  show StableHlo.after hostOps0 _ _ = _
  unfold hostOps0
  after_reads_simp
  try rfl

/-- The narrowed weights are the weights. -/
theorem V_w : V m c main_v1 = (m ((c : Thread nD τ).loc main_arg1) : FVec Ideal S4x1024x512 .f32) := by
  show StableHlo.after hostOps0 _ _ = _
  unfold hostOps0
  after_reads_simp
  try rfl

/-- The block of the first operand at point `t`, entry by entry. -/
theorem blk0 (t : Fin cfg0.N) (r : Fin 2048) (k : Fin 512) (p : Fin 2048) (hp : p.val = t.val * 512 + k.val) :
    iblk m c 0 t (ix2 r k) = (m ((c : Thread nD τ).loc main_arg0) : FVec Ideal S2048x2048 .f32) (ix2 r p) := by
  rw [← V_d m c]
  blk_ext [iblk, idx t, hp]

/-- The block of the second operand at point `t`, entry by entry. -/
theorem blk1 (t : Fin cfg0.N) (n : Fin 1024) (k p : Fin 512) (q : Fin 4) (hq : q.val = t.val) (hp : p.val = k.val) :
    iblk m c 1 t (ix3 0 n k) = (m ((c : Thread nD τ).loc main_arg1) : FVec Ideal S4x1024x512 .f32) (ix3 q n p) := by
  rw [← V_w m c]
  blk_ext [iblk, idx t, hq, hp]

/-- The body's product of its blocks, entry by entry. -/
theorem pay1 (a : Vec Ideal S2048x512 .bf16) (b : Vec Ideal S1x1024x512 .bf16) (r : Fin 2048) (n : Fin 1024) :
    k0_pay1 a b (ix2 r n) = ∑ k : Fin 512, (a (ix2 r k) : EReal) * (b (ix3 0 n k) : EReal) := by
  unfold k0_pay1
  pointwise

/-- What the first chunk leaves in the scratch. -/
theorem pay2 (a : Vec Ideal S2048x512 .bf16) (b : Vec Ideal S1x1024x512 .bf16) : k0_pay2 a b = k0_pay1 a b := by
  funext i
  unfold k0_pay2
  generalize k0_pay1 a b = v
  pointwise

/-- What a later chunk leaves in the scratch: the sum so far plus its product. -/
theorem pay3 (a : Vec Ideal S2048x512 .bf16) (b : Vec Ideal S1x1024x512 .bf16) (s : Vec Ideal S2048x1024 .f32) (r : Fin 2048) (n : Fin 1024) :
    k0_pay3 a b s (ix2 r n) = (s (ix2 r n) : EReal) + (k0_pay1 a b (ix2 r n) : EReal) := by
  unfold k0_pay3 k0_pay1
  pointwise

/-- A point's chunk of the sum. -/
theorem chunk (t : Fin cfg0.N) (r : Fin 2048) (n : Fin 1024) :
    k0_pay1 (iblk m c 0 t) (iblk m c 1 t) (ix2 r n) = ∑ k ∈ Finset.range 512, summand (m ((c : Thread nD τ).loc main_arg0)) (m ((c : Thread nD τ).loc main_arg1)) r n (512 * t.val + k) := by
  have ht := lt_of_lt_of_eq t.isLt N_0
  rw [Finset.sum_range]
  refine (pay1 _ _ r n).trans (Finset.sum_congr (M := EReal) rfl fun k _ => ?_)
  unfold summand
  rw [dif_pos (by omega)]
  refine congrArg₂ (fun z w : EReal => z * w) (blk0 m c t r k _ ?_) (blk1 m c t n k _ _ ?_ ?_)
  all_goals (dsimp only; omega)

/-- The sum of the chunks up to and including point `n`. -/
def upTo (R : Fin 2048) (q : Fin 1024) (n : ℕ) : EReal :=
  ∑ p ∈ Finset.range (512 * (n + 1)), summand (m ((c : Thread nD τ).loc main_arg0)) (m ((c : Thread nD τ).loc main_arg1)) R q p

/-- The first chunk starts the sum. -/
theorem upTo_zero (t : Fin cfg0.N) (h0 : t.val = 0) (r : Fin 2048) (q : Fin 1024) :
    (k0_pay1 (iblk m c 0 t) (iblk m c 1 t) (ix2 r q) : EReal) = upTo m c r q t.val := by
  rw [chunk m c t r q]
  unfold upTo
  rw [h0, Nat.zero_add, Nat.mul_one, Nat.mul_zero]
  refine Finset.sum_congr (M := EReal) rfl fun k _ => ?_
  rw [Nat.zero_add]

/-- A later chunk continues the sum. -/
theorem upTo_succ (t : Fin cfg0.N) (h0 : ¬ t.val = 0) (s : Vec Ideal S2048x1024 .f32) (r : Fin 2048) (q : Fin 1024)
    (hs : (s (ix2 r q) : EReal) = upTo m c r q (t.val - 1)) :
    (k0_pay3 (iblk m c 0 t) (iblk m c 1 t) s (ix2 r q) : EReal) = upTo m c r q t.val := by
  rw [pay3, hs, chunk m c t r q]
  unfold upTo
  rw [show 512 * (t.val + 1) = 512 * (t.val - 1 + 1) + 512 from by omega, Finset.sum_range_add,
    show 512 * t.val = 512 * (t.val - 1 + 1) from by omega]

/-- The scratch after the first chunk. -/
theorem scr_A (t : Fin cfg0.N) (h0 : t.val = 0) : (outsAt0 m c t.val t.isLt).2 = k0_pay1 (iblk m c 0 t) (iblk m c 1 t) := by
  refine (congrArg Prod.snd (outsAt0_A m c t (by omega) (by omega) (by omega))).trans ?_
  dsimp only
  unfold sout0_A_0
  frame_out
  exact pay2 _ _

/-- The scratch after a later chunk. -/
theorem scr_BC (t : Fin cfg0.N) (h0 : ¬ t.val = 0) :
    (outsAt0 m c t.val t.isLt).2 = k0_pay3 (iblk m c 0 t) (iblk m c 1 t) (outsAt0 m c (t.val - 1) (by omega)).2 := by
  have ht := lt_of_lt_of_eq t.isLt N_0
  by_cases h1 : t.val % 4 = 3
  · refine (congrArg Prod.snd (outsAt0_C m c t (by omega) (by omega) h1)).trans ?_
    dsimp only
    unfold sout0_C_0
    frame_out
    simp only [read_unread_whole]
  · refine (congrArg Prod.snd (outsAt0_B m c t (by omega) (by omega) h1)).trans ?_
    dsimp only
    unfold sout0_B_0
    frame_out
    simp only [read_unread_whole]

/-- After every point the scratch holds the sum of the chunks so far. -/
theorem scr (n : ℕ) (hn : n < cfg0.N) (r : Fin 2048) (q : Fin 1024) : ((outsAt0 m c n hn).2 (ix2 r q) : EReal) = upTo m c r q n := by
  induction n using Nat.strong_induction_on with
  | _ n ih =>
    by_cases h0 : n = 0
    · exact (congrFun (scr_A m c ⟨n, hn⟩ h0) _).trans (upTo_zero m c ⟨n, hn⟩ h0 r q)
    · exact (congrFun (scr_BC m c ⟨n, hn⟩ h0) _).trans (upTo_succ m c ⟨n, hn⟩ h0 _ r q (ih (n - 1) (by omega) (by omega)))

/-- The output array after the run. -/
theorem out : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht := lt_of_lt_of_eq t.isLt N_0
  have hm : t.val % 4 = 3 := (flush0_2 t).mp hf
  blk_simp
  rw [after0_2]
  obtain ⟨r, n, rfl⟩ : ∃ (r : Fin 2048) (n : Fin 1024), y = (ix2 r n : S2048x1024.Idx) := ⟨y 0, y 1, by idx_ext <;> omega⟩
  have e2 := scr m c t.val t.isLt r n
  rw [outsAt0_C m c t (by omega) (by omega) hm] at e2 ⊢
  revert e2
  dsimp only
  frame_out
  intro e2
  refine e2.trans ?_
  have hi : (((View.whole main_v2).slice (win0_2.rect t)).emb (ix2 r n)) = (ix2 r n : S2048x1024.Idx) := by
    blk_ext [idx t]
  unfold upTo G
  rw [hi, show t.val = 3 from by omega]
  simp only [Nat.reduceAdd, Nat.reduceMul]
  rfl

end Cert.BrDxIdeal.Gen

namespace Cert.BrDxReferenceIdeal.Gen
open Cert.BrDxReferenceIdeal

/-- The host's operations, composed, are the same function. -/
theorem ref (d : FVec Ideal S2048x2048 .f32) (w : FVec Ideal S4x1024x512 .f32) :
    Host.dotGeneral dot_S2048x2048_S1024x2048_S2048x1024_1_1_0_0_n_n none d (shapeCast _ (transpose S1024x4x512 [1, 0, 2] w transposes_S4x1024x512_S1024x4x512_1_0_2) shapeCasts_S1024x4x512_S1024x2048)
      = BrDxIdeal.Gen.G d w := by
  funext i
  obtain ⟨r, n, rfl⟩ : ∃ (r : Fin 2048) (n : Fin 1024), i = ix2 r n := ⟨i 0, i 1, eq_ix2 i⟩
  pointwise
  unfold BrDxIdeal.Gen.G
  rw [Finset.sum_range]
  refine Finset.sum_congr (M := EReal) rfl fun k _ => ?_
  unfold BrDxIdeal.Gen.summand
  rw [dif_pos k.isLt]
  rfl

end Cert.BrDxReferenceIdeal.Gen

namespace Cert.ValBrDx

/-- The host's program runs, leaves its arguments and every counter at zero. -/
theorem reference_frame : quiescent_BrDxReferenceIdeal (hBrDxReferenceIdeal := BrDxReferenceIdeal.Gen.facts) := fun m g _ =>
  (θ_run BrDxReferenceIdeal.defs _ _).mono (fun r h => ⟨fun c => (h c).2, sem_eq_zero_of_no_sems (by decide) r.2⟩) (BrDxReferenceIdeal.Value.run m g)

/-- Kernel and host end with the same product. -/
theorem value : algebraic_BrDxIdeal_BrDxReferenceIdeal (hBrDxIdeal := BrDxIdeal.Gen.facts) (hBrDxReferenceIdeal := BrDxReferenceIdeal.Gen.facts) := fun m g m' g' _ he =>
  ⟨fun c => BrDxIdeal.Gen.G (m ((c.tc : Thread BrDxIdeal.nD BrDxIdeal.τ).loc BrDxIdeal.main_arg0)) (m ((c.tc : Thread BrDxIdeal.nD BrDxIdeal.τ).loc BrDxIdeal.main_arg1)),
    (θ_run BrDxIdeal.defs _ _).mono (fun _ h c => ⟨(h c).1.trans (BrDxIdeal.Gen.out m c), (h c).2⟩) (BrDxIdeal.Value.run_blocks m g),
    (θ_run BrDxReferenceIdeal.defs _ _).mono (fun _ h c => ⟨(h c).1.trans ((BrDxReferenceIdeal.Gen.ref _ _).trans (congrArg₂ BrDxIdeal.Gen.G (he c).1 (he c).2)), (h c).2⟩)
      (BrDxReferenceIdeal.Value.run m' g')⟩

end Cert.ValBrDx
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Join
public import proofs.«01_k».proof.Proof.PreVal
public import proofs.«01_k».proof.Proof.Gen.Up.Frame
public import proofs.«01_k».proof.Proof.FfnUp
public import proofs.«01_k».proof.Proof.Gen.Mid.Frame
public import proofs.«01_k».proof.Proof.FfnMid
public import proofs.«01_k».proof.Proof.Gen.Dwd.Frame
public import proofs.«01_k».proof.Proof.FfnDwd
public import proofs.«01_k».proof.Proof.Gen.Dwgu.Frame
public import proofs.«01_k».proof.Proof.FfnDwgu
public import proofs.«01_k».proof.Proof.Gen.Dx.Frame
public import proofs.«01_k».proof.Proof.FfnDx
public import proofs.«01_k».proof.Proof.Gen.Down.Frame
public import proofs.«01_k».proof.Proof.Down
public import proofs.«01_k».proof.Proof.Gen.InProj.Frame
public import proofs.«01_k».proof.Proof.InProj
public import proofs.«01_k».proof.Proof.Gen.InDw.Frame
public import proofs.«01_k».proof.Proof.InDw
public import proofs.«01_k».proof.Proof.Gen.InDx.Frame
public import proofs.«01_k».proof.Proof.InDx
public import proofs.«01_k».proof.Proof.Gen.MixOut.Frame
public import proofs.«01_k».proof.Proof.MixOut
public import proofs.«01_k».proof.Proof.Gen.MixDm.Frame
public import proofs.«01_k».proof.Proof.MixDm
public import proofs.«01_k».proof.Proof.Gen.MixDw.Frame
public import proofs.«01_k».proof.Proof.MixDw
public import proofs.«01_k».proof.Proof.Gen.Br.Frame
public import proofs.«01_k».proof.Proof.Br
public import proofs.«01_k».proof.Proof.Gen.BrDw.Frame
public import proofs.«01_k».proof.Proof.BrDw
public import proofs.«01_k».proof.Proof.Gen.BrDx.Frame
public import proofs.«01_k».proof.Proof.BrDx

@[expose] public section

set_option maxRecDepth 16384

noncomputable section

namespace Cert.Proof

open Idealize.ShloMosaic Idealize.SL.Sem Idealize.ShloMosaic.StableHlo

/-- The reference runs, leaves its arguments as they were and every counter at zero. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)
      ∧ r.2.mem ((c.tc : Thread ReferenceIdeal.nD ReferenceIdeal.τ).loc ReferenceIdeal.main_arg7) = m ((c.tc : Thread ReferenceIdeal.nD ReferenceIdeal.τ).loc ReferenceIdeal.main_arg7)
      ∧ r.2.mem ((c.tc : Thread ReferenceIdeal.nD ReferenceIdeal.τ).loc ReferenceIdeal.main_arg8) = m ((c.tc : Thread ReferenceIdeal.nD ReferenceIdeal.τ).loc ReferenceIdeal.main_arg8)
      ∧ r.2.mem ((c.tc : Thread ReferenceIdeal.nD ReferenceIdeal.τ).loc ReferenceIdeal.main_arg9) = m ((c.tc : Thread ReferenceIdeal.nD ReferenceIdeal.τ).loc ReferenceIdeal.main_arg9)) ∧ r.2.sem = fun _ => 0) :=
  (θ_run ReferenceIdeal.defs _ _).mono (fun r h => ⟨fun c => ⟨(h c _ rfl).trans (Tail.fin_arg m c _ (by decide) (by decide) (by decide) (by decide) (by decide) (by decide) (by decide)),
    (h c _ rfl).trans (Tail.fin_arg m c _ (by decide) (by decide) (by decide) (by decide) (by decide) (by decide) (by decide)),
    (h c _ rfl).trans (Tail.fin_arg m c _ (by decide) (by decide) (by decide) (by decide) (by decide) (by decide) (by decide)),
    (h c _ rfl).trans (Tail.fin_arg m c _ (by decide) (by decide) (by decide) (by decide) (by decide) (by decide) (by decide)),
    (h c _ rfl).trans (Tail.fin_arg m c _ (by decide) (by decide) (by decide) (by decide) (by decide) (by decide) (by decide)),
    (h c _ rfl).trans (Tail.fin_arg m c _ (by decide) (by decide) (by decide) (by decide) (by decide) (by decide) (by decide)),
    (h c _ rfl).trans (Tail.fin_arg m c _ (by decide) (by decide) (by decide) (by decide) (by decide) (by decide) (by decide)),
    (h c _ rfl).trans (Tail.fin_arg m c _ (by decide) (by decide) (by decide) (by decide) (by decide) (by decide) (by decide)),
    (h c _ rfl).trans (Tail.fin_arg m c _ (by decide) (by decide) (by decide) (by decide) (by decide) (by decide) (by decide)),
    (h c _ rfl).trans (Tail.fin_arg m c _ (by decide) (by decide) (by decide) (by decide) (by decide) (by decide) (by decide))⟩,
    Idealize.ShloMosaic.sem_eq_zero_of_no_sems (by decide) r.2⟩) (ReferenceIdeal.Gen.run m g)

/-- The kernel's program and the reference's, on extended reals, from equal arguments of which the precondition holds, end with
    the same ten arrays and their arguments as they were. -/
theorem value (hPre : Pre_finite_and_no_zero_pole.Facts) :
    algebraic_KernelIdeal_ReferenceIdeal_pre_finite_and_no_zero_pole (hKernelIdeal := KernelIdeal.Gen.facts) (hReferenceIdeal := ReferenceIdeal.Gen.facts)
      (hPre_finite_and_no_zero_pole := hPre) := by
  intro m g m' g' hp he
  have key : ∀ c : Dev KernelIdeal.nD, ∃ A : S5.Args, KernelIdeal.Gen.ReadsV A (KernelIdeal.Gen.W0 m g c) ∧ ReferenceIdeal.Gen.ReadsV A (launchContents m' c) := by
    intro c
    obtain ⟨A, hA⟩ := Pre_finite_and_no_zero_pole.exists_args _ _ _ _ _ _ _ _ _ _ (hp c)
    refine ⟨A, hA, ?_⟩
    obtain ⟨e0, e1, e2, e3, e4, e5, e6, e7, e8, e9⟩ := he c
    have hB : S5.Reads A (m' ((c.tc : Thread ReferenceIdeal.nD ReferenceIdeal.τ).loc ReferenceIdeal.main_arg0)) (m' ((c.tc : Thread ReferenceIdeal.nD ReferenceIdeal.τ).loc ReferenceIdeal.main_arg1)) (m' ((c.tc : Thread ReferenceIdeal.nD ReferenceIdeal.τ).loc ReferenceIdeal.main_arg2)) (m' ((c.tc : Thread ReferenceIdeal.nD ReferenceIdeal.τ).loc ReferenceIdeal.main_arg3)) (m' ((c.tc : Thread ReferenceIdeal.nD ReferenceIdeal.τ).loc ReferenceIdeal.main_arg4)) (m' ((c.tc : Thread ReferenceIdeal.nD ReferenceIdeal.τ).loc ReferenceIdeal.main_arg5)) (m' ((c.tc : Thread ReferenceIdeal.nD ReferenceIdeal.τ).loc ReferenceIdeal.main_arg6)) (m' ((c.tc : Thread ReferenceIdeal.nD ReferenceIdeal.τ).loc ReferenceIdeal.main_arg7)) (m' ((c.tc : Thread ReferenceIdeal.nD ReferenceIdeal.τ).loc ReferenceIdeal.main_arg8)) (m' ((c.tc : Thread ReferenceIdeal.nD ReferenceIdeal.τ).loc ReferenceIdeal.main_arg9)) := by
      rw [e0, e1, e2, e3, e4, e5, e6, e7, e8, e9]; exact hA
    exact hB
  have tails : ∀ c : Dev KernelIdeal.nD, Tail.Same (after (KernelIdeal.Gen.hostOps2.take 32) (KernelIdeal.Gen.W3 m g c))
      (after (ReferenceIdeal.Gen.opsC.take 10) (ReferenceIdeal.Gen.WD m' c)) := by
    intro c
    obtain ⟨A, hK, hR⟩ := key c
    obtain ⟨_, _, e2, e3, e4, e5, e6, _, _, _⟩ := he c
    exact Tail.same m g m' c hK hR ⟨e2.symm, e3.symm, e4.symm, e5.symm, e6.symm⟩
  refine ⟨fun c => KernelIdeal.Gen.W4 m g c (Proc.devRef .tc KernelIdeal.main_v106_1), fun c => KernelIdeal.Gen.W4 m g c (Proc.devRef .tc KernelIdeal.main_v107_0), fun c => KernelIdeal.Gen.W4 m g c (Proc.devRef .tc KernelIdeal.main_v224), fun c => KernelIdeal.Gen.W4 m g c (Proc.devRef .tc KernelIdeal.main_v216), fun c => KernelIdeal.Gen.W4 m g c (Proc.devRef .tc KernelIdeal.main_v226), fun c => KernelIdeal.Gen.W4 m g c (Proc.devRef .tc KernelIdeal.main_v156), fun c => KernelIdeal.Gen.W4 m g c (Proc.devRef .tc KernelIdeal.main_v149), fun c => KernelIdeal.Gen.W4 m g c (Proc.devRef .tc KernelIdeal.main_v239), fun c => KernelIdeal.Gen.W4 m g c (Proc.devRef .tc KernelIdeal.main_v252), fun c => KernelIdeal.Gen.W4 m g c (Proc.devRef .tc KernelIdeal.main_v253),
    ?_, ?_⟩
  · exact (θ_run KernelIdeal.defs _ _).mono (fun r h c => ⟨h.1 c _ rfl, h.1 c _ rfl, h.1 c _ rfl, h.1 c _ rfl, h.1 c _ rfl, h.1 c _ rfl, h.1 c _ rfl, h.1 c _ rfl, h.1 c _ rfl, h.1 c _ rfl,
      (h.1 c _ rfl).trans (KernelIdeal.Gen.W4_main_arg0 m g c),
      (h.1 c _ rfl).trans (KernelIdeal.Gen.W4_main_arg1 m g c),
      (h.1 c _ rfl).trans (KernelIdeal.Gen.W4_main_arg2 m g c),
      (h.1 c _ rfl).trans (KernelIdeal.Gen.W4_main_arg3 m g c),
      (h.1 c _ rfl).trans (KernelIdeal.Gen.W4_main_arg4 m g c),
      (h.1 c _ rfl).trans (KernelIdeal.Gen.W4_main_arg5 m g c),
      (h.1 c _ rfl).trans (KernelIdeal.Gen.W4_main_arg6 m g c),
      (h.1 c _ rfl).trans (KernelIdeal.Gen.W4_main_arg7 m g c),
      (h.1 c _ rfl).trans (KernelIdeal.Gen.W4_main_arg8 m g c),
      (h.1 c _ rfl).trans (KernelIdeal.Gen.W4_main_arg9 m g c)⟩) (KernelIdeal.Gen.run m g)
  · refine (θ_run ReferenceIdeal.defs _ _).mono (fun r h c => ?_) (ReferenceIdeal.Gen.run m' g')
    obtain ⟨A, hK, hR⟩ := key c
    refine ⟨(h c _ rfl).trans (Tail.same_gelu m g m' c hK hR).symm,
      (h c _ rfl).trans (Tail.same_du m g m' c hK hR).symm,
      (h c _ rfl).trans ?_,
      (h c _ rfl).trans ?_,
      (h c _ rfl).trans ?_,
      (h c _ rfl).trans ?_,
      (h c _ rfl).trans ?_,
      (h c _ rfl).trans (Tail.same_dc_re m g m' c hK hR).symm,
      (h c _ rfl).trans (Tail.same_dc_im m g m' c hK hR).symm,
      (h c _ rfl).trans (Tail.same_dd m g m' c hK hR).symm,
      (h c _ rfl).trans (Tail.fin_arg m' c _ (by decide) (by decide) (by decide) (by decide) (by decide) (by decide) (by decide)),
      (h c _ rfl).trans (Tail.fin_arg m' c _ (by decide) (by decide) (by decide) (by decide) (by decide) (by decide) (by decide)),
      (h c _ rfl).trans (Tail.fin_arg m' c _ (by decide) (by decide) (by decide) (by decide) (by decide) (by decide) (by decide)),
      (h c _ rfl).trans (Tail.fin_arg m' c _ (by decide) (by decide) (by decide) (by decide) (by decide) (by decide) (by decide)),
      (h c _ rfl).trans (Tail.fin_arg m' c _ (by decide) (by decide) (by decide) (by decide) (by decide) (by decide) (by decide)),
      (h c _ rfl).trans (Tail.fin_arg m' c _ (by decide) (by decide) (by decide) (by decide) (by decide) (by decide) (by decide)),
      (h c _ rfl).trans (Tail.fin_arg m' c _ (by decide) (by decide) (by decide) (by decide) (by decide) (by decide) (by decide)),
      (h c _ rfl).trans (Tail.fin_arg m' c _ (by decide) (by decide) (by decide) (by decide) (by decide) (by decide) (by decide)),
      (h c _ rfl).trans (Tail.fin_arg m' c _ (by decide) (by decide) (by decide) (by decide) (by decide) (by decide) (by decide)),
      (h c _ rfl).trans (Tail.fin_arg m' c _ (by decide) (by decide) (by decide) (by decide) (by decide) (by decide) (by decide))⟩
    · beta_reduce; rw [Tail.fin_split, Tail.W4_split]; exact (Tail.da_re (tails c)).symm
    · beta_reduce; rw [Tail.fin_split, Tail.W4_split]; exact (Tail.da_im (tails c)).symm
    · beta_reduce; rw [Tail.fin_split, Tail.W4_split]; exact (Tail.dlog_dt (tails c)).symm
    · beta_reduce; rw [Tail.fin_split, Tail.W4_split]; exact (Tail.db_re (tails c)).symm
    · beta_reduce; rw [Tail.fin_split, Tail.W4_split]; exact (Tail.db_im (tails c)).symm

/-- Every claim: all programs run and leave their arguments, nothing was rewritten on the way to the extended reals, and
    each kernel agrees with its reference there. -/
theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Mid.Gen.facts, Cert.MidIdeal.Gen.facts, Cert.MidReferenceIdeal.Gen.facts,
  Cert.Dwd.Gen.facts, Cert.DwdIdeal.Gen.facts, Cert.DwdReferenceIdeal.Gen.facts,
  Cert.Dwgu.Gen.facts, Cert.DwguIdeal.Gen.facts, Cert.DwguReferenceIdeal.Gen.facts,
  Cert.Dx.Gen.facts, Cert.DxIdeal.Gen.facts, Cert.DxReferenceIdeal.Gen.facts,
  Cert.Down.Gen.facts, Cert.DownIdeal.Gen.facts, Cert.DownReferenceIdeal.Gen.facts,
  Cert.InProj.Gen.facts, Cert.InProjIdeal.Gen.facts, Cert.InProjReferenceIdeal.Gen.facts,
  Cert.InDw.Gen.facts, Cert.InDwIdeal.Gen.facts, Cert.InDwReferenceIdeal.Gen.facts,
  Cert.InDx.Gen.facts, Cert.InDxIdeal.Gen.facts, Cert.InDxReferenceIdeal.Gen.facts,
  Cert.MixOut.Gen.facts, Cert.MixOutIdeal.Gen.facts, Cert.MixOutReferenceIdeal.Gen.facts,
  Cert.MixDm.Gen.facts, Cert.MixDmIdeal.Gen.facts, Cert.MixDmReferenceIdeal.Gen.facts,
  Cert.MixDw.Gen.facts, Cert.MixDwIdeal.Gen.facts, Cert.MixDwReferenceIdeal.Gen.facts,
  Cert.Br.Gen.facts, Cert.BrIdeal.Gen.facts, Cert.BrReferenceIdeal.Gen.facts,
  Cert.BrDw.Gen.facts, Cert.BrDwIdeal.Gen.facts, Cert.BrDwReferenceIdeal.Gen.facts,
  Cert.BrDx.Gen.facts, Cert.BrDxIdeal.Gen.facts, Cert.BrDxReferenceIdeal.Gen.facts,
  Pre_finite_and_no_zero_pole.facts, Pre_finite.facts,
  fun m ρ _ => Cert.Kernel.Gen.frame m ρ, fun m ρ _ => Cert.KernelIdeal.Gen.frame m ρ, fun m ρ _ => Cert.KernelIdeal.Gen.frame m ρ,
  fun m g _ => reference_frame m g, fun m g _ => reference_frame m g,
  fun m ρ _ => Cert.Up.Gen.frame m ρ, fun m ρ _ => Cert.UpIdeal.Gen.frame m ρ, FfnUp.reference_frame,
  fun m ρ _ => Cert.Mid.Gen.frame m ρ, fun m ρ _ => Cert.MidIdeal.Gen.frame m ρ, fun m ρ _ => Cert.MidIdeal.Gen.frame m ρ, FfnMid.reference_frame, fun m g _ => FfnMid.reference_frame m g trivial,
  fun m ρ _ => Cert.Dwd.Gen.frame m ρ, fun m ρ _ => Cert.DwdIdeal.Gen.frame m ρ, FfnDwd.reference_frame,
  fun m ρ _ => Cert.Dwgu.Gen.frame m ρ, fun m ρ _ => Cert.DwguIdeal.Gen.frame m ρ, FfnDwgu.reference_frame,
  fun m ρ _ => Cert.Dx.Gen.frame m ρ, fun m ρ _ => Cert.DxIdeal.Gen.frame m ρ, FfnDx.reference_frame,
  fun m ρ _ => Cert.Down.Gen.frame m ρ, fun m ρ _ => Cert.DownIdeal.Gen.frame m ρ, ValDown.reference_frame,
  fun m ρ _ => Cert.InProj.Gen.frame m ρ, fun m ρ _ => Cert.InProjIdeal.Gen.frame m ρ, ValInProj.reference_frame,
  fun m ρ _ => Cert.InDw.Gen.frame m ρ, fun m ρ _ => Cert.InDwIdeal.Gen.frame m ρ, ValInDw.reference_frame,
  fun m ρ _ => Cert.InDx.Gen.frame m ρ, fun m ρ _ => Cert.InDxIdeal.Gen.frame m ρ, ValInDx.reference_frame,
  fun m ρ _ => Cert.MixOut.Gen.frame m ρ, fun m ρ _ => Cert.MixOutIdeal.Gen.frame m ρ, ValMixOut.reference_frame,
  fun m ρ _ => Cert.MixDm.Gen.frame m ρ, fun m ρ _ => Cert.MixDmIdeal.Gen.frame m ρ, ValMixDm.reference_frame,
  fun m ρ _ => Cert.MixDw.Gen.frame m ρ, fun m ρ _ => Cert.MixDwIdeal.Gen.frame m ρ, ValMixDw.reference_frame,
  fun m ρ _ => Cert.Br.Gen.frame m ρ, fun m ρ _ => Cert.BrIdeal.Gen.frame m ρ, ValBr.reference_frame,
  fun m ρ _ => Cert.BrDw.Gen.frame m ρ, fun m ρ _ => Cert.BrDwIdeal.Gen.frame m ρ, ValBrDw.reference_frame,
  fun m ρ _ => Cert.BrDx.Gen.frame m ρ, fun m ρ _ => Cert.BrDxIdeal.Gen.frame m ρ, ValBrDx.reference_frame,
  trivial, value _, trivial, FfnUp.value, trivial, FfnMid.value, trivial, FfnDwd.value, trivial, FfnDwgu.value, trivial, FfnDx.value,
  trivial, ValDown.value, trivial, ValInProj.value, trivial, ValInDw.value, trivial, ValInDx.value, trivial, ValMixOut.value, trivial, ValMixDm.value, trivial, ValMixDw.value, trivial, ValBr.value, trivial, ValBrDw.value, trivial, ValBrDx.value⟩

end Cert.Proof

end
